-- ==== Defs.lean ====
def Pre_Kernel [hPre_rois_in_range : Cert.Pre_rois_in_range.Facts] (m : (ℓ : Loc Cert.Kernel.nD Cert.Kernel.τ Cert.Kernel.sig) → Buf (Elt Bits) ℓ) : Prop :=
  ∀ c : Dev Cert.Kernel.nD,
    (Cert.Pre_rois_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_rois_in_range : Cert.Pre_rois_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rois_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rois_in_range [hPre_rois_in_range : Cert.Pre_rois_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rois_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_rois_in_range : Cert.Pre_rois_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_rois_in_range : Cert.Pre_rois_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_rois_in_range [hReferenceIdeal : Cert.ReferenceIdeal.Facts] [hPre_rois_in_range : Cert.Pre_rois_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rois_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] [hPre_rois_in_range : Cert.Pre_rois_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_rois_in_range : Cert.Pre_rois_in_range.Facts),
    quiescent_Kernel (hKernel := hKernel) (hPre_rois_in_range := hPre_rois_in_range)
    ∧ quiescent_KernelIdeal (hKernelIdeal := hKernelIdeal) (hPre_rois_in_range := hPre_rois_in_range)
    ∧ quiescent_ReferenceIdeal (hReferenceIdeal := hReferenceIdeal)
    ∧ quiescent_ReferenceIdeal_pre_rois_in_range (hReferenceIdeal := hReferenceIdeal) (hPre_rois_in_range := hPre_rois_in_range)
    ∧ preserves_Kernel_KernelIdeal
    ∧ algebraic_KernelIdeal_ReferenceIdeal (hKernelIdeal := hKernelIdeal) (hReferenceIdeal := hReferenceIdeal) (hPre_rois_in_range := hPre_rois_in_range)
-- ==== Pre_rois_in_range.lean ====
abbrev S4x96x64x64 : Shape := ⟨4, ![4, 96, 64, 64]⟩
abbrev S1000x5 : Shape := ⟨2, ![1000, 5]⟩
abbrev S4x1x64x64 : Shape := ⟨4, ![4, 1, 64, 64]⟩
abbrev S1000x1 : Shape := ⟨2, ![1000, 1]⟩
abbrev S1000 : Shape := ⟨1, ![1000]⟩
abbrev S_ : Shape := ⟨0, ![]⟩

class Facts : Prop where
  slices_S1000x5_S1000x1_0_0 : S1000x5.Slices ![0, 0] S1000x1
  shapeCasts_S1000x1_S1000 : S1000x1.ShapeCasts S1000
  slices_S1000x5_S1000x1_0_1 : S1000x5.Slices ![0, 1] S1000x1
  slices_S1000x5_S1000x1_0_2 : S1000x5.Slices ![0, 2] S1000x1
  slices_S1000x5_S1000x1_0_3 : S1000x5.Slices ![0, 3] S1000x1
  slices_S1000x5_S1000x1_0_4 : S1000x5.Slices ![0, 4] S1000x1
  reducesTo_S1000_S_d0 : S1000.ReducesTo [0] S_
  h_S_ : 0 < S_.numel
  bcast_S_S1000 : S_.BroadcastsInDim S1000 (![] : Fin 0 → Fin S1000.rank)

variable [Facts]

def fn_round {F : FTy → Type} [FloatOps F] (arg0 : FVec F S1000x5 .f32) : FVec F S1000x5 .f32 :=
  let v0 : FVec F S1000x5 .f32 := Host.roundeven arg0
  v0

def fn_part3 {F : FTy → Type} [FloatOps F] (main_v5 : IVec S1000 32) (main_v7 : IVec S1000 32) (main_v9 : IVec S1000 32) (main_v11 : IVec S1000 32) (main_v52 : IVec S_ 1) : IVec S_ 1 :=
  let main_c_18 : IVec S_ 32 := constantI S_ 32 64#32
  let main_v53 : IVec S1000 32 := broadcastInDim S1000 ![] bcast_S_S1000 main_c_18
  let main_v54 : IVec S1000 1 := cmpi .sle main_v11 main_v53
  let main_c_19 : IVec S_ 1 := constantI S_ 1 1#1
  let main_v55 : IVec S_ 1 := (fun x v => Host.reduce IntOp.andi x v reducesTo_S1000_S_d0 h_S_) main_v54 main_c_19
  let main_v56 : IVec S_ 1 := andi main_v52 main_v55
  let main_v57 : IVec S1000 32 := subi main_v9 main_v5
  let main_c_20 : IVec S_ 32 := constantI S_ 32 16#32
  let main_v58 : IVec S1000 32 := broadcastInDim S1000 ![] bcast_S_S1000 main_c_20
  let main_v59 : IVec S1000 1 := cmpi .sle main_v57 main_v58
  let main_c_21 : IVec S_ 1 := constantI S_ 1 1#1
  let main_v60 : IVec S_ 1 := (fun x v => Host.reduce IntOp.andi x v reducesTo_S1000_S_d0 h_S_) main_v59 main_c_21
  let main_v61 : IVec S_ 1 := andi main_v56 main_v60
  let main_v62 : IVec S1000 32 := subi main_v11 main_v7
  let main_c_22 : IVec S_ 32 := constantI S_ 32 16#32
  let main_v63 : IVec S1000 32 := broadcastInDim S1000 ![] bcast_S_S1000 main_c_22
  let main_v64 : IVec S1000 1 := cmpi .sle main_v62 main_v63
  let main_c_23 : IVec S_ 1 := constantI S_ 1 1#1
  let main_v65 : IVec S_ 1 := (fun x v => Host.reduce IntOp.andi x v reducesTo_S1000_S_d0 h_S_) main_v64 main_c_23
  let main_v66 : IVec S_ 1 := andi main_v61 main_v65
  main_v66

def fn_part2 {F : FTy → Type} [FloatOps F] (main_v5 : IVec S1000 32) (main_v7 : IVec S1000 32) (main_v9 : IVec S1000 32) (main_v11 : IVec S1000 32) (main_v36 : IVec S_ 1) : IVec S_ 1 :=
  let main_c_10 : IVec S_ 32 := constantI S_ 32 64#32
  let main_v37 : IVec S1000 32 := broadcastInDim S1000 ![] bcast_S_S1000 main_c_10
  let main_v38 : IVec S1000 1 := cmpi .sle main_v9 main_v37
  let main_c_11 : IVec S_ 1 := constantI S_ 1 1#1
  let main_v39 : IVec S_ 1 := (fun x v => Host.reduce IntOp.andi x v reducesTo_S1000_S_d0 h_S_) main_v38 main_c_11
  let main_v40 : IVec S_ 1 := andi main_v36 main_v39
  let main_c_12 : IVec S_ 32 := constantI S_ 32 0#32
  let main_v41 : IVec S1000 32 := broadcastInDim S1000 ![] bcast_S_S1000 main_c_12
  let main_v42 : IVec S1000 1 := cmpi .sge main_v7 main_v41
  let main_c_13 : IVec S_ 1 := constantI S_ 1 1#1
  let main_v43 : IVec S_ 1 := (fun x v => Host.reduce IntOp.andi x v reducesTo_S1000_S_d0 h_S_) main_v42 main_c_13
  let main_v44 : IVec S_ 1 := andi main_v40 main_v43
  let main_c_14 : IVec S_ 32 := constantI S_ 32 64#32
  let main_v45 : IVec S1000 32 := broadcastInDim S1000 ![] bcast_S_S1000 main_c_14
  let main_v46 : IVec S1000 1 := cmpi .sle main_v7 main_v45
  let main_c_15 : IVec S_ 1 := constantI S_ 1 1#1
  let main_v47 : IVec S_ 1 := (fun x v => Host.reduce IntOp.andi x v reducesTo_S1000_S_d0 h_S_) main_v46 main_c_15
  let main_v48 : IVec S_ 1 := andi main_v44 main_v47
  let main_c_16 : IVec S_ 32 := constantI S_ 32 0#32
  let main_v49 : IVec S1000 32 := broadcastInDim S1000 ![] bcast_S_S1000 main_c_16
  let main_v50 : IVec S1000 1 := cmpi .sge main_v11 main_v49
  let main_c_17 : IVec S_ 1 := constantI S_ 1 1#1
  let main_v51 : IVec S_ 1 := (fun x v => Host.reduce IntOp.andi x v reducesTo_S1000_S_d0 h_S_) main_v50 main_c_17
  let main_v52 : IVec S_ 1 := andi main_v48 main_v51
  fn_part3 (F := F) main_v5 main_v7 main_v9 main_v11 main_v52

def fn_part1 {F : FTy → Type} [FloatOps F] (main_v3 : IVec S1000 32) (main_v5 : IVec S1000 32) (main_v7 : IVec S1000 32) (main_v9 : IVec S1000 32) (main_v11 : IVec S1000 32) (main_v20 : IVec S_ 1) : IVec S_ 1 :=
  let main_c_2 : IVec S_ 32 := constantI S_ 32 4#32
  let main_v21 : IVec S1000 32 := broadcastInDim S1000 ![] bcast_S_S1000 main_c_2
  let main_v22 : IVec S1000 1 := cmpi .slt main_v3 main_v21
  let main_c_3 : IVec S_ 1 := constantI S_ 1 1#1
  let main_v23 : IVec S_ 1 := (fun x v => Host.reduce IntOp.andi x v reducesTo_S1000_S_d0 h_S_) main_v22 main_c_3
  let main_v24 : IVec S_ 1 := andi main_v20 main_v23
  let main_c_4 : IVec S_ 32 := constantI S_ 32 0#32
  let main_v25 : IVec S1000 32 := broadcastInDim S1000 ![] bcast_S_S1000 main_c_4
  let main_v26 : IVec S1000 1 := cmpi .sge main_v5 main_v25
  let main_c_5 : IVec S_ 1 := constantI S_ 1 1#1
  let main_v27 : IVec S_ 1 := (fun x v => Host.reduce IntOp.andi x v reducesTo_S1000_S_d0 h_S_) main_v26 main_c_5
  let main_v28 : IVec S_ 1 := andi main_v24 main_v27
  let main_c_6 : IVec S_ 32 := constantI S_ 32 64#32
  let main_v29 : IVec S1000 32 := broadcastInDim S1000 ![] bcast_S_S1000 main_c_6
  let main_v30 : IVec S1000 1 := cmpi .sle main_v5 main_v29
  let main_c_7 : IVec S_ 1 := constantI S_ 1 1#1
  let main_v31 : IVec S_ 1 := (fun x v => Host.reduce IntOp.andi x v reducesTo_S1000_S_d0 h_S_) main_v30 main_c_7
  let main_v32 : IVec S_ 1 := andi main_v28 main_v31
  let main_c_8 : IVec S_ 32 := constantI S_ 32 0#32
  let main_v33 : IVec S1000 32 := broadcastInDim S1000 ![] bcast_S_S1000 main_c_8
  let main_v34 : IVec S1000 1 := cmpi .sge main_v9 main_v33
  let main_c_9 : IVec S_ 1 := constantI S_ 1 1#1
  let main_v35 : IVec S_ 1 := (fun x v => Host.reduce IntOp.andi x v reducesTo_S1000_S_d0 h_S_) main_v34 main_c_9
  let main_v36 : IVec S_ 1 := andi main_v32 main_v35
  fn_part2 (F := F) main_v5 main_v7 main_v9 main_v11 main_v36

def fn {F : FTy → Type} [FloatOps F] (main_arg0 : FVec F S4x96x64x64 .f32) (main_arg1 : FVec F S1000x5 .f32) (main_arg2 : FVec F S4x1x64x64 .f32) : IVec S_ 1 :=
  let main_v0 : FVec F S1000x5 .f32 := fn_round (F := F) main_arg1
  let main_v1 : IVec S1000x5 32 := fptosi 32 main_v0
  let main_v2 : IVec S1000x1 32 := (extractStridedSlice S1000x1 ![0, 0] · slices_S1000x5_S1000x1_0_0) main_v1
  let main_v3 : IVec S1000 32 := shapeCast S1000 main_v2 shapeCasts_S1000x1_S1000
  let main_v4 : IVec S1000x1 32 := (extractStridedSlice S1000x1 ![0, 1] · slices_S1000x5_S1000x1_0_1) main_v1
  let main_v5 : IVec S1000 32 := shapeCast S1000 main_v4 shapeCasts_S1000x1_S1000
  let main_v6 : IVec S1000x1 32 := (extractStridedSlice S1000x1 ![0, 2] · slices_S1000x5_S1000x1_0_2) main_v1
  let main_v7 : IVec S1000 32 := shapeCast S1000 main_v6 shapeCasts_S1000x1_S1000
  let main_v8 : IVec S1000x1 32 := (extractStridedSlice S1000x1 ![0, 3] · slices_S1000x5_S1000x1_0_3) main_v1
  let main_v9 : IVec S1000 32 := shapeCast S1000 main_v8 shapeCasts_S1000x1_S1000
  let main_v10 : IVec S1000x1 32 := (extractStridedSlice S1000x1 ![0, 4] · slices_S1000x5_S1000x1_0_4) main_v1
  let main_v11 : IVec S1000 32 := shapeCast S1000 main_v10 shapeCasts_S1000x1_S1000
  let main_v12 : FVec F S1000x1 .f32 := (extractStridedSlice S1000x1 ![0, 0] · slices_S1000x5_S1000x1_0_0) main_arg1
  let main_v13 : FVec F S1000 .f32 := shapeCast S1000 main_v12 shapeCasts_S1000x1_S1000
  let main_v14 : IVec S1000 32 := fptosi 32 main_v13
  let main_v15 : IVec S1000 1 := cmpi .eq main_v14 main_v3
  let main_c : IVec S_ 1 := constantI S_ 1 1#1
  let main_v16 : IVec S_ 1 := (fun x v => Host.reduce IntOp.andi x v reducesTo_S1000_S_d0 h_S_) main_v15 main_c
  let main_c_0 : IVec S_ 32 := constantI S_ 32 0#32
  let main_v17 : IVec S1000 32 := broadcastInDim S1000 ![] bcast_S_S1000 main_c_0
  let main_v18 : IVec S1000 1 := cmpi .sge main_v3 main_v17
  let main_c_1 : IVec S_ 1 := constantI S_ 1 1#1
  let main_v19 : IVec S_ 1 := (fun x v => Host.reduce IntOp.andi x v reducesTo_S1000_S_d0 h_S_) main_v18 main_c_1
  let main_v20 : IVec S_ 1 := andi main_v16 main_v19
  fn_part1 (F := F) main_v3 main_v5 main_v7 main_v9 main_v11 main_v20
-- ==== Kernel.lean ====
abbrev S4x96x64x64 : Shape := ⟨4, ![4, 96, 64, 64]⟩
abbrev S1000x5 : Shape := ⟨2, ![1000, 5]⟩
abbrev S4x1x64x64 : Shape := ⟨4, ![4, 1, 64, 64]⟩
abbrev S4x64x64x96 : Shape := ⟨4, ![4, 64, 64, 96]⟩
abbrev S16384x96 : Shape := ⟨2, ![16384, 96]⟩
abbrev S16384x1 : Shape := ⟨2, ![16384, 1]⟩
abbrev S_ : Shape := ⟨0, ![]⟩
abbrev S16384x31 : Shape := ⟨2, ![16384, 31]⟩
abbrev S16384x128 : Shape := ⟨2, ![16384, 128]⟩
abbrev S1024x5 : Shape := ⟨2, ![1024, 5]⟩
abbrev S1 : Shape := ⟨1, ![1]⟩
abbrev S1024x1 : Shape := ⟨2, ![1024, 1]⟩
abbrev S1024 : Shape := ⟨1, ![1024]⟩
abbrev S1024x96 : Shape := ⟨2, ![1024, 96]⟩
abbrev S32 : Shape := ⟨1, ![32]⟩
abbrev S128 : Shape := ⟨1, ![128]⟩
abbrev S256x128 : Shape := ⟨2, ![256, 128]⟩
abbrev S256 : Shape := ⟨1, ![256]⟩
abbrev S32x96 : Shape := ⟨2, ![32, 96]⟩
abbrev S16 : Shape := ⟨1, ![16]⟩
abbrev S128x128 : Shape := ⟨2, ![128, 128]⟩
abbrev S1x16 : Shape := ⟨2, ![1, 16]⟩
abbrev S1000x96 : Shape := ⟨2, ![1000, 96]⟩
abbrev S1000x96x1x1 : Shape := ⟨4, ![1000, 96, 1, 1]⟩

abbrev nBuf : Table → Nat
  | .hbm => 29
  | .local .scVector .vmem => 14
  | _ => 0

abbrev bufTy : (tb : Table) → Fin (nBuf tb) → BufTy
  | .hbm, ⟨0, _⟩ => ⟨S4x96x64x64, .f32⟩
  | .hbm, ⟨1, _⟩ => ⟨S1000x5, .f32⟩
  | .hbm, ⟨2, _⟩ => ⟨S4x1x64x64, .f32⟩
  | .hbm, ⟨3, _⟩ => ⟨S4x64x64x96, .f32⟩
  | .hbm, ⟨4, _⟩ => ⟨S16384x96, .f32⟩
  | .hbm, ⟨5, _⟩ => ⟨S16384x1, .f32⟩
  | .hbm, ⟨6, _⟩ => ⟨S_, .f32⟩
  | .hbm, ⟨7, _⟩ => ⟨S16384x31, .f32⟩
  | .hbm, ⟨8, _⟩ => ⟨S16384x128, .f32⟩
  | .hbm, ⟨9, _⟩ => ⟨S1000x5, .f32⟩
  | .hbm, ⟨10, _⟩ => ⟨S1000x5, .i32⟩
  | .hbm, ⟨11, _⟩ => ⟨S_, .i32⟩
  | .hbm, ⟨12, _⟩ => ⟨S1024x5, .i32⟩
  | .hbm, ⟨13, _⟩ => ⟨S_, .i32⟩
  | .hbm, ⟨14, _⟩ => ⟨S1, .i32⟩
  | .hbm, ⟨15, _⟩ => ⟨S1024x5, .i32⟩
  | .hbm, ⟨16, _⟩ => ⟨S1024x1, .i32⟩
  | .hbm, ⟨17, _⟩ => ⟨S1024, .i32⟩
  | .hbm, ⟨18, _⟩ => ⟨S1024x1, .i32⟩
  | .hbm, ⟨19, _⟩ => ⟨S1024, .i32⟩
  | .hbm, ⟨20, _⟩ => ⟨S1024x1, .i32⟩
  | .hbm, ⟨21, _⟩ => ⟨S1024, .i32⟩
  | .hbm, ⟨22, _⟩ => ⟨S1024x1, .i32⟩
  | .hbm, ⟨23, _⟩ => ⟨S1024, .i32⟩
  | .hbm, ⟨24, _⟩ => ⟨S1024x1, .i32⟩
  | .hbm, ⟨25, _⟩ => ⟨S1024, .i32⟩
  | .hbm, ⟨26, _⟩ => ⟨S1024x96, .f32⟩
  | .hbm, ⟨27, _⟩ => ⟨S1000x96, .f32⟩
  | .hbm, ⟨28, _⟩ => ⟨S1000x96x1x1, .f32⟩
  | .local .scVector .vmem, ⟨0, _⟩ => ⟨S32, .i32⟩
  | .local .scVector .vmem, ⟨1, _⟩ => ⟨S32, .i32⟩
  | .local .scVector .vmem, ⟨2, _⟩ => ⟨S32, .i32⟩
  | .local .scVector .vmem, ⟨3, _⟩ => ⟨S32, .i32⟩
  | .local .scVector .vmem, ⟨4, _⟩ => ⟨S32, .i32⟩
  | .local .scVector .vmem, ⟨5, _⟩ => ⟨S128, .i32⟩
  | .local .scVector .vmem, ⟨6, _⟩ => ⟨S128, .i32⟩
  | .local .scVector .vmem, ⟨7, _⟩ => ⟨S128, .i32⟩
  | .local .scVector .vmem, ⟨8, _⟩ => ⟨S128, .i32⟩
  | .local .scVector .vmem, ⟨9, _⟩ => ⟨S256x128, .f32⟩
  | .local .scVector .vmem, ⟨10, _⟩ => ⟨S256x128, .f32⟩
  | .local .scVector .vmem, ⟨11, _⟩ => ⟨S256, .f32⟩
  | .local .scVector .vmem, ⟨12, _⟩ => ⟨S256, .f32⟩
  | .local .scVector .vmem, ⟨13, _⟩ => ⟨S32x96, .f32⟩
  | _, _ => ⟨S4x96x64x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v4_scv : Ref sig .scVector := ⟨.hbm, 8, rfl⟩
abbrev main_v11_scv : Ref sig .scVector := ⟨.hbm, 17, rfl⟩
abbrev main_v13_scv : Ref sig .scVector := ⟨.hbm, 19, rfl⟩
abbrev main_v15_scv : Ref sig .scVector := ⟨.hbm, 21, rfl⟩
abbrev main_v17_scv : Ref sig .scVector := ⟨.hbm, 23, rfl⟩
abbrev main_v19_scv : Ref sig .scVector := ⟨.hbm, 25, rfl⟩
abbrev main_v20_scv : Ref sig .scVector := ⟨.hbm, 26, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
@[reducible] def k0_t1_loop : Scf.Loop 32 :=
  let c0_i32 : BitVec 32 := 0#32
  let c16_i32 : BitVec 32 := 16#32
  let v5 : BitVec 32 := Scalar.addi c0_i32 c16_i32
  let c1_i32 : BitVec 32 := 1#32
  ⟨c0_i32, v5, c1_i32⟩

def k0_chk1 (v7 : IVec S16 32) : Prop :=
  (∀ a x, ((![v7] : Fin 1 → IVec S16 32) a x).toNat < S32.size a) ∧
  (∀ a x, ((![v7] : Fin 1 → IVec S16 32) a x).toNat < S32.size a) ∧
  (∀ a x, ((![v7] : Fin 1 → IVec S16 32) a x).toNat < S32.size a) ∧
  (∀ a x, ((![v7] : Fin 1 → IVec S16 32) a x).toNat < S32.size a)
theorem k0_idx1_inb : ∀ (v7 : IVec S16 32) (k0_hw1 : k0_chk1 v7), ∀ a x, ((![v7] : Fin 1 → IVec S16 32) a x).toNat < S32.size a := fun v7 k0_hw1 => k0_hw1.1
theorem k0_idx2_inb : ∀ (v7 : IVec S16 32) (k0_hw1 : k0_chk1 v7), ∀ a x, ((![v7] : Fin 1 → IVec S16 32) a x).toNat < S32.size a := fun v7 k0_hw1 => k0_hw1.2.1
theorem k0_idx3_inb : ∀ (v7 : IVec S16 32) (k0_hw1 : k0_chk1 v7), ∀ a x, ((![v7] : Fin 1 → IVec S16 32) a x).toNat < S32.size a := fun v7 k0_hw1 => k0_hw1.2.2.1
theorem k0_idx4_inb : ∀ (v7 : IVec S16 32) (k0_hw1 : k0_chk1 v7), ∀ a x, ((![v7] : Fin 1 → IVec S16 32) a x).toNat < S32.size a := fun v7 k0_hw1 => k0_hw1.2.2.2

def k0_chk2 (v159 : IVec S16 32) : Prop :=
  (∀ a x, ((![v159] : Fin 1 → IVec S16 32) a x).toNat < S32.size a) ∧
  (∀ a x, ((![v159] : Fin 1 → IVec S16 32) a x).toNat < S32.size a) ∧
  (∀ a x, ((![v159] : Fin 1 → IVec S16 32) a x).toNat < S32.size a) ∧
  (∀ a x, ((![v159] : Fin 1 → IVec S16 32) a x).toNat < S32.size a)
theorem k0_idx5_inb : ∀ (v159 : IVec S16 32) (k0_hw2 : k0_chk2 v159), ∀ a x, ((![v159] : Fin 1 → IVec S16 32) a x).toNat < S32.size a := fun v159 k0_hw2 => k0_hw2.1
theorem k0_idx6_inb : ∀ (v159 : IVec S16 32) (k0_hw2 : k0_chk2 v159), ∀ a x, ((![v159] : Fin 1 → IVec S16 32) a x).toNat < S32.size a := fun v159 k0_hw2 => k0_hw2.2.1
theorem k0_idx7_inb : ∀ (v159 : IVec S16 32) (k0_hw2 : k0_chk2 v159), ∀ a x, ((![v159] : Fin 1 → IVec S16 32) a x).toNat < S32.size a := fun v159 k0_hw2 => k0_hw2.2.2.1
theorem k0_idx8_inb : ∀ (v159 : IVec S16 32) (k0_hw2 : k0_chk2 v159), ∀ a x, ((![v159] : Fin 1 → IVec S16 32) a x).toNat < S32.size a := fun v159 k0_hw2 => k0_hw2.2.2.2

def k0_chk3 (v315 : IVec S16 32) : Prop :=
  (∀ a x, ((![v315] : Fin 1 → IVec S16 32) a x).toNat < S32.size a) ∧
  (∀ a x, ((![v315] : Fin 1 → IVec S16 32) a x).toNat < S32.size a) ∧
  (∀ a x, ((![v315] : Fin 1 → IVec S16 32) a x).toNat < S32.size a) ∧
  (∀ a x, ((![v315] : Fin 1 → IVec S16 32) a x).toNat < S32.size a)
theorem k0_idx9_inb : ∀ (v315 : IVec S16 32) (k0_hw3 : k0_chk3 v315), ∀ a x, ((![v315] : Fin 1 → IVec S16 32) a x).toNat < S32.size a := fun v315 k0_hw3 => k0_hw3.1
theorem k0_idx10_inb : ∀ (v315 : IVec S16 32) (k0_hw3 : k0_chk3 v315), ∀ a x, ((![v315] : Fin 1 → IVec S16 32) a x).toNat < S32.size a := fun v315 k0_hw3 => k0_hw3.2.1
theorem k0_idx11_inb : ∀ (v315 : IVec S16 32) (k0_hw3 : k0_chk3 v315), ∀ a x, ((![v315] : Fin 1 → IVec S16 32) a x).toNat < S32.size a := fun v315 k0_hw3 => k0_hw3.2.2.1
theorem k0_idx12_inb : ∀ (v315 : IVec S16 32) (k0_hw3 : k0_chk3 v315), ∀ a x, ((![v315] : Fin 1 → IVec S16 32) a x).toNat < S32.size a := fun v315 k0_hw3 => k0_hw3.2.2.2
@[reducible] def k0_t2_loop (v18 : BitVec 32) : Scf.Loop 32 :=
  let c0_i32_130 : BitVec 32 := 0#32
  let v324 : BitVec 32 := Scalar.subi v18 c0_i32_130
  let c1_i32_131 : BitVec 32 := 1#32
  let v326 : BitVec 32 := Scalar.divsi v324 c1_i32_131
  let v327 : BitVec 32 := Scalar.muli v326 c1_i32_131
  let v328 : BitVec 32 := Scalar.addi c0_i32_130 v327
  let c1_i32_132 : BitVec 32 := 1#32
  ⟨c0_i32_130, v328, c1_i32_132⟩

def k0_chk5 (v4 : IVec S16 32) (v653 : IVec S16 32) : Prop :=
  (∀ a x, ((![v653, v4] : Fin 2 → IVec S16 32) a x).toNat < S256x128.size a)
theorem k0_idx13_inb : ∀ (v4 : IVec S16 32) (v653 : IVec S16 32) (k0_hw5 : k0_chk5 v4 v653), ∀ a x, ((![v653, v4] : Fin 2 → IVec S16 32) a x).toNat < S256x128.size a := fun v4 v653 k0_hw5 => k0_hw5
def k0_mult1 (v18 : BitVec 32) (k0_t2 : Fin (k0_t2_loop v18).trips) : BitVec 32 :=
  let c0_i32_130 : BitVec 32 := 0#32
  let c1_i32_132 : BitVec 32 := 1#32
  let arg26 : BitVec 32 := Scf.iv c0_i32_130 c1_i32_132 k0_t2
  let c16_i32_202 : BitVec 32 := 16#32
  let v657 : BitVec 32 := Scalar.muli arg26 c16_i32_202
  v657
def k0_off2 (v18 : BitVec 32) (k0_t2 : Fin (k0_t2_loop v18).trips) : Fin 1 → Nat :=
  let c0_i32_130 : BitVec 32 := 0#32
  let c1_i32_132 : BitVec 32 := 1#32
  let arg26 : BitVec 32 := Scf.iv c0_i32_130 c1_i32_132 k0_t2
  let c16_i32_202 : BitVec 32 := 16#32
  let v657 : BitVec 32 := Scalar.muli arg26 c16_i32_202
  let v658 : BitVec 32 := v657
  let v659 : Index := Scalar.indexCast v658
  ![v659.toNat]
@[reducible] def k0_t3_loop (v18 : BitVec 32) : Scf.Loop 32 :=
  let c0_i32_130 : BitVec 32 := 0#32
  let v324 : BitVec 32 := Scalar.subi v18 c0_i32_130
  let c1_i32_131 : BitVec 32 := 1#32
  let v326 : BitVec 32 := Scalar.divsi v324 c1_i32_131
  let v327 : BitVec 32 := Scalar.muli v326 c1_i32_131
  let v328 : BitVec 32 := Scalar.addi c0_i32_130 v327
  let v325 : BitVec 32 := Scalar.addi c0_i32_130 v324
  let c1_i32_133 : BitVec 32 := 1#32
  ⟨v328, v325, c1_i32_133⟩

def k0_chk6 (v4 : IVec S16 32) (v653 : IVec S16 32) : Prop :=
  (∀ a x, ((![v653, v4] : Fin 2 → IVec S16 32) a x).toNat < S256x128.size a)
theorem k0_idx14_inb : ∀ (v4 : IVec S16 32) (v653 : IVec S16 32) (k0_hw6 : k0_chk6 v4 v653), ∀ a x, ((![v653, v4] : Fin 2 → IVec S16 32) a x).toNat < S256x128.size a := fun v4 v653 k0_hw6 => k0_hw6
def k0_mult2 (v18 : BitVec 32) (k0_t3 : Fin (k0_t3_loop v18).trips) : BitVec 32 :=
  let c0_i32_130 : BitVec 32 := 0#32
  let v324 : BitVec 32 := Scalar.subi v18 c0_i32_130
  let c1_i32_131 : BitVec 32 := 1#32
  let v326 : BitVec 32 := Scalar.divsi v324 c1_i32_131
  let v327 : BitVec 32 := Scalar.muli v326 c1_i32_131
  let v328 : BitVec 32 := Scalar.addi c0_i32_130 v327
  let c1_i32_133 : BitVec 32 := 1#32
  let arg26 : BitVec 32 := Scf.iv v328 c1_i32_133 k0_t3
  let c16_i32_202 : BitVec 32 := 16#32
  let v657 : BitVec 32 := Scalar.muli arg26 c16_i32_202
  v657
def k0_off3 (v18 : BitVec 32) (k0_t3 : Fin (k0_t3_loop v18).trips) : Fin 1 → Nat :=
  let c0_i32_130 : BitVec 32 := 0#32
  let v324 : BitVec 32 := Scalar.subi v18 c0_i32_130
  let c1_i32_131 : BitVec 32 := 1#32
  let v326 : BitVec 32 := Scalar.divsi v324 c1_i32_131
  let v327 : BitVec 32 := Scalar.muli v326 c1_i32_131
  let v328 : BitVec 32 := Scalar.addi c0_i32_130 v327
  let c1_i32_133 : BitVec 32 := 1#32
  let arg26 : BitVec 32 := Scf.iv v328 c1_i32_133 k0_t3
  let c16_i32_202 : BitVec 32 := 16#32
  let v657 : BitVec 32 := Scalar.muli arg26 c16_i32_202
  let v658 : BitVec 32 := v657
  let v659 : Index := Scalar.indexCast v658
  ![v659.toNat]
@[reducible] def k0_t4_loop (v18 : BitVec 32) : Scf.Loop 32 :=
  let c0_i32_135 : BitVec 32 := 0#32
  let v380 : BitVec 32 := Scalar.subi v18 c0_i32_135
  let c1_i32_136 : BitVec 32 := 1#32
  let v382 : BitVec 32 := Scalar.divsi v380 c1_i32_136
  let v383 : BitVec 32 := Scalar.muli v382 c1_i32_136
  let v384 : BitVec 32 := Scalar.addi c0_i32_135 v383
  let c1_i32_137 : BitVec 32 := 1#32
  ⟨c0_i32_135, v384, c1_i32_137⟩
def k0_mult3 (v18 : BitVec 32) (k0_t4 : Fin (k0_t4_loop v18).trips) : BitVec 32 :=
  let c0_i32_135 : BitVec 32 := 0#32
  let c1_i32_137 : BitVec 32 := 1#32
  let arg26 : BitVec 32 := Scf.iv c0_i32_135 c1_i32_137 k0_t4
  let c16_i32_200 : BitVec 32 := 16#32
  let v651 : BitVec 32 := Scalar.muli arg26 c16_i32_200
  v651
def k0_off4 (v18 : BitVec 32) (k0_t4 : Fin (k0_t4_loop v18).trips) : Fin 1 → Nat :=
  let c0_i32_135 : BitVec 32 := 0#32
  let c1_i32_137 : BitVec 32 := 1#32
  let arg26 : BitVec 32 := Scf.iv c0_i32_135 c1_i32_137 k0_t4
  let c16_i32_200 : BitVec 32 := 16#32
  let v651 : BitVec 32 := Scalar.muli arg26 c16_i32_200
  let v652 : BitVec 32 := v651
  let v653 : Index := Scalar.indexCast v652
  ![v653.toNat]
@[reducible] def k0_t5_loop (v18 : BitVec 32) : Scf.Loop 32 :=
  let c0_i32_135 : BitVec 32 := 0#32
  let v380 : BitVec 32 := Scalar.subi v18 c0_i32_135
  let c1_i32_136 : BitVec 32 := 1#32
  let v382 : BitVec 32 := Scalar.divsi v380 c1_i32_136
  let v383 : BitVec 32 := Scalar.muli v382 c1_i32_136
  let v384 : BitVec 32 := Scalar.addi c0_i32_135 v383
  let v381 : BitVec 32 := Scalar.addi c0_i32_135 v380
  let c1_i32_138 : BitVec 32 := 1#32
  ⟨v384, v381, c1_i32_138⟩
def k0_mult4 (v18 : BitVec 32) (k0_t5 : Fin (k0_t5_loop v18).trips) : BitVec 32 :=
  let c0_i32_135 : BitVec 32 := 0#32
  let v380 : BitVec 32 := Scalar.subi v18 c0_i32_135
  let c1_i32_136 : BitVec 32 := 1#32
  let v382 : BitVec 32 := Scalar.divsi v380 c1_i32_136
  let v383 : BitVec 32 := Scalar.muli v382 c1_i32_136
  let v384 : BitVec 32 := Scalar.addi c0_i32_135 v383
  let c1_i32_138 : BitVec 32 := 1#32
  let arg26 : BitVec 32 := Scf.iv v384 c1_i32_138 k0_t5
  let c16_i32_200 : BitVec 32 := 16#32
  let v651 : BitVec 32 := Scalar.muli arg26 c16_i32_200
  v651
def k0_off5 (v18 : BitVec 32) (k0_t5 : Fin (k0_t5_loop v18).trips) : Fin 1 → Nat :=
  let c0_i32_135 : BitVec 32 := 0#32
  let v380 : BitVec 32 := Scalar.subi v18 c0_i32_135
  let c1_i32_136 : BitVec 32 := 1#32
  let v382 : BitVec 32 := Scalar.divsi v380 c1_i32_136
  let v383 : BitVec 32 := Scalar.muli v382 c1_i32_136
  let v384 : BitVec 32 := Scalar.addi c0_i32_135 v383
  let c1_i32_138 : BitVec 32 := 1#32
  let arg26 : BitVec 32 := Scf.iv v384 c1_i32_138 k0_t5
  let c16_i32_200 : BitVec 32 := 16#32
  let v651 : BitVec 32 := Scalar.muli arg26 c16_i32_200
  let v652 : BitVec 32 := v651
  let v653 : Index := Scalar.indexCast v652
  ![v653.toNat]
@[reducible] def k0_t6_loop (v18 : BitVec 32) : Scf.Loop 32 :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_147 : BitVec 32 := 1#32
  ⟨c0_i32_145, v397, c1_i32_147⟩

def k0_chk7 (v653 : IVec S16 32) : Prop :=
  (∀ a x, ((![v653] : Fin 1 → IVec S16 32) a x).toNat < S256.size a)
theorem k0_idx15_inb : ∀ (v653 : IVec S16 32) (k0_hw7 : k0_chk7 v653), ∀ a x, ((![v653] : Fin 1 → IVec S16 32) a x).toNat < S256.size a := fun v653 k0_hw7 => k0_hw7
def k0_off6 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_200 : BitVec 32 := 16#32
  let v651 : BitVec 32 := Scalar.muli arg26 c16_i32_200
  let c0_i32_201 : BitVec 32 := 0#32
  let v652 : BitVec 32 := Scalar.addi v651 c0_i32_201
  let v655 : Index := Scalar.indexCast v652
  let c0_202 : Index := 0#32
  ![v655.toNat, 0]
def k0_off7 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_200 : BitVec 32 := 16#32
  let v651 : BitVec 32 := Scalar.muli arg26 c16_i32_200
  let c0_i32_201 : BitVec 32 := 0#32
  let v652 : BitVec 32 := Scalar.addi v651 c0_i32_201
  let v659 : Index := Scalar.indexCast v652
  let c16_203 : Index := 16#32
  ![v659.toNat, 16]
def k0_off8 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_200 : BitVec 32 := 16#32
  let v651 : BitVec 32 := Scalar.muli arg26 c16_i32_200
  let c0_i32_201 : BitVec 32 := 0#32
  let v652 : BitVec 32 := Scalar.addi v651 c0_i32_201
  let v663 : Index := Scalar.indexCast v652
  let c32_204 : Index := 32#32
  ![v663.toNat, 32]
def k0_off9 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_200 : BitVec 32 := 16#32
  let v651 : BitVec 32 := Scalar.muli arg26 c16_i32_200
  let c0_i32_201 : BitVec 32 := 0#32
  let v652 : BitVec 32 := Scalar.addi v651 c0_i32_201
  let v667 : Index := Scalar.indexCast v652
  let c48_205 : Index := 48#32
  ![v667.toNat, 48]
def k0_off10 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_200 : BitVec 32 := 16#32
  let v651 : BitVec 32 := Scalar.muli arg26 c16_i32_200
  let c0_i32_201 : BitVec 32 := 0#32
  let v652 : BitVec 32 := Scalar.addi v651 c0_i32_201
  let v671 : Index := Scalar.indexCast v652
  let c64_206 : Index := 64#32
  ![v671.toNat, 64]
def k0_off11 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_200 : BitVec 32 := 16#32
  let v651 : BitVec 32 := Scalar.muli arg26 c16_i32_200
  let c0_i32_201 : BitVec 32 := 0#32
  let v652 : BitVec 32 := Scalar.addi v651 c0_i32_201
  let v675 : Index := Scalar.indexCast v652
  let c80_207 : Index := 80#32
  ![v675.toNat, 80]

def k0_chk8 (v681 : IVec S16 32) : Prop :=
  (∀ a x, ((![v681] : Fin 1 → IVec S16 32) a x).toNat < S256.size a)
theorem k0_idx16_inb : ∀ (v681 : IVec S16 32) (k0_hw8 : k0_chk8 v681), ∀ a x, ((![v681] : Fin 1 → IVec S16 32) a x).toNat < S256.size a := fun v681 k0_hw8 => k0_hw8
def k0_off12 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_208 : BitVec 32 := 16#32
  let v679 : BitVec 32 := Scalar.muli arg26 c16_i32_208
  let c1_i32_209 : BitVec 32 := 1#32
  let v680 : BitVec 32 := Scalar.addi v679 c1_i32_209
  let v683 : Index := Scalar.indexCast v680
  let c0_210 : Index := 0#32
  ![v683.toNat, 0]
def k0_off13 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_208 : BitVec 32 := 16#32
  let v679 : BitVec 32 := Scalar.muli arg26 c16_i32_208
  let c1_i32_209 : BitVec 32 := 1#32
  let v680 : BitVec 32 := Scalar.addi v679 c1_i32_209
  let v687 : Index := Scalar.indexCast v680
  let c16_211 : Index := 16#32
  ![v687.toNat, 16]
def k0_off14 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_208 : BitVec 32 := 16#32
  let v679 : BitVec 32 := Scalar.muli arg26 c16_i32_208
  let c1_i32_209 : BitVec 32 := 1#32
  let v680 : BitVec 32 := Scalar.addi v679 c1_i32_209
  let v691 : Index := Scalar.indexCast v680
  let c32_212 : Index := 32#32
  ![v691.toNat, 32]
def k0_off15 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_208 : BitVec 32 := 16#32
  let v679 : BitVec 32 := Scalar.muli arg26 c16_i32_208
  let c1_i32_209 : BitVec 32 := 1#32
  let v680 : BitVec 32 := Scalar.addi v679 c1_i32_209
  let v695 : Index := Scalar.indexCast v680
  let c48_213 : Index := 48#32
  ![v695.toNat, 48]
def k0_off16 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_208 : BitVec 32 := 16#32
  let v679 : BitVec 32 := Scalar.muli arg26 c16_i32_208
  let c1_i32_209 : BitVec 32 := 1#32
  let v680 : BitVec 32 := Scalar.addi v679 c1_i32_209
  let v699 : Index := Scalar.indexCast v680
  let c64_214 : Index := 64#32
  ![v699.toNat, 64]
def k0_off17 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_208 : BitVec 32 := 16#32
  let v679 : BitVec 32 := Scalar.muli arg26 c16_i32_208
  let c1_i32_209 : BitVec 32 := 1#32
  let v680 : BitVec 32 := Scalar.addi v679 c1_i32_209
  let v703 : Index := Scalar.indexCast v680
  let c80_215 : Index := 80#32
  ![v703.toNat, 80]

def k0_chk9 (v709 : IVec S16 32) : Prop :=
  (∀ a x, ((![v709] : Fin 1 → IVec S16 32) a x).toNat < S256.size a)
theorem k0_idx17_inb : ∀ (v709 : IVec S16 32) (k0_hw9 : k0_chk9 v709), ∀ a x, ((![v709] : Fin 1 → IVec S16 32) a x).toNat < S256.size a := fun v709 k0_hw9 => k0_hw9
def k0_off18 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_216 : BitVec 32 := 16#32
  let v707 : BitVec 32 := Scalar.muli arg26 c16_i32_216
  let c2_i32_217 : BitVec 32 := 2#32
  let v708 : BitVec 32 := Scalar.addi v707 c2_i32_217
  let v711 : Index := Scalar.indexCast v708
  let c0_218 : Index := 0#32
  ![v711.toNat, 0]
def k0_off19 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_216 : BitVec 32 := 16#32
  let v707 : BitVec 32 := Scalar.muli arg26 c16_i32_216
  let c2_i32_217 : BitVec 32 := 2#32
  let v708 : BitVec 32 := Scalar.addi v707 c2_i32_217
  let v715 : Index := Scalar.indexCast v708
  let c16_219 : Index := 16#32
  ![v715.toNat, 16]
def k0_off20 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_216 : BitVec 32 := 16#32
  let v707 : BitVec 32 := Scalar.muli arg26 c16_i32_216
  let c2_i32_217 : BitVec 32 := 2#32
  let v708 : BitVec 32 := Scalar.addi v707 c2_i32_217
  let v719 : Index := Scalar.indexCast v708
  let c32_220 : Index := 32#32
  ![v719.toNat, 32]
def k0_off21 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_216 : BitVec 32 := 16#32
  let v707 : BitVec 32 := Scalar.muli arg26 c16_i32_216
  let c2_i32_217 : BitVec 32 := 2#32
  let v708 : BitVec 32 := Scalar.addi v707 c2_i32_217
  let v723 : Index := Scalar.indexCast v708
  let c48_221 : Index := 48#32
  ![v723.toNat, 48]
def k0_off22 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_216 : BitVec 32 := 16#32
  let v707 : BitVec 32 := Scalar.muli arg26 c16_i32_216
  let c2_i32_217 : BitVec 32 := 2#32
  let v708 : BitVec 32 := Scalar.addi v707 c2_i32_217
  let v727 : Index := Scalar.indexCast v708
  let c64_222 : Index := 64#32
  ![v727.toNat, 64]
def k0_off23 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_216 : BitVec 32 := 16#32
  let v707 : BitVec 32 := Scalar.muli arg26 c16_i32_216
  let c2_i32_217 : BitVec 32 := 2#32
  let v708 : BitVec 32 := Scalar.addi v707 c2_i32_217
  let v731 : Index := Scalar.indexCast v708
  let c80_223 : Index := 80#32
  ![v731.toNat, 80]

def k0_chk10 (v737 : IVec S16 32) : Prop :=
  (∀ a x, ((![v737] : Fin 1 → IVec S16 32) a x).toNat < S256.size a)
theorem k0_idx18_inb : ∀ (v737 : IVec S16 32) (k0_hw10 : k0_chk10 v737), ∀ a x, ((![v737] : Fin 1 → IVec S16 32) a x).toNat < S256.size a := fun v737 k0_hw10 => k0_hw10
def k0_off24 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_224 : BitVec 32 := 16#32
  let v735 : BitVec 32 := Scalar.muli arg26 c16_i32_224
  let c3_i32 : BitVec 32 := 3#32
  let v736 : BitVec 32 := Scalar.addi v735 c3_i32
  let v739 : Index := Scalar.indexCast v736
  let c0_225 : Index := 0#32
  ![v739.toNat, 0]
def k0_off25 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_224 : BitVec 32 := 16#32
  let v735 : BitVec 32 := Scalar.muli arg26 c16_i32_224
  let c3_i32 : BitVec 32 := 3#32
  let v736 : BitVec 32 := Scalar.addi v735 c3_i32
  let v743 : Index := Scalar.indexCast v736
  let c16_226 : Index := 16#32
  ![v743.toNat, 16]
def k0_off26 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_224 : BitVec 32 := 16#32
  let v735 : BitVec 32 := Scalar.muli arg26 c16_i32_224
  let c3_i32 : BitVec 32 := 3#32
  let v736 : BitVec 32 := Scalar.addi v735 c3_i32
  let v747 : Index := Scalar.indexCast v736
  let c32_227 : Index := 32#32
  ![v747.toNat, 32]
def k0_off27 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_224 : BitVec 32 := 16#32
  let v735 : BitVec 32 := Scalar.muli arg26 c16_i32_224
  let c3_i32 : BitVec 32 := 3#32
  let v736 : BitVec 32 := Scalar.addi v735 c3_i32
  let v751 : Index := Scalar.indexCast v736
  let c48_228 : Index := 48#32
  ![v751.toNat, 48]
def k0_off28 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_224 : BitVec 32 := 16#32
  let v735 : BitVec 32 := Scalar.muli arg26 c16_i32_224
  let c3_i32 : BitVec 32 := 3#32
  let v736 : BitVec 32 := Scalar.addi v735 c3_i32
  let v755 : Index := Scalar.indexCast v736
  let c64_229 : Index := 64#32
  ![v755.toNat, 64]
def k0_off29 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_224 : BitVec 32 := 16#32
  let v735 : BitVec 32 := Scalar.muli arg26 c16_i32_224
  let c3_i32 : BitVec 32 := 3#32
  let v736 : BitVec 32 := Scalar.addi v735 c3_i32
  let v759 : Index := Scalar.indexCast v736
  let c80_230 : Index := 80#32
  ![v759.toNat, 80]

def k0_chk11 (v765 : IVec S16 32) : Prop :=
  (∀ a x, ((![v765] : Fin 1 → IVec S16 32) a x).toNat < S256.size a)
theorem k0_idx19_inb : ∀ (v765 : IVec S16 32) (k0_hw11 : k0_chk11 v765), ∀ a x, ((![v765] : Fin 1 → IVec S16 32) a x).toNat < S256.size a := fun v765 k0_hw11 => k0_hw11
def k0_off30 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_231 : BitVec 32 := 16#32
  let v763 : BitVec 32 := Scalar.muli arg26 c16_i32_231
  let c4_i32 : BitVec 32 := 4#32
  let v764 : BitVec 32 := Scalar.addi v763 c4_i32
  let v767 : Index := Scalar.indexCast v764
  let c0_232 : Index := 0#32
  ![v767.toNat, 0]
def k0_off31 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_231 : BitVec 32 := 16#32
  let v763 : BitVec 32 := Scalar.muli arg26 c16_i32_231
  let c4_i32 : BitVec 32 := 4#32
  let v764 : BitVec 32 := Scalar.addi v763 c4_i32
  let v771 : Index := Scalar.indexCast v764
  let c16_233 : Index := 16#32
  ![v771.toNat, 16]
def k0_off32 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_231 : BitVec 32 := 16#32
  let v763 : BitVec 32 := Scalar.muli arg26 c16_i32_231
  let c4_i32 : BitVec 32 := 4#32
  let v764 : BitVec 32 := Scalar.addi v763 c4_i32
  let v775 : Index := Scalar.indexCast v764
  let c32_234 : Index := 32#32
  ![v775.toNat, 32]
def k0_off33 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_231 : BitVec 32 := 16#32
  let v763 : BitVec 32 := Scalar.muli arg26 c16_i32_231
  let c4_i32 : BitVec 32 := 4#32
  let v764 : BitVec 32 := Scalar.addi v763 c4_i32
  let v779 : Index := Scalar.indexCast v764
  let c48_235 : Index := 48#32
  ![v779.toNat, 48]
def k0_off34 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_231 : BitVec 32 := 16#32
  let v763 : BitVec 32 := Scalar.muli arg26 c16_i32_231
  let c4_i32 : BitVec 32 := 4#32
  let v764 : BitVec 32 := Scalar.addi v763 c4_i32
  let v783 : Index := Scalar.indexCast v764
  let c64_236 : Index := 64#32
  ![v783.toNat, 64]
def k0_off35 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_231 : BitVec 32 := 16#32
  let v763 : BitVec 32 := Scalar.muli arg26 c16_i32_231
  let c4_i32 : BitVec 32 := 4#32
  let v764 : BitVec 32 := Scalar.addi v763 c4_i32
  let v787 : Index := Scalar.indexCast v764
  let c80_237 : Index := 80#32
  ![v787.toNat, 80]

def k0_chk12 (v793 : IVec S16 32) : Prop :=
  (∀ a x, ((![v793] : Fin 1 → IVec S16 32) a x).toNat < S256.size a)
theorem k0_idx20_inb : ∀ (v793 : IVec S16 32) (k0_hw12 : k0_chk12 v793), ∀ a x, ((![v793] : Fin 1 → IVec S16 32) a x).toNat < S256.size a := fun v793 k0_hw12 => k0_hw12
def k0_off36 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_238 : BitVec 32 := 16#32
  let v791 : BitVec 32 := Scalar.muli arg26 c16_i32_238
  let c5_i32 : BitVec 32 := 5#32
  let v792 : BitVec 32 := Scalar.addi v791 c5_i32
  let v795 : Index := Scalar.indexCast v792
  let c0_239 : Index := 0#32
  ![v795.toNat, 0]
def k0_off37 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_238 : BitVec 32 := 16#32
  let v791 : BitVec 32 := Scalar.muli arg26 c16_i32_238
  let c5_i32 : BitVec 32 := 5#32
  let v792 : BitVec 32 := Scalar.addi v791 c5_i32
  let v799 : Index := Scalar.indexCast v792
  let c16_240 : Index := 16#32
  ![v799.toNat, 16]
def k0_off38 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_238 : BitVec 32 := 16#32
  let v791 : BitVec 32 := Scalar.muli arg26 c16_i32_238
  let c5_i32 : BitVec 32 := 5#32
  let v792 : BitVec 32 := Scalar.addi v791 c5_i32
  let v803 : Index := Scalar.indexCast v792
  let c32_241 : Index := 32#32
  ![v803.toNat, 32]
def k0_off39 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_238 : BitVec 32 := 16#32
  let v791 : BitVec 32 := Scalar.muli arg26 c16_i32_238
  let c5_i32 : BitVec 32 := 5#32
  let v792 : BitVec 32 := Scalar.addi v791 c5_i32
  let v807 : Index := Scalar.indexCast v792
  let c48_242 : Index := 48#32
  ![v807.toNat, 48]
def k0_off40 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_238 : BitVec 32 := 16#32
  let v791 : BitVec 32 := Scalar.muli arg26 c16_i32_238
  let c5_i32 : BitVec 32 := 5#32
  let v792 : BitVec 32 := Scalar.addi v791 c5_i32
  let v811 : Index := Scalar.indexCast v792
  let c64_243 : Index := 64#32
  ![v811.toNat, 64]
def k0_off41 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_238 : BitVec 32 := 16#32
  let v791 : BitVec 32 := Scalar.muli arg26 c16_i32_238
  let c5_i32 : BitVec 32 := 5#32
  let v792 : BitVec 32 := Scalar.addi v791 c5_i32
  let v815 : Index := Scalar.indexCast v792
  let c80_244 : Index := 80#32
  ![v815.toNat, 80]

def k0_chk13 (v821 : IVec S16 32) : Prop :=
  (∀ a x, ((![v821] : Fin 1 → IVec S16 32) a x).toNat < S256.size a)
theorem k0_idx21_inb : ∀ (v821 : IVec S16 32) (k0_hw13 : k0_chk13 v821), ∀ a x, ((![v821] : Fin 1 → IVec S16 32) a x).toNat < S256.size a := fun v821 k0_hw13 => k0_hw13
def k0_off42 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_245 : BitVec 32 := 16#32
  let v819 : BitVec 32 := Scalar.muli arg26 c16_i32_245
  let c6_i32 : BitVec 32 := 6#32
  let v820 : BitVec 32 := Scalar.addi v819 c6_i32
  let v823 : Index := Scalar.indexCast v820
  let c0_246 : Index := 0#32
  ![v823.toNat, 0]
def k0_off43 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_245 : BitVec 32 := 16#32
  let v819 : BitVec 32 := Scalar.muli arg26 c16_i32_245
  let c6_i32 : BitVec 32 := 6#32
  let v820 : BitVec 32 := Scalar.addi v819 c6_i32
  let v827 : Index := Scalar.indexCast v820
  let c16_247 : Index := 16#32
  ![v827.toNat, 16]
def k0_off44 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_245 : BitVec 32 := 16#32
  let v819 : BitVec 32 := Scalar.muli arg26 c16_i32_245
  let c6_i32 : BitVec 32 := 6#32
  let v820 : BitVec 32 := Scalar.addi v819 c6_i32
  let v831 : Index := Scalar.indexCast v820
  let c32_248 : Index := 32#32
  ![v831.toNat, 32]
def k0_off45 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_245 : BitVec 32 := 16#32
  let v819 : BitVec 32 := Scalar.muli arg26 c16_i32_245
  let c6_i32 : BitVec 32 := 6#32
  let v820 : BitVec 32 := Scalar.addi v819 c6_i32
  let v835 : Index := Scalar.indexCast v820
  let c48_249 : Index := 48#32
  ![v835.toNat, 48]
def k0_off46 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_245 : BitVec 32 := 16#32
  let v819 : BitVec 32 := Scalar.muli arg26 c16_i32_245
  let c6_i32 : BitVec 32 := 6#32
  let v820 : BitVec 32 := Scalar.addi v819 c6_i32
  let v839 : Index := Scalar.indexCast v820
  let c64_250 : Index := 64#32
  ![v839.toNat, 64]
def k0_off47 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_245 : BitVec 32 := 16#32
  let v819 : BitVec 32 := Scalar.muli arg26 c16_i32_245
  let c6_i32 : BitVec 32 := 6#32
  let v820 : BitVec 32 := Scalar.addi v819 c6_i32
  let v843 : Index := Scalar.indexCast v820
  let c80_251 : Index := 80#32
  ![v843.toNat, 80]

def k0_chk14 (v849 : IVec S16 32) : Prop :=
  (∀ a x, ((![v849] : Fin 1 → IVec S16 32) a x).toNat < S256.size a)
theorem k0_idx22_inb : ∀ (v849 : IVec S16 32) (k0_hw14 : k0_chk14 v849), ∀ a x, ((![v849] : Fin 1 → IVec S16 32) a x).toNat < S256.size a := fun v849 k0_hw14 => k0_hw14
def k0_off48 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_252 : BitVec 32 := 16#32
  let v847 : BitVec 32 := Scalar.muli arg26 c16_i32_252
  let c7_i32 : BitVec 32 := 7#32
  let v848 : BitVec 32 := Scalar.addi v847 c7_i32
  let v851 : Index := Scalar.indexCast v848
  let c0_253 : Index := 0#32
  ![v851.toNat, 0]
def k0_off49 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_252 : BitVec 32 := 16#32
  let v847 : BitVec 32 := Scalar.muli arg26 c16_i32_252
  let c7_i32 : BitVec 32 := 7#32
  let v848 : BitVec 32 := Scalar.addi v847 c7_i32
  let v855 : Index := Scalar.indexCast v848
  let c16_254 : Index := 16#32
  ![v855.toNat, 16]
def k0_off50 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_252 : BitVec 32 := 16#32
  let v847 : BitVec 32 := Scalar.muli arg26 c16_i32_252
  let c7_i32 : BitVec 32 := 7#32
  let v848 : BitVec 32 := Scalar.addi v847 c7_i32
  let v859 : Index := Scalar.indexCast v848
  let c32_255 : Index := 32#32
  ![v859.toNat, 32]
def k0_off51 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_252 : BitVec 32 := 16#32
  let v847 : BitVec 32 := Scalar.muli arg26 c16_i32_252
  let c7_i32 : BitVec 32 := 7#32
  let v848 : BitVec 32 := Scalar.addi v847 c7_i32
  let v863 : Index := Scalar.indexCast v848
  let c48_256 : Index := 48#32
  ![v863.toNat, 48]
def k0_off52 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_252 : BitVec 32 := 16#32
  let v847 : BitVec 32 := Scalar.muli arg26 c16_i32_252
  let c7_i32 : BitVec 32 := 7#32
  let v848 : BitVec 32 := Scalar.addi v847 c7_i32
  let v867 : Index := Scalar.indexCast v848
  let c64_257 : Index := 64#32
  ![v867.toNat, 64]
def k0_off53 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_252 : BitVec 32 := 16#32
  let v847 : BitVec 32 := Scalar.muli arg26 c16_i32_252
  let c7_i32 : BitVec 32 := 7#32
  let v848 : BitVec 32 := Scalar.addi v847 c7_i32
  let v871 : Index := Scalar.indexCast v848
  let c80_258 : Index := 80#32
  ![v871.toNat, 80]

def k0_chk15 (v877 : IVec S16 32) : Prop :=
  (∀ a x, ((![v877] : Fin 1 → IVec S16 32) a x).toNat < S256.size a)
theorem k0_idx23_inb : ∀ (v877 : IVec S16 32) (k0_hw15 : k0_chk15 v877), ∀ a x, ((![v877] : Fin 1 → IVec S16 32) a x).toNat < S256.size a := fun v877 k0_hw15 => k0_hw15
def k0_off54 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_259 : BitVec 32 := 16#32
  let v875 : BitVec 32 := Scalar.muli arg26 c16_i32_259
  let c8_i32_260 : BitVec 32 := 8#32
  let v876 : BitVec 32 := Scalar.addi v875 c8_i32_260
  let v879 : Index := Scalar.indexCast v876
  let c0_261 : Index := 0#32
  ![v879.toNat, 0]
def k0_off55 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_259 : BitVec 32 := 16#32
  let v875 : BitVec 32 := Scalar.muli arg26 c16_i32_259
  let c8_i32_260 : BitVec 32 := 8#32
  let v876 : BitVec 32 := Scalar.addi v875 c8_i32_260
  let v883 : Index := Scalar.indexCast v876
  let c16_262 : Index := 16#32
  ![v883.toNat, 16]
def k0_off56 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_259 : BitVec 32 := 16#32
  let v875 : BitVec 32 := Scalar.muli arg26 c16_i32_259
  let c8_i32_260 : BitVec 32 := 8#32
  let v876 : BitVec 32 := Scalar.addi v875 c8_i32_260
  let v887 : Index := Scalar.indexCast v876
  let c32_263 : Index := 32#32
  ![v887.toNat, 32]
def k0_off57 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_259 : BitVec 32 := 16#32
  let v875 : BitVec 32 := Scalar.muli arg26 c16_i32_259
  let c8_i32_260 : BitVec 32 := 8#32
  let v876 : BitVec 32 := Scalar.addi v875 c8_i32_260
  let v891 : Index := Scalar.indexCast v876
  let c48_264 : Index := 48#32
  ![v891.toNat, 48]
def k0_off58 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_259 : BitVec 32 := 16#32
  let v875 : BitVec 32 := Scalar.muli arg26 c16_i32_259
  let c8_i32_260 : BitVec 32 := 8#32
  let v876 : BitVec 32 := Scalar.addi v875 c8_i32_260
  let v895 : Index := Scalar.indexCast v876
  let c64_265 : Index := 64#32
  ![v895.toNat, 64]
def k0_off59 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_259 : BitVec 32 := 16#32
  let v875 : BitVec 32 := Scalar.muli arg26 c16_i32_259
  let c8_i32_260 : BitVec 32 := 8#32
  let v876 : BitVec 32 := Scalar.addi v875 c8_i32_260
  let v899 : Index := Scalar.indexCast v876
  let c80_266 : Index := 80#32
  ![v899.toNat, 80]

def k0_chk16 (v905 : IVec S16 32) : Prop :=
  (∀ a x, ((![v905] : Fin 1 → IVec S16 32) a x).toNat < S256.size a)
theorem k0_idx24_inb : ∀ (v905 : IVec S16 32) (k0_hw16 : k0_chk16 v905), ∀ a x, ((![v905] : Fin 1 → IVec S16 32) a x).toNat < S256.size a := fun v905 k0_hw16 => k0_hw16
def k0_off60 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_267 : BitVec 32 := 16#32
  let v903 : BitVec 32 := Scalar.muli arg26 c16_i32_267
  let c9_i32 : BitVec 32 := 9#32
  let v904 : BitVec 32 := Scalar.addi v903 c9_i32
  let v907 : Index := Scalar.indexCast v904
  let c0_268 : Index := 0#32
  ![v907.toNat, 0]
def k0_off61 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_267 : BitVec 32 := 16#32
  let v903 : BitVec 32 := Scalar.muli arg26 c16_i32_267
  let c9_i32 : BitVec 32 := 9#32
  let v904 : BitVec 32 := Scalar.addi v903 c9_i32
  let v911 : Index := Scalar.indexCast v904
  let c16_269 : Index := 16#32
  ![v911.toNat, 16]
def k0_off62 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_267 : BitVec 32 := 16#32
  let v903 : BitVec 32 := Scalar.muli arg26 c16_i32_267
  let c9_i32 : BitVec 32 := 9#32
  let v904 : BitVec 32 := Scalar.addi v903 c9_i32
  let v915 : Index := Scalar.indexCast v904
  let c32_270 : Index := 32#32
  ![v915.toNat, 32]
def k0_off63 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_267 : BitVec 32 := 16#32
  let v903 : BitVec 32 := Scalar.muli arg26 c16_i32_267
  let c9_i32 : BitVec 32 := 9#32
  let v904 : BitVec 32 := Scalar.addi v903 c9_i32
  let v919 : Index := Scalar.indexCast v904
  let c48_271 : Index := 48#32
  ![v919.toNat, 48]
def k0_off64 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_267 : BitVec 32 := 16#32
  let v903 : BitVec 32 := Scalar.muli arg26 c16_i32_267
  let c9_i32 : BitVec 32 := 9#32
  let v904 : BitVec 32 := Scalar.addi v903 c9_i32
  let v923 : Index := Scalar.indexCast v904
  let c64_272 : Index := 64#32
  ![v923.toNat, 64]
def k0_off65 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_267 : BitVec 32 := 16#32
  let v903 : BitVec 32 := Scalar.muli arg26 c16_i32_267
  let c9_i32 : BitVec 32 := 9#32
  let v904 : BitVec 32 := Scalar.addi v903 c9_i32
  let v927 : Index := Scalar.indexCast v904
  let c80_273 : Index := 80#32
  ![v927.toNat, 80]

def k0_chk17 (v933 : IVec S16 32) : Prop :=
  (∀ a x, ((![v933] : Fin 1 → IVec S16 32) a x).toNat < S256.size a)
theorem k0_idx25_inb : ∀ (v933 : IVec S16 32) (k0_hw17 : k0_chk17 v933), ∀ a x, ((![v933] : Fin 1 → IVec S16 32) a x).toNat < S256.size a := fun v933 k0_hw17 => k0_hw17
def k0_off66 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_274 : BitVec 32 := 16#32
  let v931 : BitVec 32 := Scalar.muli arg26 c16_i32_274
  let c10_i32 : BitVec 32 := 10#32
  let v932 : BitVec 32 := Scalar.addi v931 c10_i32
  let v935 : Index := Scalar.indexCast v932
  let c0_275 : Index := 0#32
  ![v935.toNat, 0]
def k0_off67 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_274 : BitVec 32 := 16#32
  let v931 : BitVec 32 := Scalar.muli arg26 c16_i32_274
  let c10_i32 : BitVec 32 := 10#32
  let v932 : BitVec 32 := Scalar.addi v931 c10_i32
  let v939 : Index := Scalar.indexCast v932
  let c16_276 : Index := 16#32
  ![v939.toNat, 16]
def k0_off68 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_274 : BitVec 32 := 16#32
  let v931 : BitVec 32 := Scalar.muli arg26 c16_i32_274
  let c10_i32 : BitVec 32 := 10#32
  let v932 : BitVec 32 := Scalar.addi v931 c10_i32
  let v943 : Index := Scalar.indexCast v932
  let c32_277 : Index := 32#32
  ![v943.toNat, 32]
def k0_off69 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_274 : BitVec 32 := 16#32
  let v931 : BitVec 32 := Scalar.muli arg26 c16_i32_274
  let c10_i32 : BitVec 32 := 10#32
  let v932 : BitVec 32 := Scalar.addi v931 c10_i32
  let v947 : Index := Scalar.indexCast v932
  let c48_278 : Index := 48#32
  ![v947.toNat, 48]
def k0_off70 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_274 : BitVec 32 := 16#32
  let v931 : BitVec 32 := Scalar.muli arg26 c16_i32_274
  let c10_i32 : BitVec 32 := 10#32
  let v932 : BitVec 32 := Scalar.addi v931 c10_i32
  let v951 : Index := Scalar.indexCast v932
  let c64_279 : Index := 64#32
  ![v951.toNat, 64]
def k0_off71 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_274 : BitVec 32 := 16#32
  let v931 : BitVec 32 := Scalar.muli arg26 c16_i32_274
  let c10_i32 : BitVec 32 := 10#32
  let v932 : BitVec 32 := Scalar.addi v931 c10_i32
  let v955 : Index := Scalar.indexCast v932
  let c80_280 : Index := 80#32
  ![v955.toNat, 80]

def k0_chk18 (v961 : IVec S16 32) : Prop :=
  (∀ a x, ((![v961] : Fin 1 → IVec S16 32) a x).toNat < S256.size a)
theorem k0_idx26_inb : ∀ (v961 : IVec S16 32) (k0_hw18 : k0_chk18 v961), ∀ a x, ((![v961] : Fin 1 → IVec S16 32) a x).toNat < S256.size a := fun v961 k0_hw18 => k0_hw18
def k0_off72 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_281 : BitVec 32 := 16#32
  let v959 : BitVec 32 := Scalar.muli arg26 c16_i32_281
  let c11_i32 : BitVec 32 := 11#32
  let v960 : BitVec 32 := Scalar.addi v959 c11_i32
  let v963 : Index := Scalar.indexCast v960
  let c0_282 : Index := 0#32
  ![v963.toNat, 0]
def k0_off73 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_281 : BitVec 32 := 16#32
  let v959 : BitVec 32 := Scalar.muli arg26 c16_i32_281
  let c11_i32 : BitVec 32 := 11#32
  let v960 : BitVec 32 := Scalar.addi v959 c11_i32
  let v967 : Index := Scalar.indexCast v960
  let c16_283 : Index := 16#32
  ![v967.toNat, 16]
def k0_off74 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_281 : BitVec 32 := 16#32
  let v959 : BitVec 32 := Scalar.muli arg26 c16_i32_281
  let c11_i32 : BitVec 32 := 11#32
  let v960 : BitVec 32 := Scalar.addi v959 c11_i32
  let v971 : Index := Scalar.indexCast v960
  let c32_284 : Index := 32#32
  ![v971.toNat, 32]
def k0_off75 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_281 : BitVec 32 := 16#32
  let v959 : BitVec 32 := Scalar.muli arg26 c16_i32_281
  let c11_i32 : BitVec 32 := 11#32
  let v960 : BitVec 32 := Scalar.addi v959 c11_i32
  let v975 : Index := Scalar.indexCast v960
  let c48_285 : Index := 48#32
  ![v975.toNat, 48]
def k0_off76 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_281 : BitVec 32 := 16#32
  let v959 : BitVec 32 := Scalar.muli arg26 c16_i32_281
  let c11_i32 : BitVec 32 := 11#32
  let v960 : BitVec 32 := Scalar.addi v959 c11_i32
  let v979 : Index := Scalar.indexCast v960
  let c64_286 : Index := 64#32
  ![v979.toNat, 64]
def k0_off77 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_281 : BitVec 32 := 16#32
  let v959 : BitVec 32 := Scalar.muli arg26 c16_i32_281
  let c11_i32 : BitVec 32 := 11#32
  let v960 : BitVec 32 := Scalar.addi v959 c11_i32
  let v983 : Index := Scalar.indexCast v960
  let c80_287 : Index := 80#32
  ![v983.toNat, 80]

def k0_chk19 (v989 : IVec S16 32) : Prop :=
  (∀ a x, ((![v989] : Fin 1 → IVec S16 32) a x).toNat < S256.size a)
theorem k0_idx27_inb : ∀ (v989 : IVec S16 32) (k0_hw19 : k0_chk19 v989), ∀ a x, ((![v989] : Fin 1 → IVec S16 32) a x).toNat < S256.size a := fun v989 k0_hw19 => k0_hw19
def k0_off78 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_288 : BitVec 32 := 16#32
  let v987 : BitVec 32 := Scalar.muli arg26 c16_i32_288
  let c12_i32 : BitVec 32 := 12#32
  let v988 : BitVec 32 := Scalar.addi v987 c12_i32
  let v991 : Index := Scalar.indexCast v988
  let c0_289 : Index := 0#32
  ![v991.toNat, 0]
def k0_off79 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_288 : BitVec 32 := 16#32
  let v987 : BitVec 32 := Scalar.muli arg26 c16_i32_288
  let c12_i32 : BitVec 32 := 12#32
  let v988 : BitVec 32 := Scalar.addi v987 c12_i32
  let v995 : Index := Scalar.indexCast v988
  let c16_290 : Index := 16#32
  ![v995.toNat, 16]
def k0_off80 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_288 : BitVec 32 := 16#32
  let v987 : BitVec 32 := Scalar.muli arg26 c16_i32_288
  let c12_i32 : BitVec 32 := 12#32
  let v988 : BitVec 32 := Scalar.addi v987 c12_i32
  let v999 : Index := Scalar.indexCast v988
  let c32_291 : Index := 32#32
  ![v999.toNat, 32]
def k0_off81 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_288 : BitVec 32 := 16#32
  let v987 : BitVec 32 := Scalar.muli arg26 c16_i32_288
  let c12_i32 : BitVec 32 := 12#32
  let v988 : BitVec 32 := Scalar.addi v987 c12_i32
  let v1003 : Index := Scalar.indexCast v988
  let c48_292 : Index := 48#32
  ![v1003.toNat, 48]
def k0_off82 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_288 : BitVec 32 := 16#32
  let v987 : BitVec 32 := Scalar.muli arg26 c16_i32_288
  let c12_i32 : BitVec 32 := 12#32
  let v988 : BitVec 32 := Scalar.addi v987 c12_i32
  let v1007 : Index := Scalar.indexCast v988
  let c64_293 : Index := 64#32
  ![v1007.toNat, 64]
def k0_off83 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_288 : BitVec 32 := 16#32
  let v987 : BitVec 32 := Scalar.muli arg26 c16_i32_288
  let c12_i32 : BitVec 32 := 12#32
  let v988 : BitVec 32 := Scalar.addi v987 c12_i32
  let v1011 : Index := Scalar.indexCast v988
  let c80_294 : Index := 80#32
  ![v1011.toNat, 80]

def k0_chk20 (v1017 : IVec S16 32) : Prop :=
  (∀ a x, ((![v1017] : Fin 1 → IVec S16 32) a x).toNat < S256.size a)
theorem k0_idx28_inb : ∀ (v1017 : IVec S16 32) (k0_hw20 : k0_chk20 v1017), ∀ a x, ((![v1017] : Fin 1 → IVec S16 32) a x).toNat < S256.size a := fun v1017 k0_hw20 => k0_hw20
def k0_off84 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_295 : BitVec 32 := 16#32
  let v1015 : BitVec 32 := Scalar.muli arg26 c16_i32_295
  let c13_i32 : BitVec 32 := 13#32
  let v1016 : BitVec 32 := Scalar.addi v1015 c13_i32
  let v1019 : Index := Scalar.indexCast v1016
  let c0_296 : Index := 0#32
  ![v1019.toNat, 0]
def k0_off85 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_295 : BitVec 32 := 16#32
  let v1015 : BitVec 32 := Scalar.muli arg26 c16_i32_295
  let c13_i32 : BitVec 32 := 13#32
  let v1016 : BitVec 32 := Scalar.addi v1015 c13_i32
  let v1023 : Index := Scalar.indexCast v1016
  let c16_297 : Index := 16#32
  ![v1023.toNat, 16]
def k0_off86 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_295 : BitVec 32 := 16#32
  let v1015 : BitVec 32 := Scalar.muli arg26 c16_i32_295
  let c13_i32 : BitVec 32 := 13#32
  let v1016 : BitVec 32 := Scalar.addi v1015 c13_i32
  let v1027 : Index := Scalar.indexCast v1016
  let c32_298 : Index := 32#32
  ![v1027.toNat, 32]
def k0_off87 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_295 : BitVec 32 := 16#32
  let v1015 : BitVec 32 := Scalar.muli arg26 c16_i32_295
  let c13_i32 : BitVec 32 := 13#32
  let v1016 : BitVec 32 := Scalar.addi v1015 c13_i32
  let v1031 : Index := Scalar.indexCast v1016
  let c48_299 : Index := 48#32
  ![v1031.toNat, 48]
def k0_off88 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_295 : BitVec 32 := 16#32
  let v1015 : BitVec 32 := Scalar.muli arg26 c16_i32_295
  let c13_i32 : BitVec 32 := 13#32
  let v1016 : BitVec 32 := Scalar.addi v1015 c13_i32
  let v1035 : Index := Scalar.indexCast v1016
  let c64_300 : Index := 64#32
  ![v1035.toNat, 64]
def k0_off89 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_295 : BitVec 32 := 16#32
  let v1015 : BitVec 32 := Scalar.muli arg26 c16_i32_295
  let c13_i32 : BitVec 32 := 13#32
  let v1016 : BitVec 32 := Scalar.addi v1015 c13_i32
  let v1039 : Index := Scalar.indexCast v1016
  let c80_301 : Index := 80#32
  ![v1039.toNat, 80]

def k0_chk21 (v1045 : IVec S16 32) : Prop :=
  (∀ a x, ((![v1045] : Fin 1 → IVec S16 32) a x).toNat < S256.size a)
theorem k0_idx29_inb : ∀ (v1045 : IVec S16 32) (k0_hw21 : k0_chk21 v1045), ∀ a x, ((![v1045] : Fin 1 → IVec S16 32) a x).toNat < S256.size a := fun v1045 k0_hw21 => k0_hw21
def k0_off90 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_302 : BitVec 32 := 16#32
  let v1043 : BitVec 32 := Scalar.muli arg26 c16_i32_302
  let c14_i32 : BitVec 32 := 14#32
  let v1044 : BitVec 32 := Scalar.addi v1043 c14_i32
  let v1047 : Index := Scalar.indexCast v1044
  let c0_303 : Index := 0#32
  ![v1047.toNat, 0]
def k0_off91 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_302 : BitVec 32 := 16#32
  let v1043 : BitVec 32 := Scalar.muli arg26 c16_i32_302
  let c14_i32 : BitVec 32 := 14#32
  let v1044 : BitVec 32 := Scalar.addi v1043 c14_i32
  let v1051 : Index := Scalar.indexCast v1044
  let c16_304 : Index := 16#32
  ![v1051.toNat, 16]
def k0_off92 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_302 : BitVec 32 := 16#32
  let v1043 : BitVec 32 := Scalar.muli arg26 c16_i32_302
  let c14_i32 : BitVec 32 := 14#32
  let v1044 : BitVec 32 := Scalar.addi v1043 c14_i32
  let v1055 : Index := Scalar.indexCast v1044
  let c32_305 : Index := 32#32
  ![v1055.toNat, 32]
def k0_off93 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_302 : BitVec 32 := 16#32
  let v1043 : BitVec 32 := Scalar.muli arg26 c16_i32_302
  let c14_i32 : BitVec 32 := 14#32
  let v1044 : BitVec 32 := Scalar.addi v1043 c14_i32
  let v1059 : Index := Scalar.indexCast v1044
  let c48_306 : Index := 48#32
  ![v1059.toNat, 48]
def k0_off94 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_302 : BitVec 32 := 16#32
  let v1043 : BitVec 32 := Scalar.muli arg26 c16_i32_302
  let c14_i32 : BitVec 32 := 14#32
  let v1044 : BitVec 32 := Scalar.addi v1043 c14_i32
  let v1063 : Index := Scalar.indexCast v1044
  let c64_307 : Index := 64#32
  ![v1063.toNat, 64]
def k0_off95 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_302 : BitVec 32 := 16#32
  let v1043 : BitVec 32 := Scalar.muli arg26 c16_i32_302
  let c14_i32 : BitVec 32 := 14#32
  let v1044 : BitVec 32 := Scalar.addi v1043 c14_i32
  let v1067 : Index := Scalar.indexCast v1044
  let c80_308 : Index := 80#32
  ![v1067.toNat, 80]

def k0_chk22 (v1073 : IVec S16 32) : Prop :=
  (∀ a x, ((![v1073] : Fin 1 → IVec S16 32) a x).toNat < S256.size a)
theorem k0_idx30_inb : ∀ (v1073 : IVec S16 32) (k0_hw22 : k0_chk22 v1073), ∀ a x, ((![v1073] : Fin 1 → IVec S16 32) a x).toNat < S256.size a := fun v1073 k0_hw22 => k0_hw22
def k0_off96 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_309 : BitVec 32 := 16#32
  let v1071 : BitVec 32 := Scalar.muli arg26 c16_i32_309
  let c15_i32 : BitVec 32 := 15#32
  let v1072 : BitVec 32 := Scalar.addi v1071 c15_i32
  let v1075 : Index := Scalar.indexCast v1072
  let c0_310 : Index := 0#32
  ![v1075.toNat, 0]
def k0_off97 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_309 : BitVec 32 := 16#32
  let v1071 : BitVec 32 := Scalar.muli arg26 c16_i32_309
  let c15_i32 : BitVec 32 := 15#32
  let v1072 : BitVec 32 := Scalar.addi v1071 c15_i32
  let v1079 : Index := Scalar.indexCast v1072
  let c16_311 : Index := 16#32
  ![v1079.toNat, 16]
def k0_off98 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_309 : BitVec 32 := 16#32
  let v1071 : BitVec 32 := Scalar.muli arg26 c16_i32_309
  let c15_i32 : BitVec 32 := 15#32
  let v1072 : BitVec 32 := Scalar.addi v1071 c15_i32
  let v1083 : Index := Scalar.indexCast v1072
  let c32_312 : Index := 32#32
  ![v1083.toNat, 32]
def k0_off99 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_309 : BitVec 32 := 16#32
  let v1071 : BitVec 32 := Scalar.muli arg26 c16_i32_309
  let c15_i32 : BitVec 32 := 15#32
  let v1072 : BitVec 32 := Scalar.addi v1071 c15_i32
  let v1087 : Index := Scalar.indexCast v1072
  let c48_313 : Index := 48#32
  ![v1087.toNat, 48]
def k0_off100 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_309 : BitVec 32 := 16#32
  let v1071 : BitVec 32 := Scalar.muli arg26 c16_i32_309
  let c15_i32 : BitVec 32 := 15#32
  let v1072 : BitVec 32 := Scalar.addi v1071 c15_i32
  let v1091 : Index := Scalar.indexCast v1072
  let c64_314 : Index := 64#32
  ![v1091.toNat, 64]
def k0_off101 (v18 : BitVec 32) (k0_t6 : Fin (k0_t6_loop v18).trips) : Fin 2 → Nat :=
  let c0_i32_145 : BitVec 32 := 0#32
  let c1_i32_147 : BitVec 32 := 1#32
  let arg26 : BitVec 32 := Scf.iv c0_i32_145 c1_i32_147 k0_t6
  let c16_i32_309 : BitVec 32 := 16#32
  let v1071 : BitVec 32 := Scalar.muli arg26 c16_i32_309
  let c15_i32 : BitVec 32 := 15#32
  let v1072 : BitVec 32 := Scalar.addi v1071 c15_i32
  let v1095 : Index := Scalar.indexCast v1072
  let c80_315 : Index := 80#32
  ![v1095.toNat, 80]
@[reducible] def k0_t7_loop (v18 : BitVec 32) : Scf.Loop 32 :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let v394 : BitVec 32 := Scalar.addi c0_i32_145 v393
  let c1_i32_148 : BitVec 32 := 1#32
  ⟨v397, v394, c1_i32_148⟩

def k0_chk23 (v653 : IVec S16 32) : Prop :=
  (∀ a x, ((![v653] : Fin 1 → IVec S16 32) a x).toNat < S256.size a)
theorem k0_idx31_inb : ∀ (v653 : IVec S16 32) (k0_hw23 : k0_chk23 v653), ∀ a x, ((![v653] : Fin 1 → IVec S16 32) a x).toNat < S256.size a := fun v653 k0_hw23 => k0_hw23
def k0_off102 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_200 : BitVec 32 := 16#32
  let v651 : BitVec 32 := Scalar.muli arg26 c16_i32_200
  let c0_i32_201 : BitVec 32 := 0#32
  let v652 : BitVec 32 := Scalar.addi v651 c0_i32_201
  let v655 : Index := Scalar.indexCast v652
  let c0_202 : Index := 0#32
  ![v655.toNat, 0]
def k0_off103 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_200 : BitVec 32 := 16#32
  let v651 : BitVec 32 := Scalar.muli arg26 c16_i32_200
  let c0_i32_201 : BitVec 32 := 0#32
  let v652 : BitVec 32 := Scalar.addi v651 c0_i32_201
  let v659 : Index := Scalar.indexCast v652
  let c16_203 : Index := 16#32
  ![v659.toNat, 16]
def k0_off104 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_200 : BitVec 32 := 16#32
  let v651 : BitVec 32 := Scalar.muli arg26 c16_i32_200
  let c0_i32_201 : BitVec 32 := 0#32
  let v652 : BitVec 32 := Scalar.addi v651 c0_i32_201
  let v663 : Index := Scalar.indexCast v652
  let c32_204 : Index := 32#32
  ![v663.toNat, 32]
def k0_off105 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_200 : BitVec 32 := 16#32
  let v651 : BitVec 32 := Scalar.muli arg26 c16_i32_200
  let c0_i32_201 : BitVec 32 := 0#32
  let v652 : BitVec 32 := Scalar.addi v651 c0_i32_201
  let v667 : Index := Scalar.indexCast v652
  let c48_205 : Index := 48#32
  ![v667.toNat, 48]
def k0_off106 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_200 : BitVec 32 := 16#32
  let v651 : BitVec 32 := Scalar.muli arg26 c16_i32_200
  let c0_i32_201 : BitVec 32 := 0#32
  let v652 : BitVec 32 := Scalar.addi v651 c0_i32_201
  let v671 : Index := Scalar.indexCast v652
  let c64_206 : Index := 64#32
  ![v671.toNat, 64]
def k0_off107 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_200 : BitVec 32 := 16#32
  let v651 : BitVec 32 := Scalar.muli arg26 c16_i32_200
  let c0_i32_201 : BitVec 32 := 0#32
  let v652 : BitVec 32 := Scalar.addi v651 c0_i32_201
  let v675 : Index := Scalar.indexCast v652
  let c80_207 : Index := 80#32
  ![v675.toNat, 80]

def k0_chk24 (v681 : IVec S16 32) : Prop :=
  (∀ a x, ((![v681] : Fin 1 → IVec S16 32) a x).toNat < S256.size a)
theorem k0_idx32_inb : ∀ (v681 : IVec S16 32) (k0_hw24 : k0_chk24 v681), ∀ a x, ((![v681] : Fin 1 → IVec S16 32) a x).toNat < S256.size a := fun v681 k0_hw24 => k0_hw24
def k0_off108 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_208 : BitVec 32 := 16#32
  let v679 : BitVec 32 := Scalar.muli arg26 c16_i32_208
  let c1_i32_209 : BitVec 32 := 1#32
  let v680 : BitVec 32 := Scalar.addi v679 c1_i32_209
  let v683 : Index := Scalar.indexCast v680
  let c0_210 : Index := 0#32
  ![v683.toNat, 0]
def k0_off109 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_208 : BitVec 32 := 16#32
  let v679 : BitVec 32 := Scalar.muli arg26 c16_i32_208
  let c1_i32_209 : BitVec 32 := 1#32
  let v680 : BitVec 32 := Scalar.addi v679 c1_i32_209
  let v687 : Index := Scalar.indexCast v680
  let c16_211 : Index := 16#32
  ![v687.toNat, 16]
def k0_off110 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_208 : BitVec 32 := 16#32
  let v679 : BitVec 32 := Scalar.muli arg26 c16_i32_208
  let c1_i32_209 : BitVec 32 := 1#32
  let v680 : BitVec 32 := Scalar.addi v679 c1_i32_209
  let v691 : Index := Scalar.indexCast v680
  let c32_212 : Index := 32#32
  ![v691.toNat, 32]
def k0_off111 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_208 : BitVec 32 := 16#32
  let v679 : BitVec 32 := Scalar.muli arg26 c16_i32_208
  let c1_i32_209 : BitVec 32 := 1#32
  let v680 : BitVec 32 := Scalar.addi v679 c1_i32_209
  let v695 : Index := Scalar.indexCast v680
  let c48_213 : Index := 48#32
  ![v695.toNat, 48]
def k0_off112 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_208 : BitVec 32 := 16#32
  let v679 : BitVec 32 := Scalar.muli arg26 c16_i32_208
  let c1_i32_209 : BitVec 32 := 1#32
  let v680 : BitVec 32 := Scalar.addi v679 c1_i32_209
  let v699 : Index := Scalar.indexCast v680
  let c64_214 : Index := 64#32
  ![v699.toNat, 64]
def k0_off113 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_208 : BitVec 32 := 16#32
  let v679 : BitVec 32 := Scalar.muli arg26 c16_i32_208
  let c1_i32_209 : BitVec 32 := 1#32
  let v680 : BitVec 32 := Scalar.addi v679 c1_i32_209
  let v703 : Index := Scalar.indexCast v680
  let c80_215 : Index := 80#32
  ![v703.toNat, 80]

def k0_chk25 (v709 : IVec S16 32) : Prop :=
  (∀ a x, ((![v709] : Fin 1 → IVec S16 32) a x).toNat < S256.size a)
theorem k0_idx33_inb : ∀ (v709 : IVec S16 32) (k0_hw25 : k0_chk25 v709), ∀ a x, ((![v709] : Fin 1 → IVec S16 32) a x).toNat < S256.size a := fun v709 k0_hw25 => k0_hw25
def k0_off114 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_216 : BitVec 32 := 16#32
  let v707 : BitVec 32 := Scalar.muli arg26 c16_i32_216
  let c2_i32_217 : BitVec 32 := 2#32
  let v708 : BitVec 32 := Scalar.addi v707 c2_i32_217
  let v711 : Index := Scalar.indexCast v708
  let c0_218 : Index := 0#32
  ![v711.toNat, 0]
def k0_off115 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_216 : BitVec 32 := 16#32
  let v707 : BitVec 32 := Scalar.muli arg26 c16_i32_216
  let c2_i32_217 : BitVec 32 := 2#32
  let v708 : BitVec 32 := Scalar.addi v707 c2_i32_217
  let v715 : Index := Scalar.indexCast v708
  let c16_219 : Index := 16#32
  ![v715.toNat, 16]
def k0_off116 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_216 : BitVec 32 := 16#32
  let v707 : BitVec 32 := Scalar.muli arg26 c16_i32_216
  let c2_i32_217 : BitVec 32 := 2#32
  let v708 : BitVec 32 := Scalar.addi v707 c2_i32_217
  let v719 : Index := Scalar.indexCast v708
  let c32_220 : Index := 32#32
  ![v719.toNat, 32]
def k0_off117 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_216 : BitVec 32 := 16#32
  let v707 : BitVec 32 := Scalar.muli arg26 c16_i32_216
  let c2_i32_217 : BitVec 32 := 2#32
  let v708 : BitVec 32 := Scalar.addi v707 c2_i32_217
  let v723 : Index := Scalar.indexCast v708
  let c48_221 : Index := 48#32
  ![v723.toNat, 48]
def k0_off118 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_216 : BitVec 32 := 16#32
  let v707 : BitVec 32 := Scalar.muli arg26 c16_i32_216
  let c2_i32_217 : BitVec 32 := 2#32
  let v708 : BitVec 32 := Scalar.addi v707 c2_i32_217
  let v727 : Index := Scalar.indexCast v708
  let c64_222 : Index := 64#32
  ![v727.toNat, 64]
def k0_off119 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_216 : BitVec 32 := 16#32
  let v707 : BitVec 32 := Scalar.muli arg26 c16_i32_216
  let c2_i32_217 : BitVec 32 := 2#32
  let v708 : BitVec 32 := Scalar.addi v707 c2_i32_217
  let v731 : Index := Scalar.indexCast v708
  let c80_223 : Index := 80#32
  ![v731.toNat, 80]

def k0_chk26 (v737 : IVec S16 32) : Prop :=
  (∀ a x, ((![v737] : Fin 1 → IVec S16 32) a x).toNat < S256.size a)
theorem k0_idx34_inb : ∀ (v737 : IVec S16 32) (k0_hw26 : k0_chk26 v737), ∀ a x, ((![v737] : Fin 1 → IVec S16 32) a x).toNat < S256.size a := fun v737 k0_hw26 => k0_hw26
def k0_off120 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_224 : BitVec 32 := 16#32
  let v735 : BitVec 32 := Scalar.muli arg26 c16_i32_224
  let c3_i32 : BitVec 32 := 3#32
  let v736 : BitVec 32 := Scalar.addi v735 c3_i32
  let v739 : Index := Scalar.indexCast v736
  let c0_225 : Index := 0#32
  ![v739.toNat, 0]
def k0_off121 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_224 : BitVec 32 := 16#32
  let v735 : BitVec 32 := Scalar.muli arg26 c16_i32_224
  let c3_i32 : BitVec 32 := 3#32
  let v736 : BitVec 32 := Scalar.addi v735 c3_i32
  let v743 : Index := Scalar.indexCast v736
  let c16_226 : Index := 16#32
  ![v743.toNat, 16]
def k0_off122 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_224 : BitVec 32 := 16#32
  let v735 : BitVec 32 := Scalar.muli arg26 c16_i32_224
  let c3_i32 : BitVec 32 := 3#32
  let v736 : BitVec 32 := Scalar.addi v735 c3_i32
  let v747 : Index := Scalar.indexCast v736
  let c32_227 : Index := 32#32
  ![v747.toNat, 32]
def k0_off123 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_224 : BitVec 32 := 16#32
  let v735 : BitVec 32 := Scalar.muli arg26 c16_i32_224
  let c3_i32 : BitVec 32 := 3#32
  let v736 : BitVec 32 := Scalar.addi v735 c3_i32
  let v751 : Index := Scalar.indexCast v736
  let c48_228 : Index := 48#32
  ![v751.toNat, 48]
def k0_off124 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_224 : BitVec 32 := 16#32
  let v735 : BitVec 32 := Scalar.muli arg26 c16_i32_224
  let c3_i32 : BitVec 32 := 3#32
  let v736 : BitVec 32 := Scalar.addi v735 c3_i32
  let v755 : Index := Scalar.indexCast v736
  let c64_229 : Index := 64#32
  ![v755.toNat, 64]
def k0_off125 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_224 : BitVec 32 := 16#32
  let v735 : BitVec 32 := Scalar.muli arg26 c16_i32_224
  let c3_i32 : BitVec 32 := 3#32
  let v736 : BitVec 32 := Scalar.addi v735 c3_i32
  let v759 : Index := Scalar.indexCast v736
  let c80_230 : Index := 80#32
  ![v759.toNat, 80]

def k0_chk27 (v765 : IVec S16 32) : Prop :=
  (∀ a x, ((![v765] : Fin 1 → IVec S16 32) a x).toNat < S256.size a)
theorem k0_idx35_inb : ∀ (v765 : IVec S16 32) (k0_hw27 : k0_chk27 v765), ∀ a x, ((![v765] : Fin 1 → IVec S16 32) a x).toNat < S256.size a := fun v765 k0_hw27 => k0_hw27
def k0_off126 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_231 : BitVec 32 := 16#32
  let v763 : BitVec 32 := Scalar.muli arg26 c16_i32_231
  let c4_i32 : BitVec 32 := 4#32
  let v764 : BitVec 32 := Scalar.addi v763 c4_i32
  let v767 : Index := Scalar.indexCast v764
  let c0_232 : Index := 0#32
  ![v767.toNat, 0]
def k0_off127 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_231 : BitVec 32 := 16#32
  let v763 : BitVec 32 := Scalar.muli arg26 c16_i32_231
  let c4_i32 : BitVec 32 := 4#32
  let v764 : BitVec 32 := Scalar.addi v763 c4_i32
  let v771 : Index := Scalar.indexCast v764
  let c16_233 : Index := 16#32
  ![v771.toNat, 16]
def k0_off128 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_231 : BitVec 32 := 16#32
  let v763 : BitVec 32 := Scalar.muli arg26 c16_i32_231
  let c4_i32 : BitVec 32 := 4#32
  let v764 : BitVec 32 := Scalar.addi v763 c4_i32
  let v775 : Index := Scalar.indexCast v764
  let c32_234 : Index := 32#32
  ![v775.toNat, 32]
def k0_off129 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_231 : BitVec 32 := 16#32
  let v763 : BitVec 32 := Scalar.muli arg26 c16_i32_231
  let c4_i32 : BitVec 32 := 4#32
  let v764 : BitVec 32 := Scalar.addi v763 c4_i32
  let v779 : Index := Scalar.indexCast v764
  let c48_235 : Index := 48#32
  ![v779.toNat, 48]
def k0_off130 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_231 : BitVec 32 := 16#32
  let v763 : BitVec 32 := Scalar.muli arg26 c16_i32_231
  let c4_i32 : BitVec 32 := 4#32
  let v764 : BitVec 32 := Scalar.addi v763 c4_i32
  let v783 : Index := Scalar.indexCast v764
  let c64_236 : Index := 64#32
  ![v783.toNat, 64]
def k0_off131 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_231 : BitVec 32 := 16#32
  let v763 : BitVec 32 := Scalar.muli arg26 c16_i32_231
  let c4_i32 : BitVec 32 := 4#32
  let v764 : BitVec 32 := Scalar.addi v763 c4_i32
  let v787 : Index := Scalar.indexCast v764
  let c80_237 : Index := 80#32
  ![v787.toNat, 80]

def k0_chk28 (v793 : IVec S16 32) : Prop :=
  (∀ a x, ((![v793] : Fin 1 → IVec S16 32) a x).toNat < S256.size a)
theorem k0_idx36_inb : ∀ (v793 : IVec S16 32) (k0_hw28 : k0_chk28 v793), ∀ a x, ((![v793] : Fin 1 → IVec S16 32) a x).toNat < S256.size a := fun v793 k0_hw28 => k0_hw28
def k0_off132 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_238 : BitVec 32 := 16#32
  let v791 : BitVec 32 := Scalar.muli arg26 c16_i32_238
  let c5_i32 : BitVec 32 := 5#32
  let v792 : BitVec 32 := Scalar.addi v791 c5_i32
  let v795 : Index := Scalar.indexCast v792
  let c0_239 : Index := 0#32
  ![v795.toNat, 0]
def k0_off133 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_238 : BitVec 32 := 16#32
  let v791 : BitVec 32 := Scalar.muli arg26 c16_i32_238
  let c5_i32 : BitVec 32 := 5#32
  let v792 : BitVec 32 := Scalar.addi v791 c5_i32
  let v799 : Index := Scalar.indexCast v792
  let c16_240 : Index := 16#32
  ![v799.toNat, 16]
def k0_off134 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_238 : BitVec 32 := 16#32
  let v791 : BitVec 32 := Scalar.muli arg26 c16_i32_238
  let c5_i32 : BitVec 32 := 5#32
  let v792 : BitVec 32 := Scalar.addi v791 c5_i32
  let v803 : Index := Scalar.indexCast v792
  let c32_241 : Index := 32#32
  ![v803.toNat, 32]
def k0_off135 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_238 : BitVec 32 := 16#32
  let v791 : BitVec 32 := Scalar.muli arg26 c16_i32_238
  let c5_i32 : BitVec 32 := 5#32
  let v792 : BitVec 32 := Scalar.addi v791 c5_i32
  let v807 : Index := Scalar.indexCast v792
  let c48_242 : Index := 48#32
  ![v807.toNat, 48]
def k0_off136 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_238 : BitVec 32 := 16#32
  let v791 : BitVec 32 := Scalar.muli arg26 c16_i32_238
  let c5_i32 : BitVec 32 := 5#32
  let v792 : BitVec 32 := Scalar.addi v791 c5_i32
  let v811 : Index := Scalar.indexCast v792
  let c64_243 : Index := 64#32
  ![v811.toNat, 64]
def k0_off137 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_238 : BitVec 32 := 16#32
  let v791 : BitVec 32 := Scalar.muli arg26 c16_i32_238
  let c5_i32 : BitVec 32 := 5#32
  let v792 : BitVec 32 := Scalar.addi v791 c5_i32
  let v815 : Index := Scalar.indexCast v792
  let c80_244 : Index := 80#32
  ![v815.toNat, 80]

def k0_chk29 (v821 : IVec S16 32) : Prop :=
  (∀ a x, ((![v821] : Fin 1 → IVec S16 32) a x).toNat < S256.size a)
theorem k0_idx37_inb : ∀ (v821 : IVec S16 32) (k0_hw29 : k0_chk29 v821), ∀ a x, ((![v821] : Fin 1 → IVec S16 32) a x).toNat < S256.size a := fun v821 k0_hw29 => k0_hw29
def k0_off138 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_245 : BitVec 32 := 16#32
  let v819 : BitVec 32 := Scalar.muli arg26 c16_i32_245
  let c6_i32 : BitVec 32 := 6#32
  let v820 : BitVec 32 := Scalar.addi v819 c6_i32
  let v823 : Index := Scalar.indexCast v820
  let c0_246 : Index := 0#32
  ![v823.toNat, 0]
def k0_off139 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_245 : BitVec 32 := 16#32
  let v819 : BitVec 32 := Scalar.muli arg26 c16_i32_245
  let c6_i32 : BitVec 32 := 6#32
  let v820 : BitVec 32 := Scalar.addi v819 c6_i32
  let v827 : Index := Scalar.indexCast v820
  let c16_247 : Index := 16#32
  ![v827.toNat, 16]
def k0_off140 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_245 : BitVec 32 := 16#32
  let v819 : BitVec 32 := Scalar.muli arg26 c16_i32_245
  let c6_i32 : BitVec 32 := 6#32
  let v820 : BitVec 32 := Scalar.addi v819 c6_i32
  let v831 : Index := Scalar.indexCast v820
  let c32_248 : Index := 32#32
  ![v831.toNat, 32]
def k0_off141 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_245 : BitVec 32 := 16#32
  let v819 : BitVec 32 := Scalar.muli arg26 c16_i32_245
  let c6_i32 : BitVec 32 := 6#32
  let v820 : BitVec 32 := Scalar.addi v819 c6_i32
  let v835 : Index := Scalar.indexCast v820
  let c48_249 : Index := 48#32
  ![v835.toNat, 48]
def k0_off142 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_245 : BitVec 32 := 16#32
  let v819 : BitVec 32 := Scalar.muli arg26 c16_i32_245
  let c6_i32 : BitVec 32 := 6#32
  let v820 : BitVec 32 := Scalar.addi v819 c6_i32
  let v839 : Index := Scalar.indexCast v820
  let c64_250 : Index := 64#32
  ![v839.toNat, 64]
def k0_off143 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_245 : BitVec 32 := 16#32
  let v819 : BitVec 32 := Scalar.muli arg26 c16_i32_245
  let c6_i32 : BitVec 32 := 6#32
  let v820 : BitVec 32 := Scalar.addi v819 c6_i32
  let v843 : Index := Scalar.indexCast v820
  let c80_251 : Index := 80#32
  ![v843.toNat, 80]

def k0_chk30 (v849 : IVec S16 32) : Prop :=
  (∀ a x, ((![v849] : Fin 1 → IVec S16 32) a x).toNat < S256.size a)
theorem k0_idx38_inb : ∀ (v849 : IVec S16 32) (k0_hw30 : k0_chk30 v849), ∀ a x, ((![v849] : Fin 1 → IVec S16 32) a x).toNat < S256.size a := fun v849 k0_hw30 => k0_hw30
def k0_off144 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_252 : BitVec 32 := 16#32
  let v847 : BitVec 32 := Scalar.muli arg26 c16_i32_252
  let c7_i32 : BitVec 32 := 7#32
  let v848 : BitVec 32 := Scalar.addi v847 c7_i32
  let v851 : Index := Scalar.indexCast v848
  let c0_253 : Index := 0#32
  ![v851.toNat, 0]
def k0_off145 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_252 : BitVec 32 := 16#32
  let v847 : BitVec 32 := Scalar.muli arg26 c16_i32_252
  let c7_i32 : BitVec 32 := 7#32
  let v848 : BitVec 32 := Scalar.addi v847 c7_i32
  let v855 : Index := Scalar.indexCast v848
  let c16_254 : Index := 16#32
  ![v855.toNat, 16]
def k0_off146 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_252 : BitVec 32 := 16#32
  let v847 : BitVec 32 := Scalar.muli arg26 c16_i32_252
  let c7_i32 : BitVec 32 := 7#32
  let v848 : BitVec 32 := Scalar.addi v847 c7_i32
  let v859 : Index := Scalar.indexCast v848
  let c32_255 : Index := 32#32
  ![v859.toNat, 32]
def k0_off147 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_252 : BitVec 32 := 16#32
  let v847 : BitVec 32 := Scalar.muli arg26 c16_i32_252
  let c7_i32 : BitVec 32 := 7#32
  let v848 : BitVec 32 := Scalar.addi v847 c7_i32
  let v863 : Index := Scalar.indexCast v848
  let c48_256 : Index := 48#32
  ![v863.toNat, 48]
def k0_off148 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_252 : BitVec 32 := 16#32
  let v847 : BitVec 32 := Scalar.muli arg26 c16_i32_252
  let c7_i32 : BitVec 32 := 7#32
  let v848 : BitVec 32 := Scalar.addi v847 c7_i32
  let v867 : Index := Scalar.indexCast v848
  let c64_257 : Index := 64#32
  ![v867.toNat, 64]
def k0_off149 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_252 : BitVec 32 := 16#32
  let v847 : BitVec 32 := Scalar.muli arg26 c16_i32_252
  let c7_i32 : BitVec 32 := 7#32
  let v848 : BitVec 32 := Scalar.addi v847 c7_i32
  let v871 : Index := Scalar.indexCast v848
  let c80_258 : Index := 80#32
  ![v871.toNat, 80]

def k0_chk31 (v877 : IVec S16 32) : Prop :=
  (∀ a x, ((![v877] : Fin 1 → IVec S16 32) a x).toNat < S256.size a)
theorem k0_idx39_inb : ∀ (v877 : IVec S16 32) (k0_hw31 : k0_chk31 v877), ∀ a x, ((![v877] : Fin 1 → IVec S16 32) a x).toNat < S256.size a := fun v877 k0_hw31 => k0_hw31
def k0_off150 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_259 : BitVec 32 := 16#32
  let v875 : BitVec 32 := Scalar.muli arg26 c16_i32_259
  let c8_i32_260 : BitVec 32 := 8#32
  let v876 : BitVec 32 := Scalar.addi v875 c8_i32_260
  let v879 : Index := Scalar.indexCast v876
  let c0_261 : Index := 0#32
  ![v879.toNat, 0]
def k0_off151 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_259 : BitVec 32 := 16#32
  let v875 : BitVec 32 := Scalar.muli arg26 c16_i32_259
  let c8_i32_260 : BitVec 32 := 8#32
  let v876 : BitVec 32 := Scalar.addi v875 c8_i32_260
  let v883 : Index := Scalar.indexCast v876
  let c16_262 : Index := 16#32
  ![v883.toNat, 16]
def k0_off152 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_259 : BitVec 32 := 16#32
  let v875 : BitVec 32 := Scalar.muli arg26 c16_i32_259
  let c8_i32_260 : BitVec 32 := 8#32
  let v876 : BitVec 32 := Scalar.addi v875 c8_i32_260
  let v887 : Index := Scalar.indexCast v876
  let c32_263 : Index := 32#32
  ![v887.toNat, 32]
def k0_off153 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_259 : BitVec 32 := 16#32
  let v875 : BitVec 32 := Scalar.muli arg26 c16_i32_259
  let c8_i32_260 : BitVec 32 := 8#32
  let v876 : BitVec 32 := Scalar.addi v875 c8_i32_260
  let v891 : Index := Scalar.indexCast v876
  let c48_264 : Index := 48#32
  ![v891.toNat, 48]
def k0_off154 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_259 : BitVec 32 := 16#32
  let v875 : BitVec 32 := Scalar.muli arg26 c16_i32_259
  let c8_i32_260 : BitVec 32 := 8#32
  let v876 : BitVec 32 := Scalar.addi v875 c8_i32_260
  let v895 : Index := Scalar.indexCast v876
  let c64_265 : Index := 64#32
  ![v895.toNat, 64]
def k0_off155 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_259 : BitVec 32 := 16#32
  let v875 : BitVec 32 := Scalar.muli arg26 c16_i32_259
  let c8_i32_260 : BitVec 32 := 8#32
  let v876 : BitVec 32 := Scalar.addi v875 c8_i32_260
  let v899 : Index := Scalar.indexCast v876
  let c80_266 : Index := 80#32
  ![v899.toNat, 80]

def k0_chk32 (v905 : IVec S16 32) : Prop :=
  (∀ a x, ((![v905] : Fin 1 → IVec S16 32) a x).toNat < S256.size a)
theorem k0_idx40_inb : ∀ (v905 : IVec S16 32) (k0_hw32 : k0_chk32 v905), ∀ a x, ((![v905] : Fin 1 → IVec S16 32) a x).toNat < S256.size a := fun v905 k0_hw32 => k0_hw32
def k0_off156 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_267 : BitVec 32 := 16#32
  let v903 : BitVec 32 := Scalar.muli arg26 c16_i32_267
  let c9_i32 : BitVec 32 := 9#32
  let v904 : BitVec 32 := Scalar.addi v903 c9_i32
  let v907 : Index := Scalar.indexCast v904
  let c0_268 : Index := 0#32
  ![v907.toNat, 0]
def k0_off157 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_267 : BitVec 32 := 16#32
  let v903 : BitVec 32 := Scalar.muli arg26 c16_i32_267
  let c9_i32 : BitVec 32 := 9#32
  let v904 : BitVec 32 := Scalar.addi v903 c9_i32
  let v911 : Index := Scalar.indexCast v904
  let c16_269 : Index := 16#32
  ![v911.toNat, 16]
def k0_off158 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_267 : BitVec 32 := 16#32
  let v903 : BitVec 32 := Scalar.muli arg26 c16_i32_267
  let c9_i32 : BitVec 32 := 9#32
  let v904 : BitVec 32 := Scalar.addi v903 c9_i32
  let v915 : Index := Scalar.indexCast v904
  let c32_270 : Index := 32#32
  ![v915.toNat, 32]
def k0_off159 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_267 : BitVec 32 := 16#32
  let v903 : BitVec 32 := Scalar.muli arg26 c16_i32_267
  let c9_i32 : BitVec 32 := 9#32
  let v904 : BitVec 32 := Scalar.addi v903 c9_i32
  let v919 : Index := Scalar.indexCast v904
  let c48_271 : Index := 48#32
  ![v919.toNat, 48]
def k0_off160 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_267 : BitVec 32 := 16#32
  let v903 : BitVec 32 := Scalar.muli arg26 c16_i32_267
  let c9_i32 : BitVec 32 := 9#32
  let v904 : BitVec 32 := Scalar.addi v903 c9_i32
  let v923 : Index := Scalar.indexCast v904
  let c64_272 : Index := 64#32
  ![v923.toNat, 64]
def k0_off161 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_267 : BitVec 32 := 16#32
  let v903 : BitVec 32 := Scalar.muli arg26 c16_i32_267
  let c9_i32 : BitVec 32 := 9#32
  let v904 : BitVec 32 := Scalar.addi v903 c9_i32
  let v927 : Index := Scalar.indexCast v904
  let c80_273 : Index := 80#32
  ![v927.toNat, 80]

def k0_chk33 (v933 : IVec S16 32) : Prop :=
  (∀ a x, ((![v933] : Fin 1 → IVec S16 32) a x).toNat < S256.size a)
theorem k0_idx41_inb : ∀ (v933 : IVec S16 32) (k0_hw33 : k0_chk33 v933), ∀ a x, ((![v933] : Fin 1 → IVec S16 32) a x).toNat < S256.size a := fun v933 k0_hw33 => k0_hw33
def k0_off162 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_274 : BitVec 32 := 16#32
  let v931 : BitVec 32 := Scalar.muli arg26 c16_i32_274
  let c10_i32 : BitVec 32 := 10#32
  let v932 : BitVec 32 := Scalar.addi v931 c10_i32
  let v935 : Index := Scalar.indexCast v932
  let c0_275 : Index := 0#32
  ![v935.toNat, 0]
def k0_off163 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_274 : BitVec 32 := 16#32
  let v931 : BitVec 32 := Scalar.muli arg26 c16_i32_274
  let c10_i32 : BitVec 32 := 10#32
  let v932 : BitVec 32 := Scalar.addi v931 c10_i32
  let v939 : Index := Scalar.indexCast v932
  let c16_276 : Index := 16#32
  ![v939.toNat, 16]
def k0_off164 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_274 : BitVec 32 := 16#32
  let v931 : BitVec 32 := Scalar.muli arg26 c16_i32_274
  let c10_i32 : BitVec 32 := 10#32
  let v932 : BitVec 32 := Scalar.addi v931 c10_i32
  let v943 : Index := Scalar.indexCast v932
  let c32_277 : Index := 32#32
  ![v943.toNat, 32]
def k0_off165 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_274 : BitVec 32 := 16#32
  let v931 : BitVec 32 := Scalar.muli arg26 c16_i32_274
  let c10_i32 : BitVec 32 := 10#32
  let v932 : BitVec 32 := Scalar.addi v931 c10_i32
  let v947 : Index := Scalar.indexCast v932
  let c48_278 : Index := 48#32
  ![v947.toNat, 48]
def k0_off166 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_274 : BitVec 32 := 16#32
  let v931 : BitVec 32 := Scalar.muli arg26 c16_i32_274
  let c10_i32 : BitVec 32 := 10#32
  let v932 : BitVec 32 := Scalar.addi v931 c10_i32
  let v951 : Index := Scalar.indexCast v932
  let c64_279 : Index := 64#32
  ![v951.toNat, 64]
def k0_off167 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_274 : BitVec 32 := 16#32
  let v931 : BitVec 32 := Scalar.muli arg26 c16_i32_274
  let c10_i32 : BitVec 32 := 10#32
  let v932 : BitVec 32 := Scalar.addi v931 c10_i32
  let v955 : Index := Scalar.indexCast v932
  let c80_280 : Index := 80#32
  ![v955.toNat, 80]

def k0_chk34 (v961 : IVec S16 32) : Prop :=
  (∀ a x, ((![v961] : Fin 1 → IVec S16 32) a x).toNat < S256.size a)
theorem k0_idx42_inb : ∀ (v961 : IVec S16 32) (k0_hw34 : k0_chk34 v961), ∀ a x, ((![v961] : Fin 1 → IVec S16 32) a x).toNat < S256.size a := fun v961 k0_hw34 => k0_hw34
def k0_off168 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_281 : BitVec 32 := 16#32
  let v959 : BitVec 32 := Scalar.muli arg26 c16_i32_281
  let c11_i32 : BitVec 32 := 11#32
  let v960 : BitVec 32 := Scalar.addi v959 c11_i32
  let v963 : Index := Scalar.indexCast v960
  let c0_282 : Index := 0#32
  ![v963.toNat, 0]
def k0_off169 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_281 : BitVec 32 := 16#32
  let v959 : BitVec 32 := Scalar.muli arg26 c16_i32_281
  let c11_i32 : BitVec 32 := 11#32
  let v960 : BitVec 32 := Scalar.addi v959 c11_i32
  let v967 : Index := Scalar.indexCast v960
  let c16_283 : Index := 16#32
  ![v967.toNat, 16]
def k0_off170 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_281 : BitVec 32 := 16#32
  let v959 : BitVec 32 := Scalar.muli arg26 c16_i32_281
  let c11_i32 : BitVec 32 := 11#32
  let v960 : BitVec 32 := Scalar.addi v959 c11_i32
  let v971 : Index := Scalar.indexCast v960
  let c32_284 : Index := 32#32
  ![v971.toNat, 32]
def k0_off171 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_281 : BitVec 32 := 16#32
  let v959 : BitVec 32 := Scalar.muli arg26 c16_i32_281
  let c11_i32 : BitVec 32 := 11#32
  let v960 : BitVec 32 := Scalar.addi v959 c11_i32
  let v975 : Index := Scalar.indexCast v960
  let c48_285 : Index := 48#32
  ![v975.toNat, 48]
def k0_off172 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_281 : BitVec 32 := 16#32
  let v959 : BitVec 32 := Scalar.muli arg26 c16_i32_281
  let c11_i32 : BitVec 32 := 11#32
  let v960 : BitVec 32 := Scalar.addi v959 c11_i32
  let v979 : Index := Scalar.indexCast v960
  let c64_286 : Index := 64#32
  ![v979.toNat, 64]
def k0_off173 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_281 : BitVec 32 := 16#32
  let v959 : BitVec 32 := Scalar.muli arg26 c16_i32_281
  let c11_i32 : BitVec 32 := 11#32
  let v960 : BitVec 32 := Scalar.addi v959 c11_i32
  let v983 : Index := Scalar.indexCast v960
  let c80_287 : Index := 80#32
  ![v983.toNat, 80]

def k0_chk35 (v989 : IVec S16 32) : Prop :=
  (∀ a x, ((![v989] : Fin 1 → IVec S16 32) a x).toNat < S256.size a)
theorem k0_idx43_inb : ∀ (v989 : IVec S16 32) (k0_hw35 : k0_chk35 v989), ∀ a x, ((![v989] : Fin 1 → IVec S16 32) a x).toNat < S256.size a := fun v989 k0_hw35 => k0_hw35
def k0_off174 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_288 : BitVec 32 := 16#32
  let v987 : BitVec 32 := Scalar.muli arg26 c16_i32_288
  let c12_i32 : BitVec 32 := 12#32
  let v988 : BitVec 32 := Scalar.addi v987 c12_i32
  let v991 : Index := Scalar.indexCast v988
  let c0_289 : Index := 0#32
  ![v991.toNat, 0]
def k0_off175 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_288 : BitVec 32 := 16#32
  let v987 : BitVec 32 := Scalar.muli arg26 c16_i32_288
  let c12_i32 : BitVec 32 := 12#32
  let v988 : BitVec 32 := Scalar.addi v987 c12_i32
  let v995 : Index := Scalar.indexCast v988
  let c16_290 : Index := 16#32
  ![v995.toNat, 16]
def k0_off176 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_288 : BitVec 32 := 16#32
  let v987 : BitVec 32 := Scalar.muli arg26 c16_i32_288
  let c12_i32 : BitVec 32 := 12#32
  let v988 : BitVec 32 := Scalar.addi v987 c12_i32
  let v999 : Index := Scalar.indexCast v988
  let c32_291 : Index := 32#32
  ![v999.toNat, 32]
def k0_off177 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_288 : BitVec 32 := 16#32
  let v987 : BitVec 32 := Scalar.muli arg26 c16_i32_288
  let c12_i32 : BitVec 32 := 12#32
  let v988 : BitVec 32 := Scalar.addi v987 c12_i32
  let v1003 : Index := Scalar.indexCast v988
  let c48_292 : Index := 48#32
  ![v1003.toNat, 48]
def k0_off178 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_288 : BitVec 32 := 16#32
  let v987 : BitVec 32 := Scalar.muli arg26 c16_i32_288
  let c12_i32 : BitVec 32 := 12#32
  let v988 : BitVec 32 := Scalar.addi v987 c12_i32
  let v1007 : Index := Scalar.indexCast v988
  let c64_293 : Index := 64#32
  ![v1007.toNat, 64]
def k0_off179 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_288 : BitVec 32 := 16#32
  let v987 : BitVec 32 := Scalar.muli arg26 c16_i32_288
  let c12_i32 : BitVec 32 := 12#32
  let v988 : BitVec 32 := Scalar.addi v987 c12_i32
  let v1011 : Index := Scalar.indexCast v988
  let c80_294 : Index := 80#32
  ![v1011.toNat, 80]

def k0_chk36 (v1017 : IVec S16 32) : Prop :=
  (∀ a x, ((![v1017] : Fin 1 → IVec S16 32) a x).toNat < S256.size a)
theorem k0_idx44_inb : ∀ (v1017 : IVec S16 32) (k0_hw36 : k0_chk36 v1017), ∀ a x, ((![v1017] : Fin 1 → IVec S16 32) a x).toNat < S256.size a := fun v1017 k0_hw36 => k0_hw36
def k0_off180 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_295 : BitVec 32 := 16#32
  let v1015 : BitVec 32 := Scalar.muli arg26 c16_i32_295
  let c13_i32 : BitVec 32 := 13#32
  let v1016 : BitVec 32 := Scalar.addi v1015 c13_i32
  let v1019 : Index := Scalar.indexCast v1016
  let c0_296 : Index := 0#32
  ![v1019.toNat, 0]
def k0_off181 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_295 : BitVec 32 := 16#32
  let v1015 : BitVec 32 := Scalar.muli arg26 c16_i32_295
  let c13_i32 : BitVec 32 := 13#32
  let v1016 : BitVec 32 := Scalar.addi v1015 c13_i32
  let v1023 : Index := Scalar.indexCast v1016
  let c16_297 : Index := 16#32
  ![v1023.toNat, 16]
def k0_off182 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_295 : BitVec 32 := 16#32
  let v1015 : BitVec 32 := Scalar.muli arg26 c16_i32_295
  let c13_i32 : BitVec 32 := 13#32
  let v1016 : BitVec 32 := Scalar.addi v1015 c13_i32
  let v1027 : Index := Scalar.indexCast v1016
  let c32_298 : Index := 32#32
  ![v1027.toNat, 32]
def k0_off183 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_295 : BitVec 32 := 16#32
  let v1015 : BitVec 32 := Scalar.muli arg26 c16_i32_295
  let c13_i32 : BitVec 32 := 13#32
  let v1016 : BitVec 32 := Scalar.addi v1015 c13_i32
  let v1031 : Index := Scalar.indexCast v1016
  let c48_299 : Index := 48#32
  ![v1031.toNat, 48]
def k0_off184 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_295 : BitVec 32 := 16#32
  let v1015 : BitVec 32 := Scalar.muli arg26 c16_i32_295
  let c13_i32 : BitVec 32 := 13#32
  let v1016 : BitVec 32 := Scalar.addi v1015 c13_i32
  let v1035 : Index := Scalar.indexCast v1016
  let c64_300 : Index := 64#32
  ![v1035.toNat, 64]
def k0_off185 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_295 : BitVec 32 := 16#32
  let v1015 : BitVec 32 := Scalar.muli arg26 c16_i32_295
  let c13_i32 : BitVec 32 := 13#32
  let v1016 : BitVec 32 := Scalar.addi v1015 c13_i32
  let v1039 : Index := Scalar.indexCast v1016
  let c80_301 : Index := 80#32
  ![v1039.toNat, 80]

def k0_chk37 (v1045 : IVec S16 32) : Prop :=
  (∀ a x, ((![v1045] : Fin 1 → IVec S16 32) a x).toNat < S256.size a)
theorem k0_idx45_inb : ∀ (v1045 : IVec S16 32) (k0_hw37 : k0_chk37 v1045), ∀ a x, ((![v1045] : Fin 1 → IVec S16 32) a x).toNat < S256.size a := fun v1045 k0_hw37 => k0_hw37
def k0_off186 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_302 : BitVec 32 := 16#32
  let v1043 : BitVec 32 := Scalar.muli arg26 c16_i32_302
  let c14_i32 : BitVec 32 := 14#32
  let v1044 : BitVec 32 := Scalar.addi v1043 c14_i32
  let v1047 : Index := Scalar.indexCast v1044
  let c0_303 : Index := 0#32
  ![v1047.toNat, 0]
def k0_off187 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_302 : BitVec 32 := 16#32
  let v1043 : BitVec 32 := Scalar.muli arg26 c16_i32_302
  let c14_i32 : BitVec 32 := 14#32
  let v1044 : BitVec 32 := Scalar.addi v1043 c14_i32
  let v1051 : Index := Scalar.indexCast v1044
  let c16_304 : Index := 16#32
  ![v1051.toNat, 16]
def k0_off188 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_302 : BitVec 32 := 16#32
  let v1043 : BitVec 32 := Scalar.muli arg26 c16_i32_302
  let c14_i32 : BitVec 32 := 14#32
  let v1044 : BitVec 32 := Scalar.addi v1043 c14_i32
  let v1055 : Index := Scalar.indexCast v1044
  let c32_305 : Index := 32#32
  ![v1055.toNat, 32]
def k0_off189 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_302 : BitVec 32 := 16#32
  let v1043 : BitVec 32 := Scalar.muli arg26 c16_i32_302
  let c14_i32 : BitVec 32 := 14#32
  let v1044 : BitVec 32 := Scalar.addi v1043 c14_i32
  let v1059 : Index := Scalar.indexCast v1044
  let c48_306 : Index := 48#32
  ![v1059.toNat, 48]
def k0_off190 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_302 : BitVec 32 := 16#32
  let v1043 : BitVec 32 := Scalar.muli arg26 c16_i32_302
  let c14_i32 : BitVec 32 := 14#32
  let v1044 : BitVec 32 := Scalar.addi v1043 c14_i32
  let v1063 : Index := Scalar.indexCast v1044
  let c64_307 : Index := 64#32
  ![v1063.toNat, 64]
def k0_off191 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_302 : BitVec 32 := 16#32
  let v1043 : BitVec 32 := Scalar.muli arg26 c16_i32_302
  let c14_i32 : BitVec 32 := 14#32
  let v1044 : BitVec 32 := Scalar.addi v1043 c14_i32
  let v1067 : Index := Scalar.indexCast v1044
  let c80_308 : Index := 80#32
  ![v1067.toNat, 80]

def k0_chk38 (v1073 : IVec S16 32) : Prop :=
  (∀ a x, ((![v1073] : Fin 1 → IVec S16 32) a x).toNat < S256.size a)
theorem k0_idx46_inb : ∀ (v1073 : IVec S16 32) (k0_hw38 : k0_chk38 v1073), ∀ a x, ((![v1073] : Fin 1 → IVec S16 32) a x).toNat < S256.size a := fun v1073 k0_hw38 => k0_hw38
def k0_off192 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_309 : BitVec 32 := 16#32
  let v1071 : BitVec 32 := Scalar.muli arg26 c16_i32_309
  let c15_i32 : BitVec 32 := 15#32
  let v1072 : BitVec 32 := Scalar.addi v1071 c15_i32
  let v1075 : Index := Scalar.indexCast v1072
  let c0_310 : Index := 0#32
  ![v1075.toNat, 0]
def k0_off193 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_309 : BitVec 32 := 16#32
  let v1071 : BitVec 32 := Scalar.muli arg26 c16_i32_309
  let c15_i32 : BitVec 32 := 15#32
  let v1072 : BitVec 32 := Scalar.addi v1071 c15_i32
  let v1079 : Index := Scalar.indexCast v1072
  let c16_311 : Index := 16#32
  ![v1079.toNat, 16]
def k0_off194 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_309 : BitVec 32 := 16#32
  let v1071 : BitVec 32 := Scalar.muli arg26 c16_i32_309
  let c15_i32 : BitVec 32 := 15#32
  let v1072 : BitVec 32 := Scalar.addi v1071 c15_i32
  let v1083 : Index := Scalar.indexCast v1072
  let c32_312 : Index := 32#32
  ![v1083.toNat, 32]
def k0_off195 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_309 : BitVec 32 := 16#32
  let v1071 : BitVec 32 := Scalar.muli arg26 c16_i32_309
  let c15_i32 : BitVec 32 := 15#32
  let v1072 : BitVec 32 := Scalar.addi v1071 c15_i32
  let v1087 : Index := Scalar.indexCast v1072
  let c48_313 : Index := 48#32
  ![v1087.toNat, 48]
def k0_off196 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_309 : BitVec 32 := 16#32
  let v1071 : BitVec 32 := Scalar.muli arg26 c16_i32_309
  let c15_i32 : BitVec 32 := 15#32
  let v1072 : BitVec 32 := Scalar.addi v1071 c15_i32
  let v1091 : Index := Scalar.indexCast v1072
  let c64_314 : Index := 64#32
  ![v1091.toNat, 64]
def k0_off197 (v18 : BitVec 32) (k0_t7 : Fin (k0_t7_loop v18).trips) : Fin 2 → Nat :=
  let c0_i32_145 : BitVec 32 := 0#32
  let v393 : BitVec 32 := Scalar.subi v18 c0_i32_145
  let c1_i32_146 : BitVec 32 := 1#32
  let v395 : BitVec 32 := Scalar.divsi v393 c1_i32_146
  let v396 : BitVec 32 := Scalar.muli v395 c1_i32_146
  let v397 : BitVec 32 := Scalar.addi c0_i32_145 v396
  let c1_i32_148 : BitVec 32 := 1#32
  let arg26 : BitVec 32 := Scf.iv v397 c1_i32_148 k0_t7
  let c16_i32_309 : BitVec 32 := 16#32
  let v1071 : BitVec 32 := Scalar.muli arg26 c16_i32_309
  let c15_i32 : BitVec 32 := 15#32
  let v1072 : BitVec 32 := Scalar.addi v1071 c15_i32
  let v1095 : Index := Scalar.indexCast v1072
  let c80_315 : Index := 80#32
  ![v1095.toNat, 80]

def k0_chk4_0 (v18 : BitVec 32) : Prop :=
  ((k0_t2_loop v18).OK) ∧
  (∀ k0_t2 : Fin (k0_t2_loop v18).trips, 16 ∣ (k0_mult1 v18 k0_t2).toNat) ∧
  (∀ k0_t2 : Fin (k0_t2_loop v18).trips, ∀ a, (k0_off2 v18 k0_t2) a + S16.size a ≤ S256.size a) ∧
  ((k0_t3_loop v18).OK) ∧
  (∀ k0_t3 : Fin (k0_t3_loop v18).trips, 16 ∣ (k0_mult2 v18 k0_t3).toNat) ∧
  (∀ k0_t3 : Fin (k0_t3_loop v18).trips, ∀ a, (k0_off3 v18 k0_t3) a + S16.size a ≤ S256.size a) ∧
  ((k0_t4_loop v18).OK) ∧
  (∀ k0_t4 : Fin (k0_t4_loop v18).trips, 16 ∣ (k0_mult3 v18 k0_t4).toNat) ∧
  (∀ k0_t4 : Fin (k0_t4_loop v18).trips, ∀ a, (k0_off4 v18 k0_t4) a + S16.size a ≤ S256.size a) ∧
  ((k0_t5_loop v18).OK) ∧
  (∀ k0_t5 : Fin (k0_t5_loop v18).trips, 16 ∣ (k0_mult4 v18 k0_t5).toNat) ∧
  (∀ k0_t5 : Fin (k0_t5_loop v18).trips, ∀ a, (k0_off5 v18 k0_t5) a + S16.size a ≤ S256.size a) ∧
  ((k0_t6_loop v18).OK) ∧
  (∀ k0_t6 : Fin (k0_t6_loop v18).trips, ∀ a, (k0_off6 v18 k0_t6) a + S1x16.size a ≤ S256x128.size a) ∧
  (∀ k0_t6 : Fin (k0_t6_loop v18).trips, ∀ a, (k0_off7 v18 k0_t6) a + S1x16.size a ≤ S256x128.size a) ∧
  (∀ k0_t6 : Fin (k0_t6_loop v18).trips, ∀ a, (k0_off8 v18 k0_t6) a + S1x16.size a ≤ S256x128.size a) ∧
  (∀ k0_t6 : Fin (k0_t6_loop v18).trips, ∀ a, (k0_off9 v18 k0_t6) a + S1x16.size a ≤ S256x128.size a) ∧
  (∀ k0_t6 : Fin (k0_t6_loop v18).trips, ∀ a, (k0_off10 v18 k0_t6) a + S1x16.size a ≤ S256x128.size a) ∧
  (∀ k0_t6 : Fin (k0_t6_loop v18).trips, ∀ a, (k0_off11 v18 k0_t6) a + S1x16.size a ≤ S256x128.size a) ∧
  (∀ k0_t6 : Fin (k0_t6_loop v18).trips, ∀ a, (k0_off12 v18 k0_t6) a + S1x16.size a ≤ S256x128.size a) ∧
  (∀ k0_t6 : Fin (k0_t6_loop v18).trips, ∀ a, (k0_off13 v18 k0_t6) a + S1x16.size a ≤ S256x128.size a) ∧
  (∀ k0_t6 : Fin (k0_t6_loop v18).trips, ∀ a, (k0_off14 v18 k0_t6) a + S1x16.size a ≤ S256x128.size a) ∧
  (∀ k0_t6 : Fin (k0_t6_loop v18).trips, ∀ a, (k0_off15 v18 k0_t6) a + S1x16.size a ≤ S256x128.size a) ∧
  (∀ k0_t6 : Fin (k0_t6_loop v18).trips, ∀ a, (k0_off16 v18 k0_t6) a + S1x16.size a ≤ S256x128.size a) ∧
  (∀ k0_t6 : Fin (k0_t6_loop v18).trips, ∀ a, (k0_off17 v18 k0_t6) a + S1x16.size a ≤ S256x128.size a) ∧
  (∀ k0_t6 : Fin (k0_t6_loop v18).trips, ∀ a, (k0_off18 v18 k0_t6) a + S1x16.size a ≤ S256x128.size a) ∧
  (∀ k0_t6 : Fin (k0_t6_loop v18).trips, ∀ a, (k0_off19 v18 k0_t6) a + S1x16.size a ≤ S256x128.size a) ∧
  (∀ k0_t6 : Fin (k0_t6_loop v18).trips, ∀ a, (k0_off20 v18 k0_t6) a + S1x16.size a ≤ S256x128.size a) ∧
  (∀ k0_t6 : Fin (k0_t6_loop v18).trips, ∀ a, (k0_off21 v18 k0_t6) a + S1x16.size a ≤ S256x128.size a) ∧
  (∀ k0_t6 : Fin (k0_t6_loop v18).trips, ∀ a, (k0_off22 v18 k0_t6) a + S1x16.size a ≤ S256x128.size a) ∧
  (∀ k0_t6 : Fin (k0_t6_loop v18).trips, ∀ a, (k0_off23 v18 k0_t6) a + S1x16.size a ≤ S256x128.size a) ∧
  (∀ k0_t6 : Fin (k0_t6_loop v18).trips, ∀ a, (k0_off24 v18 k0_t6) a + S1x16.size a ≤ S256x128.size a)
def k0_chk4_1 (v18 : BitVec 32) : Prop :=
  (∀ k0_t6 : Fin (k0_t6_loop v18).trips, ∀ a, (k0_off25 v18 k0_t6) a + S1x16.size a ≤ S256x128.size a) ∧
  (∀ k0_t6 : Fin (k0_t6_loop v18).trips, ∀ a, (k0_off26 v18 k0_t6) a + S1x16.size a ≤ S256x128.size a) ∧
  (∀ k0_t6 : Fin (k0_t6_loop v18).trips, ∀ a, (k0_off27 v18 k0_t6) a + S1x16.size a ≤ S256x128.size a) ∧
  (∀ k0_t6 : Fin (k0_t6_loop v18).trips, ∀ a, (k0_off28 v18 k0_t6) a + S1x16.size a ≤ S256x128.size a) ∧
  (∀ k0_t6 : Fin (k0_t6_loop v18).trips, ∀ a, (k0_off29 v18 k0_t6) a + S1x16.size a ≤ S256x128.size a) ∧
  (∀ k0_t6 : Fin (k0_t6_loop v18).trips, ∀ a, (k0_off30 v18 k0_t6) a + S1x16.size a ≤ S256x128.size a) ∧
  (∀ k0_t6 : Fin (k0_t6_loop v18).trips, ∀ a, (k0_off31 v18 k0_t6) a + S1x16.size a ≤ S256x128.size a) ∧
  (∀ k0_t6 : Fin (k0_t6_loop v18).trips, ∀ a, (k0_off32 v18 k0_t6) a + S1x16.size a ≤ S256x128.size a) ∧
  (∀ k0_t6 : Fin (k0_t6_loop v18).trips, ∀ a, (k0_off33 v18 k0_t6) a + S1x16.size a ≤ S256x128.size a) ∧
  (∀ k0_t6 : Fin (k0_t6_loop v18).trips, ∀ a, (k0_off34 v18 k0_t6) a + S1x16.size a ≤ S256x128.size a) ∧
  (∀ k0_t6 : Fin (k0_t6_loop v18).trips, ∀ a, (k0_off35 v18 k0_t6) a + S1x16.size a ≤ S256x128.size a) ∧
  (∀ k0_t6 : Fin (k0_t6_loop v18).trips, ∀ a, (k0_off36 v18 k0_t6) a + S1x16.size a ≤ S256x128.size a) ∧
  (∀ k0_t6 : Fin (k0_t6_loop v18).trips, ∀ a, (k0_off37 v18 k0_t6) a + S1x16.size a ≤ S256x128.size a) ∧
  (∀ k0_t6 : Fin (k0_t6_loop v18).trips, ∀ a, (k0_off38 v18 k0_t6) a + S1x16.size a ≤ S256x128.size a) ∧
  (∀ k0_t6 : Fin (k0_t6_loop v18).trips, ∀ a, (k0_off39 v18 k0_t6) a + S1x16.size a ≤ S256x128.size a) ∧
  (∀ k0_t6 : Fin (k0_t6_loop v18).trips, ∀ a, (k0_off40 v18 k0_t6) a + S1x16.size a ≤ S256x128.size a) ∧
  (∀ k0_t6 : Fin (k0_t6_loop v18).trips, ∀ a, (k0_off41 v18 k0_t6) a + S1x16.size a ≤ S256x128.size a) ∧
  (∀ k0_t6 : Fin (k0_t6_loop v18).trips, ∀ a, (k0_off42 v18 k0_t6) a + S1x16.size a ≤ S256x128.size a) ∧
  (∀ k0_t6 : Fin (k0_t6_loop v18).trips, ∀ a, (k0_off43 v18 k0_t6) a + S1x16.size a ≤ S256x128.size a) ∧
  (∀ k0_t6 : Fin (k0_t6_loop v18).trips, ∀ a, (k0_off44 v18 k0_t6) a + S1x16.size a ≤ S256x128.size a) ∧
  (∀ k0_t6 : Fin (k0_t6_loop v18).trips, ∀ a, (k0_off45 v18 k0_t6) a + S1x16.size a ≤ S256x128.size a) ∧
  (∀ k0_t6 : Fin (k0_t6_loop v18).trips, ∀ a, (k0_off46 v18 k0_t6) a + S1x16.size a ≤ S256x128.size a) ∧
  (∀ k0_t6 : Fin (k0_t6_loop v18).trips, ∀ a, (k0_off47 v18 k0_t6) a + S1x16.size a ≤ S256x128.size a) ∧
  (∀ k0_t6 : Fin (k0_t6_loop v18).trips, ∀ a, (k0_off48 v18 k0_t6) a + S1x16.size a ≤ S256x128.size a) ∧
  (∀ k0_t6 : Fin (k0_t6_loop v18).trips, ∀ a, (k0_off49 v18 k0_t6) a + S1x16.size a ≤ S256x128.size a) ∧
  (∀ k0_t6 : Fin (k0_t6_loop v18).trips, ∀ a, (k0_off50 v18 k0_t6) a + S1x16.size a ≤ S256x128.size a) ∧
  (∀ k0_t6 : Fin (k0_t6_loop v18).trips, ∀ a, (k0_off51 v18 k0_t6) a + S1x16.size a ≤ S256x128.size a) ∧
  (∀ k0_t6 : Fin (k0_t6_loop v18).trips, ∀ a, (k0_off52 v18 k0_t6) a + S1x16.size a ≤ S256x128.size a) ∧
  (∀ k0_t6 : Fin (k0_t6_loop v18).trips, ∀ a, (k0_off53 v18 k0_t6) a + S1x16.size a ≤ S256x128.size a) ∧
  (∀ k0_t6 : Fin (k0_t6_loop v18).trips, ∀ a, (k0_off54 v18 k0_t6) a + S1x16.size a ≤ S256x128.size a) ∧
  (∀ k0_t6 : Fin (k0_t6_loop v18).trips, ∀ a, (k0_off55 v18 k0_t6) a + S1x16.size a ≤ S256x128.size a) ∧
  (∀ k0_t6 : Fin (k0_t6_loop v18).trips, ∀ a, (k0_off56 v18 k0_t6) a + S1x16.size a ≤ S256x128.size a)
def k0_chk4_2 (v18 : BitVec 32) : Prop :=
  (∀ k0_t6 : Fin (k0_t6_loop v18).trips, ∀ a, (k0_off57 v18 k0_t6) a + S1x16.size a ≤ S256x128.size a) ∧
  (∀ k0_t6 : Fin (k0_t6_loop v18).trips, ∀ a, (k0_off58 v18 k0_t6) a + S1x16.size a ≤ S256x128.size a) ∧
  (∀ k0_t6 : Fin (k0_t6_loop v18).trips, ∀ a, (k0_off59 v18 k0_t6) a + S1x16.size a ≤ S256x128.size a) ∧
  (∀ k0_t6 : Fin (k0_t6_loop v18).trips, ∀ a, (k0_off60 v18 k0_t6) a + S1x16.size a ≤ S256x128.size a) ∧
  (∀ k0_t6 : Fin (k0_t6_loop v18).trips, ∀ a, (k0_off61 v18 k0_t6) a + S1x16.size a ≤ S256x128.size a) ∧
  (∀ k0_t6 : Fin (k0_t6_loop v18).trips, ∀ a, (k0_off62 v18 k0_t6) a + S1x16.size a ≤ S256x128.size a) ∧
  (∀ k0_t6 : Fin (k0_t6_loop v18).trips, ∀ a, (k0_off63 v18 k0_t6) a + S1x16.size a ≤ S256x128.size a) ∧
  (∀ k0_t6 : Fin (k0_t6_loop v18).trips, ∀ a, (k0_off64 v18 k0_t6) a + S1x16.size a ≤ S256x128.size a) ∧
  (∀ k0_t6 : Fin (k0_t6_loop v18).trips, ∀ a, (k0_off65 v18 k0_t6) a + S1x16.size a ≤ S256x128.size a) ∧
  (∀ k0_t6 : Fin (k0_t6_loop v18).trips, ∀ a, (k0_off66 v18 k0_t6) a + S1x16.size a ≤ S256x128.size a) ∧
  (∀ k0_t6 : Fin (k0_t6_loop v18).trips, ∀ a, (k0_off67 v18 k0_t6) a + S1x16.size a ≤ S256x128.size a) ∧
  (∀ k0_t6 : Fin (k0_t6_loop v18).trips, ∀ a, (k0_off68 v18 k0_t6) a + S1x16.size a ≤ S256x128.size a) ∧
  (∀ k0_t6 : Fin (k0_t6_loop v18).trips, ∀ a, (k0_off69 v18 k0_t6) a + S1x16.size a ≤ S256x128.size a) ∧
  (∀ k0_t6 : Fin (k0_t6_loop v18).trips, ∀ a, (k0_off70 v18 k0_t6) a + S1x16.size a ≤ S256x128.size a) ∧
  (∀ k0_t6 : Fin (k0_t6_loop v18).trips, ∀ a, (k0_off71 v18 k0_t6) a + S1x16.size a ≤ S256x128.size a) ∧
  (∀ k0_t6 : Fin (k0_t6_loop v18).trips, ∀ a, (k0_off72 v18 k0_t6) a + S1x16.size a ≤ S256x128.size a) ∧
  (∀ k0_t6 : Fin (k0_t6_loop v18).trips, ∀ a, (k0_off73 v18 k0_t6) a + S1x16.size a ≤ S256x128.size a) ∧
  (∀ k0_t6 : Fin (k0_t6_loop v18).trips, ∀ a, (k0_off74 v18 k0_t6) a + S1x16.size a ≤ S256x128.size a) ∧
  (∀ k0_t6 : Fin (k0_t6_loop v18).trips, ∀ a, (k0_off75 v18 k0_t6) a + S1x16.size a ≤ S256x128.size a) ∧
  (∀ k0_t6 : Fin (k0_t6_loop v18).trips, ∀ a, (k0_off76 v18 k0_t6) a + S1x16.size a ≤ S256x128.size a) ∧
  (∀ k0_t6 : Fin (k0_t6_loop v18).trips, ∀ a, (k0_off77 v18 k0_t6) a + S1x16.size a ≤ S256x128.size a) ∧
  (∀ k0_t6 : Fin (k0_t6_loop v18).trips, ∀ a, (k0_off78 v18 k0_t6) a + S1x16.size a ≤ S256x128.size a) ∧
  (∀ k0_t6 : Fin (k0_t6_loop v18).trips, ∀ a, (k0_off79 v18 k0_t6) a + S1x16.size a ≤ S256x128.size a) ∧
  (∀ k0_t6 : Fin (k0_t6_loop v18).trips, ∀ a, (k0_off80 v18 k0_t6) a + S1x16.size a ≤ S256x128.size a) ∧
  (∀ k0_t6 : Fin (k0_t6_loop v18).trips, ∀ a, (k0_off81 v18 k0_t6) a + S1x16.size a ≤ S256x128.size a) ∧
  (∀ k0_t6 : Fin (k0_t6_loop v18).trips, ∀ a, (k0_off82 v18 k0_t6) a + S1x16.size a ≤ S256x128.size a) ∧
  (∀ k0_t6 : Fin (k0_t6_loop v18).trips, ∀ a, (k0_off83 v18 k0_t6) a + S1x16.size a ≤ S256x128.size a) ∧
  (∀ k0_t6 : Fin (k0_t6_loop v18).trips, ∀ a, (k0_off84 v18 k0_t6) a + S1x16.size a ≤ S256x128.size a) ∧
  (∀ k0_t6 : Fin (k0_t6_loop v18).trips, ∀ a, (k0_off85 v18 k0_t6) a + S1x16.size a ≤ S256x128.size a) ∧
  (∀ k0_t6 : Fin (k0_t6_loop v18).trips, ∀ a, (k0_off86 v18 k0_t6) a + S1x16.size a ≤ S256x128.size a) ∧
  (∀ k0_t6 : Fin (k0_t6_loop v18).trips, ∀ a, (k0_off87 v18 k0_t6) a + S1x16.size a ≤ S256x128.size a) ∧
  (∀ k0_t6 : Fin (k0_t6_loop v18).trips, ∀ a, (k0_off88 v18 k0_t6) a + S1x16.size a ≤ S256x128.size a)
def k0_chk4_3 (v18 : BitVec 32) : Prop :=
  (∀ k0_t6 : Fin (k0_t6_loop v18).trips, ∀ a, (k0_off89 v18 k0_t6) a + S1x16.size a ≤ S256x128.size a) ∧
  (∀ k0_t6 : Fin (k0_t6_loop v18).trips, ∀ a, (k0_off90 v18 k0_t6) a + S1x16.size a ≤ S256x128.size a) ∧
  (∀ k0_t6 : Fin (k0_t6_loop v18).trips, ∀ a, (k0_off91 v18 k0_t6) a + S1x16.size a ≤ S256x128.size a) ∧
  (∀ k0_t6 : Fin (k0_t6_loop v18).trips, ∀ a, (k0_off92 v18 k0_t6) a + S1x16.size a ≤ S256x128.size a) ∧
  (∀ k0_t6 : Fin (k0_t6_loop v18).trips, ∀ a, (k0_off93 v18 k0_t6) a + S1x16.size a ≤ S256x128.size a) ∧
  (∀ k0_t6 : Fin (k0_t6_loop v18).trips, ∀ a, (k0_off94 v18 k0_t6) a + S1x16.size a ≤ S256x128.size a) ∧
  (∀ k0_t6 : Fin (k0_t6_loop v18).trips, ∀ a, (k0_off95 v18 k0_t6) a + S1x16.size a ≤ S256x128.size a) ∧
  (∀ k0_t6 : Fin (k0_t6_loop v18).trips, ∀ a, (k0_off96 v18 k0_t6) a + S1x16.size a ≤ S256x128.size a) ∧
  (∀ k0_t6 : Fin (k0_t6_loop v18).trips, ∀ a, (k0_off97 v18 k0_t6) a + S1x16.size a ≤ S256x128.size a) ∧
  (∀ k0_t6 : Fin (k0_t6_loop v18).trips, ∀ a, (k0_off98 v18 k0_t6) a + S1x16.size a ≤ S256x128.size a) ∧
  (∀ k0_t6 : Fin (k0_t6_loop v18).trips, ∀ a, (k0_off99 v18 k0_t6) a + S1x16.size a ≤ S256x128.size a) ∧
  (∀ k0_t6 : Fin (k0_t6_loop v18).trips, ∀ a, (k0_off100 v18 k0_t6) a + S1x16.size a ≤ S256x128.size a) ∧
  (∀ k0_t6 : Fin (k0_t6_loop v18).trips, ∀ a, (k0_off101 v18 k0_t6) a + S1x16.size a ≤ S256x128.size a) ∧
  ((k0_t7_loop v18).OK) ∧
  (∀ k0_t7 : Fin (k0_t7_loop v18).trips, ∀ a, (k0_off102 v18 k0_t7) a + S1x16.size a ≤ S256x128.size a) ∧
  (∀ k0_t7 : Fin (k0_t7_loop v18).trips, ∀ a, (k0_off103 v18 k0_t7) a + S1x16.size a ≤ S256x128.size a) ∧
  (∀ k0_t7 : Fin (k0_t7_loop v18).trips, ∀ a, (k0_off104 v18 k0_t7) a + S1x16.size a ≤ S256x128.size a) ∧
  (∀ k0_t7 : Fin (k0_t7_loop v18).trips, ∀ a, (k0_off105 v18 k0_t7) a + S1x16.size a ≤ S256x128.size a) ∧
  (∀ k0_t7 : Fin (k0_t7_loop v18).trips, ∀ a, (k0_off106 v18 k0_t7) a + S1x16.size a ≤ S256x128.size a) ∧
  (∀ k0_t7 : Fin (k0_t7_loop v18).trips, ∀ a, (k0_off107 v18 k0_t7) a + S1x16.size a ≤ S256x128.size a) ∧
  (∀ k0_t7 : Fin (k0_t7_loop v18).trips, ∀ a, (k0_off108 v18 k0_t7) a + S1x16.size a ≤ S256x128.size a) ∧
  (∀ k0_t7 : Fin (k0_t7_loop v18).trips, ∀ a, (k0_off109 v18 k0_t7) a + S1x16.size a ≤ S256x128.size a) ∧
  (∀ k0_t7 : Fin (k0_t7_loop v18).trips, ∀ a, (k0_off110 v18 k0_t7) a + S1x16.size a ≤ S256x128.size a) ∧
  (∀ k0_t7 : Fin (k0_t7_loop v18).trips, ∀ a, (k0_off111 v18 k0_t7) a + S1x16.size a ≤ S256x128.size a) ∧
  (∀ k0_t7 : Fin (k0_t7_loop v18).trips, ∀ a, (k0_off112 v18 k0_t7) a + S1x16.size a ≤ S256x128.size a) ∧
  (∀ k0_t7 : Fin (k0_t7_loop v18).trips, ∀ a, (k0_off113 v18 k0_t7) a + S1x16.size a ≤ S256x128.size a) ∧
  (∀ k0_t7 : Fin (k0_t7_loop v18).trips, ∀ a, (k0_off114 v18 k0_t7) a + S1x16.size a ≤ S256x128.size a) ∧
  (∀ k0_t7 : Fin (k0_t7_loop v18).trips, ∀ a, (k0_off115 v18 k0_t7) a + S1x16.size a ≤ S256x128.size a) ∧
  (∀ k0_t7 : Fin (k0_t7_loop v18).trips, ∀ a, (k0_off116 v18 k0_t7) a + S1x16.size a ≤ S256x128.size a) ∧
  (∀ k0_t7 : Fin (k0_t7_loop v18).trips, ∀ a, (k0_off117 v18 k0_t7) a + S1x16.size a ≤ S256x128.size a) ∧
  (∀ k0_t7 : Fin (k0_t7_loop v18).trips, ∀ a, (k0_off118 v18 k0_t7) a + S1x16.size a ≤ S256x128.size a) ∧
  (∀ k0_t7 : Fin (k0_t7_loop v18).trips, ∀ a, (k0_off119 v18 k0_t7) a + S1x16.size a ≤ S256x128.size a)
def k0_chk4_4 (v18 : BitVec 32) : Prop :=
  (∀ k0_t7 : Fin (k0_t7_loop v18).trips, ∀ a, (k0_off120 v18 k0_t7) a + S1x16.size a ≤ S256x128.size a) ∧
  (∀ k0_t7 : Fin (k0_t7_loop v18).trips, ∀ a, (k0_off121 v18 k0_t7) a + S1x16.size a ≤ S256x128.size a) ∧
  (∀ k0_t7 : Fin (k0_t7_loop v18).trips, ∀ a, (k0_off122 v18 k0_t7) a + S1x16.size a ≤ S256x128.size a) ∧
  (∀ k0_t7 : Fin (k0_t7_loop v18).trips, ∀ a, (k0_off123 v18 k0_t7) a + S1x16.size a ≤ S256x128.size a) ∧
  (∀ k0_t7 : Fin (k0_t7_loop v18).trips, ∀ a, (k0_off124 v18 k0_t7) a + S1x16.size a ≤ S256x128.size a) ∧
  (∀ k0_t7 : Fin (k0_t7_loop v18).trips, ∀ a, (k0_off125 v18 k0_t7) a + S1x16.size a ≤ S256x128.size a) ∧
  (∀ k0_t7 : Fin (k0_t7_loop v18).trips, ∀ a, (k0_off126 v18 k0_t7) a + S1x16.size a ≤ S256x128.size a) ∧
  (∀ k0_t7 : Fin (k0_t7_loop v18).trips, ∀ a, (k0_off127 v18 k0_t7) a + S1x16.size a ≤ S256x128.size a) ∧
  (∀ k0_t7 : Fin (k0_t7_loop v18).trips, ∀ a, (k0_off128 v18 k0_t7) a + S1x16.size a ≤ S256x128.size a) ∧
  (∀ k0_t7 : Fin (k0_t7_loop v18).trips, ∀ a, (k0_off129 v18 k0_t7) a + S1x16.size a ≤ S256x128.size a) ∧
  (∀ k0_t7 : Fin (k0_t7_loop v18).trips, ∀ a, (k0_off130 v18 k0_t7) a + S1x16.size a ≤ S256x128.size a) ∧
  (∀ k0_t7 : Fin (k0_t7_loop v18).trips, ∀ a, (k0_off131 v18 k0_t7) a + S1x16.size a ≤ S256x128.size a) ∧
  (∀ k0_t7 : Fin (k0_t7_loop v18).trips, ∀ a, (k0_off132 v18 k0_t7) a + S1x16.size a ≤ S256x128.size a) ∧
  (∀ k0_t7 : Fin (k0_t7_loop v18).trips, ∀ a, (k0_off133 v18 k0_t7) a + S1x16.size a ≤ S256x128.size a) ∧
  (∀ k0_t7 : Fin (k0_t7_loop v18).trips, ∀ a, (k0_off134 v18 k0_t7) a + S1x16.size a ≤ S256x128.size a) ∧
  (∀ k0_t7 : Fin (k0_t7_loop v18).trips, ∀ a, (k0_off135 v18 k0_t7) a + S1x16.size a ≤ S256x128.size a) ∧
  (∀ k0_t7 : Fin (k0_t7_loop v18).trips, ∀ a, (k0_off136 v18 k0_t7) a + S1x16.size a ≤ S256x128.size a) ∧
  (∀ k0_t7 : Fin (k0_t7_loop v18).trips, ∀ a, (k0_off137 v18 k0_t7) a + S1x16.size a ≤ S256x128.size a) ∧
  (∀ k0_t7 : Fin (k0_t7_loop v18).trips, ∀ a, (k0_off138 v18 k0_t7) a + S1x16.size a ≤ S256x128.size a) ∧
  (∀ k0_t7 : Fin (k0_t7_loop v18).trips, ∀ a, (k0_off139 v18 k0_t7) a + S1x16.size a ≤ S256x128.size a) ∧
  (∀ k0_t7 : Fin (k0_t7_loop v18).trips, ∀ a, (k0_off140 v18 k0_t7) a + S1x16.size a ≤ S256x128.size a) ∧
  (∀ k0_t7 : Fin (k0_t7_loop v18).trips, ∀ a, (k0_off141 v18 k0_t7) a + S1x16.size a ≤ S256x128.size a) ∧
  (∀ k0_t7 : Fin (k0_t7_loop v18).trips, ∀ a, (k0_off142 v18 k0_t7) a + S1x16.size a ≤ S256x128.size a) ∧
  (∀ k0_t7 : Fin (k0_t7_loop v18).trips, ∀ a, (k0_off143 v18 k0_t7) a + S1x16.size a ≤ S256x128.size a) ∧
  (∀ k0_t7 : Fin (k0_t7_loop v18).trips, ∀ a, (k0_off144 v18 k0_t7) a + S1x16.size a ≤ S256x128.size a) ∧
  (∀ k0_t7 : Fin (k0_t7_loop v18).trips, ∀ a, (k0_off145 v18 k0_t7) a + S1x16.size a ≤ S256x128.size a) ∧
  (∀ k0_t7 : Fin (k0_t7_loop v18).trips, ∀ a, (k0_off146 v18 k0_t7) a + S1x16.size a ≤ S256x128.size a) ∧
  (∀ k0_t7 : Fin (k0_t7_loop v18).trips, ∀ a, (k0_off147 v18 k0_t7) a + S1x16.size a ≤ S256x128.size a) ∧
  (∀ k0_t7 : Fin (k0_t7_loop v18).trips, ∀ a, (k0_off148 v18 k0_t7) a + S1x16.size a ≤ S256x128.size a) ∧
  (∀ k0_t7 : Fin (k0_t7_loop v18).trips, ∀ a, (k0_off149 v18 k0_t7) a + S1x16.size a ≤ S256x128.size a) ∧
  (∀ k0_t7 : Fin (k0_t7_loop v18).trips, ∀ a, (k0_off150 v18 k0_t7) a + S1x16.size a ≤ S256x128.size a) ∧
  (∀ k0_t7 : Fin (k0_t7_loop v18).trips, ∀ a, (k0_off151 v18 k0_t7) a + S1x16.size a ≤ S256x128.size a)
def k0_chk4_5 (v18 : BitVec 32) : Prop :=
  (∀ k0_t7 : Fin (k0_t7_loop v18).trips, ∀ a, (k0_off152 v18 k0_t7) a + S1x16.size a ≤ S256x128.size a) ∧
  (∀ k0_t7 : Fin (k0_t7_loop v18).trips, ∀ a, (k0_off153 v18 k0_t7) a + S1x16.size a ≤ S256x128.size a) ∧
  (∀ k0_t7 : Fin (k0_t7_loop v18).trips, ∀ a, (k0_off154 v18 k0_t7) a + S1x16.size a ≤ S256x128.size a) ∧
  (∀ k0_t7 : Fin (k0_t7_loop v18).trips, ∀ a, (k0_off155 v18 k0_t7) a + S1x16.size a ≤ S256x128.size a) ∧
  (∀ k0_t7 : Fin (k0_t7_loop v18).trips, ∀ a, (k0_off156 v18 k0_t7) a + S1x16.size a ≤ S256x128.size a) ∧
  (∀ k0_t7 : Fin (k0_t7_loop v18).trips, ∀ a, (k0_off157 v18 k0_t7) a + S1x16.size a ≤ S256x128.size a) ∧
  (∀ k0_t7 : Fin (k0_t7_loop v18).trips, ∀ a, (k0_off158 v18 k0_t7) a + S1x16.size a ≤ S256x128.size a) ∧
  (∀ k0_t7 : Fin (k0_t7_loop v18).trips, ∀ a, (k0_off159 v18 k0_t7) a + S1x16.size a ≤ S256x128.size a) ∧
  (∀ k0_t7 : Fin (k0_t7_loop v18).trips, ∀ a, (k0_off160 v18 k0_t7) a + S1x16.size a ≤ S256x128.size a) ∧
  (∀ k0_t7 : Fin (k0_t7_loop v18).trips, ∀ a, (k0_off161 v18 k0_t7) a + S1x16.size a ≤ S256x128.size a) ∧
  (∀ k0_t7 : Fin (k0_t7_loop v18).trips, ∀ a, (k0_off162 v18 k0_t7) a + S1x16.size a ≤ S256x128.size a) ∧
  (∀ k0_t7 : Fin (k0_t7_loop v18).trips, ∀ a, (k0_off163 v18 k0_t7) a + S1x16.size a ≤ S256x128.size a) ∧
  (∀ k0_t7 : Fin (k0_t7_loop v18).trips, ∀ a, (k0_off164 v18 k0_t7) a + S1x16.size a ≤ S256x128.size a) ∧
  (∀ k0_t7 : Fin (k0_t7_loop v18).trips, ∀ a, (k0_off165 v18 k0_t7) a + S1x16.size a ≤ S256x128.size a) ∧
  (∀ k0_t7 : Fin (k0_t7_loop v18).trips, ∀ a, (k0_off166 v18 k0_t7) a + S1x16.size a ≤ S256x128.size a) ∧
  (∀ k0_t7 : Fin (k0_t7_loop v18).trips, ∀ a, (k0_off167 v18 k0_t7) a + S1x16.size a ≤ S256x128.size a) ∧
  (∀ k0_t7 : Fin (k0_t7_loop v18).trips, ∀ a, (k0_off168 v18 k0_t7) a + S1x16.size a ≤ S256x128.size a) ∧
  (∀ k0_t7 : Fin (k0_t7_loop v18).trips, ∀ a, (k0_off169 v18 k0_t7) a + S1x16.size a ≤ S256x128.size a) ∧
  (∀ k0_t7 : Fin (k0_t7_loop v18).trips, ∀ a, (k0_off170 v18 k0_t7) a + S1x16.size a ≤ S256x128.size a) ∧
  (∀ k0_t7 : Fin (k0_t7_loop v18).trips, ∀ a, (k0_off171 v18 k0_t7) a + S1x16.size a ≤ S256x128.size a) ∧
  (∀ k0_t7 : Fin (k0_t7_loop v18).trips, ∀ a, (k0_off172 v18 k0_t7) a + S1x16.size a ≤ S256x128.size a) ∧
  (∀ k0_t7 : Fin (k0_t7_loop v18).trips, ∀ a, (k0_off173 v18 k0_t7) a + S1x16.size a ≤ S256x128.size a) ∧
  (∀ k0_t7 : Fin (k0_t7_loop v18).trips, ∀ a, (k0_off174 v18 k0_t7) a + S1x16.size a ≤ S256x128.size a) ∧
  (∀ k0_t7 : Fin (k0_t7_loop v18).trips, ∀ a, (k0_off175 v18 k0_t7) a + S1x16.size a ≤ S256x128.size a) ∧
  (∀ k0_t7 : Fin (k0_t7_loop v18).trips, ∀ a, (k0_off176 v18 k0_t7) a + S1x16.size a ≤ S256x128.size a) ∧
  (∀ k0_t7 : Fin (k0_t7_loop v18).trips, ∀ a, (k0_off177 v18 k0_t7) a + S1x16.size a ≤ S256x128.size a) ∧
  (∀ k0_t7 : Fin (k0_t7_loop v18).trips, ∀ a, (k0_off178 v18 k0_t7) a + S1x16.size a ≤ S256x128.size a) ∧
  (∀ k0_t7 : Fin (k0_t7_loop v18).trips, ∀ a, (k0_off179 v18 k0_t7) a + S1x16.size a ≤ S256x128.size a) ∧
  (∀ k0_t7 : Fin (k0_t7_loop v18).trips, ∀ a, (k0_off180 v18 k0_t7) a + S1x16.size a ≤ S256x128.size a) ∧
  (∀ k0_t7 : Fin (k0_t7_loop v18).trips, ∀ a, (k0_off181 v18 k0_t7) a + S1x16.size a ≤ S256x128.size a) ∧
  (∀ k0_t7 : Fin (k0_t7_loop v18).trips, ∀ a, (k0_off182 v18 k0_t7) a + S1x16.size a ≤ S256x128.size a) ∧
  (∀ k0_t7 : Fin (k0_t7_loop v18).trips, ∀ a, (k0_off183 v18 k0_t7) a + S1x16.size a ≤ S256x128.size a)
def k0_chk4_6 (v18 : BitVec 32) : Prop :=
  (∀ k0_t7 : Fin (k0_t7_loop v18).trips, ∀ a, (k0_off184 v18 k0_t7) a + S1x16.size a ≤ S256x128.size a) ∧
  (∀ k0_t7 : Fin (k0_t7_loop v18).trips, ∀ a, (k0_off185 v18 k0_t7) a + S1x16.size a ≤ S256x128.size a) ∧
  (∀ k0_t7 : Fin (k0_t7_loop v18).trips, ∀ a, (k0_off186 v18 k0_t7) a + S1x16.size a ≤ S256x128.size a) ∧
  (∀ k0_t7 : Fin (k0_t7_loop v18).trips, ∀ a, (k0_off187 v18 k0_t7) a + S1x16.size a ≤ S256x128.size a) ∧
  (∀ k0_t7 : Fin (k0_t7_loop v18).trips, ∀ a, (k0_off188 v18 k0_t7) a + S1x16.size a ≤ S256x128.size a) ∧
  (∀ k0_t7 : Fin (k0_t7_loop v18).trips, ∀ a, (k0_off189 v18 k0_t7) a + S1x16.size a ≤ S256x128.size a) ∧
  (∀ k0_t7 : Fin (k0_t7_loop v18).trips, ∀ a, (k0_off190 v18 k0_t7) a + S1x16.size a ≤ S256x128.size a) ∧
  (∀ k0_t7 : Fin (k0_t7_loop v18).trips, ∀ a, (k0_off191 v18 k0_t7) a + S1x16.size a ≤ S256x128.size a) ∧
  (∀ k0_t7 : Fin (k0_t7_loop v18).trips, ∀ a, (k0_off192 v18 k0_t7) a + S1x16.size a ≤ S256x128.size a) ∧
  (∀ k0_t7 : Fin (k0_t7_loop v18).trips, ∀ a, (k0_off193 v18 k0_t7) a + S1x16.size a ≤ S256x128.size a) ∧
  (∀ k0_t7 : Fin (k0_t7_loop v18).trips, ∀ a, (k0_off194 v18 k0_t7) a + S1x16.size a ≤ S256x128.size a) ∧
  (∀ k0_t7 : Fin (k0_t7_loop v18).trips, ∀ a, (k0_off195 v18 k0_t7) a + S1x16.size a ≤ S256x128.size a) ∧
  (∀ k0_t7 : Fin (k0_t7_loop v18).trips, ∀ a, (k0_off196 v18 k0_t7) a + S1x16.size a ≤ S256x128.size a) ∧
  (∀ k0_t7 : Fin (k0_t7_loop v18).trips, ∀ a, (k0_off197 v18 k0_t7) a + S1x16.size a ≤ S256x128.size a)
def k0_chk4 (v18 : BitVec 32) : Prop :=
  k0_chk4_0 v18 ∧
  k0_chk4_1 v18 ∧
  k0_chk4_2 v18 ∧
  k0_chk4_3 v18 ∧
  k0_chk4_4 v18 ∧
  k0_chk4_5 v18 ∧
  k0_chk4_6 v18
theorem k0_t2_ok : ∀ (v18 : BitVec 32) (k0_hw4 : k0_chk4 v18), (k0_t2_loop v18).OK := fun v18 k0_hw4 => k0_hw4.1.1
theorem k0_mult1_dvd : ∀ (v18 : BitVec 32) (k0_hw4 : k0_chk4 v18) (k0_t2 : Fin (k0_t2_loop v18).trips), 16 ∣ (k0_mult1 v18 k0_t2).toNat := fun v18 k0_hw4 k0_t2 => k0_hw4.1.2.1 k0_t2
theorem k0_off2_inb : ∀ (v18 : BitVec 32) (k0_hw4 : k0_chk4 v18) (k0_t2 : Fin (k0_t2_loop v18).trips), ∀ a, (k0_off2 v18 k0_t2) a + S16.size a ≤ S256.size a := fun v18 k0_hw4 k0_t2 => k0_hw4.1.2.2.1 k0_t2
theorem k0_t3_ok : ∀ (v18 : BitVec 32) (k0_hw4 : k0_chk4 v18), (k0_t3_loop v18).OK := fun v18 k0_hw4 => k0_hw4.1.2.2.2.1
theorem k0_mult2_dvd : ∀ (v18 : BitVec 32) (k0_hw4 : k0_chk4 v18) (k0_t3 : Fin (k0_t3_loop v18).trips), 16 ∣ (k0_mult2 v18 k0_t3).toNat := fun v18 k0_hw4 k0_t3 => k0_hw4.1.2.2.2.2.1 k0_t3
theorem k0_off3_inb : ∀ (v18 : BitVec 32) (k0_hw4 : k0_chk4 v18) (k0_t3 : Fin (k0_t3_loop v18).trips), ∀ a, (k0_off3 v18 k0_t3) a + S16.size a ≤ S256.size a := fun v18 k0_hw4 k0_t3 => k0_hw4.1.2.2.2.2.2.1 k0_t3
theorem k0_t4_ok : ∀ (v18 : BitVec 32) (k0_hw4 : k0_chk4 v18), (k0_t4_loop v18).OK := fun v18 k0_hw4 => k0_hw4.1.2.2.2.2.2.2.1
theorem k0_mult3_dvd : ∀ (v18 : BitVec 32) (k0_hw4 : k0_chk4 v18) (k0_t4 : Fin (k0_t4_loop v18).trips), 16 ∣ (k0_mult3 v18 k0_t4).toNat := fun v18 k0_hw4 k0_t4 => k0_hw4.1.2.2.2.2.2.2.2.1 k0_t4
theorem k0_off4_inb : ∀ (v18 : BitVec 32) (k0_hw4 : k0_chk4 v18) (k0_t4 : Fin (k0_t4_loop v18).trips), ∀ a, (k0_off4 v18 k0_t4) a + S16.size a ≤ S256.size a := fun v18 k0_hw4 k0_t4 => k0_hw4.1.2.2.2.2.2.2.2.2.1 k0_t4
theorem k0_t5_ok : ∀ (v18 : BitVec 32) (k0_hw4 : k0_chk4 v18), (k0_t5_loop v18).OK := fun v18 k0_hw4 => k0_hw4.1.2.2.2.2.2.2.2.2.2.1
theorem k0_mult4_dvd : ∀ (v18 : BitVec 32) (k0_hw4 : k0_chk4 v18) (k0_t5 : Fin (k0_t5_loop v18).trips), 16 ∣ (k0_mult4 v18 k0_t5).toNat := fun v18 k0_hw4 k0_t5 => k0_hw4.1.2.2.2.2.2.2.2.2.2.2.1 k0_t5
theorem k0_off5_inb : ∀ (v18 : BitVec 32) (k0_hw4 : k0_chk4 v18) (k0_t5 : Fin (k0_t5_loop v18).trips), ∀ a, (k0_off5 v18 k0_t5) a + S16.size a ≤ S256.size a := fun v18 k0_hw4 k0_t5 => k0_hw4.1.2.2.2.2.2.2.2.2.2.2.2.1 k0_t5
theorem k0_t6_ok : ∀ (v18 : BitVec 32) (k0_hw4 : k0_chk4 v18), (k0_t6_loop v18).OK := fun v18 k0_hw4 => k0_hw4.1.2.2.2.2.2.2.2.2.2.2.2.2.1
theorem k0_off6_inb : ∀ (v18 : BitVec 32) (k0_hw4 : k0_chk4 v18) (k0_t6 : Fin (k0_t6_loop v18).trips), ∀ a, (k0_off6 v18 k0_t6) a + S1x16.size a ≤ S256x128.size a := fun v18 k0_hw4 k0_t6 => k0_hw4.1.2.2.2.2.2.2.2.2.2.2.2.2.2.1 k0_t6
theorem k0_off7_inb : ∀ (v18 : BitVec 32) (k0_hw4 : k0_chk4 v18) (k0_t6 : Fin (k0_t6_loop v18).trips), ∀ a, (k0_off7 v18 k0_t6) a + S1x16.size a ≤ S256x128.size a := fun v18 k0_hw4 k0_t6 => k0_hw4.1.2.2.2.2.2.2.2.2.2.2.2.2.2.2.1 k0_t6
theorem k0_off8_inb : ∀ (v18 : BitVec 32) (k0_hw4 : k0_chk4 v18) (k0_t6 : Fin (k0_t6_loop v18).trips), ∀ a, (k0_off8 v18 k0_t6) a + S1x16.size a ≤ S256x128.size a := fun v18 k0_hw4 k0_t6 => k0_hw4.1.2.2.2.2.2.2.2.2.2.2.2.2.2.2.2.1 k0_t6
theorem k0_off9_inb : ∀ (v18 : BitVec 32) (k0_hw4 : k0_chk4 v18) (k0_t6 : Fin (k0_t6_loop v18).trips), ∀ a, (k0_off9 v18 k0_t6) a + S1x16.size a ≤ S256x128.size a := fun v18 k0_hw4 k0_t6 => k0_hw4.1.2.2.2.2.2.2.2.2.2.2.2.2.2.2.2.2.1 k0_t6
theorem k0_off10_inb : ∀ (v18 : BitVec 32) (k0_hw4 : k0_chk4 v18) (k0_t6 : Fin (k0_t6_loop v18).trips), ∀ a, (k0_off10 v18 k0_t6) a + S1x16.size a ≤ S256x128.size a := fun v18 k0_hw4 k0_t6 => k0_hw4.1.2.2.2.2.2.2.2.2.2.2.2.2.2.2.2.2.2.1 k0_t6
theorem k0_off11_inb : ∀ (v18 : BitVec 32) (k0_hw4 : k0_chk4 v18) (k0_t6 : Fin (k0_t6_loop v18).trips), ∀ a, (k0_off11 v18 k0_t6) a + S1x16.size a ≤ S256x128.size a := fun v18 k0_hw4 k0_t6 => k0_hw4.1.2.2.2.2.2.2.2.2.2.2.2.2.2.2.2.2.2.2.1 k0_t6
theorem k0_off12_inb : ∀ (v18 : BitVec 32) (k0_hw4 : k0_chk4 v18) (k0_t6 : Fin (k0_t6_loop v18).trips), ∀ a, (k0_off12 v18 k0_t6) a + S1x16.size a ≤ S256x128.size a := fun v18 k0_hw4 k0_t6 => k0_hw4.1.2.2.2.2.2.2.2.2.2.2.2.2.2.2.2.2.2.2.2.1 k0_t6
theorem k0_off13_inb : ∀ (v18 : BitVec 32) (k0_hw4 : k0_chk4 v18) (k0_t6 : Fin (k0_t6_loop v18).trips), ∀ a, (k0_off13 v18 k0_t6) a + S1x16.size a ≤ S256x128.size a := fun v18 k0_hw4 k0_t6 => k0_hw4.1.2.2.2.2.2.2.2.2.2.2.2.2.2.2.2.2.2.2.2.2.1 k0_t6
theorem k0_off14_inb : ∀ (v18 : BitVec 32) (k0_hw4 : k0_chk4 v18) (k0_t6 : Fin (k0_t6_loop v18).trips), ∀ a, (k0_off14 v18 k0_t6) a + S1x16.size a ≤ S256x128.size a := fun v18 k0_hw4 k0_t6 => k0_hw4.1.2.2.2.2.2.2.2.2.2.2.2.2.2.2.2.2.2.2.2.2.2.1 k0_t6
theorem k0_off15_inb : ∀ (v18 : BitVec 32) (k0_hw4 : k0_chk4 v18) (k0_t6 : Fin (k0_t6_loop v18).trips), ∀ a, (k0_off15 v18 k0_t6) a + S1x16.size a ≤ S256x128.size a := fun v18 k0_hw4 k0_t6 => k0_hw4.1.2.2.2.2.2.2.2.2.2.2.2.2.2.2.2.2.2.2.2.2.2.2.1 k0_t6
theorem k0_off16_inb : ∀ (v18 : BitVec 32) (k0_hw4 : k0_chk4 v18) (k0_t6 : Fin (k0_t6_loop v18).trips), ∀ a, (k0_off16 v18 k0_t6) a + S1x16.size a ≤ S256x128.size a := fun v18 k0_hw4 k0_t6 => k0_hw4.1.2.2.2.2.2.2.2.2.2.2.2.2.2.2.2.2.2.2.2.2.2.2.2.1 k0_t6
theorem k0_off17_inb : ∀ (v18 : BitVec 32) (k0_hw4 : k0_chk4 v18) (k0_t6 : Fin (k0_t6_loop v18).trips), ∀ a, (k0_off17 v18 k0_t6) a + S1x16.size a ≤ S256x128.size a := fun v18 k0_hw4 k0_t6 => k0_hw4.1.2.2.2.2.2.2.2.2.2.2.2.2.2.2.2.2.2.2.2.2.2.2.2.2.1 k0_t6
theorem k0_off18_inb : ∀ (v18 : BitVec 32) (k0_hw4 : k0_chk4 v18) (k0_t6 : Fin (k0_t6_loop v18).trips), ∀ a, (k0_off18 v18 k0_t6) a + S1x16.size a ≤ S256x128.size a := fun v18 k0_hw4 k0_t6 => k0_hw4.1.2.2.2.2.2.2.2.2.2.2.2.2.2.2.2.2.2.2.2.2.2.2.2.2.2.1 k0_t6
theorem k0_off19_inb : ∀ (v18 : BitVec 32) (k0_hw4 : k0_chk4 v18) (k0_t6 : Fin (k0_t6_loop v18).trips), ∀ a, (k0_off19 v18 k0_t6) a + S1x16.size a ≤ S256x128.size a := fun v18 k0_hw4 k0_t6 => k0_hw4.1.2.2.2.2.2.2.2.2.2.2.2.2.2.2.2.2.2.2.2.2.2.2.2.2.2.2.1 k0_t6
theorem k0_off20_inb : ∀ (v18 : BitVec 32) (k0_hw4 : k0_chk4 v18) (k0_t6 : Fin (k0_t6_loop v18).trips), ∀ a, (k0_off20 v18 k0_t6) a + S1x16.size a ≤ S256x128.size a := fun v18 k0_hw4 k0_t6 => k0_hw4.1.2.2.2.2.2.2.2.2.2.2.2.2.2.2.2.2.2.2.2.2.2.2.2.2.2.2.2.1 k0_t6
theorem k0_off21_inb : ∀ (v18 : BitVec 32) (k0_hw4 : k0_chk4 v18) (k0_t6 : Fin (k0_t6_loop v18).trips), ∀ a, (k0_off21 v18 k0_t6) a + S1x16.size a ≤ S256x128.size a := fun v18 k0_hw4 k0_t6 => k0_hw4.1.2.2.2.2.2.2.2.2.2.2.2.2.2.2.2.2.2.2.2.2.2.2.2.2.2.2.2.2.1 k0_t6
theorem k0_off22_inb : ∀ (v18 : BitVec 32) (k0_hw4 : k0_chk4 v18) (k0_t6 : Fin (k0_t6_loop v18).trips), ∀ a, (k0_off22 v18 k0_t6) a + S1x16.size a ≤ S256x128.size a := fun v18 k0_hw4 k0_t6 => k0_hw4.1.2.2.2.2.2.2.2.2.2.2.2.2.2.2.2.2.2.2.2.2.2.2.2.2.2.2.2.2.2.1 k0_t6
theorem k0_off23_inb : ∀ (v18 : BitVec 32) (k0_hw4 : k0_chk4 v18) (k0_t6 : Fin (k0_t6_loop v18).trips), ∀ a, (k0_off23 v18 k0_t6) a + S1x16.size a ≤ S256x128.size a := fun v18 k0_hw4 k0_t6 => k0_hw4.1.2.2.2.2.2.2.2.2.2.2.2.2.2.2.2.2.2.2.2.2.2.2.2.2.2.2.2.2.2.2.1 k0_t6
theorem k0_off24_inb : ∀ (v18 : BitVec 32) (k0_hw4 : k0_chk4 v18) (k0_t6 : Fin (k0_t6_loop v18).trips), ∀ a, (k0_off24 v18 k0_t6) a + S1x16.size a ≤ S256x128.size a := fun v18 k0_hw4 k0_t6 => k0_hw4.1.2.2.2.2.2.2.2.2.2.2.2.2.2.2.2.2.2.2.2.2.2.2.2.2.2.2.2.2.2.2.2 k0_t6
theorem k0_off25_inb : ∀ (v18 : BitVec 32) (k0_hw4 : k0_chk4 v18) (k0_t6 : Fin (k0_t6_loop v18).trips), ∀ a, (k0_off25 v18 k0_t6) a + S1x16.size a ≤ S256x128.size a := fun v18 k0_hw4 k0_t6 => k0_hw4.2.1.1 k0_t6
theorem k0_off26_inb : ∀ (v18 : BitVec 32) (k0_hw4 : k0_chk4 v18) (k0_t6 : Fin (k0_t6_loop v18).trips), ∀ a, (k0_off26 v18 k0_t6) a + S1x16.size a ≤ S256x128.size a := fun v18 k0_hw4 k0_t6 => k0_hw4.2.1.2.1 k0_t6
theorem k0_off27_inb : ∀ (v18 : BitVec 32) (k0_hw4 : k0_chk4 v18) (k0_t6 : Fin (k0_t6_loop v18).trips), ∀ a, (k0_off27 v18 k0_t6) a + S1x16.size a ≤ S256x128.size a := fun v18 k0_hw4 k0_t6 => k0_hw4.2.1.2.2.1 k0_t6
theorem k0_off28_inb : ∀ (v18 : BitVec 32) (k0_hw4 : k0_chk4 v18) (k0_t6 : Fin (k0_t6_loop v18).trips), ∀ a, (k0_off28 v18 k0_t6) a + S1x16.size a ≤ S256x128.size a := fun v18 k0_hw4 k0_t6 => k0_hw4.2.1.2.2.2.1 k0_t6
theorem k0_off29_inb : ∀ (v18 : BitVec 32) (k0_hw4 : k0_chk4 v18) (k0_t6 : Fin (k0_t6_loop v18).trips), ∀ a, (k0_off29 v18 k0_t6) a + S1x16.size a ≤ S256x128.size a := fun v18 k0_hw4 k0_t6 => k0_hw4.2.1.2.2.2.2.1 k0_t6
theorem k0_off30_inb : ∀ (v18 : BitVec 32) (k0_hw4 : k0_chk4 v18) (k0_t6 : Fin (k0_t6_loop v18).trips), ∀ a, (k0_off30 v18 k0_t6) a + S1x16.size a ≤ S256x128.size a := fun v18 k0_hw4 k0_t6 => k0_hw4.2.1.2.2.2.2.2.1 k0_t6
theorem k0_off31_inb : ∀ (v18 : BitVec 32) (k0_hw4 : k0_chk4 v18) (k0_t6 : Fin (k0_t6_loop v18).trips), ∀ a, (k0_off31 v18 k0_t6) a + S1x16.size a ≤ S256x128.size a := fun v18 k0_hw4 k0_t6 => k0_hw4.2.1.2.2.2.2.2.2.1 k0_t6
theorem k0_off32_inb : ∀ (v18 : BitVec 32) (k0_hw4 : k0_chk4 v18) (k0_t6 : Fin (k0_t6_loop v18).trips), ∀ a, (k0_off32 v18 k0_t6) a + S1x16.size a ≤ S256x128.size a := fun v18 k0_hw4 k0_t6 => k0_hw4.2.1.2.2.2.2.2.2.2.1 k0_t6
theorem k0_off33_inb : ∀ (v18 : BitVec 32) (k0_hw4 : k0_chk4 v18) (k0_t6 : Fin (k0_t6_loop v18).trips), ∀ a, (k0_off33 v18 k0_t6) a + S1x16.size a ≤ S256x128.size a := fun v18 k0_hw4 k0_t6 => k0_hw4.2.1.2.2.2.2.2.2.2.2.1 k0_t6
theorem k0_off34_inb : ∀ (v18 : BitVec 32) (k0_hw4 : k0_chk4 v18) (k0_t6 : Fin (k0_t6_loop v18).trips), ∀ a, (k0_off34 v18 k0_t6) a + S1x16.size a ≤ S256x128.size a := fun v18 k0_hw4 k0_t6 => k0_hw4.2.1.2.2.2.2.2.2.2.2.2.1 k0_t6
theorem k0_off35_inb : ∀ (v18 : BitVec 32) (k0_hw4 : k0_chk4 v18) (k0_t6 : Fin (k0_t6_loop v18).trips), ∀ a, (k0_off35 v18 k0_t6) a + S1x16.size a ≤ S256x128.size a := fun v18 k0_hw4 k0_t6 => k0_hw4.2.1.2.2.2.2.2.2.2.2.2.2.1 k0_t6
theorem k0_off36_inb : ∀ (v18 : BitVec 32) (k0_hw4 : k0_chk4 v18) (k0_t6 : Fin (k0_t6_loop v18).trips), ∀ a, (k0_off36 v18 k0_t6) a + S1x16.size a ≤ S256x128.size a := fun v18 k0_hw4 k0_t6 => k0_hw4.2.1.2.2.2.2.2.2.2.2.2.2.2.1 k0_t6
theorem k0_off37_inb : ∀ (v18 : BitVec 32) (k0_hw4 : k0_chk4 v18) (k0_t6 : Fin (k0_t6_loop v18).trips), ∀ a, (k0_off37 v18 k0_t6) a + S1x16.size a ≤ S256x128.size a := fun v18 k0_hw4 k0_t6 => k0_hw4.2.1.2.2.2.2.2.2.2.2.2.2.2.2.1 k0_t6
theorem k0_off38_inb : ∀ (v18 : BitVec 32) (k0_hw4 : k0_chk4 v18) (k0_t6 : Fin (k0_t6_loop v18).trips), ∀ a, (k0_off38 v18 k0_t6) a + S1x16.size a ≤ S256x128.size a := fun v18 k0_hw4 k0_t6 => k0_hw4.2.1.2.2.2.2.2.2.2.2.2.2.2.2.2.1 k0_t6
theorem k0_off39_inb : ∀ (v18 : BitVec 32) (k0_hw4 : k0_chk4 v18) (k0_t6 : Fin (k0_t6_loop v18).trips), ∀ a, (k0_off39 v18 k0_t6) a + S1x16.size a ≤ S256x128.size a := fun v18 k0_hw4 k0_t6 => k0_hw4.2.1.2.2.2.2.2.2.2.2.2.2.2.2.2.2.1 k0_t6
theorem k0_off40_inb : ∀ (v18 : BitVec 32) (k0_hw4 : k0_chk4 v18) (k0_t6 : Fin (k0_t6_loop v18).trips), ∀ a, (k0_off40 v18 k0_t6) a + S1x16.size a ≤ S256x128.size a := fun v18 k0_hw4 k0_t6 => k0_hw4.2.1.2.2.2.2.2.2.2.2.2.2.2.2.2.2.2.1 k0_t6
theorem k0_off41_inb : ∀ (v18 : BitVec 32) (k0_hw4 : k0_chk4 v18) (k0_t6 : Fin (k0_t6_loop v18).trips), ∀ a, (k0_off41 v18 k0_t6) a + S1x16.size a ≤ S256x128.size a := fun v18 k0_hw4 k0_t6 => k0_hw4.2.1.2.2.2.2.2.2.2.2.2.2.2.2.2.2.2.2.1 k0_t6
theorem k0_off42_inb : ∀ (v18 : BitVec 32) (k0_hw4 : k0_chk4 v18) (k0_t6 : Fin (k0_t6_loop v18).trips), ∀ a, (k0_off42 v18 k0_t6) a + S1x16.size a ≤ S256x128.size a := fun v18 k0_hw4 k0_t6 => k0_hw4.2.1.2.2.2.2.2.2.2.2.2.2.2.2.2.2.2.2.2.1 k0_t6
theorem k0_off43_inb : ∀ (v18 : BitVec 32) (k0_hw4 : k0_chk4 v18) (k0_t6 : Fin (k0_t6_loop v18).trips), ∀ a, (k0_off43 v18 k0_t6) a + S1x16.size a ≤ S256x128.size a := fun v18 k0_hw4 k0_t6 => k0_hw4.2.1.2.2.2.2.2.2.2.2.2.2.2.2.2.2.2.2.2.2.1 k0_t6
theorem k0_off44_inb : ∀ (v18 : BitVec 32) (k0_hw4 : k0_chk4 v18) (k0_t6 : Fin (k0_t6_loop v18).trips), ∀ a, (k0_off44 v18 k0_t6) a + S1x16.size a ≤ S256x128.size a := fun v18 k0_hw4 k0_t6 => k0_hw4.2.1.2.2.2.2.2.2.2.2.2.2.2.2.2.2.2.2.2.2.2.1 k0_t6
theorem k0_off45_inb : ∀ (v18 : BitVec 32) (k0_hw4 : k0_chk4 v18) (k0_t6 : Fin (k0_t6_loop v18).trips), ∀ a, (k0_off45 v18 k0_t6) a + S1x16.size a ≤ S256x128.size a := fun v18 k0_hw4 k0_t6 => k0_hw4.2.1.2.2.2.2.2.2.2.2.2.2.2.2.2.2.2.2.2.2.2.2.1 k0_t6
theorem k0_off46_inb : ∀ (v18 : BitVec 32) (k0_hw4 : k0_chk4 v18) (k0_t6 : Fin (k0_t6_loop v18).trips), ∀ a, (k0_off46 v18 k0_t6) a + S1x16.size a ≤ S256x128.size a := fun v18 k0_hw4 k0_t6 => k0_hw4.2.1.2.2.2.2.2.2.2.2.2.2.2.2.2.2.2.2.2.2.2.2.2.1 k0_t6
theorem k0_off47_inb : ∀ (v18 : BitVec 32) (k0_hw4 : k0_chk4 v18) (k0_t6 : Fin (k0_t6_loop v18).trips), ∀ a, (k0_off47 v18 k0_t6) a + S1x16.size a ≤ S256x128.size a := fun v18 k0_hw4 k0_t6 => k0_hw4.2.1.2.2.2.2.2.2.2.2.2.2.2.2.2.2.2.2.2.2.2.2.2.2.1 k0_t6
theorem k0_off48_inb : ∀ (v18 : BitVec 32) (k0_hw4 : k0_chk4 v18) (k0_t6 : Fin (k0_t6_loop v18).trips), ∀ a, (k0_off48 v18 k0_t6) a + S1x16.size a ≤ S256x128.size a := fun v18 k0_hw4 k0_t6 => k0_hw4.2.1.2.2.2.2.2.2.2.2.2.2.2.2.2.2.2.2.2.2.2.2.2.2.2.1 k0_t6
theorem k0_off49_inb : ∀ (v18 : BitVec 32) (k0_hw4 : k0_chk4 v18) (k0_t6 : Fin (k0_t6_loop v18).trips), ∀ a, (k0_off49 v18 k0_t6) a + S1x16.size a ≤ S256x128.size a := fun v18 k0_hw4 k0_t6 => k0_hw4.2.1.2.2.2.2.2.2.2.2.2.2.2.2.2.2.2.2.2.2.2.2.2.2.2.2.1 k0_t6
theorem k0_off50_inb : ∀ (v18 : BitVec 32) (k0_hw4 : k0_chk4 v18) (k0_t6 : Fin (k0_t6_loop v18).trips), ∀ a, (k0_off50 v18 k0_t6) a + S1x16.size a ≤ S256x128.size a := fun v18 k0_hw4 k0_t6 => k0_hw4.2.1.2.2.2.2.2.2.2.2.2.2.2.2.2.2.2.2.2.2.2.2.2.2.2.2.2.1 k0_t6
theorem k0_off51_inb : ∀ (v18 : BitVec 32) (k0_hw4 : k0_chk4 v18) (k0_t6 : Fin (k0_t6_loop v18).trips), ∀ a, (k0_off51 v18 k0_t6) a + S1x16.size a ≤ S256x128.size a := fun v18 k0_hw4 k0_t6 => k0_hw4.2.1.2.2.2.2.2.2.2.2.2.2.2.2.2.2.2.2.2.2.2.2.2.2.2.2.2.2.1 k0_t6
theorem k0_off52_inb : ∀ (v18 : BitVec 32) (k0_hw4 : k0_chk4 v18) (k0_t6 : Fin (k0_t6_loop v18).trips), ∀ a, (k0_off52 v18 k0_t6) a + S1x16.size a ≤ S256x128.size a := fun v18 k0_hw4 k0_t6 => k0_hw4.2.1.2.2.2.2.2.2.2.2.2.2.2.2.2.2.2.2.2.2.2.2.2.2.2.2.2.2.2.1 k0_t6
theorem k0_off53_inb : ∀ (v18 : BitVec 32) (k0_hw4 : k0_chk4 v18) (k0_t6 : Fin (k0_t6_loop v18).trips), ∀ a, (k0_off53 v18 k0_t6) a + S1x16.size a ≤ S256x128.size a := fun v18 k0_hw4 k0_t6 => k0_hw4.2.1.2.2.2.2.2.2.2.2.2.2.2.2.2.2.2.2.2.2.2.2.2.2.2.2.2.2.2.2.1 k0_t6
theorem k0_off54_inb : ∀ (v18 : BitVec 32) (k0_hw4 : k0_chk4 v18) (k0_t6 : Fin (k0_t6_loop v18).trips), ∀ a, (k0_off54 v18 k0_t6) a + S1x16.size a ≤ S256x128.size a := fun v18 k0_hw4 k0_t6 => k0_hw4.2.1.2.2.2.2.2.2.2.2.2.2.2.2.2.2.2.2.2.2.2.2.2.2.2.2.2.2.2.2.2.1 k0_t6
theorem k0_off55_inb : ∀ (v18 : BitVec 32) (k0_hw4 : k0_chk4 v18) (k0_t6 : Fin (k0_t6_loop v18).trips), ∀ a, (k0_off55 v18 k0_t6) a + S1x16.size a ≤ S256x128.size a := fun v18 k0_hw4 k0_t6 => k0_hw4.2.1.2.2.2.2.2.2.2.2.2.2.2.2.2.2.2.2.2.2.2.2.2.2.2.2.2.2.2.2.2.2.1 k0_t6
theorem k0_off56_inb : ∀ (v18 : BitVec 32) (k0_hw4 : k0_chk4 v18) (k0_t6 : Fin (k0_t6_loop v18).trips), ∀ a, (k0_off56 v18 k0_t6) a + S1x16.size a ≤ S256x128.size a := fun v18 k0_hw4 k0_t6 => k0_hw4.2.1.2.2.2.2.2.2.2.2.2.2.2.2.2.2.2.2.2.2.2.2.2.2.2.2.2.2.2.2.2.2.2 k0_t6
theorem k0_off57_inb : ∀ (v18 : BitVec 32) (k0_hw4 : k0_chk4 v18) (k0_t6 : Fin (k0_t6_loop v18).trips), ∀ a, (k0_off57 v18 k0_t6) a + S1x16.size a ≤ S256x128.size a := fun v18 k0_hw4 k0_t6 => k0_hw4.2.2.1.1 k0_t6
theorem k0_off58_inb : ∀ (v18 : BitVec 32) (k0_hw4 : k0_chk4 v18) (k0_t6 : Fin (k0_t6_loop v18).trips), ∀ a, (k0_off58 v18 k0_t6) a + S1x16.size a ≤ S256x128.size a := fun v18 k0_hw4 k0_t6 => k0_hw4.2.2.1.2.1 k0_t6
theorem k0_off59_inb : ∀ (v18 : BitVec 32) (k0_hw4 : k0_chk4 v18) (k0_t6 : Fin (k0_t6_loop v18).trips), ∀ a, (k0_off59 v18 k0_t6) a + S1x16.size a ≤ S256x128.size a := fun v18 k0_hw4 k0_t6 => k0_hw4.2.2.1.2.2.1 k0_t6
theorem k0_off60_inb : ∀ (v18 : BitVec 32) (k0_hw4 : k0_chk4 v18) (k0_t6 : Fin (k0_t6_loop v18).trips), ∀ a, (k0_off60 v18 k0_t6) a + S1x16.size a ≤ S256x128.size a := fun v18 k0_hw4 k0_t6 => k0_hw4.2.2.1.2.2.2.1 k0_t6
theorem k0_off61_inb : ∀ (v18 : BitVec 32) (k0_hw4 : k0_chk4 v18) (k0_t6 : Fin (k0_t6_loop v18).trips), ∀ a, (k0_off61 v18 k0_t6) a + S1x16.size a ≤ S256x128.size a := fun v18 k0_hw4 k0_t6 => k0_hw4.2.2.1.2.2.2.2.1 k0_t6
theorem k0_off62_inb : ∀ (v18 : BitVec 32) (k0_hw4 : k0_chk4 v18) (k0_t6 : Fin (k0_t6_loop v18).trips), ∀ a, (k0_off62 v18 k0_t6) a + S1x16.size a ≤ S256x128.size a := fun v18 k0_hw4 k0_t6 => k0_hw4.2.2.1.2.2.2.2.2.1 k0_t6
theorem k0_off63_inb : ∀ (v18 : BitVec 32) (k0_hw4 : k0_chk4 v18) (k0_t6 : Fin (k0_t6_loop v18).trips), ∀ a, (k0_off63 v18 k0_t6) a + S1x16.size a ≤ S256x128.size a := fun v18 k0_hw4 k0_t6 => k0_hw4.2.2.1.2.2.2.2.2.2.1 k0_t6
theorem k0_off64_inb : ∀ (v18 : BitVec 32) (k0_hw4 : k0_chk4 v18) (k0_t6 : Fin (k0_t6_loop v18).trips), ∀ a, (k0_off64 v18 k0_t6) a + S1x16.size a ≤ S256x128.size a := fun v18 k0_hw4 k0_t6 => k0_hw4.2.2.1.2.2.2.2.2.2.2.1 k0_t6
theorem k0_off65_inb : ∀ (v18 : BitVec 32) (k0_hw4 : k0_chk4 v18) (k0_t6 : Fin (k0_t6_loop v18).trips), ∀ a, (k0_off65 v18 k0_t6) a + S1x16.size a ≤ S256x128.size a := fun v18 k0_hw4 k0_t6 => k0_hw4.2.2.1.2.2.2.2.2.2.2.2.1 k0_t6
theorem k0_off66_inb : ∀ (v18 : BitVec 32) (k0_hw4 : k0_chk4 v18) (k0_t6 : Fin (k0_t6_loop v18).trips), ∀ a, (k0_off66 v18 k0_t6) a + S1x16.size a ≤ S256x128.size a := fun v18 k0_hw4 k0_t6 => k0_hw4.2.2.1.2.2.2.2.2.2.2.2.2.1 k0_t6
theorem k0_off67_inb : ∀ (v18 : BitVec 32) (k0_hw4 : k0_chk4 v18) (k0_t6 : Fin (k0_t6_loop v18).trips), ∀ a, (k0_off67 v18 k0_t6) a + S1x16.size a ≤ S256x128.size a := fun v18 k0_hw4 k0_t6 => k0_hw4.2.2.1.2.2.2.2.2.2.2.2.2.2.1 k0_t6
theorem k0_off68_inb : ∀ (v18 : BitVec 32) (k0_hw4 : k0_chk4 v18) (k0_t6 : Fin (k0_t6_loop v18).trips), ∀ a, (k0_off68 v18 k0_t6) a + S1x16.size a ≤ S256x128.size a := fun v18 k0_hw4 k0_t6 => k0_hw4.2.2.1.2.2.2.2.2.2.2.2.2.2.2.1 k0_t6
theorem k0_off69_inb : ∀ (v18 : BitVec 32) (k0_hw4 : k0_chk4 v18) (k0_t6 : Fin (k0_t6_loop v18).trips), ∀ a, (k0_off69 v18 k0_t6) a + S1x16.size a ≤ S256x128.size a := fun v18 k0_hw4 k0_t6 => k0_hw4.2.2.1.2.2.2.2.2.2.2.2.2.2.2.2.1 k0_t6
theorem k0_off70_inb : ∀ (v18 : BitVec 32) (k0_hw4 : k0_chk4 v18) (k0_t6 : Fin (k0_t6_loop v18).trips), ∀ a, (k0_off70 v18 k0_t6) a + S1x16.size a ≤ S256x128.size a := fun v18 k0_hw4 k0_t6 => k0_hw4.2.2.1.2.2.2.2.2.2.2.2.2.2.2.2.2.1 k0_t6
theorem k0_off71_inb : ∀ (v18 : BitVec 32) (k0_hw4 : k0_chk4 v18) (k0_t6 : Fin (k0_t6_loop v18).trips), ∀ a, (k0_off71 v18 k0_t6) a + S1x16.size a ≤ S256x128.size a := fun v18 k0_hw4 k0_t6 => k0_hw4.2.2.1.2.2.2.2.2.2.2.2.2.2.2.2.2.2.1 k0_t6
theorem k0_off72_inb : ∀ (v18 : BitVec 32) (k0_hw4 : k0_chk4 v18) (k0_t6 : Fin (k0_t6_loop v18).trips), ∀ a, (k0_off72 v18 k0_t6) a + S1x16.size a ≤ S256x128.size a := fun v18 k0_hw4 k0_t6 => k0_hw4.2.2.1.2.2.2.2.2.2.2.2.2.2.2.2.2.2.2.1 k0_t6
theorem k0_off73_inb : ∀ (v18 : BitVec 32) (k0_hw4 : k0_chk4 v18) (k0_t6 : Fin (k0_t6_loop v18).trips), ∀ a, (k0_off73 v18 k0_t6) a + S1x16.size a ≤ S256x128.size a := fun v18 k0_hw4 k0_t6 => k0_hw4.2.2.1.2.2.2.2.2.2.2.2.2.2.2.2.2.2.2.2.1 k0_t6
theorem k0_off74_inb : ∀ (v18 : BitVec 32) (k0_hw4 : k0_chk4 v18) (k0_t6 : Fin (k0_t6_loop v18).trips), ∀ a, (k0_off74 v18 k0_t6) a + S1x16.size a ≤ S256x128.size a := fun v18 k0_hw4 k0_t6 => k0_hw4.2.2.1.2.2.2.2.2.2.2.2.2.2.2.2.2.2.2.2.2.1 k0_t6
theorem k0_off75_inb : ∀ (v18 : BitVec 32) (k0_hw4 : k0_chk4 v18) (k0_t6 : Fin (k0_t6_loop v18).trips), ∀ a, (k0_off75 v18 k0_t6) a + S1x16.size a ≤ S256x128.size a := fun v18 k0_hw4 k0_t6 => k0_hw4.2.2.1.2.2.2.2.2.2.2.2.2.2.2.2.2.2.2.2.2.2.1 k0_t6
theorem k0_off76_inb : ∀ (v18 : BitVec 32) (k0_hw4 : k0_chk4 v18) (k0_t6 : Fin (k0_t6_loop v18).trips), ∀ a, (k0_off76 v18 k0_t6) a + S1x16.size a ≤ S256x128.size a := fun v18 k0_hw4 k0_t6 => k0_hw4.2.2.1.2.2.2.2.2.2.2.2.2.2.2.2.2.2.2.2.2.2.2.1 k0_t6
theorem k0_off77_inb : ∀ (v18 : BitVec 32) (k0_hw4 : k0_chk4 v18) (k0_t6 : Fin (k0_t6_loop v18).trips), ∀ a, (k0_off77 v18 k0_t6) a + S1x16.size a ≤ S256x128.size a := fun v18 k0_hw4 k0_t6 => k0_hw4.2.2.1.2.2.2.2.2.2.2.2.2.2.2.2.2.2.2.2.2.2.2.2.1 k0_t6
theorem k0_off78_inb : ∀ (v18 : BitVec 32) (k0_hw4 : k0_chk4 v18) (k0_t6 : Fin (k0_t6_loop v18).trips), ∀ a, (k0_off78 v18 k0_t6) a + S1x16.size a ≤ S256x128.size a := fun v18 k0_hw4 k0_t6 => k0_hw4.2.2.1.2.2.2.2.2.2.2.2.2.2.2.2.2.2.2.2.2.2.2.2.2.1 k0_t6
theorem k0_off79_inb : ∀ (v18 : BitVec 32) (k0_hw4 : k0_chk4 v18) (k0_t6 : Fin (k0_t6_loop v18).trips), ∀ a, (k0_off79 v18 k0_t6) a + S1x16.size a ≤ S256x128.size a := fun v18 k0_hw4 k0_t6 => k0_hw4.2.2.1.2.2.2.2.2.2.2.2.2.2.2.2.2.2.2.2.2.2.2.2.2.2.1 k0_t6
theorem k0_off80_inb : ∀ (v18 : BitVec 32) (k0_hw4 : k0_chk4 v18) (k0_t6 : Fin (k0_t6_loop v18).trips), ∀ a, (k0_off80 v18 k0_t6) a + S1x16.size a ≤ S256x128.size a := fun v18 k0_hw4 k0_t6 => k0_hw4.2.2.1.2.2.2.2.2.2.2.2.2.2.2.2.2.2.2.2.2.2.2.2.2.2.2.1 k0_t6
theorem k0_off81_inb : ∀ (v18 : BitVec 32) (k0_hw4 : k0_chk4 v18) (k0_t6 : Fin (k0_t6_loop v18).trips), ∀ a, (k0_off81 v18 k0_t6) a + S1x16.size a ≤ S256x128.size a := fun v18 k0_hw4 k0_t6 => k0_hw4.2.2.1.2.2.2.2.2.2.2.2.2.2.2.2.2.2.2.2.2.2.2.2.2.2.2.2.1 k0_t6
theorem k0_off82_inb : ∀ (v18 : BitVec 32) (k0_hw4 : k0_chk4 v18) (k0_t6 : Fin (k0_t6_loop v18).trips), ∀ a, (k0_off82 v18 k0_t6) a + S1x16.size a ≤ S256x128.size a := fun v18 k0_hw4 k0_t6 => k0_hw4.2.2.1.2.2.2.2.2.2.2.2.2.2.2.2.2.2.2.2.2.2.2.2.2.2.2.2.2.1 k0_t6
theorem k0_off83_inb : ∀ (v18 : BitVec 32) (k0_hw4 : k0_chk4 v18) (k0_t6 : Fin (k0_t6_loop v18).trips), ∀ a, (k0_off83 v18 k0_t6) a + S1x16.size a ≤ S256x128.size a := fun v18 k0_hw4 k0_t6 => k0_hw4.2.2.1.2.2.2.2.2.2.2.2.2.2.2.2.2.2.2.2.2.2.2.2.2.2.2.2.2.2.1 k0_t6
theorem k0_off84_inb : ∀ (v18 : BitVec 32) (k0_hw4 : k0_chk4 v18) (k0_t6 : Fin (k0_t6_loop v18).trips), ∀ a, (k0_off84 v18 k0_t6) a + S1x16.size a ≤ S256x128.size a := fun v18 k0_hw4 k0_t6 => k0_hw4.2.2.1.2.2.2.2.2.2.2.2.2.2.2.2.2.2.2.2.2.2.2.2.2.2.2.2.2.2.2.1 k0_t6
theorem k0_off85_inb : ∀ (v18 : BitVec 32) (k0_hw4 : k0_chk4 v18) (k0_t6 : Fin (k0_t6_loop v18).trips), ∀ a, (k0_off85 v18 k0_t6) a + S1x16.size a ≤ S256x128.size a := fun v18 k0_hw4 k0_t6 => k0_hw4.2.2.1.2.2.2.2.2.2.2.2.2.2.2.2.2.2.2.2.2.2.2.2.2.2.2.2.2.2.2.2.1 k0_t6
theorem k0_off86_inb : ∀ (v18 : BitVec 32) (k0_hw4 : k0_chk4 v18) (k0_t6 : Fin (k0_t6_loop v18).trips), ∀ a, (k0_off86 v18 k0_t6) a + S1x16.size a ≤ S256x128.size a := fun v18 k0_hw4 k0_t6 => k0_hw4.2.2.1.2.2.2.2.2.2.2.2.2.2.2.2.2.2.2.2.2.2.2.2.2.2.2.2.2.2.2.2.2.1 k0_t6
theorem k0_off87_inb : ∀ (v18 : BitVec 32) (k0_hw4 : k0_chk4 v18) (k0_t6 : Fin (k0_t6_loop v18).trips), ∀ a, (k0_off87 v18 k0_t6) a + S1x16.size a ≤ S256x128.size a := fun v18 k0_hw4 k0_t6 => k0_hw4.2.2.1.2.2.2.2.2.2.2.2.2.2.2.2.2.2.2.2.2.2.2.2.2.2.2.2.2.2.2.2.2.2.1 k0_t6
theorem k0_off88_inb : ∀ (v18 : BitVec 32) (k0_hw4 : k0_chk4 v18) (k0_t6 : Fin (k0_t6_loop v18).trips), ∀ a, (k0_off88 v18 k0_t6) a + S1x16.size a ≤ S256x128.size a := fun v18 k0_hw4 k0_t6 => k0_hw4.2.2.1.2.2.2.2.2.2.2.2.2.2.2.2.2.2.2.2.2.2.2.2.2.2.2.2.2.2.2.2.2.2.2 k0_t6
theorem k0_off89_inb : ∀ (v18 : BitVec 32) (k0_hw4 : k0_chk4 v18) (k0_t6 : Fin (k0_t6_loop v18).trips), ∀ a, (k0_off89 v18 k0_t6) a + S1x16.size a ≤ S256x128.size a := fun v18 k0_hw4 k0_t6 => k0_hw4.2.2.2.1.1 k0_t6
theorem k0_off90_inb : ∀ (v18 : BitVec 32) (k0_hw4 : k0_chk4 v18) (k0_t6 : Fin (k0_t6_loop v18).trips), ∀ a, (k0_off90 v18 k0_t6) a + S1x16.size a ≤ S256x128.size a := fun v18 k0_hw4 k0_t6 => k0_hw4.2.2.2.1.2.1 k0_t6
theorem k0_off91_inb : ∀ (v18 : BitVec 32) (k0_hw4 : k0_chk4 v18) (k0_t6 : Fin (k0_t6_loop v18).trips), ∀ a, (k0_off91 v18 k0_t6) a + S1x16.size a ≤ S256x128.size a := fun v18 k0_hw4 k0_t6 => k0_hw4.2.2.2.1.2.2.1 k0_t6
theorem k0_off92_inb : ∀ (v18 : BitVec 32) (k0_hw4 : k0_chk4 v18) (k0_t6 : Fin (k0_t6_loop v18).trips), ∀ a, (k0_off92 v18 k0_t6) a + S1x16.size a ≤ S256x128.size a := fun v18 k0_hw4 k0_t6 => k0_hw4.2.2.2.1.2.2.2.1 k0_t6
theorem k0_off93_inb : ∀ (v18 : BitVec 32) (k0_hw4 : k0_chk4 v18) (k0_t6 : Fin (k0_t6_loop v18).trips), ∀ a, (k0_off93 v18 k0_t6) a + S1x16.size a ≤ S256x128.size a := fun v18 k0_hw4 k0_t6 => k0_hw4.2.2.2.1.2.2.2.2.1 k0_t6
theorem k0_off94_inb : ∀ (v18 : BitVec 32) (k0_hw4 : k0_chk4 v18) (k0_t6 : Fin (k0_t6_loop v18).trips), ∀ a, (k0_off94 v18 k0_t6) a + S1x16.size a ≤ S256x128.size a := fun v18 k0_hw4 k0_t6 => k0_hw4.2.2.2.1.2.2.2.2.2.1 k0_t6
theorem k0_off95_inb : ∀ (v18 : BitVec 32) (k0_hw4 : k0_chk4 v18) (k0_t6 : Fin (k0_t6_loop v18).trips), ∀ a, (k0_off95 v18 k0_t6) a + S1x16.size a ≤ S256x128.size a := fun v18 k0_hw4 k0_t6 => k0_hw4.2.2.2.1.2.2.2.2.2.2.1 k0_t6
theorem k0_off96_inb : ∀ (v18 : BitVec 32) (k0_hw4 : k0_chk4 v18) (k0_t6 : Fin (k0_t6_loop v18).trips), ∀ a, (k0_off96 v18 k0_t6) a + S1x16.size a ≤ S256x128.size a := fun v18 k0_hw4 k0_t6 => k0_hw4.2.2.2.1.2.2.2.2.2.2.2.1 k0_t6
theorem k0_off97_inb : ∀ (v18 : BitVec 32) (k0_hw4 : k0_chk4 v18) (k0_t6 : Fin (k0_t6_loop v18).trips), ∀ a, (k0_off97 v18 k0_t6) a + S1x16.size a ≤ S256x128.size a := fun v18 k0_hw4 k0_t6 => k0_hw4.2.2.2.1.2.2.2.2.2.2.2.2.1 k0_t6
theorem k0_off98_inb : ∀ (v18 : BitVec 32) (k0_hw4 : k0_chk4 v18) (k0_t6 : Fin (k0_t6_loop v18).trips), ∀ a, (k0_off98 v18 k0_t6) a + S1x16.size a ≤ S256x128.size a := fun v18 k0_hw4 k0_t6 => k0_hw4.2.2.2.1.2.2.2.2.2.2.2.2.2.1 k0_t6
theorem k0_off99_inb : ∀ (v18 : BitVec 32) (k0_hw4 : k0_chk4 v18) (k0_t6 : Fin (k0_t6_loop v18).trips), ∀ a, (k0_off99 v18 k0_t6) a + S1x16.size a ≤ S256x128.size a := fun v18 k0_hw4 k0_t6 => k0_hw4.2.2.2.1.2.2.2.2.2.2.2.2.2.2.1 k0_t6
theorem k0_off100_inb : ∀ (v18 : BitVec 32) (k0_hw4 : k0_chk4 v18) (k0_t6 : Fin (k0_t6_loop v18).trips), ∀ a, (k0_off100 v18 k0_t6) a + S1x16.size a ≤ S256x128.size a := fun v18 k0_hw4 k0_t6 => k0_hw4.2.2.2.1.2.2.2.2.2.2.2.2.2.2.2.1 k0_t6
theorem k0_off101_inb : ∀ (v18 : BitVec 32) (k0_hw4 : k0_chk4 v18) (k0_t6 : Fin (k0_t6_loop v18).trips), ∀ a, (k0_off101 v18 k0_t6) a + S1x16.size a ≤ S256x128.size a := fun v18 k0_hw4 k0_t6 => k0_hw4.2.2.2.1.2.2.2.2.2.2.2.2.2.2.2.2.1 k0_t6
theorem k0_t7_ok : ∀ (v18 : BitVec 32) (k0_hw4 : k0_chk4 v18), (k0_t7_loop v18).OK := fun v18 k0_hw4 => k0_hw4.2.2.2.1.2.2.2.2.2.2.2.2.2.2.2.2.2.1
theorem k0_off102_inb : ∀ (v18 : BitVec 32) (k0_hw4 : k0_chk4 v18) (k0_t7 : Fin (k0_t7_loop v18).trips), ∀ a, (k0_off102 v18 k0_t7) a + S1x16.size a ≤ S256x128.size a := fun v18 k0_hw4 k0_t7 => k0_hw4.2.2.2.1.2.2.2.2.2.2.2.2.2.2.2.2.2.2.1 k0_t7
theorem k0_off103_inb : ∀ (v18 : BitVec 32) (k0_hw4 : k0_chk4 v18) (k0_t7 : Fin (k0_t7_loop v18).trips), ∀ a, (k0_off103 v18 k0_t7) a + S1x16.size a ≤ S256x128.size a := fun v18 k0_hw4 k0_t7 => k0_hw4.2.2.2.1.2.2.2.2.2.2.2.2.2.2.2.2.2.2.2.1 k0_t7
theorem k0_off104_inb : ∀ (v18 : BitVec 32) (k0_hw4 : k0_chk4 v18) (k0_t7 : Fin (k0_t7_loop v18).trips), ∀ a, (k0_off104 v18 k0_t7) a + S1x16.size a ≤ S256x128.size a := fun v18 k0_hw4 k0_t7 => k0_hw4.2.2.2.1.2.2.2.2.2.2.2.2.2.2.2.2.2.2.2.2.1 k0_t7
theorem k0_off105_inb : ∀ (v18 : BitVec 32) (k0_hw4 : k0_chk4 v18) (k0_t7 : Fin (k0_t7_loop v18).trips), ∀ a, (k0_off105 v18 k0_t7) a + S1x16.size a ≤ S256x128.size a := fun v18 k0_hw4 k0_t7 => k0_hw4.2.2.2.1.2.2.2.2.2.2.2.2.2.2.2.2.2.2.2.2.2.1 k0_t7
theorem k0_off106_inb : ∀ (v18 : BitVec 32) (k0_hw4 : k0_chk4 v18) (k0_t7 : Fin (k0_t7_loop v18).trips), ∀ a, (k0_off106 v18 k0_t7) a + S1x16.size a ≤ S256x128.size a := fun v18 k0_hw4 k0_t7 => k0_hw4.2.2.2.1.2.2.2.2.2.2.2.2.2.2.2.2.2.2.2.2.2.2.1 k0_t7
theorem k0_off107_inb : ∀ (v18 : BitVec 32) (k0_hw4 : k0_chk4 v18) (k0_t7 : Fin (k0_t7_loop v18).trips), ∀ a, (k0_off107 v18 k0_t7) a + S1x16.size a ≤ S256x128.size a := fun v18 k0_hw4 k0_t7 => k0_hw4.2.2.2.1.2.2.2.2.2.2.2.2.2.2.2.2.2.2.2.2.2.2.2.1 k0_t7
theorem k0_off108_inb : ∀ (v18 : BitVec 32) (k0_hw4 : k0_chk4 v18) (k0_t7 : Fin (k0_t7_loop v18).trips), ∀ a, (k0_off108 v18 k0_t7) a + S1x16.size a ≤ S256x128.size a := fun v18 k0_hw4 k0_t7 => k0_hw4.2.2.2.1.2.2.2.2.2.2.2.2.2.2.2.2.2.2.2.2.2.2.2.2.1 k0_t7
theorem k0_off109_inb : ∀ (v18 : BitVec 32) (k0_hw4 : k0_chk4 v18) (k0_t7 : Fin (k0_t7_loop v18).trips), ∀ a, (k0_off109 v18 k0_t7) a + S1x16.size a ≤ S256x128.size a := fun v18 k0_hw4 k0_t7 => k0_hw4.2.2.2.1.2.2.2.2.2.2.2.2.2.2.2.2.2.2.2.2.2.2.2.2.2.1 k0_t7
theorem k0_off110_inb : ∀ (v18 : BitVec 32) (k0_hw4 : k0_chk4 v18) (k0_t7 : Fin (k0_t7_loop v18).trips), ∀ a, (k0_off110 v18 k0_t7) a + S1x16.size a ≤ S256x128.size a := fun v18 k0_hw4 k0_t7 => k0_hw4.2.2.2.1.2.2.2.2.2.2.2.2.2.2.2.2.2.2.2.2.2.2.2.2.2.2.1 k0_t7
theorem k0_off111_inb : ∀ (v18 : BitVec 32) (k0_hw4 : k0_chk4 v18) (k0_t7 : Fin (k0_t7_loop v18).trips), ∀ a, (k0_off111 v18 k0_t7) a + S1x16.size a ≤ S256x128.size a := fun v18 k0_hw4 k0_t7 => k0_hw4.2.2.2.1.2.2.2.2.2.2.2.2.2.2.2.2.2.2.2.2.2.2.2.2.2.2.2.1 k0_t7
theorem k0_off112_inb : ∀ (v18 : BitVec 32) (k0_hw4 : k0_chk4 v18) (k0_t7 : Fin (k0_t7_loop v18).trips), ∀ a, (k0_off112 v18 k0_t7) a + S1x16.size a ≤ S256x128.size a := fun v18 k0_hw4 k0_t7 => k0_hw4.2.2.2.1.2.2.2.2.2.2.2.2.2.2.2.2.2.2.2.2.2.2.2.2.2.2.2.2.1 k0_t7
theorem k0_off113_inb : ∀ (v18 : BitVec 32) (k0_hw4 : k0_chk4 v18) (k0_t7 : Fin (k0_t7_loop v18).trips), ∀ a, (k0_off113 v18 k0_t7) a + S1x16.size a ≤ S256x128.size a := fun v18 k0_hw4 k0_t7 => k0_hw4.2.2.2.1.2.2.2.2.2.2.2.2.2.2.2.2.2.2.2.2.2.2.2.2.2.2.2.2.2.1 k0_t7
theorem k0_off114_inb : ∀ (v18 : BitVec 32) (k0_hw4 : k0_chk4 v18) (k0_t7 : Fin (k0_t7_loop v18).trips), ∀ a, (k0_off114 v18 k0_t7) a + S1x16.size a ≤ S256x128.size a := fun v18 k0_hw4 k0_t7 => k0_hw4.2.2.2.1.2.2.2.2.2.2.2.2.2.2.2.2.2.2.2.2.2.2.2.2.2.2.2.2.2.2.1 k0_t7
theorem k0_off115_inb : ∀ (v18 : BitVec 32) (k0_hw4 : k0_chk4 v18) (k0_t7 : Fin (k0_t7_loop v18).trips), ∀ a, (k0_off115 v18 k0_t7) a + S1x16.size a ≤ S256x128.size a := fun v18 k0_hw4 k0_t7 => k0_hw4.2.2.2.1.2.2.2.2.2.2.2.2.2.2.2.2.2.2.2.2.2.2.2.2.2.2.2.2.2.2.2.1 k0_t7
theorem k0_off116_inb : ∀ (v18 : BitVec 32) (k0_hw4 : k0_chk4 v18) (k0_t7 : Fin (k0_t7_loop v18).trips), ∀ a, (k0_off116 v18 k0_t7) a + S1x16.size a ≤ S256x128.size a := fun v18 k0_hw4 k0_t7 => k0_hw4.2.2.2.1.2.2.2.2.2.2.2.2.2.2.2.2.2.2.2.2.2.2.2.2.2.2.2.2.2.2.2.2.1 k0_t7
theorem k0_off117_inb : ∀ (v18 : BitVec 32) (k0_hw4 : k0_chk4 v18) (k0_t7 : Fin (k0_t7_loop v18).trips), ∀ a, (k0_off117 v18 k0_t7) a + S1x16.size a ≤ S256x128.size a := fun v18 k0_hw4 k0_t7 => k0_hw4.2.2.2.1.2.2.2.2.2.2.2.2.2.2.2.2.2.2.2.2.2.2.2.2.2.2.2.2.2.2.2.2.2.1 k0_t7
theorem k0_off118_inb : ∀ (v18 : BitVec 32) (k0_hw4 : k0_chk4 v18) (k0_t7 : Fin (k0_t7_loop v18).trips), ∀ a, (k0_off118 v18 k0_t7) a + S1x16.size a ≤ S256x128.size a := fun v18 k0_hw4 k0_t7 => k0_hw4.2.2.2.1.2.2.2.2.2.2.2.2.2.2.2.2.2.2.2.2.2.2.2.2.2.2.2.2.2.2.2.2.2.2.1 k0_t7
theorem k0_off119_inb : ∀ (v18 : BitVec 32) (k0_hw4 : k0_chk4 v18) (k0_t7 : Fin (k0_t7_loop v18).trips), ∀ a, (k0_off119 v18 k0_t7) a + S1x16.size a ≤ S256x128.size a := fun v18 k0_hw4 k0_t7 => k0_hw4.2.2.2.1.2.2.2.2.2.2.2.2.2.2.2.2.2.2.2.2.2.2.2.2.2.2.2.2.2.2.2.2.2.2.2 k0_t7
theorem k0_off120_inb : ∀ (v18 : BitVec 32) (k0_hw4 : k0_chk4 v18) (k0_t7 : Fin (k0_t7_loop v18).trips), ∀ a, (k0_off120 v18 k0_t7) a + S1x16.size a ≤ S256x128.size a := fun v18 k0_hw4 k0_t7 => k0_hw4.2.2.2.2.1.1 k0_t7
theorem k0_off121_inb : ∀ (v18 : BitVec 32) (k0_hw4 : k0_chk4 v18) (k0_t7 : Fin (k0_t7_loop v18).trips), ∀ a, (k0_off121 v18 k0_t7) a + S1x16.size a ≤ S256x128.size a := fun v18 k0_hw4 k0_t7 => k0_hw4.2.2.2.2.1.2.1 k0_t7
theorem k0_off122_inb : ∀ (v18 : BitVec 32) (k0_hw4 : k0_chk4 v18) (k0_t7 : Fin (k0_t7_loop v18).trips), ∀ a, (k0_off122 v18 k0_t7) a + S1x16.size a ≤ S256x128.size a := fun v18 k0_hw4 k0_t7 => k0_hw4.2.2.2.2.1.2.2.1 k0_t7
theorem k0_off123_inb : ∀ (v18 : BitVec 32) (k0_hw4 : k0_chk4 v18) (k0_t7 : Fin (k0_t7_loop v18).trips), ∀ a, (k0_off123 v18 k0_t7) a + S1x16.size a ≤ S256x128.size a := fun v18 k0_hw4 k0_t7 => k0_hw4.2.2.2.2.1.2.2.2.1 k0_t7
theorem k0_off124_inb : ∀ (v18 : BitVec 32) (k0_hw4 : k0_chk4 v18) (k0_t7 : Fin (k0_t7_loop v18).trips), ∀ a, (k0_off124 v18 k0_t7) a + S1x16.size a ≤ S256x128.size a := fun v18 k0_hw4 k0_t7 => k0_hw4.2.2.2.2.1.2.2.2.2.1 k0_t7
theorem k0_off125_inb : ∀ (v18 : BitVec 32) (k0_hw4 : k0_chk4 v18) (k0_t7 : Fin (k0_t7_loop v18).trips), ∀ a, (k0_off125 v18 k0_t7) a + S1x16.size a ≤ S256x128.size a := fun v18 k0_hw4 k0_t7 => k0_hw4.2.2.2.2.1.2.2.2.2.2.1 k0_t7
theorem k0_off126_inb : ∀ (v18 : BitVec 32) (k0_hw4 : k0_chk4 v18) (k0_t7 : Fin (k0_t7_loop v18).trips), ∀ a, (k0_off126 v18 k0_t7) a + S1x16.size a ≤ S256x128.size a := fun v18 k0_hw4 k0_t7 => k0_hw4.2.2.2.2.1.2.2.2.2.2.2.1 k0_t7
theorem k0_off127_inb : ∀ (v18 : BitVec 32) (k0_hw4 : k0_chk4 v18) (k0_t7 : Fin (k0_t7_loop v18).trips), ∀ a, (k0_off127 v18 k0_t7) a + S1x16.size a ≤ S256x128.size a := fun v18 k0_hw4 k0_t7 => k0_hw4.2.2.2.2.1.2.2.2.2.2.2.2.1 k0_t7
theorem k0_off128_inb : ∀ (v18 : BitVec 32) (k0_hw4 : k0_chk4 v18) (k0_t7 : Fin (k0_t7_loop v18).trips), ∀ a, (k0_off128 v18 k0_t7) a + S1x16.size a ≤ S256x128.size a := fun v18 k0_hw4 k0_t7 => k0_hw4.2.2.2.2.1.2.2.2.2.2.2.2.2.1 k0_t7
theorem k0_off129_inb : ∀ (v18 : BitVec 32) (k0_hw4 : k0_chk4 v18) (k0_t7 : Fin (k0_t7_loop v18).trips), ∀ a, (k0_off129 v18 k0_t7) a + S1x16.size a ≤ S256x128.size a := fun v18 k0_hw4 k0_t7 => k0_hw4.2.2.2.2.1.2.2.2.2.2.2.2.2.2.1 k0_t7
theorem k0_off130_inb : ∀ (v18 : BitVec 32) (k0_hw4 : k0_chk4 v18) (k0_t7 : Fin (k0_t7_loop v18).trips), ∀ a, (k0_off130 v18 k0_t7) a + S1x16.size a ≤ S256x128.size a := fun v18 k0_hw4 k0_t7 => k0_hw4.2.2.2.2.1.2.2.2.2.2.2.2.2.2.2.1 k0_t7
theorem k0_off131_inb : ∀ (v18 : BitVec 32) (k0_hw4 : k0_chk4 v18) (k0_t7 : Fin (k0_t7_loop v18).trips), ∀ a, (k0_off131 v18 k0_t7) a + S1x16.size a ≤ S256x128.size a := fun v18 k0_hw4 k0_t7 => k0_hw4.2.2.2.2.1.2.2.2.2.2.2.2.2.2.2.2.1 k0_t7
theorem k0_off132_inb : ∀ (v18 : BitVec 32) (k0_hw4 : k0_chk4 v18) (k0_t7 : Fin (k0_t7_loop v18).trips), ∀ a, (k0_off132 v18 k0_t7) a + S1x16.size a ≤ S256x128.size a := fun v18 k0_hw4 k0_t7 => k0_hw4.2.2.2.2.1.2.2.2.2.2.2.2.2.2.2.2.2.1 k0_t7
theorem k0_off133_inb : ∀ (v18 : BitVec 32) (k0_hw4 : k0_chk4 v18) (k0_t7 : Fin (k0_t7_loop v18).trips), ∀ a, (k0_off133 v18 k0_t7) a + S1x16.size a ≤ S256x128.size a := fun v18 k0_hw4 k0_t7 => k0_hw4.2.2.2.2.1.2.2.2.2.2.2.2.2.2.2.2.2.2.1 k0_t7
theorem k0_off134_inb : ∀ (v18 : BitVec 32) (k0_hw4 : k0_chk4 v18) (k0_t7 : Fin (k0_t7_loop v18).trips), ∀ a, (k0_off134 v18 k0_t7) a + S1x16.size a ≤ S256x128.size a := fun v18 k0_hw4 k0_t7 => k0_hw4.2.2.2.2.1.2.2.2.2.2.2.2.2.2.2.2.2.2.2.1 k0_t7
theorem k0_off135_inb : ∀ (v18 : BitVec 32) (k0_hw4 : k0_chk4 v18) (k0_t7 : Fin (k0_t7_loop v18).trips), ∀ a, (k0_off135 v18 k0_t7) a + S1x16.size a ≤ S256x128.size a := fun v18 k0_hw4 k0_t7 => k0_hw4.2.2.2.2.1.2.2.2.2.2.2.2.2.2.2.2.2.2.2.2.1 k0_t7
theorem k0_off136_inb : ∀ (v18 : BitVec 32) (k0_hw4 : k0_chk4 v18) (k0_t7 : Fin (k0_t7_loop v18).trips), ∀ a, (k0_off136 v18 k0_t7) a + S1x16.size a ≤ S256x128.size a := fun v18 k0_hw4 k0_t7 => k0_hw4.2.2.2.2.1.2.2.2.2.2.2.2.2.2.2.2.2.2.2.2.2.1 k0_t7
theorem k0_off137_inb : ∀ (v18 : BitVec 32) (k0_hw4 : k0_chk4 v18) (k0_t7 : Fin (k0_t7_loop v18).trips), ∀ a, (k0_off137 v18 k0_t7) a + S1x16.size a ≤ S256x128.size a := fun v18 k0_hw4 k0_t7 => k0_hw4.2.2.2.2.1.2.2.2.2.2.2.2.2.2.2.2.2.2.2.2.2.2.1 k0_t7
theorem k0_off138_inb : ∀ (v18 : BitVec 32) (k0_hw4 : k0_chk4 v18) (k0_t7 : Fin (k0_t7_loop v18).trips), ∀ a, (k0_off138 v18 k0_t7) a + S1x16.size a ≤ S256x128.size a := fun v18 k0_hw4 k0_t7 => k0_hw4.2.2.2.2.1.2.2.2.2.2.2.2.2.2.2.2.2.2.2.2.2.2.2.1 k0_t7
theorem k0_off139_inb : ∀ (v18 : BitVec 32) (k0_hw4 : k0_chk4 v18) (k0_t7 : Fin (k0_t7_loop v18).trips), ∀ a, (k0_off139 v18 k0_t7) a + S1x16.size a ≤ S256x128.size a := fun v18 k0_hw4 k0_t7 => k0_hw4.2.2.2.2.1.2.2.2.2.2.2.2.2.2.2.2.2.2.2.2.2.2.2.2.1 k0_t7
theorem k0_off140_inb : ∀ (v18 : BitVec 32) (k0_hw4 : k0_chk4 v18) (k0_t7 : Fin (k0_t7_loop v18).trips), ∀ a, (k0_off140 v18 k0_t7) a + S1x16.size a ≤ S256x128.size a := fun v18 k0_hw4 k0_t7 => k0_hw4.2.2.2.2.1.2.2.2.2.2.2.2.2.2.2.2.2.2.2.2.2.2.2.2.2.1 k0_t7
theorem k0_off141_inb : ∀ (v18 : BitVec 32) (k0_hw4 : k0_chk4 v18) (k0_t7 : Fin (k0_t7_loop v18).trips), ∀ a, (k0_off141 v18 k0_t7) a + S1x16.size a ≤ S256x128.size a := fun v18 k0_hw4 k0_t7 => k0_hw4.2.2.2.2.1.2.2.2.2.2.2.2.2.2.2.2.2.2.2.2.2.2.2.2.2.2.1 k0_t7
theorem k0_off142_inb : ∀ (v18 : BitVec 32) (k0_hw4 : k0_chk4 v18) (k0_t7 : Fin (k0_t7_loop v18).trips), ∀ a, (k0_off142 v18 k0_t7) a + S1x16.size a ≤ S256x128.size a := fun v18 k0_hw4 k0_t7 => k0_hw4.2.2.2.2.1.2.2.2.2.2.2.2.2.2.2.2.2.2.2.2.2.2.2.2.2.2.2.1 k0_t7
theorem k0_off143_inb : ∀ (v18 : BitVec 32) (k0_hw4 : k0_chk4 v18) (k0_t7 : Fin (k0_t7_loop v18).trips), ∀ a, (k0_off143 v18 k0_t7) a + S1x16.size a ≤ S256x128.size a := fun v18 k0_hw4 k0_t7 => k0_hw4.2.2.2.2.1.2.2.2.2.2.2.2.2.2.2.2.2.2.2.2.2.2.2.2.2.2.2.2.1 k0_t7
theorem k0_off144_inb : ∀ (v18 : BitVec 32) (k0_hw4 : k0_chk4 v18) (k0_t7 : Fin (k0_t7_loop v18).trips), ∀ a, (k0_off144 v18 k0_t7) a + S1x16.size a ≤ S256x128.size a := fun v18 k0_hw4 k0_t7 => k0_hw4.2.2.2.2.1.2.2.2.2.2.2.2.2.2.2.2.2.2.2.2.2.2.2.2.2.2.2.2.2.1 k0_t7
theorem k0_off145_inb : ∀ (v18 : BitVec 32) (k0_hw4 : k0_chk4 v18) (k0_t7 : Fin (k0_t7_loop v18).trips), ∀ a, (k0_off145 v18 k0_t7) a + S1x16.size a ≤ S256x128.size a := fun v18 k0_hw4 k0_t7 => k0_hw4.2.2.2.2.1.2.2.2.2.2.2.2.2.2.2.2.2.2.2.2.2.2.2.2.2.2.2.2.2.2.1 k0_t7
theorem k0_off146_inb : ∀ (v18 : BitVec 32) (k0_hw4 : k0_chk4 v18) (k0_t7 : Fin (k0_t7_loop v18).trips), ∀ a, (k0_off146 v18 k0_t7) a + S1x16.size a ≤ S256x128.size a := fun v18 k0_hw4 k0_t7 => k0_hw4.2.2.2.2.1.2.2.2.2.2.2.2.2.2.2.2.2.2.2.2.2.2.2.2.2.2.2.2.2.2.2.1 k0_t7
theorem k0_off147_inb : ∀ (v18 : BitVec 32) (k0_hw4 : k0_chk4 v18) (k0_t7 : Fin (k0_t7_loop v18).trips), ∀ a, (k0_off147 v18 k0_t7) a + S1x16.size a ≤ S256x128.size a := fun v18 k0_hw4 k0_t7 => k0_hw4.2.2.2.2.1.2.2.2.2.2.2.2.2.2.2.2.2.2.2.2.2.2.2.2.2.2.2.2.2.2.2.2.1 k0_t7
theorem k0_off148_inb : ∀ (v18 : BitVec 32) (k0_hw4 : k0_chk4 v18) (k0_t7 : Fin (k0_t7_loop v18).trips), ∀ a, (k0_off148 v18 k0_t7) a + S1x16.size a ≤ S256x128.size a := fun v18 k0_hw4 k0_t7 => k0_hw4.2.2.2.2.1.2.2.2.2.2.2.2.2.2.2.2.2.2.2.2.2.2.2.2.2.2.2.2.2.2.2.2.2.1 k0_t7
theorem k0_off149_inb : ∀ (v18 : BitVec 32) (k0_hw4 : k0_chk4 v18) (k0_t7 : Fin (k0_t7_loop v18).trips), ∀ a, (k0_off149 v18 k0_t7) a + S1x16.size a ≤ S256x128.size a := fun v18 k0_hw4 k0_t7 => k0_hw4.2.2.2.2.1.2.2.2.2.2.2.2.2.2.2.2.2.2.2.2.2.2.2.2.2.2.2.2.2.2.2.2.2.2.1 k0_t7
theorem k0_off150_inb : ∀ (v18 : BitVec 32) (k0_hw4 : k0_chk4 v18) (k0_t7 : Fin (k0_t7_loop v18).trips), ∀ a, (k0_off150 v18 k0_t7) a + S1x16.size a ≤ S256x128.size a := fun v18 k0_hw4 k0_t7 => k0_hw4.2.2.2.2.1.2.2.2.2.2.2.2.2.2.2.2.2.2.2.2.2.2.2.2.2.2.2.2.2.2.2.2.2.2.2.1 k0_t7
theorem k0_off151_inb : ∀ (v18 : BitVec 32) (k0_hw4 : k0_chk4 v18) (k0_t7 : Fin (k0_t7_loop v18).trips), ∀ a, (k0_off151 v18 k0_t7) a + S1x16.size a ≤ S256x128.size a := fun v18 k0_hw4 k0_t7 => k0_hw4.2.2.2.2.1.2.2.2.2.2.2.2.2.2.2.2.2.2.2.2.2.2.2.2.2.2.2.2.2.2.2.2.2.2.2.2 k0_t7
theorem k0_off152_inb : ∀ (v18 : BitVec 32) (k0_hw4 : k0_chk4 v18) (k0_t7 : Fin (k0_t7_loop v18).trips), ∀ a, (k0_off152 v18 k0_t7) a + S1x16.size a ≤ S256x128.size a := fun v18 k0_hw4 k0_t7 => k0_hw4.2.2.2.2.2.1.1 k0_t7
theorem k0_off153_inb : ∀ (v18 : BitVec 32) (k0_hw4 : k0_chk4 v18) (k0_t7 : Fin (k0_t7_loop v18).trips), ∀ a, (k0_off153 v18 k0_t7) a + S1x16.size a ≤ S256x128.size a := fun v18 k0_hw4 k0_t7 => k0_hw4.2.2.2.2.2.1.2.1 k0_t7
theorem k0_off154_inb : ∀ (v18 : BitVec 32) (k0_hw4 : k0_chk4 v18) (k0_t7 : Fin (k0_t7_loop v18).trips), ∀ a, (k0_off154 v18 k0_t7) a + S1x16.size a ≤ S256x128.size a := fun v18 k0_hw4 k0_t7 => k0_hw4.2.2.2.2.2.1.2.2.1 k0_t7
theorem k0_off155_inb : ∀ (v18 : BitVec 32) (k0_hw4 : k0_chk4 v18) (k0_t7 : Fin (k0_t7_loop v18).trips), ∀ a, (k0_off155 v18 k0_t7) a + S1x16.size a ≤ S256x128.size a := fun v18 k0_hw4 k0_t7 => k0_hw4.2.2.2.2.2.1.2.2.2.1 k0_t7
theorem k0_off156_inb : ∀ (v18 : BitVec 32) (k0_hw4 : k0_chk4 v18) (k0_t7 : Fin (k0_t7_loop v18).trips), ∀ a, (k0_off156 v18 k0_t7) a + S1x16.size a ≤ S256x128.size a := fun v18 k0_hw4 k0_t7 => k0_hw4.2.2.2.2.2.1.2.2.2.2.1 k0_t7
theorem k0_off157_inb : ∀ (v18 : BitVec 32) (k0_hw4 : k0_chk4 v18) (k0_t7 : Fin (k0_t7_loop v18).trips), ∀ a, (k0_off157 v18 k0_t7) a + S1x16.size a ≤ S256x128.size a := fun v18 k0_hw4 k0_t7 => k0_hw4.2.2.2.2.2.1.2.2.2.2.2.1 k0_t7
theorem k0_off158_inb : ∀ (v18 : BitVec 32) (k0_hw4 : k0_chk4 v18) (k0_t7 : Fin (k0_t7_loop v18).trips), ∀ a, (k0_off158 v18 k0_t7) a + S1x16.size a ≤ S256x128.size a := fun v18 k0_hw4 k0_t7 => k0_hw4.2.2.2.2.2.1.2.2.2.2.2.2.1 k0_t7
theorem k0_off159_inb : ∀ (v18 : BitVec 32) (k0_hw4 : k0_chk4 v18) (k0_t7 : Fin (k0_t7_loop v18).trips), ∀ a, (k0_off159 v18 k0_t7) a + S1x16.size a ≤ S256x128.size a := fun v18 k0_hw4 k0_t7 => k0_hw4.2.2.2.2.2.1.2.2.2.2.2.2.2.1 k0_t7
theorem k0_off160_inb : ∀ (v18 : BitVec 32) (k0_hw4 : k0_chk4 v18) (k0_t7 : Fin (k0_t7_loop v18).trips), ∀ a, (k0_off160 v18 k0_t7) a + S1x16.size a ≤ S256x128.size a := fun v18 k0_hw4 k0_t7 => k0_hw4.2.2.2.2.2.1.2.2.2.2.2.2.2.2.1 k0_t7
theorem k0_off161_inb : ∀ (v18 : BitVec 32) (k0_hw4 : k0_chk4 v18) (k0_t7 : Fin (k0_t7_loop v18).trips), ∀ a, (k0_off161 v18 k0_t7) a + S1x16.size a ≤ S256x128.size a := fun v18 k0_hw4 k0_t7 => k0_hw4.2.2.2.2.2.1.2.2.2.2.2.2.2.2.2.1 k0_t7
theorem k0_off162_inb : ∀ (v18 : BitVec 32) (k0_hw4 : k0_chk4 v18) (k0_t7 : Fin (k0_t7_loop v18).trips), ∀ a, (k0_off162 v18 k0_t7) a + S1x16.size a ≤ S256x128.size a := fun v18 k0_hw4 k0_t7 => k0_hw4.2.2.2.2.2.1.2.2.2.2.2.2.2.2.2.2.1 k0_t7
theorem k0_off163_inb : ∀ (v18 : BitVec 32) (k0_hw4 : k0_chk4 v18) (k0_t7 : Fin (k0_t7_loop v18).trips), ∀ a, (k0_off163 v18 k0_t7) a + S1x16.size a ≤ S256x128.size a := fun v18 k0_hw4 k0_t7 => k0_hw4.2.2.2.2.2.1.2.2.2.2.2.2.2.2.2.2.2.1 k0_t7
theorem k0_off164_inb : ∀ (v18 : BitVec 32) (k0_hw4 : k0_chk4 v18) (k0_t7 : Fin (k0_t7_loop v18).trips), ∀ a, (k0_off164 v18 k0_t7) a + S1x16.size a ≤ S256x128.size a := fun v18 k0_hw4 k0_t7 => k0_hw4.2.2.2.2.2.1.2.2.2.2.2.2.2.2.2.2.2.2.1 k0_t7
theorem k0_off165_inb : ∀ (v18 : BitVec 32) (k0_hw4 : k0_chk4 v18) (k0_t7 : Fin (k0_t7_loop v18).trips), ∀ a, (k0_off165 v18 k0_t7) a + S1x16.size a ≤ S256x128.size a := fun v18 k0_hw4 k0_t7 => k0_hw4.2.2.2.2.2.1.2.2.2.2.2.2.2.2.2.2.2.2.2.1 k0_t7
theorem k0_off166_inb : ∀ (v18 : BitVec 32) (k0_hw4 : k0_chk4 v18) (k0_t7 : Fin (k0_t7_loop v18).trips), ∀ a, (k0_off166 v18 k0_t7) a + S1x16.size a ≤ S256x128.size a := fun v18 k0_hw4 k0_t7 => k0_hw4.2.2.2.2.2.1.2.2.2.2.2.2.2.2.2.2.2.2.2.2.1 k0_t7
theorem k0_off167_inb : ∀ (v18 : BitVec 32) (k0_hw4 : k0_chk4 v18) (k0_t7 : Fin (k0_t7_loop v18).trips), ∀ a, (k0_off167 v18 k0_t7) a + S1x16.size a ≤ S256x128.size a := fun v18 k0_hw4 k0_t7 => k0_hw4.2.2.2.2.2.1.2.2.2.2.2.2.2.2.2.2.2.2.2.2.2.1 k0_t7
theorem k0_off168_inb : ∀ (v18 : BitVec 32) (k0_hw4 : k0_chk4 v18) (k0_t7 : Fin (k0_t7_loop v18).trips), ∀ a, (k0_off168 v18 k0_t7) a + S1x16.size a ≤ S256x128.size a := fun v18 k0_hw4 k0_t7 => k0_hw4.2.2.2.2.2.1.2.2.2.2.2.2.2.2.2.2.2.2.2.2.2.2.1 k0_t7
theorem k0_off169_inb : ∀ (v18 : BitVec 32) (k0_hw4 : k0_chk4 v18) (k0_t7 : Fin (k0_t7_loop v18).trips), ∀ a, (k0_off169 v18 k0_t7) a + S1x16.size a ≤ S256x128.size a := fun v18 k0_hw4 k0_t7 => k0_hw4.2.2.2.2.2.1.2.2.2.2.2.2.2.2.2.2.2.2.2.2.2.2.2.1 k0_t7
theorem k0_off170_inb : ∀ (v18 : BitVec 32) (k0_hw4 : k0_chk4 v18) (k0_t7 : Fin (k0_t7_loop v18).trips), ∀ a, (k0_off170 v18 k0_t7) a + S1x16.size a ≤ S256x128.size a := fun v18 k0_hw4 k0_t7 => k0_hw4.2.2.2.2.2.1.2.2.2.2.2.2.2.2.2.2.2.2.2.2.2.2.2.2.1 k0_t7
theorem k0_off171_inb : ∀ (v18 : BitVec 32) (k0_hw4 : k0_chk4 v18) (k0_t7 : Fin (k0_t7_loop v18).trips), ∀ a, (k0_off171 v18 k0_t7) a + S1x16.size a ≤ S256x128.size a := fun v18 k0_hw4 k0_t7 => k0_hw4.2.2.2.2.2.1.2.2.2.2.2.2.2.2.2.2.2.2.2.2.2.2.2.2.2.1 k0_t7
theorem k0_off172_inb : ∀ (v18 : BitVec 32) (k0_hw4 : k0_chk4 v18) (k0_t7 : Fin (k0_t7_loop v18).trips), ∀ a, (k0_off172 v18 k0_t7) a + S1x16.size a ≤ S256x128.size a := fun v18 k0_hw4 k0_t7 => k0_hw4.2.2.2.2.2.1.2.2.2.2.2.2.2.2.2.2.2.2.2.2.2.2.2.2.2.2.1 k0_t7
theorem k0_off173_inb : ∀ (v18 : BitVec 32) (k0_hw4 : k0_chk4 v18) (k0_t7 : Fin (k0_t7_loop v18).trips), ∀ a, (k0_off173 v18 k0_t7) a + S1x16.size a ≤ S256x128.size a := fun v18 k0_hw4 k0_t7 => k0_hw4.2.2.2.2.2.1.2.2.2.2.2.2.2.2.2.2.2.2.2.2.2.2.2.2.2.2.2.1 k0_t7
theorem k0_off174_inb : ∀ (v18 : BitVec 32) (k0_hw4 : k0_chk4 v18) (k0_t7 : Fin (k0_t7_loop v18).trips), ∀ a, (k0_off174 v18 k0_t7) a + S1x16.size a ≤ S256x128.size a := fun v18 k0_hw4 k0_t7 => k0_hw4.2.2.2.2.2.1.2.2.2.2.2.2.2.2.2.2.2.2.2.2.2.2.2.2.2.2.2.2.1 k0_t7
theorem k0_off175_inb : ∀ (v18 : BitVec 32) (k0_hw4 : k0_chk4 v18) (k0_t7 : Fin (k0_t7_loop v18).trips), ∀ a, (k0_off175 v18 k0_t7) a + S1x16.size a ≤ S256x128.size a := fun v18 k0_hw4 k0_t7 => k0_hw4.2.2.2.2.2.1.2.2.2.2.2.2.2.2.2.2.2.2.2.2.2.2.2.2.2.2.2.2.2.1 k0_t7
theorem k0_off176_inb : ∀ (v18 : BitVec 32) (k0_hw4 : k0_chk4 v18) (k0_t7 : Fin (k0_t7_loop v18).trips), ∀ a, (k0_off176 v18 k0_t7) a + S1x16.size a ≤ S256x128.size a := fun v18 k0_hw4 k0_t7 => k0_hw4.2.2.2.2.2.1.2.2.2.2.2.2.2.2.2.2.2.2.2.2.2.2.2.2.2.2.2.2.2.2.1 k0_t7
theorem k0_off177_inb : ∀ (v18 : BitVec 32) (k0_hw4 : k0_chk4 v18) (k0_t7 : Fin (k0_t7_loop v18).trips), ∀ a, (k0_off177 v18 k0_t7) a + S1x16.size a ≤ S256x128.size a := fun v18 k0_hw4 k0_t7 => k0_hw4.2.2.2.2.2.1.2.2.2.2.2.2.2.2.2.2.2.2.2.2.2.2.2.2.2.2.2.2.2.2.2.1 k0_t7
theorem k0_off178_inb : ∀ (v18 : BitVec 32) (k0_hw4 : k0_chk4 v18) (k0_t7 : Fin (k0_t7_loop v18).trips), ∀ a, (k0_off178 v18 k0_t7) a + S1x16.size a ≤ S256x128.size a := fun v18 k0_hw4 k0_t7 => k0_hw4.2.2.2.2.2.1.2.2.2.2.2.2.2.2.2.2.2.2.2.2.2.2.2.2.2.2.2.2.2.2.2.2.1 k0_t7
theorem k0_off179_inb : ∀ (v18 : BitVec 32) (k0_hw4 : k0_chk4 v18) (k0_t7 : Fin (k0_t7_loop v18).trips), ∀ a, (k0_off179 v18 k0_t7) a + S1x16.size a ≤ S256x128.size a := fun v18 k0_hw4 k0_t7 => k0_hw4.2.2.2.2.2.1.2.2.2.2.2.2.2.2.2.2.2.2.2.2.2.2.2.2.2.2.2.2.2.2.2.2.2.1 k0_t7
theorem k0_off180_inb : ∀ (v18 : BitVec 32) (k0_hw4 : k0_chk4 v18) (k0_t7 : Fin (k0_t7_loop v18).trips), ∀ a, (k0_off180 v18 k0_t7) a + S1x16.size a ≤ S256x128.size a := fun v18 k0_hw4 k0_t7 => k0_hw4.2.2.2.2.2.1.2.2.2.2.2.2.2.2.2.2.2.2.2.2.2.2.2.2.2.2.2.2.2.2.2.2.2.2.1 k0_t7
theorem k0_off181_inb : ∀ (v18 : BitVec 32) (k0_hw4 : k0_chk4 v18) (k0_t7 : Fin (k0_t7_loop v18).trips), ∀ a, (k0_off181 v18 k0_t7) a + S1x16.size a ≤ S256x128.size a := fun v18 k0_hw4 k0_t7 => k0_hw4.2.2.2.2.2.1.2.2.2.2.2.2.2.2.2.2.2.2.2.2.2.2.2.2.2.2.2.2.2.2.2.2.2.2.2.1 k0_t7
theorem k0_off182_inb : ∀ (v18 : BitVec 32) (k0_hw4 : k0_chk4 v18) (k0_t7 : Fin (k0_t7_loop v18).trips), ∀ a, (k0_off182 v18 k0_t7) a + S1x16.size a ≤ S256x128.size a := fun v18 k0_hw4 k0_t7 => k0_hw4.2.2.2.2.2.1.2.2.2.2.2.2.2.2.2.2.2.2.2.2.2.2.2.2.2.2.2.2.2.2.2.2.2.2.2.2.1 k0_t7
theorem k0_off183_inb : ∀ (v18 : BitVec 32) (k0_hw4 : k0_chk4 v18) (k0_t7 : Fin (k0_t7_loop v18).trips), ∀ a, (k0_off183 v18 k0_t7) a + S1x16.size a ≤ S256x128.size a := fun v18 k0_hw4 k0_t7 => k0_hw4.2.2.2.2.2.1.2.2.2.2.2.2.2.2.2.2.2.2.2.2.2.2.2.2.2.2.2.2.2.2.2.2.2.2.2.2.2 k0_t7
theorem k0_off184_inb : ∀ (v18 : BitVec 32) (k0_hw4 : k0_chk4 v18) (k0_t7 : Fin (k0_t7_loop v18).trips), ∀ a, (k0_off184 v18 k0_t7) a + S1x16.size a ≤ S256x128.size a := fun v18 k0_hw4 k0_t7 => k0_hw4.2.2.2.2.2.2.1 k0_t7
theorem k0_off185_inb : ∀ (v18 : BitVec 32) (k0_hw4 : k0_chk4 v18) (k0_t7 : Fin (k0_t7_loop v18).trips), ∀ a, (k0_off185 v18 k0_t7) a + S1x16.size a ≤ S256x128.size a := fun v18 k0_hw4 k0_t7 => k0_hw4.2.2.2.2.2.2.2.1 k0_t7
theorem k0_off186_inb : ∀ (v18 : BitVec 32) (k0_hw4 : k0_chk4 v18) (k0_t7 : Fin (k0_t7_loop v18).trips), ∀ a, (k0_off186 v18 k0_t7) a + S1x16.size a ≤ S256x128.size a := fun v18 k0_hw4 k0_t7 => k0_hw4.2.2.2.2.2.2.2.2.1 k0_t7
theorem k0_off187_inb : ∀ (v18 : BitVec 32) (k0_hw4 : k0_chk4 v18) (k0_t7 : Fin (k0_t7_loop v18).trips), ∀ a, (k0_off187 v18 k0_t7) a + S1x16.size a ≤ S256x128.size a := fun v18 k0_hw4 k0_t7 => k0_hw4.2.2.2.2.2.2.2.2.2.1 k0_t7
theorem k0_off188_inb : ∀ (v18 : BitVec 32) (k0_hw4 : k0_chk4 v18) (k0_t7 : Fin (k0_t7_loop v18).trips), ∀ a, (k0_off188 v18 k0_t7) a + S1x16.size a ≤ S256x128.size a := fun v18 k0_hw4 k0_t7 => k0_hw4.2.2.2.2.2.2.2.2.2.2.1 k0_t7
theorem k0_off189_inb : ∀ (v18 : BitVec 32) (k0_hw4 : k0_chk4 v18) (k0_t7 : Fin (k0_t7_loop v18).trips), ∀ a, (k0_off189 v18 k0_t7) a + S1x16.size a ≤ S256x128.size a := fun v18 k0_hw4 k0_t7 => k0_hw4.2.2.2.2.2.2.2.2.2.2.2.1 k0_t7
theorem k0_off190_inb : ∀ (v18 : BitVec 32) (k0_hw4 : k0_chk4 v18) (k0_t7 : Fin (k0_t7_loop v18).trips), ∀ a, (k0_off190 v18 k0_t7) a + S1x16.size a ≤ S256x128.size a := fun v18 k0_hw4 k0_t7 => k0_hw4.2.2.2.2.2.2.2.2.2.2.2.2.1 k0_t7
theorem k0_off191_inb : ∀ (v18 : BitVec 32) (k0_hw4 : k0_chk4 v18) (k0_t7 : Fin (k0_t7_loop v18).trips), ∀ a, (k0_off191 v18 k0_t7) a + S1x16.size a ≤ S256x128.size a := fun v18 k0_hw4 k0_t7 => k0_hw4.2.2.2.2.2.2.2.2.2.2.2.2.2.1 k0_t7
theorem k0_off192_inb : ∀ (v18 : BitVec 32) (k0_hw4 : k0_chk4 v18) (k0_t7 : Fin (k0_t7_loop v18).trips), ∀ a, (k0_off192 v18 k0_t7) a + S1x16.size a ≤ S256x128.size a := fun v18 k0_hw4 k0_t7 => k0_hw4.2.2.2.2.2.2.2.2.2.2.2.2.2.2.1 k0_t7
theorem k0_off193_inb : ∀ (v18 : BitVec 32) (k0_hw4 : k0_chk4 v18) (k0_t7 : Fin (k0_t7_loop v18).trips), ∀ a, (k0_off193 v18 k0_t7) a + S1x16.size a ≤ S256x128.size a := fun v18 k0_hw4 k0_t7 => k0_hw4.2.2.2.2.2.2.2.2.2.2.2.2.2.2.2.1 k0_t7
theorem k0_off194_inb : ∀ (v18 : BitVec 32) (k0_hw4 : k0_chk4 v18) (k0_t7 : Fin (k0_t7_loop v18).trips), ∀ a, (k0_off194 v18 k0_t7) a + S1x16.size a ≤ S256x128.size a := fun v18 k0_hw4 k0_t7 => k0_hw4.2.2.2.2.2.2.2.2.2.2.2.2.2.2.2.2.1 k0_t7
theorem k0_off195_inb : ∀ (v18 : BitVec 32) (k0_hw4 : k0_chk4 v18) (k0_t7 : Fin (k0_t7_loop v18).trips), ∀ a, (k0_off195 v18 k0_t7) a + S1x16.size a ≤ S256x128.size a := fun v18 k0_hw4 k0_t7 => k0_hw4.2.2.2.2.2.2.2.2.2.2.2.2.2.2.2.2.2.1 k0_t7
theorem k0_off196_inb : ∀ (v18 : BitVec 32) (k0_hw4 : k0_chk4 v18) (k0_t7 : Fin (k0_t7_loop v18).trips), ∀ a, (k0_off196 v18 k0_t7) a + S1x16.size a ≤ S256x128.size a := fun v18 k0_hw4 k0_t7 => k0_hw4.2.2.2.2.2.2.2.2.2.2.2.2.2.2.2.2.2.2.1 k0_t7
theorem k0_off197_inb : ∀ (v18 : BitVec 32) (k0_hw4 : k0_chk4 v18) (k0_t7 : Fin (k0_t7_loop v18).trips), ∀ a, (k0_off197 v18 k0_t7) a + S1x16.size a ≤ S256x128.size a := fun v18 k0_hw4 k0_t7 => k0_hw4.2.2.2.2.2.2.2.2.2.2.2.2.2.2.2.2.2.2.2 k0_t7

def k0_off198 (k0_t1 : Fin k0_t1_loop.trips) : Fin 2 → Nat :=
  let c2_i32_1 : BitVec 32 := 2#32
  let c0_i32 : BitVec 32 := 0#32
  let c1_i32 : BitVec 32 := 1#32
  let arg25 : BitVec 32 := Scf.iv c0_i32 c1_i32 k0_t1
  let v6 : BitVec 32 := Scalar.muli c2_i32_1 arg25
  let v463 : Index := Scalar.indexCast v6
  let c0_155 : Index := 0#32
  ![v463.toNat, 0]
def k0_off199 (k0_t1 : Fin k0_t1_loop.trips) : Fin 2 → Nat :=
  let c2_i32_1 : BitVec 32 := 2#32
  let c0_i32 : BitVec 32 := 0#32
  let c1_i32 : BitVec 32 := 1#32
  let arg25 : BitVec 32 := Scf.iv c0_i32 c1_i32 k0_t1
  let v6 : BitVec 32 := Scalar.muli c2_i32_1 arg25
  let v466 : Index := Scalar.indexCast v6
  let c16_156 : Index := 16#32
  ![v466.toNat, 16]
def k0_off200 (k0_t1 : Fin k0_t1_loop.trips) : Fin 2 → Nat :=
  let c2_i32_1 : BitVec 32 := 2#32
  let c0_i32 : BitVec 32 := 0#32
  let c1_i32 : BitVec 32 := 1#32
  let arg25 : BitVec 32 := Scf.iv c0_i32 c1_i32 k0_t1
  let v6 : BitVec 32 := Scalar.muli c2_i32_1 arg25
  let v469 : Index := Scalar.indexCast v6
  let c32_157 : Index := 32#32
  ![v469.toNat, 32]
def k0_off201 (k0_t1 : Fin k0_t1_loop.trips) : Fin 2 → Nat :=
  let c2_i32_1 : BitVec 32 := 2#32
  let c0_i32 : BitVec 32 := 0#32
  let c1_i32 : BitVec 32 := 1#32
  let arg25 : BitVec 32 := Scf.iv c0_i32 c1_i32 k0_t1
  let v6 : BitVec 32 := Scalar.muli c2_i32_1 arg25
  let v472 : Index := Scalar.indexCast v6
  let c48_158 : Index := 48#32
  ![v472.toNat, 48]
def k0_off202 (k0_t1 : Fin k0_t1_loop.trips) : Fin 2 → Nat :=
  let c2_i32_1 : BitVec 32 := 2#32
  let c0_i32 : BitVec 32 := 0#32
  let c1_i32 : BitVec 32 := 1#32
  let arg25 : BitVec 32 := Scf.iv c0_i32 c1_i32 k0_t1
  let v6 : BitVec 32 := Scalar.muli c2_i32_1 arg25
  let v475 : Index := Scalar.indexCast v6
  let c64_159 : Index := 64#32
  ![v475.toNat, 64]
def k0_off203 (k0_t1 : Fin k0_t1_loop.trips) : Fin 2 → Nat :=
  let c2_i32_1 : BitVec 32 := 2#32
  let c0_i32 : BitVec 32 := 0#32
  let c1_i32 : BitVec 32 := 1#32
  let arg25 : BitVec 32 := Scf.iv c0_i32 c1_i32 k0_t1
  let v6 : BitVec 32 := Scalar.muli c2_i32_1 arg25
  let v478 : Index := Scalar.indexCast v6
  let c80_160 : Index := 80#32
  ![v478.toNat, 80]

def k0_chk39 (v486 : IVec S16 32) : Prop :=
  (∀ a x, ((![v486] : Fin 1 → IVec S16 32) a x).toNat < S32.size a) ∧
  (∀ a x, ((![v486] : Fin 1 → IVec S16 32) a x).toNat < S32.size a) ∧
  (∀ a x, ((![v486] : Fin 1 → IVec S16 32) a x).toNat < S32.size a) ∧
  (∀ a x, ((![v486] : Fin 1 → IVec S16 32) a x).toNat < S32.size a)
theorem k0_idx47_inb : ∀ (v486 : IVec S16 32) (k0_hw39 : k0_chk39 v486), ∀ a x, ((![v486] : Fin 1 → IVec S16 32) a x).toNat < S32.size a := fun v486 k0_hw39 => k0_hw39.1
theorem k0_idx48_inb : ∀ (v486 : IVec S16 32) (k0_hw39 : k0_chk39 v486), ∀ a x, ((![v486] : Fin 1 → IVec S16 32) a x).toNat < S32.size a := fun v486 k0_hw39 => k0_hw39.2.1
theorem k0_idx49_inb : ∀ (v486 : IVec S16 32) (k0_hw39 : k0_chk39 v486), ∀ a x, ((![v486] : Fin 1 → IVec S16 32) a x).toNat < S32.size a := fun v486 k0_hw39 => k0_hw39.2.2.1
theorem k0_idx50_inb : ∀ (v486 : IVec S16 32) (k0_hw39 : k0_chk39 v486), ∀ a x, ((![v486] : Fin 1 → IVec S16 32) a x).toNat < S32.size a := fun v486 k0_hw39 => k0_hw39.2.2.2
@[reducible] def k0_t8_loop (v170 : BitVec 32) : Scf.Loop 32 :=
  let c0_i32_169 : BitVec 32 := 0#32
  let v495 : BitVec 32 := Scalar.subi v170 c0_i32_169
  let c1_i32_170 : BitVec 32 := 1#32
  let v497 : BitVec 32 := Scalar.divsi v495 c1_i32_170
  let v498 : BitVec 32 := Scalar.muli v497 c1_i32_170
  let v499 : BitVec 32 := Scalar.addi c0_i32_169 v498
  let c1_i32_171 : BitVec 32 := 1#32
  ⟨c0_i32_169, v499, c1_i32_171⟩

def k0_chk41 (v4 : IVec S16 32) (v653 : IVec S16 32) : Prop :=
  (∀ a x, ((![v653, v4] : Fin 2 → IVec S16 32) a x).toNat < S256x128.size a)
theorem k0_idx51_inb : ∀ (v4 : IVec S16 32) (v653 : IVec S16 32) (k0_hw41 : k0_chk41 v4 v653), ∀ a x, ((![v653, v4] : Fin 2 → IVec S16 32) a x).toNat < S256x128.size a := fun v4 v653 k0_hw41 => k0_hw41
def k0_mult5 (v170 : BitVec 32) (k0_t8 : Fin (k0_t8_loop v170).trips) : BitVec 32 :=
  let c0_i32_169 : BitVec 32 := 0#32
  let c1_i32_171 : BitVec 32 := 1#32
  let arg26 : BitVec 32 := Scf.iv c0_i32_169 c1_i32_171 k0_t8
  let c16_i32_202 : BitVec 32 := 16#32
  let v657 : BitVec 32 := Scalar.muli arg26 c16_i32_202
  v657
def k0_off204 (v170 : BitVec 32) (k0_t8 : Fin (k0_t8_loop v170).trips) : Fin 1 → Nat :=
  let c0_i32_169 : BitVec 32 := 0#32
  let c1_i32_171 : BitVec 32 := 1#32
  let arg26 : BitVec 32 := Scf.iv c0_i32_169 c1_i32_171 k0_t8
  let c16_i32_202 : BitVec 32 := 16#32
  let v657 : BitVec 32 := Scalar.muli arg26 c16_i32_202
  let v658 : BitVec 32 := v657
  let v659 : Index := Scalar.indexCast v658
  ![v659.toNat]
@[reducible] def k0_t9_loop (v170 : BitVec 32) : Scf.Loop 32 :=
  let c0_i32_169 : BitVec 32 := 0#32
  let v495 : BitVec 32 := Scalar.subi v170 c0_i32_169
  let c1_i32_170 : BitVec 32 := 1#32
  let v497 : BitVec 32 := Scalar.divsi v495 c1_i32_170
  let v498 : BitVec 32 := Scalar.muli v497 c1_i32_170
  let v499 : BitVec 32 := Scalar.addi c0_i32_169 v498
  let v496 : BitVec 32 := Scalar.addi c0_i32_169 v495
  let c1_i32_172 : BitVec 32 := 1#32
  ⟨v499, v496, c1_i32_172⟩

def k0_chk42 (v4 : IVec S16 32) (v653 : IVec S16 32) : Prop :=
  (∀ a x, ((![v653, v4] : Fin 2 → IVec S16 32) a x).toNat < S256x128.size a)
theorem k0_idx52_inb : ∀ (v4 : IVec S16 32) (v653 : IVec S16 32) (k0_hw42 : k0_chk42 v4 v653), ∀ a x, ((![v653, v4] : Fin 2 → IVec S16 32) a x).toNat < S256x128.size a := fun v4 v653 k0_hw42 => k0_hw42
def k0_mult6 (v170 : BitVec 32) (k0_t9 : Fin (k0_t9_loop v170).trips) : BitVec 32 :=
  let c0_i32_169 : BitVec 32 := 0#32
  let v495 : BitVec 32 := Scalar.subi v170 c0_i32_169
  let c1_i32_170 : BitVec 32 := 1#32
  let v497 : BitVec 32 := Scalar.divsi v495 c1_i32_170
  let v498 : BitVec 32 := Scalar.muli v497 c1_i32_170
  let v499 : BitVec 32 := Scalar.addi c0_i32_169 v498
  let c1_i32_172 : BitVec 32 := 1#32
  let arg26 : BitVec 32 := Scf.iv v499 c1_i32_172 k0_t9
  let c16_i32_202 : BitVec 32 := 16#32
  let v657 : BitVec 32 := Scalar.muli arg26 c16_i32_202
  v657
def k0_off205 (v170 : BitVec 32) (k0_t9 : Fin (k0_t9_loop v170).trips) : Fin 1 → Nat :=
  let c0_i32_169 : BitVec 32 := 0#32
  let v495 : BitVec 32 := Scalar.subi v170 c0_i32_169
  let c1_i32_170 : BitVec 32 := 1#32
  let v497 : BitVec 32 := Scalar.divsi v495 c1_i32_170
  let v498 : BitVec 32 := Scalar.muli v497 c1_i32_170
  let v499 : BitVec 32 := Scalar.addi c0_i32_169 v498
  let c1_i32_172 : BitVec 32 := 1#32
  let arg26 : BitVec 32 := Scf.iv v499 c1_i32_172 k0_t9
  let c16_i32_202 : BitVec 32 := 16#32
  let v657 : BitVec 32 := Scalar.muli arg26 c16_i32_202
  let v658 : BitVec 32 := v657
  let v659 : Index := Scalar.indexCast v658
  ![v659.toNat]
@[reducible] def k0_t10_loop (v170 : BitVec 32) : Scf.Loop 32 :=
  let c0_i32_174 : BitVec 32 := 0#32
  let v551 : BitVec 32 := Scalar.subi v170 c0_i32_174
  let c1_i32_175 : BitVec 32 := 1#32
  let v553 : BitVec 32 := Scalar.divsi v551 c1_i32_175
  let v554 : BitVec 32 := Scalar.muli v553 c1_i32_175
  let v555 : BitVec 32 := Scalar.addi c0_i32_174 v554
  let c1_i32_176 : BitVec 32 := 1#32
  ⟨c0_i32_174, v555, c1_i32_176⟩
def k0_mult7 (v170 : BitVec 32) (k0_t10 : Fin (k0_t10_loop v170).trips) : BitVec 32 :=
  let c0_i32_174 : BitVec 32 := 0#32
  let c1_i32_176 : BitVec 32 := 1#32
  let arg26 : BitVec 32 := Scf.iv c0_i32_174 c1_i32_176 k0_t10
  let c16_i32_200 : BitVec 32 := 16#32
  let v651 : BitVec 32 := Scalar.muli arg26 c16_i32_200
  v651
def k0_off206 (v170 : BitVec 32) (k0_t10 : Fin (k0_t10_loop v170).trips) : Fin 1 → Nat :=
  let c0_i32_174 : BitVec 32 := 0#32
  let c1_i32_176 : BitVec 32 := 1#32
  let arg26 : BitVec 32 := Scf.iv c0_i32_174 c1_i32_176 k0_t10
  let c16_i32_200 : BitVec 32 := 16#32
  let v651 : BitVec 32 := Scalar.muli arg26 c16_i32_200
  let v652 : BitVec 32 := v651
  let v653 : Index := Scalar.indexCast v652
  ![v653.toNat]
@[reducible] def k0_t11_loop (v170 : BitVec 32) : Scf.Loop 32 :=
  let c0_i32_174 : BitVec 32 := 0#32
  let v551 : BitVec 32 := Scalar.subi v170 c0_i32_174
  let c1_i32_175 : BitVec 32 := 1#32
  let v553 : BitVec 32 := Scalar.divsi v551 c1_i32_175
  let v554 : BitVec 32 := Scalar.muli v553 c1_i32_175
  let v555 : BitVec 32 := Scalar.addi c0_i32_174 v554
  let v552 : BitVec 32 := Scalar.addi c0_i32_174 v551
  let c1_i32_177 : BitVec 32 := 1#32
  ⟨v555, v552, c1_i32_177⟩
def k0_mult8 (v170 : BitVec 32) (k0_t11 : Fin (k0_t11_loop v170).trips) : BitVec 32 :=
  let c0_i32_174 : BitVec 32 := 0#32
  let v551 : BitVec 32 := Scalar.subi v170 c0_i32_174
  let c1_i32_175 : BitVec 32 := 1#32
  let v553 : BitVec 32 := Scalar.divsi v551 c1_i32_175
  let v554 : BitVec 32 := Scalar.muli v553 c1_i32_175
  let v555 : BitVec 32 := Scalar.addi c0_i32_174 v554
  let c1_i32_177 : BitVec 32 := 1#32
  let arg26 : BitVec 32 := Scf.iv v555 c1_i32_177 k0_t11
  let c16_i32_200 : BitVec 32 := 16#32
  let v651 : BitVec 32 := Scalar.muli arg26 c16_i32_200
  v651
def k0_off207 (v170 : BitVec 32) (k0_t11 : Fin (k0_t11_loop v170).trips) : Fin 1 → Nat :=
  let c0_i32_174 : BitVec 32 := 0#32
  let v551 : BitVec 32 := Scalar.subi v170 c0_i32_174
  let c1_i32_175 : BitVec 32 := 1#32
  let v553 : BitVec 32 := Scalar.divsi v551 c1_i32_175
  let v554 : BitVec 32 := Scalar.muli v553 c1_i32_175
  let v555 : BitVec 32 := Scalar.addi c0_i32_174 v554
  let c1_i32_177 : BitVec 32 := 1#32
  let arg26 : BitVec 32 := Scf.iv v555 c1_i32_177 k0_t11
  let c16_i32_200 : BitVec 32 := 16#32
  let v651 : BitVec 32 := Scalar.muli arg26 c16_i32_200
  let v652 : BitVec 32 := v651
  let v653 : Index := Scalar.indexCast v652
  ![v653.toNat]
@[reducible] def k0_t12_loop (v170 : BitVec 32) : Scf.Loop 32 :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_186 : BitVec 32 := 1#32
  ⟨c0_i32_184, v568, c1_i32_186⟩

def k0_chk43 (v653 : IVec S16 32) : Prop :=
  (∀ a x, ((![v653] : Fin 1 → IVec S16 32) a x).toNat < S256.size a)
theorem k0_idx53_inb : ∀ (v653 : IVec S16 32) (k0_hw43 : k0_chk43 v653), ∀ a x, ((![v653] : Fin 1 → IVec S16 32) a x).toNat < S256.size a := fun v653 k0_hw43 => k0_hw43
def k0_off208 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_200 : BitVec 32 := 16#32
  let v651 : BitVec 32 := Scalar.muli arg26 c16_i32_200
  let c0_i32_201 : BitVec 32 := 0#32
  let v652 : BitVec 32 := Scalar.addi v651 c0_i32_201
  let v655 : Index := Scalar.indexCast v652
  let c0_202 : Index := 0#32
  ![v655.toNat, 0]
def k0_off209 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_200 : BitVec 32 := 16#32
  let v651 : BitVec 32 := Scalar.muli arg26 c16_i32_200
  let c0_i32_201 : BitVec 32 := 0#32
  let v652 : BitVec 32 := Scalar.addi v651 c0_i32_201
  let v659 : Index := Scalar.indexCast v652
  let c16_203 : Index := 16#32
  ![v659.toNat, 16]
def k0_off210 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_200 : BitVec 32 := 16#32
  let v651 : BitVec 32 := Scalar.muli arg26 c16_i32_200
  let c0_i32_201 : BitVec 32 := 0#32
  let v652 : BitVec 32 := Scalar.addi v651 c0_i32_201
  let v663 : Index := Scalar.indexCast v652
  let c32_204 : Index := 32#32
  ![v663.toNat, 32]
def k0_off211 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_200 : BitVec 32 := 16#32
  let v651 : BitVec 32 := Scalar.muli arg26 c16_i32_200
  let c0_i32_201 : BitVec 32 := 0#32
  let v652 : BitVec 32 := Scalar.addi v651 c0_i32_201
  let v667 : Index := Scalar.indexCast v652
  let c48_205 : Index := 48#32
  ![v667.toNat, 48]
def k0_off212 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_200 : BitVec 32 := 16#32
  let v651 : BitVec 32 := Scalar.muli arg26 c16_i32_200
  let c0_i32_201 : BitVec 32 := 0#32
  let v652 : BitVec 32 := Scalar.addi v651 c0_i32_201
  let v671 : Index := Scalar.indexCast v652
  let c64_206 : Index := 64#32
  ![v671.toNat, 64]
def k0_off213 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_200 : BitVec 32 := 16#32
  let v651 : BitVec 32 := Scalar.muli arg26 c16_i32_200
  let c0_i32_201 : BitVec 32 := 0#32
  let v652 : BitVec 32 := Scalar.addi v651 c0_i32_201
  let v675 : Index := Scalar.indexCast v652
  let c80_207 : Index := 80#32
  ![v675.toNat, 80]

def k0_chk44 (v681 : IVec S16 32) : Prop :=
  (∀ a x, ((![v681] : Fin 1 → IVec S16 32) a x).toNat < S256.size a)
theorem k0_idx54_inb : ∀ (v681 : IVec S16 32) (k0_hw44 : k0_chk44 v681), ∀ a x, ((![v681] : Fin 1 → IVec S16 32) a x).toNat < S256.size a := fun v681 k0_hw44 => k0_hw44
def k0_off214 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_208 : BitVec 32 := 16#32
  let v679 : BitVec 32 := Scalar.muli arg26 c16_i32_208
  let c1_i32_209 : BitVec 32 := 1#32
  let v680 : BitVec 32 := Scalar.addi v679 c1_i32_209
  let v683 : Index := Scalar.indexCast v680
  let c0_210 : Index := 0#32
  ![v683.toNat, 0]
def k0_off215 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_208 : BitVec 32 := 16#32
  let v679 : BitVec 32 := Scalar.muli arg26 c16_i32_208
  let c1_i32_209 : BitVec 32 := 1#32
  let v680 : BitVec 32 := Scalar.addi v679 c1_i32_209
  let v687 : Index := Scalar.indexCast v680
  let c16_211 : Index := 16#32
  ![v687.toNat, 16]
def k0_off216 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_208 : BitVec 32 := 16#32
  let v679 : BitVec 32 := Scalar.muli arg26 c16_i32_208
  let c1_i32_209 : BitVec 32 := 1#32
  let v680 : BitVec 32 := Scalar.addi v679 c1_i32_209
  let v691 : Index := Scalar.indexCast v680
  let c32_212 : Index := 32#32
  ![v691.toNat, 32]
def k0_off217 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_208 : BitVec 32 := 16#32
  let v679 : BitVec 32 := Scalar.muli arg26 c16_i32_208
  let c1_i32_209 : BitVec 32 := 1#32
  let v680 : BitVec 32 := Scalar.addi v679 c1_i32_209
  let v695 : Index := Scalar.indexCast v680
  let c48_213 : Index := 48#32
  ![v695.toNat, 48]
def k0_off218 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_208 : BitVec 32 := 16#32
  let v679 : BitVec 32 := Scalar.muli arg26 c16_i32_208
  let c1_i32_209 : BitVec 32 := 1#32
  let v680 : BitVec 32 := Scalar.addi v679 c1_i32_209
  let v699 : Index := Scalar.indexCast v680
  let c64_214 : Index := 64#32
  ![v699.toNat, 64]
def k0_off219 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_208 : BitVec 32 := 16#32
  let v679 : BitVec 32 := Scalar.muli arg26 c16_i32_208
  let c1_i32_209 : BitVec 32 := 1#32
  let v680 : BitVec 32 := Scalar.addi v679 c1_i32_209
  let v703 : Index := Scalar.indexCast v680
  let c80_215 : Index := 80#32
  ![v703.toNat, 80]

def k0_chk45 (v709 : IVec S16 32) : Prop :=
  (∀ a x, ((![v709] : Fin 1 → IVec S16 32) a x).toNat < S256.size a)
theorem k0_idx55_inb : ∀ (v709 : IVec S16 32) (k0_hw45 : k0_chk45 v709), ∀ a x, ((![v709] : Fin 1 → IVec S16 32) a x).toNat < S256.size a := fun v709 k0_hw45 => k0_hw45
def k0_off220 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_216 : BitVec 32 := 16#32
  let v707 : BitVec 32 := Scalar.muli arg26 c16_i32_216
  let c2_i32_217 : BitVec 32 := 2#32
  let v708 : BitVec 32 := Scalar.addi v707 c2_i32_217
  let v711 : Index := Scalar.indexCast v708
  let c0_218 : Index := 0#32
  ![v711.toNat, 0]
def k0_off221 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_216 : BitVec 32 := 16#32
  let v707 : BitVec 32 := Scalar.muli arg26 c16_i32_216
  let c2_i32_217 : BitVec 32 := 2#32
  let v708 : BitVec 32 := Scalar.addi v707 c2_i32_217
  let v715 : Index := Scalar.indexCast v708
  let c16_219 : Index := 16#32
  ![v715.toNat, 16]
def k0_off222 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_216 : BitVec 32 := 16#32
  let v707 : BitVec 32 := Scalar.muli arg26 c16_i32_216
  let c2_i32_217 : BitVec 32 := 2#32
  let v708 : BitVec 32 := Scalar.addi v707 c2_i32_217
  let v719 : Index := Scalar.indexCast v708
  let c32_220 : Index := 32#32
  ![v719.toNat, 32]
def k0_off223 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_216 : BitVec 32 := 16#32
  let v707 : BitVec 32 := Scalar.muli arg26 c16_i32_216
  let c2_i32_217 : BitVec 32 := 2#32
  let v708 : BitVec 32 := Scalar.addi v707 c2_i32_217
  let v723 : Index := Scalar.indexCast v708
  let c48_221 : Index := 48#32
  ![v723.toNat, 48]
def k0_off224 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_216 : BitVec 32 := 16#32
  let v707 : BitVec 32 := Scalar.muli arg26 c16_i32_216
  let c2_i32_217 : BitVec 32 := 2#32
  let v708 : BitVec 32 := Scalar.addi v707 c2_i32_217
  let v727 : Index := Scalar.indexCast v708
  let c64_222 : Index := 64#32
  ![v727.toNat, 64]
def k0_off225 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_216 : BitVec 32 := 16#32
  let v707 : BitVec 32 := Scalar.muli arg26 c16_i32_216
  let c2_i32_217 : BitVec 32 := 2#32
  let v708 : BitVec 32 := Scalar.addi v707 c2_i32_217
  let v731 : Index := Scalar.indexCast v708
  let c80_223 : Index := 80#32
  ![v731.toNat, 80]

def k0_chk46 (v737 : IVec S16 32) : Prop :=
  (∀ a x, ((![v737] : Fin 1 → IVec S16 32) a x).toNat < S256.size a)
theorem k0_idx56_inb : ∀ (v737 : IVec S16 32) (k0_hw46 : k0_chk46 v737), ∀ a x, ((![v737] : Fin 1 → IVec S16 32) a x).toNat < S256.size a := fun v737 k0_hw46 => k0_hw46
def k0_off226 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_224 : BitVec 32 := 16#32
  let v735 : BitVec 32 := Scalar.muli arg26 c16_i32_224
  let c3_i32 : BitVec 32 := 3#32
  let v736 : BitVec 32 := Scalar.addi v735 c3_i32
  let v739 : Index := Scalar.indexCast v736
  let c0_225 : Index := 0#32
  ![v739.toNat, 0]
def k0_off227 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_224 : BitVec 32 := 16#32
  let v735 : BitVec 32 := Scalar.muli arg26 c16_i32_224
  let c3_i32 : BitVec 32 := 3#32
  let v736 : BitVec 32 := Scalar.addi v735 c3_i32
  let v743 : Index := Scalar.indexCast v736
  let c16_226 : Index := 16#32
  ![v743.toNat, 16]
def k0_off228 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_224 : BitVec 32 := 16#32
  let v735 : BitVec 32 := Scalar.muli arg26 c16_i32_224
  let c3_i32 : BitVec 32 := 3#32
  let v736 : BitVec 32 := Scalar.addi v735 c3_i32
  let v747 : Index := Scalar.indexCast v736
  let c32_227 : Index := 32#32
  ![v747.toNat, 32]
def k0_off229 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_224 : BitVec 32 := 16#32
  let v735 : BitVec 32 := Scalar.muli arg26 c16_i32_224
  let c3_i32 : BitVec 32 := 3#32
  let v736 : BitVec 32 := Scalar.addi v735 c3_i32
  let v751 : Index := Scalar.indexCast v736
  let c48_228 : Index := 48#32
  ![v751.toNat, 48]
def k0_off230 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_224 : BitVec 32 := 16#32
  let v735 : BitVec 32 := Scalar.muli arg26 c16_i32_224
  let c3_i32 : BitVec 32 := 3#32
  let v736 : BitVec 32 := Scalar.addi v735 c3_i32
  let v755 : Index := Scalar.indexCast v736
  let c64_229 : Index := 64#32
  ![v755.toNat, 64]
def k0_off231 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_224 : BitVec 32 := 16#32
  let v735 : BitVec 32 := Scalar.muli arg26 c16_i32_224
  let c3_i32 : BitVec 32 := 3#32
  let v736 : BitVec 32 := Scalar.addi v735 c3_i32
  let v759 : Index := Scalar.indexCast v736
  let c80_230 : Index := 80#32
  ![v759.toNat, 80]

def k0_chk47 (v765 : IVec S16 32) : Prop :=
  (∀ a x, ((![v765] : Fin 1 → IVec S16 32) a x).toNat < S256.size a)
theorem k0_idx57_inb : ∀ (v765 : IVec S16 32) (k0_hw47 : k0_chk47 v765), ∀ a x, ((![v765] : Fin 1 → IVec S16 32) a x).toNat < S256.size a := fun v765 k0_hw47 => k0_hw47
def k0_off232 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_231 : BitVec 32 := 16#32
  let v763 : BitVec 32 := Scalar.muli arg26 c16_i32_231
  let c4_i32 : BitVec 32 := 4#32
  let v764 : BitVec 32 := Scalar.addi v763 c4_i32
  let v767 : Index := Scalar.indexCast v764
  let c0_232 : Index := 0#32
  ![v767.toNat, 0]
def k0_off233 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_231 : BitVec 32 := 16#32
  let v763 : BitVec 32 := Scalar.muli arg26 c16_i32_231
  let c4_i32 : BitVec 32 := 4#32
  let v764 : BitVec 32 := Scalar.addi v763 c4_i32
  let v771 : Index := Scalar.indexCast v764
  let c16_233 : Index := 16#32
  ![v771.toNat, 16]
def k0_off234 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_231 : BitVec 32 := 16#32
  let v763 : BitVec 32 := Scalar.muli arg26 c16_i32_231
  let c4_i32 : BitVec 32 := 4#32
  let v764 : BitVec 32 := Scalar.addi v763 c4_i32
  let v775 : Index := Scalar.indexCast v764
  let c32_234 : Index := 32#32
  ![v775.toNat, 32]
def k0_off235 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_231 : BitVec 32 := 16#32
  let v763 : BitVec 32 := Scalar.muli arg26 c16_i32_231
  let c4_i32 : BitVec 32 := 4#32
  let v764 : BitVec 32 := Scalar.addi v763 c4_i32
  let v779 : Index := Scalar.indexCast v764
  let c48_235 : Index := 48#32
  ![v779.toNat, 48]
def k0_off236 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_231 : BitVec 32 := 16#32
  let v763 : BitVec 32 := Scalar.muli arg26 c16_i32_231
  let c4_i32 : BitVec 32 := 4#32
  let v764 : BitVec 32 := Scalar.addi v763 c4_i32
  let v783 : Index := Scalar.indexCast v764
  let c64_236 : Index := 64#32
  ![v783.toNat, 64]
def k0_off237 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_231 : BitVec 32 := 16#32
  let v763 : BitVec 32 := Scalar.muli arg26 c16_i32_231
  let c4_i32 : BitVec 32 := 4#32
  let v764 : BitVec 32 := Scalar.addi v763 c4_i32
  let v787 : Index := Scalar.indexCast v764
  let c80_237 : Index := 80#32
  ![v787.toNat, 80]

def k0_chk48 (v793 : IVec S16 32) : Prop :=
  (∀ a x, ((![v793] : Fin 1 → IVec S16 32) a x).toNat < S256.size a)
theorem k0_idx58_inb : ∀ (v793 : IVec S16 32) (k0_hw48 : k0_chk48 v793), ∀ a x, ((![v793] : Fin 1 → IVec S16 32) a x).toNat < S256.size a := fun v793 k0_hw48 => k0_hw48
def k0_off238 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_238 : BitVec 32 := 16#32
  let v791 : BitVec 32 := Scalar.muli arg26 c16_i32_238
  let c5_i32 : BitVec 32 := 5#32
  let v792 : BitVec 32 := Scalar.addi v791 c5_i32
  let v795 : Index := Scalar.indexCast v792
  let c0_239 : Index := 0#32
  ![v795.toNat, 0]
def k0_off239 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_238 : BitVec 32 := 16#32
  let v791 : BitVec 32 := Scalar.muli arg26 c16_i32_238
  let c5_i32 : BitVec 32 := 5#32
  let v792 : BitVec 32 := Scalar.addi v791 c5_i32
  let v799 : Index := Scalar.indexCast v792
  let c16_240 : Index := 16#32
  ![v799.toNat, 16]
def k0_off240 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_238 : BitVec 32 := 16#32
  let v791 : BitVec 32 := Scalar.muli arg26 c16_i32_238
  let c5_i32 : BitVec 32 := 5#32
  let v792 : BitVec 32 := Scalar.addi v791 c5_i32
  let v803 : Index := Scalar.indexCast v792
  let c32_241 : Index := 32#32
  ![v803.toNat, 32]
def k0_off241 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_238 : BitVec 32 := 16#32
  let v791 : BitVec 32 := Scalar.muli arg26 c16_i32_238
  let c5_i32 : BitVec 32 := 5#32
  let v792 : BitVec 32 := Scalar.addi v791 c5_i32
  let v807 : Index := Scalar.indexCast v792
  let c48_242 : Index := 48#32
  ![v807.toNat, 48]
def k0_off242 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_238 : BitVec 32 := 16#32
  let v791 : BitVec 32 := Scalar.muli arg26 c16_i32_238
  let c5_i32 : BitVec 32 := 5#32
  let v792 : BitVec 32 := Scalar.addi v791 c5_i32
  let v811 : Index := Scalar.indexCast v792
  let c64_243 : Index := 64#32
  ![v811.toNat, 64]
def k0_off243 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_238 : BitVec 32 := 16#32
  let v791 : BitVec 32 := Scalar.muli arg26 c16_i32_238
  let c5_i32 : BitVec 32 := 5#32
  let v792 : BitVec 32 := Scalar.addi v791 c5_i32
  let v815 : Index := Scalar.indexCast v792
  let c80_244 : Index := 80#32
  ![v815.toNat, 80]

def k0_chk49 (v821 : IVec S16 32) : Prop :=
  (∀ a x, ((![v821] : Fin 1 → IVec S16 32) a x).toNat < S256.size a)
theorem k0_idx59_inb : ∀ (v821 : IVec S16 32) (k0_hw49 : k0_chk49 v821), ∀ a x, ((![v821] : Fin 1 → IVec S16 32) a x).toNat < S256.size a := fun v821 k0_hw49 => k0_hw49
def k0_off244 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_245 : BitVec 32 := 16#32
  let v819 : BitVec 32 := Scalar.muli arg26 c16_i32_245
  let c6_i32 : BitVec 32 := 6#32
  let v820 : BitVec 32 := Scalar.addi v819 c6_i32
  let v823 : Index := Scalar.indexCast v820
  let c0_246 : Index := 0#32
  ![v823.toNat, 0]
def k0_off245 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_245 : BitVec 32 := 16#32
  let v819 : BitVec 32 := Scalar.muli arg26 c16_i32_245
  let c6_i32 : BitVec 32 := 6#32
  let v820 : BitVec 32 := Scalar.addi v819 c6_i32
  let v827 : Index := Scalar.indexCast v820
  let c16_247 : Index := 16#32
  ![v827.toNat, 16]
def k0_off246 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_245 : BitVec 32 := 16#32
  let v819 : BitVec 32 := Scalar.muli arg26 c16_i32_245
  let c6_i32 : BitVec 32 := 6#32
  let v820 : BitVec 32 := Scalar.addi v819 c6_i32
  let v831 : Index := Scalar.indexCast v820
  let c32_248 : Index := 32#32
  ![v831.toNat, 32]
def k0_off247 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_245 : BitVec 32 := 16#32
  let v819 : BitVec 32 := Scalar.muli arg26 c16_i32_245
  let c6_i32 : BitVec 32 := 6#32
  let v820 : BitVec 32 := Scalar.addi v819 c6_i32
  let v835 : Index := Scalar.indexCast v820
  let c48_249 : Index := 48#32
  ![v835.toNat, 48]
def k0_off248 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_245 : BitVec 32 := 16#32
  let v819 : BitVec 32 := Scalar.muli arg26 c16_i32_245
  let c6_i32 : BitVec 32 := 6#32
  let v820 : BitVec 32 := Scalar.addi v819 c6_i32
  let v839 : Index := Scalar.indexCast v820
  let c64_250 : Index := 64#32
  ![v839.toNat, 64]
def k0_off249 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_245 : BitVec 32 := 16#32
  let v819 : BitVec 32 := Scalar.muli arg26 c16_i32_245
  let c6_i32 : BitVec 32 := 6#32
  let v820 : BitVec 32 := Scalar.addi v819 c6_i32
  let v843 : Index := Scalar.indexCast v820
  let c80_251 : Index := 80#32
  ![v843.toNat, 80]

def k0_chk50 (v849 : IVec S16 32) : Prop :=
  (∀ a x, ((![v849] : Fin 1 → IVec S16 32) a x).toNat < S256.size a)
theorem k0_idx60_inb : ∀ (v849 : IVec S16 32) (k0_hw50 : k0_chk50 v849), ∀ a x, ((![v849] : Fin 1 → IVec S16 32) a x).toNat < S256.size a := fun v849 k0_hw50 => k0_hw50
def k0_off250 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_252 : BitVec 32 := 16#32
  let v847 : BitVec 32 := Scalar.muli arg26 c16_i32_252
  let c7_i32 : BitVec 32 := 7#32
  let v848 : BitVec 32 := Scalar.addi v847 c7_i32
  let v851 : Index := Scalar.indexCast v848
  let c0_253 : Index := 0#32
  ![v851.toNat, 0]
def k0_off251 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_252 : BitVec 32 := 16#32
  let v847 : BitVec 32 := Scalar.muli arg26 c16_i32_252
  let c7_i32 : BitVec 32 := 7#32
  let v848 : BitVec 32 := Scalar.addi v847 c7_i32
  let v855 : Index := Scalar.indexCast v848
  let c16_254 : Index := 16#32
  ![v855.toNat, 16]
def k0_off252 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_252 : BitVec 32 := 16#32
  let v847 : BitVec 32 := Scalar.muli arg26 c16_i32_252
  let c7_i32 : BitVec 32 := 7#32
  let v848 : BitVec 32 := Scalar.addi v847 c7_i32
  let v859 : Index := Scalar.indexCast v848
  let c32_255 : Index := 32#32
  ![v859.toNat, 32]
def k0_off253 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_252 : BitVec 32 := 16#32
  let v847 : BitVec 32 := Scalar.muli arg26 c16_i32_252
  let c7_i32 : BitVec 32 := 7#32
  let v848 : BitVec 32 := Scalar.addi v847 c7_i32
  let v863 : Index := Scalar.indexCast v848
  let c48_256 : Index := 48#32
  ![v863.toNat, 48]
def k0_off254 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_252 : BitVec 32 := 16#32
  let v847 : BitVec 32 := Scalar.muli arg26 c16_i32_252
  let c7_i32 : BitVec 32 := 7#32
  let v848 : BitVec 32 := Scalar.addi v847 c7_i32
  let v867 : Index := Scalar.indexCast v848
  let c64_257 : Index := 64#32
  ![v867.toNat, 64]
def k0_off255 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_252 : BitVec 32 := 16#32
  let v847 : BitVec 32 := Scalar.muli arg26 c16_i32_252
  let c7_i32 : BitVec 32 := 7#32
  let v848 : BitVec 32 := Scalar.addi v847 c7_i32
  let v871 : Index := Scalar.indexCast v848
  let c80_258 : Index := 80#32
  ![v871.toNat, 80]

def k0_chk51 (v877 : IVec S16 32) : Prop :=
  (∀ a x, ((![v877] : Fin 1 → IVec S16 32) a x).toNat < S256.size a)
theorem k0_idx61_inb : ∀ (v877 : IVec S16 32) (k0_hw51 : k0_chk51 v877), ∀ a x, ((![v877] : Fin 1 → IVec S16 32) a x).toNat < S256.size a := fun v877 k0_hw51 => k0_hw51
def k0_off256 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_259 : BitVec 32 := 16#32
  let v875 : BitVec 32 := Scalar.muli arg26 c16_i32_259
  let c8_i32_260 : BitVec 32 := 8#32
  let v876 : BitVec 32 := Scalar.addi v875 c8_i32_260
  let v879 : Index := Scalar.indexCast v876
  let c0_261 : Index := 0#32
  ![v879.toNat, 0]
def k0_off257 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_259 : BitVec 32 := 16#32
  let v875 : BitVec 32 := Scalar.muli arg26 c16_i32_259
  let c8_i32_260 : BitVec 32 := 8#32
  let v876 : BitVec 32 := Scalar.addi v875 c8_i32_260
  let v883 : Index := Scalar.indexCast v876
  let c16_262 : Index := 16#32
  ![v883.toNat, 16]
def k0_off258 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_259 : BitVec 32 := 16#32
  let v875 : BitVec 32 := Scalar.muli arg26 c16_i32_259
  let c8_i32_260 : BitVec 32 := 8#32
  let v876 : BitVec 32 := Scalar.addi v875 c8_i32_260
  let v887 : Index := Scalar.indexCast v876
  let c32_263 : Index := 32#32
  ![v887.toNat, 32]
def k0_off259 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_259 : BitVec 32 := 16#32
  let v875 : BitVec 32 := Scalar.muli arg26 c16_i32_259
  let c8_i32_260 : BitVec 32 := 8#32
  let v876 : BitVec 32 := Scalar.addi v875 c8_i32_260
  let v891 : Index := Scalar.indexCast v876
  let c48_264 : Index := 48#32
  ![v891.toNat, 48]
def k0_off260 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_259 : BitVec 32 := 16#32
  let v875 : BitVec 32 := Scalar.muli arg26 c16_i32_259
  let c8_i32_260 : BitVec 32 := 8#32
  let v876 : BitVec 32 := Scalar.addi v875 c8_i32_260
  let v895 : Index := Scalar.indexCast v876
  let c64_265 : Index := 64#32
  ![v895.toNat, 64]
def k0_off261 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_259 : BitVec 32 := 16#32
  let v875 : BitVec 32 := Scalar.muli arg26 c16_i32_259
  let c8_i32_260 : BitVec 32 := 8#32
  let v876 : BitVec 32 := Scalar.addi v875 c8_i32_260
  let v899 : Index := Scalar.indexCast v876
  let c80_266 : Index := 80#32
  ![v899.toNat, 80]

def k0_chk52 (v905 : IVec S16 32) : Prop :=
  (∀ a x, ((![v905] : Fin 1 → IVec S16 32) a x).toNat < S256.size a)
theorem k0_idx62_inb : ∀ (v905 : IVec S16 32) (k0_hw52 : k0_chk52 v905), ∀ a x, ((![v905] : Fin 1 → IVec S16 32) a x).toNat < S256.size a := fun v905 k0_hw52 => k0_hw52
def k0_off262 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_267 : BitVec 32 := 16#32
  let v903 : BitVec 32 := Scalar.muli arg26 c16_i32_267
  let c9_i32 : BitVec 32 := 9#32
  let v904 : BitVec 32 := Scalar.addi v903 c9_i32
  let v907 : Index := Scalar.indexCast v904
  let c0_268 : Index := 0#32
  ![v907.toNat, 0]
def k0_off263 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_267 : BitVec 32 := 16#32
  let v903 : BitVec 32 := Scalar.muli arg26 c16_i32_267
  let c9_i32 : BitVec 32 := 9#32
  let v904 : BitVec 32 := Scalar.addi v903 c9_i32
  let v911 : Index := Scalar.indexCast v904
  let c16_269 : Index := 16#32
  ![v911.toNat, 16]
def k0_off264 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_267 : BitVec 32 := 16#32
  let v903 : BitVec 32 := Scalar.muli arg26 c16_i32_267
  let c9_i32 : BitVec 32 := 9#32
  let v904 : BitVec 32 := Scalar.addi v903 c9_i32
  let v915 : Index := Scalar.indexCast v904
  let c32_270 : Index := 32#32
  ![v915.toNat, 32]
def k0_off265 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_267 : BitVec 32 := 16#32
  let v903 : BitVec 32 := Scalar.muli arg26 c16_i32_267
  let c9_i32 : BitVec 32 := 9#32
  let v904 : BitVec 32 := Scalar.addi v903 c9_i32
  let v919 : Index := Scalar.indexCast v904
  let c48_271 : Index := 48#32
  ![v919.toNat, 48]
def k0_off266 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_267 : BitVec 32 := 16#32
  let v903 : BitVec 32 := Scalar.muli arg26 c16_i32_267
  let c9_i32 : BitVec 32 := 9#32
  let v904 : BitVec 32 := Scalar.addi v903 c9_i32
  let v923 : Index := Scalar.indexCast v904
  let c64_272 : Index := 64#32
  ![v923.toNat, 64]
def k0_off267 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_267 : BitVec 32 := 16#32
  let v903 : BitVec 32 := Scalar.muli arg26 c16_i32_267
  let c9_i32 : BitVec 32 := 9#32
  let v904 : BitVec 32 := Scalar.addi v903 c9_i32
  let v927 : Index := Scalar.indexCast v904
  let c80_273 : Index := 80#32
  ![v927.toNat, 80]

def k0_chk53 (v933 : IVec S16 32) : Prop :=
  (∀ a x, ((![v933] : Fin 1 → IVec S16 32) a x).toNat < S256.size a)
theorem k0_idx63_inb : ∀ (v933 : IVec S16 32) (k0_hw53 : k0_chk53 v933), ∀ a x, ((![v933] : Fin 1 → IVec S16 32) a x).toNat < S256.size a := fun v933 k0_hw53 => k0_hw53
def k0_off268 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_274 : BitVec 32 := 16#32
  let v931 : BitVec 32 := Scalar.muli arg26 c16_i32_274
  let c10_i32 : BitVec 32 := 10#32
  let v932 : BitVec 32 := Scalar.addi v931 c10_i32
  let v935 : Index := Scalar.indexCast v932
  let c0_275 : Index := 0#32
  ![v935.toNat, 0]
def k0_off269 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_274 : BitVec 32 := 16#32
  let v931 : BitVec 32 := Scalar.muli arg26 c16_i32_274
  let c10_i32 : BitVec 32 := 10#32
  let v932 : BitVec 32 := Scalar.addi v931 c10_i32
  let v939 : Index := Scalar.indexCast v932
  let c16_276 : Index := 16#32
  ![v939.toNat, 16]
def k0_off270 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_274 : BitVec 32 := 16#32
  let v931 : BitVec 32 := Scalar.muli arg26 c16_i32_274
  let c10_i32 : BitVec 32 := 10#32
  let v932 : BitVec 32 := Scalar.addi v931 c10_i32
  let v943 : Index := Scalar.indexCast v932
  let c32_277 : Index := 32#32
  ![v943.toNat, 32]
def k0_off271 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_274 : BitVec 32 := 16#32
  let v931 : BitVec 32 := Scalar.muli arg26 c16_i32_274
  let c10_i32 : BitVec 32 := 10#32
  let v932 : BitVec 32 := Scalar.addi v931 c10_i32
  let v947 : Index := Scalar.indexCast v932
  let c48_278 : Index := 48#32
  ![v947.toNat, 48]
def k0_off272 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_274 : BitVec 32 := 16#32
  let v931 : BitVec 32 := Scalar.muli arg26 c16_i32_274
  let c10_i32 : BitVec 32 := 10#32
  let v932 : BitVec 32 := Scalar.addi v931 c10_i32
  let v951 : Index := Scalar.indexCast v932
  let c64_279 : Index := 64#32
  ![v951.toNat, 64]
def k0_off273 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_274 : BitVec 32 := 16#32
  let v931 : BitVec 32 := Scalar.muli arg26 c16_i32_274
  let c10_i32 : BitVec 32 := 10#32
  let v932 : BitVec 32 := Scalar.addi v931 c10_i32
  let v955 : Index := Scalar.indexCast v932
  let c80_280 : Index := 80#32
  ![v955.toNat, 80]

def k0_chk54 (v961 : IVec S16 32) : Prop :=
  (∀ a x, ((![v961] : Fin 1 → IVec S16 32) a x).toNat < S256.size a)
theorem k0_idx64_inb : ∀ (v961 : IVec S16 32) (k0_hw54 : k0_chk54 v961), ∀ a x, ((![v961] : Fin 1 → IVec S16 32) a x).toNat < S256.size a := fun v961 k0_hw54 => k0_hw54
def k0_off274 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_281 : BitVec 32 := 16#32
  let v959 : BitVec 32 := Scalar.muli arg26 c16_i32_281
  let c11_i32 : BitVec 32 := 11#32
  let v960 : BitVec 32 := Scalar.addi v959 c11_i32
  let v963 : Index := Scalar.indexCast v960
  let c0_282 : Index := 0#32
  ![v963.toNat, 0]
def k0_off275 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_281 : BitVec 32 := 16#32
  let v959 : BitVec 32 := Scalar.muli arg26 c16_i32_281
  let c11_i32 : BitVec 32 := 11#32
  let v960 : BitVec 32 := Scalar.addi v959 c11_i32
  let v967 : Index := Scalar.indexCast v960
  let c16_283 : Index := 16#32
  ![v967.toNat, 16]
def k0_off276 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_281 : BitVec 32 := 16#32
  let v959 : BitVec 32 := Scalar.muli arg26 c16_i32_281
  let c11_i32 : BitVec 32 := 11#32
  let v960 : BitVec 32 := Scalar.addi v959 c11_i32
  let v971 : Index := Scalar.indexCast v960
  let c32_284 : Index := 32#32
  ![v971.toNat, 32]
def k0_off277 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_281 : BitVec 32 := 16#32
  let v959 : BitVec 32 := Scalar.muli arg26 c16_i32_281
  let c11_i32 : BitVec 32 := 11#32
  let v960 : BitVec 32 := Scalar.addi v959 c11_i32
  let v975 : Index := Scalar.indexCast v960
  let c48_285 : Index := 48#32
  ![v975.toNat, 48]
def k0_off278 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_281 : BitVec 32 := 16#32
  let v959 : BitVec 32 := Scalar.muli arg26 c16_i32_281
  let c11_i32 : BitVec 32 := 11#32
  let v960 : BitVec 32 := Scalar.addi v959 c11_i32
  let v979 : Index := Scalar.indexCast v960
  let c64_286 : Index := 64#32
  ![v979.toNat, 64]
def k0_off279 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_281 : BitVec 32 := 16#32
  let v959 : BitVec 32 := Scalar.muli arg26 c16_i32_281
  let c11_i32 : BitVec 32 := 11#32
  let v960 : BitVec 32 := Scalar.addi v959 c11_i32
  let v983 : Index := Scalar.indexCast v960
  let c80_287 : Index := 80#32
  ![v983.toNat, 80]

def k0_chk55 (v989 : IVec S16 32) : Prop :=
  (∀ a x, ((![v989] : Fin 1 → IVec S16 32) a x).toNat < S256.size a)
theorem k0_idx65_inb : ∀ (v989 : IVec S16 32) (k0_hw55 : k0_chk55 v989), ∀ a x, ((![v989] : Fin 1 → IVec S16 32) a x).toNat < S256.size a := fun v989 k0_hw55 => k0_hw55
def k0_off280 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_288 : BitVec 32 := 16#32
  let v987 : BitVec 32 := Scalar.muli arg26 c16_i32_288
  let c12_i32 : BitVec 32 := 12#32
  let v988 : BitVec 32 := Scalar.addi v987 c12_i32
  let v991 : Index := Scalar.indexCast v988
  let c0_289 : Index := 0#32
  ![v991.toNat, 0]
def k0_off281 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_288 : BitVec 32 := 16#32
  let v987 : BitVec 32 := Scalar.muli arg26 c16_i32_288
  let c12_i32 : BitVec 32 := 12#32
  let v988 : BitVec 32 := Scalar.addi v987 c12_i32
  let v995 : Index := Scalar.indexCast v988
  let c16_290 : Index := 16#32
  ![v995.toNat, 16]
def k0_off282 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_288 : BitVec 32 := 16#32
  let v987 : BitVec 32 := Scalar.muli arg26 c16_i32_288
  let c12_i32 : BitVec 32 := 12#32
  let v988 : BitVec 32 := Scalar.addi v987 c12_i32
  let v999 : Index := Scalar.indexCast v988
  let c32_291 : Index := 32#32
  ![v999.toNat, 32]
def k0_off283 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_288 : BitVec 32 := 16#32
  let v987 : BitVec 32 := Scalar.muli arg26 c16_i32_288
  let c12_i32 : BitVec 32 := 12#32
  let v988 : BitVec 32 := Scalar.addi v987 c12_i32
  let v1003 : Index := Scalar.indexCast v988
  let c48_292 : Index := 48#32
  ![v1003.toNat, 48]
def k0_off284 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_288 : BitVec 32 := 16#32
  let v987 : BitVec 32 := Scalar.muli arg26 c16_i32_288
  let c12_i32 : BitVec 32 := 12#32
  let v988 : BitVec 32 := Scalar.addi v987 c12_i32
  let v1007 : Index := Scalar.indexCast v988
  let c64_293 : Index := 64#32
  ![v1007.toNat, 64]
def k0_off285 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_288 : BitVec 32 := 16#32
  let v987 : BitVec 32 := Scalar.muli arg26 c16_i32_288
  let c12_i32 : BitVec 32 := 12#32
  let v988 : BitVec 32 := Scalar.addi v987 c12_i32
  let v1011 : Index := Scalar.indexCast v988
  let c80_294 : Index := 80#32
  ![v1011.toNat, 80]

def k0_chk56 (v1017 : IVec S16 32) : Prop :=
  (∀ a x, ((![v1017] : Fin 1 → IVec S16 32) a x).toNat < S256.size a)
theorem k0_idx66_inb : ∀ (v1017 : IVec S16 32) (k0_hw56 : k0_chk56 v1017), ∀ a x, ((![v1017] : Fin 1 → IVec S16 32) a x).toNat < S256.size a := fun v1017 k0_hw56 => k0_hw56
def k0_off286 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_295 : BitVec 32 := 16#32
  let v1015 : BitVec 32 := Scalar.muli arg26 c16_i32_295
  let c13_i32 : BitVec 32 := 13#32
  let v1016 : BitVec 32 := Scalar.addi v1015 c13_i32
  let v1019 : Index := Scalar.indexCast v1016
  let c0_296 : Index := 0#32
  ![v1019.toNat, 0]
def k0_off287 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_295 : BitVec 32 := 16#32
  let v1015 : BitVec 32 := Scalar.muli arg26 c16_i32_295
  let c13_i32 : BitVec 32 := 13#32
  let v1016 : BitVec 32 := Scalar.addi v1015 c13_i32
  let v1023 : Index := Scalar.indexCast v1016
  let c16_297 : Index := 16#32
  ![v1023.toNat, 16]
def k0_off288 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_295 : BitVec 32 := 16#32
  let v1015 : BitVec 32 := Scalar.muli arg26 c16_i32_295
  let c13_i32 : BitVec 32 := 13#32
  let v1016 : BitVec 32 := Scalar.addi v1015 c13_i32
  let v1027 : Index := Scalar.indexCast v1016
  let c32_298 : Index := 32#32
  ![v1027.toNat, 32]
def k0_off289 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_295 : BitVec 32 := 16#32
  let v1015 : BitVec 32 := Scalar.muli arg26 c16_i32_295
  let c13_i32 : BitVec 32 := 13#32
  let v1016 : BitVec 32 := Scalar.addi v1015 c13_i32
  let v1031 : Index := Scalar.indexCast v1016
  let c48_299 : Index := 48#32
  ![v1031.toNat, 48]
def k0_off290 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_295 : BitVec 32 := 16#32
  let v1015 : BitVec 32 := Scalar.muli arg26 c16_i32_295
  let c13_i32 : BitVec 32 := 13#32
  let v1016 : BitVec 32 := Scalar.addi v1015 c13_i32
  let v1035 : Index := Scalar.indexCast v1016
  let c64_300 : Index := 64#32
  ![v1035.toNat, 64]
def k0_off291 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_295 : BitVec 32 := 16#32
  let v1015 : BitVec 32 := Scalar.muli arg26 c16_i32_295
  let c13_i32 : BitVec 32 := 13#32
  let v1016 : BitVec 32 := Scalar.addi v1015 c13_i32
  let v1039 : Index := Scalar.indexCast v1016
  let c80_301 : Index := 80#32
  ![v1039.toNat, 80]

def k0_chk57 (v1045 : IVec S16 32) : Prop :=
  (∀ a x, ((![v1045] : Fin 1 → IVec S16 32) a x).toNat < S256.size a)
theorem k0_idx67_inb : ∀ (v1045 : IVec S16 32) (k0_hw57 : k0_chk57 v1045), ∀ a x, ((![v1045] : Fin 1 → IVec S16 32) a x).toNat < S256.size a := fun v1045 k0_hw57 => k0_hw57
def k0_off292 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_302 : BitVec 32 := 16#32
  let v1043 : BitVec 32 := Scalar.muli arg26 c16_i32_302
  let c14_i32 : BitVec 32 := 14#32
  let v1044 : BitVec 32 := Scalar.addi v1043 c14_i32
  let v1047 : Index := Scalar.indexCast v1044
  let c0_303 : Index := 0#32
  ![v1047.toNat, 0]
def k0_off293 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_302 : BitVec 32 := 16#32
  let v1043 : BitVec 32 := Scalar.muli arg26 c16_i32_302
  let c14_i32 : BitVec 32 := 14#32
  let v1044 : BitVec 32 := Scalar.addi v1043 c14_i32
  let v1051 : Index := Scalar.indexCast v1044
  let c16_304 : Index := 16#32
  ![v1051.toNat, 16]
def k0_off294 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_302 : BitVec 32 := 16#32
  let v1043 : BitVec 32 := Scalar.muli arg26 c16_i32_302
  let c14_i32 : BitVec 32 := 14#32
  let v1044 : BitVec 32 := Scalar.addi v1043 c14_i32
  let v1055 : Index := Scalar.indexCast v1044
  let c32_305 : Index := 32#32
  ![v1055.toNat, 32]
def k0_off295 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_302 : BitVec 32 := 16#32
  let v1043 : BitVec 32 := Scalar.muli arg26 c16_i32_302
  let c14_i32 : BitVec 32 := 14#32
  let v1044 : BitVec 32 := Scalar.addi v1043 c14_i32
  let v1059 : Index := Scalar.indexCast v1044
  let c48_306 : Index := 48#32
  ![v1059.toNat, 48]
def k0_off296 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_302 : BitVec 32 := 16#32
  let v1043 : BitVec 32 := Scalar.muli arg26 c16_i32_302
  let c14_i32 : BitVec 32 := 14#32
  let v1044 : BitVec 32 := Scalar.addi v1043 c14_i32
  let v1063 : Index := Scalar.indexCast v1044
  let c64_307 : Index := 64#32
  ![v1063.toNat, 64]
def k0_off297 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_302 : BitVec 32 := 16#32
  let v1043 : BitVec 32 := Scalar.muli arg26 c16_i32_302
  let c14_i32 : BitVec 32 := 14#32
  let v1044 : BitVec 32 := Scalar.addi v1043 c14_i32
  let v1067 : Index := Scalar.indexCast v1044
  let c80_308 : Index := 80#32
  ![v1067.toNat, 80]

def k0_chk58 (v1073 : IVec S16 32) : Prop :=
  (∀ a x, ((![v1073] : Fin 1 → IVec S16 32) a x).toNat < S256.size a)
theorem k0_idx68_inb : ∀ (v1073 : IVec S16 32) (k0_hw58 : k0_chk58 v1073), ∀ a x, ((![v1073] : Fin 1 → IVec S16 32) a x).toNat < S256.size a := fun v1073 k0_hw58 => k0_hw58
def k0_off298 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_309 : BitVec 32 := 16#32
  let v1071 : BitVec 32 := Scalar.muli arg26 c16_i32_309
  let c15_i32 : BitVec 32 := 15#32
  let v1072 : BitVec 32 := Scalar.addi v1071 c15_i32
  let v1075 : Index := Scalar.indexCast v1072
  let c0_310 : Index := 0#32
  ![v1075.toNat, 0]
def k0_off299 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_309 : BitVec 32 := 16#32
  let v1071 : BitVec 32 := Scalar.muli arg26 c16_i32_309
  let c15_i32 : BitVec 32 := 15#32
  let v1072 : BitVec 32 := Scalar.addi v1071 c15_i32
  let v1079 : Index := Scalar.indexCast v1072
  let c16_311 : Index := 16#32
  ![v1079.toNat, 16]
def k0_off300 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_309 : BitVec 32 := 16#32
  let v1071 : BitVec 32 := Scalar.muli arg26 c16_i32_309
  let c15_i32 : BitVec 32 := 15#32
  let v1072 : BitVec 32 := Scalar.addi v1071 c15_i32
  let v1083 : Index := Scalar.indexCast v1072
  let c32_312 : Index := 32#32
  ![v1083.toNat, 32]
def k0_off301 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_309 : BitVec 32 := 16#32
  let v1071 : BitVec 32 := Scalar.muli arg26 c16_i32_309
  let c15_i32 : BitVec 32 := 15#32
  let v1072 : BitVec 32 := Scalar.addi v1071 c15_i32
  let v1087 : Index := Scalar.indexCast v1072
  let c48_313 : Index := 48#32
  ![v1087.toNat, 48]
def k0_off302 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_309 : BitVec 32 := 16#32
  let v1071 : BitVec 32 := Scalar.muli arg26 c16_i32_309
  let c15_i32 : BitVec 32 := 15#32
  let v1072 : BitVec 32 := Scalar.addi v1071 c15_i32
  let v1091 : Index := Scalar.indexCast v1072
  let c64_314 : Index := 64#32
  ![v1091.toNat, 64]
def k0_off303 (v170 : BitVec 32) (k0_t12 : Fin (k0_t12_loop v170).trips) : Fin 2 → Nat :=
  let c0_i32_184 : BitVec 32 := 0#32
  let c1_i32_186 : BitVec 32 := 1#32
  let arg26 : BitVec 32 := Scf.iv c0_i32_184 c1_i32_186 k0_t12
  let c16_i32_309 : BitVec 32 := 16#32
  let v1071 : BitVec 32 := Scalar.muli arg26 c16_i32_309
  let c15_i32 : BitVec 32 := 15#32
  let v1072 : BitVec 32 := Scalar.addi v1071 c15_i32
  let v1095 : Index := Scalar.indexCast v1072
  let c80_315 : Index := 80#32
  ![v1095.toNat, 80]
@[reducible] def k0_t13_loop (v170 : BitVec 32) : Scf.Loop 32 :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let v565 : BitVec 32 := Scalar.addi c0_i32_184 v564
  let c1_i32_187 : BitVec 32 := 1#32
  ⟨v568, v565, c1_i32_187⟩

def k0_chk59 (v653 : IVec S16 32) : Prop :=
  (∀ a x, ((![v653] : Fin 1 → IVec S16 32) a x).toNat < S256.size a)
theorem k0_idx69_inb : ∀ (v653 : IVec S16 32) (k0_hw59 : k0_chk59 v653), ∀ a x, ((![v653] : Fin 1 → IVec S16 32) a x).toNat < S256.size a := fun v653 k0_hw59 => k0_hw59
def k0_off304 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_200 : BitVec 32 := 16#32
  let v651 : BitVec 32 := Scalar.muli arg26 c16_i32_200
  let c0_i32_201 : BitVec 32 := 0#32
  let v652 : BitVec 32 := Scalar.addi v651 c0_i32_201
  let v655 : Index := Scalar.indexCast v652
  let c0_202 : Index := 0#32
  ![v655.toNat, 0]
def k0_off305 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_200 : BitVec 32 := 16#32
  let v651 : BitVec 32 := Scalar.muli arg26 c16_i32_200
  let c0_i32_201 : BitVec 32 := 0#32
  let v652 : BitVec 32 := Scalar.addi v651 c0_i32_201
  let v659 : Index := Scalar.indexCast v652
  let c16_203 : Index := 16#32
  ![v659.toNat, 16]
def k0_off306 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_200 : BitVec 32 := 16#32
  let v651 : BitVec 32 := Scalar.muli arg26 c16_i32_200
  let c0_i32_201 : BitVec 32 := 0#32
  let v652 : BitVec 32 := Scalar.addi v651 c0_i32_201
  let v663 : Index := Scalar.indexCast v652
  let c32_204 : Index := 32#32
  ![v663.toNat, 32]
def k0_off307 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_200 : BitVec 32 := 16#32
  let v651 : BitVec 32 := Scalar.muli arg26 c16_i32_200
  let c0_i32_201 : BitVec 32 := 0#32
  let v652 : BitVec 32 := Scalar.addi v651 c0_i32_201
  let v667 : Index := Scalar.indexCast v652
  let c48_205 : Index := 48#32
  ![v667.toNat, 48]
def k0_off308 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_200 : BitVec 32 := 16#32
  let v651 : BitVec 32 := Scalar.muli arg26 c16_i32_200
  let c0_i32_201 : BitVec 32 := 0#32
  let v652 : BitVec 32 := Scalar.addi v651 c0_i32_201
  let v671 : Index := Scalar.indexCast v652
  let c64_206 : Index := 64#32
  ![v671.toNat, 64]
def k0_off309 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_200 : BitVec 32 := 16#32
  let v651 : BitVec 32 := Scalar.muli arg26 c16_i32_200
  let c0_i32_201 : BitVec 32 := 0#32
  let v652 : BitVec 32 := Scalar.addi v651 c0_i32_201
  let v675 : Index := Scalar.indexCast v652
  let c80_207 : Index := 80#32
  ![v675.toNat, 80]

def k0_chk60 (v681 : IVec S16 32) : Prop :=
  (∀ a x, ((![v681] : Fin 1 → IVec S16 32) a x).toNat < S256.size a)
theorem k0_idx70_inb : ∀ (v681 : IVec S16 32) (k0_hw60 : k0_chk60 v681), ∀ a x, ((![v681] : Fin 1 → IVec S16 32) a x).toNat < S256.size a := fun v681 k0_hw60 => k0_hw60
def k0_off310 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_208 : BitVec 32 := 16#32
  let v679 : BitVec 32 := Scalar.muli arg26 c16_i32_208
  let c1_i32_209 : BitVec 32 := 1#32
  let v680 : BitVec 32 := Scalar.addi v679 c1_i32_209
  let v683 : Index := Scalar.indexCast v680
  let c0_210 : Index := 0#32
  ![v683.toNat, 0]
def k0_off311 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_208 : BitVec 32 := 16#32
  let v679 : BitVec 32 := Scalar.muli arg26 c16_i32_208
  let c1_i32_209 : BitVec 32 := 1#32
  let v680 : BitVec 32 := Scalar.addi v679 c1_i32_209
  let v687 : Index := Scalar.indexCast v680
  let c16_211 : Index := 16#32
  ![v687.toNat, 16]
def k0_off312 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_208 : BitVec 32 := 16#32
  let v679 : BitVec 32 := Scalar.muli arg26 c16_i32_208
  let c1_i32_209 : BitVec 32 := 1#32
  let v680 : BitVec 32 := Scalar.addi v679 c1_i32_209
  let v691 : Index := Scalar.indexCast v680
  let c32_212 : Index := 32#32
  ![v691.toNat, 32]
def k0_off313 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_208 : BitVec 32 := 16#32
  let v679 : BitVec 32 := Scalar.muli arg26 c16_i32_208
  let c1_i32_209 : BitVec 32 := 1#32
  let v680 : BitVec 32 := Scalar.addi v679 c1_i32_209
  let v695 : Index := Scalar.indexCast v680
  let c48_213 : Index := 48#32
  ![v695.toNat, 48]
def k0_off314 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_208 : BitVec 32 := 16#32
  let v679 : BitVec 32 := Scalar.muli arg26 c16_i32_208
  let c1_i32_209 : BitVec 32 := 1#32
  let v680 : BitVec 32 := Scalar.addi v679 c1_i32_209
  let v699 : Index := Scalar.indexCast v680
  let c64_214 : Index := 64#32
  ![v699.toNat, 64]
def k0_off315 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_208 : BitVec 32 := 16#32
  let v679 : BitVec 32 := Scalar.muli arg26 c16_i32_208
  let c1_i32_209 : BitVec 32 := 1#32
  let v680 : BitVec 32 := Scalar.addi v679 c1_i32_209
  let v703 : Index := Scalar.indexCast v680
  let c80_215 : Index := 80#32
  ![v703.toNat, 80]

def k0_chk61 (v709 : IVec S16 32) : Prop :=
  (∀ a x, ((![v709] : Fin 1 → IVec S16 32) a x).toNat < S256.size a)
theorem k0_idx71_inb : ∀ (v709 : IVec S16 32) (k0_hw61 : k0_chk61 v709), ∀ a x, ((![v709] : Fin 1 → IVec S16 32) a x).toNat < S256.size a := fun v709 k0_hw61 => k0_hw61
def k0_off316 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_216 : BitVec 32 := 16#32
  let v707 : BitVec 32 := Scalar.muli arg26 c16_i32_216
  let c2_i32_217 : BitVec 32 := 2#32
  let v708 : BitVec 32 := Scalar.addi v707 c2_i32_217
  let v711 : Index := Scalar.indexCast v708
  let c0_218 : Index := 0#32
  ![v711.toNat, 0]
def k0_off317 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_216 : BitVec 32 := 16#32
  let v707 : BitVec 32 := Scalar.muli arg26 c16_i32_216
  let c2_i32_217 : BitVec 32 := 2#32
  let v708 : BitVec 32 := Scalar.addi v707 c2_i32_217
  let v715 : Index := Scalar.indexCast v708
  let c16_219 : Index := 16#32
  ![v715.toNat, 16]
def k0_off318 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_216 : BitVec 32 := 16#32
  let v707 : BitVec 32 := Scalar.muli arg26 c16_i32_216
  let c2_i32_217 : BitVec 32 := 2#32
  let v708 : BitVec 32 := Scalar.addi v707 c2_i32_217
  let v719 : Index := Scalar.indexCast v708
  let c32_220 : Index := 32#32
  ![v719.toNat, 32]
def k0_off319 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_216 : BitVec 32 := 16#32
  let v707 : BitVec 32 := Scalar.muli arg26 c16_i32_216
  let c2_i32_217 : BitVec 32 := 2#32
  let v708 : BitVec 32 := Scalar.addi v707 c2_i32_217
  let v723 : Index := Scalar.indexCast v708
  let c48_221 : Index := 48#32
  ![v723.toNat, 48]
def k0_off320 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_216 : BitVec 32 := 16#32
  let v707 : BitVec 32 := Scalar.muli arg26 c16_i32_216
  let c2_i32_217 : BitVec 32 := 2#32
  let v708 : BitVec 32 := Scalar.addi v707 c2_i32_217
  let v727 : Index := Scalar.indexCast v708
  let c64_222 : Index := 64#32
  ![v727.toNat, 64]
def k0_off321 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_216 : BitVec 32 := 16#32
  let v707 : BitVec 32 := Scalar.muli arg26 c16_i32_216
  let c2_i32_217 : BitVec 32 := 2#32
  let v708 : BitVec 32 := Scalar.addi v707 c2_i32_217
  let v731 : Index := Scalar.indexCast v708
  let c80_223 : Index := 80#32
  ![v731.toNat, 80]

def k0_chk62 (v737 : IVec S16 32) : Prop :=
  (∀ a x, ((![v737] : Fin 1 → IVec S16 32) a x).toNat < S256.size a)
theorem k0_idx72_inb : ∀ (v737 : IVec S16 32) (k0_hw62 : k0_chk62 v737), ∀ a x, ((![v737] : Fin 1 → IVec S16 32) a x).toNat < S256.size a := fun v737 k0_hw62 => k0_hw62
def k0_off322 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_224 : BitVec 32 := 16#32
  let v735 : BitVec 32 := Scalar.muli arg26 c16_i32_224
  let c3_i32 : BitVec 32 := 3#32
  let v736 : BitVec 32 := Scalar.addi v735 c3_i32
  let v739 : Index := Scalar.indexCast v736
  let c0_225 : Index := 0#32
  ![v739.toNat, 0]
def k0_off323 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_224 : BitVec 32 := 16#32
  let v735 : BitVec 32 := Scalar.muli arg26 c16_i32_224
  let c3_i32 : BitVec 32 := 3#32
  let v736 : BitVec 32 := Scalar.addi v735 c3_i32
  let v743 : Index := Scalar.indexCast v736
  let c16_226 : Index := 16#32
  ![v743.toNat, 16]
def k0_off324 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_224 : BitVec 32 := 16#32
  let v735 : BitVec 32 := Scalar.muli arg26 c16_i32_224
  let c3_i32 : BitVec 32 := 3#32
  let v736 : BitVec 32 := Scalar.addi v735 c3_i32
  let v747 : Index := Scalar.indexCast v736
  let c32_227 : Index := 32#32
  ![v747.toNat, 32]
def k0_off325 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_224 : BitVec 32 := 16#32
  let v735 : BitVec 32 := Scalar.muli arg26 c16_i32_224
  let c3_i32 : BitVec 32 := 3#32
  let v736 : BitVec 32 := Scalar.addi v735 c3_i32
  let v751 : Index := Scalar.indexCast v736
  let c48_228 : Index := 48#32
  ![v751.toNat, 48]
def k0_off326 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_224 : BitVec 32 := 16#32
  let v735 : BitVec 32 := Scalar.muli arg26 c16_i32_224
  let c3_i32 : BitVec 32 := 3#32
  let v736 : BitVec 32 := Scalar.addi v735 c3_i32
  let v755 : Index := Scalar.indexCast v736
  let c64_229 : Index := 64#32
  ![v755.toNat, 64]
def k0_off327 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_224 : BitVec 32 := 16#32
  let v735 : BitVec 32 := Scalar.muli arg26 c16_i32_224
  let c3_i32 : BitVec 32 := 3#32
  let v736 : BitVec 32 := Scalar.addi v735 c3_i32
  let v759 : Index := Scalar.indexCast v736
  let c80_230 : Index := 80#32
  ![v759.toNat, 80]

def k0_chk63 (v765 : IVec S16 32) : Prop :=
  (∀ a x, ((![v765] : Fin 1 → IVec S16 32) a x).toNat < S256.size a)
theorem k0_idx73_inb : ∀ (v765 : IVec S16 32) (k0_hw63 : k0_chk63 v765), ∀ a x, ((![v765] : Fin 1 → IVec S16 32) a x).toNat < S256.size a := fun v765 k0_hw63 => k0_hw63
def k0_off328 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_231 : BitVec 32 := 16#32
  let v763 : BitVec 32 := Scalar.muli arg26 c16_i32_231
  let c4_i32 : BitVec 32 := 4#32
  let v764 : BitVec 32 := Scalar.addi v763 c4_i32
  let v767 : Index := Scalar.indexCast v764
  let c0_232 : Index := 0#32
  ![v767.toNat, 0]
def k0_off329 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_231 : BitVec 32 := 16#32
  let v763 : BitVec 32 := Scalar.muli arg26 c16_i32_231
  let c4_i32 : BitVec 32 := 4#32
  let v764 : BitVec 32 := Scalar.addi v763 c4_i32
  let v771 : Index := Scalar.indexCast v764
  let c16_233 : Index := 16#32
  ![v771.toNat, 16]
def k0_off330 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_231 : BitVec 32 := 16#32
  let v763 : BitVec 32 := Scalar.muli arg26 c16_i32_231
  let c4_i32 : BitVec 32 := 4#32
  let v764 : BitVec 32 := Scalar.addi v763 c4_i32
  let v775 : Index := Scalar.indexCast v764
  let c32_234 : Index := 32#32
  ![v775.toNat, 32]
def k0_off331 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_231 : BitVec 32 := 16#32
  let v763 : BitVec 32 := Scalar.muli arg26 c16_i32_231
  let c4_i32 : BitVec 32 := 4#32
  let v764 : BitVec 32 := Scalar.addi v763 c4_i32
  let v779 : Index := Scalar.indexCast v764
  let c48_235 : Index := 48#32
  ![v779.toNat, 48]
def k0_off332 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_231 : BitVec 32 := 16#32
  let v763 : BitVec 32 := Scalar.muli arg26 c16_i32_231
  let c4_i32 : BitVec 32 := 4#32
  let v764 : BitVec 32 := Scalar.addi v763 c4_i32
  let v783 : Index := Scalar.indexCast v764
  let c64_236 : Index := 64#32
  ![v783.toNat, 64]
def k0_off333 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_231 : BitVec 32 := 16#32
  let v763 : BitVec 32 := Scalar.muli arg26 c16_i32_231
  let c4_i32 : BitVec 32 := 4#32
  let v764 : BitVec 32 := Scalar.addi v763 c4_i32
  let v787 : Index := Scalar.indexCast v764
  let c80_237 : Index := 80#32
  ![v787.toNat, 80]

def k0_chk64 (v793 : IVec S16 32) : Prop :=
  (∀ a x, ((![v793] : Fin 1 → IVec S16 32) a x).toNat < S256.size a)
theorem k0_idx74_inb : ∀ (v793 : IVec S16 32) (k0_hw64 : k0_chk64 v793), ∀ a x, ((![v793] : Fin 1 → IVec S16 32) a x).toNat < S256.size a := fun v793 k0_hw64 => k0_hw64
def k0_off334 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_238 : BitVec 32 := 16#32
  let v791 : BitVec 32 := Scalar.muli arg26 c16_i32_238
  let c5_i32 : BitVec 32 := 5#32
  let v792 : BitVec 32 := Scalar.addi v791 c5_i32
  let v795 : Index := Scalar.indexCast v792
  let c0_239 : Index := 0#32
  ![v795.toNat, 0]
def k0_off335 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_238 : BitVec 32 := 16#32
  let v791 : BitVec 32 := Scalar.muli arg26 c16_i32_238
  let c5_i32 : BitVec 32 := 5#32
  let v792 : BitVec 32 := Scalar.addi v791 c5_i32
  let v799 : Index := Scalar.indexCast v792
  let c16_240 : Index := 16#32
  ![v799.toNat, 16]
def k0_off336 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_238 : BitVec 32 := 16#32
  let v791 : BitVec 32 := Scalar.muli arg26 c16_i32_238
  let c5_i32 : BitVec 32 := 5#32
  let v792 : BitVec 32 := Scalar.addi v791 c5_i32
  let v803 : Index := Scalar.indexCast v792
  let c32_241 : Index := 32#32
  ![v803.toNat, 32]
def k0_off337 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_238 : BitVec 32 := 16#32
  let v791 : BitVec 32 := Scalar.muli arg26 c16_i32_238
  let c5_i32 : BitVec 32 := 5#32
  let v792 : BitVec 32 := Scalar.addi v791 c5_i32
  let v807 : Index := Scalar.indexCast v792
  let c48_242 : Index := 48#32
  ![v807.toNat, 48]
def k0_off338 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_238 : BitVec 32 := 16#32
  let v791 : BitVec 32 := Scalar.muli arg26 c16_i32_238
  let c5_i32 : BitVec 32 := 5#32
  let v792 : BitVec 32 := Scalar.addi v791 c5_i32
  let v811 : Index := Scalar.indexCast v792
  let c64_243 : Index := 64#32
  ![v811.toNat, 64]
def k0_off339 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_238 : BitVec 32 := 16#32
  let v791 : BitVec 32 := Scalar.muli arg26 c16_i32_238
  let c5_i32 : BitVec 32 := 5#32
  let v792 : BitVec 32 := Scalar.addi v791 c5_i32
  let v815 : Index := Scalar.indexCast v792
  let c80_244 : Index := 80#32
  ![v815.toNat, 80]

def k0_chk65 (v821 : IVec S16 32) : Prop :=
  (∀ a x, ((![v821] : Fin 1 → IVec S16 32) a x).toNat < S256.size a)
theorem k0_idx75_inb : ∀ (v821 : IVec S16 32) (k0_hw65 : k0_chk65 v821), ∀ a x, ((![v821] : Fin 1 → IVec S16 32) a x).toNat < S256.size a := fun v821 k0_hw65 => k0_hw65
def k0_off340 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_245 : BitVec 32 := 16#32
  let v819 : BitVec 32 := Scalar.muli arg26 c16_i32_245
  let c6_i32 : BitVec 32 := 6#32
  let v820 : BitVec 32 := Scalar.addi v819 c6_i32
  let v823 : Index := Scalar.indexCast v820
  let c0_246 : Index := 0#32
  ![v823.toNat, 0]
def k0_off341 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_245 : BitVec 32 := 16#32
  let v819 : BitVec 32 := Scalar.muli arg26 c16_i32_245
  let c6_i32 : BitVec 32 := 6#32
  let v820 : BitVec 32 := Scalar.addi v819 c6_i32
  let v827 : Index := Scalar.indexCast v820
  let c16_247 : Index := 16#32
  ![v827.toNat, 16]
def k0_off342 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_245 : BitVec 32 := 16#32
  let v819 : BitVec 32 := Scalar.muli arg26 c16_i32_245
  let c6_i32 : BitVec 32 := 6#32
  let v820 : BitVec 32 := Scalar.addi v819 c6_i32
  let v831 : Index := Scalar.indexCast v820
  let c32_248 : Index := 32#32
  ![v831.toNat, 32]
def k0_off343 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_245 : BitVec 32 := 16#32
  let v819 : BitVec 32 := Scalar.muli arg26 c16_i32_245
  let c6_i32 : BitVec 32 := 6#32
  let v820 : BitVec 32 := Scalar.addi v819 c6_i32
  let v835 : Index := Scalar.indexCast v820
  let c48_249 : Index := 48#32
  ![v835.toNat, 48]
def k0_off344 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_245 : BitVec 32 := 16#32
  let v819 : BitVec 32 := Scalar.muli arg26 c16_i32_245
  let c6_i32 : BitVec 32 := 6#32
  let v820 : BitVec 32 := Scalar.addi v819 c6_i32
  let v839 : Index := Scalar.indexCast v820
  let c64_250 : Index := 64#32
  ![v839.toNat, 64]
def k0_off345 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_245 : BitVec 32 := 16#32
  let v819 : BitVec 32 := Scalar.muli arg26 c16_i32_245
  let c6_i32 : BitVec 32 := 6#32
  let v820 : BitVec 32 := Scalar.addi v819 c6_i32
  let v843 : Index := Scalar.indexCast v820
  let c80_251 : Index := 80#32
  ![v843.toNat, 80]

def k0_chk66 (v849 : IVec S16 32) : Prop :=
  (∀ a x, ((![v849] : Fin 1 → IVec S16 32) a x).toNat < S256.size a)
theorem k0_idx76_inb : ∀ (v849 : IVec S16 32) (k0_hw66 : k0_chk66 v849), ∀ a x, ((![v849] : Fin 1 → IVec S16 32) a x).toNat < S256.size a := fun v849 k0_hw66 => k0_hw66
def k0_off346 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_252 : BitVec 32 := 16#32
  let v847 : BitVec 32 := Scalar.muli arg26 c16_i32_252
  let c7_i32 : BitVec 32 := 7#32
  let v848 : BitVec 32 := Scalar.addi v847 c7_i32
  let v851 : Index := Scalar.indexCast v848
  let c0_253 : Index := 0#32
  ![v851.toNat, 0]
def k0_off347 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_252 : BitVec 32 := 16#32
  let v847 : BitVec 32 := Scalar.muli arg26 c16_i32_252
  let c7_i32 : BitVec 32 := 7#32
  let v848 : BitVec 32 := Scalar.addi v847 c7_i32
  let v855 : Index := Scalar.indexCast v848
  let c16_254 : Index := 16#32
  ![v855.toNat, 16]
def k0_off348 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_252 : BitVec 32 := 16#32
  let v847 : BitVec 32 := Scalar.muli arg26 c16_i32_252
  let c7_i32 : BitVec 32 := 7#32
  let v848 : BitVec 32 := Scalar.addi v847 c7_i32
  let v859 : Index := Scalar.indexCast v848
  let c32_255 : Index := 32#32
  ![v859.toNat, 32]
def k0_off349 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_252 : BitVec 32 := 16#32
  let v847 : BitVec 32 := Scalar.muli arg26 c16_i32_252
  let c7_i32 : BitVec 32 := 7#32
  let v848 : BitVec 32 := Scalar.addi v847 c7_i32
  let v863 : Index := Scalar.indexCast v848
  let c48_256 : Index := 48#32
  ![v863.toNat, 48]
def k0_off350 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_252 : BitVec 32 := 16#32
  let v847 : BitVec 32 := Scalar.muli arg26 c16_i32_252
  let c7_i32 : BitVec 32 := 7#32
  let v848 : BitVec 32 := Scalar.addi v847 c7_i32
  let v867 : Index := Scalar.indexCast v848
  let c64_257 : Index := 64#32
  ![v867.toNat, 64]
def k0_off351 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_252 : BitVec 32 := 16#32
  let v847 : BitVec 32 := Scalar.muli arg26 c16_i32_252
  let c7_i32 : BitVec 32 := 7#32
  let v848 : BitVec 32 := Scalar.addi v847 c7_i32
  let v871 : Index := Scalar.indexCast v848
  let c80_258 : Index := 80#32
  ![v871.toNat, 80]

def k0_chk67 (v877 : IVec S16 32) : Prop :=
  (∀ a x, ((![v877] : Fin 1 → IVec S16 32) a x).toNat < S256.size a)
theorem k0_idx77_inb : ∀ (v877 : IVec S16 32) (k0_hw67 : k0_chk67 v877), ∀ a x, ((![v877] : Fin 1 → IVec S16 32) a x).toNat < S256.size a := fun v877 k0_hw67 => k0_hw67
def k0_off352 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_259 : BitVec 32 := 16#32
  let v875 : BitVec 32 := Scalar.muli arg26 c16_i32_259
  let c8_i32_260 : BitVec 32 := 8#32
  let v876 : BitVec 32 := Scalar.addi v875 c8_i32_260
  let v879 : Index := Scalar.indexCast v876
  let c0_261 : Index := 0#32
  ![v879.toNat, 0]
def k0_off353 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_259 : BitVec 32 := 16#32
  let v875 : BitVec 32 := Scalar.muli arg26 c16_i32_259
  let c8_i32_260 : BitVec 32 := 8#32
  let v876 : BitVec 32 := Scalar.addi v875 c8_i32_260
  let v883 : Index := Scalar.indexCast v876
  let c16_262 : Index := 16#32
  ![v883.toNat, 16]
def k0_off354 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_259 : BitVec 32 := 16#32
  let v875 : BitVec 32 := Scalar.muli arg26 c16_i32_259
  let c8_i32_260 : BitVec 32 := 8#32
  let v876 : BitVec 32 := Scalar.addi v875 c8_i32_260
  let v887 : Index := Scalar.indexCast v876
  let c32_263 : Index := 32#32
  ![v887.toNat, 32]
def k0_off355 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_259 : BitVec 32 := 16#32
  let v875 : BitVec 32 := Scalar.muli arg26 c16_i32_259
  let c8_i32_260 : BitVec 32 := 8#32
  let v876 : BitVec 32 := Scalar.addi v875 c8_i32_260
  let v891 : Index := Scalar.indexCast v876
  let c48_264 : Index := 48#32
  ![v891.toNat, 48]
def k0_off356 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_259 : BitVec 32 := 16#32
  let v875 : BitVec 32 := Scalar.muli arg26 c16_i32_259
  let c8_i32_260 : BitVec 32 := 8#32
  let v876 : BitVec 32 := Scalar.addi v875 c8_i32_260
  let v895 : Index := Scalar.indexCast v876
  let c64_265 : Index := 64#32
  ![v895.toNat, 64]
def k0_off357 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_259 : BitVec 32 := 16#32
  let v875 : BitVec 32 := Scalar.muli arg26 c16_i32_259
  let c8_i32_260 : BitVec 32 := 8#32
  let v876 : BitVec 32 := Scalar.addi v875 c8_i32_260
  let v899 : Index := Scalar.indexCast v876
  let c80_266 : Index := 80#32
  ![v899.toNat, 80]

def k0_chk68 (v905 : IVec S16 32) : Prop :=
  (∀ a x, ((![v905] : Fin 1 → IVec S16 32) a x).toNat < S256.size a)
theorem k0_idx78_inb : ∀ (v905 : IVec S16 32) (k0_hw68 : k0_chk68 v905), ∀ a x, ((![v905] : Fin 1 → IVec S16 32) a x).toNat < S256.size a := fun v905 k0_hw68 => k0_hw68
def k0_off358 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_267 : BitVec 32 := 16#32
  let v903 : BitVec 32 := Scalar.muli arg26 c16_i32_267
  let c9_i32 : BitVec 32 := 9#32
  let v904 : BitVec 32 := Scalar.addi v903 c9_i32
  let v907 : Index := Scalar.indexCast v904
  let c0_268 : Index := 0#32
  ![v907.toNat, 0]
def k0_off359 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_267 : BitVec 32 := 16#32
  let v903 : BitVec 32 := Scalar.muli arg26 c16_i32_267
  let c9_i32 : BitVec 32 := 9#32
  let v904 : BitVec 32 := Scalar.addi v903 c9_i32
  let v911 : Index := Scalar.indexCast v904
  let c16_269 : Index := 16#32
  ![v911.toNat, 16]
def k0_off360 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_267 : BitVec 32 := 16#32
  let v903 : BitVec 32 := Scalar.muli arg26 c16_i32_267
  let c9_i32 : BitVec 32 := 9#32
  let v904 : BitVec 32 := Scalar.addi v903 c9_i32
  let v915 : Index := Scalar.indexCast v904
  let c32_270 : Index := 32#32
  ![v915.toNat, 32]
def k0_off361 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_267 : BitVec 32 := 16#32
  let v903 : BitVec 32 := Scalar.muli arg26 c16_i32_267
  let c9_i32 : BitVec 32 := 9#32
  let v904 : BitVec 32 := Scalar.addi v903 c9_i32
  let v919 : Index := Scalar.indexCast v904
  let c48_271 : Index := 48#32
  ![v919.toNat, 48]
def k0_off362 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_267 : BitVec 32 := 16#32
  let v903 : BitVec 32 := Scalar.muli arg26 c16_i32_267
  let c9_i32 : BitVec 32 := 9#32
  let v904 : BitVec 32 := Scalar.addi v903 c9_i32
  let v923 : Index := Scalar.indexCast v904
  let c64_272 : Index := 64#32
  ![v923.toNat, 64]
def k0_off363 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_267 : BitVec 32 := 16#32
  let v903 : BitVec 32 := Scalar.muli arg26 c16_i32_267
  let c9_i32 : BitVec 32 := 9#32
  let v904 : BitVec 32 := Scalar.addi v903 c9_i32
  let v927 : Index := Scalar.indexCast v904
  let c80_273 : Index := 80#32
  ![v927.toNat, 80]

def k0_chk69 (v933 : IVec S16 32) : Prop :=
  (∀ a x, ((![v933] : Fin 1 → IVec S16 32) a x).toNat < S256.size a)
theorem k0_idx79_inb : ∀ (v933 : IVec S16 32) (k0_hw69 : k0_chk69 v933), ∀ a x, ((![v933] : Fin 1 → IVec S16 32) a x).toNat < S256.size a := fun v933 k0_hw69 => k0_hw69
def k0_off364 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_274 : BitVec 32 := 16#32
  let v931 : BitVec 32 := Scalar.muli arg26 c16_i32_274
  let c10_i32 : BitVec 32 := 10#32
  let v932 : BitVec 32 := Scalar.addi v931 c10_i32
  let v935 : Index := Scalar.indexCast v932
  let c0_275 : Index := 0#32
  ![v935.toNat, 0]
def k0_off365 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_274 : BitVec 32 := 16#32
  let v931 : BitVec 32 := Scalar.muli arg26 c16_i32_274
  let c10_i32 : BitVec 32 := 10#32
  let v932 : BitVec 32 := Scalar.addi v931 c10_i32
  let v939 : Index := Scalar.indexCast v932
  let c16_276 : Index := 16#32
  ![v939.toNat, 16]
def k0_off366 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_274 : BitVec 32 := 16#32
  let v931 : BitVec 32 := Scalar.muli arg26 c16_i32_274
  let c10_i32 : BitVec 32 := 10#32
  let v932 : BitVec 32 := Scalar.addi v931 c10_i32
  let v943 : Index := Scalar.indexCast v932
  let c32_277 : Index := 32#32
  ![v943.toNat, 32]
def k0_off367 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_274 : BitVec 32 := 16#32
  let v931 : BitVec 32 := Scalar.muli arg26 c16_i32_274
  let c10_i32 : BitVec 32 := 10#32
  let v932 : BitVec 32 := Scalar.addi v931 c10_i32
  let v947 : Index := Scalar.indexCast v932
  let c48_278 : Index := 48#32
  ![v947.toNat, 48]
def k0_off368 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_274 : BitVec 32 := 16#32
  let v931 : BitVec 32 := Scalar.muli arg26 c16_i32_274
  let c10_i32 : BitVec 32 := 10#32
  let v932 : BitVec 32 := Scalar.addi v931 c10_i32
  let v951 : Index := Scalar.indexCast v932
  let c64_279 : Index := 64#32
  ![v951.toNat, 64]
def k0_off369 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_274 : BitVec 32 := 16#32
  let v931 : BitVec 32 := Scalar.muli arg26 c16_i32_274
  let c10_i32 : BitVec 32 := 10#32
  let v932 : BitVec 32 := Scalar.addi v931 c10_i32
  let v955 : Index := Scalar.indexCast v932
  let c80_280 : Index := 80#32
  ![v955.toNat, 80]

def k0_chk70 (v961 : IVec S16 32) : Prop :=
  (∀ a x, ((![v961] : Fin 1 → IVec S16 32) a x).toNat < S256.size a)
theorem k0_idx80_inb : ∀ (v961 : IVec S16 32) (k0_hw70 : k0_chk70 v961), ∀ a x, ((![v961] : Fin 1 → IVec S16 32) a x).toNat < S256.size a := fun v961 k0_hw70 => k0_hw70
def k0_off370 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_281 : BitVec 32 := 16#32
  let v959 : BitVec 32 := Scalar.muli arg26 c16_i32_281
  let c11_i32 : BitVec 32 := 11#32
  let v960 : BitVec 32 := Scalar.addi v959 c11_i32
  let v963 : Index := Scalar.indexCast v960
  let c0_282 : Index := 0#32
  ![v963.toNat, 0]
def k0_off371 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_281 : BitVec 32 := 16#32
  let v959 : BitVec 32 := Scalar.muli arg26 c16_i32_281
  let c11_i32 : BitVec 32 := 11#32
  let v960 : BitVec 32 := Scalar.addi v959 c11_i32
  let v967 : Index := Scalar.indexCast v960
  let c16_283 : Index := 16#32
  ![v967.toNat, 16]
def k0_off372 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_281 : BitVec 32 := 16#32
  let v959 : BitVec 32 := Scalar.muli arg26 c16_i32_281
  let c11_i32 : BitVec 32 := 11#32
  let v960 : BitVec 32 := Scalar.addi v959 c11_i32
  let v971 : Index := Scalar.indexCast v960
  let c32_284 : Index := 32#32
  ![v971.toNat, 32]
def k0_off373 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_281 : BitVec 32 := 16#32
  let v959 : BitVec 32 := Scalar.muli arg26 c16_i32_281
  let c11_i32 : BitVec 32 := 11#32
  let v960 : BitVec 32 := Scalar.addi v959 c11_i32
  let v975 : Index := Scalar.indexCast v960
  let c48_285 : Index := 48#32
  ![v975.toNat, 48]
def k0_off374 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_281 : BitVec 32 := 16#32
  let v959 : BitVec 32 := Scalar.muli arg26 c16_i32_281
  let c11_i32 : BitVec 32 := 11#32
  let v960 : BitVec 32 := Scalar.addi v959 c11_i32
  let v979 : Index := Scalar.indexCast v960
  let c64_286 : Index := 64#32
  ![v979.toNat, 64]
def k0_off375 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_281 : BitVec 32 := 16#32
  let v959 : BitVec 32 := Scalar.muli arg26 c16_i32_281
  let c11_i32 : BitVec 32 := 11#32
  let v960 : BitVec 32 := Scalar.addi v959 c11_i32
  let v983 : Index := Scalar.indexCast v960
  let c80_287 : Index := 80#32
  ![v983.toNat, 80]

def k0_chk71 (v989 : IVec S16 32) : Prop :=
  (∀ a x, ((![v989] : Fin 1 → IVec S16 32) a x).toNat < S256.size a)
theorem k0_idx81_inb : ∀ (v989 : IVec S16 32) (k0_hw71 : k0_chk71 v989), ∀ a x, ((![v989] : Fin 1 → IVec S16 32) a x).toNat < S256.size a := fun v989 k0_hw71 => k0_hw71
def k0_off376 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_288 : BitVec 32 := 16#32
  let v987 : BitVec 32 := Scalar.muli arg26 c16_i32_288
  let c12_i32 : BitVec 32 := 12#32
  let v988 : BitVec 32 := Scalar.addi v987 c12_i32
  let v991 : Index := Scalar.indexCast v988
  let c0_289 : Index := 0#32
  ![v991.toNat, 0]
def k0_off377 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_288 : BitVec 32 := 16#32
  let v987 : BitVec 32 := Scalar.muli arg26 c16_i32_288
  let c12_i32 : BitVec 32 := 12#32
  let v988 : BitVec 32 := Scalar.addi v987 c12_i32
  let v995 : Index := Scalar.indexCast v988
  let c16_290 : Index := 16#32
  ![v995.toNat, 16]
def k0_off378 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_288 : BitVec 32 := 16#32
  let v987 : BitVec 32 := Scalar.muli arg26 c16_i32_288
  let c12_i32 : BitVec 32 := 12#32
  let v988 : BitVec 32 := Scalar.addi v987 c12_i32
  let v999 : Index := Scalar.indexCast v988
  let c32_291 : Index := 32#32
  ![v999.toNat, 32]
def k0_off379 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_288 : BitVec 32 := 16#32
  let v987 : BitVec 32 := Scalar.muli arg26 c16_i32_288
  let c12_i32 : BitVec 32 := 12#32
  let v988 : BitVec 32 := Scalar.addi v987 c12_i32
  let v1003 : Index := Scalar.indexCast v988
  let c48_292 : Index := 48#32
  ![v1003.toNat, 48]
def k0_off380 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_288 : BitVec 32 := 16#32
  let v987 : BitVec 32 := Scalar.muli arg26 c16_i32_288
  let c12_i32 : BitVec 32 := 12#32
  let v988 : BitVec 32 := Scalar.addi v987 c12_i32
  let v1007 : Index := Scalar.indexCast v988
  let c64_293 : Index := 64#32
  ![v1007.toNat, 64]
def k0_off381 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_288 : BitVec 32 := 16#32
  let v987 : BitVec 32 := Scalar.muli arg26 c16_i32_288
  let c12_i32 : BitVec 32 := 12#32
  let v988 : BitVec 32 := Scalar.addi v987 c12_i32
  let v1011 : Index := Scalar.indexCast v988
  let c80_294 : Index := 80#32
  ![v1011.toNat, 80]

def k0_chk72 (v1017 : IVec S16 32) : Prop :=
  (∀ a x, ((![v1017] : Fin 1 → IVec S16 32) a x).toNat < S256.size a)
theorem k0_idx82_inb : ∀ (v1017 : IVec S16 32) (k0_hw72 : k0_chk72 v1017), ∀ a x, ((![v1017] : Fin 1 → IVec S16 32) a x).toNat < S256.size a := fun v1017 k0_hw72 => k0_hw72
def k0_off382 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_295 : BitVec 32 := 16#32
  let v1015 : BitVec 32 := Scalar.muli arg26 c16_i32_295
  let c13_i32 : BitVec 32 := 13#32
  let v1016 : BitVec 32 := Scalar.addi v1015 c13_i32
  let v1019 : Index := Scalar.indexCast v1016
  let c0_296 : Index := 0#32
  ![v1019.toNat, 0]
def k0_off383 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_295 : BitVec 32 := 16#32
  let v1015 : BitVec 32 := Scalar.muli arg26 c16_i32_295
  let c13_i32 : BitVec 32 := 13#32
  let v1016 : BitVec 32 := Scalar.addi v1015 c13_i32
  let v1023 : Index := Scalar.indexCast v1016
  let c16_297 : Index := 16#32
  ![v1023.toNat, 16]
def k0_off384 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_295 : BitVec 32 := 16#32
  let v1015 : BitVec 32 := Scalar.muli arg26 c16_i32_295
  let c13_i32 : BitVec 32 := 13#32
  let v1016 : BitVec 32 := Scalar.addi v1015 c13_i32
  let v1027 : Index := Scalar.indexCast v1016
  let c32_298 : Index := 32#32
  ![v1027.toNat, 32]
def k0_off385 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_295 : BitVec 32 := 16#32
  let v1015 : BitVec 32 := Scalar.muli arg26 c16_i32_295
  let c13_i32 : BitVec 32 := 13#32
  let v1016 : BitVec 32 := Scalar.addi v1015 c13_i32
  let v1031 : Index := Scalar.indexCast v1016
  let c48_299 : Index := 48#32
  ![v1031.toNat, 48]
def k0_off386 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_295 : BitVec 32 := 16#32
  let v1015 : BitVec 32 := Scalar.muli arg26 c16_i32_295
  let c13_i32 : BitVec 32 := 13#32
  let v1016 : BitVec 32 := Scalar.addi v1015 c13_i32
  let v1035 : Index := Scalar.indexCast v1016
  let c64_300 : Index := 64#32
  ![v1035.toNat, 64]
def k0_off387 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_295 : BitVec 32 := 16#32
  let v1015 : BitVec 32 := Scalar.muli arg26 c16_i32_295
  let c13_i32 : BitVec 32 := 13#32
  let v1016 : BitVec 32 := Scalar.addi v1015 c13_i32
  let v1039 : Index := Scalar.indexCast v1016
  let c80_301 : Index := 80#32
  ![v1039.toNat, 80]

def k0_chk73 (v1045 : IVec S16 32) : Prop :=
  (∀ a x, ((![v1045] : Fin 1 → IVec S16 32) a x).toNat < S256.size a)
theorem k0_idx83_inb : ∀ (v1045 : IVec S16 32) (k0_hw73 : k0_chk73 v1045), ∀ a x, ((![v1045] : Fin 1 → IVec S16 32) a x).toNat < S256.size a := fun v1045 k0_hw73 => k0_hw73
def k0_off388 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_302 : BitVec 32 := 16#32
  let v1043 : BitVec 32 := Scalar.muli arg26 c16_i32_302
  let c14_i32 : BitVec 32 := 14#32
  let v1044 : BitVec 32 := Scalar.addi v1043 c14_i32
  let v1047 : Index := Scalar.indexCast v1044
  let c0_303 : Index := 0#32
  ![v1047.toNat, 0]
def k0_off389 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_302 : BitVec 32 := 16#32
  let v1043 : BitVec 32 := Scalar.muli arg26 c16_i32_302
  let c14_i32 : BitVec 32 := 14#32
  let v1044 : BitVec 32 := Scalar.addi v1043 c14_i32
  let v1051 : Index := Scalar.indexCast v1044
  let c16_304 : Index := 16#32
  ![v1051.toNat, 16]
def k0_off390 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_302 : BitVec 32 := 16#32
  let v1043 : BitVec 32 := Scalar.muli arg26 c16_i32_302
  let c14_i32 : BitVec 32 := 14#32
  let v1044 : BitVec 32 := Scalar.addi v1043 c14_i32
  let v1055 : Index := Scalar.indexCast v1044
  let c32_305 : Index := 32#32
  ![v1055.toNat, 32]
def k0_off391 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_302 : BitVec 32 := 16#32
  let v1043 : BitVec 32 := Scalar.muli arg26 c16_i32_302
  let c14_i32 : BitVec 32 := 14#32
  let v1044 : BitVec 32 := Scalar.addi v1043 c14_i32
  let v1059 : Index := Scalar.indexCast v1044
  let c48_306 : Index := 48#32
  ![v1059.toNat, 48]
def k0_off392 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_302 : BitVec 32 := 16#32
  let v1043 : BitVec 32 := Scalar.muli arg26 c16_i32_302
  let c14_i32 : BitVec 32 := 14#32
  let v1044 : BitVec 32 := Scalar.addi v1043 c14_i32
  let v1063 : Index := Scalar.indexCast v1044
  let c64_307 : Index := 64#32
  ![v1063.toNat, 64]
def k0_off393 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_302 : BitVec 32 := 16#32
  let v1043 : BitVec 32 := Scalar.muli arg26 c16_i32_302
  let c14_i32 : BitVec 32 := 14#32
  let v1044 : BitVec 32 := Scalar.addi v1043 c14_i32
  let v1067 : Index := Scalar.indexCast v1044
  let c80_308 : Index := 80#32
  ![v1067.toNat, 80]

def k0_chk74 (v1073 : IVec S16 32) : Prop :=
  (∀ a x, ((![v1073] : Fin 1 → IVec S16 32) a x).toNat < S256.size a)
theorem k0_idx84_inb : ∀ (v1073 : IVec S16 32) (k0_hw74 : k0_chk74 v1073), ∀ a x, ((![v1073] : Fin 1 → IVec S16 32) a x).toNat < S256.size a := fun v1073 k0_hw74 => k0_hw74
def k0_off394 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_309 : BitVec 32 := 16#32
  let v1071 : BitVec 32 := Scalar.muli arg26 c16_i32_309
  let c15_i32 : BitVec 32 := 15#32
  let v1072 : BitVec 32 := Scalar.addi v1071 c15_i32
  let v1075 : Index := Scalar.indexCast v1072
  let c0_310 : Index := 0#32
  ![v1075.toNat, 0]
def k0_off395 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_309 : BitVec 32 := 16#32
  let v1071 : BitVec 32 := Scalar.muli arg26 c16_i32_309
  let c15_i32 : BitVec 32 := 15#32
  let v1072 : BitVec 32 := Scalar.addi v1071 c15_i32
  let v1079 : Index := Scalar.indexCast v1072
  let c16_311 : Index := 16#32
  ![v1079.toNat, 16]
def k0_off396 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_309 : BitVec 32 := 16#32
  let v1071 : BitVec 32 := Scalar.muli arg26 c16_i32_309
  let c15_i32 : BitVec 32 := 15#32
  let v1072 : BitVec 32 := Scalar.addi v1071 c15_i32
  let v1083 : Index := Scalar.indexCast v1072
  let c32_312 : Index := 32#32
  ![v1083.toNat, 32]
def k0_off397 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_309 : BitVec 32 := 16#32
  let v1071 : BitVec 32 := Scalar.muli arg26 c16_i32_309
  let c15_i32 : BitVec 32 := 15#32
  let v1072 : BitVec 32 := Scalar.addi v1071 c15_i32
  let v1087 : Index := Scalar.indexCast v1072
  let c48_313 : Index := 48#32
  ![v1087.toNat, 48]
def k0_off398 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_309 : BitVec 32 := 16#32
  let v1071 : BitVec 32 := Scalar.muli arg26 c16_i32_309
  let c15_i32 : BitVec 32 := 15#32
  let v1072 : BitVec 32 := Scalar.addi v1071 c15_i32
  let v1091 : Index := Scalar.indexCast v1072
  let c64_314 : Index := 64#32
  ![v1091.toNat, 64]
def k0_off399 (v170 : BitVec 32) (k0_t13 : Fin (k0_t13_loop v170).trips) : Fin 2 → Nat :=
  let c0_i32_184 : BitVec 32 := 0#32
  let v564 : BitVec 32 := Scalar.subi v170 c0_i32_184
  let c1_i32_185 : BitVec 32 := 1#32
  let v566 : BitVec 32 := Scalar.divsi v564 c1_i32_185
  let v567 : BitVec 32 := Scalar.muli v566 c1_i32_185
  let v568 : BitVec 32 := Scalar.addi c0_i32_184 v567
  let c1_i32_187 : BitVec 32 := 1#32
  let arg26 : BitVec 32 := Scf.iv v568 c1_i32_187 k0_t13
  let c16_i32_309 : BitVec 32 := 16#32
  let v1071 : BitVec 32 := Scalar.muli arg26 c16_i32_309
  let c15_i32 : BitVec 32 := 15#32
  let v1072 : BitVec 32 := Scalar.addi v1071 c15_i32
  let v1095 : Index := Scalar.indexCast v1072
  let c80_315 : Index := 80#32
  ![v1095.toNat, 80]

def k0_chk40_0 (v170 : BitVec 32) : Prop :=
  ((k0_t8_loop v170).OK) ∧
  (∀ k0_t8 : Fin (k0_t8_loop v170).trips, 16 ∣ (k0_mult5 v170 k0_t8).toNat) ∧
  (∀ k0_t8 : Fin (k0_t8_loop v170).trips, ∀ a, (k0_off204 v170 k0_t8) a + S16.size a ≤ S256.size a) ∧
  ((k0_t9_loop v170).OK) ∧
  (∀ k0_t9 : Fin (k0_t9_loop v170).trips, 16 ∣ (k0_mult6 v170 k0_t9).toNat) ∧
  (∀ k0_t9 : Fin (k0_t9_loop v170).trips, ∀ a, (k0_off205 v170 k0_t9) a + S16.size a ≤ S256.size a) ∧
  ((k0_t10_loop v170).OK) ∧
  (∀ k0_t10 : Fin (k0_t10_loop v170).trips, 16 ∣ (k0_mult7 v170 k0_t10).toNat) ∧
  (∀ k0_t10 : Fin (k0_t10_loop v170).trips, ∀ a, (k0_off206 v170 k0_t10) a + S16.size a ≤ S256.size a) ∧
  ((k0_t11_loop v170).OK) ∧
  (∀ k0_t11 : Fin (k0_t11_loop v170).trips, 16 ∣ (k0_mult8 v170 k0_t11).toNat) ∧
  (∀ k0_t11 : Fin (k0_t11_loop v170).trips, ∀ a, (k0_off207 v170 k0_t11) a + S16.size a ≤ S256.size a) ∧
  ((k0_t12_loop v170).OK) ∧
  (∀ k0_t12 : Fin (k0_t12_loop v170).trips, ∀ a, (k0_off208 v170 k0_t12) a + S1x16.size a ≤ S256x128.size a) ∧
  (∀ k0_t12 : Fin (k0_t12_loop v170).trips, ∀ a, (k0_off209 v170 k0_t12) a + S1x16.size a ≤ S256x128.size a) ∧
  (∀ k0_t12 : Fin (k0_t12_loop v170).trips, ∀ a, (k0_off210 v170 k0_t12) a + S1x16.size a ≤ S256x128.size a) ∧
  (∀ k0_t12 : Fin (k0_t12_loop v170).trips, ∀ a, (k0_off211 v170 k0_t12) a + S1x16.size a ≤ S256x128.size a) ∧
  (∀ k0_t12 : Fin (k0_t12_loop v170).trips, ∀ a, (k0_off212 v170 k0_t12) a + S1x16.size a ≤ S256x128.size a) ∧
  (∀ k0_t12 : Fin (k0_t12_loop v170).trips, ∀ a, (k0_off213 v170 k0_t12) a + S1x16.size a ≤ S256x128.size a) ∧
  (∀ k0_t12 : Fin (k0_t12_loop v170).trips, ∀ a, (k0_off214 v170 k0_t12) a + S1x16.size a ≤ S256x128.size a) ∧
  (∀ k0_t12 : Fin (k0_t12_loop v170).trips, ∀ a, (k0_off215 v170 k0_t12) a + S1x16.size a ≤ S256x128.size a) ∧
  (∀ k0_t12 : Fin (k0_t12_loop v170).trips, ∀ a, (k0_off216 v170 k0_t12) a + S1x16.size a ≤ S256x128.size a) ∧
  (∀ k0_t12 : Fin (k0_t12_loop v170).trips, ∀ a, (k0_off217 v170 k0_t12) a + S1x16.size a ≤ S256x128.size a) ∧
  (∀ k0_t12 : Fin (k0_t12_loop v170).trips, ∀ a, (k0_off218 v170 k0_t12) a + S1x16.size a ≤ S256x128.size a) ∧
  (∀ k0_t12 : Fin (k0_t12_loop v170).trips, ∀ a, (k0_off219 v170 k0_t12) a + S1x16.size a ≤ S256x128.size a) ∧
  (∀ k0_t12 : Fin (k0_t12_loop v170).trips, ∀ a, (k0_off220 v170 k0_t12) a + S1x16.size a ≤ S256x128.size a) ∧
  (∀ k0_t12 : Fin (k0_t12_loop v170).trips, ∀ a, (k0_off221 v170 k0_t12) a + S1x16.size a ≤ S256x128.size a) ∧
  (∀ k0_t12 : Fin (k0_t12_loop v170).trips, ∀ a, (k0_off222 v170 k0_t12) a + S1x16.size a ≤ S256x128.size a) ∧
  (∀ k0_t12 : Fin (k0_t12_loop v170).trips, ∀ a, (k0_off223 v170 k0_t12) a + S1x16.size a ≤ S256x128.size a) ∧
  (∀ k0_t12 : Fin (k0_t12_loop v170).trips, ∀ a, (k0_off224 v170 k0_t12) a + S1x16.size a ≤ S256x128.size a) ∧
  (∀ k0_t12 : Fin (k0_t12_loop v170).trips, ∀ a, (k0_off225 v170 k0_t12) a + S1x16.size a ≤ S256x128.size a) ∧
  (∀ k0_t12 : Fin (k0_t12_loop v170).trips, ∀ a, (k0_off226 v170 k0_t12) a + S1x16.size a ≤ S256x128.size a)
def k0_chk40_1 (v170 : BitVec 32) : Prop :=
  (∀ k0_t12 : Fin (k0_t12_loop v170).trips, ∀ a, (k0_off227 v170 k0_t12) a + S1x16.size a ≤ S256x128.size a) ∧
  (∀ k0_t12 : Fin (k0_t12_loop v170).trips, ∀ a, (k0_off228 v170 k0_t12) a + S1x16.size a ≤ S256x128.size a) ∧
  (∀ k0_t12 : Fin (k0_t12_loop v170).trips, ∀ a, (k0_off229 v170 k0_t12) a + S1x16.size a ≤ S256x128.size a) ∧
  (∀ k0_t12 : Fin (k0_t12_loop v170).trips, ∀ a, (k0_off230 v170 k0_t12) a + S1x16.size a ≤ S256x128.size a) ∧
  (∀ k0_t12 : Fin (k0_t12_loop v170).trips, ∀ a, (k0_off231 v170 k0_t12) a + S1x16.size a ≤ S256x128.size a) ∧
  (∀ k0_t12 : Fin (k0_t12_loop v170).trips, ∀ a, (k0_off232 v170 k0_t12) a + S1x16.size a ≤ S256x128.size a) ∧
  (∀ k0_t12 : Fin (k0_t12_loop v170).trips, ∀ a, (k0_off233 v170 k0_t12) a + S1x16.size a ≤ S256x128.size a) ∧
  (∀ k0_t12 : Fin (k0_t12_loop v170).trips, ∀ a, (k0_off234 v170 k0_t12) a + S1x16.size a ≤ S256x128.size a) ∧
  (∀ k0_t12 : Fin (k0_t12_loop v170).trips, ∀ a, (k0_off235 v170 k0_t12) a + S1x16.size a ≤ S256x128.size a) ∧
  (∀ k0_t12 : Fin (k0_t12_loop v170).trips, ∀ a, (k0_off236 v170 k0_t12) a + S1x16.size a ≤ S256x128.size a) ∧
  (∀ k0_t12 : Fin (k0_t12_loop v170).trips, ∀ a, (k0_off237 v170 k0_t12) a + S1x16.size a ≤ S256x128.size a) ∧
  (∀ k0_t12 : Fin (k0_t12_loop v170).trips, ∀ a, (k0_off238 v170 k0_t12) a + S1x16.size a ≤ S256x128.size a) ∧
  (∀ k0_t12 : Fin (k0_t12_loop v170).trips, ∀ a, (k0_off239 v170 k0_t12) a + S1x16.size a ≤ S256x128.size a) ∧
  (∀ k0_t12 : Fin (k0_t12_loop v170).trips, ∀ a, (k0_off240 v170 k0_t12) a + S1x16.size a ≤ S256x128.size a) ∧
  (∀ k0_t12 : Fin (k0_t12_loop v170).trips, ∀ a, (k0_off241 v170 k0_t12) a + S1x16.size a ≤ S256x128.size a) ∧
  (∀ k0_t12 : Fin (k0_t12_loop v170).trips, ∀ a, (k0_off242 v170 k0_t12) a + S1x16.size a ≤ S256x128.size a) ∧
  (∀ k0_t12 : Fin (k0_t12_loop v170).trips, ∀ a, (k0_off243 v170 k0_t12) a + S1x16.size a ≤ S256x128.size a) ∧
  (∀ k0_t12 : Fin (k0_t12_loop v170).trips, ∀ a, (k0_off244 v170 k0_t12) a + S1x16.size a ≤ S256x128.size a) ∧
  (∀ k0_t12 : Fin (k0_t12_loop v170).trips, ∀ a, (k0_off245 v170 k0_t12) a + S1x16.size a ≤ S256x128.size a) ∧
  (∀ k0_t12 : Fin (k0_t12_loop v170).trips, ∀ a, (k0_off246 v170 k0_t12) a + S1x16.size a ≤ S256x128.size a) ∧
  (∀ k0_t12 : Fin (k0_t12_loop v170).trips, ∀ a, (k0_off247 v170 k0_t12) a + S1x16.size a ≤ S256x128.size a) ∧
  (∀ k0_t12 : Fin (k0_t12_loop v170).trips, ∀ a, (k0_off248 v170 k0_t12) a + S1x16.size a ≤ S256x128.size a) ∧
  (∀ k0_t12 : Fin (k0_t12_loop v170).trips, ∀ a, (k0_off249 v170 k0_t12) a + S1x16.size a ≤ S256x128.size a) ∧
  (∀ k0_t12 : Fin (k0_t12_loop v170).trips, ∀ a, (k0_off250 v170 k0_t12) a + S1x16.size a ≤ S256x128.size a) ∧
  (∀ k0_t12 : Fin (k0_t12_loop v170).trips, ∀ a, (k0_off251 v170 k0_t12) a + S1x16.size a ≤ S256x128.size a) ∧
  (∀ k0_t12 : Fin (k0_t12_loop v170).trips, ∀ a, (k0_off252 v170 k0_t12) a + S1x16.size a ≤ S256x128.size a) ∧
  (∀ k0_t12 : Fin (k0_t12_loop v170).trips, ∀ a, (k0_off253 v170 k0_t12) a + S1x16.size a ≤ S256x128.size a) ∧
  (∀ k0_t12 : Fin (k0_t12_loop v170).trips, ∀ a, (k0_off254 v170 k0_t12) a + S1x16.size a ≤ S256x128.size a) ∧
  (∀ k0_t12 : Fin (k0_t12_loop v170).trips, ∀ a, (k0_off255 v170 k0_t12) a + S1x16.size a ≤ S256x128.size a) ∧
  (∀ k0_t12 : Fin (k0_t12_loop v170).trips, ∀ a, (k0_off256 v170 k0_t12) a + S1x16.size a ≤ S256x128.size a) ∧
  (∀ k0_t12 : Fin (k0_t12_loop v170).trips, ∀ a, (k0_off257 v170 k0_t12) a + S1x16.size a ≤ S256x128.size a) ∧
  (∀ k0_t12 : Fin (k0_t12_loop v170).trips, ∀ a, (k0_off258 v170 k0_t12) a + S1x16.size a ≤ S256x128.size a)
def k0_chk40_2 (v170 : BitVec 32) : Prop :=
  (∀ k0_t12 : Fin (k0_t12_loop v170).trips, ∀ a, (k0_off259 v170 k0_t12) a + S1x16.size a ≤ S256x128.size a) ∧
  (∀ k0_t12 : Fin (k0_t12_loop v170).trips, ∀ a, (k0_off260 v170 k0_t12) a + S1x16.size a ≤ S256x128.size a) ∧
  (∀ k0_t12 : Fin (k0_t12_loop v170).trips, ∀ a, (k0_off261 v170 k0_t12) a + S1x16.size a ≤ S256x128.size a) ∧
  (∀ k0_t12 : Fin (k0_t12_loop v170).trips, ∀ a, (k0_off262 v170 k0_t12) a + S1x16.size a ≤ S256x128.size a) ∧
  (∀ k0_t12 : Fin (k0_t12_loop v170).trips, ∀ a, (k0_off263 v170 k0_t12) a + S1x16.size a ≤ S256x128.size a) ∧
  (∀ k0_t12 : Fin (k0_t12_loop v170).trips, ∀ a, (k0_off264 v170 k0_t12) a + S1x16.size a ≤ S256x128.size a) ∧
  (∀ k0_t12 : Fin (k0_t12_loop v170).trips, ∀ a, (k0_off265 v170 k0_t12) a + S1x16.size a ≤ S256x128.size a) ∧
  (∀ k0_t12 : Fin (k0_t12_loop v170).trips, ∀ a, (k0_off266 v170 k0_t12) a + S1x16.size a ≤ S256x128.size a) ∧
  (∀ k0_t12 : Fin (k0_t12_loop v170).trips, ∀ a, (k0_off267 v170 k0_t12) a + S1x16.size a ≤ S256x128.size a) ∧
  (∀ k0_t12 : Fin (k0_t12_loop v170).trips, ∀ a, (k0_off268 v170 k0_t12) a + S1x16.size a ≤ S256x128.size a) ∧
  (∀ k0_t12 : Fin (k0_t12_loop v170).trips, ∀ a, (k0_off269 v170 k0_t12) a + S1x16.size a ≤ S256x128.size a) ∧
  (∀ k0_t12 : Fin (k0_t12_loop v170).trips, ∀ a, (k0_off270 v170 k0_t12) a + S1x16.size a ≤ S256x128.size a) ∧
  (∀ k0_t12 : Fin (k0_t12_loop v170).trips, ∀ a, (k0_off271 v170 k0_t12) a + S1x16.size a ≤ S256x128.size a) ∧
  (∀ k0_t12 : Fin (k0_t12_loop v170).trips, ∀ a, (k0_off272 v170 k0_t12) a + S1x16.size a ≤ S256x128.size a) ∧
  (∀ k0_t12 : Fin (k0_t12_loop v170).trips, ∀ a, (k0_off273 v170 k0_t12) a + S1x16.size a ≤ S256x128.size a) ∧
  (∀ k0_t12 : Fin (k0_t12_loop v170).trips, ∀ a, (k0_off274 v170 k0_t12) a + S1x16.size a ≤ S256x128.size a) ∧
  (∀ k0_t12 : Fin (k0_t12_loop v170).trips, ∀ a, (k0_off275 v170 k0_t12) a + S1x16.size a ≤ S256x128.size a) ∧
  (∀ k0_t12 : Fin (k0_t12_loop v170).trips, ∀ a, (k0_off276 v170 k0_t12) a + S1x16.size a ≤ S256x128.size a) ∧
  (∀ k0_t12 : Fin (k0_t12_loop v170).trips, ∀ a, (k0_off277 v170 k0_t12) a + S1x16.size a ≤ S256x128.size a) ∧
  (∀ k0_t12 : Fin (k0_t12_loop v170).trips, ∀ a, (k0_off278 v170 k0_t12) a + S1x16.size a ≤ S256x128.size a) ∧
  (∀ k0_t12 : Fin (k0_t12_loop v170).trips, ∀ a, (k0_off279 v170 k0_t12) a + S1x16.size a ≤ S256x128.size a) ∧
  (∀ k0_t12 : Fin (k0_t12_loop v170).trips, ∀ a, (k0_off280 v170 k0_t12) a + S1x16.size a ≤ S256x128.size a) ∧
  (∀ k0_t12 : Fin (k0_t12_loop v170).trips, ∀ a, (k0_off281 v170 k0_t12) a + S1x16.size a ≤ S256x128.size a) ∧
  (∀ k0_t12 : Fin (k0_t12_loop v170).trips, ∀ a, (k0_off282 v170 k0_t12) a + S1x16.size a ≤ S256x128.size a) ∧
  (∀ k0_t12 : Fin (k0_t12_loop v170).trips, ∀ a, (k0_off283 v170 k0_t12) a + S1x16.size a ≤ S256x128.size a) ∧
  (∀ k0_t12 : Fin (k0_t12_loop v170).trips, ∀ a, (k0_off284 v170 k0_t12) a + S1x16.size a ≤ S256x128.size a) ∧
  (∀ k0_t12 : Fin (k0_t12_loop v170).trips, ∀ a, (k0_off285 v170 k0_t12) a + S1x16.size a ≤ S256x128.size a) ∧
  (∀ k0_t12 : Fin (k0_t12_loop v170).trips, ∀ a, (k0_off286 v170 k0_t12) a + S1x16.size a ≤ S256x128.size a) ∧
  (∀ k0_t12 : Fin (k0_t12_loop v170).trips, ∀ a, (k0_off287 v170 k0_t12) a + S1x16.size a ≤ S256x128.size a) ∧
  (∀ k0_t12 : Fin (k0_t12_loop v170).trips, ∀ a, (k0_off288 v170 k0_t12) a + S1x16.size a ≤ S256x128.size a) ∧
  (∀ k0_t12 : Fin (k0_t12_loop v170).trips, ∀ a, (k0_off289 v170 k0_t12) a + S1x16.size a ≤ S256x128.size a) ∧
  (∀ k0_t12 : Fin (k0_t12_loop v170).trips, ∀ a, (k0_off290 v170 k0_t12) a + S1x16.size a ≤ S256x128.size a)
def k0_chk40_3 (v170 : BitVec 32) : Prop :=
  (∀ k0_t12 : Fin (k0_t12_loop v170).trips, ∀ a, (k0_off291 v170 k0_t12) a + S1x16.size a ≤ S256x128.size a) ∧
  (∀ k0_t12 : Fin (k0_t12_loop v170).trips, ∀ a, (k0_off292 v170 k0_t12) a + S1x16.size a ≤ S256x128.size a) ∧
  (∀ k0_t12 : Fin (k0_t12_loop v170).trips, ∀ a, (k0_off293 v170 k0_t12) a + S1x16.size a ≤ S256x128.size a) ∧
  (∀ k0_t12 : Fin (k0_t12_loop v170).trips, ∀ a, (k0_off294 v170 k0_t12) a + S1x16.size a ≤ S256x128.size a) ∧
  (∀ k0_t12 : Fin (k0_t12_loop v170).trips, ∀ a, (k0_off295 v170 k0_t12) a + S1x16.size a ≤ S256x128.size a) ∧
  (∀ k0_t12 : Fin (k0_t12_loop v170).trips, ∀ a, (k0_off296 v170 k0_t12) a + S1x16.size a ≤ S256x128.size a) ∧
  (∀ k0_t12 : Fin (k0_t12_loop v170).trips, ∀ a, (k0_off297 v170 k0_t12) a + S1x16.size a ≤ S256x128.size a) ∧
  (∀ k0_t12 : Fin (k0_t12_loop v170).trips, ∀ a, (k0_off298 v170 k0_t12) a + S1x16.size a ≤ S256x128.size a) ∧
  (∀ k0_t12 : Fin (k0_t12_loop v170).trips, ∀ a, (k0_off299 v170 k0_t12) a + S1x16.size a ≤ S256x128.size a) ∧
  (∀ k0_t12 : Fin (k0_t12_loop v170).trips, ∀ a, (k0_off300 v170 k0_t12) a + S1x16.size a ≤ S256x128.size a) ∧
  (∀ k0_t12 : Fin (k0_t12_loop v170).trips, ∀ a, (k0_off301 v170 k0_t12) a + S1x16.size a ≤ S256x128.size a) ∧
  (∀ k0_t12 : Fin (k0_t12_loop v170).trips, ∀ a, (k0_off302 v170 k0_t12) a + S1x16.size a ≤ S256x128.size a) ∧
  (∀ k0_t12 : Fin (k0_t12_loop v170).trips, ∀ a, (k0_off303 v170 k0_t12) a + S1x16.size a ≤ S256x128.size a) ∧
  ((k0_t13_loop v170).OK) ∧
  (∀ k0_t13 : Fin (k0_t13_loop v170).trips, ∀ a, (k0_off304 v170 k0_t13) a + S1x16.size a ≤ S256x128.size a) ∧
  (∀ k0_t13 : Fin (k0_t13_loop v170).trips, ∀ a, (k0_off305 v170 k0_t13) a + S1x16.size a ≤ S256x128.size a) ∧
  (∀ k0_t13 : Fin (k0_t13_loop v170).trips, ∀ a, (k0_off306 v170 k0_t13) a + S1x16.size a ≤ S256x128.size a) ∧
  (∀ k0_t13 : Fin (k0_t13_loop v170).trips, ∀ a, (k0_off307 v170 k0_t13) a + S1x16.size a ≤ S256x128.size a) ∧
  (∀ k0_t13 : Fin (k0_t13_loop v170).trips, ∀ a, (k0_off308 v170 k0_t13) a + S1x16.size a ≤ S256x128.size a) ∧
  (∀ k0_t13 : Fin (k0_t13_loop v170).trips, ∀ a, (k0_off309 v170 k0_t13) a + S1x16.size a ≤ S256x128.size a) ∧
  (∀ k0_t13 : Fin (k0_t13_loop v170).trips, ∀ a, (k0_off310 v170 k0_t13) a + S1x16.size a ≤ S256x128.size a) ∧
  (∀ k0_t13 : Fin (k0_t13_loop v170).trips, ∀ a, (k0_off311 v170 k0_t13) a + S1x16.size a ≤ S256x128.size a) ∧
  (∀ k0_t13 : Fin (k0_t13_loop v170).trips, ∀ a, (k0_off312 v170 k0_t13) a + S1x16.size a ≤ S256x128.size a) ∧
  (∀ k0_t13 : Fin (k0_t13_loop v170).trips, ∀ a, (k0_off313 v170 k0_t13) a + S1x16.size a ≤ S256x128.size a) ∧
  (∀ k0_t13 : Fin (k0_t13_loop v170).trips, ∀ a, (k0_off314 v170 k0_t13) a + S1x16.size a ≤ S256x128.size a) ∧
  (∀ k0_t13 : Fin (k0_t13_loop v170).trips, ∀ a, (k0_off315 v170 k0_t13) a + S1x16.size a ≤ S256x128.size a) ∧
  (∀ k0_t13 : Fin (k0_t13_loop v170).trips, ∀ a, (k0_off316 v170 k0_t13) a + S1x16.size a ≤ S256x128.size a) ∧
  (∀ k0_t13 : Fin (k0_t13_loop v170).trips, ∀ a, (k0_off317 v170 k0_t13) a + S1x16.size a ≤ S256x128.size a) ∧
  (∀ k0_t13 : Fin (k0_t13_loop v170).trips, ∀ a, (k0_off318 v170 k0_t13) a + S1x16.size a ≤ S256x128.size a) ∧
  (∀ k0_t13 : Fin (k0_t13_loop v170).trips, ∀ a, (k0_off319 v170 k0_t13) a + S1x16.size a ≤ S256x128.size a) ∧
  (∀ k0_t13 : Fin (k0_t13_loop v170).trips, ∀ a, (k0_off320 v170 k0_t13) a + S1x16.size a ≤ S256x128.size a) ∧
  (∀ k0_t13 : Fin (k0_t13_loop v170).trips, ∀ a, (k0_off321 v170 k0_t13) a + S1x16.size a ≤ S256x128.size a)
def k0_chk40_4 (v170 : BitVec 32) : Prop :=
  (∀ k0_t13 : Fin (k0_t13_loop v170).trips, ∀ a, (k0_off322 v170 k0_t13) a + S1x16.size a ≤ S256x128.size a) ∧
  (∀ k0_t13 : Fin (k0_t13_loop v170).trips, ∀ a, (k0_off323 v170 k0_t13) a + S1x16.size a ≤ S256x128.size a) ∧
  (∀ k0_t13 : Fin (k0_t13_loop v170).trips, ∀ a, (k0_off324 v170 k0_t13) a + S1x16.size a ≤ S256x128.size a) ∧
  (∀ k0_t13 : Fin (k0_t13_loop v170).trips, ∀ a, (k0_off325 v170 k0_t13) a + S1x16.size a ≤ S256x128.size a) ∧
  (∀ k0_t13 : Fin (k0_t13_loop v170).trips, ∀ a, (k0_off326 v170 k0_t13) a + S1x16.size a ≤ S256x128.size a) ∧
  (∀ k0_t13 : Fin (k0_t13_loop v170).trips, ∀ a, (k0_off327 v170 k0_t13) a + S1x16.size a ≤ S256x128.size a) ∧
  (∀ k0_t13 : Fin (k0_t13_loop v170).trips, ∀ a, (k0_off328 v170 k0_t13) a + S1x16.size a ≤ S256x128.size a) ∧
  (∀ k0_t13 : Fin (k0_t13_loop v170).trips, ∀ a, (k0_off329 v170 k0_t13) a + S1x16.size a ≤ S256x128.size a) ∧
  (∀ k0_t13 : Fin (k0_t13_loop v170).trips, ∀ a, (k0_off330 v170 k0_t13) a + S1x16.size a ≤ S256x128.size a) ∧
  (∀ k0_t13 : Fin (k0_t13_loop v170).trips, ∀ a, (k0_off331 v170 k0_t13) a + S1x16.size a ≤ S256x128.size a) ∧
  (∀ k0_t13 : Fin (k0_t13_loop v170).trips, ∀ a, (k0_off332 v170 k0_t13) a + S1x16.size a ≤ S256x128.size a) ∧
  (∀ k0_t13 : Fin (k0_t13_loop v170).trips, ∀ a, (k0_off333 v170 k0_t13) a + S1x16.size a ≤ S256x128.size a) ∧
  (∀ k0_t13 : Fin (k0_t13_loop v170).trips, ∀ a, (k0_off334 v170 k0_t13) a + S1x16.size a ≤ S256x128.size a) ∧
  (∀ k0_t13 : Fin (k0_t13_loop v170).trips, ∀ a, (k0_off335 v170 k0_t13) a + S1x16.size a ≤ S256x128.size a) ∧
  (∀ k0_t13 : Fin (k0_t13_loop v170).trips, ∀ a, (k0_off336 v170 k0_t13) a + S1x16.size a ≤ S256x128.size a) ∧
  (∀ k0_t13 : Fin (k0_t13_loop v170).trips, ∀ a, (k0_off337 v170 k0_t13) a + S1x16.size a ≤ S256x128.size a) ∧
  (∀ k0_t13 : Fin (k0_t13_loop v170).trips, ∀ a, (k0_off338 v170 k0_t13) a + S1x16.size a ≤ S256x128.size a) ∧
  (∀ k0_t13 : Fin (k0_t13_loop v170).trips, ∀ a, (k0_off339 v170 k0_t13) a + S1x16.size a ≤ S256x128.size a) ∧
  (∀ k0_t13 : Fin (k0_t13_loop v170).trips, ∀ a, (k0_off340 v170 k0_t13) a + S1x16.size a ≤ S256x128.size a) ∧
  (∀ k0_t13 : Fin (k0_t13_loop v170).trips, ∀ a, (k0_off341 v170 k0_t13) a + S1x16.size a ≤ S256x128.size a) ∧
  (∀ k0_t13 : Fin (k0_t13_loop v170).trips, ∀ a, (k0_off342 v170 k0_t13) a + S1x16.size a ≤ S256x128.size a) ∧
  (∀ k0_t13 : Fin (k0_t13_loop v170).trips, ∀ a, (k0_off343 v170 k0_t13) a + S1x16.size a ≤ S256x128.size a) ∧
  (∀ k0_t13 : Fin (k0_t13_loop v170).trips, ∀ a, (k0_off344 v170 k0_t13) a + S1x16.size a ≤ S256x128.size a) ∧
  (∀ k0_t13 : Fin (k0_t13_loop v170).trips, ∀ a, (k0_off345 v170 k0_t13) a + S1x16.size a ≤ S256x128.size a) ∧
  (∀ k0_t13 : Fin (k0_t13_loop v170).trips, ∀ a, (k0_off346 v170 k0_t13) a + S1x16.size a ≤ S256x128.size a) ∧
  (∀ k0_t13 : Fin (k0_t13_loop v170).trips, ∀ a, (k0_off347 v170 k0_t13) a + S1x16.size a ≤ S256x128.size a) ∧
  (∀ k0_t13 : Fin (k0_t13_loop v170).trips, ∀ a, (k0_off348 v170 k0_t13) a + S1x16.size a ≤ S256x128.size a) ∧
  (∀ k0_t13 : Fin (k0_t13_loop v170).trips, ∀ a, (k0_off349 v170 k0_t13) a + S1x16.size a ≤ S256x128.size a) ∧
  (∀ k0_t13 : Fin (k0_t13_loop v170).trips, ∀ a, (k0_off350 v170 k0_t13) a + S1x16.size a ≤ S256x128.size a) ∧
  (∀ k0_t13 : Fin (k0_t13_loop v170).trips, ∀ a, (k0_off351 v170 k0_t13) a + S1x16.size a ≤ S256x128.size a) ∧
  (∀ k0_t13 : Fin (k0_t13_loop v170).trips, ∀ a, (k0_off352 v170 k0_t13) a + S1x16.size a ≤ S256x128.size a) ∧
  (∀ k0_t13 : Fin (k0_t13_loop v170).trips, ∀ a, (k0_off353 v170 k0_t13) a + S1x16.size a ≤ S256x128.size a)
def k0_chk40_5 (v170 : BitVec 32) : Prop :=
  (∀ k0_t13 : Fin (k0_t13_loop v170).trips, ∀ a, (k0_off354 v170 k0_t13) a + S1x16.size a ≤ S256x128.size a) ∧
  (∀ k0_t13 : Fin (k0_t13_loop v170).trips, ∀ a, (k0_off355 v170 k0_t13) a + S1x16.size a ≤ S256x128.size a) ∧
  (∀ k0_t13 : Fin (k0_t13_loop v170).trips, ∀ a, (k0_off356 v170 k0_t13) a + S1x16.size a ≤ S256x128.size a) ∧
  (∀ k0_t13 : Fin (k0_t13_loop v170).trips, ∀ a, (k0_off357 v170 k0_t13) a + S1x16.size a ≤ S256x128.size a) ∧
  (∀ k0_t13 : Fin (k0_t13_loop v170).trips, ∀ a, (k0_off358 v170 k0_t13) a + S1x16.size a ≤ S256x128.size a) ∧
  (∀ k0_t13 : Fin (k0_t13_loop v170).trips, ∀ a, (k0_off359 v170 k0_t13) a + S1x16.size a ≤ S256x128.size a) ∧
  (∀ k0_t13 : Fin (k0_t13_loop v170).trips, ∀ a, (k0_off360 v170 k0_t13) a + S1x16.size a ≤ S256x128.size a) ∧
  (∀ k0_t13 : Fin (k0_t13_loop v170).trips, ∀ a, (k0_off361 v170 k0_t13) a + S1x16.size a ≤ S256x128.size a) ∧
  (∀ k0_t13 : Fin (k0_t13_loop v170).trips, ∀ a, (k0_off362 v170 k0_t13) a + S1x16.size a ≤ S256x128.size a) ∧
  (∀ k0_t13 : Fin (k0_t13_loop v170).trips, ∀ a, (k0_off363 v170 k0_t13) a + S1x16.size a ≤ S256x128.size a) ∧
  (∀ k0_t13 : Fin (k0_t13_loop v170).trips, ∀ a, (k0_off364 v170 k0_t13) a + S1x16.size a ≤ S256x128.size a) ∧
  (∀ k0_t13 : Fin (k0_t13_loop v170).trips, ∀ a, (k0_off365 v170 k0_t13) a + S1x16.size a ≤ S256x128.size a) ∧
  (∀ k0_t13 : Fin (k0_t13_loop v170).trips, ∀ a, (k0_off366 v170 k0_t13) a + S1x16.size a ≤ S256x128.size a) ∧
  (∀ k0_t13 : Fin (k0_t13_loop v170).trips, ∀ a, (k0_off367 v170 k0_t13) a + S1x16.size a ≤ S256x128.size a) ∧
  (∀ k0_t13 : Fin (k0_t13_loop v170).trips, ∀ a, (k0_off368 v170 k0_t13) a + S1x16.size a ≤ S256x128.size a) ∧
  (∀ k0_t13 : Fin (k0_t13_loop v170).trips, ∀ a, (k0_off369 v170 k0_t13) a + S1x16.size a ≤ S256x128.size a) ∧
  (∀ k0_t13 : Fin (k0_t13_loop v170).trips, ∀ a, (k0_off370 v170 k0_t13) a + S1x16.size a ≤ S256x128.size a) ∧
  (∀ k0_t13 : Fin (k0_t13_loop v170).trips, ∀ a, (k0_off371 v170 k0_t13) a + S1x16.size a ≤ S256x128.size a) ∧
  (∀ k0_t13 : Fin (k0_t13_loop v170).trips, ∀ a, (k0_off372 v170 k0_t13) a + S1x16.size a ≤ S256x128.size a) ∧
  (∀ k0_t13 : Fin (k0_t13_loop v170).trips, ∀ a, (k0_off373 v170 k0_t13) a + S1x16.size a ≤ S256x128.size a) ∧
  (∀ k0_t13 : Fin (k0_t13_loop v170).trips, ∀ a, (k0_off374 v170 k0_t13) a + S1x16.size a ≤ S256x128.size a) ∧
  (∀ k0_t13 : Fin (k0_t13_loop v170).trips, ∀ a, (k0_off375 v170 k0_t13) a + S1x16.size a ≤ S256x128.size a) ∧
  (∀ k0_t13 : Fin (k0_t13_loop v170).trips, ∀ a, (k0_off376 v170 k0_t13) a + S1x16.size a ≤ S256x128.size a) ∧
  (∀ k0_t13 : Fin (k0_t13_loop v170).trips, ∀ a, (k0_off377 v170 k0_t13) a + S1x16.size a ≤ S256x128.size a) ∧
  (∀ k0_t13 : Fin (k0_t13_loop v170).trips, ∀ a, (k0_off378 v170 k0_t13) a + S1x16.size a ≤ S256x128.size a) ∧
  (∀ k0_t13 : Fin (k0_t13_loop v170).trips, ∀ a, (k0_off379 v170 k0_t13) a + S1x16.size a ≤ S256x128.size a) ∧
  (∀ k0_t13 : Fin (k0_t13_loop v170).trips, ∀ a, (k0_off380 v170 k0_t13) a + S1x16.size a ≤ S256x128.size a) ∧
  (∀ k0_t13 : Fin (k0_t13_loop v170).trips, ∀ a, (k0_off381 v170 k0_t13) a + S1x16.size a ≤ S256x128.size a) ∧
  (∀ k0_t13 : Fin (k0_t13_loop v170).trips, ∀ a, (k0_off382 v170 k0_t13) a + S1x16.size a ≤ S256x128.size a) ∧
  (∀ k0_t13 : Fin (k0_t13_loop v170).trips, ∀ a, (k0_off383 v170 k0_t13) a + S1x16.size a ≤ S256x128.size a) ∧
  (∀ k0_t13 : Fin (k0_t13_loop v170).trips, ∀ a, (k0_off384 v170 k0_t13) a + S1x16.size a ≤ S256x128.size a) ∧
  (∀ k0_t13 : Fin (k0_t13_loop v170).trips, ∀ a, (k0_off385 v170 k0_t13) a + S1x16.size a ≤ S256x128.size a)
def k0_chk40_6 (v170 : BitVec 32) : Prop :=
  (∀ k0_t13 : Fin (k0_t13_loop v170).trips, ∀ a, (k0_off386 v170 k0_t13) a + S1x16.size a ≤ S256x128.size a) ∧
  (∀ k0_t13 : Fin (k0_t13_loop v170).trips, ∀ a, (k0_off387 v170 k0_t13) a + S1x16.size a ≤ S256x128.size a) ∧
  (∀ k0_t13 : Fin (k0_t13_loop v170).trips, ∀ a, (k0_off388 v170 k0_t13) a + S1x16.size a ≤ S256x128.size a) ∧
  (∀ k0_t13 : Fin (k0_t13_loop v170).trips, ∀ a, (k0_off389 v170 k0_t13) a + S1x16.size a ≤ S256x128.size a) ∧
  (∀ k0_t13 : Fin (k0_t13_loop v170).trips, ∀ a, (k0_off390 v170 k0_t13) a + S1x16.size a ≤ S256x128.size a) ∧
  (∀ k0_t13 : Fin (k0_t13_loop v170).trips, ∀ a, (k0_off391 v170 k0_t13) a + S1x16.size a ≤ S256x128.size a) ∧
  (∀ k0_t13 : Fin (k0_t13_loop v170).trips, ∀ a, (k0_off392 v170 k0_t13) a + S1x16.size a ≤ S256x128.size a) ∧
  (∀ k0_t13 : Fin (k0_t13_loop v170).trips, ∀ a, (k0_off393 v170 k0_t13) a + S1x16.size a ≤ S256x128.size a) ∧
  (∀ k0_t13 : Fin (k0_t13_loop v170).trips, ∀ a, (k0_off394 v170 k0_t13) a + S1x16.size a ≤ S256x128.size a) ∧
  (∀ k0_t13 : Fin (k0_t13_loop v170).trips, ∀ a, (k0_off395 v170 k0_t13) a + S1x16.size a ≤ S256x128.size a) ∧
  (∀ k0_t13 : Fin (k0_t13_loop v170).trips, ∀ a, (k0_off396 v170 k0_t13) a + S1x16.size a ≤ S256x128.size a) ∧
  (∀ k0_t13 : Fin (k0_t13_loop v170).trips, ∀ a, (k0_off397 v170 k0_t13) a + S1x16.size a ≤ S256x128.size a) ∧
  (∀ k0_t13 : Fin (k0_t13_loop v170).trips, ∀ a, (k0_off398 v170 k0_t13) a + S1x16.size a ≤ S256x128.size a) ∧
  (∀ k0_t13 : Fin (k0_t13_loop v170).trips, ∀ a, (k0_off399 v170 k0_t13) a + S1x16.size a ≤ S256x128.size a)
def k0_chk40 (v170 : BitVec 32) : Prop :=
  k0_chk40_0 v170 ∧
  k0_chk40_1 v170 ∧
  k0_chk40_2 v170 ∧
  k0_chk40_3 v170 ∧
  k0_chk40_4 v170 ∧
  k0_chk40_5 v170 ∧
  k0_chk40_6 v170
theorem k0_t8_ok : ∀ (v170 : BitVec 32) (k0_hw40 : k0_chk40 v170), (k0_t8_loop v170).OK := fun v170 k0_hw40 => k0_hw40.1.1
theorem k0_mult5_dvd : ∀ (v170 : BitVec 32) (k0_hw40 : k0_chk40 v170) (k0_t8 : Fin (k0_t8_loop v170).trips), 16 ∣ (k0_mult5 v170 k0_t8).toNat := fun v170 k0_hw40 k0_t8 => k0_hw40.1.2.1 k0_t8
theorem k0_off204_inb : ∀ (v170 : BitVec 32) (k0_hw40 : k0_chk40 v170) (k0_t8 : Fin (k0_t8_loop v170).trips), ∀ a, (k0_off204 v170 k0_t8) a + S16.size a ≤ S256.size a := fun v170 k0_hw40 k0_t8 => k0_hw40.1.2.2.1 k0_t8
theorem k0_t9_ok : ∀ (v170 : BitVec 32) (k0_hw40 : k0_chk40 v170), (k0_t9_loop v170).OK := fun v170 k0_hw40 => k0_hw40.1.2.2.2.1
theorem k0_mult6_dvd : ∀ (v170 : BitVec 32) (k0_hw40 : k0_chk40 v170) (k0_t9 : Fin (k0_t9_loop v170).trips), 16 ∣ (k0_mult6 v170 k0_t9).toNat := fun v170 k0_hw40 k0_t9 => k0_hw40.1.2.2.2.2.1 k0_t9
theorem k0_off205_inb : ∀ (v170 : BitVec 32) (k0_hw40 : k0_chk40 v170) (k0_t9 : Fin (k0_t9_loop v170).trips), ∀ a, (k0_off205 v170 k0_t9) a + S16.size a ≤ S256.size a := fun v170 k0_hw40 k0_t9 => k0_hw40.1.2.2.2.2.2.1 k0_t9
theorem k0_t10_ok : ∀ (v170 : BitVec 32) (k0_hw40 : k0_chk40 v170), (k0_t10_loop v170).OK := fun v170 k0_hw40 => k0_hw40.1.2.2.2.2.2.2.1
theorem k0_mult7_dvd : ∀ (v170 : BitVec 32) (k0_hw40 : k0_chk40 v170) (k0_t10 : Fin (k0_t10_loop v170).trips), 16 ∣ (k0_mult7 v170 k0_t10).toNat := fun v170 k0_hw40 k0_t10 => k0_hw40.1.2.2.2.2.2.2.2.1 k0_t10
theorem k0_off206_inb : ∀ (v170 : BitVec 32) (k0_hw40 : k0_chk40 v170) (k0_t10 : Fin (k0_t10_loop v170).trips), ∀ a, (k0_off206 v170 k0_t10) a + S16.size a ≤ S256.size a := fun v170 k0_hw40 k0_t10 => k0_hw40.1.2.2.2.2.2.2.2.2.1 k0_t10
theorem k0_t11_ok : ∀ (v170 : BitVec 32) (k0_hw40 : k0_chk40 v170), (k0_t11_loop v170).OK := fun v170 k0_hw40 => k0_hw40.1.2.2.2.2.2.2.2.2.2.1
theorem k0_mult8_dvd : ∀ (v170 : BitVec 32) (k0_hw40 : k0_chk40 v170) (k0_t11 : Fin (k0_t11_loop v170).trips), 16 ∣ (k0_mult8 v170 k0_t11).toNat := fun v170 k0_hw40 k0_t11 => k0_hw40.1.2.2.2.2.2.2.2.2.2.2.1 k0_t11
theorem k0_off207_inb : ∀ (v170 : BitVec 32) (k0_hw40 : k0_chk40 v170) (k0_t11 : Fin (k0_t11_loop v170).trips), ∀ a, (k0_off207 v170 k0_t11) a + S16.size a ≤ S256.size a := fun v170 k0_hw40 k0_t11 => k0_hw40.1.2.2.2.2.2.2.2.2.2.2.2.1 k0_t11
theorem k0_t12_ok : ∀ (v170 : BitVec 32) (k0_hw40 : k0_chk40 v170), (k0_t12_loop v170).OK := fun v170 k0_hw40 => k0_hw40.1.2.2.2.2.2.2.2.2.2.2.2.2.1
theorem k0_off208_inb : ∀ (v170 : BitVec 32) (k0_hw40 : k0_chk40 v170) (k0_t12 : Fin (k0_t12_loop v170).trips), ∀ a, (k0_off208 v170 k0_t12) a + S1x16.size a ≤ S256x128.size a := fun v170 k0_hw40 k0_t12 => k0_hw40.1.2.2.2.2.2.2.2.2.2.2.2.2.2.1 k0_t12
theorem k0_off209_inb : ∀ (v170 : BitVec 32) (k0_hw40 : k0_chk40 v170) (k0_t12 : Fin (k0_t12_loop v170).trips), ∀ a, (k0_off209 v170 k0_t12) a + S1x16.size a ≤ S256x128.size a := fun v170 k0_hw40 k0_t12 => k0_hw40.1.2.2.2.2.2.2.2.2.2.2.2.2.2.2.1 k0_t12
theorem k0_off210_inb : ∀ (v170 : BitVec 32) (k0_hw40 : k0_chk40 v170) (k0_t12 : Fin (k0_t12_loop v170).trips), ∀ a, (k0_off210 v170 k0_t12) a + S1x16.size a ≤ S256x128.size a := fun v170 k0_hw40 k0_t12 => k0_hw40.1.2.2.2.2.2.2.2.2.2.2.2.2.2.2.2.1 k0_t12
theorem k0_off211_inb : ∀ (v170 : BitVec 32) (k0_hw40 : k0_chk40 v170) (k0_t12 : Fin (k0_t12_loop v170).trips), ∀ a, (k0_off211 v170 k0_t12) a + S1x16.size a ≤ S256x128.size a := fun v170 k0_hw40 k0_t12 => k0_hw40.1.2.2.2.2.2.2.2.2.2.2.2.2.2.2.2.2.1 k0_t12
theorem k0_off212_inb : ∀ (v170 : BitVec 32) (k0_hw40 : k0_chk40 v170) (k0_t12 : Fin (k0_t12_loop v170).trips), ∀ a, (k0_off212 v170 k0_t12) a + S1x16.size a ≤ S256x128.size a := fun v170 k0_hw40 k0_t12 => k0_hw40.1.2.2.2.2.2.2.2.2.2.2.2.2.2.2.2.2.2.1 k0_t12
theorem k0_off213_inb : ∀ (v170 : BitVec 32) (k0_hw40 : k0_chk40 v170) (k0_t12 : Fin (k0_t12_loop v170).trips), ∀ a, (k0_off213 v170 k0_t12) a + S1x16.size a ≤ S256x128.size a := fun v170 k0_hw40 k0_t12 => k0_hw40.1.2.2.2.2.2.2.2.2.2.2.2.2.2.2.2.2.2.2.1 k0_t12
theorem k0_off214_inb : ∀ (v170 : BitVec 32) (k0_hw40 : k0_chk40 v170) (k0_t12 : Fin (k0_t12_loop v170).trips), ∀ a, (k0_off214 v170 k0_t12) a + S1x16.size a ≤ S256x128.size a := fun v170 k0_hw40 k0_t12 => k0_hw40.1.2.2.2.2.2.2.2.2.2.2.2.2.2.2.2.2.2.2.2.1 k0_t12
theorem k0_off215_inb : ∀ (v170 : BitVec 32) (k0_hw40 : k0_chk40 v170) (k0_t12 : Fin (k0_t12_loop v170).trips), ∀ a, (k0_off215 v170 k0_t12) a + S1x16.size a ≤ S256x128.size a := fun v170 k0_hw40 k0_t12 => k0_hw40.1.2.2.2.2.2.2.2.2.2.2.2.2.2.2.2.2.2.2.2.2.1 k0_t12
theorem k0_off216_inb : ∀ (v170 : BitVec 32) (k0_hw40 : k0_chk40 v170) (k0_t12 : Fin (k0_t12_loop v170).trips), ∀ a, (k0_off216 v170 k0_t12) a + S1x16.size a ≤ S256x128.size a := fun v170 k0_hw40 k0_t12 => k0_hw40.1.2.2.2.2.2.2.2.2.2.2.2.2.2.2.2.2.2.2.2.2.2.1 k0_t12
theorem k0_off217_inb : ∀ (v170 : BitVec 32) (k0_hw40 : k0_chk40 v170) (k0_t12 : Fin (k0_t12_loop v170).trips), ∀ a, (k0_off217 v170 k0_t12) a + S1x16.size a ≤ S256x128.size a := fun v170 k0_hw40 k0_t12 => k0_hw40.1.2.2.2.2.2.2.2.2.2.2.2.2.2.2.2.2.2.2.2.2.2.2.1 k0_t12
theorem k0_off218_inb : ∀ (v170 : BitVec 32) (k0_hw40 : k0_chk40 v170) (k0_t12 : Fin (k0_t12_loop v170).trips), ∀ a, (k0_off218 v170 k0_t12) a + S1x16.size a ≤ S256x128.size a := fun v170 k0_hw40 k0_t12 => k0_hw40.1.2.2.2.2.2.2.2.2.2.2.2.2.2.2.2.2.2.2.2.2.2.2.2.1 k0_t12
theorem k0_off219_inb : ∀ (v170 : BitVec 32) (k0_hw40 : k0_chk40 v170) (k0_t12 : Fin (k0_t12_loop v170).trips), ∀ a, (k0_off219 v170 k0_t12) a + S1x16.size a ≤ S256x128.size a := fun v170 k0_hw40 k0_t12 => k0_hw40.1.2.2.2.2.2.2.2.2.2.2.2.2.2.2.2.2.2.2.2.2.2.2.2.2.1 k0_t12
theorem k0_off220_inb : ∀ (v170 : BitVec 32) (k0_hw40 : k0_chk40 v170) (k0_t12 : Fin (k0_t12_loop v170).trips), ∀ a, (k0_off220 v170 k0_t12) a + S1x16.size a ≤ S256x128.size a := fun v170 k0_hw40 k0_t12 => k0_hw40.1.2.2.2.2.2.2.2.2.2.2.2.2.2.2.2.2.2.2.2.2.2.2.2.2.2.1 k0_t12
theorem k0_off221_inb : ∀ (v170 : BitVec 32) (k0_hw40 : k0_chk40 v170) (k0_t12 : Fin (k0_t12_loop v170).trips), ∀ a, (k0_off221 v170 k0_t12) a + S1x16.size a ≤ S256x128.size a := fun v170 k0_hw40 k0_t12 => k0_hw40.1.2.2.2.2.2.2.2.2.2.2.2.2.2.2.2.2.2.2.2.2.2.2.2.2.2.2.1 k0_t12
theorem k0_off222_inb : ∀ (v170 : BitVec 32) (k0_hw40 : k0_chk40 v170) (k0_t12 : Fin (k0_t12_loop v170).trips), ∀ a, (k0_off222 v170 k0_t12) a + S1x16.size a ≤ S256x128.size a := fun v170 k0_hw40 k0_t12 => k0_hw40.1.2.2.2.2.2.2.2.2.2.2.2.2.2.2.2.2.2.2.2.2.2.2.2.2.2.2.2.1 k0_t12
theorem k0_off223_inb : ∀ (v170 : BitVec 32) (k0_hw40 : k0_chk40 v170) (k0_t12 : Fin (k0_t12_loop v170).trips), ∀ a, (k0_off223 v170 k0_t12) a + S1x16.size a ≤ S256x128.size a := fun v170 k0_hw40 k0_t12 => k0_hw40.1.2.2.2.2.2.2.2.2.2.2.2.2.2.2.2.2.2.2.2.2.2.2.2.2.2.2.2.2.1 k0_t12
theorem k0_off224_inb : ∀ (v170 : BitVec 32) (k0_hw40 : k0_chk40 v170) (k0_t12 : Fin (k0_t12_loop v170).trips), ∀ a, (k0_off224 v170 k0_t12) a + S1x16.size a ≤ S256x128.size a := fun v170 k0_hw40 k0_t12 => k0_hw40.1.2.2.2.2.2.2.2.2.2.2.2.2.2.2.2.2.2.2.2.2.2.2.2.2.2.2.2.2.2.1 k0_t12
theorem k0_off225_inb : ∀ (v170 : BitVec 32) (k0_hw40 : k0_chk40 v170) (k0_t12 : Fin (k0_t12_loop v170).trips), ∀ a, (k0_off225 v170 k0_t12) a + S1x16.size a ≤ S256x128.size a := fun v170 k0_hw40 k0_t12 => k0_hw40.1.2.2.2.2.2.2.2.2.2.2.2.2.2.2.2.2.2.2.2.2.2.2.2.2.2.2.2.2.2.2.1 k0_t12
theorem k0_off226_inb : ∀ (v170 : BitVec 32) (k0_hw40 : k0_chk40 v170) (k0_t12 : Fin (k0_t12_loop v170).trips), ∀ a, (k0_off226 v170 k0_t12) a + S1x16.size a ≤ S256x128.size a := fun v170 k0_hw40 k0_t12 => k0_hw40.1.2.2.2.2.2.2.2.2.2.2.2.2.2.2.2.2.2.2.2.2.2.2.2.2.2.2.2.2.2.2.2 k0_t12
theorem k0_off227_inb : ∀ (v170 : BitVec 32) (k0_hw40 : k0_chk40 v170) (k0_t12 : Fin (k0_t12_loop v170).trips), ∀ a, (k0_off227 v170 k0_t12) a + S1x16.size a ≤ S256x128.size a := fun v170 k0_hw40 k0_t12 => k0_hw40.2.1.1 k0_t12
theorem k0_off228_inb : ∀ (v170 : BitVec 32) (k0_hw40 : k0_chk40 v170) (k0_t12 : Fin (k0_t12_loop v170).trips), ∀ a, (k0_off228 v170 k0_t12) a + S1x16.size a ≤ S256x128.size a := fun v170 k0_hw40 k0_t12 => k0_hw40.2.1.2.1 k0_t12
theorem k0_off229_inb : ∀ (v170 : BitVec 32) (k0_hw40 : k0_chk40 v170) (k0_t12 : Fin (k0_t12_loop v170).trips), ∀ a, (k0_off229 v170 k0_t12) a + S1x16.size a ≤ S256x128.size a := fun v170 k0_hw40 k0_t12 => k0_hw40.2.1.2.2.1 k0_t12
theorem k0_off230_inb : ∀ (v170 : BitVec 32) (k0_hw40 : k0_chk40 v170) (k0_t12 : Fin (k0_t12_loop v170).trips), ∀ a, (k0_off230 v170 k0_t12) a + S1x16.size a ≤ S256x128.size a := fun v170 k0_hw40 k0_t12 => k0_hw40.2.1.2.2.2.1 k0_t12
theorem k0_off231_inb : ∀ (v170 : BitVec 32) (k0_hw40 : k0_chk40 v170) (k0_t12 : Fin (k0_t12_loop v170).trips), ∀ a, (k0_off231 v170 k0_t12) a + S1x16.size a ≤ S256x128.size a := fun v170 k0_hw40 k0_t12 => k0_hw40.2.1.2.2.2.2.1 k0_t12
theorem k0_off232_inb : ∀ (v170 : BitVec 32) (k0_hw40 : k0_chk40 v170) (k0_t12 : Fin (k0_t12_loop v170).trips), ∀ a, (k0_off232 v170 k0_t12) a + S1x16.size a ≤ S256x128.size a := fun v170 k0_hw40 k0_t12 => k0_hw40.2.1.2.2.2.2.2.1 k0_t12
theorem k0_off233_inb : ∀ (v170 : BitVec 32) (k0_hw40 : k0_chk40 v170) (k0_t12 : Fin (k0_t12_loop v170).trips), ∀ a, (k0_off233 v170 k0_t12) a + S1x16.size a ≤ S256x128.size a := fun v170 k0_hw40 k0_t12 => k0_hw40.2.1.2.2.2.2.2.2.1 k0_t12
theorem k0_off234_inb : ∀ (v170 : BitVec 32) (k0_hw40 : k0_chk40 v170) (k0_t12 : Fin (k0_t12_loop v170).trips), ∀ a, (k0_off234 v170 k0_t12) a + S1x16.size a ≤ S256x128.size a := fun v170 k0_hw40 k0_t12 => k0_hw40.2.1.2.2.2.2.2.2.2.1 k0_t12
theorem k0_off235_inb : ∀ (v170 : BitVec 32) (k0_hw40 : k0_chk40 v170) (k0_t12 : Fin (k0_t12_loop v170).trips), ∀ a, (k0_off235 v170 k0_t12) a + S1x16.size a ≤ S256x128.size a := fun v170 k0_hw40 k0_t12 => k0_hw40.2.1.2.2.2.2.2.2.2.2.1 k0_t12
theorem k0_off236_inb : ∀ (v170 : BitVec 32) (k0_hw40 : k0_chk40 v170) (k0_t12 : Fin (k0_t12_loop v170).trips), ∀ a, (k0_off236 v170 k0_t12) a + S1x16.size a ≤ S256x128.size a := fun v170 k0_hw40 k0_t12 => k0_hw40.2.1.2.2.2.2.2.2.2.2.2.1 k0_t12
theorem k0_off237_inb : ∀ (v170 : BitVec 32) (k0_hw40 : k0_chk40 v170) (k0_t12 : Fin (k0_t12_loop v170).trips), ∀ a, (k0_off237 v170 k0_t12) a + S1x16.size a ≤ S256x128.size a := fun v170 k0_hw40 k0_t12 => k0_hw40.2.1.2.2.2.2.2.2.2.2.2.2.1 k0_t12
theorem k0_off238_inb : ∀ (v170 : BitVec 32) (k0_hw40 : k0_chk40 v170) (k0_t12 : Fin (k0_t12_loop v170).trips), ∀ a, (k0_off238 v170 k0_t12) a + S1x16.size a ≤ S256x128.size a := fun v170 k0_hw40 k0_t12 => k0_hw40.2.1.2.2.2.2.2.2.2.2.2.2.2.1 k0_t12
theorem k0_off239_inb : ∀ (v170 : BitVec 32) (k0_hw40 : k0_chk40 v170) (k0_t12 : Fin (k0_t12_loop v170).trips), ∀ a, (k0_off239 v170 k0_t12) a + S1x16.size a ≤ S256x128.size a := fun v170 k0_hw40 k0_t12 => k0_hw40.2.1.2.2.2.2.2.2.2.2.2.2.2.2.1 k0_t12
theorem k0_off240_inb : ∀ (v170 : BitVec 32) (k0_hw40 : k0_chk40 v170) (k0_t12 : Fin (k0_t12_loop v170).trips), ∀ a, (k0_off240 v170 k0_t12) a + S1x16.size a ≤ S256x128.size a := fun v170 k0_hw40 k0_t12 => k0_hw40.2.1.2.2.2.2.2.2.2.2.2.2.2.2.2.1 k0_t12
theorem k0_off241_inb : ∀ (v170 : BitVec 32) (k0_hw40 : k0_chk40 v170) (k0_t12 : Fin (k0_t12_loop v170).trips), ∀ a, (k0_off241 v170 k0_t12) a + S1x16.size a ≤ S256x128.size a := fun v170 k0_hw40 k0_t12 => k0_hw40.2.1.2.2.2.2.2.2.2.2.2.2.2.2.2.2.1 k0_t12
theorem k0_off242_inb : ∀ (v170 : BitVec 32) (k0_hw40 : k0_chk40 v170) (k0_t12 : Fin (k0_t12_loop v170).trips), ∀ a, (k0_off242 v170 k0_t12) a + S1x16.size a ≤ S256x128.size a := fun v170 k0_hw40 k0_t12 => k0_hw40.2.1.2.2.2.2.2.2.2.2.2.2.2.2.2.2.2.1 k0_t12
theorem k0_off243_inb : ∀ (v170 : BitVec 32) (k0_hw40 : k0_chk40 v170) (k0_t12 : Fin (k0_t12_loop v170).trips), ∀ a, (k0_off243 v170 k0_t12) a + S1x16.size a ≤ S256x128.size a := fun v170 k0_hw40 k0_t12 => k0_hw40.2.1.2.2.2.2.2.2.2.2.2.2.2.2.2.2.2.2.1 k0_t12
theorem k0_off244_inb : ∀ (v170 : BitVec 32) (k0_hw40 : k0_chk40 v170) (k0_t12 : Fin (k0_t12_loop v170).trips), ∀ a, (k0_off244 v170 k0_t12) a + S1x16.size a ≤ S256x128.size a := fun v170 k0_hw40 k0_t12 => k0_hw40.2.1.2.2.2.2.2.2.2.2.2.2.2.2.2.2.2.2.2.1 k0_t12
theorem k0_off245_inb : ∀ (v170 : BitVec 32) (k0_hw40 : k0_chk40 v170) (k0_t12 : Fin (k0_t12_loop v170).trips), ∀ a, (k0_off245 v170 k0_t12) a + S1x16.size a ≤ S256x128.size a := fun v170 k0_hw40 k0_t12 => k0_hw40.2.1.2.2.2.2.2.2.2.2.2.2.2.2.2.2.2.2.2.2.1 k0_t12
theorem k0_off246_inb : ∀ (v170 : BitVec 32) (k0_hw40 : k0_chk40 v170) (k0_t12 : Fin (k0_t12_loop v170).trips), ∀ a, (k0_off246 v170 k0_t12) a + S1x16.size a ≤ S256x128.size a := fun v170 k0_hw40 k0_t12 => k0_hw40.2.1.2.2.2.2.2.2.2.2.2.2.2.2.2.2.2.2.2.2.2.1 k0_t12
theorem k0_off247_inb : ∀ (v170 : BitVec 32) (k0_hw40 : k0_chk40 v170) (k0_t12 : Fin (k0_t12_loop v170).trips), ∀ a, (k0_off247 v170 k0_t12) a + S1x16.size a ≤ S256x128.size a := fun v170 k0_hw40 k0_t12 => k0_hw40.2.1.2.2.2.2.2.2.2.2.2.2.2.2.2.2.2.2.2.2.2.2.1 k0_t12
theorem k0_off248_inb : ∀ (v170 : BitVec 32) (k0_hw40 : k0_chk40 v170) (k0_t12 : Fin (k0_t12_loop v170).trips), ∀ a, (k0_off248 v170 k0_t12) a + S1x16.size a ≤ S256x128.size a := fun v170 k0_hw40 k0_t12 => k0_hw40.2.1.2.2.2.2.2.2.2.2.2.2.2.2.2.2.2.2.2.2.2.2.2.1 k0_t12
theorem k0_off249_inb : ∀ (v170 : BitVec 32) (k0_hw40 : k0_chk40 v170) (k0_t12 : Fin (k0_t12_loop v170).trips), ∀ a, (k0_off249 v170 k0_t12) a + S1x16.size a ≤ S256x128.size a := fun v170 k0_hw40 k0_t12 => k0_hw40.2.1.2.2.2.2.2.2.2.2.2.2.2.2.2.2.2.2.2.2.2.2.2.2.1 k0_t12
theorem k0_off250_inb : ∀ (v170 : BitVec 32) (k0_hw40 : k0_chk40 v170) (k0_t12 : Fin (k0_t12_loop v170).trips), ∀ a, (k0_off250 v170 k0_t12) a + S1x16.size a ≤ S256x128.size a := fun v170 k0_hw40 k0_t12 => k0_hw40.2.1.2.2.2.2.2.2.2.2.2.2.2.2.2.2.2.2.2.2.2.2.2.2.2.1 k0_t12
theorem k0_off251_inb : ∀ (v170 : BitVec 32) (k0_hw40 : k0_chk40 v170) (k0_t12 : Fin (k0_t12_loop v170).trips), ∀ a, (k0_off251 v170 k0_t12) a + S1x16.size a ≤ S256x128.size a := fun v170 k0_hw40 k0_t12 => k0_hw40.2.1.2.2.2.2.2.2.2.2.2.2.2.2.2.2.2.2.2.2.2.2.2.2.2.2.1 k0_t12
theorem k0_off252_inb : ∀ (v170 : BitVec 32) (k0_hw40 : k0_chk40 v170) (k0_t12 : Fin (k0_t12_loop v170).trips), ∀ a, (k0_off252 v170 k0_t12) a + S1x16.size a ≤ S256x128.size a := fun v170 k0_hw40 k0_t12 => k0_hw40.2.1.2.2.2.2.2.2.2.2.2.2.2.2.2.2.2.2.2.2.2.2.2.2.2.2.2.1 k0_t12
theorem k0_off253_inb : ∀ (v170 : BitVec 32) (k0_hw40 : k0_chk40 v170) (k0_t12 : Fin (k0_t12_loop v170).trips), ∀ a, (k0_off253 v170 k0_t12) a + S1x16.size a ≤ S256x128.size a := fun v170 k0_hw40 k0_t12 => k0_hw40.2.1.2.2.2.2.2.2.2.2.2.2.2.2.2.2.2.2.2.2.2.2.2.2.2.2.2.2.1 k0_t12
theorem k0_off254_inb : ∀ (v170 : BitVec 32) (k0_hw40 : k0_chk40 v170) (k0_t12 : Fin (k0_t12_loop v170).trips), ∀ a, (k0_off254 v170 k0_t12) a + S1x16.size a ≤ S256x128.size a := fun v170 k0_hw40 k0_t12 => k0_hw40.2.1.2.2.2.2.2.2.2.2.2.2.2.2.2.2.2.2.2.2.2.2.2.2.2.2.2.2.2.1 k0_t12
theorem k0_off255_inb : ∀ (v170 : BitVec 32) (k0_hw40 : k0_chk40 v170) (k0_t12 : Fin (k0_t12_loop v170).trips), ∀ a, (k0_off255 v170 k0_t12) a + S1x16.size a ≤ S256x128.size a := fun v170 k0_hw40 k0_t12 => k0_hw40.2.1.2.2.2.2.2.2.2.2.2.2.2.2.2.2.2.2.2.2.2.2.2.2.2.2.2.2.2.2.1 k0_t12
theorem k0_off256_inb : ∀ (v170 : BitVec 32) (k0_hw40 : k0_chk40 v170) (k0_t12 : Fin (k0_t12_loop v170).trips), ∀ a, (k0_off256 v170 k0_t12) a + S1x16.size a ≤ S256x128.size a := fun v170 k0_hw40 k0_t12 => k0_hw40.2.1.2.2.2.2.2.2.2.2.2.2.2.2.2.2.2.2.2.2.2.2.2.2.2.2.2.2.2.2.2.1 k0_t12
theorem k0_off257_inb : ∀ (v170 : BitVec 32) (k0_hw40 : k0_chk40 v170) (k0_t12 : Fin (k0_t12_loop v170).trips), ∀ a, (k0_off257 v170 k0_t12) a + S1x16.size a ≤ S256x128.size a := fun v170 k0_hw40 k0_t12 => k0_hw40.2.1.2.2.2.2.2.2.2.2.2.2.2.2.2.2.2.2.2.2.2.2.2.2.2.2.2.2.2.2.2.2.1 k0_t12
theorem k0_off258_inb : ∀ (v170 : BitVec 32) (k0_hw40 : k0_chk40 v170) (k0_t12 : Fin (k0_t12_loop v170).trips), ∀ a, (k0_off258 v170 k0_t12) a + S1x16.size a ≤ S256x128.size a := fun v170 k0_hw40 k0_t12 => k0_hw40.2.1.2.2.2.2.2.2.2.2.2.2.2.2.2.2.2.2.2.2.2.2.2.2.2.2.2.2.2.2.2.2.2 k0_t12
theorem k0_off259_inb : ∀ (v170 : BitVec 32) (k0_hw40 : k0_chk40 v170) (k0_t12 : Fin (k0_t12_loop v170).trips), ∀ a, (k0_off259 v170 k0_t12) a + S1x16.size a ≤ S256x128.size a := fun v170 k0_hw40 k0_t12 => k0_hw40.2.2.1.1 k0_t12
theorem k0_off260_inb : ∀ (v170 : BitVec 32) (k0_hw40 : k0_chk40 v170) (k0_t12 : Fin (k0_t12_loop v170).trips), ∀ a, (k0_off260 v170 k0_t12) a + S1x16.size a ≤ S256x128.size a := fun v170 k0_hw40 k0_t12 => k0_hw40.2.2.1.2.1 k0_t12
theorem k0_off261_inb : ∀ (v170 : BitVec 32) (k0_hw40 : k0_chk40 v170) (k0_t12 : Fin (k0_t12_loop v170).trips), ∀ a, (k0_off261 v170 k0_t12) a + S1x16.size a ≤ S256x128.size a := fun v170 k0_hw40 k0_t12 => k0_hw40.2.2.1.2.2.1 k0_t12
theorem k0_off262_inb : ∀ (v170 : BitVec 32) (k0_hw40 : k0_chk40 v170) (k0_t12 : Fin (k0_t12_loop v170).trips), ∀ a, (k0_off262 v170 k0_t12) a + S1x16.size a ≤ S256x128.size a := fun v170 k0_hw40 k0_t12 => k0_hw40.2.2.1.2.2.2.1 k0_t12
theorem k0_off263_inb : ∀ (v170 : BitVec 32) (k0_hw40 : k0_chk40 v170) (k0_t12 : Fin (k0_t12_loop v170).trips), ∀ a, (k0_off263 v170 k0_t12) a + S1x16.size a ≤ S256x128.size a := fun v170 k0_hw40 k0_t12 => k0_hw40.2.2.1.2.2.2.2.1 k0_t12
theorem k0_off264_inb : ∀ (v170 : BitVec 32) (k0_hw40 : k0_chk40 v170) (k0_t12 : Fin (k0_t12_loop v170).trips), ∀ a, (k0_off264 v170 k0_t12) a + S1x16.size a ≤ S256x128.size a := fun v170 k0_hw40 k0_t12 => k0_hw40.2.2.1.2.2.2.2.2.1 k0_t12
theorem k0_off265_inb : ∀ (v170 : BitVec 32) (k0_hw40 : k0_chk40 v170) (k0_t12 : Fin (k0_t12_loop v170).trips), ∀ a, (k0_off265 v170 k0_t12) a + S1x16.size a ≤ S256x128.size a := fun v170 k0_hw40 k0_t12 => k0_hw40.2.2.1.2.2.2.2.2.2.1 k0_t12
theorem k0_off266_inb : ∀ (v170 : BitVec 32) (k0_hw40 : k0_chk40 v170) (k0_t12 : Fin (k0_t12_loop v170).trips), ∀ a, (k0_off266 v170 k0_t12) a + S1x16.size a ≤ S256x128.size a := fun v170 k0_hw40 k0_t12 => k0_hw40.2.2.1.2.2.2.2.2.2.2.1 k0_t12
theorem k0_off267_inb : ∀ (v170 : BitVec 32) (k0_hw40 : k0_chk40 v170) (k0_t12 : Fin (k0_t12_loop v170).trips), ∀ a, (k0_off267 v170 k0_t12) a + S1x16.size a ≤ S256x128.size a := fun v170 k0_hw40 k0_t12 => k0_hw40.2.2.1.2.2.2.2.2.2.2.2.1 k0_t12
theorem k0_off268_inb : ∀ (v170 : BitVec 32) (k0_hw40 : k0_chk40 v170) (k0_t12 : Fin (k0_t12_loop v170).trips), ∀ a, (k0_off268 v170 k0_t12) a + S1x16.size a ≤ S256x128.size a := fun v170 k0_hw40 k0_t12 => k0_hw40.2.2.1.2.2.2.2.2.2.2.2.2.1 k0_t12
theorem k0_off269_inb : ∀ (v170 : BitVec 32) (k0_hw40 : k0_chk40 v170) (k0_t12 : Fin (k0_t12_loop v170).trips), ∀ a, (k0_off269 v170 k0_t12) a + S1x16.size a ≤ S256x128.size a := fun v170 k0_hw40 k0_t12 => k0_hw40.2.2.1.2.2.2.2.2.2.2.2.2.2.1 k0_t12
theorem k0_off270_inb : ∀ (v170 : BitVec 32) (k0_hw40 : k0_chk40 v170) (k0_t12 : Fin (k0_t12_loop v170).trips), ∀ a, (k0_off270 v170 k0_t12) a + S1x16.size a ≤ S256x128.size a := fun v170 k0_hw40 k0_t12 => k0_hw40.2.2.1.2.2.2.2.2.2.2.2.2.2.2.1 k0_t12
theorem k0_off271_inb : ∀ (v170 : BitVec 32) (k0_hw40 : k0_chk40 v170) (k0_t12 : Fin (k0_t12_loop v170).trips), ∀ a, (k0_off271 v170 k0_t12) a + S1x16.size a ≤ S256x128.size a := fun v170 k0_hw40 k0_t12 => k0_hw40.2.2.1.2.2.2.2.2.2.2.2.2.2.2.2.1 k0_t12
theorem k0_off272_inb : ∀ (v170 : BitVec 32) (k0_hw40 : k0_chk40 v170) (k0_t12 : Fin (k0_t12_loop v170).trips), ∀ a, (k0_off272 v170 k0_t12) a + S1x16.size a ≤ S256x128.size a := fun v170 k0_hw40 k0_t12 => k0_hw40.2.2.1.2.2.2.2.2.2.2.2.2.2.2.2.2.1 k0_t12
theorem k0_off273_inb : ∀ (v170 : BitVec 32) (k0_hw40 : k0_chk40 v170) (k0_t12 : Fin (k0_t12_loop v170).trips), ∀ a, (k0_off273 v170 k0_t12) a + S1x16.size a ≤ S256x128.size a := fun v170 k0_hw40 k0_t12 => k0_hw40.2.2.1.2.2.2.2.2.2.2.2.2.2.2.2.2.2.1 k0_t12
theorem k0_off274_inb : ∀ (v170 : BitVec 32) (k0_hw40 : k0_chk40 v170) (k0_t12 : Fin (k0_t12_loop v170).trips), ∀ a, (k0_off274 v170 k0_t12) a + S1x16.size a ≤ S256x128.size a := fun v170 k0_hw40 k0_t12 => k0_hw40.2.2.1.2.2.2.2.2.2.2.2.2.2.2.2.2.2.2.1 k0_t12
theorem k0_off275_inb : ∀ (v170 : BitVec 32) (k0_hw40 : k0_chk40 v170) (k0_t12 : Fin (k0_t12_loop v170).trips), ∀ a, (k0_off275 v170 k0_t12) a + S1x16.size a ≤ S256x128.size a := fun v170 k0_hw40 k0_t12 => k0_hw40.2.2.1.2.2.2.2.2.2.2.2.2.2.2.2.2.2.2.2.1 k0_t12
theorem k0_off276_inb : ∀ (v170 : BitVec 32) (k0_hw40 : k0_chk40 v170) (k0_t12 : Fin (k0_t12_loop v170).trips), ∀ a, (k0_off276 v170 k0_t12) a + S1x16.size a ≤ S256x128.size a := fun v170 k0_hw40 k0_t12 => k0_hw40.2.2.1.2.2.2.2.2.2.2.2.2.2.2.2.2.2.2.2.2.1 k0_t12
theorem k0_off277_inb : ∀ (v170 : BitVec 32) (k0_hw40 : k0_chk40 v170) (k0_t12 : Fin (k0_t12_loop v170).trips), ∀ a, (k0_off277 v170 k0_t12) a + S1x16.size a ≤ S256x128.size a := fun v170 k0_hw40 k0_t12 => k0_hw40.2.2.1.2.2.2.2.2.2.2.2.2.2.2.2.2.2.2.2.2.2.1 k0_t12
theorem k0_off278_inb : ∀ (v170 : BitVec 32) (k0_hw40 : k0_chk40 v170) (k0_t12 : Fin (k0_t12_loop v170).trips), ∀ a, (k0_off278 v170 k0_t12) a + S1x16.size a ≤ S256x128.size a := fun v170 k0_hw40 k0_t12 => k0_hw40.2.2.1.2.2.2.2.2.2.2.2.2.2.2.2.2.2.2.2.2.2.2.1 k0_t12
theorem k0_off279_inb : ∀ (v170 : BitVec 32) (k0_hw40 : k0_chk40 v170) (k0_t12 : Fin (k0_t12_loop v170).trips), ∀ a, (k0_off279 v170 k0_t12) a + S1x16.size a ≤ S256x128.size a := fun v170 k0_hw40 k0_t12 => k0_hw40.2.2.1.2.2.2.2.2.2.2.2.2.2.2.2.2.2.2.2.2.2.2.2.1 k0_t12
theorem k0_off280_inb : ∀ (v170 : BitVec 32) (k0_hw40 : k0_chk40 v170) (k0_t12 : Fin (k0_t12_loop v170).trips), ∀ a, (k0_off280 v170 k0_t12) a + S1x16.size a ≤ S256x128.size a := fun v170 k0_hw40 k0_t12 => k0_hw40.2.2.1.2.2.2.2.2.2.2.2.2.2.2.2.2.2.2.2.2.2.2.2.2.1 k0_t12
theorem k0_off281_inb : ∀ (v170 : BitVec 32) (k0_hw40 : k0_chk40 v170) (k0_t12 : Fin (k0_t12_loop v170).trips), ∀ a, (k0_off281 v170 k0_t12) a + S1x16.size a ≤ S256x128.size a := fun v170 k0_hw40 k0_t12 => k0_hw40.2.2.1.2.2.2.2.2.2.2.2.2.2.2.2.2.2.2.2.2.2.2.2.2.2.1 k0_t12
theorem k0_off282_inb : ∀ (v170 : BitVec 32) (k0_hw40 : k0_chk40 v170) (k0_t12 : Fin (k0_t12_loop v170).trips), ∀ a, (k0_off282 v170 k0_t12) a + S1x16.size a ≤ S256x128.size a := fun v170 k0_hw40 k0_t12 => k0_hw40.2.2.1.2.2.2.2.2.2.2.2.2.2.2.2.2.2.2.2.2.2.2.2.2.2.2.1 k0_t12
theorem k0_off283_inb : ∀ (v170 : BitVec 32) (k0_hw40 : k0_chk40 v170) (k0_t12 : Fin (k0_t12_loop v170).trips), ∀ a, (k0_off283 v170 k0_t12) a + S1x16.size a ≤ S256x128.size a := fun v170 k0_hw40 k0_t12 => k0_hw40.2.2.1.2.2.2.2.2.2.2.2.2.2.2.2.2.2.2.2.2.2.2.2.2.2.2.2.1 k0_t12
theorem k0_off284_inb : ∀ (v170 : BitVec 32) (k0_hw40 : k0_chk40 v170) (k0_t12 : Fin (k0_t12_loop v170).trips), ∀ a, (k0_off284 v170 k0_t12) a + S1x16.size a ≤ S256x128.size a := fun v170 k0_hw40 k0_t12 => k0_hw40.2.2.1.2.2.2.2.2.2.2.2.2.2.2.2.2.2.2.2.2.2.2.2.2.2.2.2.2.1 k0_t12
theorem k0_off285_inb : ∀ (v170 : BitVec 32) (k0_hw40 : k0_chk40 v170) (k0_t12 : Fin (k0_t12_loop v170).trips), ∀ a, (k0_off285 v170 k0_t12) a + S1x16.size a ≤ S256x128.size a := fun v170 k0_hw40 k0_t12 => k0_hw40.2.2.1.2.2.2.2.2.2.2.2.2.2.2.2.2.2.2.2.2.2.2.2.2.2.2.2.2.2.1 k0_t12
theorem k0_off286_inb : ∀ (v170 : BitVec 32) (k0_hw40 : k0_chk40 v170) (k0_t12 : Fin (k0_t12_loop v170).trips), ∀ a, (k0_off286 v170 k0_t12) a + S1x16.size a ≤ S256x128.size a := fun v170 k0_hw40 k0_t12 => k0_hw40.2.2.1.2.2.2.2.2.2.2.2.2.2.2.2.2.2.2.2.2.2.2.2.2.2.2.2.2.2.2.1 k0_t12
theorem k0_off287_inb : ∀ (v170 : BitVec 32) (k0_hw40 : k0_chk40 v170) (k0_t12 : Fin (k0_t12_loop v170).trips), ∀ a, (k0_off287 v170 k0_t12) a + S1x16.size a ≤ S256x128.size a := fun v170 k0_hw40 k0_t12 => k0_hw40.2.2.1.2.2.2.2.2.2.2.2.2.2.2.2.2.2.2.2.2.2.2.2.2.2.2.2.2.2.2.2.1 k0_t12
theorem k0_off288_inb : ∀ (v170 : BitVec 32) (k0_hw40 : k0_chk40 v170) (k0_t12 : Fin (k0_t12_loop v170).trips), ∀ a, (k0_off288 v170 k0_t12) a + S1x16.size a ≤ S256x128.size a := fun v170 k0_hw40 k0_t12 => k0_hw40.2.2.1.2.2.2.2.2.2.2.2.2.2.2.2.2.2.2.2.2.2.2.2.2.2.2.2.2.2.2.2.2.1 k0_t12
theorem k0_off289_inb : ∀ (v170 : BitVec 32) (k0_hw40 : k0_chk40 v170) (k0_t12 : Fin (k0_t12_loop v170).trips), ∀ a, (k0_off289 v170 k0_t12) a + S1x16.size a ≤ S256x128.size a := fun v170 k0_hw40 k0_t12 => k0_hw40.2.2.1.2.2.2.2.2.2.2.2.2.2.2.2.2.2.2.2.2.2.2.2.2.2.2.2.2.2.2.2.2.2.1 k0_t12
theorem k0_off290_inb : ∀ (v170 : BitVec 32) (k0_hw40 : k0_chk40 v170) (k0_t12 : Fin (k0_t12_loop v170).trips), ∀ a, (k0_off290 v170 k0_t12) a + S1x16.size a ≤ S256x128.size a := fun v170 k0_hw40 k0_t12 => k0_hw40.2.2.1.2.2.2.2.2.2.2.2.2.2.2.2.2.2.2.2.2.2.2.2.2.2.2.2.2.2.2.2.2.2.2 k0_t12
theorem k0_off291_inb : ∀ (v170 : BitVec 32) (k0_hw40 : k0_chk40 v170) (k0_t12 : Fin (k0_t12_loop v170).trips), ∀ a, (k0_off291 v170 k0_t12) a + S1x16.size a ≤ S256x128.size a := fun v170 k0_hw40 k0_t12 => k0_hw40.2.2.2.1.1 k0_t12
theorem k0_off292_inb : ∀ (v170 : BitVec 32) (k0_hw40 : k0_chk40 v170) (k0_t12 : Fin (k0_t12_loop v170).trips), ∀ a, (k0_off292 v170 k0_t12) a + S1x16.size a ≤ S256x128.size a := fun v170 k0_hw40 k0_t12 => k0_hw40.2.2.2.1.2.1 k0_t12
theorem k0_off293_inb : ∀ (v170 : BitVec 32) (k0_hw40 : k0_chk40 v170) (k0_t12 : Fin (k0_t12_loop v170).trips), ∀ a, (k0_off293 v170 k0_t12) a + S1x16.size a ≤ S256x128.size a := fun v170 k0_hw40 k0_t12 => k0_hw40.2.2.2.1.2.2.1 k0_t12
theorem k0_off294_inb : ∀ (v170 : BitVec 32) (k0_hw40 : k0_chk40 v170) (k0_t12 : Fin (k0_t12_loop v170).trips), ∀ a, (k0_off294 v170 k0_t12) a + S1x16.size a ≤ S256x128.size a := fun v170 k0_hw40 k0_t12 => k0_hw40.2.2.2.1.2.2.2.1 k0_t12
theorem k0_off295_inb : ∀ (v170 : BitVec 32) (k0_hw40 : k0_chk40 v170) (k0_t12 : Fin (k0_t12_loop v170).trips), ∀ a, (k0_off295 v170 k0_t12) a + S1x16.size a ≤ S256x128.size a := fun v170 k0_hw40 k0_t12 => k0_hw40.2.2.2.1.2.2.2.2.1 k0_t12
theorem k0_off296_inb : ∀ (v170 : BitVec 32) (k0_hw40 : k0_chk40 v170) (k0_t12 : Fin (k0_t12_loop v170).trips), ∀ a, (k0_off296 v170 k0_t12) a + S1x16.size a ≤ S256x128.size a := fun v170 k0_hw40 k0_t12 => k0_hw40.2.2.2.1.2.2.2.2.2.1 k0_t12
theorem k0_off297_inb : ∀ (v170 : BitVec 32) (k0_hw40 : k0_chk40 v170) (k0_t12 : Fin (k0_t12_loop v170).trips), ∀ a, (k0_off297 v170 k0_t12) a + S1x16.size a ≤ S256x128.size a := fun v170 k0_hw40 k0_t12 => k0_hw40.2.2.2.1.2.2.2.2.2.2.1 k0_t12
theorem k0_off298_inb : ∀ (v170 : BitVec 32) (k0_hw40 : k0_chk40 v170) (k0_t12 : Fin (k0_t12_loop v170).trips), ∀ a, (k0_off298 v170 k0_t12) a + S1x16.size a ≤ S256x128.size a := fun v170 k0_hw40 k0_t12 => k0_hw40.2.2.2.1.2.2.2.2.2.2.2.1 k0_t12
theorem k0_off299_inb : ∀ (v170 : BitVec 32) (k0_hw40 : k0_chk40 v170) (k0_t12 : Fin (k0_t12_loop v170).trips), ∀ a, (k0_off299 v170 k0_t12) a + S1x16.size a ≤ S256x128.size a := fun v170 k0_hw40 k0_t12 => k0_hw40.2.2.2.1.2.2.2.2.2.2.2.2.1 k0_t12
theorem k0_off300_inb : ∀ (v170 : BitVec 32) (k0_hw40 : k0_chk40 v170) (k0_t12 : Fin (k0_t12_loop v170).trips), ∀ a, (k0_off300 v170 k0_t12) a + S1x16.size a ≤ S256x128.size a := fun v170 k0_hw40 k0_t12 => k0_hw40.2.2.2.1.2.2.2.2.2.2.2.2.2.1 k0_t12
theorem k0_off301_inb : ∀ (v170 : BitVec 32) (k0_hw40 : k0_chk40 v170) (k0_t12 : Fin (k0_t12_loop v170).trips), ∀ a, (k0_off301 v170 k0_t12) a + S1x16.size a ≤ S256x128.size a := fun v170 k0_hw40 k0_t12 => k0_hw40.2.2.2.1.2.2.2.2.2.2.2.2.2.2.1 k0_t12
theorem k0_off302_inb : ∀ (v170 : BitVec 32) (k0_hw40 : k0_chk40 v170) (k0_t12 : Fin (k0_t12_loop v170).trips), ∀ a, (k0_off302 v170 k0_t12) a + S1x16.size a ≤ S256x128.size a := fun v170 k0_hw40 k0_t12 => k0_hw40.2.2.2.1.2.2.2.2.2.2.2.2.2.2.2.1 k0_t12
theorem k0_off303_inb : ∀ (v170 : BitVec 32) (k0_hw40 : k0_chk40 v170) (k0_t12 : Fin (k0_t12_loop v170).trips), ∀ a, (k0_off303 v170 k0_t12) a + S1x16.size a ≤ S256x128.size a := fun v170 k0_hw40 k0_t12 => k0_hw40.2.2.2.1.2.2.2.2.2.2.2.2.2.2.2.2.1 k0_t12
theorem k0_t13_ok : ∀ (v170 : BitVec 32) (k0_hw40 : k0_chk40 v170), (k0_t13_loop v170).OK := fun v170 k0_hw40 => k0_hw40.2.2.2.1.2.2.2.2.2.2.2.2.2.2.2.2.2.1
theorem k0_off304_inb : ∀ (v170 : BitVec 32) (k0_hw40 : k0_chk40 v170) (k0_t13 : Fin (k0_t13_loop v170).trips), ∀ a, (k0_off304 v170 k0_t13) a + S1x16.size a ≤ S256x128.size a := fun v170 k0_hw40 k0_t13 => k0_hw40.2.2.2.1.2.2.2.2.2.2.2.2.2.2.2.2.2.2.1 k0_t13
theorem k0_off305_inb : ∀ (v170 : BitVec 32) (k0_hw40 : k0_chk40 v170) (k0_t13 : Fin (k0_t13_loop v170).trips), ∀ a, (k0_off305 v170 k0_t13) a + S1x16.size a ≤ S256x128.size a := fun v170 k0_hw40 k0_t13 => k0_hw40.2.2.2.1.2.2.2.2.2.2.2.2.2.2.2.2.2.2.2.1 k0_t13
theorem k0_off306_inb : ∀ (v170 : BitVec 32) (k0_hw40 : k0_chk40 v170) (k0_t13 : Fin (k0_t13_loop v170).trips), ∀ a, (k0_off306 v170 k0_t13) a + S1x16.size a ≤ S256x128.size a := fun v170 k0_hw40 k0_t13 => k0_hw40.2.2.2.1.2.2.2.2.2.2.2.2.2.2.2.2.2.2.2.2.1 k0_t13
theorem k0_off307_inb : ∀ (v170 : BitVec 32) (k0_hw40 : k0_chk40 v170) (k0_t13 : Fin (k0_t13_loop v170).trips), ∀ a, (k0_off307 v170 k0_t13) a + S1x16.size a ≤ S256x128.size a := fun v170 k0_hw40 k0_t13 => k0_hw40.2.2.2.1.2.2.2.2.2.2.2.2.2.2.2.2.2.2.2.2.2.1 k0_t13
theorem k0_off308_inb : ∀ (v170 : BitVec 32) (k0_hw40 : k0_chk40 v170) (k0_t13 : Fin (k0_t13_loop v170).trips), ∀ a, (k0_off308 v170 k0_t13) a + S1x16.size a ≤ S256x128.size a := fun v170 k0_hw40 k0_t13 => k0_hw40.2.2.2.1.2.2.2.2.2.2.2.2.2.2.2.2.2.2.2.2.2.2.1 k0_t13
theorem k0_off309_inb : ∀ (v170 : BitVec 32) (k0_hw40 : k0_chk40 v170) (k0_t13 : Fin (k0_t13_loop v170).trips), ∀ a, (k0_off309 v170 k0_t13) a + S1x16.size a ≤ S256x128.size a := fun v170 k0_hw40 k0_t13 => k0_hw40.2.2.2.1.2.2.2.2.2.2.2.2.2.2.2.2.2.2.2.2.2.2.2.1 k0_t13
theorem k0_off310_inb : ∀ (v170 : BitVec 32) (k0_hw40 : k0_chk40 v170) (k0_t13 : Fin (k0_t13_loop v170).trips), ∀ a, (k0_off310 v170 k0_t13) a + S1x16.size a ≤ S256x128.size a := fun v170 k0_hw40 k0_t13 => k0_hw40.2.2.2.1.2.2.2.2.2.2.2.2.2.2.2.2.2.2.2.2.2.2.2.2.1 k0_t13
theorem k0_off311_inb : ∀ (v170 : BitVec 32) (k0_hw40 : k0_chk40 v170) (k0_t13 : Fin (k0_t13_loop v170).trips), ∀ a, (k0_off311 v170 k0_t13) a + S1x16.size a ≤ S256x128.size a := fun v170 k0_hw40 k0_t13 => k0_hw40.2.2.2.1.2.2.2.2.2.2.2.2.2.2.2.2.2.2.2.2.2.2.2.2.2.1 k0_t13
theorem k0_off312_inb : ∀ (v170 : BitVec 32) (k0_hw40 : k0_chk40 v170) (k0_t13 : Fin (k0_t13_loop v170).trips), ∀ a, (k0_off312 v170 k0_t13) a + S1x16.size a ≤ S256x128.size a := fun v170 k0_hw40 k0_t13 => k0_hw40.2.2.2.1.2.2.2.2.2.2.2.2.2.2.2.2.2.2.2.2.2.2.2.2.2.2.1 k0_t13
theorem k0_off313_inb : ∀ (v170 : BitVec 32) (k0_hw40 : k0_chk40 v170) (k0_t13 : Fin (k0_t13_loop v170).trips), ∀ a, (k0_off313 v170 k0_t13) a + S1x16.size a ≤ S256x128.size a := fun v170 k0_hw40 k0_t13 => k0_hw40.2.2.2.1.2.2.2.2.2.2.2.2.2.2.2.2.2.2.2.2.2.2.2.2.2.2.2.1 k0_t13
theorem k0_off314_inb : ∀ (v170 : BitVec 32) (k0_hw40 : k0_chk40 v170) (k0_t13 : Fin (k0_t13_loop v170).trips), ∀ a, (k0_off314 v170 k0_t13) a + S1x16.size a ≤ S256x128.size a := fun v170 k0_hw40 k0_t13 => k0_hw40.2.2.2.1.2.2.2.2.2.2.2.2.2.2.2.2.2.2.2.2.2.2.2.2.2.2.2.2.1 k0_t13
theorem k0_off315_inb : ∀ (v170 : BitVec 32) (k0_hw40 : k0_chk40 v170) (k0_t13 : Fin (k0_t13_loop v170).trips), ∀ a, (k0_off315 v170 k0_t13) a + S1x16.size a ≤ S256x128.size a := fun v170 k0_hw40 k0_t13 => k0_hw40.2.2.2.1.2.2.2.2.2.2.2.2.2.2.2.2.2.2.2.2.2.2.2.2.2.2.2.2.2.1 k0_t13
theorem k0_off316_inb : ∀ (v170 : BitVec 32) (k0_hw40 : k0_chk40 v170) (k0_t13 : Fin (k0_t13_loop v170).trips), ∀ a, (k0_off316 v170 k0_t13) a + S1x16.size a ≤ S256x128.size a := fun v170 k0_hw40 k0_t13 => k0_hw40.2.2.2.1.2.2.2.2.2.2.2.2.2.2.2.2.2.2.2.2.2.2.2.2.2.2.2.2.2.2.1 k0_t13
theorem k0_off317_inb : ∀ (v170 : BitVec 32) (k0_hw40 : k0_chk40 v170) (k0_t13 : Fin (k0_t13_loop v170).trips), ∀ a, (k0_off317 v170 k0_t13) a + S1x16.size a ≤ S256x128.size a := fun v170 k0_hw40 k0_t13 => k0_hw40.2.2.2.1.2.2.2.2.2.2.2.2.2.2.2.2.2.2.2.2.2.2.2.2.2.2.2.2.2.2.2.1 k0_t13
theorem k0_off318_inb : ∀ (v170 : BitVec 32) (k0_hw40 : k0_chk40 v170) (k0_t13 : Fin (k0_t13_loop v170).trips), ∀ a, (k0_off318 v170 k0_t13) a + S1x16.size a ≤ S256x128.size a := fun v170 k0_hw40 k0_t13 => k0_hw40.2.2.2.1.2.2.2.2.2.2.2.2.2.2.2.2.2.2.2.2.2.2.2.2.2.2.2.2.2.2.2.2.1 k0_t13
theorem k0_off319_inb : ∀ (v170 : BitVec 32) (k0_hw40 : k0_chk40 v170) (k0_t13 : Fin (k0_t13_loop v170).trips), ∀ a, (k0_off319 v170 k0_t13) a + S1x16.size a ≤ S256x128.size a := fun v170 k0_hw40 k0_t13 => k0_hw40.2.2.2.1.2.2.2.2.2.2.2.2.2.2.2.2.2.2.2.2.2.2.2.2.2.2.2.2.2.2.2.2.2.1 k0_t13
theorem k0_off320_inb : ∀ (v170 : BitVec 32) (k0_hw40 : k0_chk40 v170) (k0_t13 : Fin (k0_t13_loop v170).trips), ∀ a, (k0_off320 v170 k0_t13) a + S1x16.size a ≤ S256x128.size a := fun v170 k0_hw40 k0_t13 => k0_hw40.2.2.2.1.2.2.2.2.2.2.2.2.2.2.2.2.2.2.2.2.2.2.2.2.2.2.2.2.2.2.2.2.2.2.1 k0_t13
theorem k0_off321_inb : ∀ (v170 : BitVec 32) (k0_hw40 : k0_chk40 v170) (k0_t13 : Fin (k0_t13_loop v170).trips), ∀ a, (k0_off321 v170 k0_t13) a + S1x16.size a ≤ S256x128.size a := fun v170 k0_hw40 k0_t13 => k0_hw40.2.2.2.1.2.2.2.2.2.2.2.2.2.2.2.2.2.2.2.2.2.2.2.2.2.2.2.2.2.2.2.2.2.2.2 k0_t13
theorem k0_off322_inb : ∀ (v170 : BitVec 32) (k0_hw40 : k0_chk40 v170) (k0_t13 : Fin (k0_t13_loop v170).trips), ∀ a, (k0_off322 v170 k0_t13) a + S1x16.size a ≤ S256x128.size a := fun v170 k0_hw40 k0_t13 => k0_hw40.2.2.2.2.1.1 k0_t13
theorem k0_off323_inb : ∀ (v170 : BitVec 32) (k0_hw40 : k0_chk40 v170) (k0_t13 : Fin (k0_t13_loop v170).trips), ∀ a, (k0_off323 v170 k0_t13) a + S1x16.size a ≤ S256x128.size a := fun v170 k0_hw40 k0_t13 => k0_hw40.2.2.2.2.1.2.1 k0_t13
theorem k0_off324_inb : ∀ (v170 : BitVec 32) (k0_hw40 : k0_chk40 v170) (k0_t13 : Fin (k0_t13_loop v170).trips), ∀ a, (k0_off324 v170 k0_t13) a + S1x16.size a ≤ S256x128.size a := fun v170 k0_hw40 k0_t13 => k0_hw40.2.2.2.2.1.2.2.1 k0_t13
theorem k0_off325_inb : ∀ (v170 : BitVec 32) (k0_hw40 : k0_chk40 v170) (k0_t13 : Fin (k0_t13_loop v170).trips), ∀ a, (k0_off325 v170 k0_t13) a + S1x16.size a ≤ S256x128.size a := fun v170 k0_hw40 k0_t13 => k0_hw40.2.2.2.2.1.2.2.2.1 k0_t13
theorem k0_off326_inb : ∀ (v170 : BitVec 32) (k0_hw40 : k0_chk40 v170) (k0_t13 : Fin (k0_t13_loop v170).trips), ∀ a, (k0_off326 v170 k0_t13) a + S1x16.size a ≤ S256x128.size a := fun v170 k0_hw40 k0_t13 => k0_hw40.2.2.2.2.1.2.2.2.2.1 k0_t13
theorem k0_off327_inb : ∀ (v170 : BitVec 32) (k0_hw40 : k0_chk40 v170) (k0_t13 : Fin (k0_t13_loop v170).trips), ∀ a, (k0_off327 v170 k0_t13) a + S1x16.size a ≤ S256x128.size a := fun v170 k0_hw40 k0_t13 => k0_hw40.2.2.2.2.1.2.2.2.2.2.1 k0_t13
theorem k0_off328_inb : ∀ (v170 : BitVec 32) (k0_hw40 : k0_chk40 v170) (k0_t13 : Fin (k0_t13_loop v170).trips), ∀ a, (k0_off328 v170 k0_t13) a + S1x16.size a ≤ S256x128.size a := fun v170 k0_hw40 k0_t13 => k0_hw40.2.2.2.2.1.2.2.2.2.2.2.1 k0_t13
theorem k0_off329_inb : ∀ (v170 : BitVec 32) (k0_hw40 : k0_chk40 v170) (k0_t13 : Fin (k0_t13_loop v170).trips), ∀ a, (k0_off329 v170 k0_t13) a + S1x16.size a ≤ S256x128.size a := fun v170 k0_hw40 k0_t13 => k0_hw40.2.2.2.2.1.2.2.2.2.2.2.2.1 k0_t13
theorem k0_off330_inb : ∀ (v170 : BitVec 32) (k0_hw40 : k0_chk40 v170) (k0_t13 : Fin (k0_t13_loop v170).trips), ∀ a, (k0_off330 v170 k0_t13) a + S1x16.size a ≤ S256x128.size a := fun v170 k0_hw40 k0_t13 => k0_hw40.2.2.2.2.1.2.2.2.2.2.2.2.2.1 k0_t13
theorem k0_off331_inb : ∀ (v170 : BitVec 32) (k0_hw40 : k0_chk40 v170) (k0_t13 : Fin (k0_t13_loop v170).trips), ∀ a, (k0_off331 v170 k0_t13) a + S1x16.size a ≤ S256x128.size a := fun v170 k0_hw40 k0_t13 => k0_hw40.2.2.2.2.1.2.2.2.2.2.2.2.2.2.1 k0_t13
theorem k0_off332_inb : ∀ (v170 : BitVec 32) (k0_hw40 : k0_chk40 v170) (k0_t13 : Fin (k0_t13_loop v170).trips), ∀ a, (k0_off332 v170 k0_t13) a + S1x16.size a ≤ S256x128.size a := fun v170 k0_hw40 k0_t13 => k0_hw40.2.2.2.2.1.2.2.2.2.2.2.2.2.2.2.1 k0_t13
theorem k0_off333_inb : ∀ (v170 : BitVec 32) (k0_hw40 : k0_chk40 v170) (k0_t13 : Fin (k0_t13_loop v170).trips), ∀ a, (k0_off333 v170 k0_t13) a + S1x16.size a ≤ S256x128.size a := fun v170 k0_hw40 k0_t13 => k0_hw40.2.2.2.2.1.2.2.2.2.2.2.2.2.2.2.2.1 k0_t13
theorem k0_off334_inb : ∀ (v170 : BitVec 32) (k0_hw40 : k0_chk40 v170) (k0_t13 : Fin (k0_t13_loop v170).trips), ∀ a, (k0_off334 v170 k0_t13) a + S1x16.size a ≤ S256x128.size a := fun v170 k0_hw40 k0_t13 => k0_hw40.2.2.2.2.1.2.2.2.2.2.2.2.2.2.2.2.2.1 k0_t13
theorem k0_off335_inb : ∀ (v170 : BitVec 32) (k0_hw40 : k0_chk40 v170) (k0_t13 : Fin (k0_t13_loop v170).trips), ∀ a, (k0_off335 v170 k0_t13) a + S1x16.size a ≤ S256x128.size a := fun v170 k0_hw40 k0_t13 => k0_hw40.2.2.2.2.1.2.2.2.2.2.2.2.2.2.2.2.2.2.1 k0_t13
theorem k0_off336_inb : ∀ (v170 : BitVec 32) (k0_hw40 : k0_chk40 v170) (k0_t13 : Fin (k0_t13_loop v170).trips), ∀ a, (k0_off336 v170 k0_t13) a + S1x16.size a ≤ S256x128.size a := fun v170 k0_hw40 k0_t13 => k0_hw40.2.2.2.2.1.2.2.2.2.2.2.2.2.2.2.2.2.2.2.1 k0_t13
theorem k0_off337_inb : ∀ (v170 : BitVec 32) (k0_hw40 : k0_chk40 v170) (k0_t13 : Fin (k0_t13_loop v170).trips), ∀ a, (k0_off337 v170 k0_t13) a + S1x16.size a ≤ S256x128.size a := fun v170 k0_hw40 k0_t13 => k0_hw40.2.2.2.2.1.2.2.2.2.2.2.2.2.2.2.2.2.2.2.2.1 k0_t13
theorem k0_off338_inb : ∀ (v170 : BitVec 32) (k0_hw40 : k0_chk40 v170) (k0_t13 : Fin (k0_t13_loop v170).trips), ∀ a, (k0_off338 v170 k0_t13) a + S1x16.size a ≤ S256x128.size a := fun v170 k0_hw40 k0_t13 => k0_hw40.2.2.2.2.1.2.2.2.2.2.2.2.2.2.2.2.2.2.2.2.2.1 k0_t13
theorem k0_off339_inb : ∀ (v170 : BitVec 32) (k0_hw40 : k0_chk40 v170) (k0_t13 : Fin (k0_t13_loop v170).trips), ∀ a, (k0_off339 v170 k0_t13) a + S1x16.size a ≤ S256x128.size a := fun v170 k0_hw40 k0_t13 => k0_hw40.2.2.2.2.1.2.2.2.2.2.2.2.2.2.2.2.2.2.2.2.2.2.1 k0_t13
theorem k0_off340_inb : ∀ (v170 : BitVec 32) (k0_hw40 : k0_chk40 v170) (k0_t13 : Fin (k0_t13_loop v170).trips), ∀ a, (k0_off340 v170 k0_t13) a + S1x16.size a ≤ S256x128.size a := fun v170 k0_hw40 k0_t13 => k0_hw40.2.2.2.2.1.2.2.2.2.2.2.2.2.2.2.2.2.2.2.2.2.2.2.1 k0_t13
theorem k0_off341_inb : ∀ (v170 : BitVec 32) (k0_hw40 : k0_chk40 v170) (k0_t13 : Fin (k0_t13_loop v170).trips), ∀ a, (k0_off341 v170 k0_t13) a + S1x16.size a ≤ S256x128.size a := fun v170 k0_hw40 k0_t13 => k0_hw40.2.2.2.2.1.2.2.2.2.2.2.2.2.2.2.2.2.2.2.2.2.2.2.2.1 k0_t13
theorem k0_off342_inb : ∀ (v170 : BitVec 32) (k0_hw40 : k0_chk40 v170) (k0_t13 : Fin (k0_t13_loop v170).trips), ∀ a, (k0_off342 v170 k0_t13) a + S1x16.size a ≤ S256x128.size a := fun v170 k0_hw40 k0_t13 => k0_hw40.2.2.2.2.1.2.2.2.2.2.2.2.2.2.2.2.2.2.2.2.2.2.2.2.2.1 k0_t13
theorem k0_off343_inb : ∀ (v170 : BitVec 32) (k0_hw40 : k0_chk40 v170) (k0_t13 : Fin (k0_t13_loop v170).trips), ∀ a, (k0_off343 v170 k0_t13) a + S1x16.size a ≤ S256x128.size a := fun v170 k0_hw40 k0_t13 => k0_hw40.2.2.2.2.1.2.2.2.2.2.2.2.2.2.2.2.2.2.2.2.2.2.2.2.2.2.1 k0_t13
theorem k0_off344_inb : ∀ (v170 : BitVec 32) (k0_hw40 : k0_chk40 v170) (k0_t13 : Fin (k0_t13_loop v170).trips), ∀ a, (k0_off344 v170 k0_t13) a + S1x16.size a ≤ S256x128.size a := fun v170 k0_hw40 k0_t13 => k0_hw40.2.2.2.2.1.2.2.2.2.2.2.2.2.2.2.2.2.2.2.2.2.2.2.2.2.2.2.1 k0_t13
theorem k0_off345_inb : ∀ (v170 : BitVec 32) (k0_hw40 : k0_chk40 v170) (k0_t13 : Fin (k0_t13_loop v170).trips), ∀ a, (k0_off345 v170 k0_t13) a + S1x16.size a ≤ S256x128.size a := fun v170 k0_hw40 k0_t13 => k0_hw40.2.2.2.2.1.2.2.2.2.2.2.2.2.2.2.2.2.2.2.2.2.2.2.2.2.2.2.2.1 k0_t13
theorem k0_off346_inb : ∀ (v170 : BitVec 32) (k0_hw40 : k0_chk40 v170) (k0_t13 : Fin (k0_t13_loop v170).trips), ∀ a, (k0_off346 v170 k0_t13) a + S1x16.size a ≤ S256x128.size a := fun v170 k0_hw40 k0_t13 => k0_hw40.2.2.2.2.1.2.2.2.2.2.2.2.2.2.2.2.2.2.2.2.2.2.2.2.2.2.2.2.2.1 k0_t13
theorem k0_off347_inb : ∀ (v170 : BitVec 32) (k0_hw40 : k0_chk40 v170) (k0_t13 : Fin (k0_t13_loop v170).trips), ∀ a, (k0_off347 v170 k0_t13) a + S1x16.size a ≤ S256x128.size a := fun v170 k0_hw40 k0_t13 => k0_hw40.2.2.2.2.1.2.2.2.2.2.2.2.2.2.2.2.2.2.2.2.2.2.2.2.2.2.2.2.2.2.1 k0_t13
theorem k0_off348_inb : ∀ (v170 : BitVec 32) (k0_hw40 : k0_chk40 v170) (k0_t13 : Fin (k0_t13_loop v170).trips), ∀ a, (k0_off348 v170 k0_t13) a + S1x16.size a ≤ S256x128.size a := fun v170 k0_hw40 k0_t13 => k0_hw40.2.2.2.2.1.2.2.2.2.2.2.2.2.2.2.2.2.2.2.2.2.2.2.2.2.2.2.2.2.2.2.1 k0_t13
theorem k0_off349_inb : ∀ (v170 : BitVec 32) (k0_hw40 : k0_chk40 v170) (k0_t13 : Fin (k0_t13_loop v170).trips), ∀ a, (k0_off349 v170 k0_t13) a + S1x16.size a ≤ S256x128.size a := fun v170 k0_hw40 k0_t13 => k0_hw40.2.2.2.2.1.2.2.2.2.2.2.2.2.2.2.2.2.2.2.2.2.2.2.2.2.2.2.2.2.2.2.2.1 k0_t13
theorem k0_off350_inb : ∀ (v170 : BitVec 32) (k0_hw40 : k0_chk40 v170) (k0_t13 : Fin (k0_t13_loop v170).trips), ∀ a, (k0_off350 v170 k0_t13) a + S1x16.size a ≤ S256x128.size a := fun v170 k0_hw40 k0_t13 => k0_hw40.2.2.2.2.1.2.2.2.2.2.2.2.2.2.2.2.2.2.2.2.2.2.2.2.2.2.2.2.2.2.2.2.2.1 k0_t13
theorem k0_off351_inb : ∀ (v170 : BitVec 32) (k0_hw40 : k0_chk40 v170) (k0_t13 : Fin (k0_t13_loop v170).trips), ∀ a, (k0_off351 v170 k0_t13) a + S1x16.size a ≤ S256x128.size a := fun v170 k0_hw40 k0_t13 => k0_hw40.2.2.2.2.1.2.2.2.2.2.2.2.2.2.2.2.2.2.2.2.2.2.2.2.2.2.2.2.2.2.2.2.2.2.1 k0_t13
theorem k0_off352_inb : ∀ (v170 : BitVec 32) (k0_hw40 : k0_chk40 v170) (k0_t13 : Fin (k0_t13_loop v170).trips), ∀ a, (k0_off352 v170 k0_t13) a + S1x16.size a ≤ S256x128.size a := fun v170 k0_hw40 k0_t13 => k0_hw40.2.2.2.2.1.2.2.2.2.2.2.2.2.2.2.2.2.2.2.2.2.2.2.2.2.2.2.2.2.2.2.2.2.2.2.1 k0_t13
theorem k0_off353_inb : ∀ (v170 : BitVec 32) (k0_hw40 : k0_chk40 v170) (k0_t13 : Fin (k0_t13_loop v170).trips), ∀ a, (k0_off353 v170 k0_t13) a + S1x16.size a ≤ S256x128.size a := fun v170 k0_hw40 k0_t13 => k0_hw40.2.2.2.2.1.2.2.2.2.2.2.2.2.2.2.2.2.2.2.2.2.2.2.2.2.2.2.2.2.2.2.2.2.2.2.2 k0_t13
theorem k0_off354_inb : ∀ (v170 : BitVec 32) (k0_hw40 : k0_chk40 v170) (k0_t13 : Fin (k0_t13_loop v170).trips), ∀ a, (k0_off354 v170 k0_t13) a + S1x16.size a ≤ S256x128.size a := fun v170 k0_hw40 k0_t13 => k0_hw40.2.2.2.2.2.1.1 k0_t13
theorem k0_off355_inb : ∀ (v170 : BitVec 32) (k0_hw40 : k0_chk40 v170) (k0_t13 : Fin (k0_t13_loop v170).trips), ∀ a, (k0_off355 v170 k0_t13) a + S1x16.size a ≤ S256x128.size a := fun v170 k0_hw40 k0_t13 => k0_hw40.2.2.2.2.2.1.2.1 k0_t13
theorem k0_off356_inb : ∀ (v170 : BitVec 32) (k0_hw40 : k0_chk40 v170) (k0_t13 : Fin (k0_t13_loop v170).trips), ∀ a, (k0_off356 v170 k0_t13) a + S1x16.size a ≤ S256x128.size a := fun v170 k0_hw40 k0_t13 => k0_hw40.2.2.2.2.2.1.2.2.1 k0_t13
theorem k0_off357_inb : ∀ (v170 : BitVec 32) (k0_hw40 : k0_chk40 v170) (k0_t13 : Fin (k0_t13_loop v170).trips), ∀ a, (k0_off357 v170 k0_t13) a + S1x16.size a ≤ S256x128.size a := fun v170 k0_hw40 k0_t13 => k0_hw40.2.2.2.2.2.1.2.2.2.1 k0_t13
theorem k0_off358_inb : ∀ (v170 : BitVec 32) (k0_hw40 : k0_chk40 v170) (k0_t13 : Fin (k0_t13_loop v170).trips), ∀ a, (k0_off358 v170 k0_t13) a + S1x16.size a ≤ S256x128.size a := fun v170 k0_hw40 k0_t13 => k0_hw40.2.2.2.2.2.1.2.2.2.2.1 k0_t13
theorem k0_off359_inb : ∀ (v170 : BitVec 32) (k0_hw40 : k0_chk40 v170) (k0_t13 : Fin (k0_t13_loop v170).trips), ∀ a, (k0_off359 v170 k0_t13) a + S1x16.size a ≤ S256x128.size a := fun v170 k0_hw40 k0_t13 => k0_hw40.2.2.2.2.2.1.2.2.2.2.2.1 k0_t13
theorem k0_off360_inb : ∀ (v170 : BitVec 32) (k0_hw40 : k0_chk40 v170) (k0_t13 : Fin (k0_t13_loop v170).trips), ∀ a, (k0_off360 v170 k0_t13) a + S1x16.size a ≤ S256x128.size a := fun v170 k0_hw40 k0_t13 => k0_hw40.2.2.2.2.2.1.2.2.2.2.2.2.1 k0_t13
theorem k0_off361_inb : ∀ (v170 : BitVec 32) (k0_hw40 : k0_chk40 v170) (k0_t13 : Fin (k0_t13_loop v170).trips), ∀ a, (k0_off361 v170 k0_t13) a + S1x16.size a ≤ S256x128.size a := fun v170 k0_hw40 k0_t13 => k0_hw40.2.2.2.2.2.1.2.2.2.2.2.2.2.1 k0_t13
theorem k0_off362_inb : ∀ (v170 : BitVec 32) (k0_hw40 : k0_chk40 v170) (k0_t13 : Fin (k0_t13_loop v170).trips), ∀ a, (k0_off362 v170 k0_t13) a + S1x16.size a ≤ S256x128.size a := fun v170 k0_hw40 k0_t13 => k0_hw40.2.2.2.2.2.1.2.2.2.2.2.2.2.2.1 k0_t13
theorem k0_off363_inb : ∀ (v170 : BitVec 32) (k0_hw40 : k0_chk40 v170) (k0_t13 : Fin (k0_t13_loop v170).trips), ∀ a, (k0_off363 v170 k0_t13) a + S1x16.size a ≤ S256x128.size a := fun v170 k0_hw40 k0_t13 => k0_hw40.2.2.2.2.2.1.2.2.2.2.2.2.2.2.2.1 k0_t13
theorem k0_off364_inb : ∀ (v170 : BitVec 32) (k0_hw40 : k0_chk40 v170) (k0_t13 : Fin (k0_t13_loop v170).trips), ∀ a, (k0_off364 v170 k0_t13) a + S1x16.size a ≤ S256x128.size a := fun v170 k0_hw40 k0_t13 => k0_hw40.2.2.2.2.2.1.2.2.2.2.2.2.2.2.2.2.1 k0_t13
theorem k0_off365_inb : ∀ (v170 : BitVec 32) (k0_hw40 : k0_chk40 v170) (k0_t13 : Fin (k0_t13_loop v170).trips), ∀ a, (k0_off365 v170 k0_t13) a + S1x16.size a ≤ S256x128.size a := fun v170 k0_hw40 k0_t13 => k0_hw40.2.2.2.2.2.1.2.2.2.2.2.2.2.2.2.2.2.1 k0_t13
theorem k0_off366_inb : ∀ (v170 : BitVec 32) (k0_hw40 : k0_chk40 v170) (k0_t13 : Fin (k0_t13_loop v170).trips), ∀ a, (k0_off366 v170 k0_t13) a + S1x16.size a ≤ S256x128.size a := fun v170 k0_hw40 k0_t13 => k0_hw40.2.2.2.2.2.1.2.2.2.2.2.2.2.2.2.2.2.2.1 k0_t13
theorem k0_off367_inb : ∀ (v170 : BitVec 32) (k0_hw40 : k0_chk40 v170) (k0_t13 : Fin (k0_t13_loop v170).trips), ∀ a, (k0_off367 v170 k0_t13) a + S1x16.size a ≤ S256x128.size a := fun v170 k0_hw40 k0_t13 => k0_hw40.2.2.2.2.2.1.2.2.2.2.2.2.2.2.2.2.2.2.2.1 k0_t13
theorem k0_off368_inb : ∀ (v170 : BitVec 32) (k0_hw40 : k0_chk40 v170) (k0_t13 : Fin (k0_t13_loop v170).trips), ∀ a, (k0_off368 v170 k0_t13) a + S1x16.size a ≤ S256x128.size a := fun v170 k0_hw40 k0_t13 => k0_hw40.2.2.2.2.2.1.2.2.2.2.2.2.2.2.2.2.2.2.2.2.1 k0_t13
theorem k0_off369_inb : ∀ (v170 : BitVec 32) (k0_hw40 : k0_chk40 v170) (k0_t13 : Fin (k0_t13_loop v170).trips), ∀ a, (k0_off369 v170 k0_t13) a + S1x16.size a ≤ S256x128.size a := fun v170 k0_hw40 k0_t13 => k0_hw40.2.2.2.2.2.1.2.2.2.2.2.2.2.2.2.2.2.2.2.2.2.1 k0_t13
theorem k0_off370_inb : ∀ (v170 : BitVec 32) (k0_hw40 : k0_chk40 v170) (k0_t13 : Fin (k0_t13_loop v170).trips), ∀ a, (k0_off370 v170 k0_t13) a + S1x16.size a ≤ S256x128.size a := fun v170 k0_hw40 k0_t13 => k0_hw40.2.2.2.2.2.1.2.2.2.2.2.2.2.2.2.2.2.2.2.2.2.2.1 k0_t13
theorem k0_off371_inb : ∀ (v170 : BitVec 32) (k0_hw40 : k0_chk40 v170) (k0_t13 : Fin (k0_t13_loop v170).trips), ∀ a, (k0_off371 v170 k0_t13) a + S1x16.size a ≤ S256x128.size a := fun v170 k0_hw40 k0_t13 => k0_hw40.2.2.2.2.2.1.2.2.2.2.2.2.2.2.2.2.2.2.2.2.2.2.2.1 k0_t13
theorem k0_off372_inb : ∀ (v170 : BitVec 32) (k0_hw40 : k0_chk40 v170) (k0_t13 : Fin (k0_t13_loop v170).trips), ∀ a, (k0_off372 v170 k0_t13) a + S1x16.size a ≤ S256x128.size a := fun v170 k0_hw40 k0_t13 => k0_hw40.2.2.2.2.2.1.2.2.2.2.2.2.2.2.2.2.2.2.2.2.2.2.2.2.1 k0_t13
theorem k0_off373_inb : ∀ (v170 : BitVec 32) (k0_hw40 : k0_chk40 v170) (k0_t13 : Fin (k0_t13_loop v170).trips), ∀ a, (k0_off373 v170 k0_t13) a + S1x16.size a ≤ S256x128.size a := fun v170 k0_hw40 k0_t13 => k0_hw40.2.2.2.2.2.1.2.2.2.2.2.2.2.2.2.2.2.2.2.2.2.2.2.2.2.1 k0_t13
theorem k0_off374_inb : ∀ (v170 : BitVec 32) (k0_hw40 : k0_chk40 v170) (k0_t13 : Fin (k0_t13_loop v170).trips), ∀ a, (k0_off374 v170 k0_t13) a + S1x16.size a ≤ S256x128.size a := fun v170 k0_hw40 k0_t13 => k0_hw40.2.2.2.2.2.1.2.2.2.2.2.2.2.2.2.2.2.2.2.2.2.2.2.2.2.2.1 k0_t13
theorem k0_off375_inb : ∀ (v170 : BitVec 32) (k0_hw40 : k0_chk40 v170) (k0_t13 : Fin (k0_t13_loop v170).trips), ∀ a, (k0_off375 v170 k0_t13) a + S1x16.size a ≤ S256x128.size a := fun v170 k0_hw40 k0_t13 => k0_hw40.2.2.2.2.2.1.2.2.2.2.2.2.2.2.2.2.2.2.2.2.2.2.2.2.2.2.2.1 k0_t13
theorem k0_off376_inb : ∀ (v170 : BitVec 32) (k0_hw40 : k0_chk40 v170) (k0_t13 : Fin (k0_t13_loop v170).trips), ∀ a, (k0_off376 v170 k0_t13) a + S1x16.size a ≤ S256x128.size a := fun v170 k0_hw40 k0_t13 => k0_hw40.2.2.2.2.2.1.2.2.2.2.2.2.2.2.2.2.2.2.2.2.2.2.2.2.2.2.2.2.1 k0_t13
theorem k0_off377_inb : ∀ (v170 : BitVec 32) (k0_hw40 : k0_chk40 v170) (k0_t13 : Fin (k0_t13_loop v170).trips), ∀ a, (k0_off377 v170 k0_t13) a + S1x16.size a ≤ S256x128.size a := fun v170 k0_hw40 k0_t13 => k0_hw40.2.2.2.2.2.1.2.2.2.2.2.2.2.2.2.2.2.2.2.2.2.2.2.2.2.2.2.2.2.1 k0_t13
theorem k0_off378_inb : ∀ (v170 : BitVec 32) (k0_hw40 : k0_chk40 v170) (k0_t13 : Fin (k0_t13_loop v170).trips), ∀ a, (k0_off378 v170 k0_t13) a + S1x16.size a ≤ S256x128.size a := fun v170 k0_hw40 k0_t13 => k0_hw40.2.2.2.2.2.1.2.2.2.2.2.2.2.2.2.2.2.2.2.2.2.2.2.2.2.2.2.2.2.2.1 k0_t13
theorem k0_off379_inb : ∀ (v170 : BitVec 32) (k0_hw40 : k0_chk40 v170) (k0_t13 : Fin (k0_t13_loop v170).trips), ∀ a, (k0_off379 v170 k0_t13) a + S1x16.size a ≤ S256x128.size a := fun v170 k0_hw40 k0_t13 => k0_hw40.2.2.2.2.2.1.2.2.2.2.2.2.2.2.2.2.2.2.2.2.2.2.2.2.2.2.2.2.2.2.2.1 k0_t13
theorem k0_off380_inb : ∀ (v170 : BitVec 32) (k0_hw40 : k0_chk40 v170) (k0_t13 : Fin (k0_t13_loop v170).trips), ∀ a, (k0_off380 v170 k0_t13) a + S1x16.size a ≤ S256x128.size a := fun v170 k0_hw40 k0_t13 => k0_hw40.2.2.2.2.2.1.2.2.2.2.2.2.2.2.2.2.2.2.2.2.2.2.2.2.2.2.2.2.2.2.2.2.1 k0_t13
theorem k0_off381_inb : ∀ (v170 : BitVec 32) (k0_hw40 : k0_chk40 v170) (k0_t13 : Fin (k0_t13_loop v170).trips), ∀ a, (k0_off381 v170 k0_t13) a + S1x16.size a ≤ S256x128.size a := fun v170 k0_hw40 k0_t13 => k0_hw40.2.2.2.2.2.1.2.2.2.2.2.2.2.2.2.2.2.2.2.2.2.2.2.2.2.2.2.2.2.2.2.2.2.1 k0_t13
theorem k0_off382_inb : ∀ (v170 : BitVec 32) (k0_hw40 : k0_chk40 v170) (k0_t13 : Fin (k0_t13_loop v170).trips), ∀ a, (k0_off382 v170 k0_t13) a + S1x16.size a ≤ S256x128.size a := fun v170 k0_hw40 k0_t13 => k0_hw40.2.2.2.2.2.1.2.2.2.2.2.2.2.2.2.2.2.2.2.2.2.2.2.2.2.2.2.2.2.2.2.2.2.2.1 k0_t13
theorem k0_off383_inb : ∀ (v170 : BitVec 32) (k0_hw40 : k0_chk40 v170) (k0_t13 : Fin (k0_t13_loop v170).trips), ∀ a, (k0_off383 v170 k0_t13) a + S1x16.size a ≤ S256x128.size a := fun v170 k0_hw40 k0_t13 => k0_hw40.2.2.2.2.2.1.2.2.2.2.2.2.2.2.2.2.2.2.2.2.2.2.2.2.2.2.2.2.2.2.2.2.2.2.2.1 k0_t13
theorem k0_off384_inb : ∀ (v170 : BitVec 32) (k0_hw40 : k0_chk40 v170) (k0_t13 : Fin (k0_t13_loop v170).trips), ∀ a, (k0_off384 v170 k0_t13) a + S1x16.size a ≤ S256x128.size a := fun v170 k0_hw40 k0_t13 => k0_hw40.2.2.2.2.2.1.2.2.2.2.2.2.2.2.2.2.2.2.2.2.2.2.2.2.2.2.2.2.2.2.2.2.2.2.2.2.1 k0_t13
theorem k0_off385_inb : ∀ (v170 : BitVec 32) (k0_hw40 : k0_chk40 v170) (k0_t13 : Fin (k0_t13_loop v170).trips), ∀ a, (k0_off385 v170 k0_t13) a + S1x16.size a ≤ S256x128.size a := fun v170 k0_hw40 k0_t13 => k0_hw40.2.2.2.2.2.1.2.2.2.2.2.2.2.2.2.2.2.2.2.2.2.2.2.2.2.2.2.2.2.2.2.2.2.2.2.2.2 k0_t13
theorem k0_off386_inb : ∀ (v170 : BitVec 32) (k0_hw40 : k0_chk40 v170) (k0_t13 : Fin (k0_t13_loop v170).trips), ∀ a, (k0_off386 v170 k0_t13) a + S1x16.size a ≤ S256x128.size a := fun v170 k0_hw40 k0_t13 => k0_hw40.2.2.2.2.2.2.1 k0_t13
theorem k0_off387_inb : ∀ (v170 : BitVec 32) (k0_hw40 : k0_chk40 v170) (k0_t13 : Fin (k0_t13_loop v170).trips), ∀ a, (k0_off387 v170 k0_t13) a + S1x16.size a ≤ S256x128.size a := fun v170 k0_hw40 k0_t13 => k0_hw40.2.2.2.2.2.2.2.1 k0_t13
theorem k0_off388_inb : ∀ (v170 : BitVec 32) (k0_hw40 : k0_chk40 v170) (k0_t13 : Fin (k0_t13_loop v170).trips), ∀ a, (k0_off388 v170 k0_t13) a + S1x16.size a ≤ S256x128.size a := fun v170 k0_hw40 k0_t13 => k0_hw40.2.2.2.2.2.2.2.2.1 k0_t13
theorem k0_off389_inb : ∀ (v170 : BitVec 32) (k0_hw40 : k0_chk40 v170) (k0_t13 : Fin (k0_t13_loop v170).trips), ∀ a, (k0_off389 v170 k0_t13) a + S1x16.size a ≤ S256x128.size a := fun v170 k0_hw40 k0_t13 => k0_hw40.2.2.2.2.2.2.2.2.2.1 k0_t13
theorem k0_off390_inb : ∀ (v170 : BitVec 32) (k0_hw40 : k0_chk40 v170) (k0_t13 : Fin (k0_t13_loop v170).trips), ∀ a, (k0_off390 v170 k0_t13) a + S1x16.size a ≤ S256x128.size a := fun v170 k0_hw40 k0_t13 => k0_hw40.2.2.2.2.2.2.2.2.2.2.1 k0_t13
theorem k0_off391_inb : ∀ (v170 : BitVec 32) (k0_hw40 : k0_chk40 v170) (k0_t13 : Fin (k0_t13_loop v170).trips), ∀ a, (k0_off391 v170 k0_t13) a + S1x16.size a ≤ S256x128.size a := fun v170 k0_hw40 k0_t13 => k0_hw40.2.2.2.2.2.2.2.2.2.2.2.1 k0_t13
theorem k0_off392_inb : ∀ (v170 : BitVec 32) (k0_hw40 : k0_chk40 v170) (k0_t13 : Fin (k0_t13_loop v170).trips), ∀ a, (k0_off392 v170 k0_t13) a + S1x16.size a ≤ S256x128.size a := fun v170 k0_hw40 k0_t13 => k0_hw40.2.2.2.2.2.2.2.2.2.2.2.2.1 k0_t13
theorem k0_off393_inb : ∀ (v170 : BitVec 32) (k0_hw40 : k0_chk40 v170) (k0_t13 : Fin (k0_t13_loop v170).trips), ∀ a, (k0_off393 v170 k0_t13) a + S1x16.size a ≤ S256x128.size a := fun v170 k0_hw40 k0_t13 => k0_hw40.2.2.2.2.2.2.2.2.2.2.2.2.2.1 k0_t13
theorem k0_off394_inb : ∀ (v170 : BitVec 32) (k0_hw40 : k0_chk40 v170) (k0_t13 : Fin (k0_t13_loop v170).trips), ∀ a, (k0_off394 v170 k0_t13) a + S1x16.size a ≤ S256x128.size a := fun v170 k0_hw40 k0_t13 => k0_hw40.2.2.2.2.2.2.2.2.2.2.2.2.2.2.1 k0_t13
theorem k0_off395_inb : ∀ (v170 : BitVec 32) (k0_hw40 : k0_chk40 v170) (k0_t13 : Fin (k0_t13_loop v170).trips), ∀ a, (k0_off395 v170 k0_t13) a + S1x16.size a ≤ S256x128.size a := fun v170 k0_hw40 k0_t13 => k0_hw40.2.2.2.2.2.2.2.2.2.2.2.2.2.2.2.1 k0_t13
theorem k0_off396_inb : ∀ (v170 : BitVec 32) (k0_hw40 : k0_chk40 v170) (k0_t13 : Fin (k0_t13_loop v170).trips), ∀ a, (k0_off396 v170 k0_t13) a + S1x16.size a ≤ S256x128.size a := fun v170 k0_hw40 k0_t13 => k0_hw40.2.2.2.2.2.2.2.2.2.2.2.2.2.2.2.2.1 k0_t13
theorem k0_off397_inb : ∀ (v170 : BitVec 32) (k0_hw40 : k0_chk40 v170) (k0_t13 : Fin (k0_t13_loop v170).trips), ∀ a, (k0_off397 v170 k0_t13) a + S1x16.size a ≤ S256x128.size a := fun v170 k0_hw40 k0_t13 => k0_hw40.2.2.2.2.2.2.2.2.2.2.2.2.2.2.2.2.2.1 k0_t13
theorem k0_off398_inb : ∀ (v170 : BitVec 32) (k0_hw40 : k0_chk40 v170) (k0_t13 : Fin (k0_t13_loop v170).trips), ∀ a, (k0_off398 v170 k0_t13) a + S1x16.size a ≤ S256x128.size a := fun v170 k0_hw40 k0_t13 => k0_hw40.2.2.2.2.2.2.2.2.2.2.2.2.2.2.2.2.2.2.1 k0_t13
theorem k0_off399_inb : ∀ (v170 : BitVec 32) (k0_hw40 : k0_chk40 v170) (k0_t13 : Fin (k0_t13_loop v170).trips), ∀ a, (k0_off399 v170 k0_t13) a + S1x16.size a ≤ S256x128.size a := fun v170 k0_hw40 k0_t13 => k0_hw40.2.2.2.2.2.2.2.2.2.2.2.2.2.2.2.2.2.2.2 k0_t13

def k0_off400 (k0_t1 : Fin k0_t1_loop.trips) : Fin 2 → Nat :=
  let c2_i32_1 : BitVec 32 := 2#32
  let c0_i32 : BitVec 32 := 0#32
  let c1_i32 : BitVec 32 := 1#32
  let arg25 : BitVec 32 := Scf.iv c0_i32 c1_i32 k0_t1
  let v6 : BitVec 32 := Scalar.muli c2_i32_1 arg25
  let c1_i32_167 : BitVec 32 := 1#32
  let v485 : BitVec 32 := Scalar.addi v6 c1_i32_167
  let v634 : Index := Scalar.indexCast v485
  let c0_194 : Index := 0#32
  ![v634.toNat, 0]
def k0_off401 (k0_t1 : Fin k0_t1_loop.trips) : Fin 2 → Nat :=
  let c2_i32_1 : BitVec 32 := 2#32
  let c0_i32 : BitVec 32 := 0#32
  let c1_i32 : BitVec 32 := 1#32
  let arg25 : BitVec 32 := Scf.iv c0_i32 c1_i32 k0_t1
  let v6 : BitVec 32 := Scalar.muli c2_i32_1 arg25
  let c1_i32_167 : BitVec 32 := 1#32
  let v485 : BitVec 32 := Scalar.addi v6 c1_i32_167
  let v637 : Index := Scalar.indexCast v485
  let c16_195 : Index := 16#32
  ![v637.toNat, 16]
def k0_off402 (k0_t1 : Fin k0_t1_loop.trips) : Fin 2 → Nat :=
  let c2_i32_1 : BitVec 32 := 2#32
  let c0_i32 : BitVec 32 := 0#32
  let c1_i32 : BitVec 32 := 1#32
  let arg25 : BitVec 32 := Scf.iv c0_i32 c1_i32 k0_t1
  let v6 : BitVec 32 := Scalar.muli c2_i32_1 arg25
  let c1_i32_167 : BitVec 32 := 1#32
  let v485 : BitVec 32 := Scalar.addi v6 c1_i32_167
  let v640 : Index := Scalar.indexCast v485
  let c32_196 : Index := 32#32
  ![v640.toNat, 32]
def k0_off403 (k0_t1 : Fin k0_t1_loop.trips) : Fin 2 → Nat :=
  let c2_i32_1 : BitVec 32 := 2#32
  let c0_i32 : BitVec 32 := 0#32
  let c1_i32 : BitVec 32 := 1#32
  let arg25 : BitVec 32 := Scf.iv c0_i32 c1_i32 k0_t1
  let v6 : BitVec 32 := Scalar.muli c2_i32_1 arg25
  let c1_i32_167 : BitVec 32 := 1#32
  let v485 : BitVec 32 := Scalar.addi v6 c1_i32_167
  let v643 : Index := Scalar.indexCast v485
  let c48_197 : Index := 48#32
  ![v643.toNat, 48]
def k0_off404 (k0_t1 : Fin k0_t1_loop.trips) : Fin 2 → Nat :=
  let c2_i32_1 : BitVec 32 := 2#32
  let c0_i32 : BitVec 32 := 0#32
  let c1_i32 : BitVec 32 := 1#32
  let arg25 : BitVec 32 := Scf.iv c0_i32 c1_i32 k0_t1
  let v6 : BitVec 32 := Scalar.muli c2_i32_1 arg25
  let c1_i32_167 : BitVec 32 := 1#32
  let v485 : BitVec 32 := Scalar.addi v6 c1_i32_167
  let v646 : Index := Scalar.indexCast v485
  let c64_198 : Index := 64#32
  ![v646.toNat, 64]
def k0_off405 (k0_t1 : Fin k0_t1_loop.trips) : Fin 2 → Nat :=
  let c2_i32_1 : BitVec 32 := 2#32
  let c0_i32 : BitVec 32 := 0#32
  let c1_i32 : BitVec 32 := 1#32
  let arg25 : BitVec 32 := Scf.iv c0_i32 c1_i32 k0_t1
  let v6 : BitVec 32 := Scalar.muli c2_i32_1 arg25
  let c1_i32_167 : BitVec 32 := 1#32
  let v485 : BitVec 32 := Scalar.addi v6 c1_i32_167
  let v649 : Index := Scalar.indexCast v485
  let c80_199 : Index := 80#32
  ![v649.toNat, 80]
def k0_off406 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_1_r5 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S4x96x64x64 : Shape := ⟨4, ![4, 96, 64, 64]⟩
abbrev S1000x5 : Shape := ⟨2, ![1000, 5]⟩
abbrev S4x1x64x64 : Shape := ⟨4, ![4, 1, 64, 64]⟩
abbrev S64 : Shape := ⟨1, ![64]⟩
abbrev S64x1 : Shape := ⟨2, ![64, 1]⟩
abbrev S1x64 : Shape := ⟨2, ![1, 64]⟩
abbrev S1000x1 : Shape := ⟨2, ![1000, 1]⟩
abbrev S1000 : Shape := ⟨1, ![1000]⟩
abbrev S_ : Shape := ⟨0, ![]⟩
abbrev S1x64x1 : Shape := ⟨3, ![1, 64, 1]⟩
abbrev S1000x1x1 : Shape := ⟨3, ![1000, 1, 1]⟩
abbrev S1000x64x1 : Shape := ⟨3, ![1000, 64, 1]⟩
abbrev S1x1x64 : Shape := ⟨3, ![1, 1, 64]⟩
abbrev S1000x1x64 : Shape := ⟨3, ![1000, 1, 64]⟩
abbrev S1000x64x64 : Shape := ⟨3, ![1000, 64, 64]⟩
abbrev S1000x4 : Shape := ⟨2, ![1000, 4]⟩
abbrev S1000x1x1x64x64 : Shape := ⟨5, ![1000, 1, 1, 64, 64]⟩
abbrev S64x64 : Shape := ⟨2, ![64, 64]⟩
abbrev S1000x1x96x64x64 : Shape := ⟨5, ![1000, 1, 96, 64, 64]⟩
abbrev S1000x96x64x64 : Shape := ⟨4, ![1000, 96, 64, 64]⟩
abbrev S1000x1x64x64 : Shape := ⟨4, ![1000, 1, 64, 64]⟩
abbrev S1000x96 : Shape := ⟨2, ![1000, 96]⟩
abbrev S96 : Shape := ⟨1, ![96]⟩
abbrev S1000x96x1x1 : Shape := ⟨4, ![1000, 96, 1, 1]⟩

abbrev nBuf : Space → Nat
  | .hbm => 185
  | .vmem => 0
  | .smem => 0
  | _ => 0

abbrev hbmTy0_0 (i : Nat) : BufTy := match i % 128 with
  | 0 => ⟨S4x96x64x64, .f32⟩
  | 1 => ⟨S1000x5, .f32⟩
  | 2 => ⟨S4x1x64x64, .f32⟩
  | 3 => ⟨S64, .i32⟩
  | 4 => ⟨S64x1, .i32⟩
  | 5 => ⟨S64, .i32⟩
  | 6 => ⟨S1x64, .i32⟩
  | 7 => ⟨S1000x1, .f32⟩
  | 8 => ⟨S1000, .f32⟩
  | 9 => ⟨S1000, .i32⟩
  | 10 => ⟨S1000x1, .f32⟩
  | 11 => ⟨S1000, .f32⟩
  | 12 => ⟨S_, .f32⟩
  | 13 => ⟨S1000, .f32⟩
  | 14 => ⟨S1000, .f32⟩
  | 15 => ⟨S1000, .f32⟩
  | 16 => ⟨S1000, .i32⟩
  | 17 => ⟨S1000x1, .f32⟩
  | 18 => ⟨S1000, .f32⟩
  | 19 => ⟨S_, .f32⟩
  | 20 => ⟨S1000, .f32⟩
  | 21 => ⟨S1000, .f32⟩
  | 22 => ⟨S1000, .f32⟩
  | 23 => ⟨S1000, .i32⟩
  | 24 => ⟨S1000x1, .f32⟩
  | 25 => ⟨S1000, .f32⟩
  | 26 => ⟨S_, .f32⟩
  | 27 => ⟨S1000, .f32⟩
  | 28 => ⟨S1000, .f32⟩
  | 29 => ⟨S1000, .f32⟩
  | 30 => ⟨S1000, .i32⟩
  | 31 => ⟨S1000x1, .f32⟩
  | 32 => ⟨S1000, .f32⟩
  | 33 => ⟨S_, .f32⟩
  | 34 => ⟨S1000, .f32⟩
  | 35 => ⟨S1000, .f32⟩
  | 36 => ⟨S1000, .f32⟩
  | 37 => ⟨S1000, .i32⟩
  | 38 => ⟨S1x64x1, .i32⟩
  | 39 => ⟨S1000x1x1, .i32⟩
  | 40 => ⟨S1000x64x1, .i32⟩
  | 41 => ⟨S1000x64x1, .i32⟩
  | 42 => ⟨S1000x64x1, .i1⟩
  | 43 => ⟨S1x64x1, .i32⟩
  | 44 => ⟨S1000x1x1, .i32⟩
  | 45 => ⟨S1000x64x1, .i32⟩
  | 46 => ⟨S1000x64x1, .i32⟩
  | 47 => ⟨S1000x64x1, .i1⟩
  | 48 => ⟨S1000x64x1, .i1⟩
  | 49 => ⟨S1x1x64, .i32⟩
  | 50 => ⟨S1000x1x1, .i32⟩
  | 51 => ⟨S1000x1x64, .i32⟩
  | 52 => ⟨S1000x1x64, .i32⟩
  | 53 => ⟨S1000x1x64, .i1⟩
  | 54 => ⟨S1000x64x64, .i1⟩
  | 55 => ⟨S1000x64x64, .i1⟩
  | 56 => ⟨S1000x64x64, .i1⟩
  | 57 => ⟨S1x1x64, .i32⟩
  | 58 => ⟨S1000x1x1, .i32⟩
  | 59 => ⟨S1000x1x64, .i32⟩
  | 60 => ⟨S1000x1x64, .i32⟩
  | 61 => ⟨S1000x1x64, .i1⟩
  | 62 => ⟨S1000x64x64, .i1⟩
  | 63 => ⟨S1000x64x64, .i1⟩
  | 64 => ⟨S_, .i32⟩
  | 65 => ⟨S1000, .i32⟩
  | 66 => ⟨S1000, .i1⟩
  | 67 => ⟨S_, .i32⟩
  | 68 => ⟨S1000, .i32⟩
  | 69 => ⟨S1000, .i32⟩
  | 70 => ⟨S1000, .i32⟩
  | 71 => ⟨S_, .i32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .i32⟩
  | 95 => ⟨S1000x1, .i32⟩
  | 96 => ⟨S1000x1, .i32⟩
  | 97 => ⟨S1000x1, .i32⟩
  | 98 => ⟨S1000x1, .i32⟩
  | 99 => ⟨S1000x4, .i32⟩
  | 100 => ⟨S1000x1x1x64x64, .f32⟩
  | 101 => ⟨S1000x64x64, .f32⟩
  | 102 => ⟨S_, .f32⟩
  | 103 => ⟨S_, .f32⟩
  | 104 => ⟨S64x64, .f32⟩
  | 105 => ⟨S1000x64x64, .f32⟩
  | 106 => ⟨S1000x64x64, .f32⟩
  | 107 => ⟨S_, .f32⟩
  | 108 => ⟨S1000, .f32⟩
  | 109 => ⟨S1000x1x1, .f32⟩
  | 110 => ⟨S1000x64x64, .f32⟩
  | 111 => ⟨S1000x64x64, .f32⟩
  | 112 => ⟨S_, .f32⟩
  | 113 => ⟨S1000x64x64, .f32⟩
  | 114 => ⟨S1000x64x64, .f32⟩
  | 115 => ⟨S1000x64x64, .f32⟩
  | 116 => ⟨S_, .f32⟩
  | 117 => ⟨S_, .f32⟩
  | 118 => ⟨S64x64, .f32⟩
  | 119 => ⟨S1000x64x64, .f32⟩
  | 120 => ⟨S1000x64x64, .f32⟩
  | 121 => ⟨S_, .f32⟩
  | 122 => ⟨S1000, .f32⟩
  | 123 => ⟨S_, .f32⟩
  | 124 => ⟨S1000, .f32⟩
  | 125 => ⟨S1000, .i1⟩
  | 126 => ⟨S_, .f32⟩
  | 127 => ⟨S_, .f32⟩
  | _ => ⟨S4x96x64x64, .f32⟩

abbrev hbmTy0_1 (i : Nat) : BufTy := match i % 128 with
  | 0 => ⟨S1000, .f32⟩
  | 1 => ⟨S1000, .f32⟩
  | 2 => ⟨S1000x1x1, .f32⟩
  | 3 => ⟨S1000x64x64, .f32⟩
  | 4 => ⟨S1000x64x64, .f32⟩
  | 5 => ⟨S_, .i32⟩
  | 6 => ⟨S1000, .i32⟩
  | 7 => ⟨S1000, .i1⟩
  | 8 => ⟨S_, .i32⟩
  | 9 => ⟨S1000, .i32⟩
  | 10 => ⟨S1000, .i32⟩
  | 11 => ⟨S1000, .i32⟩
  | 12 => ⟨S_, .i32⟩
  | 13 => ⟨S_, .i32⟩
  | 14 => ⟨S_, .i1⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S1000x1, .i32⟩
  | 37 => ⟨S1000x1, .i32⟩
  | 38 => ⟨S1000x1, .i32⟩
  | 39 => ⟨S1000x1, .i32⟩
  | 40 => ⟨S1000x4, .i32⟩
  | 41 => ⟨S1000x1x96x64x64, .f32⟩
  | 42 => ⟨S1000x96x64x64, .f32⟩
  | 43 => ⟨S1000x1x64x64, .f32⟩
  | 44 => ⟨S1000x96x64x64, .f32⟩
  | 45 => ⟨S1000x96x64x64, .f32⟩
  | 46 => ⟨S_, .f32⟩
  | 47 => ⟨S1000x96, .f32⟩
  | 48 => ⟨S1000, .i1⟩
  | 49 => ⟨S1000, .i1⟩
  | 50 => ⟨S1000, .i1⟩
  | 51 => ⟨S_, .f32⟩
  | 52 => ⟨S96, .f32⟩
  | 53 => ⟨S1000x96, .f32⟩
  | 54 => ⟨S1000x96, .i1⟩
  | 55 => ⟨S1000x96, .f32⟩
  | 56 => ⟨S1000x96x1x1, .f32⟩
  | _ => ⟨S4x96x64x64, .f32⟩

abbrev hbmTy (i : Nat) : BufTy := match i / 128 with
  | 0 => hbmTy0_0 i
  | 1 => hbmTy0_1 i
  | _ => ⟨S4x96x64x64, .f32⟩

abbrev bufTy : (tb : Table) → Fin (tcTables nBuf tb) → BufTy
  | .hbm, ⟨i, _⟩ => hbmTy i
  | _, _ => ⟨S4x96x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_c : Ref sig .tc := ⟨.hbm, 64, rfl⟩
abbrev main_v57 : Ref sig .tc := ⟨.hbm, 65, rfl⟩
abbrev main_v58 : Ref sig .tc := ⟨.hbm, 66, rfl⟩
abbrev main_c_3 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_c_4 : Ref sig .tc := ⟨.hbm, 71, rfl⟩
abbrev main_c_5 : Ref sig .tc := ⟨.hbm, 72, rfl⟩
abbrev main_v62 : Ref sig .tc := ⟨.hbm, 73, rfl⟩
abbrev main_c_6 : Ref sig .tc := ⟨.hbm, 74, rfl⟩
abbrev main_c_7 : Ref sig .tc := ⟨.hbm, 75, rfl⟩
abbrev main_v63 : Ref sig .tc := ⟨.hbm, 76, rfl⟩
abbrev main_c_8 : Ref sig .tc := ⟨.hbm, 77, rfl⟩
abbrev main_v64 : Ref sig .tc := ⟨.hbm, 78, rfl⟩
abbrev main_c_9 : Ref sig .tc := ⟨.hbm, 79, rfl⟩
abbrev main_c_10 : Ref sig .tc := ⟨.hbm, 80, rfl⟩
abbrev main_v65 : Ref sig .tc := ⟨.hbm, 81, rfl⟩
abbrev main_c_11 : Ref sig .tc := ⟨.hbm, 82, rfl⟩
abbrev main_c_12 : Ref sig .tc := ⟨.hbm, 83, rfl⟩
abbrev main_v66 : Ref sig .tc := ⟨.hbm, 84, rfl⟩
abbrev main_c_13 : Ref sig .tc := ⟨.hbm, 85, rfl⟩
abbrev main_v67 : Ref sig .tc := ⟨.hbm, 86, rfl⟩
abbrev main_c_14 : Ref sig .tc := ⟨.hbm, 87, rfl⟩
abbrev main_c_15 : Ref sig .tc := ⟨.hbm, 88, rfl⟩
abbrev main_v68 : Ref sig .tc := ⟨.hbm, 89, rfl⟩
abbrev main_c_16 : Ref sig .tc := ⟨.hbm, 90, rfl⟩
abbrev main_c_17 : Ref sig .tc := ⟨.hbm, 91, rfl⟩
abbrev main_v69 : Ref sig .tc := ⟨.hbm, 92, rfl⟩
abbrev main_c_18 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_19 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_v78 : Ref sig .tc := ⟨.hbm, 106, rfl⟩
abbrev main_cst_20 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_21 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_22 : Ref sig .tc := ⟨.hbm, 116, rfl⟩
abbrev main_call5_v0 : Ref sig .tc := ⟨.hbm, 117, rfl⟩
abbrev main_call5_v1 : Ref sig .tc := ⟨.hbm, 118, rfl⟩
abbrev main_call5_v2 : Ref sig .tc := ⟨.hbm, 119, rfl⟩
abbrev main_v86 : Ref sig .tc := ⟨.hbm, 120, rfl⟩
abbrev main_cst_23 : Ref sig .tc := ⟨.hbm, 121, rfl⟩
abbrev main_v87 : Ref sig .tc := ⟨.hbm, 122, rfl⟩
abbrev main_cst_24 : Ref sig .tc := ⟨.hbm, 123, rfl⟩
abbrev main_v88 : Ref sig .tc := ⟨.hbm, 124, rfl⟩
abbrev main_v89 : Ref sig .tc := ⟨.hbm, 125, rfl⟩
abbrev main_cst_25 : Ref sig .tc := ⟨.hbm, 126, rfl⟩
abbrev main_call6_v0 : Ref sig .tc := ⟨.hbm, 127, rfl⟩
abbrev main_call6_v1 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_c_26 : Ref sig .tc := ⟨.hbm, 133, rfl⟩
abbrev main_v94 : Ref sig .tc := ⟨.hbm, 134, rfl⟩
abbrev main_v95 : Ref sig .tc := ⟨.hbm, 135, rfl⟩
abbrev main_c_27 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_c_28 : Ref sig .tc := ⟨.hbm, 140, rfl⟩
abbrev main_c_29 : Ref sig .tc := ⟨.hbm, 141, rfl⟩
abbrev main_v99 : Ref sig .tc := ⟨.hbm, 142, rfl⟩
abbrev main_c_30 : Ref sig .tc := ⟨.hbm, 143, rfl⟩
abbrev main_c_31 : Ref sig .tc := ⟨.hbm, 144, rfl⟩
abbrev main_v100 : Ref sig .tc := ⟨.hbm, 145, rfl⟩
abbrev main_c_32 : Ref sig .tc := ⟨.hbm, 146, rfl⟩
abbrev main_v101 : Ref sig .tc := ⟨.hbm, 147, rfl⟩
abbrev main_c_33 : Ref sig .tc := ⟨.hbm, 148, rfl⟩
abbrev main_c_34 : Ref sig .tc := ⟨.hbm, 149, rfl⟩
abbrev main_v102 : Ref sig .tc := ⟨.hbm, 150, rfl⟩
abbrev main_c_35 : Ref sig .tc := ⟨.hbm, 151, rfl⟩
abbrev main_c_36 : Ref sig .tc := ⟨.hbm, 152, rfl⟩
abbrev main_v103 : Ref sig .tc := ⟨.hbm, 153, rfl⟩
abbrev main_c_37 : Ref sig .tc := ⟨.hbm, 154, rfl⟩
abbrev main_v104 : Ref sig .tc := ⟨.hbm, 155, rfl⟩
abbrev main_c_38 : Ref sig .tc := ⟨.hbm, 156, rfl⟩
abbrev main_c_39 : Ref sig .tc := ⟨.hbm, 157, rfl⟩
abbrev main_v105 : Ref sig .tc := ⟨.hbm, 158, rfl⟩
abbrev main_c_40 : Ref sig .tc := ⟨.hbm, 159, rfl⟩
abbrev main_c_41 : Ref sig .tc := ⟨.hbm, 160, rfl⟩
abbrev main_v106 : Ref sig .tc := ⟨.hbm, 161, rfl⟩
abbrev main_c_42 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_cst_43 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_cst_44 : Ref sig .tc := ⟨.hbm, 179, rfl⟩
abbrev main_v122 : Ref sig .tc := ⟨.hbm, 180, rfl⟩
abbrev main_call7_v0 : Ref sig .tc := ⟨.hbm, 181, rfl⟩
abbrev main_call7_v1 : Ref sig .tc := ⟨.hbm, 182, rfl⟩
abbrev main_v123 : Ref sig .tc := ⟨.hbm, 183, rfl⟩
abbrev main_v124 : Ref sig .tc := ⟨.hbm, 184, rfl⟩

abbrev nD : Nat := 1
abbrev τ : Topo := Topo.v7x

variable {F : FTy → Type} [FloatOps F]

def κ : String → Option EReal := fun
  | "mask" => some ⊥
  | _ => none
-- ==== Proof.Text.lean ====
/-
  The tile's program in its own words: one pooling row is an issue of sixteen index rows, one or two indirect gathers,
  and a pass of three loops over the row's box. The program runs two such rows per trip with two sets of buffers; here
  each piece is a definition over the buffers it uses, so that one proof of a piece serves both.
-/
module

public import proofs.«01_k».proof.Defs
public import proofs.«01_k».proof.Proof.Gen.KernelIdeal

@[expose] public section

noncomputable section

namespace Cert.Tile

open Cert.KernelIdeal Cert.KernelIdeal.Gen
open Idealize.ShloMosaic Idealize.SL.Sem

variable {F : FTy → Type} [FloatOps F] [Named F] {cc : Fin τ.nSC} {jj : Fin τ.nSub}

/-- Programs of the vector subcore `(cc, jj)`. -/
abbrev PR (F : FTy → Type) (cc : Fin τ.nSC) (jj : Fin τ.nSub) (α : Type) :=
  Prog (TpuEff nD τ sig (Elt F) Λ₀ (.scVector cc jj)) α

abbrev Lane : Type := IVec S16 32
/-- Six sums of sixteen lanes: the ninety-six channels of one row. -/
abbrev Acc (F : FTy → Type) : Type :=
  FVec F S16 .f32 × FVec F S16 .f32 × FVec F S16 .f32 × FVec F S16 .f32 × FVec F S16 .f32 × FVec F S16 .f32

abbrev lanes : Lane := iota .scVector S16 32 [0] iota_S16_d0_w32_scVector
abbrev col96 : Lane := broadcast S16 96#32
abbrev maskC : F .f32 := Named.named κ "mask" 0xF149F2CA#32
abbrev zeroC : F .f32 := Scalar.ofBits .f32 0x00000000#32
abbrev oneC : F .f32 := Scalar.ofBits .f32 0x3F800000#32

/-! ## Words -/

/-- The height of the box, as the program computes it from two vectors of equal lanes. -/
abbrev heightOf (y1 y2 : Lane) : BitVec 32 :=
  extractAt ![15] (xori (scan .max (xori (subi y2 y1) (broadcast S16 2147483648#32))) (broadcast S16 2147483648#32)) inpos_S16_p15
/-- The row number of the box's corner. -/
abbrev cornerOf (b x1 y1 : Lane) : Lane :=
  addi (muli (addi (muli b (broadcast S16 64#32)) y1) (broadcast S16 64#32)) x1
/-- The sixteen row numbers of line `k` of the box, each brought into the map. -/
def lineOf (v : Lane) (k : ℕ) : Lane :=
  minsi (broadcast S16 16383#32) (maxsi (broadcast S16 0#32) (addi (addi v (broadcast S16 (BitVec.ofNat 32 (64 * k)))) lanes))

/-- Entry `off` of sixteen lanes of a list of 128. -/
abbrev r128 (k : ℕ) (h : k < 8) : Rect S128 :=
  Rect.unit (s := S128) ![16 * k] S16.size (fun a => by
    have : a = 0 := Subsingleton.elim _ _
    subst this; show 16 * k + 16 ≤ 128; omega)
abbrev r256 (n : ℕ) (h : n + 16 ≤ 256) : Rect S256 :=
  Rect.unit (s := S256) ![n] S16.size (fun a => by
    have : a = 0 := Subsingleton.elim _ _
    subst this; exact h)
abbrev rPatch (n : ℕ) (h : n < 256) (q : ℕ) (hq : q + 16 ≤ 128) : Rect S256x128 :=
  Rect.unit (s := S256x128) ![n, q] S1x16.size (fun a => by
    match a with
    | 0 => exact h
    | 1 => exact hq)
abbrev rOut (n : ℕ) (h : n < 32) (q : ℕ) (hq : q + 16 ≤ 96) : Rect S32x96 :=
  Rect.unit (s := S32x96) ![n, q] S1x16.size (fun a => by
    match a with
    | 0 => exact h
    | 1 => exact hq)

/-! ## Issue: the row's words, its height, its index lists -/

/-- One sixteen-entry line stored into a list of 128. -/
def putLine (idx : Memref sig .scVector .vmem S128 .i32) (k : ℕ) (h : k < 8) (w : Lane) : PR F cc jj PUnit := do
  let _v : Vec F S16 .i32 ← Prog.lift (.load idx (r128 k h).toLoadRect (View.loadsAt_vmem h_S16))
  Prog.lift (.store idx (r128 k h) w Finset.univ (View.stores_vmem_bits_univ h_S16 rfl) (.inl rfl))

/-- `n` lines from line `k` on, those of the box's lines `k + e …`. -/
def putLines (idx : Memref sig .scVector .vmem S128 .i32) (v : Lane) (e : ℕ) : (n k : ℕ) → n + k ≤ 8 → PR F cc jj PUnit
  | 0, _, _ => pure ⟨⟩
  | n + 1, k, h => do
    putLine idx k (by omega) (lineOf v (k + e))
    putLines idx v e n (k + 1) (by omega)

variable (bv x1v y1v x2v y2v : Memref sig .scVector .vmem S32 .i32)

/-- The row's words read at lane-constant index `v`, its height with the check `C` on it, its corner. -/
def issueHead {C1 : Lane → Prop} [∀ v, Decidable (C1 v)]
    (i1 i2 i3 i4 : ∀ v, C1 v → ∀ a x, ((![v] : Fin 1 → IVec S16 32) a x).toNat < S32.size a)
    {C : BitVec 32 → Prop} [∀ h, Decidable (C h)] (v : Lane) : PR F cc jj (Σ' (h : BitVec 32) (_ : C h), Lane) := do
  have hw := (← Prog.lift (TpuEff.assume (C1 v) inferInstance)).down
  let b : Vec F S16 .i32 ← SparseCore.vectorLoadIdx bv ![v] (i1 v hw) (View.loads_vmem h_S32)
  let x1 : Vec F S16 .i32 ← SparseCore.vectorLoadIdx x1v ![v] (i2 v hw) (View.loads_vmem h_S32)
  let y1 : Vec F S16 .i32 ← SparseCore.vectorLoadIdx y1v ![v] (i3 v hw) (View.loads_vmem h_S32)
  let y2 : Vec F S16 .i32 ← SparseCore.vectorLoadIdx y2v ![v] (i4 v hw) (View.loads_vmem h_S32)
  have hh := (← Prog.lift (TpuEff.assume (C (heightOf y1 y2)) inferInstance)).down
  pure ⟨heightOf y1 y2, hh, cornerOf b x1 y1⟩

/-! ## The gathers and their waits -/

variable (inp : Memref sig .scVector .hbm S16384x128 .f32) (patch : Memref sig .scVector .vmem S256x128 .f32)

abbrev inpAll : Memref sig .scVector .hbm S16384x128 .f32 :=
  inp.slice (Rect.unit (s := S16384x128) ![0, 0] S16384x128.size inb_S16384x128_S16384x128_0_0) (fun _ => rfl)
abbrev patchLo : Memref sig .scVector .vmem S128x128 .f32 :=
  patch.slice (Rect.unit (s := S256x128) ![0, 0] S128x128.size inb_S256x128_S128x128_0_0) (fun _ => rfl)
abbrev patchHi : Memref sig .scVector .vmem S128x128 .f32 :=
  patch.slice (Rect.unit (s := S256x128) ![128, 0] S128x128.size inb_S256x128_S128x128_128_0) (fun _ => rfl)

def gatherInto (dst : Memref sig .scVector .vmem S128x128 .f32) (idx : Memref sig .scVector .vmem S128 .i32) (sem : DmaSems sig S_) :
    PR F cc jj PUnit :=
  SparseCore.enqueueIndirectGather rfl (inpAll inp) dst gathers_S16384x128_S128x128 idx rfl sem.sem (View.wordExact_bits rfl) rfl (Or.inl rfl)
def waitGather (dst : Memref sig .scVector .vmem S128x128 .f32) (sem : DmaSems sig S_) : PR F cc jj PUnit :=
  SparseCore.waitIndirectGather sem.sem (inpAll inp) dst (View.wordExact_bits rfl) (View.wordExact_bits rfl)

/-- "the box has more than eight lines" as the program asks it. -/
abbrev tall (h : BitVec 32) : BitVec 1 := Scalar.cmpi .ne (Scalar.extui (Scalar.cmpi .sgt h 8#32) : BitVec 32) 0#32

/-- `A` when the box is tall, then `rest` in either case. -/
def whenTall {α : Type} (h : BitVec 32) (A : PR F cc jj PUnit) (rest : PUnit → PR F cc jj α) : PR F cc jj α :=
  if tall h = 1#1 then do
    A
    rest PUnit.unit
  else rest PUnit.unit

/-! ## The three loops -/

/-- The loop over the box's lines, and the empty remainder loop behind it. -/
abbrev lineLoop (h : BitVec 32) : Scf.Loop 32 :=
  ⟨0#32, Scalar.addi 0#32 (Scalar.muli (Scalar.divsi (Scalar.subi h 0#32) 1#32) 1#32), 1#32⟩
abbrev restLo (h : BitVec 32) : BitVec 32 := Scalar.addi 0#32 (Scalar.muli (Scalar.divsi (Scalar.subi h 0#32) 1#32) 1#32)
abbrev restLoop (h : BitVec 32) : Scf.Loop 32 :=
  ⟨restLo h, Scalar.addi 0#32 (Scalar.subi h 0#32), 1#32⟩

/-- What the height's check gives: both loops are loops, and each line's sixteen entries lie in a buffer of 256. -/
structure HOK (h : BitVec 32) : Prop where
  ok : (lineLoop h).OK
  ok' : (restLoop h).OK
  inb : ∀ t : Fin (lineLoop h).trips, (Scalar.muli (Scf.iv 0#32 1#32 t) 16#32).toNat + 16 ≤ 256
  inb' : ∀ t : Fin (restLoop h).trips, (Scalar.muli (Scf.iv (restLo h) 1#32 t) 16#32).toNat + 16 ≤ 256

variable (sbuf wbuf : Memref sig .scVector .vmem S256 .f32)

/-- A line's masked scores stored; the running maximum with them. -/
def maxStep (mask : IVec S16 1) (w : BitVec 32) (hw : (Scalar.muli w 16#32).toNat + 16 ≤ 256) (acc : FVec F S16 .f32) :
    PR F cc jj (FVec F S16 .f32) := do
  have hh := (← Prog.lift (TpuEff.assume (k0_chk5 col96 (addi lanes (broadcast S16 (Scalar.muli w 16#32)))) inferInstance)).down
  let x : Vec F S16 .f32 ← SparseCore.vectorLoadIdx patch ![addi lanes (broadcast S16 (Scalar.muli w 16#32)), col96]
    (k0_idx13_inb _ _ hh) (View.loads_vmem h_S256x128)
  let _v : Vec F S16 .f32 ← Prog.lift (.load sbuf (r256 (Scalar.muli w 16#32).toNat hw).toLoadRect (View.loadsAt_vmem h_S16))
  Prog.lift (.store sbuf (r256 (Scalar.muli w 16#32).toNat hw) (select mask x (broadcast S16 maskC)) Finset.univ
    (View.stores_vmem_bits_univ h_S16 rfl) (.inl rfl))
  pure (maximumf acc (select mask x (broadcast S16 maskC)))

/-- A line's exponentials stored; the running sum with them. -/
def expStep (m : FVec F S16 .f32) (w : BitVec 32) (hw : (Scalar.muli w 16#32).toNat + 16 ≤ 256) (acc : FVec F S16 .f32) :
    PR F cc jj (FVec F S16 .f32) := do
  let x : Vec F S16 .f32 ← Prog.lift (.load sbuf (r256 (Scalar.muli w 16#32).toNat hw).toLoadRect (View.loadsAt_vmem h_S16))
  let _v : Vec F S16 .f32 ← Prog.lift (.load wbuf (r256 (Scalar.muli w 16#32).toNat hw).toLoadRect (View.loadsAt_vmem h_S16))
  Prog.lift (.store wbuf (r256 (Scalar.muli w 16#32).toNat hw) (exp (subf x m)) Finset.univ
    (View.stores_vmem_bits_univ h_S16 rfl) (.inl rfl))
  pure (addf acc (exp (subf x m)))

theorem lane_inb {w : BitVec 32} (hw : (Scalar.muli w 16#32).toNat + 16 ≤ 256) {l : ℕ} (hl : l < 16) :
    (Scalar.addi (Scalar.muli w 16#32) (BitVec.ofNat 32 l)).toNat < 256 := by
  have : (Scalar.addi (Scalar.muli w 16#32) (BitVec.ofNat 32 l)).toNat = ((Scalar.muli w 16#32).toNat + l % 2 ^ 32) % 2 ^ 32 := by
    rw [show Scalar.addi (Scalar.muli w 16#32) (BitVec.ofNat 32 l) = Scalar.muli w 16#32 + BitVec.ofNat 32 l from rfl,
      BitVec.toNat_add, BitVec.toNat_ofNat]
  omega

/-- One lane of a line: its exponential times its row of the patch, added to the six sums. -/
def laneStep (w : BitVec 32) (hw : (Scalar.muli w 16#32).toNat + 16 ≤ 256) (l : ℕ) (hl : l < 16) :
    Acc F → PR F cc jj (Acc F) := fun (a0, a1, a2, a3, a4, a5) => do
  have hh := (← Prog.lift (TpuEff.assume (k0_chk7 (broadcast S16 (Scalar.addi (Scalar.muli w 16#32) (BitVec.ofNat 32 l)))) inferInstance)).down
  let e : Vec F S16 .f32 ← SparseCore.vectorLoadIdx wbuf ![broadcast S16 (Scalar.addi (Scalar.muli w 16#32) (BitVec.ofNat 32 l))]
    (k0_idx15_inb _ hh) (View.loads_vmem h_S256)
  let p0 : Vec F S1x16 .f32 ← Prog.lift (.load patch (rPatch _ (lane_inb hw hl) 0 (by decide)).toLoadRect (View.loadsAt_vmem h_S1x16))
  let p1 : Vec F S1x16 .f32 ← Prog.lift (.load patch (rPatch _ (lane_inb hw hl) 16 (by decide)).toLoadRect (View.loadsAt_vmem h_S1x16))
  let p2 : Vec F S1x16 .f32 ← Prog.lift (.load patch (rPatch _ (lane_inb hw hl) 32 (by decide)).toLoadRect (View.loadsAt_vmem h_S1x16))
  let p3 : Vec F S1x16 .f32 ← Prog.lift (.load patch (rPatch _ (lane_inb hw hl) 48 (by decide)).toLoadRect (View.loadsAt_vmem h_S1x16))
  let p4 : Vec F S1x16 .f32 ← Prog.lift (.load patch (rPatch _ (lane_inb hw hl) 64 (by decide)).toLoadRect (View.loadsAt_vmem h_S1x16))
  let p5 : Vec F S1x16 .f32 ← Prog.lift (.load patch (rPatch _ (lane_inb hw hl) 80 (by decide)).toLoadRect (View.loadsAt_vmem h_S1x16))
  pure (addf a0 (mulf e (shapeCast S16 p0 shapeCasts_S1x16_S16)), addf a1 (mulf e (shapeCast S16 p1 shapeCasts_S1x16_S16)),
    addf a2 (mulf e (shapeCast S16 p2 shapeCasts_S1x16_S16)), addf a3 (mulf e (shapeCast S16 p3 shapeCasts_S1x16_S16)),
    addf a4 (mulf e (shapeCast S16 p4 shapeCasts_S1x16_S16)), addf a5 (mulf e (shapeCast S16 p5 shapeCasts_S1x16_S16)))

/-- `n` lanes from lane `l` on. -/
def laneSteps (w : BitVec 32) (hw : (Scalar.muli w 16#32).toNat + 16 ≤ 256) : (n l : ℕ) → n + l ≤ 16 → Acc F → PR F cc jj (Acc F)
  | 0, _, _, acc => pure acc
  | n + 1, l, h, acc => do
    let acc' ← laneStep patch wbuf w hw l (by omega) acc
    laneSteps w hw n (l + 1) (by omega) acc'

theorem slices_lane (k : ℕ) : S16.Slices ![k % 16] S1 :=
  ⟨rfl, fun a => by
    have : a = 0 := Subsingleton.elim _ _
    subst this
    show k % 16 + 1 ≤ 16
    omega⟩
/-- Lane `k` of a vector as the program takes it. -/
def laneAt (v : FVec F S16 .f32) (k : ℕ) : F .f32 :=
  extractAt ![0] (extractStridedSlice S1 ![k % 16] v (slices_lane k) : FVec F S1 .f32) inpos_S1_p0
/-- `a` folded with the `n` lanes from lane `k` on. -/
def foldFrom (op : F .f32 → F .f32 → F .f32) (v : FVec F S16 .f32) : F .f32 → (k n : ℕ) → F .f32
  | a, _, 0 => a
  | a, k, n + 1 => foldFrom op v (op a (laneAt v k)) (k + 1) n
/-- The fold of all sixteen lanes. -/
abbrev foldAll (op : F .f32 → F .f32 → F .f32) (v : FVec F S16 .f32) : F .f32 := foldFrom op v (laneAt v 0) 1 15

/-! ## The row's last words -/

/-- One over the denominator where the box is not empty and the denominator positive, else zero. -/
abbrev okOf (w h : Lane) (den : FVec F S16 .f32) : IVec S16 1 :=
  andi (andi (cmpi .sgt w (broadcast S16 0#32)) (cmpi .sgt h (broadcast S16 0#32))) (cmpf .ogt den (broadcast S16 zeroC))
abbrev invOf (w h : Lane) (den : FVec F S16 .f32) : FVec F S16 .f32 :=
  select (okOf w h den) (divf (broadcast S16 oneC) (select (okOf w h den) den (broadcast S16 oneC))) (broadcast S16 zeroC)

variable (out : Memref sig .scVector .vmem S32x96 .f32)

def putOut (n : ℕ) (hn : n < 32) (q : ℕ) (hq : q + 16 ≤ 96) (x : FVec F S16 .f32) : PR F cc jj PUnit := do
  let _v : Vec F S1x16 .f32 ← Prog.lift (.load out (rOut n hn q hq).toLoadRect (View.loadsAt_vmem h_S1x16))
  Prog.lift (.store out (rOut n hn q hq) (shapeCast S1x16 x shapeCasts_S16_S1x16) Finset.univ
    (View.stores_vmem_bits_univ h_S1x16 rfl) (.inl rfl))

/-- The six sums, scaled, stored as row `n`. -/
def putRow (n : ℕ) (hn : n < 32) (acc : Acc F) (inv : FVec F S16 .f32) : PR F cc jj PUnit := do
  putOut out n hn 0 (by decide) (mulf acc.1 inv)
  putOut out n hn 16 (by decide) (mulf acc.2.1 inv)
  putOut out n hn 32 (by decide) (mulf acc.2.2.1 inv)
  putOut out n hn 48 (by decide) (mulf acc.2.2.2.1 inv)
  putOut out n hn 64 (by decide) (mulf acc.2.2.2.2.1 inv)
  putOut out n hn 80 (by decide) (mulf acc.2.2.2.2.2 inv)
  pure ⟨⟩

/-! ## The loops' runs, each followed by what comes after it -/

variable {α : Type}

def maxRun (mask : IVec S16 1) (h : BitVec 32) (ok : HOK h) (k : FVec F S16 .f32 → PR F cc jj α) : PR F cc jj α := do
  let a ← Scf.Loop.for (lineLoop h) ok.ok (broadcast S16 maskC) fun t acc => maxStep patch sbuf mask (Scf.iv 0#32 1#32 t) (ok.inb t) acc
  let a' ← Scf.Loop.for (restLoop h) ok.ok' a fun t acc => maxStep patch sbuf mask (Scf.iv (restLo h) 1#32 t) (ok.inb' t) acc
  k a'

def expRun (m : FVec F S16 .f32) (h : BitVec 32) (ok : HOK h) (k : FVec F S16 .f32 → PR F cc jj α) : PR F cc jj α := do
  let a ← Scf.Loop.for (lineLoop h) ok.ok (broadcast S16 zeroC) fun t acc => expStep sbuf wbuf m (Scf.iv 0#32 1#32 t) (ok.inb t) acc
  let a' ← Scf.Loop.for (restLoop h) ok.ok' a fun t acc => expStep sbuf wbuf m (Scf.iv (restLo h) 1#32 t) (ok.inb' t) acc
  k a'

abbrev acc0 : Acc F :=
  (broadcast S16 zeroC, broadcast S16 zeroC, broadcast S16 zeroC, broadcast S16 zeroC, broadcast S16 zeroC, broadcast S16 zeroC)

def sumRun (h : BitVec 32) (ok : HOK h) (a0 : Acc F) (k : Acc F → PR F cc jj α) : PR F cc jj α := do
  let a ← Scf.Loop.for (lineLoop h) ok.ok a0 fun t acc => laneSteps patch wbuf (Scf.iv 0#32 1#32 t) (ok.inb t) 16 0 (by decide) acc
  let a' ← Scf.Loop.for (restLoop h) ok.ok' a fun t acc => laneSteps patch wbuf (Scf.iv (restLo h) 1#32 t) (ok.inb' t) 16 0 (by decide) acc
  k a'

/-- The box's width and height, read again at lane-constant index `v`. -/
def dimsRun {C1 : Lane → Prop} [∀ v, Decidable (C1 v)]
    (i1 i2 i3 i4 : ∀ v, C1 v → ∀ a x, ((![v] : Fin 1 → IVec S16 32) a x).toNat < S32.size a) (v : Lane)
    (k : Lane → Lane → PR F cc jj α) : PR F cc jj α := do
  have hw := (← Prog.lift (TpuEff.assume (C1 v) inferInstance)).down
  let x1 : Vec F S16 .i32 ← SparseCore.vectorLoadIdx x1v ![v] (i1 v hw) (View.loads_vmem h_S32)
  let y1 : Vec F S16 .i32 ← SparseCore.vectorLoadIdx y1v ![v] (i2 v hw) (View.loads_vmem h_S32)
  let x2 : Vec F S16 .i32 ← SparseCore.vectorLoadIdx x2v ![v] (i3 v hw) (View.loads_vmem h_S32)
  let y2 : Vec F S16 .i32 ← SparseCore.vectorLoadIdx y2v ![v] (i4 v hw) (View.loads_vmem h_S32)
  k (subi x2 x1) (subi y2 y1)

end Cert.Tile
-- ==== Proof.Win.lean ====
/-
  A trip of the task, cut where the printed program cuts it, and the whole task around the trips.
-/
module

public import proofs.«01_k».proof.Proof.Text

@[expose] public section

set_option maxRecDepth 100000
set_option maxHeartbeats 0

noncomputable section

namespace Cert.Tile

open Cert.KernelIdeal Cert.KernelIdeal.Gen
open Idealize.ShloMosaic Idealize.SL.Sem

variable {F : FTy → Type} [FloatOps F] [Named F] {cc : Fin τ.nSC} {jj : Fin τ.nSub}

/-- The first height's check gives what the loops need. -/
theorem hok_a {h : BitVec 32} (c : k0_chk4 h) : HOK h where
  ok := c.1.1
  ok' := c.1.2.2.2.1
  inb t := c.1.2.2.1 t 0
  inb' t := c.1.2.2.2.2.2.1 t 0
/-- The second height's check gives the same. -/
theorem hok_b {h : BitVec 32} (c : k0_chk40 h) : HOK h where
  ok := c.1.1
  ok' := c.1.2.2.2.1
  inb t := c.1.2.2.1 t 0
  inb' t := c.1.2.2.2.2.2.1 t 0

/-- A task's thirty-two entries of a column, fetched. -/
def copyIn (i : grid0.Coords) (src : Memref sig .scVector .hbm S1024 .i32) (dst : Memref sig .scVector .vmem S32 .i32) (hd : dst.IsWhole)
    (sem : DmaSems sig S_) : PR F cc jj PUnit := do
  Prog.lift (.enqueueDma (src.slice (Rect.unit (s := S1024) (k0_off1 i) S32.size (k0_off1_inb i)) (fun _ => rfl)) (.here dst) (.dma sem.sem)
    (View.wordExact_bits rfl) hd.wordExact ⟨Or.inl rfl, trivial⟩)
  Prog.lift (.waitDma2 sem.sem (src.slice (Rect.unit (s := S1024) (k0_off1 i) S32.size (k0_off1_inb i)) (fun _ => rfl)) dst
    (View.wordExact_bits rfl) hd.wordExact)

section Windows

variable (inp : Memref sig .scVector .hbm S16384x128 .f32) (bv x1v y1v x2v y2v : Memref sig .scVector .vmem S32 .i32)
  (ia0 ia1 ib0 ib1 : Memref sig .scVector .vmem S128 .i32) (pa pb : Memref sig .scVector .vmem S256x128 .f32)
  (sbuf wbuf : Memref sig .scVector .vmem S256 .f32) (out : Memref sig .scVector .vmem S32x96 .f32) (sa sb : DmaSems sig S_)

/-- The first row's gathers, the second row's head and its first two lines. -/
def win49 (h : BitVec 32) (v : Lane) : PR F cc jj (Σ' (h : BitVec 32) (_ : k0_chk40 h), Lane) := do
  gatherInto inp (patchLo pa) ia0 sa
  whenTall h (do
      gatherInto inp (patchHi pa) ia1 sa
      pure ⟨⟩) fun (_ : PUnit.{1}) => do
    let ⟨hb, hhb, cb⟩ ← issueHead bv x1v y1v y2v (C1 := k0_chk2) k0_idx5_inb k0_idx6_inb k0_idx7_inb k0_idx8_inb (C := k0_chk40) v
    putLines ib0 cb 0 2 0 (by decide)
    pure ⟨hb, hhb, cb⟩

/-- The second row's last line and gathers, the first row's waits, its box's size and its running maximum. -/
def win53 (v : Lane) (h : BitVec 32) (ok : HOK h) (hb : BitVec 32) (last : Lane) :
    PR F cc jj (Σ' (_ : Lane) (_ : Lane) (_ : FVec F S16 .f32) (_ : F .f32), F .f32) := do
  putLine ib1 7 (by decide) last
  gatherInto inp (patchLo pb) ib0 sb
  whenTall hb (do
      gatherInto inp (patchHi pb) ib1 sb
      pure ⟨⟩) fun (_ : PUnit.{1}) => do
    waitGather inp (patchLo pa) sa
    whenTall h (do
        waitGather inp (patchHi pa) sa
        pure ⟨⟩) fun (_ : PUnit.{1}) =>
      dimsRun x1v y1v x2v y2v (C1 := k0_chk3) k0_idx9_inb k0_idx10_inb k0_idx11_inb k0_idx12_inb v fun wd ht =>
        maxRun pa sbuf (cmpi .slt lanes wd) h ok fun a =>
          pure ⟨wd, ht, a, foldFrom Scalar.maximumf a (laneAt a 0) 1 2, laneAt a 3⟩

/-- The first row's exponentials and their sums by lane, beside five zero vectors and a zero. -/
def win54 (h : BitVec 32) (ok : HOK h) (a : FVec F S16 .f32) (x y : F .f32) :
    PR F cc jj (Σ' (_ : FVec F S16 .f32) (_ : FVec F S16 .f32) (_ : FVec F S16 .f32) (_ : FVec F S16 .f32) (_ : FVec F S16 .f32), F .f32) :=
  expRun sbuf wbuf (broadcast S16 (foldFrom Scalar.maximumf a (Scalar.maximumf x y) 4 12)) h ok fun d =>
    pure ⟨d, broadcast S16 zeroC, broadcast S16 zeroC, broadcast S16 zeroC, broadcast S16 zeroC, zeroC⟩

/-- The first row's six sums, and the fold of the exponentials' sums up to its last step. -/
def win55 (h : BitVec 32) (ok : HOK h) (d z0 z1 z2 z3 : FVec F S16 .f32) (z : F .f32) :
    PR F cc jj (Σ' (_ : FVec F S16 .f32) (_ : FVec F S16 .f32) (_ : FVec F S16 .f32) (_ : FVec F S16 .f32) (_ : FVec F S16 .f32)
      (_ : FVec F S16 .f32) (_ : F .f32), F .f32) :=
  sumRun pa wbuf h ok (z0, z1, z2, z3, broadcast S16 z, broadcast S16 zeroC) fun s =>
    pure ⟨s.1, s.2.1, s.2.2.1, s.2.2.2.1, s.2.2.2.2.1, s.2.2.2.2.2, foldFrom Scalar.addf d (laneAt d 0) 1 14, laneAt d 15⟩

/-- The second row's waits, its box's size and its running maximum. -/
def win57 (r : BitVec 32) (h : BitVec 32) (ok : HOK h) :
    PR F cc jj (Σ' (_ : BitVec 32) (_ : Lane) (_ : Lane) (_ : FVec F S16 .f32) (_ : F .f32), F .f32) := do
  waitGather inp (patchLo pb) sb
  whenTall h (do
      waitGather inp (patchHi pb) sb
      pure ⟨⟩) fun (_ : PUnit.{1}) =>
    dimsRun x1v y1v x2v y2v (C1 := k0_chk39) k0_idx47_inb k0_idx48_inb k0_idx49_inb k0_idx50_inb (broadcast S16 (Scalar.addi r 1#32)) fun wd ht =>
      maxRun pb sbuf (cmpi .slt lanes wd) h ok fun a =>
        pure ⟨Scalar.addi r 1#32, wd, ht, a, foldFrom Scalar.maximumf a (laneAt a 0) 1 7, laneAt a 8⟩

/-- The second row's exponentials and six sums. -/
def win58 (h : BitVec 32) (ok : HOK h) (a : FVec F S16 .f32) (x y : F .f32) :
    PR F cc jj (Σ' (_ : FVec F S16 .f32) (_ : FVec F S16 .f32) (_ : FVec F S16 .f32) (_ : FVec F S16 .f32) (_ : FVec F S16 .f32)
      (_ : FVec F S16 .f32) (_ : FVec F S16 .f32), FVec F S1 .f32) :=
  expRun sbuf wbuf (broadcast S16 (foldFrom Scalar.maximumf a (Scalar.maximumf x y) 9 7)) h ok fun d =>
    sumRun pb wbuf h ok acc0 fun s =>
      pure ⟨d, s.1, s.2.1, s.2.2.1, s.2.2.2.1, s.2.2.2.2.1, s.2.2.2.2.2, extractStridedSlice S1 ![0 % 16] d (slices_lane 0)⟩

theorem out_inb_a (t : Fin k0_t1_loop.trips) : (Scalar.muli 2#32 (Scf.iv 0#32 1#32 t)).toNat < 32 := k0_off198_inb t 0
theorem out_inb_b (t : Fin k0_t1_loop.trips) : (Scalar.addi (Scalar.muli 2#32 (Scf.iv 0#32 1#32 t)) 1#32).toNat < 32 := k0_off400_inb t 0

/-- One trip: two rows, its windows named. -/
def tripOf (w49 : BitVec 32 → BitVec 32 → PR F cc jj (Σ' (h : BitVec 32) (_ : k0_chk40 h), Lane))
    (w53 : BitVec 32 → (h : BitVec 32) → k0_chk4 h → BitVec 32 → Lane → PR F cc jj (Σ' (_ : Lane) (_ : Lane) (_ : FVec F S16 .f32) (_ : F .f32), F .f32))
    (w54 : (h : BitVec 32) → k0_chk4 h → FVec F S16 .f32 → F .f32 → F .f32 →
      PR F cc jj (Σ' (_ : FVec F S16 .f32) (_ : FVec F S16 .f32) (_ : FVec F S16 .f32) (_ : FVec F S16 .f32) (_ : FVec F S16 .f32), F .f32))
    (w55 : (h : BitVec 32) → k0_chk4 h → FVec F S16 .f32 → FVec F S16 .f32 → FVec F S16 .f32 → FVec F S16 .f32 → FVec F S16 .f32 → F .f32 →
      PR F cc jj (Σ' (_ : FVec F S16 .f32) (_ : FVec F S16 .f32) (_ : FVec F S16 .f32) (_ : FVec F S16 .f32) (_ : FVec F S16 .f32)
        (_ : FVec F S16 .f32) (_ : F .f32), F .f32))
    (w57 : BitVec 32 → (h : BitVec 32) → k0_chk40 h → PR F cc jj (Σ' (_ : BitVec 32) (_ : Lane) (_ : Lane) (_ : FVec F S16 .f32) (_ : F .f32), F .f32))
    (w58 : (h : BitVec 32) → k0_chk40 h → FVec F S16 .f32 → F .f32 → F .f32 →
      PR F cc jj (Σ' (_ : FVec F S16 .f32) (_ : FVec F S16 .f32) (_ : FVec F S16 .f32) (_ : FVec F S16 .f32) (_ : FVec F S16 .f32)
        (_ : FVec F S16 .f32) (_ : FVec F S16 .f32), FVec F S1 .f32))
    (t : Fin k0_t1_loop.trips) : PR F cc jj PUnit := do
  let r := Scalar.muli 2#32 (Scf.iv 0#32 1#32 t)
  let ⟨h, hh, c⟩ ← issueHead bv x1v y1v y2v (C1 := k0_chk1) k0_idx1_inb k0_idx2_inb k0_idx3_inb k0_idx4_inb (C := k0_chk4) (broadcast S16 r)
  putLines ia0 c 0 8 0 (by decide)
  putLines ia1 c 8 8 0 (by decide)
  let ⟨hb, hhb, cb⟩ ← w49 r h
  putLines ib0 cb 0 6 2 (by decide)
  putLines ib1 cb 8 7 0 (by decide)
  let ⟨wd, ht, a, x, y⟩ ← w53 r h hh hb (lineOf cb 15)
  let ⟨d, z0, z1, z2, z3, z⟩ ← w54 h hh a x y
  let ⟨s0, s1, s2, s3, s4, s5, u, l⟩ ← w55 h hh d z0 z1 z2 z3 z
  putRow out r.toNat (out_inb_a t) (s0, s1, s2, s3, s4, s5) (invOf wd ht (broadcast S16 (Scalar.addf u l)))
  let ⟨r', wd', ht', a', x', y'⟩ ← w57 r hb hhb
  let ⟨d', s0', s1', s2', s3', s4', s5', l'⟩ ← w58 hb hhb a' x' y'
  putRow out (Scalar.addi r 1#32).toNat (out_inb_b t) (s0', s1', s2', s3', s4', s5')
    (invOf wd' ht' (broadcast S16 (foldFrom Scalar.addf d' (extractAt ![0] l' inpos_S1_p0) 1 15)))

/-- One trip: two rows. -/
def tripText (t : Fin k0_t1_loop.trips) : PR F cc jj PUnit :=
  tripOf bv x1v y1v y2v ia0 ia1 ib0 ib1 out
    (fun r h => win49 inp bv x1v y1v y2v ia0 ia1 ib0 pa sa h (broadcast S16 (Scalar.addi r 1#32)))
    (fun r h hh hb last => win53 inp x1v y1v x2v y2v ib0 ib1 pa pb sbuf sa sb (broadcast S16 r) h (hok_a hh) hb last)
    (fun h hh a x y => win54 sbuf wbuf h (hok_a hh) a x y)
    (fun h hh d z0 z1 z2 z3 z => win55 pa wbuf h (hok_a hh) d z0 z1 z2 z3 z)
    (fun r h hh => win57 inp x1v y1v x2v y2v pb sbuf sb r h (hok_b hh))
    (fun h hh a x y => win58 pb sbuf wbuf h (hok_b hh) a x y) t

/-- The whole task: five copies in, sixteen trips, one copy out. -/
def taskOf (i : grid0.Coords) (b x1 y1 x2 y2 : Memref sig .scVector .hbm S1024 .i32) (res : Memref sig .scVector .hbm S1024x96 .f32)
    (hb : bv.IsWhole) (h1 : x1v.IsWhole) (h2 : y1v.IsWhole) (h3 : x2v.IsWhole) (h4 : y2v.IsWhole) (ho : out.IsWhole)
    (s0 s1 s2 s3 s4 s5 : DmaSems sig S_) (trip : Fin k0_t1_loop.trips → PR F cc jj PUnit) : PR F cc jj PUnit := do
  copyIn i b bv hb s0
  copyIn i x1 x1v h1 s1
  copyIn i y1 y1v h2 s2
  copyIn i x2 x2v h3 s3
  copyIn i y2 y2v h4 s4
  Scf.Loop.for k0_t1_loop k0_t1_ok ⟨⟩ fun t _ => trip t
  Prog.lift (.enqueueDma out (.here (res.slice (Rect.unit (s := S1024x96) (k0_off406 i) S32x96.size (k0_off406_inb i)) (fun _ => rfl)))
    (.dma s5.sem) ho.wordExact (View.wordExact_bits rfl) ⟨Or.inl rfl, trivial⟩)
  Prog.lift (.waitDma2 s5.sem out (res.slice (Rect.unit (s := S1024x96) (k0_off406 i) S32x96.size (k0_off406_inb i)) (fun _ => rfl))
    ho.wordExact (View.wordExact_bits rfl))
  pure ⟨⟩

end Windows

end Cert.Tile
-- ==== Proof.Hold.lean ====
/-
  What a view holds. `Hold d m q v`: the task has share `q` of the elements of the view `m`, and they read `v`. The rules
  of the task's steps in these terms: a load gives the entries its rectangle names, an indexed load the entries its indices
  name, a store changes the entries of its rectangle.
-/
module

public import proofs.«01_k».proof.Proof.Win
public import Idealize.ShloMosaic.Lib.SparseCore.Quiescent
public import Idealize.ShloMosaic.Lib.SparseCore.Ops
public import Idealize.ShloMosaic.Lib.SparseCore.Stream
public import Idealize.ShloMosaic.Lib.Batch
public import Idealize.ShloMosaic.Lib.Writes
public import Idealize.ShloMosaic.Lib.LoopRemainder
public import Idealize.ShloMosaic.Lib.StableHlo.Run
public import Idealize.ShloMosaic.Lib.Pipeline.Kit
public import Idealize.ShloMosaic.Lib.Tactic

@[expose] public section

noncomputable section

namespace Cert.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev 𝒱₀ : Variants := Variants.none
/-- The handshakes' library, the transfers' counters. -/
abbrev UH : Type := URounds (GSem nD τ sig) ℕ
abbrev UU : Type := UH × Counters
/-- The resources. -/
abbrev MM (F : FTy → Type) : Type _ := MT nD τ sig (HIx 1) (Elt F) ℕ UU ℕ

local notation "𝕄" => MT nD τ sig (HIx 1) (Elt F) ℕ UU ℕ

section

variable (d : Dev nD) {cc : Fin τ.nSC} {jj : Fin τ.nSub} {sp : Space} {s : Shape} {e : EltTy}

/-- Share `q` of the view `m`, reading `v`. -/
def Hold (m : Memref sig .scVector sp s e) (q : PosShare TreeShare) (v : s.Idx → Elt F e) : sProp 𝕄 :=
  iprop(∃ f : Buf (Elt F) (m.view.loc (V d cc jj)), ⌜m.view.read (Elt F) f = v⌝ ∗ (m.view.loc (V d cc jj) ↦[m.view.set]{q} f))

theorem Hold.intro {m : Memref sig .scVector sp s e} {q : PosShare TreeShare} (f : Buf (Elt F) (m.view.loc (V d cc jj))) :
    (m.view.loc (V d cc jj) ↦[m.view.set]{q} f : sProp 𝕄) ⊢ Hold (F := F) d (cc := cc) (jj := jj) m q (m.view.read (Elt F) f) := by
  unfold Hold
  iintro H; iexists f; isplitr
  · ipureintro; rfl
  · iexact H

variable [FloatOps F] [Named F] {α : Type} {Q : α → sProp 𝕄}

/-- The task's program `p` reaches `Q`. -/
abbrev wpT (d : Dev nD) (p : PR F cc jj α) (Q : α → sProp 𝕄) : sProp 𝕄 :=
  wp frame (wpE (defs₀ (F := F)) 𝒱₀ (V d cc jj) none) Set.univ p Q

/-- A load gives the entries of its rectangle. -/
theorem Hold.load {m : Memref sig .scVector .vmem s e} {q : PosShare TreeShare} {v : s.Idx → Elt F e} {r : Rect s}
    {hl : m.view.LoadsAt r.toLoadRect} {Q : (r.shape.Idx → Elt F e) → sProp 𝕄} :
    Hold d (cc := cc) (jj := jj) m q v
      ⊢ iprop((Hold d (cc := cc) (jj := jj) m q v -∗ Q fun i => v (r.emb i))
          -∗ wpT (cc := cc) (jj := jj) d (Prog.lift (.load m r.toLoadRect hl)) Q) := by
  unfold Hold
  iintro ⟨%f, %hf, H⟩ Hk
  iapply (wp_load_rect 𝒱₀ (V d cc jj) none Set.univ (m := m) (r := r) (hl := hl) (k := Prog.ret) (Q := Q) (S := m.view.set) (q := q) (f := f)
    (View.set_slice_subset _ _)) $$ H
  iintro H
  rw [wp_ret]
  iapply fupd_intro
  have hv : (m.access r).read (Elt F) f = fun i => v (r.emb i) := by
    funext i; rw [← hf]; rfl
  rw [hv]
  iapply Hk
  iexists f; isplitr
  · ipureintro; exact hf
  · iexact H

/-- An indexed load gives the entries its indices name. -/
theorem Hold.loadIdx {m : Memref sig .scVector .vmem s e} {q : PosShare TreeShare} {v : s.Idx → Elt F e} {t : Shape}
    {idxs : Fin s.rank → IVec t 32} {h : ∀ a x, (idxs a x).toNat < s.size a} {hl : m.view.Loads} {Q : Vec F t e → sProp 𝕄} :
    Hold d (cc := cc) (jj := jj) m q v
      ⊢ iprop((Hold d (cc := cc) (jj := jj) m q v -∗ Q (Idealize.ShloMosaic.loadIdx v idxs h))
          -∗ wpT (cc := cc) (jj := jj) d (SparseCore.vectorLoadIdx m idxs h hl) Q) := by
  unfold Hold
  iintro ⟨%f, %hf, H⟩ Hk
  have hb : (SparseCore.vectorLoadIdx m idxs h hl : PR F cc jj (Vec F t e)) = SparseCore.vectorLoadIdx m idxs h hl >>= Prog.ret := by
    exact (bind_pure _).symm
  rw [hb]
  iapply (SparseCore.wp_vectorLoadIdx 𝒱₀ (V d cc jj) none Set.univ (base := m) (idxs := idxs) (h := h) (hl := hl) (k := Prog.ret) (Q := Q)
    (S := m.view.set) (q := q) (f := f) (View.set_slice_subset _ _)) $$ H
  iintro H
  rw [wp_ret]
  iapply fupd_intro
  have hv : (m.access (.whole s)).read (Elt F) f = v := by
    rw [← hf]; funext i
    show m.view.read (Elt F) f ((Rect.whole s).emb i) = _
    rw [Rect.emb_whole_apply]
  rw [hv]
  iapply Hk
  iexists f; isplitr
  · ipureintro; exact hf
  · iexact H

/-- A store puts its value at the entries of its rectangle and leaves the others. -/
theorem Hold.store {m : Memref sig .scVector .vmem s e} {v : s.Idx → Elt F e} {r : Rect s} {w : r.shape.Idx → Elt F e}
    {hx : (m.access r).Stores Finset.univ} {hm : Finset.univ = Finset.univ ∨ ∀ a, r.stride a = 1} {Q : PUnit → sProp 𝕄} (v' : s.Idx → Elt F e)
    (hin : ∀ i, v' (r.emb i) = w i) (hout : ∀ y, y ∉ r.set → v' y = v y) :
    Hold d (cc := cc) (jj := jj) m fullShare v
      ⊢ iprop((Hold d (cc := cc) (jj := jj) m fullShare v' -∗ Q ⟨⟩)
          -∗ wpT (cc := cc) (jj := jj) d (Prog.lift (.store m r w Finset.univ hx hm)) Q) := by
  unfold Hold
  iintro ⟨%f, %hf, H⟩ Hk
  iapply (wp_store 𝒱₀ (V d cc jj) none Set.univ (m := m) (r := r) (w := w) (Mk := Finset.univ) (hx := hx) (hm := hm) (k := Prog.ret) (Q := Q)
    (S := m.view.set) (f := f) (by rw [View.setOn_univ]; exact View.set_slice_subset _ _)) $$ H
  iintro H
  rw [wp_ret]
  iapply fupd_intro
  iapply Hk
  iexists _; isplitr; swap
  · iexact H
  · ipureintro
    funext y
    by_cases hy : y ∈ Finset.univ.map r.emb
    · obtain ⟨i, -, rfl⟩ := Finset.mem_map.mp hy
      rw [hin]; exact View.read_slice_write_emb (v := m.view) r f w (Finset.mem_univ i)
    · rw [hout y (by rwa [← Rect.map_emb_univ]), ← hf]
      exact View.read_slice_write_of_not_mem (v := m.view) r f w Finset.univ hy

theorem wpT_pure {β : Type} {a : β} {Q : β → sProp 𝕄} : Q a ⊢ wpT (cc := cc) (jj := jj) d (pure a) Q := by
  show Q a ⊢ wp frame (wpE (defs₀ (F := F)) 𝒱₀ (V d cc jj) none) Set.univ (pure a) Q
  rw [wp_pure]; exact fupd_intro
/-- A check that holds passes. -/
theorem wpT_assume {p : Prop} {i : Decidable p} (h : p) {Q : PLift p → sProp 𝕄} :
    Q ⟨h⟩ ⊢ wpT (cc := cc) (jj := jj) d (Prog.lift (.assume p i)) Q := by
  show _ ⊢ wp frame (wpE (defs₀ (F := F)) 𝒱₀ (V d cc jj) none) Set.univ (.op (.assume p i) Prog.ret) Q
  rw [wp_assume_of _ _ _ _ h, wp_ret]; exact fupd_intro

end

end Cert.Tile
-- ==== Proof.Val.lean ====
/-
  What one pooling row is, line by line and lane by lane, over any floats: the masked scores, their running maximum, the
  exponentials and their running sum, the six weighted sums, the row.
-/
module

public import proofs.«01_k».proof.Proof.Win
public import Idealize.ShloMosaic.Lib.Pointwise.Index

@[expose] public section

noncomputable section

namespace Cert.Tile

open Cert.KernelIdeal Cert.KernelIdeal.Gen
open Idealize.ShloMosaic

variable {F : FTy → Type} [FloatOps F] [Named F]

/-- Lane `l`, counted around. -/
def ln (l : ℕ) : S16.Idx := ix1 ⟨l % 16, Nat.mod_lt _ (by decide)⟩
theorem ln_val (i : S16.Idx) : ln (i 0).val = i := by
  funext a
  have : a = 0 := Subsingleton.elim _ _
  subst this
  exact Fin.ext (Nat.mod_eq_of_lt (i 0).isLt)

/-- A patch: the entry of line `j`, lane `l`, column `c`. -/
abbrev Patch (F : FTy → Type) : Type := ℕ → ℕ → ℕ → F .f32

section Row

variable (mask : IVec S16 1) (P : Patch F)

/-- Line `j`'s scores inside the mask, the masking constant outside. -/
def scoreLine (j : ℕ) : FVec F S16 .f32 := select mask (fun x => P j (x 0).val 96) (broadcast S16 maskC)
/-- The running maximum over the first `n` lines. -/
def maxLines : ℕ → FVec F S16 .f32
  | 0 => broadcast S16 maskC
  | n + 1 => maximumf (maxLines n) (scoreLine mask P n)
/-- The maximum over the box. -/
def boxMax (n : ℕ) : F .f32 := foldAll Scalar.maximumf (maxLines mask P n)
/-- Line `j`'s exponentials above `m`. -/
def expLine (m : F .f32) (j : ℕ) : FVec F S16 .f32 := exp (subf (scoreLine mask P j) (broadcast S16 m))
/-- Their running sum over the first `n` lines. -/
def sumLines (m : F .f32) : ℕ → FVec F S16 .f32
  | 0 => broadcast S16 zeroC
  | n + 1 => addf (sumLines m n) (expLine mask P m n)
/-- The denominator. -/
def boxSum (n : ℕ) : F .f32 := foldAll Scalar.addf (sumLines mask P (boxMax mask P n) n)
/-- The weight of line `j`, lane `l`. -/
def weight (m : F .f32) (j l : ℕ) : F .f32 := expLine mask P m j (ln l)

/-- Sum `q` after `l` lanes of line `j`, from `a`. -/
def laneSum (E : ℕ → ℕ → F .f32) (q j : ℕ) (a : FVec F S16 .f32) : ℕ → FVec F S16 .f32
  | 0 => a
  | l + 1 => addf (laneSum E q j a l) (mulf (fun _ => E j l) (fun x => P j l (16 * q + (x 0).val)))
/-- Sum `q` after `n` lines. -/
def boxAcc (E : ℕ → ℕ → F .f32) (q : ℕ) : ℕ → FVec F S16 .f32
  | 0 => broadcast S16 zeroC
  | n + 1 => laneSum P E q n (boxAcc E q n) 16

end Row

/-- A row of the result, channel `c`: the box of width `w`, height `h` over patch `P`. -/
def rowVal (P : Patch F) (w h : BitVec 32) (c : ℕ) : F .f32 :=
  mulf (boxAcc P (weight (cmpi .slt lanes (broadcast S16 w)) P (boxMax (cmpi .slt lanes (broadcast S16 w)) P h.toInt.toNat)) (c / 16) h.toInt.toNat)
    (invOf (broadcast S16 w) (broadcast S16 h) (broadcast S16 (boxSum (cmpi .slt lanes (broadcast S16 w)) P h.toInt.toNat))) (ln c)

/-- The row number of line `j`, lane `l` of the box whose corner's words are `b`, `x1`, `y1`. -/
def rowAt (b x1 y1 : BitVec 32) (j l : ℕ) : ℕ :=
  (lineOf (cornerOf (broadcast S16 b) (broadcast S16 x1) (broadcast S16 y1)) j (ln l)).toNat
theorem lineOf_lt (v : Lane) (j : ℕ) (x : S16.Idx) : (lineOf v j x).toNat < 16384 := by
  show (IntOp.minsi 16383#32 (IntOp.maxsi 0#32 (addi (addi v (broadcast S16 (BitVec.ofNat 32 (64 * j)))) lanes x))).toNat < _
  generalize (addi (addi v (broadcast S16 (BitVec.ofNat 32 (64 * j)))) lanes x) = z
  unfold IntOp.minsi IntOp.maxsi
  simp only [BitVec.slt, decide_eq_true_eq]
  have h0 : (0#32 : BitVec 32).toInt = 0 := by decide
  have h1 : (16383#32 : BitVec 32).toInt = 16383 := by decide
  have h2 := BitVec.toInt_eq_toNat_cond z
  have h3 := z.isLt
  split_ifs <;> simp_all <;> omega
theorem rowAt_lt (b x1 y1 : BitVec 32) (j l : ℕ) : rowAt b x1 y1 j l < 16384 := lineOf_lt _ _ _

/-- The patch the gathers fetch from the map's rows. -/
def patchOf (inp : S16384x128.Idx → F .f32) (b x1 y1 : BitVec 32) : Patch F := fun j l c =>
  inp (ix2 ⟨rowAt b x1 y1 j l, rowAt_lt _ _ _ _ _⟩ ⟨c % 128, Nat.mod_lt _ (by decide)⟩)

end Cert.Tile
-- ==== Proof.Chk.lean ====
/-
  A height of at most sixteen passes the program's check on it: both loops of every pair are loops, the second of no
  trips, and every line's entries lie in the buffers of 256.
-/
module

public import proofs.«01_k».proof.Proof.Win
public import Idealize.ShloMosaic.Lib.LoopRemainder

@[expose] public section

set_option maxRecDepth 100000
set_option maxHeartbeats 0

noncomputable section

namespace Cert.Tile

open Cert.KernelIdeal Cert.KernelIdeal.Gen
open Idealize.ShloMosaic

theorem ub_eq (h : BitVec 32) : (lineLoop h).ub = h := by
  show Scalar.addi 0#32 (Scalar.muli (Scalar.divsi (Scalar.subi h 0#32) 1#32) 1#32) = h
  rw [Scalar.muli_divsi_one]; simp [Scalar.addi, Scalar.subi, IntOp.addi, IntOp.subi]

/-- The loop over a box's lines makes one trip per line. -/
theorem trips_line (h : BitVec 32) : (lineLoop h).trips = h.toInt.toNat := by
  show Scf.trips 0#32 (lineLoop h).ub 1#32 = _
  rw [ub_eq]; unfold Scf.trips
  rw [show (1#32 : BitVec 32).toInt = 1 by decide, show (0#32 : BitVec 32).toInt = 0 by decide]
  congr 1; omega

/-- The loop behind it makes none. -/
theorem no_rest (h : BitVec 32) (t : Fin (restLoop h).trips) : False := Scf.rem_no_trip 0#32 (Scalar.subi h 0#32) t

theorem iv_line (t : ℕ) (ht : t < 16) : (Scf.iv 0#32 1#32 t).toNat = t := by
  simp [Scf.iv, BitVec.toNat_ofNat]; omega
theorem muli16 (t : ℕ) (ht : t < 16) : (Scalar.muli (Scf.iv 0#32 1#32 t) 16#32).toNat = 16 * t := by
  show (Scf.iv 0#32 1#32 t * 16#32).toNat = _
  rw [BitVec.toNat_mul, iv_line t ht]; simp; omega
theorem addi_lane (t l : ℕ) (ht : t < 16) (hl : l < 16) :
    (Scalar.addi (Scalar.muli (Scf.iv 0#32 1#32 t) 16#32) (BitVec.ofNat 32 l)).toNat = 16 * t + l := by
  show (Scalar.muli (Scf.iv 0#32 1#32 t) 16#32 + BitVec.ofNat 32 l).toNat = _
  rw [BitVec.toNat_add, muli16 t ht, BitVec.toNat_ofNat]; omega

variable {h : BitVec 32} (hh : h.toInt ≤ 16)
include hh

theorem trip_lt (t : Fin (lineLoop h).trips) : t.val < 16 := by
  have := lt_of_lt_of_eq t.isLt (trips_line h); omega

theorem line_ok : (lineLoop h).OK := by
  have := trips_line h
  refine ⟨by show 0 < (1#32 : BitVec 32).toInt; decide, ?_⟩
  show (0#32 : BitVec 32).toInt + ((lineLoop h).trips : Int) * (1#32 : BitVec 32).toInt < 2 ^ 31
  rw [show (1#32 : BitVec 32).toInt = 1 by decide, show (0#32 : BitVec 32).toInt = 0 by decide, this]
  omega
omit hh in
theorem rest_ok : (restLoop h).OK := Scf.rem_ok 0#32 (Scalar.subi h 0#32)

theorem mult_line (t : Fin (lineLoop h).trips) : 16 ∣ (Scalar.muli (Scf.iv 0#32 1#32 t) 16#32).toNat := by
  rw [muli16 t (trip_lt hh t)]; exact ⟨_, rfl⟩
theorem inb_line (t : Fin (lineLoop h).trips) :
    ∀ a, (![(Scalar.muli (Scf.iv 0#32 1#32 t) 16#32).toNat] : Fin 1 → ℕ) a + S16.size a ≤ S256.size a := by
  intro a
  have : a = 0 := Subsingleton.elim _ _
  subst this
  have := trip_lt hh t
  show (Scalar.muli (Scf.iv 0#32 1#32 t) 16#32).toNat + 16 ≤ 256
  rw [muli16 t this]; omega
theorem inb_lane (l q : ℕ) (hl : l < 16) (hq : q + 16 ≤ 128) (t : Fin (lineLoop h).trips) :
    ∀ a, (![(Scalar.addi (Scalar.muli (Scf.iv 0#32 1#32 t) 16#32) (BitVec.ofNat 32 l)).toNat, q] : Fin 2 → ℕ) a + S1x16.size a ≤ S256x128.size a := by
  intro a
  have := trip_lt hh t
  match a with
  | 0 =>
    show (Scalar.addi (Scalar.muli (Scf.iv 0#32 1#32 t) 16#32) (BitVec.ofNat 32 l)).toNat + 1 ≤ 256
    rw [addi_lane t l this hl]; omega
  | 1 => exact hq

theorem chk4_of : k0_chk4 h := by
  unfold k0_chk4
  refine ⟨⟨line_ok hh, mult_line hh, inb_line hh, rest_ok, fun t => (no_rest h t).elim, fun t => (no_rest h t).elim,
    line_ok hh, mult_line hh, inb_line hh, rest_ok, fun t => (no_rest h t).elim, fun t => (no_rest h t).elim, line_ok hh, ?_⟩, ?_⟩
  all_goals
    repeat' first
      | exact inb_lane hh _ _ (by decide) (by decide)
      | exact fun t => (no_rest h t).elim
      | exact rest_ok
      | apply And.intro

theorem chk40_of : k0_chk40 h := by
  unfold k0_chk40
  refine ⟨⟨line_ok hh, mult_line hh, inb_line hh, rest_ok, fun t => (no_rest h t).elim, fun t => (no_rest h t).elim,
    line_ok hh, mult_line hh, inb_line hh, rest_ok, fun t => (no_rest h t).elim, fun t => (no_rest h t).elim, line_ok hh, ?_⟩, ?_⟩
  all_goals
    repeat' first
      | exact inb_lane hh _ _ (by decide) (by decide)
      | exact fun t => (no_rest h t).elim
      | exact rest_ok
      | apply And.intro

end Cert.Tile
-- ==== Proof.Loops.lean ====
/-
  The three loops over a box's lines, each with the values it computes.
-/
module

public import proofs.«01_k».proof.Proof.Hold
public import proofs.«01_k».proof.Proof.Val
public import proofs.«01_k».proof.Proof.Chk
public import Idealize.ShloMosaic.Lib.Pipeline.Value

@[expose] public section

set_option maxHeartbeats 1000000

noncomputable section

namespace Cert.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- A patch's contents are those of `P` on its first `n` lines. -/
def PatchIs (P : Patch F) (n : ℕ) (v : S256x128.Idx → F .f32) : Prop :=
  ∀ y : S256x128.Idx, (y 0).val < 16 * n → v y = P ((y 0).val / 16) ((y 0).val % 16) (y 1).val
/-- A list of 256 holds the lanes of `L` on its first `n` lines. -/
def LinesAre (L : ℕ → FVec F S16 .f32) (n : ℕ) (v : S256.Idx → F .f32) : Prop :=
  ∀ y : S256.Idx, (y 0).val < 16 * n → v y = L ((y 0).val / 16) (ln ((y 0).val % 16))

theorem lanes_toNat (x : S16.Idx) : (lanes x).toNat = (x 0).val := by
  have h : lanes x = BitVec.ofNat 32 (x 0).val := by simp [lanes, iota]
  have := (x 0).isLt
  rw [h, BitVec.toNat_ofNat]; exact Nat.mod_eq_of_lt (lt_trans this (by decide))
theorem lane_lt (x : S16.Idx) : (x 0).val < 16 := (x 0).isLt

section

variable (d : Dev nD) {cc : Fin τ.nSC} {jj : Fin τ.nSub}
variable (patch : Memref sig .scVector .vmem S256x128 .f32) (sbuf wbuf : Memref sig .scVector .vmem S256 .f32)

theorem addi_lanes (k : ℕ) (hk : k < 16) (x : S16.Idx) :
    (addi lanes (broadcast S16 (Scalar.muli (Scf.iv 0#32 1#32 k) 16#32)) x).toNat = 16 * k + (x 0).val := by
  show (lanes x + Scalar.muli (Scf.iv 0#32 1#32 k) 16#32).toNat = _
  have := lane_lt x
  rw [BitVec.toNat_add, lanes_toNat, muli16 k hk]; omega

theorem chk5_of (k : ℕ) (hk : k < 16) : k0_chk5 col96 (addi lanes (broadcast S16 (Scalar.muli (Scf.iv 0#32 1#32 k) 16#32))) := by
  intro a x
  match a with
  | 0 =>
    show (addi lanes (broadcast S16 (Scalar.muli (Scf.iv 0#32 1#32 k) 16#32)) x).toNat < 256
    have := lane_lt x
    rw [addi_lanes k hk]; omega
  | 1 => show (96#32 : BitVec 32).toNat < 128; decide

theorem chk7_of (k l : ℕ) (hk : k < 16) (hl : l < 16) :
    k0_chk7 (broadcast S16 (Scalar.addi (Scalar.muli (Scf.iv 0#32 1#32 k) 16#32) (BitVec.ofNat 32 l))) := by
  intro a x
  have : a = 0 := Subsingleton.elim _ _
  subst this
  show (Scalar.addi (Scalar.muli (Scf.iv 0#32 1#32 k) 16#32) (BitVec.ofNat 32 l)).toNat < 256
  rw [addi_lane k l hk hl]; omega

/-- A line of sixteen stored as line `k` of a list of 256. -/
theorem storeLine {m : Memref sig .scVector .vmem S256 .f32} {v : S256.Idx → F .f32} (L : ℕ → FVec F S16 .f32) {k : ℕ} (hk : k < 16)
    {n : ℕ} (hn : n = 16 * k) (hw : n + 16 ≤ 256) (hv : LinesAre L k v)
    {hx : (m.access (r256 n hw)).Stores Finset.univ} {hm : Finset.univ = Finset.univ ∨ ∀ a, (r256 n hw).stride a = 1} {Q : PUnit → sProp 𝕄} :
    Hold d (cc := cc) (jj := jj) m fullShare v
      ⊢ iprop(((∃ v', ⌜LinesAre L (k + 1) v'⌝ ∗ Hold d (cc := cc) (jj := jj) m fullShare v') -∗ Q ⟨⟩)
          -∗ wpT (cc := cc) (jj := jj) d (Prog.lift (.store m (r256 n hw) (L k : Vec F S16 .f32) Finset.univ hx hm)) Q) := by
  subst hn
  iintro H Hk
  iapply (Hold.store d (m := m) (v := v) (fun y => if 16 * k ≤ (y 0).val ∧ (y 0).val < 16 * k + 16 then L k (ln ((y 0).val % 16)) else v y)
    ?_ ?_) $$ H
  · intro i
    have hi := lane_lt i
    have e : (((r256 (16 * k) hw).emb i) 0).val = 16 * k + (i 0).val := by
      show 16 * k + 1 * (i 0).val = _; omega
    have e2 : (16 * k + (i 0).val) % 16 = (i 0).val := by omega
    simp only [e]
    rw [if_pos (by omega), e2, ln_val]
  · intro y hy
    rw [Rect.mem_set_unit] at hy
    simp only
    rw [if_neg]
    rintro ⟨h1, h2⟩
    exact hy fun a => by
      have : a = 0 := Subsingleton.elim _ _
      subst this
      exact ⟨h1, h2⟩
  iintro H
  iapply Hk
  iexists _; isplitr; swap
  · iexact H
  ipureintro
  intro y hy
  by_cases h1 : 16 * k ≤ (y 0).val
  · have : (y 0).val / 16 = k := by omega
    simp only
    rw [if_pos (by omega), this]
  · simp only
    rw [if_neg (by omega)]; exact hv y (by omega)

/-- A line of a list of 256 read. -/
theorem readLine {v : S256.Idx → F .f32} (L : ℕ → FVec F S16 .f32) {k N : ℕ} (hkN : k < N)
    {n : ℕ} (hn : n = 16 * k) (hw : n + 16 ≤ 256) (hv : LinesAre L N v) : (fun i => v ((r256 n hw).emb i)) = L k := by
  subst hn; funext i
  have hi : (i 0).val < 16 := (i 0).isLt
  have e : (((r256 (16 * k) hw).emb i) 0).val = 16 * k + (i 0).val := by
    show 16 * k + 1 * (i 0).val = _; omega
  rw [hv _ (by rw [e]; omega), e, show (16 * k + (i 0).val) / 16 = k by omega, show (16 * k + (i 0).val) % 16 = (i 0).val by omega, ln_val]

theorem maxStep_spec (mask : IVec S16 1) {P : Patch F} {k n : ℕ} (hk : k < 16) (hkn : k < n) {vp : S256x128.Idx → F .f32} (hvp : PatchIs P n vp)
    {vs : S256.Idx → F .f32} (hvs : LinesAre (scoreLine mask P) k vs) (hw) (a : FVec F S16 .f32) {Q : FVec F S16 .f32 → sProp 𝕄} :
    iprop(Hold d (cc := cc) (jj := jj) patch fullShare vp ∗ Hold d (cc := cc) (jj := jj) sbuf fullShare vs)
      ⊢ iprop(((Hold d (cc := cc) (jj := jj) patch fullShare vp
            ∗ ∃ v', ⌜LinesAre (scoreLine mask P) (k + 1) v'⌝ ∗ Hold d (cc := cc) (jj := jj) sbuf fullShare v') -∗ Q (maximumf a (scoreLine mask P k)))
          -∗ wpT (cc := cc) (jj := jj) d (maxStep patch sbuf mask (Scf.iv 0#32 1#32 k) hw a) Q) := by
  iintro ⟨Hp, Hs⟩ Hk
  unfold maxStep wpT
  simp only [wp_bind]
  iapply (wpT_assume d (chk5_of k hk))
  iapply (Hold.loadIdx d (m := patch)) $$ Hp
  iintro Hp
  iapply (Hold.load d (m := sbuf)) $$ Hs
  iintro Hs
  have hl : select mask (Idealize.ShloMosaic.loadIdx (F := F) (e := .f32) vp ![addi lanes (broadcast S16 (Scalar.muli (Scf.iv 0#32 1#32 k) 16#32)), col96] (k0_idx13_inb _ _ (chk5_of k hk)))
      (broadcast S16 maskC) = scoreLine mask P k := by
    unfold scoreLine
    congr 1
    funext x
    have hx := lane_lt x
    have e : ((idxAt ![addi lanes (broadcast S16 (Scalar.muli (Scf.iv 0#32 1#32 k) 16#32)), col96] (k0_idx13_inb _ _ (chk5_of k hk)) x : S256x128.Idx) 0).val
        = 16 * k + (x 0).val := addi_lanes k hk x
    show vp (idxAt _ _ x) = _
    rw [hvp _ (by rw [e]; omega), e, show (16 * k + (x 0).val) / 16 = k by omega, show (16 * k + (x 0).val) % 16 = (x 0).val by omega]
    rfl
  rw [hl]
  iapply (storeLine d (scoreLine mask P) hk (muli16 k hk) hw hvs) $$ Hs
  iintro Hs
  iapply (wpT_pure d)
  iapply Hk
  isplitl [Hp]
  · iexact Hp
  · iexact Hs

/-- A loop over the box's lines and the empty loop behind it, by an invariant. -/
theorem lineLoop_spec {σ α : Type} {h : BitVec 32} (ok : HOK h) (I : ℕ → σ → sProp 𝕄) {init : σ}
    {body : Fin (lineLoop h).trips → σ → PR F cc jj σ} {body' : Fin (restLoop h).trips → σ → PR F cc jj σ} {k : σ → PR F cc jj α}
    {Q : α → sProp 𝕄} (hbody : ∀ t a, I t.val a ⊢ wpT d (body t a) (I (t.val + 1))) :
    iprop(I 0 init ∗ (∀ a, I h.toInt.toNat a -∗ wpT d (k a) Q))
      ⊢ wpT d (Scf.Loop.for (lineLoop h) ok.ok init body >>= fun a => Scf.Loop.for (restLoop h) ok.ok' a body' >>= k) Q := by
  have hr : ∀ a, Scf.Loop.for (restLoop h) ok.ok' a body' = .ret a := fun a =>
    Scf.for_rem_eq 0#32 (Scalar.subi h 0#32) ok.ok' a body'
  simp only [hr]
  iintro ⟨HI, Hk⟩
  unfold wpT
  rw [wp_bind]
  iapply (Scf.wp_for frame (wpE (defs₀ (F := F)) 𝒱₀ (V d cc jj) none) Set.univ _ _ _ ok.ok init body I hbody)
  isplitl [HI]
  · iexact HI
  iintro %a HI
  have e : (lineLoop h).trips = h.toInt.toNat := trips_line h
  have e' : Scf.trips (lineLoop h).lb (lineLoop h).ub (lineLoop h).st = h.toInt.toNat := e
  rw [e']
  ispecialize Hk $$ %a HI
  iexact Hk

theorem maxRun_spec {α : Type} (mask : IVec S16 1) {P : Patch F} {h : BitVec 32} (ok : HOK h) (hh : h.toInt ≤ 16)
    {vp : S256x128.Idx → F .f32} (hvp : PatchIs P h.toInt.toNat vp) {k : FVec F S16 .f32 → PR F cc jj α} {Q : α → sProp 𝕄} :
    iprop(Hold d (cc := cc) (jj := jj) patch fullShare vp ∗ ∃ vs, Hold d (cc := cc) (jj := jj) sbuf fullShare vs)
      ⊢ iprop(((Hold d (cc := cc) (jj := jj) patch fullShare vp
            ∗ ∃ vs, ⌜LinesAre (scoreLine mask P) h.toInt.toNat vs⌝ ∗ Hold d (cc := cc) (jj := jj) sbuf fullShare vs)
            -∗ wpT d (k (maxLines mask P h.toInt.toNat)) Q)
          -∗ wpT (cc := cc) (jj := jj) d (maxRun patch sbuf mask h ok k) Q) := by
  iintro ⟨Hp, %vs, Hs⟩ Hk
  unfold maxRun
  iapply (lineLoop_spec d ok fun n a => iprop(⌜a = maxLines mask P n⌝ ∗ Hold d (cc := cc) (jj := jj) patch fullShare vp
      ∗ ∃ vs, ⌜LinesAre (scoreLine mask P) n vs⌝ ∗ Hold d (cc := cc) (jj := jj) sbuf fullShare vs))
  · intro t a
    iintro ⟨%ha, Hp, %vs, %hvs, Hs⟩
    subst ha
    have ht := trip_lt hh t
    iapply (maxStep_spec d patch sbuf mask ht (lt_of_lt_of_eq t.isLt (trips_line h)) hvp hvs) $$ [Hp Hs]
    · isplitl [Hp]
      · iexact Hp
      · iexact Hs
    iintro ⟨Hp, Hs⟩
    isplitr
    · ipureintro; rfl
    isplitl [Hp]
    · iexact Hp
    · iexact Hs
  isplitl [Hp Hs]
  · isplitr
    · ipureintro; rfl
    isplitl [Hp]
    · iexact Hp
    iexists vs; isplitr
    · ipureintro; intro y hy; exact absurd hy (by omega)
    · iexact Hs
  iintro %a ⟨%ha, Hp, Hs⟩
  subst ha
  iapply Hk
  isplitl [Hp]
  · iexact Hp
  · iexact Hs

theorem expStep_spec (mask : IVec S16 1) {P : Patch F} (m : F .f32) {k n : ℕ} (hk : k < 16) (hkn : k < n)
    {vs : S256.Idx → F .f32} (hvs : LinesAre (scoreLine mask P) n vs) {vw : S256.Idx → F .f32} (hvw : LinesAre (expLine mask P m) k vw)
    (hw) (a : FVec F S16 .f32) {Q : FVec F S16 .f32 → sProp 𝕄} :
    iprop(Hold d (cc := cc) (jj := jj) sbuf fullShare vs ∗ Hold d (cc := cc) (jj := jj) wbuf fullShare vw)
      ⊢ iprop(((Hold d (cc := cc) (jj := jj) sbuf fullShare vs
            ∗ ∃ v', ⌜LinesAre (expLine mask P m) (k + 1) v'⌝ ∗ Hold d (cc := cc) (jj := jj) wbuf fullShare v') -∗ Q (addf a (expLine mask P m k)))
          -∗ wpT (cc := cc) (jj := jj) d (expStep sbuf wbuf (broadcast S16 m) (Scf.iv 0#32 1#32 k) hw a) Q) := by
  iintro ⟨Hs, Hw⟩ Hk
  unfold expStep wpT
  simp only [wp_bind]
  iapply (Hold.load d (m := sbuf)) $$ Hs
  iintro Hs
  iapply (Hold.load d (m := wbuf)) $$ Hw
  iintro Hw
  have hl : (fun i => vs ((r256 (Scalar.muli (Scf.iv 0#32 1#32 k) 16#32).toNat hw).emb i)) = scoreLine mask P k := readLine _ hkn (muli16 k hk) hw hvs
  have he : exp (subf (scoreLine mask P k) (broadcast S16 m)) = expLine mask P m k := rfl
  rw [hl, he]
  iapply (storeLine d (expLine mask P m) hk (muli16 k hk) hw hvw) $$ Hw
  iintro Hw
  iapply (wpT_pure d)
  iapply Hk
  isplitl [Hs]
  · iexact Hs
  · iexact Hw

theorem expRun_spec {α : Type} (mask : IVec S16 1) {P : Patch F} (m : F .f32) {h : BitVec 32} (ok : HOK h) (hh : h.toInt ≤ 16)
    {vs : S256.Idx → F .f32} (hvs : LinesAre (scoreLine mask P) h.toInt.toNat vs) {k : FVec F S16 .f32 → PR F cc jj α} {Q : α → sProp 𝕄} :
    iprop(Hold d (cc := cc) (jj := jj) sbuf fullShare vs ∗ ∃ vw, Hold d (cc := cc) (jj := jj) wbuf fullShare vw)
      ⊢ iprop(((Hold d (cc := cc) (jj := jj) sbuf fullShare vs
            ∗ ∃ vw, ⌜LinesAre (expLine mask P m) h.toInt.toNat vw⌝ ∗ Hold d (cc := cc) (jj := jj) wbuf fullShare vw)
            -∗ wpT d (k (sumLines mask P m h.toInt.toNat)) Q)
          -∗ wpT (cc := cc) (jj := jj) d (expRun sbuf wbuf (broadcast S16 m) h ok k) Q) := by
  iintro ⟨Hs, %vw, Hw⟩ Hk
  unfold expRun
  iapply (lineLoop_spec d ok fun n a => iprop(⌜a = sumLines mask P m n⌝ ∗ Hold d (cc := cc) (jj := jj) sbuf fullShare vs
      ∗ ∃ vw, ⌜LinesAre (expLine mask P m) n vw⌝ ∗ Hold d (cc := cc) (jj := jj) wbuf fullShare vw))
  · intro t a
    iintro ⟨%ha, Hs, %vw, %hvw, Hw⟩
    subst ha
    have ht := trip_lt hh t
    iapply (expStep_spec d sbuf wbuf mask m ht (lt_of_lt_of_eq t.isLt (trips_line h)) hvs hvw) $$ [Hs Hw]
    · isplitl [Hs]
      · iexact Hs
      · iexact Hw
    iintro ⟨Hs, Hw⟩
    isplitr
    · ipureintro; rfl
    isplitl [Hs]
    · iexact Hs
    · iexact Hw
  isplitl [Hs Hw]
  · isplitr
    · ipureintro; rfl
    isplitl [Hs]
    · iexact Hs
    iexists vw; isplitr
    · ipureintro; intro y hy; exact absurd hy (by omega)
    · iexact Hw
  iintro %a ⟨%ha, Hs, Hw⟩
  subst ha
  iapply Hk
  isplitl [Hs]
  · iexact Hs
  · iexact Hw

/-- Sixteen columns of a patch's row read. -/
theorem readCols {P : Patch F} {n : ℕ} {vp : S256x128.Idx → F .f32} (hvp : PatchIs P n vp) {k l : ℕ} (hkn : k < n) (hl : l < 16)
    {r : ℕ} (hr : r = 16 * k + l) (hr' : r < 256) (q : ℕ) (hq : 16 * q + 16 ≤ 128) :
    (shapeCast S16 (fun i => vp ((rPatch r hr' (16 * q) hq).emb i)) shapeCasts_S1x16_S16 : FVec F S16 .f32) = fun x => P k l (16 * q + (x 0).val) := by
  subst hr
  funext x
  have hx := lane_lt x
  refine (shapeCast_apply (s := S1x16) (t := S16) (fun i => vp ((rPatch (16 * k + l) hr' (16 * q) hq).emb i)) shapeCasts_S1x16_S16 x
    (ix2 0 (x 0)) (by rw [Shape.rowMajor_val_two, Shape.rowMajor_val_one]; simp)).trans ?_
  show vp ((rPatch (16 * k + l) hr' (16 * q) hq).emb (ix2 0 (x 0))) = _
  have e0 : (((rPatch (16 * k + l) hr' (16 * q) hq).emb (ix2 0 (x 0))) 0).val = 16 * k + l := by
    show 16 * k + l + 1 * 0 = _; omega
  have e1 : (((rPatch (16 * k + l) hr' (16 * q) hq).emb (ix2 0 (x 0))) 1).val = 16 * q + (x 0).val := by
    show 16 * q + 1 * (x 0).val = _; omega
  rw [hvp _ (by rw [e0]; omega), e0, e1, show (16 * k + l) / 16 = k by omega, show (16 * k + l) % 16 = l by omega]

/-- The six sums at once. -/
def six (f : ℕ → FVec F S16 .f32) : Acc F := (f 0, f 1, f 2, f 3, f 4, f 5)

theorem laneStep_spec (L : ℕ → FVec F S16 .f32) {P : Patch F} {k n l : ℕ} (hk : k < 16) (hkn : k < n) (hl : l < 16)
    {vp : S256x128.Idx → F .f32} (hvp : PatchIs P n vp) {vw : S256.Idx → F .f32} (hvw : LinesAre L n vw)
    (hw) (A : ℕ → FVec F S16 .f32) {Q : Acc F → sProp 𝕄} :
    iprop(Hold d (cc := cc) (jj := jj) patch fullShare vp ∗ Hold d (cc := cc) (jj := jj) wbuf fullShare vw)
      ⊢ iprop(((Hold d (cc := cc) (jj := jj) patch fullShare vp ∗ Hold d (cc := cc) (jj := jj) wbuf fullShare vw)
            -∗ Q (six fun q => addf (A q) (mulf (fun _ => L k (ln l)) (fun x => P k l (16 * q + (x 0).val)))))
          -∗ wpT (cc := cc) (jj := jj) d (laneStep patch wbuf (Scf.iv 0#32 1#32 k) hw l hl (six A)) Q) := by
  iintro ⟨Hp, Hw⟩ Hk
  unfold laneStep six wpT
  simp only [wp_bind]
  iapply (wpT_assume d (chk7_of k l hk hl))
  iapply (Hold.loadIdx d (m := wbuf)) $$ Hw
  iintro Hw
  have e : Idealize.ShloMosaic.loadIdx (F := F) (e := .f32) vw ![broadcast S16 (Scalar.addi (Scalar.muli (Scf.iv 0#32 1#32 k) 16#32) (BitVec.ofNat 32 l))]
      (k0_idx15_inb _ (chk7_of k l hk hl)) = fun _ : S16.Idx => L k (ln l) := by
    funext x
    show vw (idxAt _ _ x) = _
    have e0 : ((idxAt ![broadcast S16 (Scalar.addi (Scalar.muli (Scf.iv 0#32 1#32 k) 16#32) (BitVec.ofNat 32 l))]
      (k0_idx15_inb _ (chk7_of k l hk hl)) x : S256.Idx) 0).val = 16 * k + l := addi_lane k l hk hl
    rw [hvw _ (by rw [e0]; omega), e0, show (16 * k + l) / 16 = k by omega, show (16 * k + l) % 16 = l by omega]
  rw [e]
  iapply (Hold.load d (m := patch)) $$ Hp
  iintro Hp
  iapply (Hold.load d (m := patch)) $$ Hp
  iintro Hp
  iapply (Hold.load d (m := patch)) $$ Hp
  iintro Hp
  iapply (Hold.load d (m := patch)) $$ Hp
  iintro Hp
  iapply (Hold.load d (m := patch)) $$ Hp
  iintro Hp
  iapply (Hold.load d (m := patch)) $$ Hp
  iintro Hp
  have hc := fun q hq => readCols hvp hkn hl (addi_lane k l hk hl) (lane_inb hw hl) q hq
  rw [hc 0 (by decide), hc 1 (by decide), hc 2 (by decide), hc 3 (by decide), hc 4 (by decide), hc 5 (by decide)]
  iapply (wpT_pure d)
  iapply Hk
  isplitl [Hp]
  · iexact Hp
  · iexact Hw

theorem laneSteps_spec (L : ℕ → FVec F S16 .f32) {P : Patch F} {k n : ℕ} (hk : k < 16) (hkn : k < n)
    {vp : S256x128.Idx → F .f32} (hvp : PatchIs P n vp) {vw : S256.Idx → F .f32} (hvw : LinesAre L n vw)
    (hw) (A : ℕ → FVec F S16 .f32) : ∀ (c l : ℕ) (h : c + l ≤ 16) {Q : Acc F → sProp 𝕄},
    iprop(Hold d (cc := cc) (jj := jj) patch fullShare vp ∗ Hold d (cc := cc) (jj := jj) wbuf fullShare vw)
      ⊢ iprop(((Hold d (cc := cc) (jj := jj) patch fullShare vp ∗ Hold d (cc := cc) (jj := jj) wbuf fullShare vw)
            -∗ Q (six fun q => laneSum P (fun j l => L j (ln l)) q k (A q) (c + l)))
          -∗ wpT (cc := cc) (jj := jj) d (laneSteps patch wbuf (Scf.iv 0#32 1#32 k) hw c l h
              (six fun q => laneSum P (fun j l => L j (ln l)) q k (A q) l)) Q)
  | 0, l, h, Q => by
    iintro ⟨Hp, Hw⟩ Hk
    unfold laneSteps
    iapply (wpT_pure d)
    rw [Nat.zero_add]
    iapply Hk
    isplitl [Hp]
    · iexact Hp
    · iexact Hw
  | c + 1, l, h, Q => by
    iintro ⟨Hp, Hw⟩ Hk
    unfold laneSteps wpT
    simp only [wp_bind]
    iapply (laneStep_spec d patch wbuf L hk hkn _ hvp hvw hw) $$ [Hp Hw]
    · isplitl [Hp]
      · iexact Hp
      · iexact Hw
    iintro ⟨Hp, Hw⟩
    iapply (laneSteps_spec L hk hkn hvp hvw hw A c (l + 1) (by omega)) $$ [Hp Hw]
    · isplitl [Hp]
      · iexact Hp
      · iexact Hw
    rw [show c + 1 + l = c + (l + 1) by omega]
    iexact Hk

theorem sumRun_spec {α : Type} (L : ℕ → FVec F S16 .f32) {P : Patch F} {h : BitVec 32} (ok : HOK h) (hh : h.toInt ≤ 16)
    {vp : S256x128.Idx → F .f32} (hvp : PatchIs P h.toInt.toNat vp) {vw : S256.Idx → F .f32} (hvw : LinesAre L h.toInt.toNat vw)
    {k : Acc F → PR F cc jj α} {Q : α → sProp 𝕄} :
    iprop(Hold d (cc := cc) (jj := jj) patch fullShare vp ∗ Hold d (cc := cc) (jj := jj) wbuf fullShare vw)
      ⊢ iprop(((Hold d (cc := cc) (jj := jj) patch fullShare vp ∗ Hold d (cc := cc) (jj := jj) wbuf fullShare vw)
            -∗ wpT d (k (six fun q => boxAcc P (fun j l => L j (ln l)) q h.toInt.toNat)) Q)
          -∗ wpT (cc := cc) (jj := jj) d (sumRun patch wbuf h ok acc0 k) Q) := by
  iintro ⟨Hp, Hw⟩ Hk
  unfold sumRun
  iapply (lineLoop_spec d ok fun n a => iprop(⌜a = six fun q => boxAcc P (fun j l => L j (ln l)) q n⌝
      ∗ Hold d (cc := cc) (jj := jj) patch fullShare vp ∗ Hold d (cc := cc) (jj := jj) wbuf fullShare vw))
  · intro t a
    iintro ⟨%ha, Hp, Hw⟩
    subst ha
    have ht := trip_lt hh t
    iapply (laneSteps_spec d patch wbuf L ht (lt_of_lt_of_eq t.isLt (trips_line h)) hvp hvw (ok.inb t)
      (fun q => boxAcc P (fun j l => L j (ln l)) q t.val) 16 0 (by decide)) $$ [Hp Hw]
    · isplitl [Hp]
      · iexact Hp
      · iexact Hw
    iintro ⟨Hp, Hw⟩
    isplitr
    · ipureintro; rfl
    isplitl [Hp]
    · iexact Hp
    · iexact Hw
  isplitl [Hp Hw]
  · isplitr
    · ipureintro; rfl
    isplitl [Hp]
    · iexact Hp
    · iexact Hw
  iintro %a ⟨%ha, Hp, Hw⟩
  subst ha
  iapply Hk
  isplitl [Hp]
  · iexact Hp
  · iexact Hw

end

end Cert.Tile
-- ==== Proof.Row.lean ====
/-
  The straight pieces of a row: its words read, its index lists filled, its result stored.
-/
module

public import proofs.«01_k».proof.Proof.Loops

@[expose] public section

set_option maxHeartbeats 1000000

noncomputable section

namespace Cert.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- The height computed from two vectors of equal lanes is the difference. -/
theorem heightOf_const (y1 y2 : BitVec 32) : heightOf (broadcast S16 y1) (broadcast S16 y2) = Scalar.subi y2 y1 := by
  have hm : ∀ c : BitVec 32, IntOp.maxui c c = c := fun c => by unfold IntOp.maxui; split <;> rfl
  have hf : ∀ (l : List (Fin 16)) (c : BitVec 32), l.foldl (fun r _ => ScanKind.step .max r c) c = c := fun l c => by
    induction l with
    | nil => rfl
    | cons a l ih => rw [List.foldl_cons, show ScanKind.step .max c c = c from hm c, ih]
  have hs : ∀ c : BitVec 32, (scan .max (broadcast S16 c) : Lane) = broadcast S16 c := fun c => funext fun i => hf _ c
  show extractAt ![15] (xori (scan .max (broadcast S16 (IntOp.xori (IntOp.subi y2 y1) 2147483648#32))) (broadcast S16 2147483648#32)) inpos_S16_p15 = _
  rw [hs]
  show IntOp.xori (IntOp.xori (IntOp.subi y2 y1) 2147483648#32) 2147483648#32 = IntOp.subi y2 y1
  unfold IntOp.xori
  rw [BitVec.xor_assoc, BitVec.xor_self, BitVec.xor_zero]

/-- The corner's vector from three words. -/
abbrev corner (b x1 y1 : BitVec 32) : Lane := cornerOf (broadcast S16 b) (broadcast S16 x1) (broadcast S16 y1)

section

variable (d : Dev nD) {cc : Fin τ.nSC} {jj : Fin τ.nSub}

/-- An equal index in every lane is in range. -/
theorem idx_const {r : BitVec 32} (hr : r.toNat < 32) : ∀ a x, ((![broadcast S16 r] : Fin 1 → IVec S16 32) a x).toNat < S32.size a := by
  intro a x
  have : a = 0 := Subsingleton.elim _ _
  subst this
  exact hr

/-- A column read at an equal index in every lane. -/
theorem readWord {m : Memref sig .scVector .vmem S32 .i32} {v : S32.Idx → BitVec 32} {r : BitVec 32} (hr : r.toNat < 32)
    {h : ∀ a x, ((![broadcast S16 r] : Fin 1 → IVec S16 32) a x).toNat < S32.size a} {hl : m.view.Loads} {Q : Lane → sProp 𝕄} :
    Hold d (cc := cc) (jj := jj) m fullShare v
      ⊢ iprop((Hold d (cc := cc) (jj := jj) m fullShare v -∗ Q (broadcast S16 (v (ix1 ⟨r.toNat, hr⟩))))
          -∗ wpT (cc := cc) (jj := jj) d (SparseCore.vectorLoadIdx (F := F) m ![broadcast S16 r] h hl) Q) := by
  have e : (Idealize.ShloMosaic.loadIdx (F := F) (e := .i32) v ![broadcast S16 r] h : Lane) = broadcast S16 (v (ix1 ⟨r.toNat, hr⟩)) := by
    funext x
    show v (idxAt _ _ x) = v _
    congr 1
    funext a
    have : a = 0 := Subsingleton.elim _ _
    subst this
    rfl
  rw [← e]
  exact Hold.loadIdx d (m := m)

/-- A list of 128 holds the lanes of `L` on its first `n` lines. -/
def ListIs (L : ℕ → Lane) (n : ℕ) (v : S128.Idx → BitVec 32) : Prop :=
  ∀ y : S128.Idx, (y 0).val < 16 * n → v y = L ((y 0).val / 16) (ln ((y 0).val % 16))

theorem putLine_spec {idx : Memref sig .scVector .vmem S128 .i32} {v : S128.Idx → BitVec 32} (L : ℕ → Lane) {k : ℕ} (hk : k < 8)
    (hv : ListIs L k v) {w : Lane} (hw : w = L k) {Q : PUnit → sProp 𝕄} :
    Hold (F := F) d (cc := cc) (jj := jj) idx fullShare v
      ⊢ iprop(((∃ v', ⌜ListIs L (k + 1) v'⌝ ∗ Hold (F := F) d (cc := cc) (jj := jj) idx fullShare v') -∗ Q ⟨⟩)
          -∗ wpT (F := F) (cc := cc) (jj := jj) d (putLine idx k hk w) Q) := by
  subst hw
  iintro H Hk
  unfold putLine wpT
  simp only [wp_bind]
  iapply (Hold.load d (m := idx)) $$ H
  iintro H
  iapply (Hold.store d (m := idx) (v := v) (fun y => if 16 * k ≤ (y 0).val ∧ (y 0).val < 16 * k + 16 then L k (ln ((y 0).val % 16)) else v y)
    ?_ ?_) $$ H
  · intro i
    have hi : (i 0).val < 16 := (i 0).isLt
    have e : (((r128 k hk).emb i) 0).val = 16 * k + (i 0).val := by
      show 16 * k + 1 * (i 0).val = _; omega
    have e2 : (16 * k + (i 0).val) % 16 = (i 0).val := by omega
    simp only [e]
    rw [if_pos (by omega), e2, ln_val]
  · intro y hy
    rw [Rect.mem_set_unit] at hy
    simp only
    rw [if_neg]
    rintro ⟨h1, h2⟩
    exact hy fun a => by
      have : a = 0 := Subsingleton.elim _ _
      subst this
      exact ⟨h1, h2⟩
  iintro H
  iapply Hk
  iexists _; isplitr; swap
  · iexact H
  ipureintro
  intro y hy
  by_cases h1 : 16 * k ≤ (y 0).val
  · have : (y 0).val / 16 = k := by omega
    simp only
    rw [if_pos (by omega), this]
  · simp only
    rw [if_neg (by omega)]; exact hv y (by omega)

theorem putLines_spec {idx : Memref sig .scVector .vmem S128 .i32} (w : Lane) (e : ℕ) : ∀ (n k : ℕ) (h : n + k ≤ 8) {Q : PUnit → sProp 𝕄},
    iprop(∃ v, ⌜ListIs (fun j => lineOf w (j + e)) k v⌝ ∗ Hold (F := F) d (cc := cc) (jj := jj) idx fullShare v)
      ⊢ iprop(((∃ v', ⌜ListIs (fun j => lineOf w (j + e)) (n + k) v'⌝ ∗ Hold (F := F) d (cc := cc) (jj := jj) idx fullShare v') -∗ Q ⟨⟩)
          -∗ wpT (F := F) (cc := cc) (jj := jj) d (putLines idx w e n k h) Q)
  | 0, k, h, Q => by
    iintro H Hk
    unfold putLines
    iapply (wpT_pure d)
    rw [Nat.zero_add]
    iapply Hk
    iexact H
  | n + 1, k, h, Q => by
    iintro ⟨%v, %hv, H⟩ Hk
    unfold putLines wpT
    simp only [wp_bind]
    iapply (putLine_spec d (fun j => lineOf w (j + e)) _ hv rfl) $$ H
    iintro H
    iapply (putLines_spec w e n (k + 1) _) $$ H
    rw [show n + 1 + k = n + (k + 1) by omega]
    iexact Hk

section Words

variable {bv x1v y1v x2v y2v : Memref sig .scVector .vmem S32 .i32} {cb cx1 cy1 cx2 cy2 : S32.Idx → BitVec 32}

theorem issueHead_spec {C1 : Lane → Prop} [∀ v, Decidable (C1 v)]
    {i1 i2 i3 i4 : ∀ v, C1 v → ∀ a x, ((![v] : Fin 1 → IVec S16 32) a x).toNat < S32.size a}
    {C : BitVec 32 → Prop} [∀ h, Decidable (C h)] {r : BitVec 32} (hr : r.toNat < 32) (hC1 : C1 (broadcast S16 r))
    (hC : C (Scalar.subi (cy2 (ix1 ⟨r.toNat, hr⟩)) (cy1 (ix1 ⟨r.toNat, hr⟩)))) {Q : (Σ' (h : BitVec 32) (_ : C h), Lane) → sProp 𝕄} :
    iprop(Hold (F := F) d (cc := cc) (jj := jj) bv fullShare cb ∗ Hold (F := F) d (cc := cc) (jj := jj) x1v fullShare cx1
        ∗ Hold (F := F) d (cc := cc) (jj := jj) y1v fullShare cy1 ∗ Hold (F := F) d (cc := cc) (jj := jj) y2v fullShare cy2)
      ⊢ iprop(((Hold (F := F) d (cc := cc) (jj := jj) bv fullShare cb ∗ Hold (F := F) d (cc := cc) (jj := jj) x1v fullShare cx1
          ∗ Hold (F := F) d (cc := cc) (jj := jj) y1v fullShare cy1 ∗ Hold (F := F) d (cc := cc) (jj := jj) y2v fullShare cy2)
            -∗ Q ⟨Scalar.subi (cy2 (ix1 ⟨r.toNat, hr⟩)) (cy1 (ix1 ⟨r.toNat, hr⟩)), hC,
                corner (cb (ix1 ⟨r.toNat, hr⟩)) (cx1 (ix1 ⟨r.toNat, hr⟩)) (cy1 (ix1 ⟨r.toNat, hr⟩))⟩)
          -∗ wpT (F := F) (cc := cc) (jj := jj) d (issueHead bv x1v y1v y2v i1 i2 i3 i4 (C := C) (broadcast S16 r)) Q) := by
  have key : ∀ (s h : BitVec 32) (e : h = s) (hs : C s) (hh : C h) (w : Lane), Q ⟨s, hs, w⟩ = Q ⟨h, hh, w⟩ := by
    rintro s _ rfl _ _ _; rfl
  have hC' : C (heightOf (broadcast S16 (cy1 (ix1 ⟨r.toNat, hr⟩))) (broadcast S16 (cy2 (ix1 ⟨r.toNat, hr⟩)))) := by
    rw [heightOf_const]; exact hC
  rw [key _ _ (heightOf_const _ _) hC hC']
  iintro ⟨Hb, Hx1, Hy1, Hy2⟩ Hk
  unfold issueHead wpT
  simp only [wp_bind]
  iapply (wpT_assume d hC1)
  iapply (readWord d (m := bv) hr) $$ Hb
  iintro Hb
  iapply (readWord d (m := x1v) hr) $$ Hx1
  iintro Hx1
  iapply (readWord d (m := y1v) hr) $$ Hy1
  iintro Hy1
  iapply (readWord d (m := y2v) hr) $$ Hy2
  iintro Hy2
  iapply (wpT_assume d hC')
  iapply (wpT_pure d)
  iapply Hk
  isplitl [Hb]
  · iexact Hb
  isplitl [Hx1]
  · iexact Hx1
  isplitl [Hy1]
  · iexact Hy1
  · iexact Hy2

theorem dimsRun_spec {α : Type} {C1 : Lane → Prop} [∀ v, Decidable (C1 v)]
    {i1 i2 i3 i4 : ∀ v, C1 v → ∀ a x, ((![v] : Fin 1 → IVec S16 32) a x).toNat < S32.size a}
    {r : BitVec 32} (hr : r.toNat < 32) (hC1 : C1 (broadcast S16 r)) {k : Lane → Lane → PR F cc jj α} {Q : α → sProp 𝕄} :
    iprop(Hold (F := F) d (cc := cc) (jj := jj) x1v fullShare cx1 ∗ Hold (F := F) d (cc := cc) (jj := jj) y1v fullShare cy1
        ∗ Hold (F := F) d (cc := cc) (jj := jj) x2v fullShare cx2 ∗ Hold (F := F) d (cc := cc) (jj := jj) y2v fullShare cy2)
      ⊢ iprop(((Hold (F := F) d (cc := cc) (jj := jj) x1v fullShare cx1 ∗ Hold (F := F) d (cc := cc) (jj := jj) y1v fullShare cy1
          ∗ Hold (F := F) d (cc := cc) (jj := jj) x2v fullShare cx2 ∗ Hold (F := F) d (cc := cc) (jj := jj) y2v fullShare cy2)
            -∗ wpT d (k (broadcast S16 (Scalar.subi (cx2 (ix1 ⟨r.toNat, hr⟩)) (cx1 (ix1 ⟨r.toNat, hr⟩))))
                (broadcast S16 (Scalar.subi (cy2 (ix1 ⟨r.toNat, hr⟩)) (cy1 (ix1 ⟨r.toNat, hr⟩))))) Q)
          -∗ wpT (F := F) (cc := cc) (jj := jj) d (dimsRun x1v y1v x2v y2v i1 i2 i3 i4 (broadcast S16 r) k) Q) := by
  iintro ⟨Hx1, Hy1, Hx2, Hy2⟩ Hk
  unfold dimsRun wpT
  simp only [wp_bind]
  iapply (wpT_assume d hC1)
  iapply (readWord d (m := x1v) hr) $$ Hx1
  iintro Hx1
  iapply (readWord d (m := y1v) hr) $$ Hy1
  iintro Hy1
  iapply (readWord d (m := x2v) hr) $$ Hx2
  iintro Hx2
  iapply (readWord d (m := y2v) hr) $$ Hy2
  iintro Hy2
  iapply Hk
  isplitl [Hx1]
  · iexact Hx1
  isplitl [Hy1]
  · iexact Hy1
  isplitl [Hx2]
  · iexact Hx2
  · iexact Hy2

end Words

section Out

variable {out : Memref sig .scVector .vmem S32x96 .f32}

theorem putOut_spec {v : S32x96.Idx → F .f32} {n : ℕ} (hn : n < 32) (q : ℕ) (hq : 16 * q + 16 ≤ 96) (x : FVec F S16 .f32) {Q : PUnit → sProp 𝕄} :
    Hold d (cc := cc) (jj := jj) out fullShare v
      ⊢ iprop((Hold d (cc := cc) (jj := jj) out fullShare
            (fun y => if (y 0).val = n ∧ (y 1).val / 16 = q then x (ln (y 1).val) else v y) -∗ Q ⟨⟩)
          -∗ wpT (F := F) (cc := cc) (jj := jj) d (putOut out n hn (16 * q) hq x) Q) := by
  iintro H Hk
  unfold putOut wpT
  simp only [wp_bind]
  iapply (Hold.load d (m := out)) $$ H
  iintro H
  iapply (Hold.store d (m := out) (v := v) (fun y => if (y 0).val = n ∧ (y 1).val / 16 = q then x (ln (y 1).val) else v y) ?_ ?_) $$ H
  · intro i
    have hi0 : (i 0).val < 1 := (i 0).isLt
    have hi : (i 1).val < 16 := (i 1).isLt
    have e0 : (((rOut n hn (16 * q) hq).emb i) 0).val = n := by
      show n + 1 * (i 0).val = _; omega
    have e1 : (((rOut n hn (16 * q) hq).emb i) 1).val = 16 * q + (i 1).val := by
      show 16 * q + 1 * (i 1).val = _; omega
    simp only [e0, e1]
    rw [if_pos ⟨trivial, by omega⟩]
    refine ((shapeCast_apply (s := S16) (t := S1x16) x shapeCasts_S16_S1x16 i (ln (16 * q + (i 1).val)) ?_).symm)
    rw [Shape.rowMajor_val_two, Shape.rowMajor_val_one]
    show (16 * q + (i 1).val) % 16 = (i 0).val * 16 + (i 1).val
    omega
  · intro y hy
    rw [Rect.mem_set_unit] at hy
    simp only
    rw [if_neg]
    rintro ⟨h1, h2⟩
    exact hy fun a => by
      match a with
      | 0 =>
        show n ≤ (y 0).val ∧ (y 0).val < n + 1
        omega
      | 1 =>
        show 16 * q ≤ (y 1).val ∧ (y 1).val < 16 * q + 16
        omega
  iintro H
  iapply Hk
  iexact H

theorem putRow_spec {v : S32x96.Idx → F .f32} {n : ℕ} (hn : n < 32) (A : ℕ → FVec F S16 .f32) (inv : FVec F S16 .f32) {Q : PUnit → sProp 𝕄} :
    Hold d (cc := cc) (jj := jj) out fullShare v
      ⊢ iprop((Hold d (cc := cc) (jj := jj) out fullShare
            (fun y => if (y 0).val = n then mulf (A ((y 1).val / 16)) inv (ln (y 1).val) else v y) -∗ Q ⟨⟩)
          -∗ wpT (F := F) (cc := cc) (jj := jj) d (putRow out n hn (six A) inv) Q) := by
  iintro H Hk
  unfold putRow six wpT
  simp only [wp_bind]
  iapply (putOut_spec d (out := out) hn 0 _) $$ H
  iintro H
  iapply (putOut_spec d (out := out) hn 1 _) $$ H
  iintro H
  iapply (putOut_spec d (out := out) hn 2 _) $$ H
  iintro H
  iapply (putOut_spec d (out := out) hn 3 _) $$ H
  iintro H
  iapply (putOut_spec d (out := out) hn 4 _) $$ H
  iintro H
  iapply (putOut_spec d (out := out) hn 5 _) $$ H
  iintro H
  iapply (wpT_pure d)
  iapply Hk
  have e : (fun y : S32x96.Idx => if (y 0).val = n ∧ (y 1).val / 16 = 5 then mulf (A 5) inv (ln (y 1).val)
      else if (y 0).val = n ∧ (y 1).val / 16 = 4 then mulf (A 4) inv (ln (y 1).val)
      else if (y 0).val = n ∧ (y 1).val / 16 = 3 then mulf (A 3) inv (ln (y 1).val)
      else if (y 0).val = n ∧ (y 1).val / 16 = 2 then mulf (A 2) inv (ln (y 1).val)
      else if (y 0).val = n ∧ (y 1).val / 16 = 1 then mulf (A 1) inv (ln (y 1).val)
      else if (y 0).val = n ∧ (y 1).val / 16 = 0 then mulf (A 0) inv (ln (y 1).val) else v y)
      = fun y => if (y 0).val = n then mulf (A ((y 1).val / 16)) inv (ln (y 1).val) else v y := by
    funext y
    have h1 : (y 1).val < 96 := (y 1).isLt
    by_cases h0 : (y 0).val = n
    · have h6 : (y 1).val / 16 < 6 := by omega
      simp only [h0, _root_.true_and, if_true]
      interval_cases (y 1).val / 16 <;> rfl
    · simp only [h0, _root_.false_and, if_false]
  rw [← e]
  iexact H

end Out

end

end Cert.Tile
-- ==== Proof.Half.lean ====
/-
  The two halves of a patch: the map's whole slice is the map, the patch is its two halves, and a gathered half holds the
  rows its list names.
-/
module

public import proofs.«01_k».proof.Proof.Row

@[expose] public section

set_option maxHeartbeats 1000000

noncomputable section

namespace Cert.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

section

variable (d : Dev nD) {cc : Fin τ.nSC} {jj : Fin τ.nSub}

section Whole

variable {sp : Space} {s : Shape} {e : EltTy} (m : Memref sig .scVector sp s e)

/-- A slice that starts at zero and takes every entry names the view's own elements. -/
theorem slice_all_emb {off : Fin s.rank → ℕ} (h0 : ∀ a, off a = 0) (hb) (h1) (x : s.Idx) :
    (m.slice (Rect.unit (s := s) off s.size hb) h1).view.emb x = m.view.emb x := by
  show m.view.emb ((Rect.unit (s := s) off s.size hb).emb x) = _
  congr 1
  funext a
  apply Fin.ext
  show off a + 1 * (x a).val = _
  rw [h0]; omega
theorem slice_all_set {off : Fin s.rank → ℕ} (h0 : ∀ a, off a = 0) (hb) (h1) :
    (m.slice (Rect.unit (s := s) off s.size hb) h1).view.set = m.view.set := by
  show Finset.univ.map _ = Finset.univ.map _
  congr 1
  exact Function.Embedding.ext fun x => slice_all_emb m h0 hb h1 x

end Whole

theorem zero2 (a : Fin 2) : (![0, 0] : Fin 2 → ℕ) a = 0 := by
  match a with
  | 0 => rfl
  | 1 => rfl

variable {inp : Memref sig .scVector .hbm S16384x128 .f32} {patch : Memref sig .scVector .vmem S256x128 .f32}

theorem inpAll_set : (inpAll inp).view.set = inp.view.set := slice_all_set inp zero2 _ _
theorem inpAll_read (f : inp.view.ty.Contents (Elt F)) : (inpAll inp).view.read (Elt F) f = inp.view.read (Elt F) f := by
  funext x
  show cast _ (f ((inpAll inp).view.emb x)) = cast _ (f (inp.view.emb x))
  congr 2
  exact slice_all_emb inp zero2 _ _ x

/-- The halves' entries in the patch. -/
theorem lo_emb (y : S256x128.Idx) (h : (y 0).val < 128) :
    (Rect.unit (s := S256x128) ![0, 0] S128x128.size inb_S256x128_S128x128_0_0).emb (ix2 ⟨(y 0).val, h⟩ (y 1)) = y := by
  funext a
  apply Fin.ext
  match a with
  | 0 => show 0 + 1 * (y 0).val = _; omega
  | 1 => show 0 + 1 * (y 1).val = _; omega
theorem hi_emb (y : S256x128.Idx) (h : 128 ≤ (y 0).val) :
    (Rect.unit (s := S256x128) ![128, 0] S128x128.size inb_S256x128_S128x128_128_0).emb
      (ix2 ⟨(y 0).val - 128, by have : (y 0).val < 256 := (y 0).isLt; omega⟩ (y 1)) = y := by
  funext a
  apply Fin.ext
  match a with
  | 0 => show 128 + 1 * ((y 0).val - 128) = _; omega
  | 1 => show 0 + 1 * (y 1).val = _; omega

theorem halves_disjoint : Disjoint (patchLo patch).view.set (patchHi patch).view.set := by
  refine Finset.disjoint_left.mpr fun i hi hi' => ?_
  obtain ⟨x, -, rfl⟩ := Finset.mem_map.mp hi
  obtain ⟨x', -, he⟩ := Finset.mem_map.mp hi'
  have e := congrArg (fun y : S256x128.Idx => (y 0).val) (patch.view.emb.injective he)
  have e' : 128 + 1 * (x' 0).val = 0 + 1 * (x 0).val := e
  have : (x 0).val < 128 := (x 0).isLt
  omega
theorem halves_union : (patchLo patch).view.set ∪ (patchHi patch).view.set = patch.view.set := by
  ext i
  rw [Finset.mem_union]
  constructor
  · rintro (h | h)
    · obtain ⟨x, -, rfl⟩ := Finset.mem_map.mp h
      exact Finset.mem_map.mpr ⟨_, Finset.mem_univ _, rfl⟩
    · obtain ⟨x, -, rfl⟩ := Finset.mem_map.mp h
      exact Finset.mem_map.mpr ⟨_, Finset.mem_univ _, rfl⟩
  · intro h
    obtain ⟨y, -, rfl⟩ := Finset.mem_map.mp h
    by_cases hy : (y 0).val < 128
    · left; exact Finset.mem_map.mpr ⟨_, Finset.mem_univ _, congrArg patch.view.emb (lo_emb y hy)⟩
    · right; exact Finset.mem_map.mpr ⟨_, Finset.mem_univ _, congrArg patch.view.emb (hi_emb y (by omega))⟩

/-- A patch is its halves. -/
theorem patch_split (f : Buf (Elt F) (patch.view.loc (V d cc jj))) :
    (patch.view.loc (V d cc jj) ↦[patch.view.set]{fullShare} f : sProp 𝕄)
      ⊢ iprop(((patchLo patch).view.loc (V d cc jj) ↦[(patchLo patch).view.set]{fullShare} f)
          ∗ ((patchHi patch).view.loc (V d cc jj) ↦[(patchHi patch).view.set]{fullShare} f)) := by
  rw [← halves_union (patch := patch)]
  exact (pointsTo_union halves_disjoint).1

/-- Its halves are the patch. -/
theorem patch_join (f g : Buf (Elt F) (patch.view.loc (V d cc jj))) :
    iprop(((patchLo patch).view.loc (V d cc jj) ↦[(patchLo patch).view.set]{fullShare} f)
        ∗ ((patchHi patch).view.loc (V d cc jj) ↦[(patchHi patch).view.set]{fullShare} g))
      ⊢ (iprop(∃ v, ⌜(∀ (y : S256x128.Idx) (h : (y 0).val < 128), v y = (patchLo patch).view.read (Elt F) f (ix2 ⟨(y 0).val, h⟩ (y 1)))
          ∧ ∀ (y : S256x128.Idx) (h : 128 ≤ (y 0).val), v y = (patchHi patch).view.read (Elt F) g
              (ix2 ⟨(y 0).val - 128, by have : (y 0).val < 256 := (y 0).isLt; omega⟩ (y 1))⌝
          ∗ Hold (F := F) d (cc := cc) (jj := jj) patch fullShare v) : sProp 𝕄) := by
  refine (pointsTo_join (halves_disjoint (patch := patch))).trans ?_
  rw [halves_union]
  iintro H
  iexists _; isplitr; swap
  · iapply (Hold.intro d (m := patch)) $$ H
  ipureintro
  constructor
  · intro y h
    have e : (patchLo patch).view.read (Elt F) ((patchHi patch).view.set.piecewise g f) = (patchLo patch).view.read (Elt F) f :=
      View.read_congr fun i hi => Finset.piecewise_eq_of_notMem _ _ _ (Finset.disjoint_left.mp halves_disjoint hi)
    rw [← e]
    show _ = patch.view.read (Elt F) _ ((Rect.unit (s := S256x128) ![0, 0] S128x128.size inb_S256x128_S128x128_0_0).emb _)
    rw [lo_emb y h]
  · intro y h
    have e : (patchHi patch).view.read (Elt F) ((patchHi patch).view.set.piecewise g f) = (patchHi patch).view.read (Elt F) g :=
      View.read_congr fun i hi => Finset.piecewise_eq_of_mem _ _ _ hi
    rw [← e]
    show _ = patch.view.read (Elt F) _ ((Rect.unit (s := S256x128) ![128, 0] S128x128.size inb_S256x128_S128x128_128_0).emb _)
    rw [hi_emb y h]

/-- What a half holds after its gather: at row `r` the map's row the list's entry `r` names. -/
theorem gathered (vi : S16384x128.Idx → F .f32) (l : S128.Idx → BitVec 32) (hin : ∀ x, (l x).toNat < 16384) (r : Fin 128) (k : Fin 128) :
    SparseCore.gatherPayload (F := F) (e := .f32) gathers_S16384x128_S128x128 vi
        (SparseCore.rows (F := F) (si := S128) (z := 16384) (o := 128) l rfl hin) (ix2 r k)
      = vi (ix2 ⟨(l (ix1 r)).toNat, hin _⟩ k) := by
  unfold SparseCore.gatherPayload
  congr 1
  funext a
  match a with
  | 0 =>
    apply Fin.ext
    rw [show (gathers_S16384x128_S128x128.idx (SparseCore.rows (F := F) (si := S128) (z := 16384) (o := 128) l rfl hin) (ix2 r k) 0)
      = SparseCore.rows (F := F) (si := S128) (z := 16384) (o := 128) l rfl hin r from rfl]
    show (l _).toNat = (l _).toNat
    congr 2
    apply S128.rowMajor.injective
    rw [Equiv.apply_symm_apply]
    apply Fin.ext
    rw [Shape.rowMajor_val_one]
    rfl
  | 1 => rfl

end

end Cert.Tile
-- ==== Proof.Gather.lean ====
/-
  The gathers of one row and their waits. Both gathers of a tall box credit one semaphore, so its 256 rows are one batch:
  each row is delivered on its own, two waits take half the credits each, and after both every row is there. A box of at
  most eight lines is one gather.
-/
module

public import proofs.«01_k».proof.Proof.Half

@[expose] public section

set_option maxHeartbeats 1000000

noncomputable section

namespace Cert.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (batchBody Batch)

variable {F : FTy → Type} [FloatOps F] [Named F]

local notation "𝕄" => MT nD τ sig (HIx 1) (Elt F) ℕ UU ℕ

abbrev gi : HIx 1 := default
abbrev gShape : S16384x128.Gathers 0 S128x128 := gathers_S16384x128_S128x128
/-- The rows of a half. -/
abbrev J : Type := Fin (S128x128.size gShape.axis')
theorem list_rows : S128.numel = S128x128.size gShape.axis' := rfl
/-- The entry of a list that row `j` reads. -/
abbrev ent (j : J) : S128.Idx := S128.rowMajor.symm (j.cast list_rows.symm)

theorem ent_bij : Function.Bijective ent := S128.rowMajor.symm.bijective.comp (finCongr list_rows.symm).bijective
theorem rows_pos : 0 < S128x128.size gShape.axis' := by decide

section

variable (d : Dev nD) {cc : Fin τ.nSC} {jj : Fin τ.nSub}

/-- The semaphore's cell. -/
abbrev cellOf (d : Dev nD) (cc : Fin τ.nSC) (jj : Fin τ.nSub) (sem : DmaSems sig S_) : GSem nD τ sig := (V d cc jj, SemLoc.dma sem.sem)

section One

variable (src : Memref sig .scVector .hbm S16384x128 .f32) (dst : Memref sig .scVector .vmem S128x128 .f32) (idx : Memref sig .scVector .vmem S128 .i32)
  (q : PosShare TreeShare) (fs : Buf (Elt F) (src.view.loc (V d cc jj))) (fd : Buf (Elt F) (dst.view.loc (V d cc jj)))
  (fo : Buf (Elt F) (idx.view.loc (V d cc jj))) (hin : ∀ x, (idx.view.read (Elt F) fo x).toNat < S16384x128.size gShape.axis)

/-- The map's row that row `j` of the gather takes. -/
abbrev named : J → Fin (S16384x128.size gShape.axis) := SparseCore.rows (F := F) (si := S128) (idx.view.read (Elt F) fo) list_rows hin

theorem row_credit (j : J) : (dst.slice (S128x128.rowRect gShape.axis' j) (S128x128.stride_rowRect gShape.axis' j)).view.dmaCredit = 4096 := by
  have h : (dst.slice (S128x128.rowRect gShape.axis' j) (S128x128.stride_rowRect gShape.axis' j)).view.dmaCredit
      = (S128x128.rowShape gShape.axis').numel * EltTy.f32.bits := rfl
  rw [h]; decide
theorem half_credit : dst.view.dmaCredit = 128 * 4096 := by
  have h : dst.view.dmaCredit = S128x128.numel * EltTy.f32.bits := rfl
  rw [h]; decide

/-- One row served: the row written, the list's entry and a piece of the map's share back. -/
def served (j : J) : sProp 𝕄 :=
  iprop((dst.view.loc (V d cc jj) ↦[(dst.view.slice (S128x128.rowRect gShape.axis' j)).set]{fullShare}
      ((dst.view.slice (S128x128.rowRect gShape.axis' j)).write (Elt F) fd (fun i => src.view.read (Elt F) fs (gShape.rowIdx (named d idx fo hin j) i)) Finset.univ))
    ∗ (idx.view.loc (V d cc jj) ↦[{idx.view.emb (ent j)}]{fullShare} fo)
    ∗ (src.view.loc (V d cc jj) ↦[src.view.set]{pieceOf q _ rows_pos j} fs))

/-- The gathered half. -/
abbrev filled : Buf (Elt F) (dst.view.loc (V d cc jj)) :=
  dst.view.write (Elt F) fd (SparseCore.gatherPayload (F := F) (e := .f32) gShape (src.view.read (Elt F) fs) (named d idx fo hin)) Finset.univ

/-- All rows served: the half written, the list and the map's share back. -/
theorem served_all : bigSep Finset.univ (served d src dst idx q fs fd fo hin)
    ⊢ (iprop((dst.view.loc (V d cc jj) ↦[dst.view.set]{fullShare} filled d src dst idx fs fd fo hin)
        ∗ (idx.view.loc (V d cc jj) ↦[idx.view.set]{fullShare} fo) ∗ (src.view.loc (V d cc jj) ↦[src.view.set]{q} fs)) : sProp 𝕄) := by
  have hW : ∀ (j : J) i, src.view.read (Elt F) fs (gShape.rowIdx (named d idx fo hin j) i)
      = SparseCore.gatherPayload (F := F) (e := .f32) gShape (src.view.read (Elt F) fs) (named d idx fo hin) ((S128x128.rowRect gShape.axis' j).emb i) := fun j i => by
    show _ = src.view.read (Elt F) fs (gShape.idx _ ((S128x128.rowRect gShape.axis' j).emb i))
    rw [Shape.Gathers.idx_rowRect_emb]
  have hw : bigSep Finset.univ (fun j : J => (dst.view.loc (V d cc jj) ↦[(dst.view.slice (S128x128.rowRect gShape.axis' j)).set]{fullShare}
        ((dst.view.slice (S128x128.rowRect gShape.axis' j)).write (Elt F) fd (fun i => src.view.read (Elt F) fs (gShape.rowIdx (named d idx fo hin j) i)) Finset.univ)))
      ⊢ (dst.view.loc (V d cc jj) ↦[dst.view.set]{fullShare} filled d src dst idx fs fd fo hin : sProp 𝕄) :=
    pointsTo_rows_write (V d cc jj) dst.view gShape.axis' fd _ _ hW
  unfold served
  iintro H
  ihave H1 := Transfers.bigSep_sep_out _ _ _ $$ H
  icases H1 with ⟨Hd, H2⟩
  ihave H3 := Transfers.bigSep_sep_out _ _ _ $$ H2
  icases H3 with ⟨Ho, Hs⟩
  isplitl [Hd]
  · iapply hw $$ Hd
  isplitl [Ho]
  · iapply (Entails.of_eq (pointsTo_entries (V d cc jj) idx.view ent ent_bij fullShare fo).symm) $$ Ho
  · iapply (Entails.of_eq (pointsTo_piecesOf src.view.set fs rows_pos q).symm) $$ Hs

variable {src dst idx q fs fd fo}

/-- A gather whose rows are credited by `R`: what is held of the map, the half and the list goes into the rows, and the
    credits of a whole half come back. -/
theorem gatherRows {sem : DmaSems sig S_} {α : Type} {R : J → sProp 𝕄} {B : sProp 𝕄} [BI.Persistent B]
    (hR : ∀ j, iprop(B ∗ R j) ⊢ creditUpdate (cellOf d cc jj sem) 4096 0 (served d src dst idx q fs fd fo hin j))
    {hsrc} {hn : S128.numel = S128x128.size gShape.axis'} {hp} {he} {hsp} {hr} {k : PUnit → PR F cc jj α} {Q : α → sProp 𝕄} :
    iprop(B ∗ bigSep Finset.univ R ∗ (src.view.loc (V d cc jj) ↦[src.view.set]{q} fs) ∗ (dst.view.loc (V d cc jj) ↦[dst.view.set]{fullShare} fd)
        ∗ (idx.view.loc (V d cc jj) ↦[idx.view.set]{fullShare} fo))
      ⊢ iprop((cred (tallyAt (cellOf d cc jj sem) gi (128 * 4096)) -∗ wpT (F := F) (cc := cc) (jj := jj) d (k ⟨⟩) Q)
          -∗ wpT (F := F) (cc := cc) (jj := jj) d
              (SparseCore.enqueueIndirectGather hp src dst gShape idx hn sem.sem hsrc he hsp hr >>= k) Q) := by
  have hj : ∀ j : J, iprop(B ∗ (((dst.view.loc (V d cc jj) ↦[(dst.view.slice (S128x128.rowRect gShape.axis' j)).set]{fullShare} fd)
        ∗ ((idx.view.loc (V d cc jj) ↦[{idx.view.emb (ent j)}]{fullShare} fo)
          ∗ (src.view.loc (V d cc jj) ↦[src.view.set]{pieceOf q _ rows_pos j} fs))) ∗ R j))
      ⊢ iprop((idx.view.loc (V d cc jj) ↦[{idx.view.emb (ent j)}]{fullShare} fo)
        ∗ ((idx.view.loc (V d cc jj) ↦[{idx.view.emb (ent j)}]{fullShare} fo)
          -∗ rowRes (V d cc jj) (SparseCore.gatherRow (V d cc jj) src dst gShape sem.sem hsrc he hsp hr j (named d idx fo hin j)))) := fun j => by
    have hc : iprop(B ∗ R j) ⊢ creditUpdate (cellOf d cc jj sem) (dst.slice (S128x128.rowRect gShape.axis' j) (S128x128.stride_rowRect gShape.axis' j)).view.dmaCredit 0
        iprop(((dst.view.loc (V d cc jj) ↦[(dst.view.slice (S128x128.rowRect gShape.axis' j)).set]{fullShare}
            ((dst.view.slice (S128x128.rowRect gShape.axis' j)).write (Elt F) fd (fun i => src.view.read (Elt F) fs (gShape.rowIdx (named d idx fo hin j) i)) Finset.univ))
          ∗ (idx.view.loc (V d cc jj) ↦[{idx.view.emb (ent j)}]{fullShare} fo)) ∗ (src.view.loc (V d cc jj) ↦[src.view.set]{pieceOf q _ rows_pos j} fs)) := by
      rw [row_credit]
      refine (hR j).trans (Transfers.creditUpdate_anti ?_)
      unfold served
      iintro ⟨⟨H1, H2⟩, H3⟩
      isplitl [H1]; · iexact H1
      isplitl [H2] <;> iassumption
    iintro ⟨#HB, ⟨Hr, He, Hq⟩, HRj⟩
    isplitl [He]; · iexact He
    iintro He
    unfold rowRes
    iexists pieceOf q _ rows_pos j, fs, iprop((dst.view.loc (V d cc jj) ↦[(dst.view.slice (S128x128.rowRect gShape.axis' j)).set]{fullShare}
      ((dst.view.slice (S128x128.rowRect gShape.axis' j)).write (Elt F) fd (fun i => src.view.read (Elt F) fs (gShape.rowIdx (named d idx fo hin j) i)) Finset.univ))
      ∗ (idx.view.loc (V d cc jj) ↦[{idx.view.emb (ent j)}]{fullShare} fo))
    isplitl [Hq]; · iexact Hq
    isplitl [Hr He]
    · iapply writeUpdate_frame
      isplitl [Hr]
      · iapply (pointsTo_writeUpdate (V d cc jj) (v := dst.view.slice (S128x128.rowRect gShape.axis' j)) subset_rfl) $$ Hr
      · iexact He
    · iapply hc
      isplitr
      · iexact HB
      · iexact HRj
  iintro ⟨#HB, HR, Hs, Hd, Ho⟩ Hk
  unfold wpT
  rw [SparseCore.enqueueIndirectGather_bind (c := V d cc jj)]
  ihave Hd' := (Entails.of_eq (pointsTo_rows (V d cc jj) dst.view gShape.axis' fullShare fd)) $$ Hd
  ihave Ho' := (Entails.of_eq (pointsTo_entries (V d cc jj) idx.view ent ent_bij fullShare fo)) $$ Ho
  ihave Hs' := (Entails.of_eq (pointsTo_piecesOf src.view.set fs rows_pos q)) $$ Hs
  iapply (wp_enqueueIndirectDma 𝒱₀ (V d cc jj) none Set.univ (qo := fullShare) (fo := fo)
    (rd := fun j => SparseCore.gatherRow (V d cc jj) src dst gShape sem.sem hsrc he hsp hr j (named d idx fo hin j)) gi (128 * 4096) ?_ ?_ ?_) $$ [HR Hd' Ho' Hs']
  · intro j x x' ρ ρ' h h'
    obtain ⟨_, _, rfl⟩ := Option.map_eq_some_iff.mp h
    obtain ⟨_, _, rfl⟩ := Option.map_eq_some_iff.mp h'
    rfl
  · intro j
    change (SparseCore.rowOf (S16384x128.size gShape.axis) (idx.view.read (Elt F) fo (ent j))).map _ = _
    rw [SparseCore.rowOf_of_lt (hin _)]; rfl
  · exact SparseCore.sum_rowCredit_eq (n := 128) (K := 4096) _ (fun j => row_credit dst j) rfl
  · unfold Stream.res
    ihave H1 := Transfers.bigSep_sep_in _ _ _ $$ [Ho' Hs']; · isplitl [Ho'] <;> iassumption
    ihave H2 := Transfers.bigSep_sep_in _ _ _ $$ [Hd' H1]; · isplitl [Hd'] <;> iassumption
    ihave H3 := Transfers.bigSep_sep_in _ _ _ $$ [H2 HR]; · isplitl [H2] <;> iassumption
    iapply (Transfers.bigSep_mono_pers Finset.univ B _ _ fun j _ => hj j)
    isplitr
    · iexact HB
    · iexact H3
  · iintro Hc
    iapply Hk
    iexact Hc

end One

section Two

variable {inp : Memref sig .scVector .hbm S16384x128 .f32} {patch : Memref sig .scVector .vmem S256x128 .f32} {ia0 ia1 : Memref sig .scVector .vmem S128 .i32}
  {sem : DmaSems sig S_} {q : PosShare TreeShare} {vi : S16384x128.Idx → F .f32} {c : Lane} {h : BitVec 32}

/-- The patch of the box whose corner's vector is `c`. -/
def patchFrom (vi : S16384x128.Idx → F .f32) (c : Lane) : Patch F := fun j l k =>
  vi (ix2 ⟨(lineOf c j (ln l)).toNat, lineOf_lt _ _ _⟩ ⟨k % 128, Nat.mod_lt _ (by decide)⟩)
theorem patchOf_eq (vi : S16384x128.Idx → F .f32) (b x1 y1 : BitVec 32) : patchOf vi b x1 y1 = patchFrom vi (corner b x1 y1) := rfl

theorem list_in {l : S128.Idx → BitVec 32} {c : Lane} {e : ℕ} (hl : ListIs (fun j => lineOf c (j + e)) 8 l) (x : S128.Idx) :
    (l x).toNat < S16384x128.size gShape.axis := by
  have hx : (x 0).val < 128 := (x 0).isLt
  rw [hl x (by omega)]
  exact lineOf_lt _ _ _

/-- A gathered half's entries are the patch's. -/
theorem half_is {l : S128.Idx → BitVec 32} {e : ℕ} (hl : ListIs (fun j => lineOf c (j + e)) 8 l)
    (hin : ∀ x, (l x).toNat < S16384x128.size gShape.axis) (r k : Fin 128) :
    SparseCore.gatherPayload (F := F) (e := .f32) gShape vi (SparseCore.rows (F := F) (si := S128) l list_rows hin) (ix2 r k)
      = patchFrom vi c (r.val / 16 + e) (r.val % 16) k.val := by
  refine (gathered vi l hin r k).trans ?_
  unfold patchFrom
  congr 1
  funext a
  match a with
  | 0 =>
    apply Fin.ext
    show (l (ix1 r)).toNat = _
    rw [hl (ix1 r) (by show r.val < 16 * 8; omega)]
    rfl
  | 1 => exact Fin.ext (Nat.mod_eq_of_lt k.isLt).symm

/-- What the waits leave: the map's share, the patch's lines, the lists. -/
def Landed (d : Dev nD) {cc : Fin τ.nSC} {jj : Fin τ.nSub} (inp : Memref sig .scVector .hbm S16384x128 .f32) (patch : Memref sig .scVector .vmem S256x128 .f32)
    (ia0 ia1 : Memref sig .scVector .vmem S128 .i32) (q : PosShare TreeShare) (vi : S16384x128.Idx → F .f32) (c : Lane) (h : BitVec 32) : sProp 𝕄 :=
  iprop(Hold (F := F) d (cc := cc) (jj := jj) inp q vi
    ∗ (∃ vp, ⌜PatchIs (patchFrom vi c) (if tall h = 1#1 then 16 else 8) vp⌝ ∗ Hold (F := F) d (cc := cc) (jj := jj) patch fullShare vp)
    ∗ (∃ l, Hold (F := F) d (cc := cc) (jj := jj) ia0 fullShare l) ∗ (∃ l, Hold (F := F) d (cc := cc) (jj := jj) ia1 fullShare l))

/-- The rows of two halves. -/
abbrev NN : ℕ := S128x128.size gShape.axis' + S128x128.size gShape.axis'

/-- A row's gathers under way: one half in flight, or a batch of both halves' rows. -/
def Flying (d : Dev nD) {cc : Fin τ.nSC} {jj : Fin τ.nSub} (inp : Memref sig .scVector .hbm S16384x128 .f32) (patch : Memref sig .scVector .vmem S256x128 .f32)
    (ia0 ia1 : Memref sig .scVector .vmem S128 .i32) (sem : DmaSems sig S_) (q : PosShare TreeShare) (vi : S16384x128.Idx → F .f32) (c : Lane)
    (h : BitVec 32) : sProp 𝕄 :=
  iprop((⌜¬ tall h = 1#1⌝ ∗ ∃ D : sProp 𝕄, Transfers.Flight countersEmb (V d cc jj) (.dma sem.sem) gi (128 * 4096) D
      ∗ (D -∗ Landed (F := F) d (cc := cc) (jj := jj) inp patch ia0 ia1 q vi c h))
    ∨ (⌜tall h = 1#1⌝ ∗ ∃ D : Fin NN → sProp 𝕄, Batch countersEmb (V d cc jj) (.dma sem.sem) gi 4096 D NN 0
      ∗ (bigSep Finset.univ D -∗ Landed (F := F) d (cc := cc) (jj := jj) inp patch ia0 ia1 q vi c h)))

theorem two_halves (D : Fin NN → sProp 𝕄) :
    bigSep Finset.univ D = iprop(bigSep Finset.univ (fun j : J => D (Fin.castAdd _ j)) ∗ bigSep Finset.univ (fun j : J => D (Fin.natAdd _ j))) := by
  have hu : (Finset.univ : Finset (Fin NN)) = Finset.univ.map (Fin.castAddEmb _) ∪ Finset.univ.map (Fin.natAddEmb _) := by
    ext t
    simp only [Finset.mem_univ, Finset.mem_union, Finset.mem_map, _root_.true_and, true_iff]
    exact Fin.addCases (fun j => Or.inl ⟨j, rfl⟩) (fun j => Or.inr ⟨j, rfl⟩) t
  have hd : Disjoint (Finset.univ.map (Fin.castAddEmb (S128x128.size gShape.axis')) : Finset (Fin NN)) (Finset.univ.map (Fin.natAddEmb _)) := by
    refine Finset.disjoint_left.mpr fun t h h' => ?_
    obtain ⟨j, -, rfl⟩ := Finset.mem_map.mp h
    obtain ⟨j', -, he⟩ := Finset.mem_map.mp h'
    have := congrArg Fin.val he
    have e : S128x128.size gShape.axis' + j'.val = j.val := this
    have := j.isLt
    omega
  rw [hu, BI.bigSep_union hd, BI.bigSep_map, BI.bigSep_map]
  rfl

instance served_storable {src : Memref sig .scVector .hbm S16384x128 .f32} {dst : Memref sig .scVector .vmem S128x128 .f32} {idx : Memref sig .scVector .vmem S128 .i32}
    {q fs fd fo hin j} : Storable (upEmb : UEmb _ 𝕄) (served (F := F) d (cc := cc) (jj := jj) src dst idx q fs fd fo hin j) := by
  unfold served; infer_instance

/-- One family of rows after another. -/
def both (A B : J → sProp 𝕄) : Fin NN → sProp 𝕄 := Fin.addCases A B
theorem both_lo (A B : J → sProp 𝕄) (j : J) : both A B (Fin.castAdd _ j) = A j := Fin.addCases_left j
theorem both_hi (A B : J → sProp 𝕄) (j : J) : both A B (Fin.natAdd _ j) = B j := Fin.addCases_right j
theorem both_all (A B : J → sProp 𝕄) : bigSep Finset.univ (both A B) = iprop(bigSep Finset.univ A ∗ bigSep Finset.univ B) := by
  rw [two_halves, show (fun j => both A B (Fin.castAdd _ j)) = A from funext (both_lo A B),
    show (fun j => both A B (Fin.natAdd _ j)) = B from funext (both_hi A B)]
instance both_storable {A B : J → sProp 𝕄} [hA : ∀ j, Storable (upEmb : UEmb _ 𝕄) (A j)] [hB : ∀ j, Storable (upEmb : UEmb _ 𝕄) (B j)] (t : Fin NN) :
    Storable (upEmb : UEmb _ 𝕄) (both A B t) :=
  Fin.addCases (motive := fun t => Storable (upEmb : UEmb _ 𝕄) (both A B t)) (fun j => by rw [both_lo]; exact hA j) (fun j => by rw [both_hi]; exact hB j) t

/-- The gathers of one row, begun. -/
theorem issue_spec {l0 l1 : S128.Idx → BitVec 32} (h0 : ListIs (fun j => lineOf c (j + 0)) 8 l0) (h1 : ListIs (fun j => lineOf c (j + 8)) 8 l1)
    {α : Type} {rest : PUnit → PR F cc jj α} {Q : α → sProp 𝕄} :
    iprop(Hold (F := F) d (cc := cc) (jj := jj) inp q vi ∗ (∃ vp, Hold (F := F) d (cc := cc) (jj := jj) patch fullShare vp)
        ∗ Hold (F := F) d (cc := cc) (jj := jj) ia0 fullShare l0 ∗ Hold (F := F) d (cc := cc) (jj := jj) ia1 fullShare l1 ∗ semVal (cellOf d cc jj sem) 0)
      ⊢ iprop((Flying (F := F) d (cc := cc) (jj := jj) inp patch ia0 ia1 sem q vi c h -∗ wpT (F := F) (cc := cc) (jj := jj) d (rest ⟨⟩) Q)
          -∗ wpT (F := F) (cc := cc) (jj := jj) d
              (gatherInto inp (patchLo patch) ia0 sem >>= fun _ => whenTall h (gatherInto inp (patchHi patch) ia1 sem >>= fun _ => pure ⟨⟩) rest) Q) := by
  iintro ⟨Hi, ⟨%vp, Hp⟩, H0, H1, Hv⟩ Hk
  unfold Hold
  icases Hi with ⟨%fs, %hfs, Hi⟩
  icases Hp with ⟨%fp, %hfp, Hp⟩
  icases H0 with ⟨%f0, %hf0, H0⟩
  icases H1 with ⟨%f1, %hf1, H1⟩
  subst hfs hf0 hf1
  rw [← inpAll_set (inp := inp)]
  ihave Hp' := (patch_split d fp) $$ Hp
  icases Hp' with ⟨Hlo, Hhi⟩
  by_cases ht : tall h = 1#1
  · let A : J → sProp 𝕄 := served (F := F) d (inpAll inp) (patchLo patch) ia0 q.left fs fp f0 (list_in h0)
    let B : J → sProp 𝕄 := served (F := F) d (inpAll inp) (patchHi patch) ia1 q.right fs fp f1 (list_in h1)
    have hprog : (whenTall h (gatherInto inp (patchHi patch) ia1 sem >>= fun _ => pure ⟨⟩) rest : PR F cc jj α)
        = gatherInto inp (patchHi patch) ia1 sem >>= fun _ => rest ⟨⟩ := by
      unfold whenTall; rw [if_pos ht]; rfl
    rw [hprog]
    imod (Transfers.batch_alloc countersEmb 4096 (both A B) (g := cellOf d cc jj sem) (E := Set.univ)) $$ Hv with ⟨%γ, %γ₀, %κ, #Hinv, Hc, Hs⟩
    ihave Hs' := (Entails.of_eq (two_halves _)) $$ Hs
    icases Hs' with ⟨Ha, Hb⟩
    ihave Hi' := (pointsTo_share (PosShare.mem_left_op_right q)).1 $$ Hi
    icases Hi' with ⟨Hil, Hir⟩
    unfold gatherInto
    iapply (gatherRows d (src := inpAll inp) (dst := patchLo patch) (idx := ia0) (list_in h0) (q := q.left) (fs := fs) (fd := fp) (sem := sem) (B := inv κ (batchBody countersEmb (cellOf d cc jj sem) 4096 (both A B) γ γ₀))
      (R := fun j => Idealize.SL.ExclCount.count countersEmb (γ (Fin.castAdd _ j)) 0) (fun j => ?_)) $$ [Ha Hil Hlo H0]
    · exact Transfers.batch_creditUpdate countersEmb (Fin.castAdd _ j) (Entails.of_eq (both_lo A B j).symm)
    · isplitr; · iexact Hinv
      isplitl [Ha]; · iexact Ha
      isplitl [Hil]; · iexact Hil
      isplitl [Hlo] <;> iassumption
    iintro Hcr
    iapply (gatherRows d (src := inpAll inp) (dst := patchHi patch) (idx := ia1) (list_in h1) (q := q.right) (fs := fs) (fd := fp) (sem := sem) (B := inv κ (batchBody countersEmb (cellOf d cc jj sem) 4096 (both A B) γ γ₀))
      (R := fun j => Idealize.SL.ExclCount.count countersEmb (γ (Fin.natAdd _ j)) 0) (fun j => ?_)) $$ [Hb Hir Hhi H1]
    · exact Transfers.batch_creditUpdate countersEmb (Fin.natAdd _ j) (Entails.of_eq (both_hi A B j).symm)
    · isplitr; · iexact Hinv
      isplitl [Hb]; · iexact Hb
      isplitl [Hir]; · iexact Hir
      isplitl [Hhi] <;> iassumption
    iintro Hcr'
    iapply Hk
    unfold Flying
    iright
    isplitr; · ipureintro; exact ht
    iexists both A B
    isplitl [Hc Hcr Hcr']
    · unfold Batch
      iexists γ, γ₀, κ
      isplitr; · iexact Hinv
      isplitr
      · have hp : Transfers.pending (n := NN) NN = ∅ := by
          ext t
          have := t.isLt
          simp only [Transfers.pending, Finset.mem_filter, Finset.mem_univ, _root_.true_and, Finset.notMem_empty, iff_false]
          omega
        rw [hp, BI.bigSep_empty]
        iempintro
      isplitl [Hc]; · iexact Hc
      rw [show NN * 4096 - 0 = 128 * 4096 + 128 * 4096 by decide, ← tallyAt_add]
      isplitl [Hcr] <;> iassumption
    iintro HD
    ihave HD' := (Entails.of_eq (both_all A B)) $$ HD
    icases HD' with ⟨HA, HB⟩
    ihave HA' := (served_all d (inpAll inp) (patchLo patch) ia0 q.left fs fp f0 (list_in h0)) $$ HA
    ihave HB' := (served_all d (inpAll inp) (patchHi patch) ia1 q.right fs fp f1 (list_in h1)) $$ HB
    icases HA' with ⟨Hlo, H0, Hil⟩
    icases HB' with ⟨Hhi, H1, Hir⟩
    unfold Landed
    isplitl [Hil Hir]
    · ihave Hi := (pointsTo_share (PosShare.mem_left_op_right q)).2 $$ [Hil Hir]; · isplitl [Hil] <;> iassumption
      rw [inpAll_set]
      iapply (Hold.intro d (m := inp)) $$ Hi
    isplitl [Hlo Hhi]
    · ihave Hp := (patch_join d _ _) $$ [Hlo Hhi]; · isplitl [Hlo] <;> iassumption
      icases Hp with ⟨%v, %hv, Hp⟩
      iexists v
      isplitr; swap
      · iexact Hp
      ipureintro
      rw [if_pos ht]
      intro y _
      have hy : (y 1).val < 128 := (y 1).isLt
      by_cases hlo : (y 0).val < 128
      · rw [hv.1 y hlo, View.read_write_univ, inpAll_read]
        exact half_is h0 (list_in h0) _ _
      · have hy0 : (y 0).val < 256 := (y 0).isLt
        rw [hv.2 y (by omega), View.read_write_univ, inpAll_read]
        refine (half_is h1 (list_in h1) _ _).trans ?_
        rw [show ((y 0).val - 128) / 16 + 8 = (y 0).val / 16 by omega, show ((y 0).val - 128) % 16 = (y 0).val % 16 by omega]
    isplitl [H0]
    · iexists _; iapply (Hold.intro d (m := ia0)) $$ H0
    · iexists _; iapply (Hold.intro d (m := ia1)) $$ H1
  · have hprog : (whenTall h (gatherInto inp (patchHi patch) ia1 sem >>= fun _ => pure ⟨⟩) rest : PR F cc jj α) = rest ⟨⟩ := by
      unfold whenTall; rw [if_neg ht]
    rw [hprog]
    unfold gatherInto wpT
    iapply (SparseCore.wp_indirectGatherLocal countersEmb 𝒱₀ (V d cc jj) none (hg := gShape) gi (128 * 4096)
      (SparseCore.sum_rowCredit_eq (n := 128) (K := 4096) _ (fun j => row_credit (patchLo patch) j) rfl) (by decide) (list_in h0)) $$ [Hi Hlo H0 Hv]
    · isplitl [Hi]; · iexact Hi
      isplitl [Hlo]; · iexact Hlo
      isplitl [H0] <;> iassumption
    iintro Hf
    iapply Hk
    unfold Flying
    ileft
    isplitr; · ipureintro; exact ht
    iexists _
    isplitl [Hf]; · iexact Hf
    iintro ⟨Hlo, Hi, H0⟩
    unfold Landed
    isplitl [Hi]
    · rw [inpAll_set]
      iapply (Hold.intro d (m := inp)) $$ Hi
    isplitl [Hlo Hhi]
    · ihave Hp := (patch_join d _ _) $$ [Hlo Hhi]; · isplitl [Hlo] <;> iassumption
      icases Hp with ⟨%v, %hv, Hp⟩
      iexists v
      isplitr; swap
      · iexact Hp
      ipureintro
      rw [if_neg ht]
      intro y hy8
      have hlo : (y 0).val < 128 := by omega
      rw [hv.1 y hlo, View.read_write_univ, inpAll_read]
      exact half_is h0 (list_in h0) _ _
    isplitl [H0]
    · iexists _; iapply (Hold.intro d (m := ia0)) $$ H0
    · iexists _; iapply (Hold.intro d (m := ia1)) $$ H1

/-- What a task owes, whatever waits of its own it has recorded. -/
def Owe (d : Dev nD) {cc : Fin τ.nSC} {jj : Fin τ.nSub} (O : CellTallies nD τ sig (HIx 1)) (W : Waits sig (HIx 1)) : sProp 𝕄 :=
  iprop(∃ W', ⌜∀ p ∈ W', p ∈ W ∨ p.2 = none⌝ ∗ owes (V d cc jj) O W')

theorem owe_insert {W W' : Waits sig (HIx 1)} {s : SemLoc sig} (h : ∀ p ∈ W', p ∈ W ∨ p.2 = none) :
    ∀ p ∈ insert (s, gi) W', p ∈ W ∨ p.2 = none := by
  intro p hp
  rcases Finset.mem_insert.mp hp with rfl | hp
  · exact Or.inr rfl
  · exact h p hp

/-- The waits of one row. -/
theorem wait_spec {O : CellTallies nD τ sig (HIx 1)} {W : Waits sig (HIx 1)} {α : Type} {rest : PUnit → PR F cc jj α} {Q : α → sProp 𝕄} :
    iprop(Flying (F := F) d (cc := cc) (jj := jj) inp patch ia0 ia1 sem q vi c h ∗ Owe (F := F) d (cc := cc) (jj := jj) O W
        ∗ Transfers.MayWaits (V d cc jj) gi O)
      ⊢ iprop(((Landed (F := F) d (cc := cc) (jj := jj) inp patch ia0 ia1 q vi c h ∗ Owe (F := F) d (cc := cc) (jj := jj) O W
            ∗ semVal (cellOf d cc jj sem) 0) -∗ wpT (F := F) (cc := cc) (jj := jj) d (rest ⟨⟩) Q)
          -∗ wpT (F := F) (cc := cc) (jj := jj) d
              (waitGather inp (patchLo patch) sem >>= fun _ => whenTall h (waitGather inp (patchHi patch) sem >>= fun _ => pure ⟨⟩) rest) Q) := by
  unfold Flying Owe
  iintro ⟨Hf, ⟨%W', %hW', HO⟩, #Hm⟩ Hk
  icases Hf with (⟨%ht, %D, Hf, HD⟩ | ⟨%ht, %D, Hf, HD⟩)
  · have hprog : (whenTall h (waitGather inp (patchHi patch) sem >>= fun _ => pure ⟨⟩) rest : PR F cc jj α) = rest ⟨⟩ := by
      unfold whenTall; rw [if_neg ht]
    rw [hprog]
    unfold waitGather wpT
    rw [SparseCore.waitIndirectGather_bind (c := V d cc jj)]
    iapply (Transfers.wp_waitLocalO countersEmb 𝒱₀ (V d cc jj) none gi (half_credit (patchLo patch))) $$ [Hf HO]
    · isplitl [Hf]; · iexact Hf
      isplitl [HO]; · iexact HO
      iapply (Transfers.MayWaits.elim (SemLoc.dma sem.sem)) $$ Hm
    iintro ⟨Hd, Hv, HO⟩
    iapply Hk
    isplitl [Hd HD]
    · iapply HD; iexact Hd
    isplitl [HO]
    · iexists _; isplitr; swap
      · iexact HO
      ipureintro; exact owe_insert hW'
    iexact Hv
  · have hprog : (whenTall h (waitGather inp (patchHi patch) sem >>= fun _ => pure ⟨⟩) rest : PR F cc jj α)
        = waitGather inp (patchHi patch) sem >>= fun _ => rest ⟨⟩ := by
      unfold whenTall; rw [if_pos ht]; rfl
    rw [hprog]
    unfold waitGather wpT
    rw [SparseCore.waitIndirectGather_bind (c := V d cc jj)]
    iapply (Transfers.wp_waitBatchMulO countersEmb 𝒱₀ (V d cc jj) none gi 128 (j := NN) (u := 0) (half_credit (patchLo patch)) (by decide)) $$ [Hf HO]
    · isplitl [Hf]; · iexact Hf
      isplitl [HO]; · iexact HO
      iapply (Transfers.MayWaits.elim (SemLoc.dma sem.sem)) $$ Hm
    iintro ⟨Hf, HO⟩
    rw [SparseCore.waitIndirectGather_bind (c := V d cc jj)]
    iapply (Transfers.wp_waitBatchMulO countersEmb 𝒱₀ (V d cc jj) none gi 128 (j := NN) (u := 0 + 128 * 4096) (half_credit (patchHi patch)) (by decide)) $$ [Hf HO]
    · isplitl [Hf]; · iexact Hf
      isplitl [HO]; · iexact HO
      iapply (Transfers.MayWaits.elim (SemLoc.dma sem.sem)) $$ Hm
    iintro ⟨Hf, HO⟩
    rw [show 0 + 128 * 4096 + 128 * 4096 = 4096 * NN by decide]
    imod (Transfers.batch_collect' countersEmb (V d cc jj) (by decide)) $$ Hf with ⟨Hd, Hv⟩
    iapply Hk
    isplitl [Hd HD]
    · iapply HD; iexact Hd
    isplitl [HO]
    · iexists _; isplitr; swap
      · iexact HO
      ipureintro; exact owe_insert (owe_insert hW')
    iexact Hv

end Two

end

end Cert.Tile
-- ==== Proof.Trip.lean ====
/-
  One trip, from what the task holds to the two rows it stores.
-/
module

public import proofs.«01_k».proof.Proof.Gather
public import proofs.«01_k».proof.Proof.Chk

@[expose] public section

set_option maxHeartbeats 1000000

noncomputable section

namespace Cert.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (batchBody Batch)

variable {F : FTy → Type} [FloatOps F] [Named F]

local notation "𝕄" => MT nD τ sig (HIx 1) (Elt F) ℕ UU ℕ

/-- A box that is not tall has at most eight lines. -/
theorem short_of {h : BitVec 32} (ht : ¬ tall h = 1#1) : h.toInt ≤ 8 := by
  by_contra hc
  apply ht
  have h8 : (8#32 : BitVec 32).toInt = 8 := by decide
  have : Scalar.cmpi .sgt h 8#32 = 1#1 := by
    show BitVec.ofBool _ = _
    have : BitVec.slt 8#32 h = true := by
      rw [BitVec.slt, decide_eq_true_eq, h8]; omega
    simp [this]
  show Scalar.cmpi .ne (Scalar.extui (Scalar.cmpi .sgt h 8#32) : BitVec 32) 0#32 = 1#1
  rw [this]
  decide

/-- A patch known on as many lines as a gather brings is known on the box's lines. -/
theorem PatchIs.box {P : Patch F} {h : BitVec 32} (hh : h.toInt ≤ 16) {vp : S256x128.Idx → F .f32}
    (hp : PatchIs P (if tall h = 1#1 then 16 else 8) vp) : PatchIs P h.toInt.toNat vp := by
  intro y hy
  refine hp y ?_
  split
  · omega
  · rename_i ht; have := short_of ht; omega

section

variable (d : Dev nD) {cc : Fin τ.nSC} {jj : Fin τ.nSub}
variable {inp : Memref sig .scVector .hbm S16384x128 .f32} {bv x1v y1v x2v y2v : Memref sig .scVector .vmem S32 .i32}
  {ia0 ia1 ib0 ib1 : Memref sig .scVector .vmem S128 .i32} {pa pb : Memref sig .scVector .vmem S256x128 .f32}
  {sbuf wbuf : Memref sig .scVector .vmem S256 .f32} {out : Memref sig .scVector .vmem S32x96 .f32} {sa sb : DmaSems sig S_}
  {cb cx1 cy1 cx2 cy2 : S32.Idx → BitVec 32} {vi : S16384x128.Idx → F .f32} {q q' : PosShare TreeShare}
  {O : CellTallies nD τ sig (HIx 1)} {W : Finset (SemLoc sig × HIx 1)}

theorem win49_spec {h r : BitVec 32} {c : Lane} (hr : r.toNat < 32)
    (hh : (Scalar.subi (cy2 (ix1 ⟨r.toNat, hr⟩)) (cy1 (ix1 ⟨r.toNat, hr⟩))).toInt ≤ 16) {Q : (Σ' (h : BitVec 32) (_ : k0_chk40 h), Lane) → sProp 𝕄} :
    iprop(Hold d (cc := cc) (jj := jj) inp q vi ∗ (∃ vp, Hold d (cc := cc) (jj := jj) pa fullShare vp)
        ∗ (∃ v, ⌜ListIs (fun j => lineOf c (j + 0)) 8 v⌝ ∗ Hold d (cc := cc) (jj := jj) ia0 fullShare v)
        ∗ (∃ v, ⌜ListIs (fun j => lineOf c (j + 8)) 8 v⌝ ∗ Hold d (cc := cc) (jj := jj) ia1 fullShare v)
        ∗ semVal (cellOf d cc jj sa) 0
        ∗ (Hold d (cc := cc) (jj := jj) bv fullShare cb ∗ Hold d (cc := cc) (jj := jj) x1v fullShare cx1
          ∗ Hold d (cc := cc) (jj := jj) y1v fullShare cy1 ∗ Hold d (cc := cc) (jj := jj) y2v fullShare cy2)
        ∗ ∃ v, Hold d (cc := cc) (jj := jj) ib0 fullShare v)
      ⊢ iprop(((Flying d (cc := cc) (jj := jj) inp pa ia0 ia1 sa q vi c h
        ∗ (Hold d (cc := cc) (jj := jj) bv fullShare cb ∗ Hold d (cc := cc) (jj := jj) x1v fullShare cx1
          ∗ Hold d (cc := cc) (jj := jj) y1v fullShare cy1 ∗ Hold d (cc := cc) (jj := jj) y2v fullShare cy2)
        ∗ ∃ v, ⌜ListIs (fun j => lineOf (corner (cb (ix1 ⟨r.toNat, hr⟩)) (cx1 (ix1 ⟨r.toNat, hr⟩)) (cy1 (ix1 ⟨r.toNat, hr⟩))) (j + 0)) 2 v⌝
          ∗ Hold d (cc := cc) (jj := jj) ib0 fullShare v)
          -∗ Q ⟨Scalar.subi (cy2 (ix1 ⟨r.toNat, hr⟩)) (cy1 (ix1 ⟨r.toNat, hr⟩)), chk40_of hh,
              corner (cb (ix1 ⟨r.toNat, hr⟩)) (cx1 (ix1 ⟨r.toNat, hr⟩)) (cy1 (ix1 ⟨r.toNat, hr⟩))⟩)
          -∗ wpT (cc := cc) (jj := jj) d (win49 (F := F) inp bv x1v y1v y2v ia0 ia1 ib0 pa sa h (broadcast S16 r)) Q) := by
  iintro ⟨Hi, Hp, ⟨%l0, %h0, H0⟩, ⟨%l1, %h1, H1⟩, Hs, Hc, ⟨%lb, Hb⟩⟩ Hk
  unfold win49
  iapply (issue_spec d h0 h1) $$ [$Hi $Hp $H0 $H1 $Hs]
  iintro Hf
  unfold wpT
  simp only [wp_bind]
  iapply (issueHead_spec d hr ⟨idx_const hr, idx_const hr, idx_const hr, idx_const hr⟩ (chk40_of hh)) $$ Hc
  iintro Hc
  iapply (putLines_spec d _ 0 2 0 _) $$ [Hb]
  · iexists lb
    isplitr
    · ipureintro; intro y hy; omega
    · iexact Hb
  iintro Hb
  iapply (wpT_pure d)
  iapply Hk
  iframe

theorem win53_spec {h r hb : BitVec 32} (ok : HOK h) (hh : h.toInt ≤ 16) {c cbb last : Lane} (hl : last = lineOf cbb 15) (hr : r.toNat < 32)
    {Q : (Σ' (_ : Lane) (_ : Lane) (_ : FVec F S16 .f32) (_ : F .f32), F .f32) → sProp 𝕄} :
    iprop((∃ v, ⌜ListIs (fun j => lineOf cbb (j + 0)) 8 v⌝ ∗ Hold d (cc := cc) (jj := jj) ib0 fullShare v)
        ∗ (∃ v, ⌜ListIs (fun j => lineOf cbb (j + 8)) 7 v⌝ ∗ Hold d (cc := cc) (jj := jj) ib1 fullShare v)
        ∗ Hold d (cc := cc) (jj := jj) inp q' vi ∗ (∃ vp, Hold d (cc := cc) (jj := jj) pb fullShare vp)
        ∗ semVal (cellOf d cc jj sb) 0 ∗ Flying d (cc := cc) (jj := jj) inp pa ia0 ia1 sa q vi c h
        ∗ Owe d (cc := cc) (jj := jj) O W ∗ Transfers.MayWaits (V d cc jj) gi O
        ∗ (Hold d (cc := cc) (jj := jj) x1v fullShare cx1 ∗ Hold d (cc := cc) (jj := jj) y1v fullShare cy1 ∗ Hold d (cc := cc) (jj := jj) x2v fullShare cx2 ∗ Hold d (cc := cc) (jj := jj) y2v fullShare cy2)
        ∗ ∃ vs, Hold d (cc := cc) (jj := jj) sbuf fullShare vs)
      ⊢ iprop((∀ vp vs, ⌜PatchIs (patchFrom vi c) h.toInt.toNat vp⌝ -∗ ⌜LinesAre (scoreLine (cmpi .slt lanes (broadcast S16 (Scalar.subi (cx2 (ix1 ⟨r.toNat, hr⟩)) (cx1 (ix1 ⟨r.toNat, hr⟩))))) (patchFrom vi c)) h.toInt.toNat vs⌝ -∗
          (Flying d (cc := cc) (jj := jj) inp pb ib0 ib1 sb q' vi cbb hb
            ∗ Hold d (cc := cc) (jj := jj) inp q vi ∗ Hold d (cc := cc) (jj := jj) pa fullShare vp
            ∗ (∃ l, Hold d (cc := cc) (jj := jj) ia0 fullShare l) ∗ (∃ l, Hold d (cc := cc) (jj := jj) ia1 fullShare l)
            ∗ Owe d (cc := cc) (jj := jj) O W ∗ semVal (cellOf d cc jj sa) 0
            ∗ (Hold d (cc := cc) (jj := jj) x1v fullShare cx1 ∗ Hold d (cc := cc) (jj := jj) y1v fullShare cy1 ∗ Hold d (cc := cc) (jj := jj) x2v fullShare cx2 ∗ Hold d (cc := cc) (jj := jj) y2v fullShare cy2)
            ∗ Hold d (cc := cc) (jj := jj) sbuf fullShare vs)
          -∗ Q ⟨broadcast S16 (Scalar.subi (cx2 (ix1 ⟨r.toNat, hr⟩)) (cx1 (ix1 ⟨r.toNat, hr⟩))), broadcast S16 (Scalar.subi (cy2 (ix1 ⟨r.toNat, hr⟩)) (cy1 (ix1 ⟨r.toNat, hr⟩))),
              maxLines (cmpi .slt lanes (broadcast S16 (Scalar.subi (cx2 (ix1 ⟨r.toNat, hr⟩)) (cx1 (ix1 ⟨r.toNat, hr⟩))))) (patchFrom vi c) h.toInt.toNat,
              foldFrom Scalar.maximumf (maxLines (cmpi .slt lanes (broadcast S16 (Scalar.subi (cx2 (ix1 ⟨r.toNat, hr⟩)) (cx1 (ix1 ⟨r.toNat, hr⟩))))) (patchFrom vi c) h.toInt.toNat) (laneAt (maxLines (cmpi .slt lanes (broadcast S16 (Scalar.subi (cx2 (ix1 ⟨r.toNat, hr⟩)) (cx1 (ix1 ⟨r.toNat, hr⟩))))) (patchFrom vi c) h.toInt.toNat) 0) 1 2,
              laneAt (maxLines (cmpi .slt lanes (broadcast S16 (Scalar.subi (cx2 (ix1 ⟨r.toNat, hr⟩)) (cx1 (ix1 ⟨r.toNat, hr⟩))))) (patchFrom vi c) h.toInt.toNat) 3⟩)
          -∗ wpT (cc := cc) (jj := jj) d (win53 (F := F) inp x1v y1v x2v y2v ib0 ib1 pa pb sbuf sa sb (broadcast S16 r) h ok hb last) Q) := by
  iintro ⟨⟨%l0, %h0, H0⟩, ⟨%l1, %h1, H1⟩, Hi, Hp, Hs, Hf, Ho, Hm, Hc, Hsb⟩ Hk
  unfold win53 wpT
  simp only [wp_bind]
  iapply (putLine_spec d (fun j => lineOf cbb (j + 8)) _ h1 hl) $$ H1
  iintro ⟨%l1', %h1', H1⟩
  simp only [← wp_bind]
  iapply (issue_spec d h0 h1') $$ [$Hi $Hp $H0 $H1 $Hs]
  iintro Hfb
  iapply (wait_spec d) $$ [$Hf $Ho $Hm]
  unfold Landed
  iintro ⟨⟨Hi, ⟨%vp, %hvp, Hp⟩, Ha0, Ha1⟩, Ho, Hs⟩
  iapply (dimsRun_spec d hr ⟨idx_const hr, idx_const hr, idx_const hr, idx_const hr⟩) $$ Hc
  iintro Hc
  iapply (maxRun_spec d pa sbuf _ ok hh (hvp.box hh)) $$ [$Hp $Hsb]
  iintro ⟨Hp, %vs, %hvs, Hsb⟩
  iapply (wpT_pure d)
  ihave Hk := Hk $$ %vp %vs %(hvp.box hh) %hvs
  iapply Hk
  iframe

theorem win54_spec (mask : IVec S16 1) {P : Patch F} {h : BitVec 32} (ok : HOK h) (hh : h.toInt ≤ 16) {x y : F .f32}
    {vs : S256.Idx → F .f32} (hvs : LinesAre (scoreLine mask P) h.toInt.toNat vs)
    (hx : x = foldFrom Scalar.maximumf (maxLines mask P h.toInt.toNat) (laneAt (maxLines mask P h.toInt.toNat) 0) 1 2)
    (hy : y = laneAt (maxLines mask P h.toInt.toNat) 3)
    {Q : (Σ' (_ : FVec F S16 .f32) (_ : FVec F S16 .f32) (_ : FVec F S16 .f32) (_ : FVec F S16 .f32) (_ : FVec F S16 .f32), F .f32) → sProp 𝕄} :
    iprop(Hold d (cc := cc) (jj := jj) sbuf fullShare vs ∗ ∃ vw, Hold d (cc := cc) (jj := jj) wbuf fullShare vw)
      ⊢ iprop((∀ vw, ⌜LinesAre (expLine mask P (boxMax mask P h.toInt.toNat)) h.toInt.toNat vw⌝ -∗
            (Hold d (cc := cc) (jj := jj) sbuf fullShare vs ∗ Hold d (cc := cc) (jj := jj) wbuf fullShare vw)
            -∗ Q ⟨sumLines mask P (boxMax mask P h.toInt.toNat) h.toInt.toNat,
                broadcast S16 zeroC, broadcast S16 zeroC, broadcast S16 zeroC, broadcast S16 zeroC, zeroC⟩)
          -∗ wpT (cc := cc) (jj := jj) d (win54 (F := F) sbuf wbuf h ok (maxLines mask P h.toInt.toNat) x y) Q) := by
  subst hx hy
  iintro H Hk
  unfold win54
  iapply (expRun_spec d sbuf wbuf mask (boxMax mask P h.toInt.toNat) ok hh hvs) $$ H
  iintro ⟨Hs, %vw, %hvw, Hw⟩
  iapply (wpT_pure d)
  ihave Hk := Hk $$ %vw %hvw
  iapply Hk
  iframe

theorem win55_spec {P : Patch F} (L : ℕ → FVec F S16 .f32) {h : BitVec 32} (ok : HOK h) (hh : h.toInt ≤ 16) {e : FVec F S16 .f32}
    {vp : S256x128.Idx → F .f32} (hvp : PatchIs P h.toInt.toNat vp) {vw : S256.Idx → F .f32} (hvw : LinesAre L h.toInt.toNat vw)
    {Q : (Σ' (_ : FVec F S16 .f32) (_ : FVec F S16 .f32) (_ : FVec F S16 .f32) (_ : FVec F S16 .f32) (_ : FVec F S16 .f32)
        (_ : FVec F S16 .f32) (_ : F .f32), F .f32) → sProp 𝕄} :
    iprop(Hold d (cc := cc) (jj := jj) pa fullShare vp ∗ Hold d (cc := cc) (jj := jj) wbuf fullShare vw)
      ⊢ iprop(((Hold d (cc := cc) (jj := jj) pa fullShare vp ∗ Hold d (cc := cc) (jj := jj) wbuf fullShare vw)
            -∗ Q ⟨(six fun q => boxAcc P (fun j l => L j (ln l)) q h.toInt.toNat).1, (six fun q => boxAcc P (fun j l => L j (ln l)) q h.toInt.toNat).2.1,
                (six fun q => boxAcc P (fun j l => L j (ln l)) q h.toInt.toNat).2.2.1, (six fun q => boxAcc P (fun j l => L j (ln l)) q h.toInt.toNat).2.2.2.1,
                (six fun q => boxAcc P (fun j l => L j (ln l)) q h.toInt.toNat).2.2.2.2.1, (six fun q => boxAcc P (fun j l => L j (ln l)) q h.toInt.toNat).2.2.2.2.2,
                foldFrom Scalar.addf e (laneAt e 0) 1 14, laneAt e 15⟩)
          -∗ wpT (cc := cc) (jj := jj) d (win55 (F := F) pa wbuf h ok e (broadcast S16 zeroC) (broadcast S16 zeroC) (broadcast S16 zeroC) (broadcast S16 zeroC) zeroC) Q) := by
  iintro H Hk
  unfold win55
  iapply (sumRun_spec d pa wbuf L ok hh hvp hvw) $$ H
  iintro H
  iapply (wpT_pure d)
  iapply Hk $$ H

theorem win57_spec {r h : BitVec 32} (ok : HOK h) (hh : h.toInt ≤ 16) {c : Lane} (hr : (Scalar.addi r 1#32).toNat < 32)
    {Q : (Σ' (_ : BitVec 32) (_ : Lane) (_ : Lane) (_ : FVec F S16 .f32) (_ : F .f32), F .f32) → sProp 𝕄} :
    iprop(Flying d (cc := cc) (jj := jj) inp pb ib0 ib1 sb q' vi c h
        ∗ Owe d (cc := cc) (jj := jj) O W ∗ Transfers.MayWaits (V d cc jj) gi O
        ∗ (Hold d (cc := cc) (jj := jj) x1v fullShare cx1 ∗ Hold d (cc := cc) (jj := jj) y1v fullShare cy1 ∗ Hold d (cc := cc) (jj := jj) x2v fullShare cx2 ∗ Hold d (cc := cc) (jj := jj) y2v fullShare cy2)
        ∗ ∃ vs, Hold d (cc := cc) (jj := jj) sbuf fullShare vs)
      ⊢ iprop((∀ vp vs, ⌜PatchIs (patchFrom vi c) h.toInt.toNat vp⌝ -∗ ⌜LinesAre (scoreLine (cmpi .slt lanes (broadcast S16 (Scalar.subi (cx2 (ix1 ⟨(Scalar.addi r 1#32).toNat, hr⟩)) (cx1 (ix1 ⟨(Scalar.addi r 1#32).toNat, hr⟩))))) (patchFrom vi c)) h.toInt.toNat vs⌝ -∗
          (Hold d (cc := cc) (jj := jj) inp q' vi ∗ Hold d (cc := cc) (jj := jj) pb fullShare vp
            ∗ (∃ l, Hold d (cc := cc) (jj := jj) ib0 fullShare l) ∗ (∃ l, Hold d (cc := cc) (jj := jj) ib1 fullShare l)
            ∗ Owe d (cc := cc) (jj := jj) O W ∗ semVal (cellOf d cc jj sb) 0
            ∗ (Hold d (cc := cc) (jj := jj) x1v fullShare cx1 ∗ Hold d (cc := cc) (jj := jj) y1v fullShare cy1 ∗ Hold d (cc := cc) (jj := jj) x2v fullShare cx2 ∗ Hold d (cc := cc) (jj := jj) y2v fullShare cy2)
            ∗ Hold d (cc := cc) (jj := jj) sbuf fullShare vs)
          -∗ Q ⟨Scalar.addi r 1#32, broadcast S16 (Scalar.subi (cx2 (ix1 ⟨(Scalar.addi r 1#32).toNat, hr⟩)) (cx1 (ix1 ⟨(Scalar.addi r 1#32).toNat, hr⟩))), broadcast S16 (Scalar.subi (cy2 (ix1 ⟨(Scalar.addi r 1#32).toNat, hr⟩)) (cy1 (ix1 ⟨(Scalar.addi r 1#32).toNat, hr⟩))),
              maxLines (cmpi .slt lanes (broadcast S16 (Scalar.subi (cx2 (ix1 ⟨(Scalar.addi r 1#32).toNat, hr⟩)) (cx1 (ix1 ⟨(Scalar.addi r 1#32).toNat, hr⟩))))) (patchFrom vi c) h.toInt.toNat,
              foldFrom Scalar.maximumf (maxLines (cmpi .slt lanes (broadcast S16 (Scalar.subi (cx2 (ix1 ⟨(Scalar.addi r 1#32).toNat, hr⟩)) (cx1 (ix1 ⟨(Scalar.addi r 1#32).toNat, hr⟩))))) (patchFrom vi c) h.toInt.toNat) (laneAt (maxLines (cmpi .slt lanes (broadcast S16 (Scalar.subi (cx2 (ix1 ⟨(Scalar.addi r 1#32).toNat, hr⟩)) (cx1 (ix1 ⟨(Scalar.addi r 1#32).toNat, hr⟩))))) (patchFrom vi c) h.toInt.toNat) 0) 1 7,
              laneAt (maxLines (cmpi .slt lanes (broadcast S16 (Scalar.subi (cx2 (ix1 ⟨(Scalar.addi r 1#32).toNat, hr⟩)) (cx1 (ix1 ⟨(Scalar.addi r 1#32).toNat, hr⟩))))) (patchFrom vi c) h.toInt.toNat) 8⟩)
          -∗ wpT (cc := cc) (jj := jj) d (win57 (F := F) inp x1v y1v x2v y2v pb sbuf sb r h ok) Q) := by
  iintro ⟨Hf, Ho, Hm, Hc, Hsb⟩ Hk
  unfold win57
  iapply (wait_spec d) $$ [$Hf $Ho $Hm]
  unfold Landed
  iintro ⟨⟨Hi, ⟨%vp, %hvp, Hp⟩, Ha0, Ha1⟩, Ho, Hs⟩
  iapply (dimsRun_spec d hr ⟨idx_const hr, idx_const hr, idx_const hr, idx_const hr⟩) $$ Hc
  iintro Hc
  iapply (maxRun_spec d pb sbuf _ ok hh (hvp.box hh)) $$ [$Hp $Hsb]
  iintro ⟨Hp, %vs, %hvs, Hsb⟩
  iapply (wpT_pure d)
  ihave Hk := Hk $$ %vp %vs %(hvp.box hh) %hvs
  iapply Hk
  iframe

theorem win58_spec (mask : IVec S16 1) {P : Patch F} {h : BitVec 32} (ok : HOK h) (hh : h.toInt ≤ 16) {x y : F .f32}
    {vs : S256.Idx → F .f32} (hvs : LinesAre (scoreLine mask P) h.toInt.toNat vs) {vp : S256x128.Idx → F .f32} (hvp : PatchIs P h.toInt.toNat vp)
    (hx : x = foldFrom Scalar.maximumf (maxLines mask P h.toInt.toNat) (laneAt (maxLines mask P h.toInt.toNat) 0) 1 7)
    (hy : y = laneAt (maxLines mask P h.toInt.toNat) 8)
    {Q : (Σ' (_ : FVec F S16 .f32) (_ : FVec F S16 .f32) (_ : FVec F S16 .f32) (_ : FVec F S16 .f32) (_ : FVec F S16 .f32)
      (_ : FVec F S16 .f32) (_ : FVec F S16 .f32), FVec F S1 .f32) → sProp 𝕄} :
    iprop(Hold d (cc := cc) (jj := jj) pb fullShare vp ∗ Hold d (cc := cc) (jj := jj) sbuf fullShare vs ∗ ∃ vw, Hold d (cc := cc) (jj := jj) wbuf fullShare vw)
      ⊢ iprop(((Hold d (cc := cc) (jj := jj) pb fullShare vp ∗ Hold d (cc := cc) (jj := jj) sbuf fullShare vs ∗ ∃ vw, Hold d (cc := cc) (jj := jj) wbuf fullShare vw)
            -∗ Q ⟨sumLines mask P (boxMax mask P h.toInt.toNat) h.toInt.toNat,
                (six fun q => boxAcc P (fun j l => expLine mask P (boxMax mask P h.toInt.toNat) j (ln l)) q h.toInt.toNat).1, (six fun q => boxAcc P (fun j l => expLine mask P (boxMax mask P h.toInt.toNat) j (ln l)) q h.toInt.toNat).2.1,
                (six fun q => boxAcc P (fun j l => expLine mask P (boxMax mask P h.toInt.toNat) j (ln l)) q h.toInt.toNat).2.2.1, (six fun q => boxAcc P (fun j l => expLine mask P (boxMax mask P h.toInt.toNat) j (ln l)) q h.toInt.toNat).2.2.2.1,
                (six fun q => boxAcc P (fun j l => expLine mask P (boxMax mask P h.toInt.toNat) j (ln l)) q h.toInt.toNat).2.2.2.2.1, (six fun q => boxAcc P (fun j l => expLine mask P (boxMax mask P h.toInt.toNat) j (ln l)) q h.toInt.toNat).2.2.2.2.2,
                extractStridedSlice S1 ![0 % 16] (sumLines mask P (boxMax mask P h.toInt.toNat) h.toInt.toNat) (slices_lane 0)⟩)
          -∗ wpT (cc := cc) (jj := jj) d (win58 (F := F) pb sbuf wbuf h ok (maxLines mask P h.toInt.toNat) x y) Q) := by
  subst hx hy
  iintro ⟨Hp, H⟩ Hk
  unfold win58
  iapply (expRun_spec d sbuf wbuf mask (boxMax mask P h.toInt.toNat) ok hh hvs) $$ H
  iintro ⟨Hs, %vw, %hvw, Hw⟩
  iapply (sumRun_spec d pb wbuf (expLine mask P (boxMax mask P h.toInt.toNat)) ok hh hvp hvw) $$ [$Hp $Hw]
  iintro ⟨Hp, Hw⟩
  iapply (wpT_pure d)
  iapply Hk
  iframe
  iexists vw
  iframe

/-- Entry `n` of a task's column, counted around. -/
def at32 (v : S32.Idx → BitVec 32) (n : ℕ) : BitVec 32 := v (ix1 ⟨n % 32, Nat.mod_lt _ (by decide)⟩)
theorem at32_eq (v : S32.Idx → BitVec 32) {n : ℕ} (hn : n < 32) : v (ix1 ⟨n, hn⟩) = at32 v n := by
  unfold at32
  congr 2
  exact Fin.ext (Nat.mod_eq_of_lt hn).symm

/-- Row `n`, channel `c`, of what a task with these columns stores. -/
def rowOf (vi : S16384x128.Idx → F .f32) (cb cx1 cy1 cx2 cy2 : S32.Idx → BitVec 32) (n c : ℕ) : F .f32 :=
  rowVal (patchOf vi (at32 cb n) (at32 cx1 n) (at32 cy1 n)) (Scalar.subi (at32 cx2 n) (at32 cx1 n)) (Scalar.subi (at32 cy2 n) (at32 cy1 n)) c

/-- A row stored whose values are `R`. -/
theorem putRow_as {v : S32x96.Idx → F .f32} {n : ℕ} (hn : n < 32) (A : ℕ → FVec F S16 .f32) (inv : FVec F S16 .f32) (R : ℕ → F .f32)
    (hR : ∀ c, mulf (A (c / 16)) inv (ln c) = R c) {Q : PUnit → sProp 𝕄} :
    Hold d (cc := cc) (jj := jj) out fullShare v
      ⊢ iprop((Hold d (cc := cc) (jj := jj) out fullShare (fun y => if (y 0).val = n then R (y 1).val else v y) -∗ Q ⟨⟩)
          -∗ wpT (F := F) (cc := cc) (jj := jj) d (putRow out n hn (six A) inv) Q) := by
  have e : (fun y : S32x96.Idx => if (y 0).val = n then R (y 1).val else v y)
      = fun y => if (y 0).val = n then mulf (A ((y 1).val / 16)) inv (ln (y 1).val) else v y := by
    funext y; rw [hR]
  rw [e]
  exact putRow_spec d hn A inv

variable (inp bv x1v y1v x2v y2v ia0 ia1 ib0 ib1 pa pb sbuf wbuf sa sb cb cx1 cy1 cx2 cy2 vi q q' O W)

/-- What a task holds between trips, but for its result. -/
def Kit : sProp 𝕄 :=
  iprop((Hold d (cc := cc) (jj := jj) bv fullShare cb ∗ Hold d (cc := cc) (jj := jj) x1v fullShare cx1 ∗ Hold d (cc := cc) (jj := jj) y1v fullShare cy1 ∗ Hold d (cc := cc) (jj := jj) x2v fullShare cx2 ∗ Hold d (cc := cc) (jj := jj) y2v fullShare cy2)
    ∗ ((∃ v, Hold d (cc := cc) (jj := jj) ia0 fullShare v) ∗ (∃ v, Hold d (cc := cc) (jj := jj) ia1 fullShare v) ∗ (∃ v, Hold d (cc := cc) (jj := jj) ib0 fullShare v) ∗ (∃ v, Hold d (cc := cc) (jj := jj) ib1 fullShare v))
    ∗ (Hold d (cc := cc) (jj := jj) inp q vi ∗ Hold d (cc := cc) (jj := jj) inp q' vi)
    ∗ ((∃ v, Hold d (cc := cc) (jj := jj) pa fullShare v) ∗ (∃ v, Hold d (cc := cc) (jj := jj) pb fullShare v) ∗ (∃ v, Hold d (cc := cc) (jj := jj) sbuf fullShare v) ∗ (∃ v, Hold d (cc := cc) (jj := jj) wbuf fullShare v))
    ∗ semVal (cellOf d cc jj sa) 0 ∗ semVal (cellOf d cc jj sb) 0 ∗ Owe d (cc := cc) (jj := jj) O W)

variable {inp bv x1v y1v x2v y2v ia0 ia1 ib0 ib1 pa pb sbuf wbuf sa sb cb cx1 cy1 cx2 cy2 vi q q' O W}

theorem trip_spec (hcol : ∀ n, (Scalar.subi (at32 cy2 n) (at32 cy1 n)).toInt ≤ 16) (t : Fin k0_t1_loop.trips) {vo : S32x96.Idx → F .f32}
    {Q : PUnit → sProp 𝕄} :
    iprop(Transfers.MayWaits (V d cc jj) gi O
        ∗ Kit d (cc := cc) (jj := jj) inp bv x1v y1v x2v y2v ia0 ia1 ib0 ib1 pa pb sbuf wbuf sa sb cb cx1 cy1 cx2 cy2 vi q q' O W ∗ Hold d (cc := cc) (jj := jj) out fullShare vo)
      ⊢ iprop(((Kit d (cc := cc) (jj := jj) inp bv x1v y1v x2v y2v ia0 ia1 ib0 ib1 pa pb sbuf wbuf sa sb cb cx1 cy1 cx2 cy2 vi q q' O W
          ∗ Hold d (cc := cc) (jj := jj) out fullShare (fun y =>
              if (y 0).val = (Scalar.addi (Scalar.muli 2#32 (Scf.iv 0#32 1#32 t)) 1#32).toNat then
                rowOf vi cb cx1 cy1 cx2 cy2 (Scalar.addi (Scalar.muli 2#32 (Scf.iv 0#32 1#32 t)) 1#32).toNat (y 1).val
              else if (y 0).val = (Scalar.muli 2#32 (Scf.iv 0#32 1#32 t)).toNat then
                rowOf vi cb cx1 cy1 cx2 cy2 (Scalar.muli 2#32 (Scf.iv 0#32 1#32 t)).toNat (y 1).val
              else vo y)) -∗ Q ⟨⟩)
          -∗ wpT (F := F) (cc := cc) (jj := jj) d (tripText inp bv x1v y1v x2v y2v ia0 ia1 ib0 ib1 pa pb sbuf wbuf out sa sb t) Q) := by
  have hra := out_inb_a t
  have hrb := out_inb_b t
  have ha : (Scalar.subi (cy2 (ix1 ⟨_, hra⟩)) (cy1 (ix1 ⟨_, hra⟩))).toInt ≤ 16 := by rw [at32_eq cy2 hra, at32_eq cy1 hra]; exact hcol _
  have hb : (Scalar.subi (cy2 (ix1 ⟨_, hrb⟩)) (cy1 (ix1 ⟨_, hrb⟩))).toInt ≤ 16 := by rw [at32_eq cy2 hrb, at32_eq cy1 hrb]; exact hcol _
  iintro ⟨#Hm, HK, Hout⟩ Hk
  unfold Kit
  icases HK with ⟨⟨Hcb, Hx1, Hy1, Hx2, Hy2⟩, ⟨⟨%la0, Ha0⟩, ⟨%la1, Ha1⟩, Hb0, ⟨%lb1, Hb1⟩⟩, ⟨Hi, Hi'⟩, ⟨Hpa, Hpb, Hsb, Hwb⟩, Hsa, Hsb', Ho⟩
  unfold tripText tripOf wpT
  simp only [wp_bind]
  iapply (issueHead_spec d hra ⟨idx_const hra, idx_const hra, idx_const hra, idx_const hra⟩ (chk4_of ha)) $$ [$Hcb $Hx1 $Hy1 $Hy2]
  iintro ⟨Hcb, Hx1, Hy1, Hy2⟩
  iapply (putLines_spec d _ 0 8 0 _) $$ [Ha0]
  · iexists la0
    isplitr
    · ipureintro; intro y hy; omega
    · iexact Ha0
  iintro Ha0
  iapply (putLines_spec d _ 8 8 0 _) $$ [Ha1]
  · iexists la1
    isplitr
    · ipureintro; intro y hy; omega
    · iexact Ha1
  iintro Ha1
  iapply (win49_spec d hrb hb) $$ [$Hi $Hpa $Ha0 $Ha1 $Hsa $Hcb $Hx1 $Hy1 $Hy2 $Hb0]
  iintro ⟨Hfa, ⟨Hcb, Hx1, Hy1, Hy2⟩, Hb0⟩
  iapply (putLines_spec d _ 0 6 2 _) $$ Hb0
  iintro Hb0
  iapply (putLines_spec d _ 8 7 0 _) $$ [Hb1]
  · iexists lb1
    isplitr
    · ipureintro; intro y hy; omega
    · iexact Hb1
  iintro Hb1
  iapply (win53_spec d (hok_a (chk4_of ha)) ha rfl hra) $$ [$Hb0 $Hb1 $Hi' $Hpb $Hsb' $Hfa $Ho $Hx1 $Hy1 $Hx2 $Hy2 $Hsb]
  · iexact Hm
  iintro %vp %vs %hvp %hvs ⟨Hfb, Hi, Hpa, Ha0, Ha1, Ho, Hsa, ⟨Hx1, Hy1, Hx2, Hy2⟩, Hsb⟩
  iapply (win54_spec d _ (hok_a (chk4_of ha)) ha hvs rfl rfl) $$ [$Hsb $Hwb]
  iintro %vw %hvw ⟨Hsb, Hwb⟩
  iapply (win55_spec d _ (hok_a (chk4_of ha)) ha hvp hvw) $$ [$Hpa $Hwb]
  iintro ⟨Hpa, Hwb⟩
  iapply (putRow_as d hra _ _ (rowOf vi cb cx1 cy1 cx2 cy2 _) ?_) $$ Hout
  · intro c
    unfold rowOf
    rw [← at32_eq cb hra, ← at32_eq cx1 hra, ← at32_eq cx2 hra, ← at32_eq cy1 hra, ← at32_eq cy2 hra]
    rfl
  iintro Hout
  iapply (win57_spec d (hok_b (chk40_of hb)) hb hrb) $$ [$Hfb $Ho $Hx1 $Hy1 $Hx2 $Hy2 Hsb]
  · isplitr
    · iexact Hm
    · iexists vs; iexact Hsb
  iintro %vp' %vs' %hvp' %hvs' ⟨Hi', Hpb, Hb0, Hb1, Ho, Hsb', ⟨Hx1, Hy1, Hx2, Hy2⟩, Hsb⟩
  iapply (win58_spec d _ (hok_b (chk40_of hb)) hb hvs' hvp' rfl rfl) $$ [$Hpb $Hsb Hwb]
  · iexists vw; iexact Hwb
  iintro ⟨Hpb, Hsb, Hwb⟩
  iapply (putRow_as d hrb _ _ (rowOf vi cb cx1 cy1 cx2 cy2 _) ?_) $$ Hout
  · intro c
    unfold rowOf
    rw [← at32_eq cb hrb, ← at32_eq cx1 hrb, ← at32_eq cx2 hrb, ← at32_eq cy1 hrb, ← at32_eq cy2 hrb]
    rfl
  iintro Hout
  iapply Hk
  iframe
  isplitl [Hpa]
  · iexists vp; iexact Hpa
  isplitl [Hpb]
  · iexists vp'; iexact Hpb
  iexists vs'; iexact Hsb

end

end Cert.Tile
-- ==== Proof.Task.lean ====
/-
  A whole task: five columns fetched, sixteen trips, thirty-two rows written out.
-/
module

public import proofs.«01_k».proof.Proof.Trip

@[expose] public section

set_option maxHeartbeats 1000000

noncomputable section

namespace Cert.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (batchBody Batch)

variable {F : FTy → Type} [FloatOps F] [Named F]

local notation "𝕄" => MT nD τ sig (HIx 1) (Elt F) ℕ UU ℕ

theorem row_a : ∀ t : Fin 16, (Scalar.muli 2#32 (Scf.iv 0#32 1#32 t.val)).toNat = 2 * t.val := by decide
theorem row_b : ∀ t : Fin 16, (Scalar.addi (Scalar.muli 2#32 (Scf.iv 0#32 1#32 t.val)) 1#32).toNat = 2 * t.val + 1 := by decide
theorem pairs : k0_t1_loop.trips = 16 := by decide

section

variable (d : Dev nD) {cc : Fin τ.nSC} {jj : Fin τ.nSub} {O : CellTallies nD τ sig (HIx 1)} {W : Waits sig (HIx 1)}

/-- A copy within the tile's reach and its wait. -/
theorem copy_spec {sp sp' : Space} {s : Shape} {e : EltTy} {src : Memref sig .scVector sp s e} {dst : Memref sig .scVector sp' s e}
    {sem : DmaSems sig S_} {qs : PosShare TreeShare} {v : s.Idx → Elt F e} (hn : 0 < s.numel) {h1 h2 h3 h4 h5} {Q : PUnit → sProp 𝕄} :
    iprop(Hold d (cc := cc) (jj := jj) src qs v ∗ (∃ v, Hold d (cc := cc) (jj := jj) dst fullShare v) ∗ semVal (cellOf d cc jj sem) 0 ∗ Owe d (cc := cc) (jj := jj) O W ∗ Transfers.MayWaits (V d cc jj) gi O)
      ⊢ iprop(((Hold d (cc := cc) (jj := jj) src qs v ∗ Hold d (cc := cc) (jj := jj) dst fullShare v ∗ semVal (cellOf d cc jj sem) 0 ∗ Owe d (cc := cc) (jj := jj) O W) -∗ Q ⟨⟩)
          -∗ wpT (F := F) (cc := cc) (jj := jj) d (Prog.lift (.enqueueDma src (.here dst) (.dma sem.sem) h1 h2 h3)) fun _ =>
              wpT (F := F) (cc := cc) (jj := jj) d (Prog.lift (.waitDma2 sem.sem src dst h4 h5)) Q) := by
  unfold Owe
  iintro ⟨Hs, ⟨%w, Hd⟩, Hv, ⟨%W', %hW', HO⟩, Hm⟩ Hk
  unfold Hold
  icases Hs with ⟨%fs, %hfs, Hs⟩
  icases Hd with ⟨%fd, %hfd, Hd⟩
  have hN : dst.view.amount (SemLoc.dma (sig := sig) sem.sem) = dst.view.dmaCredit := rfl
  have hpos : 0 < dst.view.dmaCredit := by rw [← hN]; exact View.amount_pos _ _ hn
  unfold wpT
  iapply (Transfers.wp_dmaLocal countersEmb 𝒱₀ (V d cc jj) none gi dst.view.dmaCredit hN hpos (Finset.Subset.refl dst.view.set)) $$ [$Hs $Hd $Hv]
  iintro Hf
  rw [wp_ret]
  iapply fupd_intro
  iapply (Transfers.wp_waitLocalO countersEmb 𝒱₀ (V d cc jj) none gi (rfl : dst.view.dmaCredit = _)) $$ [Hf HO Hm]
  · isplitl [Hf]; · iexact Hf
    isplitl [HO]; · iexact HO
    iapply (Transfers.MayWaits.elim (SemLoc.dma sem.sem)) $$ Hm
  iintro ⟨⟨Hd, Hs⟩, Hv, HO⟩
  rw [wp_ret]
  iapply fupd_intro
  iapply Hk
  isplitl [Hs]
  · iexists fs; isplitr
    · ipureintro; exact hfs
    · iexact Hs
  isplitl [Hd]
  · iexists _; isplitr; swap
    · iexact Hd
    · ipureintro; rw [View.read_write_univ]; exact hfs
  isplitl [Hv]; · iexact Hv
  iexists _; isplitr; swap
  · iexact HO
  · ipureintro; exact owe_insert hW'

variable {inp : Memref sig .scVector .hbm S16384x128 .f32} {bv x1v y1v x2v y2v : Memref sig .scVector .vmem S32 .i32}
  {ia0 ia1 ib0 ib1 : Memref sig .scVector .vmem S128 .i32} {pa pb : Memref sig .scVector .vmem S256x128 .f32}
  {sbuf wbuf : Memref sig .scVector .vmem S256 .f32} {out : Memref sig .scVector .vmem S32x96 .f32} {sa sb : DmaSems sig S_}
  {cb cx1 cy1 cx2 cy2 : S32.Idx → BitVec 32} {vi : S16384x128.Idx → F .f32} {q q' : PosShare TreeShare}

/-- The task's thirty-two entries of a column. -/
abbrev colSlice (i : grid0.Coords) (m : Memref sig .scVector .hbm S1024 .i32) : Memref sig .scVector .hbm S32 .i32 :=
  m.slice (Rect.unit (s := S1024) (k0_off1 i) S32.size (k0_off1_inb i)) (fun _ => rfl)
/-- The task's thirty-two rows of the result. -/
abbrev rowSlice (i : grid0.Coords) (m : Memref sig .scVector .hbm S1024x96 .f32) : Memref sig .scVector .hbm S32x96 .f32 :=
  m.slice (Rect.unit (s := S1024x96) (k0_off406 i) S32x96.size (k0_off406_inb i)) (fun _ => rfl)

/-- The sixteen trips: all thirty-two rows. -/
theorem trips_spec (hcol : ∀ n, (Scalar.subi (at32 cy2 n) (at32 cy1 n)).toInt ≤ 16) {Q : PUnit → sProp 𝕄} :
    iprop(Transfers.MayWaits (V d cc jj) gi O ∗ Kit d (cc := cc) (jj := jj) inp bv x1v y1v x2v y2v ia0 ia1 ib0 ib1 pa pb sbuf wbuf sa sb cb cx1 cy1 cx2 cy2 vi q q' O W ∗ (∃ v, Hold d (cc := cc) (jj := jj) out fullShare v))
      ⊢ iprop(((Kit d (cc := cc) (jj := jj) inp bv x1v y1v x2v y2v ia0 ia1 ib0 ib1 pa pb sbuf wbuf sa sb cb cx1 cy1 cx2 cy2 vi q q' O W ∗ Hold d (cc := cc) (jj := jj) out fullShare (fun y => rowOf vi cb cx1 cy1 cx2 cy2 (y 0).val (y 1).val)) -∗ Q ⟨⟩)
          -∗ wpT (F := F) (cc := cc) (jj := jj) d (Scf.Loop.for k0_t1_loop k0_t1_ok ⟨⟩ fun t _ =>
              tripText inp bv x1v y1v x2v y2v ia0 ia1 ib0 ib1 pa pb sbuf wbuf out sa sb t) Q) := by
  have hbody : ∀ (t : Fin k0_t1_loop.trips) (a : PUnit), iprop(Transfers.MayWaits (V d cc jj) gi O ∗ Kit d (cc := cc) (jj := jj) inp bv x1v y1v x2v y2v ia0 ia1 ib0 ib1 pa pb sbuf wbuf sa sb cb cx1 cy1 cx2 cy2 vi q q' O W
        ∗ ∃ v, ⌜∀ y : S32x96.Idx, (y 0).val < 2 * t.val → v y = rowOf vi cb cx1 cy1 cx2 cy2 (y 0).val (y 1).val⌝ ∗ Hold d (cc := cc) (jj := jj) out fullShare v)
      ⊢ wpT (F := F) (cc := cc) (jj := jj) d (tripText inp bv x1v y1v x2v y2v ia0 ia1 ib0 ib1 pa pb sbuf wbuf out sa sb t) fun _ => iprop(Transfers.MayWaits (V d cc jj) gi O ∗ Kit d (cc := cc) (jj := jj) inp bv x1v y1v x2v y2v ia0 ia1 ib0 ib1 pa pb sbuf wbuf sa sb cb cx1 cy1 cx2 cy2 vi q q' O W
        ∗ ∃ v, ⌜∀ y : S32x96.Idx, (y 0).val < 2 * (t.val + 1) → v y = rowOf vi cb cx1 cy1 cx2 cy2 (y 0).val (y 1).val⌝ ∗ Hold d (cc := cc) (jj := jj) out fullShare v) := by
    intro t a
    have ht : t.val < 16 := lt_of_lt_of_eq t.isLt pairs
    have ea := row_a ⟨t.val, ht⟩
    have eb := row_b ⟨t.val, ht⟩
    iintro ⟨#Hm, HK, %v, %hv, Ho⟩
    iapply (trip_spec d hcol t) $$ [$HK $Ho]
    · iexact Hm
    iintro ⟨HK, Ho⟩
    isplitr; · iexact Hm
    isplitl [HK]; · iexact HK
    iexists _; isplitr; swap
    · iexact Ho
    · ipureintro
      intro y hy
      show (if _ then _ else if _ then _ else _) = _
      rw [ea, eb]
      split
      · next h => rw [h]
      · split
        · next h => rw [h]
        · exact hv y (by simp only at *; omega)
  iintro ⟨Hm, HK, %v, Ho⟩ Hk
  unfold wpT
  iapply (Scf.wp_for frame (wpE (defs₀ (F := F)) 𝒱₀ (V d cc jj) none) Set.univ _ _ _ k0_t1_ok ⟨⟩ _
    (fun n _ => iprop(Transfers.MayWaits (V d cc jj) gi O ∗ Kit d (cc := cc) (jj := jj) inp bv x1v y1v x2v y2v ia0 ia1 ib0 ib1 pa pb sbuf wbuf sa sb cb cx1 cy1 cx2 cy2 vi q q' O W
        ∗ ∃ v, ⌜∀ y : S32x96.Idx, (y 0).val < 2 * n → v y = rowOf vi cb cx1 cy1 cx2 cy2 (y 0).val (y 1).val⌝ ∗ Hold d (cc := cc) (jj := jj) out fullShare v)) hbody)
  isplitl [Hm HK Ho]
  · isplitl [Hm]; · iexact Hm
    isplitl [HK]; · iexact HK
    iexists v; isplitr
    · ipureintro; intro y hy; omega
    · iexact Ho
  iintro %a ⟨-, HK, %v', %hv', Ho⟩
  have e : v' = fun y => rowOf vi cb cx1 cy1 cx2 cy2 (y 0).val (y 1).val := by
    funext y
    refine hv' y ?_
    have h16 : Scf.trips k0_t1_loop.lb k0_t1_loop.ub k0_t1_loop.st = 16 := pairs
    rw [h16]
    exact (y 0).isLt
  subst e
  iapply Hk $$ [$HK $Ho]

/-- A task, from its slices of the columns and a share of the map to its rows of the result. -/
theorem task_spec {i : grid0.Coords} {b x1 y1 x2 y2 : Memref sig .scVector .hbm S1024 .i32} {res : Memref sig .scVector .hbm S1024x96 .f32}
    {hb : bv.IsWhole} {h1 : x1v.IsWhole} {h2 : y1v.IsWhole} {h3 : x2v.IsWhole} {h4 : y2v.IsWhole} {ho : out.IsWhole}
    {s0 s1 s2 s3 s4 s5 : DmaSems sig S_} (hcol : ∀ n, (Scalar.subi (at32 cy2 n) (at32 cy1 n)).toInt ≤ 16) {Q : PUnit → sProp 𝕄} :
    iprop(Transfers.MayWaits (V d cc jj) gi O
        ∗ (Hold d (cc := cc) (jj := jj) (colSlice i b) fullShare cb ∗ Hold d (cc := cc) (jj := jj) (colSlice i x1) fullShare cx1 ∗ Hold d (cc := cc) (jj := jj) (colSlice i y1) fullShare cy1 ∗ Hold d (cc := cc) (jj := jj) (colSlice i x2) fullShare cx2 ∗ Hold d (cc := cc) (jj := jj) (colSlice i y2) fullShare cy2)
        ∗ ((∃ v, Hold d (cc := cc) (jj := jj) bv fullShare v) ∗ (∃ v, Hold d (cc := cc) (jj := jj) x1v fullShare v) ∗ (∃ v, Hold d (cc := cc) (jj := jj) y1v fullShare v) ∗ (∃ v, Hold d (cc := cc) (jj := jj) x2v fullShare v) ∗ (∃ v, Hold d (cc := cc) (jj := jj) y2v fullShare v))
        ∗ (semVal (cellOf d cc jj s0) 0 ∗ semVal (cellOf d cc jj s1) 0 ∗ semVal (cellOf d cc jj s2) 0 ∗ semVal (cellOf d cc jj s3) 0
          ∗ semVal (cellOf d cc jj s4) 0 ∗ semVal (cellOf d cc jj s5) 0)
        ∗ ((∃ v, Hold d (cc := cc) (jj := jj) ia0 fullShare v) ∗ (∃ v, Hold d (cc := cc) (jj := jj) ia1 fullShare v) ∗ (∃ v, Hold d (cc := cc) (jj := jj) ib0 fullShare v) ∗ (∃ v, Hold d (cc := cc) (jj := jj) ib1 fullShare v))
        ∗ (Hold d (cc := cc) (jj := jj) inp q vi ∗ Hold d (cc := cc) (jj := jj) inp q' vi)
        ∗ ((∃ v, Hold d (cc := cc) (jj := jj) pa fullShare v) ∗ (∃ v, Hold d (cc := cc) (jj := jj) pb fullShare v) ∗ (∃ v, Hold d (cc := cc) (jj := jj) sbuf fullShare v) ∗ (∃ v, Hold d (cc := cc) (jj := jj) wbuf fullShare v))
        ∗ semVal (cellOf d cc jj sa) 0 ∗ semVal (cellOf d cc jj sb) 0 ∗ Owe d (cc := cc) (jj := jj) O W
        ∗ (∃ v, Hold d (cc := cc) (jj := jj) out fullShare v) ∗ (∃ v, Hold d (cc := cc) (jj := jj) (rowSlice i res) fullShare v))
      ⊢ iprop((((Hold d (cc := cc) (jj := jj) (colSlice i b) fullShare cb ∗ Hold d (cc := cc) (jj := jj) (colSlice i x1) fullShare cx1 ∗ Hold d (cc := cc) (jj := jj) (colSlice i y1) fullShare cy1 ∗ Hold d (cc := cc) (jj := jj) (colSlice i x2) fullShare cx2 ∗ Hold d (cc := cc) (jj := jj) (colSlice i y2) fullShare cy2)
        ∗ (semVal (cellOf d cc jj s0) 0 ∗ semVal (cellOf d cc jj s1) 0 ∗ semVal (cellOf d cc jj s2) 0 ∗ semVal (cellOf d cc jj s3) 0
          ∗ semVal (cellOf d cc jj s4) 0 ∗ semVal (cellOf d cc jj s5) 0)
        ∗ Kit d (cc := cc) (jj := jj) inp bv x1v y1v x2v y2v ia0 ia1 ib0 ib1 pa pb sbuf wbuf sa sb cb cx1 cy1 cx2 cy2 vi q q' O W ∗ (∃ v, Hold d (cc := cc) (jj := jj) out fullShare v) ∗ Hold d (cc := cc) (jj := jj) (rowSlice i res) fullShare (fun y => rowOf vi cb cx1 cy1 cx2 cy2 (y 0).val (y 1).val)) -∗ Q ⟨⟩)
          -∗ wpT (F := F) (cc := cc) (jj := jj) d (taskOf bv x1v y1v x2v y2v out i b x1 y1 x2 y2 res hb h1 h2 h3 h4 ho s0 s1 s2 s3 s4 s5
              (tripText inp bv x1v y1v x2v y2v ia0 ia1 ib0 ib1 pa pb sbuf wbuf out sa sb)) Q) := by
  iintro ⟨#Hm, ⟨Hb, Hx1, Hy1, Hx2, Hy2⟩, ⟨Wb, Wx1, Wy1, Wx2, Wy2⟩, ⟨S0, S1, S2, S3, S4, S5⟩, HL, HI, HP, Hsa, Hsb, HO, Hout, Hres⟩ Hk
  unfold taskOf copyIn wpT
  simp only [wp_bind]
  iapply (copy_spec d (src := colSlice i b) (dst := bv) (sem := s0) (by decide)) $$ [$Hb $Wb $S0 $HO]
  · iexact Hm
  iintro ⟨Hb, Wb, S0, HO⟩
  iapply (copy_spec d (src := colSlice i x1) (dst := x1v) (sem := s1) (by decide)) $$ [$Hx1 $Wx1 $S1 $HO]
  · iexact Hm
  iintro ⟨Hx1, Wx1, S1, HO⟩
  iapply (copy_spec d (src := colSlice i y1) (dst := y1v) (sem := s2) (by decide)) $$ [$Hy1 $Wy1 $S2 $HO]
  · iexact Hm
  iintro ⟨Hy1, Wy1, S2, HO⟩
  iapply (copy_spec d (src := colSlice i x2) (dst := x2v) (sem := s3) (by decide)) $$ [$Hx2 $Wx2 $S3 $HO]
  · iexact Hm
  iintro ⟨Hx2, Wx2, S3, HO⟩
  iapply (copy_spec d (src := colSlice i y2) (dst := y2v) (sem := s4) (by decide)) $$ [$Hy2 $Wy2 $S4 $HO]
  · iexact Hm
  iintro ⟨Hy2, Wy2, S4, HO⟩
  iapply (trips_spec d hcol) $$ [Wb Wx1 Wy1 Wx2 Wy2 HL HI HP Hsa Hsb HO Hout]
  · isplitr; · iexact Hm
    unfold Kit
    iframe
  iintro ⟨HK, Hout⟩
  unfold Kit
  icases HK with ⟨HA, HB, HC, HD, Hsa, Hsb, HO⟩
  iapply (copy_spec d (src := out) (dst := rowSlice i res) (sem := s5) (by decide)) $$ [$Hout $Hres $S5 $HO]
  · iexact Hm
  iintro ⟨Hout, Hres, S5, HO⟩
  iapply (wpT_pure d)
  iapply Hk
  iframe
  iexists _; iexact Hout

end

end Cert.Tile
-- ==== Proof.BodyEq.lean ====
/-
  The printed task is the task of `Win`.
-/
module

public import proofs.«01_k».proof.Proof.Win

@[expose] public section

set_option maxRecDepth 100000
set_option maxHeartbeats 0

noncomputable section

namespace Cert.Tile

open Cert.KernelIdeal Cert.KernelIdeal.Gen
open Idealize.ShloMosaic Idealize.SL.Sem

variable {F : FTy → Type} [FloatOps F] [Named F]

/-- The core and the subcore of a task. -/
abbrev ci (i : grid0.Coords) : Fin τ.nSC := (i 0).castLE hcore0
abbrev ji (i : grid0.Coords) : Fin τ.nSub := (i 1).castLE hsub0

section Printed

variable (i : grid0.Coords) (arg2 : Memref sig .scVector .hbm S16384x128 .f32) (harg2 : arg2.IsWhole) (arg3 : Memref sig .scVector .hbm S1024 .i32) (harg3 : arg3.IsWhole) (arg4 : Memref sig .scVector .hbm S1024 .i32) (harg4 : arg4.IsWhole) (arg5 : Memref sig .scVector .hbm S1024 .i32) (harg5 : arg5.IsWhole) (arg6 : Memref sig .scVector .hbm S1024 .i32) (harg6 : arg6.IsWhole) (arg7 : Memref sig .scVector .hbm S1024 .i32) (harg7 : arg7.IsWhole) (arg8 : Memref sig .scVector .hbm S1024x96 .f32) (harg8 : arg8.IsWhole) (arg9 : Memref sig .scVector .vmem S32 .i32) (harg9 : arg9.IsWhole) (arg10 : Memref sig .scVector .vmem S32 .i32) (harg10 : arg10.IsWhole) (arg11 : Memref sig .scVector .vmem S32 .i32) (harg11 : arg11.IsWhole) (arg12 : Memref sig .scVector .vmem S32 .i32) (harg12 : arg12.IsWhole) (arg13 : Memref sig .scVector .vmem S32 .i32) (harg13 : arg13.IsWhole) (arg14 : Memref sig .scVector .vmem S128 .i32) (harg14 : arg14.IsWhole) (arg15 : Memref sig .scVector .vmem S128 .i32) (harg15 : arg15.IsWhole) (arg16 : Memref sig .scVector .vmem S128 .i32) (harg16 : arg16.IsWhole) (arg17 : Memref sig .scVector .vmem S128 .i32) (harg17 : arg17.IsWhole) (arg18 : Memref sig .scVector .vmem S256x128 .f32) (harg18 : arg18.IsWhole) (arg19 : Memref sig .scVector .vmem S256x128 .f32) (harg19 : arg19.IsWhole) (arg20 : Memref sig .scVector .vmem S256 .f32) (harg20 : arg20.IsWhole) (arg21 : Memref sig .scVector .vmem S256 .f32) (harg21 : arg21.IsWhole) (arg22 : Memref sig .scVector .vmem S32x96 .f32) (harg22 : arg22.IsWhole) (arg23 : DmaSems sig S_) (arg24 : DmaSems sig S_) (v6_r0 : DmaSems sig S_) (v6_r1 : DmaSems sig S_) (v6_r2 : DmaSems sig S_) (v6_r3 : DmaSems sig S_) (v6_r4 : DmaSems sig S_) (v6_r5 : DmaSems sig S_)

theorem trip_eq :
    (fun t => tripOf (cc := ci i) (jj := ji i) arg9 arg10 arg11 arg13 arg14 arg15 arg16 arg17 arg22
      (fun r h => k0_part49 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 v6_r0 v6_r1 v6_r2 v6_r3 v6_r4 v6_r5 lanes r h)
      (fun r h hh hb last => k0_part53 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 v6_r0 v6_r1 v6_r2 v6_r3 v6_r4 v6_r5 lanes col96 r h hh hb last)
      (fun h hh a x y => k0_part54 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 v6_r0 v6_r1 v6_r2 v6_r3 v6_r4 v6_r5 h hh a x y)
      (fun h hh d z0 z1 z2 z3 z => k0_part55 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 v6_r0 v6_r1 v6_r2 v6_r3 v6_r4 v6_r5 h hh d z0 z1 z2 z3 z)
      (fun r h hh => k0_part57 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 v6_r0 v6_r1 v6_r2 v6_r3 v6_r4 v6_r5 lanes col96 r h hh)
      (fun h hh a x y => k0_part58 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 v6_r0 v6_r1 v6_r2 v6_r3 v6_r4 v6_r5 h hh a x y) t)
      = tripText (cc := ci i) (jj := ji i) arg2 arg9 arg10 arg11 arg12 arg13 arg14 arg15 arg16 arg17 arg18 arg19 arg20 arg21 arg22 arg23 arg24 := by
  funext t
  unfold tripText
  congr 1

theorem task_eq' :
    cc0__sc_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 v6_r0 v6_r1 v6_r2 v6_r3 v6_r4 v6_r5
      = taskOf (cc := ci i) (jj := ji i) arg9 arg10 arg11 arg12 arg13 arg22 i arg3 arg4 arg5 arg6 arg7 arg8 harg9 harg10 harg11 harg12 harg13 harg22
          v6_r0 v6_r1 v6_r2 v6_r3 v6_r4 v6_r5
          (fun t => tripOf (cc := ci i) (jj := ji i) arg9 arg10 arg11 arg13 arg14 arg15 arg16 arg17 arg22
            (fun r h => k0_part49 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 v6_r0 v6_r1 v6_r2 v6_r3 v6_r4 v6_r5 lanes r h)
            (fun r h hh hb last => k0_part53 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 v6_r0 v6_r1 v6_r2 v6_r3 v6_r4 v6_r5 lanes col96 r h hh hb last)
            (fun h hh a x y => k0_part54 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 v6_r0 v6_r1 v6_r2 v6_r3 v6_r4 v6_r5 h hh a x y)
            (fun h hh d z0 z1 z2 z3 z => k0_part55 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 v6_r0 v6_r1 v6_r2 v6_r3 v6_r4 v6_r5 h hh d z0 z1 z2 z3 z)
            (fun r h hh => k0_part57 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 v6_r0 v6_r1 v6_r2 v6_r3 v6_r4 v6_r5 lanes col96 r h hh)
            (fun h hh a x y => k0_part58 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 v6_r0 v6_r1 v6_r2 v6_r3 v6_r4 v6_r5 h hh a x y) t) := rfl

/-- The printed task is the task of `Win`. -/
theorem task_eq :
    cc0__sc_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 v6_r0 v6_r1 v6_r2 v6_r3 v6_r4 v6_r5
      = taskOf (cc := ci i) (jj := ji i) arg9 arg10 arg11 arg12 arg13 arg22 i arg3 arg4 arg5 arg6 arg7 arg8 harg9 harg10 harg11 harg12 harg13 harg22
          v6_r0 v6_r1 v6_r2 v6_r3 v6_r4 v6_r5
          (tripText (cc := ci i) (jj := ji i) arg2 arg9 arg10 arg11 arg12 arg13 arg14 arg15 arg16 arg17 arg18 arg19 arg20 arg21 arg22 arg23 arg24) :=
  (task_eq' i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 v6_r0 v6_r1 v6_r2 v6_r3 v6_r4 v6_r5).trans (congrArg _ (trip_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 v6_r0 v6_r1 v6_r2 v6_r3 v6_r4 v6_r5))

end Printed

end Cert.Tile
-- ==== Proof.Scoped.lean ====
/-
  A subcore's task from what the launch hands it: its slices of the columns, its share of the map, its block of the result,
  its scratch and its semaphores; and back.
-/
module

public import proofs.«01_k».proof.Proof.Task
public import proofs.«01_k».proof.Proof.BodyEq

@[expose] public section

set_option maxHeartbeats 1000000

noncomputable section

namespace Cert.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## What a view holds, back as a points-to -/

/-- A view that reads what `g` reads there is `g` there. -/
theorem Hold.back (d : Dev nD) {cc : Fin τ.nSC} {jj : Fin τ.nSub} {sp : Space} {s : Shape} {e : EltTy}
    {m : Memref sig .scVector sp s e} {q : PosShare TreeShare} (g : Buf (Elt F) (m.view.loc (V d cc jj))) :
    Hold (F := F) d (cc := cc) (jj := jj) m q (m.view.read (Elt F) g) ⊢ (m.view.loc (V d cc jj) ↦[m.view.set]{q} g : sProp 𝕄) := by
  unfold Hold
  iintro ⟨%f, %hf, H⟩
  have e : (m.view.loc (V d cc jj) ↦[m.view.set]{q} f : sProp 𝕄) = m.view.loc (V d cc jj) ↦[m.view.set]{q} g := by
    refine pointsTo_congr fun i hi => ?_
    obtain ⟨x, -, rfl⟩ := Finset.mem_map.mp hi
    have := congrFun hf x
    rw [View.read_apply, View.read_apply] at this
    exact (cast_inj _).mp this
  iapply (Entails.of_eq e)
  iexact H

/-- A buffer whole at some contents, as a view that holds something. -/
theorem Hold.some (d : Dev nD) {cc : Fin τ.nSC} {jj : Fin τ.nSub} (b : Ref sig .scVector) :
    (iprop(∃ f : Buf (Elt F) ((V d cc jj).loc b), (V d cc jj).loc b ↦{fullShare} f) : sProp 𝕄)
      ⊣⊢ iprop(∃ v, Hold (F := F) d (cc := cc) (jj := jj) (Memref.whole b) fullShare v) := by
  have hs : (Memref.whole b : Memref sig .scVector _ _ _).view.set = Finset.univ := View.set_whole _
  constructor
  · iintro ⟨%f, H⟩
    iexists _
    iapply (Hold.intro (F := F) d (m := Memref.whole b) f)
    rw [hs]; iexact H
  · unfold Hold
    iintro ⟨%v, %f, -, H⟩
    iexists f
    rw [hs]; iexact H

theorem Hold.some_of (d : Dev nD) {cc : Fin τ.nSC} {jj : Fin τ.nSub} (b : Ref sig .scVector) (v : b.ty.shape.Idx → Elt F b.ty.elt) :
    (Hold (F := F) d (cc := cc) (jj := jj) (Memref.whole b) fullShare v) ⊢ (iprop(∃ f : Buf (Elt F) ((V d cc jj).loc b), (V d cc jj).loc b ↦{fullShare} f) : sProp 𝕄) := by
  refine BIBase.Entails.trans ?_ (Hold.some d b).2
  iintro H; iexists v; iexact H

/-! ## A subcore's own buffers and semaphores: the task's, and the rest -/

/-- The task's scratch. -/
abbrev scr : List (Ref sig .scVector) :=
  [cc0_scratch0, cc0_scratch1, cc0_scratch2, cc0_scratch3, cc0_scratch4, cc0_scratch5, cc0_scratch6, cc0_scratch7, cc0_scratch8,
    cc0_scratch9, cc0_scratch10, cc0_scratch11, cc0_scratch12, cc0_scratch13]
/-- The task's semaphores. -/
abbrev sms : List (SemLoc sig) :=
  [.dma cc0_scratch14.sem, .dma cc0_scratch15.sem, .dma cc0_scoped0.sem, .dma cc0_scoped1.sem, .dma cc0_scoped2.sem, .dma cc0_scoped3.sem,
    .dma cc0_scoped4.sem, .dma cc0_scoped5.sem]

theorem scr_nodup : scr.Nodup := by decide
theorem sms_nodup : sms.Nodup := by decide

/-- Everything in the list, one after another. -/
def each {I : Type} (Φ : I → sProp 𝕄) : List I → sProp 𝕄
  | [] => iprop(emp)
  | [a] => Φ a
  | a :: b :: l => iprop(Φ a ∗ each Φ (b :: l))

theorem bigSep_each {I : Type} [DecidableEq I] (Φ : I → sProp 𝕄) : ∀ (l : List I), l.Nodup → (bigSep l.toFinset Φ : sProp 𝕄) = each Φ l
  | [], _ => bigSep_empty
  | [a], _ => by rw [show [a].toFinset = {a} from rfl]; exact bigSep_singleton
  | a :: b :: l, h => by
    rw [List.toFinset_cons, SparseCore.bigSep_insert' (by simpa using (List.nodup_cons.mp h).1), bigSep_each Φ (b :: l) (List.nodup_cons.mp h).2]
    rfl

variable (d : Dev nD) (cc : Fin τ.nSC) (jj : Fin τ.nSub)

/-- The scratch among a subcore's own buffers. -/
abbrev scrSet : Finset (DevRef τ sig) := scr.toFinset.map ⟨(Proc.scVector cc jj).devRef, Proc.devRef_injective _⟩
/-- The semaphores among a subcore's own. -/
abbrev smsSet : Finset (GSem nD τ sig) :=
  sms.toFinset.map ⟨fun s => ((V d cc jj : Thread nD τ), s), fun _ _ e => (Prod.mk.inj e).2⟩

theorem scr_sub : scrSet cc jj ⊆ ownRefs (τ := τ) (.scVector cc jj) := by
  intro b hb
  obtain ⟨r, hr, rfl⟩ := Finset.mem_map.mp hb
  refine SparseCore.Cfg.mem_ownRefs_of_owner (p := Proc.scVector cc jj) ?_
  simp only [scr, List.mem_toFinset, List.mem_cons, List.not_mem_nil, or_false] at hr
  rcases hr with rfl | rfl | rfl | rfl | rfl | rfl | rfl | rfl | rfl | rfl | rfl | rfl | rfl | rfl <;> rfl

theorem sms_scoped : ∀ s ∈ sms, s.isScoped .scVector = true := by decide

theorem sms_sub : smsSet d cc jj ⊆ ownCells (V d cc jj) := by
  intro g hg
  obtain ⟨s, hs, rfl⟩ := Finset.mem_map.mp hg
  exact mem_ownCells.mpr ⟨rfl, sms_scoped s (List.mem_toFinset.mp hs)⟩

theorem ownBufs_V : (ownBufs (V d cc jj) : sProp 𝕄)
    = iprop(each (fun b : Ref sig .scVector => iprop(∃ f, (V d cc jj).loc b ↦{fullShare} f)) scr
        ∗ bigSep (ownRefs (τ := τ) (.scVector cc jj) \ scrSet cc jj) fun b => iprop(∃ f, ((d, b) : Loc nD τ sig) ↦{fullShare} f)) := by
  unfold SparseCore.Cfg.ownBufs
  show bigSep (ownRefs (τ := τ) (.scVector cc jj)) _ = _
  conv_lhs => rw [← Finset.union_sdiff_of_subset (scr_sub cc jj)]
  rw [bigSep_union Finset.disjoint_sdiff, bigSep_map, bigSep_each _ scr scr_nodup]
  rfl

theorem ownSems0_V : (ownSems0 (V d cc jj) : sProp 𝕄)
    = iprop(each (fun s : SemLoc sig => semVal ((V d cc jj : Thread nD τ), s) 0) sms
        ∗ bigSep (ownCells (V d cc jj) \ smsSet d cc jj) fun g => semVal g 0) := by
  unfold SparseCore.Cfg.ownSems0
  conv_lhs => rw [← Finset.union_sdiff_of_subset (sms_sub d cc jj)]
  rw [bigSep_union Finset.disjoint_sdiff, bigSep_map, bigSep_each _ sms sms_nodup]
  rfl

end Cert.Tile
-- ==== Proof.Launch.lean ====
/-
  A subcore's task from what the launch hands it: its slices of the columns, its share of the map, its block of the result,
  its scratch and its semaphores; and back.
-/
module

public import proofs.«01_k».proof.Proof.Scoped

@[expose] public section

set_option maxHeartbeats 1000000

noncomputable section

namespace Cert.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## The pieces of the arrays -/

local notation "bM" => (Memref.whole main_v11_scv : Memref sig Kind.scVector Space.hbm S1024 EltTy.i32)
local notation "x1M" => (Memref.whole main_v13_scv : Memref sig Kind.scVector Space.hbm S1024 EltTy.i32)
local notation "y1M" => (Memref.whole main_v15_scv : Memref sig Kind.scVector Space.hbm S1024 EltTy.i32)
local notation "x2M" => (Memref.whole main_v17_scv : Memref sig Kind.scVector Space.hbm S1024 EltTy.i32)
local notation "y2M" => (Memref.whole main_v19_scv : Memref sig Kind.scVector Space.hbm S1024 EltTy.i32)
local notation "mM" => (Memref.whole main_v4_scv : Memref sig Kind.scVector Space.hbm S16384x128 EltTy.f32)
local notation "oM" => (Memref.whole main_v20_scv : Memref sig Kind.scVector Space.hbm S1024x96 EltTy.f32)

/-- A task's entries of a column. -/
abbrev cset (L : grid0.Coords) : Finset S1024.Idx := (Rect.unit (s := S1024) (k0_off1 L) S32.size (k0_off1_inb L)).set
/-- A task's rows of the result. -/
abbrev rset (L : grid0.Coords) : Finset S1024x96.Idx := (Rect.unit (s := S1024x96) (k0_off406 L) S32x96.size (k0_off406_inb L)).set

/-- The number of a task: its subcore twice, and its core. -/
def wid (L : grid0.Coords) : Fin 32 := ⟨2 * (L 1).val + (L 0).val, by
  have h1 : (L 1).val < 16 := (L 1).isLt
  have h0 : (L 0).val < 2 := (L 0).isLt
  omega⟩

theorem mem_cset {L : grid0.Coords} {y : S1024.Idx} : y ∈ cset L ↔ 32 * (wid L).val ≤ (y 0).val ∧ (y 0).val < 32 * (wid L).val + 32 := by
  rw [Rect.mem_set_unit, k0_off1_eq]
  show (∀ a : Fin 1, _) ↔ _
  rw [Fin.forall_fin_one]
  show (64 * (L 1).val + 32 * (L 0).val ≤ (y 0).val ∧ (y 0).val < 64 * (L 1).val + 32 * (L 0).val + 32) ↔ _
  show _ ↔ 32 * (2 * (L 1).val + (L 0).val) ≤ (y 0).val ∧ (y 0).val < 32 * (2 * (L 1).val + (L 0).val) + 32
  omega

theorem mem_rset {L : grid0.Coords} {y : S1024x96.Idx} : y ∈ rset L ↔ 32 * (wid L).val ≤ (y 0).val ∧ (y 0).val < 32 * (wid L).val + 32 := by
  rw [Rect.mem_set_unit, k0_off406_eq]
  show (∀ a : Fin 2, _) ↔ _
  rw [Fin.forall_fin_two]
  show ((64 * (L 1).val + 32 * (L 0).val ≤ (y 0).val ∧ (y 0).val < 64 * (L 1).val + 32 * (L 0).val + 32) ∧ (0 ≤ (y 1).val ∧ (y 1).val < 0 + 96)) ↔ _
  show _ ↔ 32 * (2 * (L 1).val + (L 0).val) ≤ (y 0).val ∧ (y 0).val < 32 * (2 * (L 1).val + (L 0).val) + 32
  have h : (y 1).val < 96 := (y 1).isLt
  omega

/-! ## The result -/

section
variable [FloatOps F] [Named F]

/-- The result: row `n` is the weighted sum of the patch of row `n` of the columns. -/
def outArr (vi : S16384x128.Idx → F .f32) (b x1 y1 x2 y2 : S1024.Idx → BitVec 32) : S1024x96.Idx → F .f32 := fun y =>
  rowVal (patchOf vi (b (ix1 (y 0))) (x1 (ix1 (y 0))) (y1 (ix1 (y 0)))) (Scalar.subi (x2 (ix1 (y 0))) (x1 (ix1 (y 0))))
    (Scalar.subi (y2 (ix1 (y 0))) (y1 (ix1 (y 0)))) (y 1).val

/-- Entry `n` of a task's slice of a column is the column's at the task's place. -/
theorem at32_slice (L : grid0.Coords) (g : S1024.Idx → BitVec 32) (n : ℕ) (y : Fin 1024) (h : y.val = 32 * (wid L).val + n % 32) :
    at32 (fun x : S32.Idx => g ((Rect.unit (s := S1024) (k0_off1 L) S32.size (k0_off1_inb L)).emb x)) n = g (ix1 y) := by
  unfold at32
  refine congrArg g (funext fun a => ?_)
  match a with
  | 0 =>
    refine Fin.ext ?_
    have h1 : k0_off1 L 0 = 64 * (L 1).val + 32 * (L 0).val := by rw [k0_off1_eq]; rfl
    show k0_off1 L 0 + 1 * (n % 32) = y.val
    rw [h1, h]
    show _ = 32 * (2 * (L 1).val + (L 0).val) + n % 32
    omega

theorem read_out (L : grid0.Coords) (vi : S16384x128.Idx → F .f32) (b x1 y1 x2 y2 : S1024.Idx → BitVec 32) (y : S32x96.Idx) :
    outArr vi b x1 y1 x2 y2 ((Rect.unit (s := S1024x96) (k0_off406 L) S32x96.size (k0_off406_inb L)).emb y)
      = rowOf vi (fun x : S32.Idx => b ((Rect.unit (s := S1024) (k0_off1 L) S32.size (k0_off1_inb L)).emb x))
          (fun x : S32.Idx => x1 ((Rect.unit (s := S1024) (k0_off1 L) S32.size (k0_off1_inb L)).emb x))
          (fun x : S32.Idx => y1 ((Rect.unit (s := S1024) (k0_off1 L) S32.size (k0_off1_inb L)).emb x))
          (fun x : S32.Idx => x2 ((Rect.unit (s := S1024) (k0_off1 L) S32.size (k0_off1_inb L)).emb x))
          (fun x : S32.Idx => y2 ((Rect.unit (s := S1024) (k0_off1 L) S32.size (k0_off1_inb L)).emb x)) (y 0).val (y 1).val := by
  have h1 : k0_off406 L 0 = 64 * (L 1).val + 32 * (L 0).val := by rw [k0_off406_eq]; rfl
  have h2 : k0_off406 L 1 = 0 := by rw [k0_off406_eq]; rfl
  have e1 : ((Rect.unit (s := S1024x96) (k0_off406 L) S32x96.size (k0_off406_inb L)).emb y 1).val = (y 1).val := by
    show k0_off406 L 1 + 1 * (y 1).val = _
    omega
  have e0 : ((Rect.unit (s := S1024x96) (k0_off406 L) S32x96.size (k0_off406_inb L)).emb y 0).val = 32 * (wid L).val + (y 0).val % 32 := by
    show k0_off406 L 0 + 1 * (y 0).val = _
    have h : (y 0).val < 32 := (y 0).isLt
    rw [h1]
    show _ = 32 * (2 * (L 1).val + (L 0).val) + (y 0).val % 32
    omega
  unfold outArr rowOf
  rw [e1, at32_slice L b _ _ e0, at32_slice L x1 _ _ e0, at32_slice L y1 _ _ e0, at32_slice L x2 _ _ e0, at32_slice L y2 _ _ e0]

/-! ## What the call hands a task, and what it brings back -/

variable (W : Dev nD → Valuation τ sig (Elt F))

abbrev cb' : DevRef τ sig := Proc.devRef .tc main_v11
abbrev cx1' : DevRef τ sig := Proc.devRef .tc main_v13
abbrev cy1' : DevRef τ sig := Proc.devRef .tc main_v15
abbrev cx2' : DevRef τ sig := Proc.devRef .tc main_v17
abbrev cy2' : DevRef τ sig := Proc.devRef .tc main_v19
abbrev mp' : DevRef τ sig := Proc.devRef .tc main_v4
abbrev ot' : DevRef τ sig := Proc.devRef .tc main_v20

/-- The result on device `d`, from what the arrays hold before the call. -/
abbrev outOf (d : Dev nD) : S1024x96.Idx → F .f32 :=
  outArr (W d mp') (W d cb') (W d cx1') (W d cy1') (W d cx2') (W d cy2')

/-- A task's slices of the columns and its share of the map. -/
def reads (d : Dev nD) (L : grid0.Coords) : sProp 𝕄 :=
  iprop(((d, cb') ↦[cset L]{fullShare} W d cb') ∗ ((d, cx1') ↦[cset L]{fullShare} W d cx1') ∗ ((d, cy1') ↦[cset L]{fullShare} W d cy1')
    ∗ ((d, cx2') ↦[cset L]{fullShare} W d cx2') ∗ ((d, cy2') ↦[cset L]{fullShare} W d cy2')
    ∗ ((d, mp') ↦{pieceOf fullShare 32 (by decide) (wid L)} W d mp'))

/-- What a task is handed. -/
def goOf (d : Dev nD) (L : grid0.Coords) : sProp 𝕄 := iprop(reads W d L ∗ ((d, ot') ↦[rset L]{fullShare} W d ot'))
/-- What it brings back. -/
def tdOf (d : Dev nD) (L : grid0.Coords) : sProp 𝕄 := iprop(reads W d L ∗ ((d, ot') ↦[rset L]{fullShare} outOf W d))

/-- No box is more than sixteen rows high. -/
def Short : Prop := ∀ (d : Dev nD) (n : Fin 1024), (Scalar.subi ((W d cy2' : S1024.Idx → BitVec 32) (ix1 n)) ((W d cy1' : S1024.Idx → BitVec 32) (ix1 n))).toInt ≤ 16

section Tile

variable (d : Dev nD) (L : grid0.Coords)

theorem set_col0 : (colSlice L bM).view.set = cset L := by
  rw [View.set_slice]; exact Finset.map_refl
theorem col_in0 : (((d, cb') ↦[cset L]{fullShare} W d cb') : sProp 𝕄)
    ⊢ Hold d (cc := ci L) (jj := ji L) (colSlice L bM) fullShare (fun x => (W d cb' : S1024.Idx → BitVec 32) ((Rect.unit (s := S1024) (k0_off1 L) S32.size (k0_off1_inb L)).emb x)) := by
  refine BIBase.Entails.trans (Entails.of_eq ?_) (Hold.intro (F := F) d (m := colSlice L bM) (W d cb'))
  rw [set_col0]
theorem col_out0 : Hold d (cc := ci L) (jj := ji L) (colSlice L bM) fullShare (fun x => (W d cb' : S1024.Idx → BitVec 32) ((Rect.unit (s := S1024) (k0_off1 L) S32.size (k0_off1_inb L)).emb x))
    ⊢ (((d, cb') ↦[cset L]{fullShare} W d cb') : sProp 𝕄) := by
  refine BIBase.Entails.trans (Hold.back (F := F) d (m := colSlice L bM) (W d cb')) (Entails.of_eq ?_)
  rw [set_col0]
theorem set_col1 : (colSlice L x1M).view.set = cset L := by
  rw [View.set_slice]; exact Finset.map_refl
theorem col_in1 : (((d, cx1') ↦[cset L]{fullShare} W d cx1') : sProp 𝕄)
    ⊢ Hold d (cc := ci L) (jj := ji L) (colSlice L x1M) fullShare (fun x => (W d cx1' : S1024.Idx → BitVec 32) ((Rect.unit (s := S1024) (k0_off1 L) S32.size (k0_off1_inb L)).emb x)) := by
  refine BIBase.Entails.trans (Entails.of_eq ?_) (Hold.intro (F := F) d (m := colSlice L x1M) (W d cx1'))
  rw [set_col1]
theorem col_out1 : Hold d (cc := ci L) (jj := ji L) (colSlice L x1M) fullShare (fun x => (W d cx1' : S1024.Idx → BitVec 32) ((Rect.unit (s := S1024) (k0_off1 L) S32.size (k0_off1_inb L)).emb x))
    ⊢ (((d, cx1') ↦[cset L]{fullShare} W d cx1') : sProp 𝕄) := by
  refine BIBase.Entails.trans (Hold.back (F := F) d (m := colSlice L x1M) (W d cx1')) (Entails.of_eq ?_)
  rw [set_col1]
theorem set_col2 : (colSlice L y1M).view.set = cset L := by
  rw [View.set_slice]; exact Finset.map_refl
theorem col_in2 : (((d, cy1') ↦[cset L]{fullShare} W d cy1') : sProp 𝕄)
    ⊢ Hold d (cc := ci L) (jj := ji L) (colSlice L y1M) fullShare (fun x => (W d cy1' : S1024.Idx → BitVec 32) ((Rect.unit (s := S1024) (k0_off1 L) S32.size (k0_off1_inb L)).emb x)) := by
  refine BIBase.Entails.trans (Entails.of_eq ?_) (Hold.intro (F := F) d (m := colSlice L y1M) (W d cy1'))
  rw [set_col2]
theorem col_out2 : Hold d (cc := ci L) (jj := ji L) (colSlice L y1M) fullShare (fun x => (W d cy1' : S1024.Idx → BitVec 32) ((Rect.unit (s := S1024) (k0_off1 L) S32.size (k0_off1_inb L)).emb x))
    ⊢ (((d, cy1') ↦[cset L]{fullShare} W d cy1') : sProp 𝕄) := by
  refine BIBase.Entails.trans (Hold.back (F := F) d (m := colSlice L y1M) (W d cy1')) (Entails.of_eq ?_)
  rw [set_col2]
theorem set_col3 : (colSlice L x2M).view.set = cset L := by
  rw [View.set_slice]; exact Finset.map_refl
theorem col_in3 : (((d, cx2') ↦[cset L]{fullShare} W d cx2') : sProp 𝕄)
    ⊢ Hold d (cc := ci L) (jj := ji L) (colSlice L x2M) fullShare (fun x => (W d cx2' : S1024.Idx → BitVec 32) ((Rect.unit (s := S1024) (k0_off1 L) S32.size (k0_off1_inb L)).emb x)) := by
  refine BIBase.Entails.trans (Entails.of_eq ?_) (Hold.intro (F := F) d (m := colSlice L x2M) (W d cx2'))
  rw [set_col3]
theorem col_out3 : Hold d (cc := ci L) (jj := ji L) (colSlice L x2M) fullShare (fun x => (W d cx2' : S1024.Idx → BitVec 32) ((Rect.unit (s := S1024) (k0_off1 L) S32.size (k0_off1_inb L)).emb x))
    ⊢ (((d, cx2') ↦[cset L]{fullShare} W d cx2') : sProp 𝕄) := by
  refine BIBase.Entails.trans (Hold.back (F := F) d (m := colSlice L x2M) (W d cx2')) (Entails.of_eq ?_)
  rw [set_col3]
theorem set_col4 : (colSlice L y2M).view.set = cset L := by
  rw [View.set_slice]; exact Finset.map_refl
theorem col_in4 : (((d, cy2') ↦[cset L]{fullShare} W d cy2') : sProp 𝕄)
    ⊢ Hold d (cc := ci L) (jj := ji L) (colSlice L y2M) fullShare (fun x => (W d cy2' : S1024.Idx → BitVec 32) ((Rect.unit (s := S1024) (k0_off1 L) S32.size (k0_off1_inb L)).emb x)) := by
  refine BIBase.Entails.trans (Entails.of_eq ?_) (Hold.intro (F := F) d (m := colSlice L y2M) (W d cy2'))
  rw [set_col4]
theorem col_out4 : Hold d (cc := ci L) (jj := ji L) (colSlice L y2M) fullShare (fun x => (W d cy2' : S1024.Idx → BitVec 32) ((Rect.unit (s := S1024) (k0_off1 L) S32.size (k0_off1_inb L)).emb x))
    ⊢ (((d, cy2') ↦[cset L]{fullShare} W d cy2') : sProp 𝕄) := by
  refine BIBase.Entails.trans (Hold.back (F := F) d (m := colSlice L y2M) (W d cy2')) (Entails.of_eq ?_)
  rw [set_col4]

theorem map_in : (((d, mp') ↦{pieceOf fullShare 32 (by decide) (wid L)} W d mp') : sProp 𝕄)
    ⊢ iprop(Hold d (cc := ci L) (jj := ji L) mM (pieceOf fullShare 32 (by decide) (wid L)).left (W d mp') ∗ Hold d (cc := ci L) (jj := ji L) mM (pieceOf fullShare 32 (by decide) (wid L)).right (W d mp')) := by
  have hs : (mM).view.set = Finset.univ := View.set_whole _
  refine (pointsTo_share (PosShare.mem_left_op_right _)).1.trans ?_
  iintro ⟨H1, H2⟩
  isplitl [H1]
  · iapply (Hold.intro (F := F) d (m := mM) (W d mp'))
    rw [hs]; iexact H1
  · iapply (Hold.intro (F := F) d (m := mM) (W d mp'))
    rw [hs]; iexact H2
theorem map_out : iprop(Hold d (cc := ci L) (jj := ji L) mM (pieceOf fullShare 32 (by decide) (wid L)).left (W d mp') ∗ Hold d (cc := ci L) (jj := ji L) mM (pieceOf fullShare 32 (by decide) (wid L)).right (W d mp'))
    ⊢ (((d, mp') ↦{pieceOf fullShare 32 (by decide) (wid L)} W d mp') : sProp 𝕄) := by
  have hs : (mM).view.set = Finset.univ := View.set_whole _
  have hb : ∀ q, Hold d (cc := ci L) (jj := ji L) mM q (W d mp') ⊢ (((d, mp') ↦{q} W d mp') : sProp 𝕄) := fun q =>
    BIBase.Entails.trans (Hold.back (F := F) d (cc := ci L) (jj := ji L) (m := mM) (q := q) (W d mp')) (Entails.of_eq (by rw [hs]))
  exact BIBase.Entails.trans (BIClass.sep_mono (hb _) (hb _)) (pointsTo_share (PosShare.mem_left_op_right _)).2

theorem set_row : (rowSlice L oM).view.set = rset L := by
  rw [View.set_slice]; exact Finset.map_refl
theorem out_in : (((d, ot') ↦[rset L]{fullShare} W d ot') : sProp 𝕄) ⊢ iprop(∃ v, Hold d (cc := ci L) (jj := ji L) (rowSlice L oM) fullShare v) := by
  iintro H
  iexists _
  iapply (Hold.intro (F := F) d (m := rowSlice L oM) (W d ot'))
  rw [set_row]; iexact H
theorem out_out : Hold d (cc := ci L) (jj := ji L) (rowSlice L oM) fullShare (fun y => rowOf (W d mp')
      (fun x : S32.Idx => (W d cb' : S1024.Idx → BitVec 32) ((Rect.unit (s := S1024) (k0_off1 L) S32.size (k0_off1_inb L)).emb x))
      (fun x : S32.Idx => (W d cx1' : S1024.Idx → BitVec 32) ((Rect.unit (s := S1024) (k0_off1 L) S32.size (k0_off1_inb L)).emb x))
      (fun x : S32.Idx => (W d cy1' : S1024.Idx → BitVec 32) ((Rect.unit (s := S1024) (k0_off1 L) S32.size (k0_off1_inb L)).emb x))
      (fun x : S32.Idx => (W d cx2' : S1024.Idx → BitVec 32) ((Rect.unit (s := S1024) (k0_off1 L) S32.size (k0_off1_inb L)).emb x))
      (fun x : S32.Idx => (W d cy2' : S1024.Idx → BitVec 32) ((Rect.unit (s := S1024) (k0_off1 L) S32.size (k0_off1_inb L)).emb x)) (y 0).val (y 1).val)
    ⊢ (((d, ot') ↦[rset L]{fullShare} outOf W d) : sProp 𝕄) := by
  have e : (fun y : S32x96.Idx => rowOf (W d mp')
      (fun x : S32.Idx => (W d cb' : S1024.Idx → BitVec 32) ((Rect.unit (s := S1024) (k0_off1 L) S32.size (k0_off1_inb L)).emb x))
      (fun x : S32.Idx => (W d cx1' : S1024.Idx → BitVec 32) ((Rect.unit (s := S1024) (k0_off1 L) S32.size (k0_off1_inb L)).emb x))
      (fun x : S32.Idx => (W d cy1' : S1024.Idx → BitVec 32) ((Rect.unit (s := S1024) (k0_off1 L) S32.size (k0_off1_inb L)).emb x))
      (fun x : S32.Idx => (W d cx2' : S1024.Idx → BitVec 32) ((Rect.unit (s := S1024) (k0_off1 L) S32.size (k0_off1_inb L)).emb x))
      (fun x : S32.Idx => (W d cy2' : S1024.Idx → BitVec 32) ((Rect.unit (s := S1024) (k0_off1 L) S32.size (k0_off1_inb L)).emb x)) (y 0).val (y 1).val)
      = (rowSlice L oM).view.read (Elt F) (outOf W d) := funext fun y => (read_out L _ _ _ _ _ _ y).symm
  rw [e]
  refine BIBase.Entails.trans (Hold.back (F := F) d (m := rowSlice L oM) (outOf W d)) (Entails.of_eq ?_)
  rw [set_row]

/-- A task of the call. -/
theorem tile_body (hs : Short W) (O : CellTallies nD τ sig (HIx 1)) (X : Waits sig (HIx 1)) (hO : ∀ g, O g none = 0) :
    iprop(levAts (K (F := F)).L (K (F := F)).lev ∗ emp ∗ goOf W d L
        ∗ scopedBufs (V d (ci L) (ji L)) ∗ scopedSems0 (V d (ci L) (ji L)) ∗ owes (V d (ci L) (ji L)) O X)
      ⊢ wp frame (wpE (defs₀ (F := F)) 𝒱₀ (V d (ci L) (ji L)) none) Set.univ
          (cc0__sc_body L mM (Memref.isWhole_whole _) bM (Memref.isWhole_whole _) x1M (Memref.isWhole_whole _) y1M (Memref.isWhole_whole _)
            x2M (Memref.isWhole_whole _) y2M (Memref.isWhole_whole _) oM (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
            cc0_scratch14 cc0_scratch15 cc0_scoped0 cc0_scoped1 cc0_scoped2 cc0_scoped3 cc0_scoped4 cc0_scoped5)
          fun _ => iprop(tdOf W d L ∗ scopedBufs (V d (ci L) (ji L)) ∗ scopedSems0 (V d (ci L) (ji L))
            ∗ ∃ X', ⌜∀ p ∈ X', p ∈ X ∨ p.2 = none⌝ ∗ owes (V d (ci L) (ji L)) O X') := by
  have hcol : ∀ n, (Scalar.subi (at32 (fun x : S32.Idx => (W d cy2' : S1024.Idx → BitVec 32) ((Rect.unit (s := S1024) (k0_off1 L) S32.size (k0_off1_inb L)).emb x)) n)
      (at32 (fun x : S32.Idx => (W d cy1' : S1024.Idx → BitVec 32) ((Rect.unit (s := S1024) (k0_off1 L) S32.size (k0_off1_inb L)).emb x)) n)).toInt ≤ 16 := by
    intro n
    have hw : (wid L).val < 32 := (wid L).isLt
    rw [at32_slice L _ n ⟨32 * (wid L).val + n % 32, by omega⟩ rfl, at32_slice L _ n ⟨32 * (wid L).val + n % 32, by omega⟩ rfl]
    exact hs d _
  rw [task_eq, (K (F := F)).scopedBufs_V facts d (ci L) (ji L), SparseCore.Cfg.scopedSems0_V (Val := Elt F) d (ci L) (ji L), ownSems0_V, ownBufs_V]
  simp only [each]
  unfold goOf tdOf reads
  iintro ⟨#Hlv, -, ⟨⟨Hc0, Hc1, Hc2, Hc3, Hc4, Hmap⟩, Ho⟩, ⟨⟨B0, B1, B2, B3, B4, B5, B6, B7, B8, B9, B10, B11, B12, B13⟩, Hbufs⟩, ⟨⟨Sa, Sb, S0, S1, S2, S3, S4, S5⟩, Hsems⟩, HO⟩
  ihave Hmw := (show levAts (K (F := F)).L (K (F := F)).lev ⊢ Transfers.MayWaits (V d (ci L) (ji L)) (default : HIx 1) O from
    (K (F := F)).mayWaits_none (thr := V d (ci L) (ji L)) hO) $$ Hlv
  ihave Hc0 := (col_in0 W d L) $$ Hc0
  ihave Hc1 := (col_in1 W d L) $$ Hc1
  ihave Hc2 := (col_in2 W d L) $$ Hc2
  ihave Hc3 := (col_in3 W d L) $$ Hc3
  ihave Hc4 := (col_in4 W d L) $$ Hc4
  ihave Hmap := (map_in W d L) $$ Hmap
  ihave Ho := (out_in W d L) $$ Ho
  ihave B0 := (Hold.some (F := F) d cc0_scratch0).1 $$ B0
  ihave B1 := (Hold.some (F := F) d cc0_scratch1).1 $$ B1
  ihave B2 := (Hold.some (F := F) d cc0_scratch2).1 $$ B2
  ihave B3 := (Hold.some (F := F) d cc0_scratch3).1 $$ B3
  ihave B4 := (Hold.some (F := F) d cc0_scratch4).1 $$ B4
  ihave B5 := (Hold.some (F := F) d cc0_scratch5).1 $$ B5
  ihave B6 := (Hold.some (F := F) d cc0_scratch6).1 $$ B6
  ihave B7 := (Hold.some (F := F) d cc0_scratch7).1 $$ B7
  ihave B8 := (Hold.some (F := F) d cc0_scratch8).1 $$ B8
  ihave B9 := (Hold.some (F := F) d cc0_scratch9).1 $$ B9
  ihave B10 := (Hold.some (F := F) d cc0_scratch10).1 $$ B10
  ihave B11 := (Hold.some (F := F) d cc0_scratch11).1 $$ B11
  ihave B12 := (Hold.some (F := F) d cc0_scratch12).1 $$ B12
  ihave B13 := (Hold.some (F := F) d cc0_scratch13).1 $$ B13
  iapply (task_spec d (i := L) hcol) $$ [Hmw Hc0 Hc1 Hc2 Hc3 Hc4 Hmap Ho B0 B1 B2 B3 B4 B5 B6 B7 B8 B9 B10 B11 B12 B13 Sa Sb S0 S1 S2 S3 S4 S5 HO]
  · isplitl [Hmw]; · iexact Hmw
    isplitl [Hc0 Hc1 Hc2 Hc3 Hc4]; · iframe
    isplitl [B0 B1 B2 B3 B4]; · iframe
    isplitl [S0 S1 S2 S3 S4 S5]; · iframe
    isplitl [B5 B6 B7 B8]; · iframe
    isplitl [Hmap]; · iexact Hmap
    isplitl [B9 B10 B11 B12]; · iframe
    isplitl [Sa]; · iexact Sa
    isplitl [Sb]; · iexact Sb
    isplitl [HO]
    · unfold Owe
      iexists X; isplitr
      · ipureintro; exact fun p hp => Or.inl hp
      · iexact HO
    isplitl [B13]; · iexact B13
    iexact Ho
  iintro ⟨⟨Hc0, Hc1, Hc2, Hc3, Hc4⟩, ⟨S0, S1, S2, S3, S4, S5⟩, HK, B13, Ho⟩
  unfold Kit
  icases HK with ⟨⟨B0, B1, B2, B3, B4⟩, ⟨B5, B6, B7, B8⟩, Hmap, ⟨B9, B10, B11, B12⟩, Sa, Sb, HO⟩
  ihave Hc0 := (col_out0 W d L) $$ Hc0
  ihave Hc1 := (col_out1 W d L) $$ Hc1
  ihave Hc2 := (col_out2 W d L) $$ Hc2
  ihave Hc3 := (col_out3 W d L) $$ Hc3
  ihave Hc4 := (col_out4 W d L) $$ Hc4
  ihave Hmap := (map_out W d L) $$ Hmap
  ihave Ho := (out_out W d L) $$ Ho
  ihave B0 := (Hold.some_of (F := F) d cc0_scratch0 _) $$ B0
  ihave B1 := (Hold.some_of (F := F) d cc0_scratch1 _) $$ B1
  ihave B2 := (Hold.some_of (F := F) d cc0_scratch2 _) $$ B2
  ihave B3 := (Hold.some_of (F := F) d cc0_scratch3 _) $$ B3
  ihave B4 := (Hold.some_of (F := F) d cc0_scratch4 _) $$ B4
  ihave B5 := (Hold.some (F := F) d cc0_scratch5).2 $$ B5
  ihave B6 := (Hold.some (F := F) d cc0_scratch6).2 $$ B6
  ihave B7 := (Hold.some (F := F) d cc0_scratch7).2 $$ B7
  ihave B8 := (Hold.some (F := F) d cc0_scratch8).2 $$ B8
  ihave B9 := (Hold.some (F := F) d cc0_scratch9).2 $$ B9
  ihave B10 := (Hold.some (F := F) d cc0_scratch10).2 $$ B10
  ihave B11 := (Hold.some (F := F) d cc0_scratch11).2 $$ B11
  ihave B12 := (Hold.some (F := F) d cc0_scratch12).2 $$ B12
  ihave B13 := (Hold.some (F := F) d cc0_scratch13).2 $$ B13
  isplitl [Hc0 Hc1 Hc2 Hc3 Hc4 Hmap Ho]
  · isplitr [Ho]
    · iframe
    · iexact Ho
  isplitl [B0 B1 B2 B3 B4 B5 B6 B7 B8 B9 B10 B11 B12 B13 Hbufs]
  · isplitr [Hbufs]
    · iframe
    · iexact Hbufs
  isplitl [Sa Sb S0 S1 S2 S3 S4 S5 Hsems]
  · isplitr [Hsems]
    · iframe
    · iexact Hsems
  unfold Owe
  iexact HO

end Tile

end

end Cert.Tile
-- ==== Proof.Call.lean ====
/-
  The whole program: the operations before the call, the call over the tasks' pieces, the operations after it.
-/
module

public import proofs.«01_k».proof.Proof.Launch

@[expose] public section

set_option maxHeartbeats 1000000

noncomputable section

namespace Cert.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

set_option maxRecDepth 100000

variable [FloatOps F] [Named F]

/-! ## The operations before the call and after it -/

def opsA : List (HloOp τ sig (Elt F)) := [
  StableHlo.unary main_arg0 main_v0 ((transpose S4x64x64x96 [0, 2, 3, 1] · transposes_S4x96x64x64_S4x64x64x96_0_2_3_1) : (⟨S4x96x64x64, .f32⟩ : BufTy).Contents (Elt F) → (⟨S4x64x64x96, .f32⟩ : BufTy).Contents (Elt F)),
  StableHlo.reshape main_v0 main_v1 (rfl : (.f32 : EltTy) = .f32) shapeCasts_S4x64x64x96_S16384x96,
  StableHlo.reshape main_arg2 main_v2 (rfl : (.f32 : EltTy) = .f32) shapeCasts_S4x1x64x64_S16384x1,
  StableHlo.nullary main_cst (constant S_ .f32 0x00000000#32),
  StableHlo.unary main_cst main_v3 (broadcastInDim S16384x31 ![] bcast_S_S16384x31 : (⟨S_, .f32⟩ : BufTy).Contents (Elt F) → (⟨S16384x31, .f32⟩ : BufTy).Contents (Elt F)),
  StableHlo.nary ![main_v1, main_v2, main_v3] main_v4 (fun u => (concatenate S16384x128 1 [⟨S16384x96, (u 0 : (⟨S16384x96, .f32⟩ : BufTy).Contents (Elt F))⟩, ⟨S16384x1, (u 1 : (⟨S16384x1, .f32⟩ : BufTy).Contents (Elt F))⟩, ⟨S16384x31, (u 2 : (⟨S16384x31, .f32⟩ : BufTy).Contents (Elt F))⟩] concatenates_S16384x96_S16384x1_S16384x31_S16384x128_d1 : (⟨S16384x128, .f32⟩ : BufTy).Contents (Elt F))),
  StableHlo.TRef.unary (.of main_arg1) main_call0.v0 Host.roundeven,
  StableHlo.unary main_v5 main_v6 (fptosi 32 : (⟨S1000x5, .f32⟩ : BufTy).Contents (Elt F) → (⟨S1000x5, .i32⟩ : BufTy).Contents (Elt F)),
  StableHlo.nullary main_c (constantI S_ 32 0#32),
  StableHlo.unary main_c main_v7 (broadcastInDim S1024x5 ![] bcast_S_S1024x5 : (⟨S_, .i32⟩ : BufTy).Contents (Elt F) → (⟨S1024x5, .i32⟩ : BufTy).Contents (Elt F)),
  StableHlo.nullary main_c_0 (constantI S_ 32 0#32),
  StableHlo.unary main_c_0 main_v8 (broadcastInDim S1 ![] bcast_S_S1 : (⟨S_, .i32⟩ : BufTy).Contents (Elt F) → (⟨S1, .i32⟩ : BufTy).Contents (Elt F)),
  StableHlo.ternary main_v7 main_v8 main_v6 main_v9 ((fun x i u => Host.scatter scatter_S1024x5_S1_S1000x5_01_n_0_0 (fun _ b => b) x i u) : (⟨S1024x5, .i32⟩ : BufTy).Contents (Elt F) → (⟨S1, .i32⟩ : BufTy).Contents (Elt F) → (⟨S1000x5, .i32⟩ : BufTy).Contents (Elt F) → (⟨S1024x5, .i32⟩ : BufTy).Contents (Elt F)),
  StableHlo.unary main_v9 main_v10 ((extractStridedSlice S1024x1 ![0, 0] · slices_S1024x5_S1024x1_0_0) : (⟨S1024x5, .i32⟩ : BufTy).Contents (Elt F) → (⟨S1024x1, .i32⟩ : BufTy).Contents (Elt F)),
  StableHlo.reshape main_v10 main_v11 (rfl : (.i32 : EltTy) = .i32) shapeCasts_S1024x1_S1024,
  StableHlo.unary main_v9 main_v12 ((extractStridedSlice S1024x1 ![0, 1] · slices_S1024x5_S1024x1_0_1) : (⟨S1024x5, .i32⟩ : BufTy).Contents (Elt F) → (⟨S1024x1, .i32⟩ : BufTy).Contents (Elt F)),
  StableHlo.reshape main_v12 main_v13 (rfl : (.i32 : EltTy) = .i32) shapeCasts_S1024x1_S1024,
  StableHlo.unary main_v9 main_v14 ((extractStridedSlice S1024x1 ![0, 2] · slices_S1024x5_S1024x1_0_2) : (⟨S1024x5, .i32⟩ : BufTy).Contents (Elt F) → (⟨S1024x1, .i32⟩ : BufTy).Contents (Elt F)),
  StableHlo.reshape main_v14 main_v15 (rfl : (.i32 : EltTy) = .i32) shapeCasts_S1024x1_S1024,
  StableHlo.unary main_v9 main_v16 ((extractStridedSlice S1024x1 ![0, 3] · slices_S1024x5_S1024x1_0_3) : (⟨S1024x5, .i32⟩ : BufTy).Contents (Elt F) → (⟨S1024x1, .i32⟩ : BufTy).Contents (Elt F)),
  StableHlo.reshape main_v16 main_v17 (rfl : (.i32 : EltTy) = .i32) shapeCasts_S1024x1_S1024,
  StableHlo.unary main_v9 main_v18 ((extractStridedSlice S1024x1 ![0, 4] · slices_S1024x5_S1024x1_0_4) : (⟨S1024x5, .i32⟩ : BufTy).Contents (Elt F) → (⟨S1024x1, .i32⟩ : BufTy).Contents (Elt F)),
  StableHlo.reshape main_v18 main_v19 (rfl : (.i32 : EltTy) = .i32) shapeCasts_S1024x1_S1024]

def opsB : List (HloOp τ sig (Elt F)) := [
  StableHlo.unary main_v20 main_v21 ((extractStridedSlice S1000x96 ![0, 0] · slices_S1024x96_S1000x96_0_0) : (⟨S1024x96, .f32⟩ : BufTy).Contents (Elt F) → (⟨S1000x96, .f32⟩ : BufTy).Contents (Elt F)),
  StableHlo.reshape main_v21 main_v22 (rfl : (.f32 : EltTy) = .f32) shapeCasts_S1000x96_S1000x96x1x1]

theorem main_eq (d : Dev nD) : main (F := F) d = (StableHlo.seq opsA >>= fun _ => (sc (F := F)).run d 0 >>= fun _ => StableHlo.seq opsB) := rfl

theorem subA : (opsA (F := F)).Forall fun op => op.bufs ⊆ StableHlo.tcRefs τ sig := by
  simp only [opsA, List.forall_cons, List.Forall]
  simp
theorem subB : (opsB (F := F)).Forall fun op => op.bufs ⊆ StableHlo.tcRefs τ sig := by
  simp only [opsB, List.forall_cons, List.Forall]
  simp
theorem freshA : ∀ op ∈ opsA (F := F), op.fresh = ∅ := by
  refine List.forall_iff_forall_mem.mp ?_
  simp only [opsA, List.forall_cons, List.Forall]
  refine ⟨rfl, rfl, rfl, rfl, rfl, rfl, rfl, rfl, rfl, rfl, rfl, rfl, rfl, rfl, rfl, rfl, rfl, rfl, rfl, rfl, rfl, rfl, rfl⟩
theorem freshB : ∀ op ∈ opsB (F := F), op.fresh = ∅ := by
  refine List.forall_iff_forall_mem.mp ?_
  simp only [opsB, List.forall_cons, List.Forall]
  exact ⟨rfl, rfl⟩

/-! ## The pieces are the arrays -/

def coordsV (c : Fin (grid0.bound 0)) (s : Fin (grid0.bound 1)) : grid0.Coords :=
  fun | 0 => c | 1 => s | ⟨_ + 2, h⟩ => absurd h (Nat.not_lt.2 (Nat.le_add_left _ _))

/-- The tasks. -/
abbrev Task : Type := Fin 2 × Fin 16
abbrev at' (p : Task) : grid0.Coords := coordsV p.1 p.2

theorem wid_bij : Function.Bijective fun p : Task => wid (at' p) := by decide
/-- A task for each number below thirty-two. -/
def widEquiv : Task ≃ Fin 32 := Equiv.ofBijective _ wid_bij

theorem csets_disjoint : ∀ p ∈ (Finset.univ : Finset Task), ∀ q ∈ (Finset.univ : Finset Task), p ≠ q → Disjoint (cset (at' p)) (cset (at' q)) := by
  intro p _ q _ h
  rw [Finset.disjoint_left]
  intro y hp hq
  rw [mem_cset] at hp hq
  exact h (wid_bij.1 (Fin.ext (by show (wid (at' p)).val = (wid (at' q)).val; omega)))
theorem rsets_disjoint : ∀ p ∈ (Finset.univ : Finset Task), ∀ q ∈ (Finset.univ : Finset Task), p ≠ q → Disjoint (rset (at' p)) (rset (at' q)) := by
  intro p _ q _ h
  rw [Finset.disjoint_left]
  intro y hp hq
  rw [mem_rset] at hp hq
  exact h (wid_bij.1 (Fin.ext (by show (wid (at' p)).val = (wid (at' q)).val; omega)))
theorem csets_cover : (Finset.univ : Finset Task).biUnion (fun p => cset (at' p)) = Finset.univ := by
  refine Finset.eq_univ_iff_forall.mpr fun y => ?_
  have hy : (y 0).val < 1024 := (y 0).isLt
  obtain ⟨p, hp⟩ := wid_bij.2 ⟨(y 0).val / 32, by omega⟩
  refine Finset.mem_biUnion.mpr ⟨p, Finset.mem_univ _, mem_cset.mpr ?_⟩
  have := congrArg Fin.val hp
  simp only at this
  omega
theorem rsets_cover : (Finset.univ : Finset Task).biUnion (fun p => rset (at' p)) = Finset.univ := by
  refine Finset.eq_univ_iff_forall.mpr fun y => ?_
  have hy : (y 0).val < 1024 := (y 0).isLt
  obtain ⟨p, hp⟩ := wid_bij.2 ⟨(y 0).val / 32, by omega⟩
  refine Finset.mem_biUnion.mpr ⟨p, Finset.mem_univ _, mem_rset.mpr ?_⟩
  have := congrArg Fin.val hp
  simp only at this
  omega

variable (W : Dev nD → Valuation τ sig (Elt F))

theorem col_pieces0 (d : Dev nD) (f : Buf (Elt F) ((d, cb') : Loc nD τ sig)) :
    (((d, cb') ↦{fullShare} f) : sProp 𝕄) = bigSep Finset.univ fun p : Task => (d, cb') ↦[cset (at' p)]{fullShare} f := by
  rw [← pointsTo_biUnion Finset.univ (ℓ := (d, cb')) (fun p : Task => cset (at' p)) csets_disjoint, csets_cover]; try rfl
theorem col_pieces1 (d : Dev nD) (f : Buf (Elt F) ((d, cx1') : Loc nD τ sig)) :
    (((d, cx1') ↦{fullShare} f) : sProp 𝕄) = bigSep Finset.univ fun p : Task => (d, cx1') ↦[cset (at' p)]{fullShare} f := by
  rw [← pointsTo_biUnion Finset.univ (ℓ := (d, cx1')) (fun p : Task => cset (at' p)) csets_disjoint, csets_cover]; try rfl
theorem col_pieces2 (d : Dev nD) (f : Buf (Elt F) ((d, cy1') : Loc nD τ sig)) :
    (((d, cy1') ↦{fullShare} f) : sProp 𝕄) = bigSep Finset.univ fun p : Task => (d, cy1') ↦[cset (at' p)]{fullShare} f := by
  rw [← pointsTo_biUnion Finset.univ (ℓ := (d, cy1')) (fun p : Task => cset (at' p)) csets_disjoint, csets_cover]; try rfl
theorem col_pieces3 (d : Dev nD) (f : Buf (Elt F) ((d, cx2') : Loc nD τ sig)) :
    (((d, cx2') ↦{fullShare} f) : sProp 𝕄) = bigSep Finset.univ fun p : Task => (d, cx2') ↦[cset (at' p)]{fullShare} f := by
  rw [← pointsTo_biUnion Finset.univ (ℓ := (d, cx2')) (fun p : Task => cset (at' p)) csets_disjoint, csets_cover]; try rfl
theorem col_pieces4 (d : Dev nD) (f : Buf (Elt F) ((d, cy2') : Loc nD τ sig)) :
    (((d, cy2') ↦{fullShare} f) : sProp 𝕄) = bigSep Finset.univ fun p : Task => (d, cy2') ↦[cset (at' p)]{fullShare} f := by
  rw [← pointsTo_biUnion Finset.univ (ℓ := (d, cy2')) (fun p : Task => cset (at' p)) csets_disjoint, csets_cover]; try rfl
theorem out_pieces (d : Dev nD) (f : Buf (Elt F) ((d, ot') : Loc nD τ sig)) :
    (((d, ot') ↦{fullShare} f) : sProp 𝕄) = bigSep Finset.univ fun p : Task => (d, ot') ↦[rset (at' p)]{fullShare} f := by
  rw [← pointsTo_biUnion Finset.univ (ℓ := (d, ot')) (fun p : Task => rset (at' p)) rsets_disjoint, rsets_cover]; try rfl
theorem map_pieces (d : Dev nD) (f : Buf (Elt F) ((d, mp') : Loc nD τ sig)) :
    (((d, mp') ↦{fullShare} f) : sProp 𝕄) = bigSep Finset.univ fun p : Task => (d, mp') ↦{pieceOf fullShare 32 (by decide) (wid (at' p))} f := by
  rw [pointsTo_piecesOf Finset.univ f (o := 32) (by decide) fullShare, bigSep_univ_equiv widEquiv]
  rfl

/-- The arrays the call takes. -/
abbrev T7 : Finset (DevRef τ sig) := {cb', cx1', cy1', cx2', cy2', mp', ot'}

theorem held_T7 (d : Dev nD) (X : Valuation τ sig (Elt F)) : (StableHlo.held (T d) T7 X : sProp 𝕄)
    = iprop(((d, cb') ↦{fullShare} X cb') ∗ ((d, cx1') ↦{fullShare} X cx1') ∗ ((d, cy1') ↦{fullShare} X cy1') ∗ ((d, cx2') ↦{fullShare} X cx2')
        ∗ ((d, cy2') ↦{fullShare} X cy2') ∗ ((d, mp') ↦{fullShare} X mp') ∗ ((d, ot') ↦{fullShare} X ot')) := by
  unfold StableHlo.held T7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What the tasks hold, together, is the arrays. -/
theorem tasks_eq (d : Dev nD) (f : Buf (Elt F) ((d, ot') : Loc nD τ sig)) :
    (bigSep Finset.univ fun c : Fin 2 => bigSep Finset.univ fun i : Fin 16 =>
        iprop(reads W d (coordsV c i) ∗ ((d, ot') ↦[rset (coordsV c i)]{fullShare} f)))
      = (StableHlo.held (T d) T7 (Function.update (W d) ot' f) : sProp 𝕄) := by
  rw [← SparseCore.bigSep_product Finset.univ Finset.univ (fun p : Task => iprop(reads W d (at' p) ∗ ((d, ot') ↦[rset (at' p)]{fullShare} f))),
    Finset.univ_product_univ, held_T7]
  rw [Function.update_self, Function.update_of_ne (show cb' ≠ ot' by decide), Function.update_of_ne (show cx1' ≠ ot' by decide), Function.update_of_ne (show cy1' ≠ ot' by decide),
    Function.update_of_ne (show cx2' ≠ ot' by decide), Function.update_of_ne (show cy2' ≠ ot' by decide), Function.update_of_ne (show mp' ≠ ot' by decide)]
  rw [col_pieces0, col_pieces1, col_pieces2, col_pieces3, col_pieces4, map_pieces, out_pieces]
  unfold reads
  rw [bigSep_sep', bigSep_sep', bigSep_sep', bigSep_sep', bigSep_sep', bigSep_sep']
  have assoc : ∀ A B C : sProp 𝕄, iprop((A ∗ B) ∗ C) = iprop(A ∗ B ∗ C) := fun A B C => equiv_iff.mp ⟨BI.sep_assoc, BI.sep_assoc'⟩
  simp only [assoc]

/-! ## What the handshakes carry -/

theorem nCore_zero : (K (F := F)).nCore 0 = 2 := rfl
theorem nSub_zero : (K (F := F)).nSub 0 = 16 := rfl

/-- A core of the call takes and brings back what its tasks do. -/
def P : (K (F := F)).Pay (nD := nD) (Val := Elt F) (Name := ℕ) (U := UU) where
  st := fun q d c => match q with | 0 => bigSep Finset.univ fun i : Fin 16 => goOf W d (coordsV (Fin.cast nCore_zero c) i)
  dn := fun q d c => match q with | 0 => bigSep Finset.univ fun i : Fin 16 => tdOf W d (coordsV (Fin.cast nCore_zero c) i)
  go := fun q d c i => match q with | 0 => goOf W d (coordsV (Fin.cast nCore_zero c) (Fin.cast nSub_zero i))
  td := fun q d c i => match q with | 0 => tdOf W d (coordsV (Fin.cast nCore_zero c) (Fin.cast nSub_zero i))
  x := fun _ _ => iprop(emp)

instance go_storable (d : Dev nD) (L : grid0.Coords) : BI.Storable (upEmb : UEmb _ 𝕄) (goOf W d L) := by
  unfold goOf reads; infer_instance
instance td_storable (d : Dev nD) (L : grid0.Coords) : BI.Storable (upEmb : UEmb _ 𝕄) (tdOf W d L) := by
  unfold tdOf reads; infer_instance

theorem gos_storable (d : Dev nD) (c : Fin 2) : BI.Storable (upEmb : UEmb _ 𝕄) (bigSep Finset.univ fun i : Fin 16 => goOf W d (coordsV c i)) :=
  haveI : ∀ i : Fin 16, BI.Storable (upEmb : UEmb _ 𝕄) (goOf W d (coordsV c i)) := fun i => go_storable W d _
  inferInstance
theorem tds_storable (d : Dev nD) (c : Fin 2) : BI.Storable (upEmb : UEmb _ 𝕄) (bigSep Finset.univ fun i : Fin 16 => tdOf W d (coordsV c i)) :=
  haveI : ∀ i : Fin 16, BI.Storable (upEmb : UEmb _ 𝕄) (tdOf W d (coordsV c i)) := fun i => td_storable W d _
  inferInstance

instance P_storable : (P W).IsStorable where
  st q d c := match q with
    | 0 => gos_storable W d (Fin.cast nCore_zero c)
  dn q d c := match q with
    | 0 => tds_storable W d (Fin.cast nCore_zero c)
  go q d c i := match q with | 0 => go_storable W d _
  td q d c i := match q with | 0 => td_storable W d _

theorem defs₀_vector (c : Fin τ.nSC) (s : Fin τ.nSub) :
    defs₀ (F := F) (.scVector c s) 0 ()
      = SparseCore.onTile hcore0 hsub0 (fun c s => cc0__sc_body (coordsV c s) (Memref.whole main_v4_scv) (Memref.isWhole_whole _) (Memref.whole main_v11_scv) (Memref.isWhole_whole _)
          (Memref.whole main_v13_scv) (Memref.isWhole_whole _) (Memref.whole main_v15_scv) (Memref.isWhole_whole _) (Memref.whole main_v17_scv) (Memref.isWhole_whole _)
          (Memref.whole main_v19_scv) (Memref.isWhole_whole _) (Memref.whole main_v20_scv) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _)
          cc0_scratch14 cc0_scratch15 cc0_scoped0 cc0_scoped1 cc0_scoped2 cc0_scoped3 cc0_scoped4 cc0_scoped5) ⟨⟩ c s := rfl

theorem obl_post {thr : Thread nD τ} {A B C : sProp 𝕄} {O : CellTallies nD τ sig (HIx 1)} {X : Waits sig (HIx 1)} {q : Fin 1} :
    iprop(A ∗ B ∗ C ∗ ∃ W', ⌜∀ p ∈ W', p ∈ X ∨ p.2 = none⌝ ∗ owes thr O W')
      ⊢ iprop(A ∗ B ∗ C ∗ ∃ W', ⌜∀ p ∈ W', p ∈ X ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hs : Short W) : (K (F := F)).TileObl (D (F := F)) 𝒱 (P W) v₀ 0 := by
  intro d c i O X hO _ _
  simp only [show (P W).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body W d (coordsV ⟨_, hci.1⟩ ⟨_, hci.2⟩) hs O X hO).trans (wp_mono frame _ _ fun _ => obl_post)

theorem vecSplit : (K (F := F)).VecSplit' (P W) 0 := by
  intro d c
  show (bigSep Finset.univ fun i : Fin 16 => goOf W d (coordsV (Fin.cast nCore_zero c) i)) ⊢ |={Set.univ}=> iprop(
      (bigSep Finset.univ fun i : Fin 16 => goOf W d (coordsV (Fin.cast nCore_zero c) i))
      ∗ ((bigSep Finset.univ fun i : Fin 16 => tdOf W d (coordsV (Fin.cast nCore_zero c) i))
          -∗ bigSep Finset.univ fun i : Fin 16 => tdOf W d (coordsV (Fin.cast nCore_zero c) i)))
  iintro H; imodintro
  isplitl [H]; · iexact H
  iintro H; iexact H

/-! ## The launch -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P W).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P W).x q thr) = bigSep Finset.univ fun _ => iprop(emp) from
    bigSep_congr fun _ _ => bigSep_univ_of_subsingleton (0 : Fin 1), bigSep_emp']
  iempintro

variable (m : (ℓ : Loc nD τ sig) → Buf (Elt F) ℓ) (ρ : Dev nD → PrngReg)

/-- What device `d`'s arrays hold at the launch, before the call, after it, and at the end. -/
def V0 (d : Dev nD) : Valuation τ sig (Elt F) := fun b => m (d, b)
def V1 (d : Dev nD) : Valuation τ sig (Elt F) := StableHlo.after opsA (V0 m d)
def V2 (d : Dev nD) : Valuation τ sig (Elt F) := Function.update (V1 m d) ot' (outOf (V1 m) d)
def V3 (d : Dev nD) : Valuation τ sig (Elt F) := StableHlo.after opsB (V2 m d)

abbrev UC : Finset (DevRef τ sig) := Pipeline.ucRefs τ sig

theorem T7_sub : T7 ⊆ UC := by decide

theorem st0_eq (d : Dev nD) : (bigSep Finset.univ fun c : Fin ((K (F := F)).nCore 0) => (P (V1 m)).st 0 d c) = (StableHlo.held (T d) T7 (V1 m d) : sProp 𝕄) := by
  have h := tasks_eq (V1 m) d (V1 m d ot')
  rw [Function.update_eq_self] at h
  exact h
theorem dn0_eq (d : Dev nD) : (bigSep Finset.univ fun c : Fin ((K (F := F)).nCore 0) => (P (V1 m)).dn 0 d c) = (StableHlo.held (T d) T7 (V2 m d) : sProp 𝕄) :=
  tasks_eq (V1 m) d (outOf (V1 m) d)

theorem rest_eq (d : Dev nD) : (StableHlo.held (T d) (UC \ T7) (V1 m d) : sProp 𝕄) = StableHlo.held (T d) (UC \ T7) (V2 m d) :=
  StableHlo.held_congr _ fun b hb => by
    unfold V2
    rw [Function.update_of_ne]
    rintro rfl
    exact (Finset.mem_sdiff.mp hb).2 (by decide)

theorem held_start (d : Dev nD) : (unscopedBufs d (fun b => m ((SparseCore.T d).loc b)) : sProp 𝕄) = StableHlo.held (T d) UC (V0 m d) := by
  have h := Pipeline.unscopedBufs_held (Ix := HIx 1) (Name := ℕ) (U := UU) (Lvl := ℕ) d (V0 m d)
  exact h

theorem hmain (κ : GSem nD τ sig → ℕ) (d : Dev nD) :
    iprop((K (F := F)).ctx EH (P (V1 m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ (StableHlo.held (T d) UC (V3 m d)) ∗ (K (F := F)).tcEnd d) := by
  unfold SparseCore.Cfg.tcRes SparseCore.Cfg.tcEnd
  rw [main_eq, held_start]
  iintro ⟨#Hctx, Hst, ⟨Hb, Hheld, Hts, -⟩, -⟩
  iapply (StableHlo.wp_seq 𝒱 none Set.univ d UC _ opsA (fun op h => Pipeline.sub_ucRefs op ((List.forall_iff_forall_mem.mp subA) op h)) freshA (V0 m d)) $$ [Hb Hheld]
  · isplitl [Hb] <;> iassumption
  rw [show (boundary (d.tc : Thread nD τ) : sProp 𝕄) = boundary (SparseCore.T d) from rfl,
    show (StableHlo.held (d.tc : Thread nD τ) UC (StableHlo.after opsA (V0 m d)) : sProp 𝕄) = StableHlo.held (SparseCore.T d) UC (V1 m d) from rfl]
  iintro ⟨Hb, Hheld⟩
  ihave Hh := (Entails.of_eq ((StableHlo.held_sub_split (T d) T7_sub (V1 m d)).trans (congrArg (fun X => iprop(_ ∗ X)) (rest_eq m d)))) $$ Hheld
  icases Hh with ⟨H7, Hrest⟩
  rw [wp_bind]
  iapply ((K (F := F)).wp_run (D (F := F)) 𝒱 (EH := EH) (P := P (V1 m)) κ d 0) $$ [Hst H7 Hb Hrest Hts]
  isplitr; · iexact Hctx
  isplitl [Hst]; · iexact Hst
  isplitl [H7]
  · rw [st0_eq]; iexact H7
  iintro ⟨Hst, Hdn⟩
  ihave H7 := (Entails.of_eq (dn0_eq m d)) $$ Hdn
  ihave Hheld := (Entails.of_eq (StableHlo.held_sub_split (T d) T7_sub (V2 m d)).symm) $$ [H7 Hrest]
  · isplitl [H7] <;> iassumption
  rw [← bind_pure (StableHlo.seq opsB)]
  iapply (StableHlo.wp_seq 𝒱 none Set.univ d UC _ opsB (fun op h => Pipeline.sub_ucRefs op ((List.forall_iff_forall_mem.mp subB) op h)) freshB (V2 m d)) $$ [Hb Hheld]
  · isplitl [Hb] <;> iassumption
  rw [show (boundary (d.tc : Thread nD τ) : sProp 𝕄) = boundary (SparseCore.T d) from rfl,
    show (StableHlo.held (d.tc : Thread nD τ) UC (StableHlo.after opsB (V2 m d)) : sProp 𝕄) = StableHlo.held (SparseCore.T d) UC (V3 m d) from rfl]
  iintro ⟨Hb, Hheld⟩
  rw [wp_pure]; imodintro
  isplitl [Hst]; · iexact Hst
  isplitl [Hheld]; · iexact Hheld
  isplitl [Hb] <;> iassumption

/-- Every array at the end. -/
def fq (d : Dev nD) (s' : Phys nD τ sig (Elt F)) : Prop := ∀ b ∈ UC, s'.mem.mem (d, b) = V3 m d b

theorem hfin (d : Dev nD) (s' : Phys nD τ sig (Elt F)) : iprop((StableHlo.held (T d) UC (V3 m d)) ∗ SI s') ⊢ (⌜fq m d s'⌝ : sProp 𝕄) := by
  unfold StableHlo.held
  iintro ⟨H, HSI⟩
  iapply (SI_pointsTo_bufs_agree (st := s') (c := d) (qs := fun _ => fullShare) (F := V3 m d) UC)
  isplitl [HSI] <;> iassumption

/-- The program runs, every array ends at what the operations and the call give it, and every counter reads zero. -/
theorem run_main [∀ e, Nonempty (Elt F e)] (hs : Short (V1 m)) :
    θ_run (Cert.KernelIdeal.defs (F := F)) (Cert.KernelIdeal.threads (F := F)) ⟨m, fun _ => 0, ρ⟩
      (fun r => (∀ d : Dev nD, ∀ b ∈ UC, r.2.mem (d, b) = V3 m d b) ∧ r.2.sem = fun _ => 0) :=
  SparseCore.Cfg.θ_run_sc_quiescent (K := K (F := F)) (D := D (F := F)) (𝒱 := 𝒱) (EH := EH) (P := P (V1 m)) (A := ∅) facts v₀
    (fun q hq => match q with | 0 => nomatch hq)
    (fun q _ => match q with | 0 => tileObl (V1 m) hs)
    (fun q _ => match q with | 0 => SparseCore.Cfg.VecSplit.of_plain (vecSplit (V1 m)))
    m ρ main (fun _ => iprop(emp)) (fun d => StableHlo.held (T d) UC (V3 m d)) (u₀ (F := F)) (sep_elim_left.trans (hu₀ (V1 m))) (hmain m ρ) (fq m) (hfin m)
    (fun r => (∀ d : Dev nD, ∀ b ∈ UC, r.2.mem (d, b) = V3 m d b) ∧ r.2.sem = fun _ => 0) (fun _ h hz => ⟨h, hz⟩)

end Cert.Tile
-- ==== Proof.PreFacts.lean ====
/-
  What the precondition says of one row of `rois`, at any float instance.
-/
module

public import proofs.«01_k».proof.Proof.Gen.Pre_rois_in_range
public import proofs.«01_k».proof.Pre_rois_in_range
public import Idealize.ShloMosaic.Lib.ReduceAll
public import Idealize.ShloMosaic.Lib.Pipeline.Value
public import Idealize.ShloMosaic.Lib.Pointwise.Index

@[expose] public section

noncomputable section

namespace Cert.Tile

open Idealize.ShloMosaic
open Cert.Pre_rois_in_range Cert.Pre_rois_in_range.Gen

variable {F : FTy → Type} [FloatOps F]

/-- Entry `k` of row `r`, rounded to the nearest integer. -/
def roi (a : FVec F S1000x5 .f32) (r : Fin 1000) (k : Fin 5) : BitVec 32 := fptosi 32 (Host.roundeven a) (ix2 r k)
/-- The image's number, cut off instead of rounded. -/
def roiCut (a : FVec F S1000x5 .f32) (r : Fin 1000) : BitVec 32 := fptosi 32 a (ix2 r 0)

/-- A row's five entries are in range, and its box is at most sixteen by sixteen. -/
structure RowOK (a : FVec F S1000x5 .f32) (r : Fin 1000) : Prop where
  cut : roiCut a r = roi a r 0
  b0 : 0 ≤ (roi a r 0).toInt
  b1 : (roi a r 0).toInt < 4
  x10 : 0 ≤ (roi a r 1).toInt
  x11 : (roi a r 1).toInt ≤ 64
  y10 : 0 ≤ (roi a r 2).toInt
  y11 : (roi a r 2).toInt ≤ 64
  x20 : 0 ≤ (roi a r 3).toInt
  x21 : (roi a r 3).toInt ≤ 64
  y20 : 0 ≤ (roi a r 4).toInt
  y21 : (roi a r 4).toInt ≤ 64
  w16 : (roi a r 3 - roi a r 1).toInt ≤ 16
  h16 : (roi a r 4 - roi a r 2).toInt ≤ 16

theorem and_iff (x y : BitVec 1) : IntOp.andi x y = 1#1 ↔ x = 1#1 ∧ y = 1#1 := by
  revert x y; decide
theorem ofBool_one (b : Bool) : BitVec.ofBool b = 1#1 ↔ b = true := by cases b <;> decide
theorem sge_iff (x y : BitVec 32) : IntOp.cmpi .sge x y = 1#1 ↔ y.toInt ≤ x.toInt := by
  simp only [IntOp.cmpi]; simp [ofBool_one, BitVec.sle_eq_decide]
theorem sle_iff (x y : BitVec 32) : IntOp.cmpi .sle x y = 1#1 ↔ x.toInt ≤ y.toInt := by
  simp only [IntOp.cmpi]; simp [ofBool_one, BitVec.sle_eq_decide]
theorem slt_iff (x y : BitVec 32) : IntOp.cmpi .slt x y = 1#1 ↔ x.toInt < y.toInt := by
  simp only [IntOp.cmpi]; simp [ofBool_one, BitVec.slt_eq_decide]
theorem eq_iff (x y : BitVec 32) : IntOp.cmpi .eq x y = 1#1 ↔ x = y := by
  simp only [IntOp.cmpi]; simp [ofBool_one]

instance : Subsingleton S_.Idx := ⟨fun a b => funext fun i => i.elim0⟩

theorem col_read {α : Type} (k : Fin 5) (off : Fin 2 → Nat) (ho : off = ![0, k.val]) (x : S1000x5.Idx → α) (h : S1000x5.Slices off S1000x1) (h' : S1000x1.ShapeCasts S1000) (r : Fin 1000) :
    shapeCast S1000 (extractStridedSlice S1000x1 off x h) h' (ix1 r) = x (ix2 r k) := by
  subst ho
  refine (shapeCast_apply _ h' (ix1 r) (ix2 r (0 : Fin 1)) ?_).trans (extractStridedSlice_apply _ x h _ _ ?_)
  · rw [Shape.rowMajor_val_two, Shape.rowMajor_val_one]
    show r.val * 1 + 0 = r.val
    omega
  · intro a
    match a with
    | ⟨0, _⟩ => exact (Nat.zero_add r.val).symm
    | ⟨1, _⟩ => exact (Nat.add_zero k.val).symm

theorem rowOK (a0 : FVec F S4x96x64x64 .f32) (a : FVec F S1000x5 .f32) (a2 : FVec F S4x1x64x64 .f32) (h : fn a0 a a2 = fun _ => 1#1) (r : Fin 1000) : RowOK a r := by
  have h := congrFun h (fun i => i.elim0)
  unfold fn fn_part1 fn_part2 fn_part3 at h
  simp only [andi, and_iff] at h
  obtain ⟨⟨⟨⟨⟨⟨⟨⟨⟨⟨⟨⟨h0, h1⟩, h2⟩, h3⟩, h4⟩, h5⟩, h6⟩, h7⟩, h8⟩, h9⟩, h10⟩, h11⟩, h12⟩ := h
  have c : ∀ k : Fin 5, ∀ (off : Fin 2 → Nat) (ho : off = ![0, k.val]) (h : S1000x5.Slices off S1000x1) (h' : S1000x1.ShapeCasts S1000),
      shapeCast S1000 (extractStridedSlice S1000x1 off (fptosi 32 (fn_round a)) h) h' (ix1 r) = roi a r k := fun k off ho h h' => (col_read k off ho (fptosi 32 (fn_round a)) h h' r).trans rfl
  have c0 := c 0 ![0, 0] rfl slices_S1000x5_S1000x1_0_0 shapeCasts_S1000x1_S1000
  have c1 := c 1 ![0, 1] rfl slices_S1000x5_S1000x1_0_1 shapeCasts_S1000x1_S1000
  have c2 := c 2 ![0, 2] rfl slices_S1000x5_S1000x1_0_2 shapeCasts_S1000x1_S1000
  have c3 := c 3 ![0, 3] rfl slices_S1000x5_S1000x1_0_3 shapeCasts_S1000x1_S1000
  have c4 := c 4 ![0, 4] rfl slices_S1000x5_S1000x1_0_4 shapeCasts_S1000x1_S1000
  have cc : fptosi 32 (shapeCast S1000 (extractStridedSlice S1000x1 ![0, 0] a slices_S1000x5_S1000x1_0_0) shapeCasts_S1000x1_S1000) (ix1 r) = roiCut a r :=
    congrArg (fun t : F .f32 => fptosi (s := S1000) 32 (fun _ => t) (ix1 r)) (col_read 0 _ rfl a _ _ r)
  have h0 := (eq_iff _ _).mp (Host.reduce_andi_all _ _ _ _ _ h0 (ix1 r))
  have h1 := (sge_iff _ _).mp (Host.reduce_andi_all _ _ _ _ _ h1 (ix1 r))
  have h2 := (slt_iff _ _).mp (Host.reduce_andi_all _ _ _ _ _ h2 (ix1 r))
  have h3 := (sge_iff _ _).mp (Host.reduce_andi_all _ _ _ _ _ h3 (ix1 r))
  have h4 := (sle_iff _ _).mp (Host.reduce_andi_all _ _ _ _ _ h4 (ix1 r))
  have h5 := (sge_iff _ _).mp (Host.reduce_andi_all _ _ _ _ _ h5 (ix1 r))
  have h6 := (sle_iff _ _).mp (Host.reduce_andi_all _ _ _ _ _ h6 (ix1 r))
  have h7 := (sge_iff _ _).mp (Host.reduce_andi_all _ _ _ _ _ h7 (ix1 r))
  have h8 := (sle_iff _ _).mp (Host.reduce_andi_all _ _ _ _ _ h8 (ix1 r))
  have h9 := (sge_iff _ _).mp (Host.reduce_andi_all _ _ _ _ _ h9 (ix1 r))
  have h10 := (sle_iff _ _).mp (Host.reduce_andi_all _ _ _ _ _ h10 (ix1 r))
  have h11 := (sle_iff _ _).mp (Host.reduce_andi_all _ _ _ _ _ h11 (ix1 r))
  have h12 := (sle_iff _ _).mp (Host.reduce_andi_all _ _ _ _ _ h12 (ix1 r))
  simp only [subi, cc, c0, c1, c2, c3, c4] at h0 h1 h2 h3 h4 h5 h6 h7 h8 h9 h10 h11 h12
  exact ⟨h0, h1, h2, h3, h4, h7, h8, h5, h6, h9, h10, h11, h12⟩

end Cert.Tile
-- ==== Proof.Host.lean ====
/-
  What the operations before the call leave in the arrays the call reads, and what the operations after it make of its result.
-/
module

public import proofs.«01_k».proof.Proof.Call
public import proofs.«01_k».proof.Proof.PreFacts
public import Idealize.ShloMosaic.Lib.Routing.OpsSet

@[expose] public section

set_option maxHeartbeats 1000000
set_option maxRecDepth 100000

noncomputable section

namespace Cert.Tile

open Cert.KernelIdeal Cert.KernelIdeal.Gen
open Idealize.ShloMosaic

variable {F : FTy → Type} [FloatOps F] [Named F]

/-! ## The padded rows -/

theorem land (i : S1000x5.Idx) (idx : IVec S1 32) (h0 : ∀ q, idx q = 0#32) (x : S1024x5.Idx) :
    scatter_S1024x5_S1_S1000x5_01_n_0_0.resultIdx? i idx = some x ↔ (i 0).val = (x 0).val ∧ (i 1).val = (x 1).val := by
  have hs : ∀ a, scatter_S1024x5_S1_S1000x5_01_n_0_0.start i idx a = 0 := by
    intro a
    unfold ScatterDims.start
    split
    · rw [h0]; rfl
    · rfl
  have w0 : scatter_S1024x5_S1_S1000x5_01_n_0_0.window i 0 = (i 0).val := rfl
  have w1 : scatter_S1024x5_S1_S1000x5_01_n_0_0.window i 1 = (i 1).val := rfl
  have i0 := (i 0).isLt
  have i1 := (i 1).isLt
  have hb : ∀ a, 0 ≤ scatter_S1024x5_S1_S1000x5_01_n_0_0.start i idx a + scatter_S1024x5_S1_S1000x5_01_n_0_0.window i a
      ∧ scatter_S1024x5_S1_S1000x5_01_n_0_0.start i idx a + scatter_S1024x5_S1_S1000x5_01_n_0_0.window i a < S1024x5.size a := by
    intro a
    rw [hs]
    match a with
    | ⟨0, _⟩ => exact ⟨by omega, by show (0 : Int) + ((i 0).val : Int) < 1024; have : (i 0).val < 1000 := i0; omega⟩
    | ⟨1, _⟩ => exact ⟨by omega, by show (0 : Int) + ((i 1).val : Int) < 5; have : (i 1).val < 5 := i1; omega⟩
  unfold ScatterDims.resultIdx?
  rw [dif_pos hb]
  constructor
  · intro h
    have h := Option.some.inj h
    have e0 := congrArg Fin.val (congrFun h 0)
    have e1 := congrArg Fin.val (congrFun h 1)
    simp only [hs] at e0 e1
    rw [w0] at e0; rw [w1] at e1
    omega
  · rintro ⟨e0, e1⟩
    refine congrArg some (funext fun a => Fin.ext ?_)
    simp only [hs]
    match a with
    | ⟨0, _⟩ => show ((0 : Int) + ((i 0).val : Int)).toNat = _; simpa using e0
    | ⟨1, _⟩ => show ((0 : Int) + ((i 1).val : Int)).toNat = _; simpa using e1

/-- Entry `k` of padded row `n`: row `n` of the thousand, and zero past them. -/
def padRoi (a : FVec F S1000x5 .f32) (n : Fin 1024) (k : Fin 5) : BitVec 32 := if h : n.val < 1000 then roi a ⟨n.val, h⟩ k else 0

theorem pad_eq (a : FVec F S1000x5 .f32) (x : IVec S1024x5 32) (hx : ∀ i, x i = 0#32) (idx : IVec S1 32) (h0 : ∀ q, idx q = 0#32) (n : Fin 1024) (k : Fin 5) :
    Host.scatter scatter_S1024x5_S1_S1000x5_01_n_0_0 (fun _ b => b) x idx (fptosi 32 (Host.roundeven a)) (ix2 n k) = padRoi a n k := by
  unfold padRoi
  by_cases h : n.val < 1000
  · rw [dif_pos h]
    refine Routing.scatter_set_hit _ x idx _ _ _ (fun i hi => ?_) (ix2 ⟨n.val, h⟩ k) ((land _ idx h0 _).mpr ⟨rfl, rfl⟩)
    obtain ⟨e0, e1⟩ := (land i idx h0 _).mp hi
    have : i = ix2 ⟨n.val, h⟩ k := by
      funext a
      match a with
      | ⟨0, _⟩ => exact Fin.ext e0
      | ⟨1, _⟩ => exact Fin.ext e1
    rw [this]; rfl
  · rw [dif_neg h, Routing.scatter_set_miss _ x idx _ _ fun i hi => h ?_, hx]
    · rfl
    · have e0 : (i 0).val = n.val := ((land i idx h0 _).mp hi).1
      have : (i 0).val < 1000 := (i 0).isLt
      omega

theorem col_read' {α : Type} (k : Fin 5) (off : Fin 2 → Nat) (ho : off = ![0, k.val]) (x : S1024x5.Idx → α) (h : S1024x5.Slices off S1024x1) (h' : S1024x1.ShapeCasts S1024) (n : Fin 1024) :
    shapeCast S1024 (extractStridedSlice S1024x1 off x h) h' (ix1 n) = x (ix2 n k) := by
  subst ho
  refine (shapeCast_apply _ h' (ix1 n) (ix2 n (0 : Fin 1)) ?_).trans (extractStridedSlice_apply _ x h _ _ ?_)
  · rw [Shape.rowMajor_val_two, Shape.rowMajor_val_one]
    show n.val * 1 + 0 = n.val
    omega
  · intro a
    match a with
    | ⟨0, _⟩ => exact (Nat.zero_add n.val).symm
    | ⟨1, _⟩ => exact (Nat.add_zero k.val).symm

variable (m : (ℓ : Loc nD τ sig) → Buf (Elt F) ℓ)

/-- The three arguments of the program on device `d`. -/
abbrev A0 (d : Dev nD) : FVec F S4x96x64x64 .f32 := m (d, Proc.devRef .tc main_arg0)
abbrev A1 (d : Dev nD) : FVec F S1000x5 .f32 := m (d, Proc.devRef .tc main_arg1)
abbrev A2 (d : Dev nD) : FVec F S4x1x64x64 .f32 := m (d, Proc.devRef .tc main_arg2)

theorem V1_c0 (d : Dev nD) (n : Fin 1024) : (V1 m d cb' : S1024.Idx → BitVec 32) (ix1 n) = padRoi (A1 m d) n 0 := by
  unfold V1 V0 opsA
  after_results_simp
  exact (col_read' 0 ![0, 0] rfl _ _ _ n).trans (pad_eq (A1 m d) _ (fun _ => rfl) _ (fun _ => rfl) n 0)
theorem V1_c1 (d : Dev nD) (n : Fin 1024) : (V1 m d cx1' : S1024.Idx → BitVec 32) (ix1 n) = padRoi (A1 m d) n 1 := by
  unfold V1 V0 opsA
  after_results_simp
  exact (col_read' 1 ![0, 1] rfl _ _ _ n).trans (pad_eq (A1 m d) _ (fun _ => rfl) _ (fun _ => rfl) n 1)
theorem V1_c2 (d : Dev nD) (n : Fin 1024) : (V1 m d cy1' : S1024.Idx → BitVec 32) (ix1 n) = padRoi (A1 m d) n 2 := by
  unfold V1 V0 opsA
  after_results_simp
  exact (col_read' 2 ![0, 2] rfl _ _ _ n).trans (pad_eq (A1 m d) _ (fun _ => rfl) _ (fun _ => rfl) n 2)
theorem V1_c3 (d : Dev nD) (n : Fin 1024) : (V1 m d cx2' : S1024.Idx → BitVec 32) (ix1 n) = padRoi (A1 m d) n 3 := by
  unfold V1 V0 opsA
  after_results_simp
  exact (col_read' 3 ![0, 3] rfl _ _ _ n).trans (pad_eq (A1 m d) _ (fun _ => rfl) _ (fun _ => rfl) n 3)
theorem V1_c4 (d : Dev nD) (n : Fin 1024) : (V1 m d cy2' : S1024.Idx → BitVec 32) (ix1 n) = padRoi (A1 m d) n 4 := by
  unfold V1 V0 opsA
  after_results_simp
  exact (col_read' 4 ![0, 4] rfl _ _ _ n).trans (pad_eq (A1 m d) _ (fun _ => rfl) _ (fun _ => rfl) n 4)

/-- The boxes are short enough for the call. -/
theorem short (h : ∀ d r, RowOK (A1 m d) r) : Short (V1 m) := by
  intro d n
  rw [V1_c4, V1_c2]
  unfold padRoi
  split
  · exact (h d _).h16
  · decide

/-! ## The map -/

theorem V1_map (d : Dev nD) : (V1 m d mp' : S16384x128.Idx → F .f32)
    = concatenate S16384x128 1 [⟨S16384x96, shapeCast S16384x96 (transpose S4x64x64x96 [0, 2, 3, 1] (A0 m d) transposes_S4x96x64x64_S4x64x64x96_0_2_3_1) shapeCasts_S4x64x64x96_S16384x96⟩,
        ⟨S16384x1, shapeCast S16384x1 (A2 m d) shapeCasts_S4x1x64x64_S16384x1⟩,
        ⟨S16384x31, broadcastInDim S16384x31 ![] bcast_S_S16384x31 (constant S_ .f32 0x00000000#32)⟩] concatenates_S16384x96_S16384x1_S16384x31_S16384x128_d1 := by
  unfold V1 V0 opsA
  after_results_simp
  rfl

theorem cat0 (u : S16384x96.Idx → F .f32) (v : S16384x1.Idx → F .f32) (w : S16384x31.Idx → F .f32) (h) (R : Fin 16384) (c : Fin 96) (c' : Fin 128) (hc : c'.val = c.val) :
    concatenate S16384x128 1 [⟨S16384x96, u⟩, ⟨S16384x1, v⟩, ⟨S16384x31, w⟩] h (ix2 R c') = u (ix2 R c) :=
  concatenate_apply_piece (1 : Fin 2) [⟨S16384x96, u⟩, ⟨S16384x1, v⟩, ⟨S16384x31, w⟩] h (ix2 R c') 0 (by decide : 0 < 3) S16384x96 u rfl rfl 0 rfl (ix2 R c)
    (fun q hq => match q with | ⟨0, _⟩ => rfl | ⟨1, _⟩ => absurd rfl hq) (by show 0 + c.val = c'.val; omega)

theorem cat1 (u : S16384x96.Idx → F .f32) (v : S16384x1.Idx → F .f32) (w : S16384x31.Idx → F .f32) (h) (R : Fin 16384) (c' : Fin 128) (hc : c'.val = 96) :
    concatenate S16384x128 1 [⟨S16384x96, u⟩, ⟨S16384x1, v⟩, ⟨S16384x31, w⟩] h (ix2 R c') = v (ix2 R 0) :=
  concatenate_apply_piece (1 : Fin 2) [⟨S16384x96, u⟩, ⟨S16384x1, v⟩, ⟨S16384x31, w⟩] h (ix2 R c') 1 (by decide : 1 < 3) S16384x1 v rfl rfl 96 rfl (ix2 R 0)
    (fun q hq => match q with | ⟨0, _⟩ => rfl | ⟨1, _⟩ => absurd rfl hq) (by show 96 + 0 = c'.val; omega)

theorem map_inp (d : Dev nD) (b : Fin 4) (y x : Fin 64) (R : Fin 16384) (hR : R.val = b.val * 4096 + y.val * 64 + x.val) (c : Fin 96) (c' : Fin 128) (hc : c'.val = c.val) :
    (V1 m d mp' : S16384x128.Idx → F .f32) (ix2 R c') = A0 m d (ix4 b c y x) := by
  rw [V1_map]
  refine (cat0 _ _ _ _ R c c' hc).trans ?_
  refine (shapeCast_apply _ _ (ix2 R c) (ix4 b y x c) ?_).trans (transpose_apply _ _ _ _ (ix4 b c y x) ?_)
  · rw [Shape.rowMajor_val_four, Shape.rowMajor_val_two]
    show ((b.val * 64 + y.val) * 64 + x.val) * 96 + c.val = R.val * 96 + c.val
    omega
  · intro q
    match q with
    | ⟨0, _⟩ => rfl
    | ⟨1, _⟩ => rfl
    | ⟨2, _⟩ => rfl
    | ⟨3, _⟩ => rfl

theorem map_score (d : Dev nD) (b : Fin 4) (y x : Fin 64) (R : Fin 16384) (hR : R.val = b.val * 4096 + y.val * 64 + x.val) (c' : Fin 128) (hc : c'.val = 96) :
    (V1 m d mp' : S16384x128.Idx → F .f32) (ix2 R c') = A2 m d (ix4 b 0 y x) := by
  rw [V1_map]
  refine (cat1 _ _ _ _ R c' hc).trans ?_
  refine shapeCast_apply _ _ (ix2 R 0) (ix4 b 0 y x) ?_
  rw [Shape.rowMajor_val_four, Shape.rowMajor_val_two]
  show ((b.val * 1 + 0) * 64 + y.val) * 64 + x.val = R.val * 1 + 0
  omega

/-! ## The end -/

def wrA : List (Ref sig .tc) := [main_v0, main_v1, main_v2, main_cst, main_v3, main_v4, main_v5, main_v6, main_c, main_v7, main_c_0, main_v8, main_v9, main_v10, main_v11, main_v12, main_v13, main_v14,
  main_v15, main_v16, main_v17, main_v18, main_v19]
def wrB : List (Ref sig .tc) := [main_v21, main_v22]

theorem V3_kept (d : Dev nD) (r : Ref sig .tc) (hA : r ∉ wrA) (hB : r ∉ wrB) (h20 : Proc.devRef (τ := τ) .tc r ≠ ot') : V3 m d (Proc.devRef .tc r) = m (d, Proc.devRef .tc r) := by
  unfold V3
  rw [StableHlo.after_of_writes_sub opsB _ (StableHlo.forall_writes_sub_of_map (W := wrB) rfl) hB]
  unfold V2
  rw [Function.update_of_ne h20]
  unfold V1
  rw [StableHlo.after_of_writes_sub opsA _ (StableHlo.forall_writes_sub_of_map (W := wrA) rfl) hA]
  rfl

theorem V3_out (d : Dev nD) : (V3 m d (Proc.devRef .tc main_v22) : S1000x96x1x1.Idx → F .f32)
    = shapeCast S1000x96x1x1 (extractStridedSlice S1000x96 ![0, 0] (outOf (V1 m) d : S1024x96.Idx → F .f32) slices_S1024x96_S1000x96_0_0) shapeCasts_S1000x96_S1000x96x1x1 := by
  unfold V3 opsB
  after_results_simp
  unfold V2
  rw [Function.update_self]
  rfl

/-- The result at row `r`, channel `c`. -/
def result (d : Dev nD) (r : Fin 1000) (c : Fin 96) : F .f32 :=
  rowVal (patchOf (V1 m d mp' : S16384x128.Idx → F .f32) (roi (A1 m d) r 0) (roi (A1 m d) r 1) (roi (A1 m d) r 2))
    (Scalar.subi (roi (A1 m d) r 3) (roi (A1 m d) r 1)) (Scalar.subi (roi (A1 m d) r 4) (roi (A1 m d) r 2)) c.val

theorem V3_at (d : Dev nD) (r : Fin 1000) (c : Fin 96) (z z' : Fin 1) : (V3 m d (Proc.devRef .tc main_v22) : S1000x96x1x1.Idx → F .f32) (ix4 r c z z') = result m d r c := by
  rw [V3_out]
  have hr := r.isLt
  refine (shapeCast_apply _ _ (ix4 r c z z') (ix2 r c) ?_).trans ((extractStridedSlice_apply _ _ _ (ix2 r c) (ix2 ⟨r.val, by omega⟩ c) ?_).trans ?_)
  · rw [Shape.rowMajor_val_four, Shape.rowMajor_val_two]
    show r.val * 96 + c.val = ((r.val * 96 + c.val) * 1 + z.val) * 1 + z'.val
    omega
  · intro q
    match q with
    | ⟨0, _⟩ => exact (Nat.zero_add _).symm
    | ⟨1, _⟩ => exact (Nat.zero_add _).symm
  · have e : ∀ k, padRoi (A1 m d) ⟨r.val, by omega⟩ k = roi (A1 m d) r k := fun k => dif_pos hr
    show rowVal (patchOf _ ((V1 m d cb' : S1024.Idx → BitVec 32) (ix1 ⟨r.val, _⟩)) ((V1 m d cx1' : S1024.Idx → BitVec 32) (ix1 ⟨r.val, _⟩)) ((V1 m d cy1' : S1024.Idx → BitVec 32) (ix1 ⟨r.val, _⟩)))
      (Scalar.subi ((V1 m d cx2' : S1024.Idx → BitVec 32) (ix1 ⟨r.val, _⟩)) ((V1 m d cx1' : S1024.Idx → BitVec 32) (ix1 ⟨r.val, _⟩)))
      (Scalar.subi ((V1 m d cy2' : S1024.Idx → BitVec 32) (ix1 ⟨r.val, _⟩)) ((V1 m d cy1' : S1024.Idx → BitVec 32) (ix1 ⟨r.val, _⟩))) c.val = _
    rw [V1_c0, V1_c1, V1_c2, V1_c3, V1_c4, e, e, e, e, e]
    rfl

end Cert.Tile
-- ==== Proof.Frames.lean ====
/-
  What the three programs leave untouched, and the one named constant.
-/
module

public import proofs.«01_k».proof.Proof.Host
public import proofs.«01_k».proof.Proof.Gen.Kernel
public import proofs.«01_k».proof.Proof.Gen.ReferenceIdeal.Run

@[expose] public section

set_option maxRecDepth 100000
set_option maxHeartbeats 0

noncomputable section

namespace Cert.Tile

open Cert.KernelIdeal Cert.KernelIdeal.Gen
open Idealize.ShloMosaic Idealize.SL.Sem

section Any

variable {F : FTy → Type} [FloatOps F] [Named F]

/-- Where every row of the boxes is in range, the kernel keeps its arguments and gives back its semaphores. -/
theorem kept [∀ e, Nonempty (Elt F e)] (m : (ℓ : Loc nD τ sig) → Buf (Elt F) ℓ) (ρ : Dev nD → PrngReg)
    (h : ∀ d r, RowOK (A1 m d) r) :
    θ_run (Cert.KernelIdeal.defs (F := F)) (Cert.KernelIdeal.threads (F := F)) ⟨m, fun _ => 0, ρ⟩
      (fun r => (∀ c : Dev nD, r.2.mem (c.tc.loc main_arg0) = m (c.tc.loc main_arg0)
        ∧ r.2.mem (c.tc.loc main_arg1) = m (c.tc.loc main_arg1)
        ∧ r.2.mem (c.tc.loc main_arg2) = m (c.tc.loc main_arg2)) ∧ r.2.sem = fun _ => 0) :=
  (θ_run _ _ _).mono (fun r hr => ⟨fun c =>
    ⟨(hr.1 c (Proc.devRef .tc main_arg0) (by decide)).trans (V3_kept m c main_arg0 (by decide) (by decide) (by decide)),
      (hr.1 c (Proc.devRef .tc main_arg1) (by decide)).trans (V3_kept m c main_arg1 (by decide) (by decide) (by decide)),
      (hr.1 c (Proc.devRef .tc main_arg2) (by decide)).trans (V3_kept m c main_arg2 (by decide) (by decide) (by decide))⟩, hr.2⟩)
    (run_main m ρ (short m h))

end Any

/-- The kernel over real arithmetic keeps its arguments. -/
theorem frame_ideal : Cert.quiescent_KernelIdeal := fun m ρ hp =>
  kept (F := Ideal) m ρ (fun d r => rowOK _ _ _ (hp d) r)

/-- A named constant read as the bits it is printed with. -/
local instance namedBits : Named Bits := ⟨fun _ _ {φ} b => Scalar.ofBits φ b⟩

theorem defs_eq : Cert.Kernel.defs (F := Bits) = Cert.KernelIdeal.defs (F := Bits) := rfl

theorem threads_eq : Cert.Kernel.threads (F := Bits) = Cert.KernelIdeal.threads (F := Bits) := rfl

/-- The kernel as printed keeps its arguments. -/
theorem frame_kernel : Cert.quiescent_Kernel := fun m ρ hp => by
  have h := kept (F := Bits) m ρ (fun d r => rowOK _ _ _ (hp d) r)
  rw [← threads_eq, ← defs_eq] at h
  exact h

/-- The reference keeps its arguments; it declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The mask constant stands for minus infinity. -/
theorem named_mask : Cert.preserves_Kernel_KernelIdeal :=
  IdealRules.named_const.statement Cert.KernelIdeal.κ "mask" .f32 0xF149F2CA#32 ⊥ rfl

end Cert.Tile
-- ==== Proof.Reals.lean ====
/-
  The weighted mean over a box, on the extended reals: subtracting the box's own maximum and dividing at
  the end gives what subtracting a larger number and dividing each weight gives.
-/
module

public import Idealize.ShloMosaic.PureOps.Ideal

@[expose] public section

noncomputable section

namespace Cert.Tile

open Idealize.ShloMosaic

variable {ι : Type}

/-- A nonnegative real factor goes into a sum. -/
theorem sum_mul_real (B : Finset ι) (f : ι → EReal) (c : ℝ) (hc : 0 ≤ c) :
    (∑ i ∈ B, f i) * (c : EReal) = ∑ i ∈ B, f i * (c : EReal) := by
  classical
  induction B using Finset.induction_on with
  | empty => simp
  | insert a B ha ih =>
    rw [Finset.sum_insert ha, Finset.sum_insert ha,
      EReal.right_distrib_of_nonneg_of_ne_top (by exact_mod_cast hc) (EReal.coe_ne_top c), ih]

/-- A sum of real numbers is real. -/
theorem sum_real (B : Finset ι) (e : ι → ℝ) : (∑ i ∈ B, (e i : EReal)) = ((∑ i ∈ B, e i : ℝ) : EReal) := by
  classical
  induction B using Finset.induction_on with
  | empty => simp
  | insert a B ha ih => rw [Finset.sum_insert ha, Finset.sum_insert ha, ih, EReal.coe_add]

theorem exp_bot : Ideal.exp ⊥ = 0 := rfl
theorem exp_real (r : ℝ) : Ideal.exp (r : EReal) = (Real.exp r : EReal) := rfl

/-- A quotient of reals by a positive real. -/
theorem div_real (a d : ℝ) (hd : 0 < d) : Ideal.div (a : EReal) (d : EReal) = ((a / d : ℝ) : EReal) := by
  unfold Ideal.div
  rw [if_neg (by exact_mod_cast hd.ne'), ← EReal.coe_inv, ← EReal.coe_mul, div_eq_mul_inv]

/-- Both families of exponentials are real, and one is a multiple of the other. -/
theorem exponentials (B : Finset ι) (s : ι → EReal) (M M' : EReal) (c : ℝ)
    (hs : ∀ i ∈ B, s i ≤ M) (h1 : M ≤ M') (h2 : M' ≤ max M (c : EReal)) :
    ∃ (e : ι → ℝ) (k : ℝ), 0 < k ∧ ∀ i ∈ B, 0 ≤ e i ∧ Ideal.exp (s i - M) = (e i : EReal)
      ∧ Ideal.exp (min (s i - M') 0) = ((e i * k : ℝ) : EReal) := by
  have hb : ∀ x : EReal, (⊥ : EReal) - x = ⊥ := fun x => by rw [sub_eq_add_neg, EReal.bot_add]
  have ht : ∀ x : EReal, x - (⊤ : EReal) = ⊥ := fun x => by rw [sub_eq_add_neg, EReal.neg_top, EReal.add_bot]
  induction M using EReal.rec with
  | bot =>
    refine ⟨fun _ => 0, 1, one_pos, fun i hi => ⟨le_rfl, ?_, ?_⟩⟩
    · rw [le_bot_iff.mp (hs i hi), hb]; exact EReal.coe_zero.symm
    · rw [le_bot_iff.mp (hs i hi), hb, min_eq_left bot_le, zero_mul]; exact EReal.coe_zero.symm
  | top =>
    obtain rfl : M' = ⊤ := top_le_iff.mp h1
    refine ⟨fun _ => 0, 1, one_pos, fun i hi => ⟨le_rfl, ?_, ?_⟩⟩
    · rw [ht]; exact EReal.coe_zero.symm
    · rw [ht, min_eq_left bot_le, zero_mul]; exact EReal.coe_zero.symm
  | coe a =>
    have : M' ≠ ⊤ := fun h => by
      rw [h] at h2
      rcases le_max_iff.mp h2 with h | h
      · exact EReal.coe_ne_top _ (top_le_iff.mp h)
      · exact EReal.coe_ne_top _ (top_le_iff.mp h)
    have h' : M' ≠ ⊥ := fun h => by
      rw [h] at h1; exact EReal.coe_ne_bot _ (le_bot_iff.mp h1)
    lift M' to ℝ using ⟨this, h'⟩
    refine ⟨fun i => if s i = ⊥ then 0 else Real.exp ((s i).toReal - a), Real.exp (a - M'), Real.exp_pos _, fun i hi => ?_⟩
    by_cases hsi : s i = ⊥
    · simp only [hsi, if_true]
      refine ⟨le_rfl, ?_, ?_⟩
      · rw [hb]; exact EReal.coe_zero.symm
      · rw [hb, min_eq_left bot_le, zero_mul]; exact EReal.coe_zero.symm
    · have hst : s i ≠ ⊤ := fun h => by
        have := hs i hi
        rw [h] at this
        exact EReal.coe_ne_top _ (top_le_iff.mp this)
      obtain ⟨x, hx⟩ : ∃ x : ℝ, s i = (x : EReal) := ⟨(s i).toReal, (EReal.coe_toReal hst hsi).symm⟩
      have hxa : x ≤ a := by have := hs i hi; rw [hx] at this; exact_mod_cast this
      have haM : a ≤ M' := by exact_mod_cast h1
      simp only [hx, EReal.coe_ne_bot, if_false, EReal.toReal_coe]
      refine ⟨(Real.exp_pos _).le, ?_, ?_⟩
      · rw [← EReal.coe_sub, exp_real]
      · rw [← EReal.coe_sub, min_eq_left (by exact_mod_cast (by linarith : x - M' ≤ 0)), exp_real, ← Real.exp_add]
        congr 2
        ring

/-- The sum divided at the end is the sum of the divided weights. -/
theorem pooled (B : Finset ι) (s v : ι → EReal) (M M' : EReal) (c : ℝ)
    (hs : ∀ i ∈ B, s i ≤ M) (h1 : M ≤ M') (h2 : M' ≤ max M (c : EReal)) :
    (∑ i ∈ B, Ideal.exp (s i - M) * v i)
        * (if 0 < ∑ i ∈ B, Ideal.exp (s i - M) then Ideal.div 1 (∑ i ∈ B, Ideal.exp (s i - M)) else 0)
      = ∑ i ∈ B, v i * Ideal.div (Ideal.exp (min (s i - M') 0))
          (if 0 < ∑ i ∈ B, Ideal.exp (min (s i - M') 0) then ∑ i ∈ B, Ideal.exp (min (s i - M') 0) else 1) := by
  obtain ⟨e, k, hk, he⟩ := exponentials B s M M' c hs h1 h2
  have eD : ∑ i ∈ B, Ideal.exp (s i - M) = ((∑ i ∈ B, e i : ℝ) : EReal) :=
    (Finset.sum_congr rfl fun i hi => (he i hi).2.1).trans (sum_real B e)
  have eD' : ∑ i ∈ B, Ideal.exp (min (s i - M') 0) = (((∑ i ∈ B, e i) * k : ℝ) : EReal) := by
    rw [Finset.sum_congr rfl fun i hi => (he i hi).2.2, sum_real, Finset.sum_mul]
  rw [eD, eD']
  rcases (Finset.sum_nonneg fun i hi => (he i hi).1 : 0 ≤ ∑ i ∈ B, e i).eq_or_lt with h0 | h0
  · have hz : ∀ i ∈ B, e i = 0 := (Finset.sum_eq_zero_iff_of_nonneg fun i hi => (he i hi).1).mp h0.symm
    rw [← h0, zero_mul, EReal.coe_zero, if_neg (lt_irrefl _), mul_zero, if_neg (lt_irrefl _)]
    refine (Finset.sum_eq_zero fun i hi => ?_).symm
    rw [(he i hi).2.2, hz i hi, zero_mul, ← EReal.coe_one, div_real _ _ one_pos, zero_div, EReal.coe_zero, mul_zero]
  · rw [if_pos (by exact_mod_cast h0), if_pos (by exact_mod_cast mul_pos h0 hk), ← EReal.coe_one, div_real _ _ h0,
      sum_mul_real _ _ _ (by positivity)]
    refine Finset.sum_congr rfl fun i hi => ?_
    rw [(he i hi).2.1, (he i hi).2.2, div_real _ _ (mul_pos h0 hk), mul_comm (e i : EReal) (v i), mul_assoc, ← EReal.coe_mul]
    congr 2
    field_simp

end Cert.Tile
-- ==== Proof.Mean.lean ====
/-
  One row of the kernel over the extended reals: the weighted mean over its box.
-/
module

public import proofs.«01_k».proof.Proof.Loops
public import proofs.«01_k».proof.Proof.PreFacts
public import proofs.«01_k».proof.Proof.Reals
public import Idealize.ShloMosaic.Lib.IdealHost

@[expose] public section

set_option maxRecDepth 100000

noncomputable section

namespace Cert.Tile

open Cert.KernelIdeal Cert.KernelIdeal.Gen
open Idealize.ShloMosaic

/-! ## Lanes -/

theorem laneAt_eq (v : FVec Ideal S16 .f32) (k : ℕ) : laneAt v k = v (ln k) := by
  unfold laneAt extractAt
  refine extractStridedSlice_apply _ _ _ _ _ ?_
  intro a
  have : a = 0 := Subsingleton.elim _ _
  subst this
  rfl

/-- The fold of lanes by addition is their sum. -/
theorem foldFrom_add (v : FVec Ideal S16 .f32) (n : ℕ) : ∀ (a : Ideal .f32) (k : ℕ),
    (foldFrom Scalar.addf v a k n : EReal) = (a : EReal) + ∑ i ∈ Finset.range n, (v (ln (k + i)) : EReal) := by
  induction n with
  | zero => intro a k; simp [foldFrom]
  | succ n ih =>
    intro a k
    show (foldFrom Scalar.addf v (Scalar.addf a (laneAt v k)) (k + 1) n : EReal) = _
    rw [ih, Finset.sum_range_succ', laneAt_eq]
    show (a : EReal) + v (ln k) + _ = _
    rw [add_assoc, add_comm (∑ i ∈ Finset.range n, (v (ln (k + (i + 1))) : EReal)) (v (ln (k + 0)) : EReal)]
    congr 2
    exact Finset.sum_congr rfl fun i _ => by rw [show k + 1 + i = k + (i + 1) by omega]

theorem foldAll_add (v : FVec Ideal S16 .f32) :
    (foldAll Scalar.addf v : EReal) = ∑ l ∈ Finset.range 16, (v (ln l) : EReal) := by
  show (foldFrom Scalar.addf v (laneAt v 0) 1 15 : EReal) = _
  rw [foldFrom_add, laneAt_eq, Finset.sum_range_succ' _ 15, add_comm]
  congr 1

/-- The fold of lanes by maximum is bounded where each lane is. -/
theorem foldFrom_max (v : FVec Ideal S16 .f32) (U : EReal) (n : ℕ) : ∀ (a : Ideal .f32) (k : ℕ),
    (foldFrom Scalar.maximumf v a k n : EReal) ≤ U ↔ (a : EReal) ≤ U ∧ ∀ i < n, (v (ln (k + i)) : EReal) ≤ U := by
  induction n with
  | zero => intro a k; simp [foldFrom]
  | succ n ih =>
    intro a k
    show (foldFrom Scalar.maximumf v (Scalar.maximumf a (laneAt v k)) (k + 1) n : EReal) ≤ U ↔ _
    rw [ih, laneAt_eq]
    show max (a : EReal) (v (ln k)) ≤ U ∧ _ ↔ _
    rw [max_le_iff, and_assoc]
    refine and_congr_right fun _ => ⟨fun h i hi => ?_, fun h => ⟨h 0 (by omega), fun i hi => ?_⟩⟩
    · cases i with
      | zero => exact h.1
      | succ i => have := h.2 i (by omega); rwa [show k + 1 + i = k + (i + 1) by omega] at this
    · have := h (i + 1) (by omega); rwa [show k + (i + 1) = k + 1 + i by omega] at this

theorem foldAll_max (v : FVec Ideal S16 .f32) (U : EReal) :
    (foldAll Scalar.maximumf v : EReal) ≤ U ↔ ∀ l < 16, (v (ln l) : EReal) ≤ U := by
  show (foldFrom Scalar.maximumf v (laneAt v 0) 1 15 : EReal) ≤ U ↔ _
  rw [foldFrom_max, laneAt_eq]
  refine ⟨fun h l hl => ?_, fun h => ⟨h 0 (by omega), fun i hi => h _ (by omega)⟩⟩
  cases l with
  | zero => exact h.1
  | succ l => have := h.2 l (by omega); rwa [add_comm] at this

/-! ## The box -/

theorem maskC_eq : (maskC : Ideal .f32) = (⊥ : EReal) := IdealRules.named_const.ideal_named_scalar κ "mask" _ ⊥ rfl
theorem zeroC_eq : (zeroC : Ideal .f32) = (0 : EReal) := Ideal.ofBits_zero_f32
theorem oneC_eq : (oneC : Ideal .f32) = (1 : EReal) := Ideal.ofBits_one_f32

/-- The lanes inside the width. -/
abbrev inside (w : BitVec 32) : IVec S16 1 := cmpi .slt lanes (broadcast S16 w)

theorem inside_iff (w : BitVec 32) (l : ℕ) (hl : l < 16) : inside w (ln l) = 1#1 ↔ l < w.toInt.toNat := by
  refine (slt_iff (lanes (ln l)) w).trans ?_
  have h : (lanes (ln l)).toNat = l := (lanes_toNat _).trans (Nat.mod_eq_of_lt hl)
  rw [BitVec.toInt_eq_toNat_cond, h]
  omega

variable (P : Patch Ideal) (w : BitVec 32)

theorem scoreLine_at (j l : ℕ) (hl : l < 16) :
    (scoreLine (inside w) P j (ln l) : EReal) = if l < w.toInt.toNat then P j l 96 else ⊥ := by
  show (if inside w (ln l) = 1#1 then P j (l % 16) 96 else (maskC : Ideal .f32)) = _
  rw [maskC_eq, Nat.mod_eq_of_lt hl]
  exact if_congr (inside_iff w l hl) rfl rfl

theorem maxLines_le (U : EReal) (l n : ℕ) (hl : l < 16) :
    (maxLines (inside w) P n (ln l) : EReal) ≤ U ↔ ∀ j < n, l < w.toInt.toNat → (P j l 96 : EReal) ≤ U := by
  induction n with
  | zero =>
    refine iff_of_true ?_ (fun j hj => absurd hj (by omega))
    show (maskC : Ideal .f32) ≤ U
    rw [maskC_eq]; exact bot_le
  | succ n ih =>
    show max (maxLines (inside w) P n (ln l) : EReal) (scoreLine (inside w) P n (ln l)) ≤ U ↔ _
    rw [max_le_iff, ih, scoreLine_at P w n l hl]
    refine ⟨fun h j hj hw => ?_, fun h => ⟨fun j hj => h j (by omega), ?_⟩⟩
    · rcases Nat.lt_succ_iff_lt_or_eq.mp hj with hj | rfl
      · exact h.1 j hj hw
      · have := h.2; rwa [if_pos hw] at this
    · split_ifs with hw
      · exact h n (by omega) hw
      · exact bot_le

/-- The maximum over the box is the least bound of its scores. -/
theorem boxMax_le (hw : w.toInt ≤ 16) (U : EReal) (n : ℕ) :
    (boxMax (inside w) P n : EReal) ≤ U ↔ ∀ j < n, ∀ l < w.toInt.toNat, (P j l 96 : EReal) ≤ U := by
  refine (foldAll_max _ U).trans ⟨fun h j hj l hl => (maxLines_le P w U l n (by omega)).mp (h l (by omega)) j hj hl,
    fun h l hl => (maxLines_le P w U l n hl).mpr fun j hj hlw => h j hj l hlw⟩

theorem expLine_at (m : EReal) (j l : ℕ) (hl : l < 16) :
    (expLine (F := Ideal) (inside w) P m j (ln l) : EReal) = if l < w.toInt.toNat then Ideal.exp ((P j l 96 : EReal) - m) else 0 := by
  show Ideal.exp ((scoreLine (inside w) P j (ln l) : EReal) - m) = _
  rw [scoreLine_at P w j l hl]
  split_ifs
  · rfl
  · rw [sub_eq_add_neg, EReal.bot_add]; rfl

theorem sumLines_at (m : EReal) (n : ℕ) (x : S16.Idx) :
    (sumLines (F := Ideal) (inside w) P m n x : EReal) = ∑ j ∈ Finset.range n, (expLine (F := Ideal) (inside w) P m j x : EReal) := by
  induction n with
  | zero => exact zeroC_eq
  | succ n ih => rw [Finset.sum_range_succ, ← ih]; rfl

/-- A sum over sixteen lanes that is zero beyond the width. -/
theorem sum_lanes (hw : w.toInt ≤ 16) (f : ℕ → EReal) :
    ∑ l ∈ Finset.range 16, (if l < w.toInt.toNat then f l else 0) = ∑ l ∈ Finset.range w.toInt.toNat, f l := by
  rw [← Finset.sum_filter]
  refine Finset.sum_congr (Finset.ext fun l => ?_) fun _ _ => rfl
  rw [Finset.mem_filter, Finset.mem_range, Finset.mem_range]
  omega

/-- The denominator. -/
theorem boxSum_eq (hw : w.toInt ≤ 16) (n : ℕ) :
    (boxSum (inside w) P n : EReal)
      = ∑ j ∈ Finset.range n, ∑ l ∈ Finset.range w.toInt.toNat, Ideal.exp ((P j l 96 : EReal) - boxMax (inside w) P n) := by
  unfold boxSum
  rw [foldAll_add]
  refine (Finset.sum_congr rfl fun l _ => sumLines_at P w _ n (ln l)).trans ?_
  rw [Finset.sum_comm]
  refine Finset.sum_congr rfl fun j _ => ?_
  rw [← sum_lanes w hw]
  exact Finset.sum_congr rfl fun l hl => expLine_at P w _ j l (Finset.mem_range.mp hl)

theorem laneSum_at (E : ℕ → ℕ → EReal) (q j : ℕ) (a : FVec Ideal S16 .f32) (n : ℕ) (x : S16.Idx) :
    (laneSum (F := Ideal) P E q j a n x : EReal) = (a x : EReal) + ∑ l ∈ Finset.range n, E j l * P j l (16 * q + (x 0).val) := by
  induction n with
  | zero => rw [Finset.sum_range_zero, add_zero]; rfl
  | succ n ih =>
    rw [Finset.sum_range_succ, ← add_assoc, ← ih]; rfl

theorem boxAcc_at (E : ℕ → ℕ → EReal) (q n : ℕ) (x : S16.Idx) :
    (boxAcc (F := Ideal) P E q n x : EReal)
      = ∑ j ∈ Finset.range n, ∑ l ∈ Finset.range 16, E j l * P j l (16 * q + (x 0).val) := by
  induction n with
  | zero => exact zeroC_eq
  | succ n ih =>
    rw [Finset.sum_range_succ, ← ih]
    exact laneSum_at P E q n _ 16 x

/-- The lines and lanes of a box. -/
abbrev box (w h : BitVec 32) : Finset (ℕ × ℕ) := Finset.range h.toInt.toNat ×ˢ Finset.range w.toInt.toNat

theorem invOf_at (h : BitVec 32) (D : EReal) (x : S16.Idx) :
    (invOf (F := Ideal) (broadcast S16 w) (broadcast S16 h) (broadcast S16 (D : Ideal .f32)) x : EReal)
      = if 0 < w.toInt ∧ 0 < h.toInt ∧ 0 < D then Ideal.div 1 D else 0 := by
  have e : okOf (F := Ideal) (broadcast S16 w) (broadcast S16 h) (broadcast S16 (D : Ideal .f32)) x = 1#1
      ↔ 0 < w.toInt ∧ 0 < h.toInt ∧ 0 < D := by
    refine (and_iff _ _).trans ((and_congr ((and_iff _ _).trans (and_congr ?_ ?_)) ?_).trans and_assoc)
    · show IntOp.cmpi .sgt w 0#32 = 1#1 ↔ _
      simp only [IntOp.cmpi]; simp [ofBool_one, BitVec.slt_eq_decide]
    · show IntOp.cmpi .sgt h 0#32 = 1#1 ↔ _
      simp only [IntOp.cmpi]; simp [ofBool_one, BitVec.slt_eq_decide]
    · show Ideal.cmp .ogt D (zeroC : Ideal .f32) = 1#1 ↔ _
      rw [zeroC_eq]
      simp only [Ideal.cmp]
      rw [ofBool_one, decide_eq_true_iff]
  show (if okOf (F := Ideal) (broadcast S16 w) (broadcast S16 h) (broadcast S16 (D : Ideal .f32)) x = 1#1
    then Ideal.div (oneC : Ideal .f32) (if okOf (F := Ideal) (broadcast S16 w) (broadcast S16 h) (broadcast S16 (D : Ideal .f32)) x = 1#1 then D else (oneC : Ideal .f32))
    else (zeroC : Ideal .f32)) = _
  rw [zeroC_eq, oneC_eq]
  by_cases hc : 0 < w.toInt ∧ 0 < h.toInt ∧ 0 < D
  · rw [if_pos (e.mpr hc), if_pos (e.mpr hc), if_pos hc]
  · rw [if_neg (fun h => hc (e.mp h)), if_neg hc]

/-- A row of the kernel: the weighted sum of a channel over the box, divided by the sum of the weights. -/
theorem rowVal_eq (hw : w.toInt ≤ 16) (h : BitVec 32) (c : ℕ) :
    (rowVal P w h c : EReal)
      = (∑ i ∈ box w h, Ideal.exp ((P i.1 i.2 96 : EReal) - boxMax (inside w) P h.toInt.toNat) * P i.1 i.2 c)
        * (if 0 < w.toInt ∧ 0 < h.toInt ∧ 0 < ∑ i ∈ box w h, Ideal.exp ((P i.1 i.2 96 : EReal) - boxMax (inside w) P h.toInt.toNat)
            then Ideal.div 1 (∑ i ∈ box w h, Ideal.exp ((P i.1 i.2 96 : EReal) - boxMax (inside w) P h.toInt.toNat)) else 0) := by
  have e : (rowVal P w h c : EReal)
      = (boxAcc P (weight (inside w) P (boxMax (inside w) P h.toInt.toNat)) (c / 16) h.toInt.toNat (ln c) : EReal)
        * (invOf (F := Ideal) (broadcast S16 w) (broadcast S16 h) (broadcast S16 (boxSum (inside w) P h.toInt.toNat)) (ln c) : EReal) := rfl
  rw [e, invOf_at, boxSum_eq P w hw, Finset.sum_product, Finset.sum_product]
  congr 1
  refine (boxAcc_at P _ (c / 16) h.toInt.toNat (ln c)).trans (Finset.sum_congr rfl fun j _ => ?_)
  rw [← sum_lanes w hw]
  refine Finset.sum_congr rfl fun l hl => ?_
  have hl := Finset.mem_range.mp hl
  show (expLine (F := Ideal) (inside w) P _ j (ln l) : EReal) * P j l (16 * (c / 16) + c % 16) = _
  rw [expLine_at P w _ j l hl, Nat.div_add_mod]
  split_ifs
  · rfl
  · exact zero_mul _

end Cert.Tile
-- ==== Proof.Ref.lean ====
/-
  The reference, read at a row and a channel over the extended reals.
-/
module

public import proofs.«01_k».proof.Proof.Gen.ReferenceIdeal.Run
public import proofs.«01_k».proof.Proof.PreFacts
public import Idealize.ShloMosaic.Lib.Pointwise
public import Idealize.ShloMosaic.Lib.IdealHost

@[expose] public section

set_option maxRecDepth 100000
set_option maxHeartbeats 1000000

noncomputable section

namespace Cert.Tile

open Cert.ReferenceIdeal Cert.ReferenceIdeal.Gen Cert.ReferenceIdeal.Value
open Idealize.ShloMosaic

/-! ## One image taken for each row -/

section Image

variable {α : Type} (C : ℕ)

/-- The dimension numbers that take a whole image, by its number, for each row. -/
abbrev imgDims (wf : GatherDims.WF ⟨4, ![4, C, 64, 64]⟩ ⟨2, ![1000, 4]⟩ ⟨5, ![1000, 1, C, 64, 64]⟩ [1, 2, 3, 4] [] [] [0, 1, 2, 3] [] 1 ![1, C, 64, 64]) :
    GatherDims ⟨4, ![4, C, 64, 64]⟩ ⟨2, ![1000, 4]⟩ ⟨5, ![1000, 1, C, 64, 64]⟩ where
  offsetDims := [1, 2, 3, 4]
  collapsedSliceDims := []
  operandBatchingDims := []
  startIndicesBatchingDims := []
  startIndexMap := [0, 1, 2, 3]
  indexVectorDim := 1
  sliceSizes := ![1, C, 64, 64]
  wf := wf

theorem img_at (wf : GatherDims.WF ⟨4, ![4, C, 64, 64]⟩ ⟨2, ![1000, 4]⟩ ⟨5, ![1000, 1, C, 64, 64]⟩ [1, 2, 3, 4] [] [] [0, 1, 2, 3] [] 1 ![1, C, 64, 64])
    (a : (⟨4, ![4, C, 64, 64]⟩ : Shape).Idx → α) (idx : IVec ⟨2, ![1000, 4]⟩ 32) (r : Fin 1000) (c : Fin C) (y x : Fin 64)
    (b : Fin 4) (hb : (idx (ix2 r 0)).toInt = b.val) :
    Host.gather (imgDims C wf) a idx (ix5 r 0 c y x) = a (ix4 b c y x) := by
  unfold Host.gather
  congr 1
  funext k
  refine Fin.ext ?_
  show (imgDims C wf).start (ix5 r 0 c y x) idx k + (imgDims C wf).batchCoord (ix5 r 0 c y x) k + (imgDims C wf).offCoord (ix5 r 0 c y x) k = _
  rw [GatherDims.batchCoord_eq_zero _ _ _ List.not_mem_nil, Nat.add_zero]
  have hle := (imgDims C wf).start_le (ix5 r 0 c y x) idx k
  match k with
  | ⟨0, _⟩ =>
    have hs : (imgDims C wf).start (ix5 r 0 c y x) idx 0 = b.val := by
      unfold GatherDims.start
      rw [dif_pos (show (0 : Fin 4) ∈ (imgDims C wf).startIndexMap from List.mem_cons_self)]
      have hsi : (imgDims C wf).siIdx (ix5 r 0 c y x) ⟨List.idxOf (0 : Fin 4) (imgDims C wf).startIndexMap,
          List.idxOf_lt_length_iff.2 List.mem_cons_self⟩ = ix2 r 0 := by
        funext q; refine Fin.ext ?_
        match q with
        | ⟨0, _⟩ => rfl
        | ⟨1, _⟩ => rfl
      rw [hsi, hb]
      show min (b.val : ℤ).toNat (4 - 1) = _
      have := b.isLt
      omega
    have ho : (imgDims C wf).offCoord (ix5 r 0 c y x) 0 = 0 := rfl
    exact (congrArg₂ (· + ·) hs ho).trans (Nat.add_zero _)
  | ⟨1, _⟩ =>
    have h0 : (imgDims C wf).start (ix5 r 0 c y x) idx 1 = 0 := Nat.le_zero.mp (hle.trans (le_of_eq (Nat.sub_self C)))
    have ho : (imgDims C wf).offCoord (ix5 r 0 c y x) 1 = c.val := rfl
    exact (congrArg₂ (· + ·) h0 ho).trans (Nat.zero_add _)
  | ⟨2, _⟩ =>
    have h0 : (imgDims C wf).start (ix5 r 0 c y x) idx 2 = 0 := Nat.le_zero.mp hle
    have ho : (imgDims C wf).offCoord (ix5 r 0 c y x) 2 = y.val := rfl
    exact (congrArg₂ (· + ·) h0 ho).trans (Nat.zero_add _)
  | ⟨3, _⟩ =>
    have h0 : (imgDims C wf).start (ix5 r 0 c y x) idx 3 = 0 := Nat.le_zero.mp hle
    have ho : (imgDims C wf).offCoord (ix5 r 0 c y x) 3 = x.val := rfl
    exact (congrArg₂ (· + ·) h0 ho).trans (Nat.zero_add _)

end Image

/-! ## The four columns of the boxes -/

variable (V : Valuation τ sig (Elt Ideal))

/-- The boxes, the map and its scores. -/
abbrev R0 : S4x96x64x64.Idx → EReal := V (Proc.devRef .tc main_arg0)
abbrev R1 : FVec Ideal S1000x5 .f32 := V (Proc.devRef .tc main_arg1)
abbrev R2 : S4x1x64x64.Idx → EReal := V (Proc.devRef .tc main_arg2)

/-- The reference's arrays: the columns, the box, the scores, the weights before division and their sum. -/
abbrev W6 : IVec S1000 32 := res_main_v6 V
abbrev W12 : IVec S1000 32 := res_main_v12 V
abbrev W18 : IVec S1000 32 := res_main_v18 V
abbrev W24 : IVec S1000 32 := res_main_v24 V
abbrev W30 : IVec S1000 32 := res_main_v30 V
abbrev W56 : IVec S1000x64x64 1 := res_main_v56 V
abbrev W77 : S1000x64x64.Idx → EReal := res_main_v77 V
abbrev W86 : S1000x64x64.Idx → EReal := res_main_v86 V
abbrev W87 : S1000.Idx → EReal := res_main_v87 V

theorem times_one (k : Fin 5) (off : Fin 2 → ℕ) (ho : off = ![0, k.val]) (h : S1000x5.Slices off S1000x1) (h' : S1000x1.ShapeCasts S1000) (r : Fin 1000) :
    fptosi (F := Ideal) 32 (Host.roundeven (mulf (shapeCast S1000 (extractStridedSlice S1000x1 off (R1 V) h) h') (broadcastInDim S1000 ![] bcast_S_S1000 (constant S_ .f32 0x3F800000#32)))) (ix1 r)
      = roi (F := Ideal) (R1 V) r k := by
  show Ideal.fptosi 32 (Ideal.liftRound Ideal.roundHalfEven ((shapeCast S1000 (extractStridedSlice S1000x1 off (R1 V) h) h' (ix1 r) : EReal)
    * Ideal.ofBits .f32 0x3F800000#32)) = Ideal.fptosi 32 (Ideal.liftRound Ideal.roundHalfEven (R1 V (ix2 r k)))
  rw [Ideal.ofBits_one_f32, mul_one]
  congr 2
  exact col_read k off ho (R1 V) h h' r

theorem v6_at (r : Fin 1000) : W6 V (ix1 r) = roiCut (F := Ideal) (R1 V) r := by
  unfold W6 res_main_v6 roiCut
  show Ideal.fptosi 32 _ = Ideal.fptosi 32 _
  congr 1
  exact col_read 0 _ rfl (R1 V) _ _ r
theorem v12_at (r : Fin 1000) : W12 V (ix1 r) = roi (F := Ideal) (R1 V) r 1 := times_one V 1 _ rfl _ _ r
theorem v18_at (r : Fin 1000) : W18 V (ix1 r) = roi (F := Ideal) (R1 V) r 2 := times_one V 2 _ rfl _ _ r
theorem v24_at (r : Fin 1000) : W24 V (ix1 r) = roi (F := Ideal) (R1 V) r 3 := times_one V 3 _ rfl _ _ r
theorem v30_at (r : Fin 1000) : W30 V (ix1 r) = roi (F := Ideal) (R1 V) r 4 := times_one V 4 _ rfl _ _ r

/-- A place inside the box of row `r`. -/
def inBox (r : Fin 1000) (y x : Fin 64) : Prop :=
  ((roi (F := Ideal) (R1 V) r 2).toInt ≤ y.val ∧ (y.val : ℤ) < (roi (F := Ideal) (R1 V) r 4).toInt)
    ∧ (roi (F := Ideal) (R1 V) r 1).toInt ≤ x.val ∧ (x.val : ℤ) < (roi (F := Ideal) (R1 V) r 3).toInt

instance (r : Fin 1000) (y x : Fin 64) : Decidable (inBox V r y x) := by unfold inBox; infer_instance

theorem small_toInt (y : Fin 64) : (BitVec.ofNat 32 y.val).toInt = y.val := by
  have := y.isLt
  rw [BitVec.toInt_eq_toNat_cond, BitVec.toNat_ofNat, Nat.mod_eq_of_lt (by omega)]
  omega

theorem v56_at (r : Fin 1000) (y x : Fin 64) : W56 V (ix3 r y x) = 1#1 ↔ inBox V r y x := by
  have e : W56 V (ix3 r y x) = IntOp.andi
      (IntOp.andi
        (IntOp.andi (IntOp.cmpi CmpIPredicate.sge (BitVec.ofNat 32 y.val) (W18 V (ix1 r)))
          (IntOp.cmpi CmpIPredicate.slt (BitVec.ofNat 32 y.val) (W30 V (ix1 r))))
        (IntOp.cmpi CmpIPredicate.sge (BitVec.ofNat 32 x.val) (W12 V (ix1 r))))
      (IntOp.cmpi CmpIPredicate.slt (BitVec.ofNat 32 x.val) (W24 V (ix1 r))) := by
    unfold W56 res_main_v56 res_main_v1 res_main_v3
    pointwise
  rw [e, and_iff, and_iff, and_iff, sge_iff, slt_iff, sge_iff, slt_iff, small_toInt, small_toInt, v12_at, v18_at, v24_at, v30_at, and_assoc]
  exact Iff.rfl

theorem piece0 (u0 u1 u2 u3 : IVec S1000x1 32) (h) (r : Fin 1000) :
    concatenate S1000x4 1 [⟨S1000x1, u0⟩, ⟨S1000x1, u1⟩, ⟨S1000x1, u2⟩, ⟨S1000x1, u3⟩] h (ix2 r 0) = u0 (ix2 r 0) :=
  concatenate_apply_piece (t := S1000x4) (1 : Fin 2) [⟨S1000x1, u0⟩, ⟨S1000x1, u1⟩, ⟨S1000x1, u2⟩, ⟨S1000x1, u3⟩] h (ix2 r 0) 0 (by decide : 0 < 4) S1000x1 u0 rfl rfl 0 rfl (ix2 r 0)
    (fun q hq => match q with | ⟨0, _⟩ => rfl | ⟨1, _⟩ => absurd rfl hq) rfl

/-- The image's number as the gathers read it. -/
theorem number_at (K : BitVec 32) (r : Fin 1000) (h : RowOK (F := Ideal) (R1 V) r) (u1 u2 u3 : IVec S1000x1 32) (h') :
    (concatenate S1000x4 1 [⟨S1000x1, broadcastInDim S1000x1 ![0] bcast_S1000_S1000x1_0 (select (cmpi .slt (W6 V) (broadcastInDim S1000 ![] bcast_S_S1000 (constantI S_ 32 0#32))) (addi (W6 V) (broadcastInDim S1000 ![] bcast_S_S1000 (constantI S_ 32 K))) (res_main_v6 V))⟩, ⟨S1000x1, u1⟩, ⟨S1000x1, u2⟩, ⟨S1000x1, u3⟩] h' (ix2 r 0)).toInt
      = (roi (F := Ideal) (R1 V) r 0).toInt := by
  rw [piece0]
  have e : broadcastInDim S1000x1 ![0] bcast_S1000_S1000x1_0 (select (cmpi .slt (W6 V) (broadcastInDim S1000 ![] bcast_S_S1000 (constantI S_ 32 0#32))) (addi (W6 V) (broadcastInDim S1000 ![] bcast_S_S1000 (constantI S_ 32 K))) (res_main_v6 V)) (ix2 r 0)
      = if IntOp.cmpi .slt (W6 V (ix1 r)) 0#32 = 1#1 then W6 V (ix1 r) + K else W6 V (ix1 r) := by
    refine (broadcastInDim_apply _ _ _ (ix2 r 0) (ix1 r) ?_).trans rfl
    intro a
    have : a = 0 := Subsingleton.elim _ _
    subst this
    rfl
  rw [e, v6_at, h.cut, if_neg]
  rw [slt_iff]
  have := h.b0
  show ¬ _ < (0 : ℤ)
  omega

variable (r : Fin 1000) (b : Fin 4)

/-- The score of a place of the row's image. -/
theorem v77_at (h : RowOK (F := Ideal) (R1 V) r) (hb : (roi (F := Ideal) (R1 V) r 0).toInt = b.val) (y x : Fin 64) :
    W77 V (ix3 r y x) = R2 V (ix4 b 0 y x) := by
  unfold W77 res_main_v77
  refine (shapeCast_apply _ _ (ix3 r y x) (ix5 r 0 0 y x) ?_).trans (img_at 1 _ (R2 V) _ r 0 y x b ((number_at V _ r h _ _ _ _).trans hb))
  rw [Shape.rowMajor_val_five, Shape.rowMajor_val_three]
  show (((r.val * 1 + 0) * 1 + 0) * 64 + y.val) * 64 + x.val = (r.val * 64 + y.val) * 64 + x.val
  omega

/-! ## The maximum -/

instance : Std.Commutative (FloatOps.maximumf : Ideal .f32 → Ideal .f32 → Ideal .f32) := inferInstanceAs (Std.Commutative (max : EReal → EReal → EReal))
instance : Std.Associative (FloatOps.maximumf : Ideal .f32 → Ideal .f32 → Ideal .f32) := inferInstanceAs (Std.Associative (max : EReal → EReal → EReal))

/-- The number that stands outside the box. -/
def low : EReal := Ideal.ofBits .f32 0xF149F2CA#32
theorem low_real : ∃ c : ℝ, low = (c : EReal) := by
  unfold low
  simp only [Ideal.ofBits, Ideal.ieee]
  exact ⟨_, rfl⟩

/-- The scores, with that number outside the box. -/
abbrev picked : S1000x64x64.Idx → EReal :=
  select (res_main_v56 V) (res_main_v77 V) (broadcastInDim S1000x64x64 ![1, 2] bcast_S64x64_S1000x64x64_1_2 (broadcastInDim S64x64 ![] bcast_S_S64x64 (id (constant (F := Ideal) S_ .f32 0xF149F2CA#32))))

/-- The maximum of the row's scores. -/
def top : EReal :=
  (Host.reduce FloatOps.maximumf (select (res_main_v56 V) (res_main_v77 V) (broadcastInDim S1000x64x64 ![1, 2] bcast_S64x64_S1000x64x64_1_2 (broadcastInDim S64x64 ![] bcast_S_S64x64 (id (constant (F := Ideal) S_ .f32 0xF149F2CA#32))))) (constant S_ .f32 0xFF800000#32) reducesTo_S1000x64x64_S1000_d1_2 h_S_ : FVec Ideal S1000 .f32) (ix1 r)

theorem drop3 (i : S1000x64x64.Idx) : reducesTo_S1000x64x64_S1000_d1_2.drop i = ix1 r ↔ (i 0).val = r.val := by
  have e := reducesTo_S1000x64x64_S1000_d1_2.drop_apply_val_of_eq i 0 0
  refine ⟨fun h => ?_, fun h => funext fun a => ?_⟩
  · rw [← e, h]; rfl
  · have : a = 0 := Subsingleton.elim _ _
    subst this
    exact Fin.ext (e.trans h)

theorem top_le (U : EReal) (h : RowOK (F := Ideal) (R1 V) r) (hb : (roi (F := Ideal) (R1 V) r 0).toInt = b.val) :
    top V r ≤ U ↔ ∀ y x : Fin 64, (if inBox V r y x then R2 V (ix4 b 0 y x) else low) ≤ U := by
  have hs (y x : Fin 64) : picked V (ix3 r y x)
      = if inBox V r y x then R2 V (ix4 b 0 y x) else low :=
    (show _ = if W56 V (ix3 r y x) = 1#1 then W77 V (ix3 r y x) else low from rfl).trans
      (by rw [v77_at V r b h hb]; exact if_congr (v56_at V r y x) rfl rfl)
  unfold top
  rw [Host.reduce_eq_fold]
  refine Iff.trans (show Finset.fold (max : EReal → EReal → EReal) _ _ _ ≤ U ↔ _ from Finset.fold_max_le U) ?_
  refine ⟨fun hh y x => ?_, fun hh => ⟨?_, fun i hi => ?_⟩⟩
  · rw [← hs]
    exact hh.2 (ix3 r y x) (Finset.mem_filter.mpr ⟨Finset.mem_univ _, (drop3 r _).mpr rfl⟩)
  · show Ideal.ofBits .f32 0xFF800000#32 ≤ U
    have : Ideal.ofBits .f32 0xFF800000#32 = ⊥ := by simp [Ideal.ofBits, Ideal.ieee]
    rw [this]; exact bot_le
  · have h0 := (drop3 r i).mp (Finset.mem_filter.mp hi).2
    have e : i = ix3 r (i 1) (i 2) := by
      conv_lhs => rw [← ix3_eta i]
      congr 1
      exact Fin.ext h0
    exact ((congrArg (picked V) e).trans (hs (i 1) (i 2))).trans_le (hh _ _)

/-! ## The weights -/

/-- A number of a row, written at every place of the row. -/
theorem spread (t : S1000.Idx → EReal) (r : Fin 1000) (y x : Fin 64) :
    broadcastInDim S1000x64x64 ![0, 1, 2] bcast_S1000x1x1_S1000x64x64_0_1_2 (broadcastInDim S1000x1x1 ![0] bcast_S1000_S1000x1x1_0 t) (ix3 r y x) = t (ix1 r) := by
  pointwise

theorem v86_at (h : RowOK (F := Ideal) (R1 V) r) (hb : (roi (F := Ideal) (R1 V) r 0).toInt = b.val) (y x : Fin 64) :
    W86 V (ix3 r y x)
      = if inBox V r y x then Ideal.exp (min (R2 V (ix4 b 0 y x) - top V r) 0) else 0 := by
  refine (show W86 V (ix3 r y x) = if W56 V (ix3 r y x) = 1#1 then _ else _ from rfl).trans (if_congr (v56_at V r y x) ?_ Ideal.ofBits_zero_f32)
  exact congrArg Ideal.exp (congrArg₂ (fun u v : EReal => min u v)
    (congrArg₂ (fun u v : EReal => u - v) (v77_at V r b h hb y x) (spread _ r y x)) Ideal.ofBits_zero_f32)

theorem v87_at : W87 V (ix1 r) = ∑ k : Fin 64 × Fin 64, W86 V (ix3 r k.1 k.2) := by
  have e : W87 V (ix1 r) = Ideal.ofBits .f32 0x00000000#32
      + ∑ i ∈ Finset.univ.filter (fun i => reducesTo_S1000x64x64_S1000_d1_2.drop i = ix1 r), W86 V i := rfl
  rw [e, Ideal.ofBits_zero_f32, zero_add]
  refine Finset.sum_filter_eq_sum_of_fiber _ (fun k : Fin 64 × Fin 64 => ix3 r k.1 k.2) (fun k k' hk => ?_) (fun i => ?_) _
  · have := (ix3_inj _ _ _ _ _ _).mp hk
    exact Prod.ext this.2.1 this.2.2
  · rw [drop3]
    refine ⟨fun h => ⟨(i 1, i 2), ?_⟩, fun ⟨k, hk⟩ => by rw [← hk]; rfl⟩
    conv_rhs => rw [← ix3_eta i]
    exact (ix3_inj _ _ _ _ _ _).mpr ⟨Fin.ext h.symm, rfl, rfl⟩

/-! ## The result -/

variable (c : Fin 96)

theorem drop4 (i : S1000x96x64x64.Idx) : reducesTo_S1000x96x64x64_S1000x96_d2_3.drop i = ix2 r c ↔ (i 0).val = r.val ∧ (i 1).val = c.val := by
  have e := reducesTo_S1000x96x64x64_S1000x96_d2_3.drop_apply_val_of_eq i 0 0
  have e' := reducesTo_S1000x96x64x64_S1000x96_d2_3.drop_apply_val_of_eq i 1 1
  refine ⟨fun h => ⟨?_, ?_⟩, fun h => funext fun a => ?_⟩
  · rw [← e, h]; rfl
  · rw [← e', h]; rfl
  · match a with
    | ⟨0, _⟩ => exact Fin.ext (e.trans h.1)
    | ⟨1, _⟩ => exact Fin.ext (e'.trans h.2)

/-- A sum over the places of a map, of one row and channel. -/
theorem sum4 (f : S1000x96x64x64.Idx → EReal) :
    ∑ i ∈ Finset.univ.filter (fun i => reducesTo_S1000x96x64x64_S1000x96_d2_3.drop i = ix2 r c), f i
      = ∑ k : Fin 64 × Fin 64, f (ix4 r c k.1 k.2) := by
  refine Finset.sum_filter_eq_sum_of_fiber _ (fun k : Fin 64 × Fin 64 => ix4 r c k.1 k.2) (fun k k' hk => ?_) (fun i => ?_) _
  · have := (ix4_inj _ _ _ _ _ _ _ _).mp hk
    exact Prod.ext this.2.2.1 this.2.2.2
  · rw [drop4]
    refine ⟨fun h => ⟨(i 2, i 3), ?_⟩, fun ⟨k, hk⟩ => by rw [← hk]; exact ⟨rfl, rfl⟩⟩
    conv_rhs => rw [← ix4_eta i]
    exact (ix4_inj _ _ _ _ _ _ _ _).mpr ⟨Fin.ext h.1.symm, Fin.ext h.2.symm, rfl, rfl⟩

/-- The reference's result. -/
def refOut : FVec Ideal S1000x96x1x1 .f32 :=
  shapeCast _ (select (broadcastInDim S1000x96 ![0] bcast_S1000_S1000x96_0 (andi (cmpi .slt (W12 V) (W24 V)) (cmpi .slt (W18 V) (W30 V)))) (Host.reduceAdd (mulf (shapeCast _ (Host.gather gather_S4x96x64x64_S1000x4_S1000x1x96x64x64_1234_n_n_n_0123_1_1966464 (R0 V) ((concatenate S1000x4 1 [⟨S1000x1, ((broadcastInDim S1000x1 ![0] bcast_S1000_S1000x1_0 (select (cmpi .slt (W6 V) (broadcastInDim S1000 ![] bcast_S_S1000 (constantI S_ 32 0#32))) (addi (W6 V) (broadcastInDim S1000 ![] bcast_S_S1000 (constantI S_ 32 4#32))) (W6 V))) : (⟨S1000x1, .i32⟩ : BufTy).Contents (Elt Ideal))⟩, ⟨S1000x1, ((broadcastInDim S1000x1 ![] bcast_S_S1000x1 (select (cmpi .slt (constantI S_ 32 0#32) (constantI S_ 32 0#32)) (addi (constantI S_ 32 0#32) (constantI S_ 32 96#32)) (constantI S_ 32 0#32))) : (⟨S1000x1, .i32⟩ : BufTy).Contents (Elt Ideal))⟩, ⟨S1000x1, ((broadcastInDim S1000x1 ![] bcast_S_S1000x1 (select (cmpi .slt (constantI S_ 32 0#32) (constantI S_ 32 0#32)) (addi (constantI S_ 32 0#32) (constantI S_ 32 64#32)) (constantI S_ 32 0#32))) : (⟨S1000x1, .i32⟩ : BufTy).Contents (Elt Ideal))⟩, ⟨S1000x1, ((broadcastInDim S1000x1 ![] bcast_S_S1000x1 (select (cmpi .slt (constantI S_ 32 0#32) (constantI S_ 32 0#32)) (addi (constantI S_ 32 0#32) (constantI S_ 32 64#32)) (constantI S_ 32 0#32))) : (⟨S1000x1, .i32⟩ : BufTy).Contents (Elt Ideal))⟩] concatenates_S1000x1_S1000x1_S1000x1_S1000x1_S1000x4_d1 : (⟨S1000x4, .i32⟩ : BufTy).Contents (Elt Ideal)))) shapeCasts_S1000x1x96x64x64_S1000x96x64x64) (broadcastInDim S1000x96x64x64 ![0, 1, 2, 3] bcast_S1000x1x64x64_S1000x96x64x64_0_1_2_3 (broadcastInDim S1000x1x64x64 ![0, 2, 3] bcast_S1000x64x64_S1000x1x64x64_0_2_3 (Host.divf (F := Ideal) (φ := .f32) (W86 V) (broadcastInDim S1000x64x64 ![0, 1, 2] bcast_S1000x1x1_S1000x64x64_0_1_2 (broadcastInDim S1000x1x1 ![0] bcast_S1000_S1000x1x1_0 (select (cmpf (F := Ideal) (φ := .f32) .ogt (W87 V) (broadcastInDim S1000 ![] bcast_S_S1000 (constant S_ .f32 0x00000000#32))) (W87 V) (broadcastInDim S1000 ![] bcast_S_S1000 (id (constant (F := Ideal) S_ .f32 0x3F800000#32)))))))))) (constant S_ .f32 0x00000000#32) reducesTo_S1000x96x64x64_S1000x96_d2_3 h_S_) (broadcastInDim S1000x96 ![1] bcast_S96_S1000x96_1 (broadcastInDim S96 ![] bcast_S_S96 (constant (F := Ideal) S_ .f32 0x00000000#32)))) shapeCasts_S1000x96_S1000x96x1x1

theorem refOut_at (h : RowOK (F := Ideal) (R1 V) r) (hb : (roi (F := Ideal) (R1 V) r 0).toInt = b.val) (z z' : Fin 1) :
    (refOut V (ix4 r c z z') : EReal)
      = if (roi (F := Ideal) (R1 V) r 1).toInt < (roi (F := Ideal) (R1 V) r 3).toInt ∧ (roi (F := Ideal) (R1 V) r 2).toInt < (roi (F := Ideal) (R1 V) r 4).toInt
        then ∑ k : Fin 64 × Fin 64, R0 V (ix4 b c k.1 k.2) * Ideal.div (W86 V (ix3 r k.1 k.2)) (if 0 < W87 V (ix1 r) then W87 V (ix1 r) else 1)
        else 0 := by
  unfold refOut
  refine (shapeCast_apply _ _ (ix4 r c z z') (ix2 r c) ?_).trans ?_
  · rw [Shape.rowMajor_val_four, Shape.rowMajor_val_two]
    show r.val * 96 + c.val = ((r.val * 96 + c.val) * 1 + z.val) * 1 + z'.val
    omega
  refine (show (select _ _ _ : FVec Ideal S1000x96 .f32) (ix2 r c)
    = if IntOp.andi (IntOp.cmpi .slt (W12 V (ix1 r)) (W24 V (ix1 r))) (IntOp.cmpi .slt (W18 V (ix1 r)) (W30 V (ix1 r))) = 1#1
      then Ideal.ofBits .f32 0x00000000#32 + ∑ i ∈ Finset.univ.filter (fun i => reducesTo_S1000x96x64x64_S1000x96_d2_3.drop i = ix2 r c), _
      else Ideal.ofBits .f32 0x00000000#32 from rfl).trans ?_
  refine if_congr ?_ ?_ Ideal.ofBits_zero_f32
  · rw [and_iff, slt_iff, slt_iff, v12_at, v18_at, v24_at, v30_at]
  · rw [Ideal.ofBits_zero_f32, zero_add, sum4]
    refine Finset.sum_congr rfl fun k _ => ?_
    have e1 : ∀ (g : S1000x1x96x64x64.Idx → EReal), shapeCast S1000x96x64x64 g shapeCasts_S1000x1x96x64x64_S1000x96x64x64 (ix4 r c k.1 k.2) = g (ix5 r 0 c k.1 k.2) := fun g => by
      refine shapeCast_apply g _ _ _ ?_
      rw [Shape.rowMajor_val_five, Shape.rowMajor_val_four]
      show (((r.val * 1 + 0) * 96 + c.val) * 64 + k.1.val) * 64 + k.2.val = ((r.val * 96 + c.val) * 64 + k.1.val) * 64 + k.2.val
      omega
    have e2 : ∀ (g : S1000x64x64.Idx → EReal), broadcastInDim S1000x96x64x64 ![0, 1, 2, 3] bcast_S1000x1x64x64_S1000x96x64x64_0_1_2_3 (broadcastInDim S1000x1x64x64 ![0, 2, 3] bcast_S1000x64x64_S1000x1x64x64_0_2_3 g) (ix4 r c k.1 k.2) = g (ix3 r k.1 k.2) := fun g => by
      pointwise
    refine congrArg₂ (fun u v : EReal => u * v) ((e1 _).trans (img_at 96 _ (R0 V) _ r c k.1 k.2 b ((number_at V _ r h _ _ _ _).trans hb))) ((e2 _).trans ?_)
    refine congrArg (Ideal.div (W86 V (ix3 r k.1 k.2))) ((spread _ r k.1 k.2).trans ?_)
    refine (show _ = if BitVec.ofBool (decide (Ideal.ofBits .f32 0x00000000#32 < W87 V (ix1 r))) = 1#1 then W87 V (ix1 r) else Ideal.ofBits .f32 0x3F800000#32 from rfl).trans ?_
    rw [Ideal.ofBits_zero_f32, Ideal.ofBits_one_f32]
    refine if_congr ?_ rfl rfl
    by_cases hp : 0 < W87 V (ix1 r) <;> simp [hp]

end Cert.Tile
-- ==== Proof.Join.lean ====
/-
  A row of the kernel's result is the reference's, over the extended reals.
-/
module

public import proofs.«01_k».proof.Proof.Host
public import proofs.«01_k».proof.Proof.Mean
public import proofs.«01_k».proof.Proof.Ref

@[expose] public section

set_option maxRecDepth 100000
set_option maxHeartbeats 1000000

noncomputable section

namespace Cert.Tile

open Cert.KernelIdeal Cert.KernelIdeal.Gen
open Idealize.ShloMosaic

/-- Inside the map no row number is moved: line `j`, lane `l` of the box is place `(Y + j, X + l)` of image `B`. -/
theorem rowAt_eq (b x1 y1 : BitVec 32) (B X Y j l : ℕ) (hb : b.toNat = B) (hx : x1.toNat = X) (hy : y1.toNat = Y)
    (hB : B < 4) (hj : Y + j < 64) (hl : l < 16) (hX : X + l < 64) :
    rowAt b x1 y1 j l = B * 4096 + (Y + j) * 64 + (X + l) := by
  unfold rowAt lineOf
  show (IntOp.minsi 16383#32 (IntOp.maxsi 0#32 ((((b * 64#32 + y1) * 64#32 + x1) + BitVec.ofNat 32 (64 * j)) + lanes (ln l)))).toNat = _
  have hn : (lanes (ln l)).toNat = l := (lanes_toNat _).trans (Nat.mod_eq_of_lt hl)
  have hz : ((((b * 64#32 + y1) * 64#32 + x1) + BitVec.ofNat 32 (64 * j)) + lanes (ln l)).toNat = B * 4096 + (Y + j) * 64 + (X + l) := by
    simp only [BitVec.toNat_add, BitVec.toNat_mul, BitVec.toNat_ofNat, hn, hb, hx, hy]
    omega
  generalize ((((b * 64#32 + y1) * 64#32 + x1) + BitVec.ofNat 32 (64 * j)) + lanes (ln l)) = q at hz
  have h0 : (0#32 : BitVec 32).toInt = 0 := by decide
  have h1 : (16383#32 : BitVec 32).toInt = 16383 := by decide
  have h2 := BitVec.toInt_eq_toNat_cond q
  unfold IntOp.minsi IntOp.maxsi
  simp only [BitVec.slt, decide_eq_true_eq]
  split_ifs <;> simp_all <;> omega

/-- A sum over the box is the sum over the map of what is zero outside it. -/
theorem sum_box (h w X Y : ℕ) (hh : Y + h ≤ 64) (hw : X + w ≤ 64) (p : Fin 64 → Fin 64 → Prop) [∀ y x, Decidable (p y x)]
    (hp : ∀ y x : Fin 64, p y x ↔ (Y ≤ y.val ∧ y.val < Y + h) ∧ X ≤ x.val ∧ x.val < X + w)
    (g : ℕ → ℕ → EReal) (f : Fin 64 → Fin 64 → EReal)
    (hg : ∀ j < h, ∀ l < w, ∀ y x : Fin 64, y.val = Y + j → x.val = X + l → g j l = f y x) :
    ∑ i ∈ Finset.range h ×ˢ Finset.range w, g i.1 i.2 = ∑ k : Fin 64 × Fin 64, if p k.1 k.2 then f k.1 k.2 else 0 := by
  rw [← Finset.sum_filter]
  refine Finset.sum_bij' (fun i _ => ((⟨(Y + i.1) % 64, Nat.mod_lt _ (by decide)⟩ : Fin 64), (⟨(X + i.2) % 64, Nat.mod_lt _ (by decide)⟩ : Fin 64)))
    (fun k _ => (k.1.val - Y, k.2.val - X)) (fun i hi => ?_) (fun k hk => ?_) (fun i hi => ?_) (fun k hk => ?_) (fun i hi => ?_)
  · simp only [Finset.mem_product, Finset.mem_range] at hi
    refine Finset.mem_filter.mpr ⟨Finset.mem_univ _, (hp _ _).mpr ?_⟩
    show (Y ≤ (Y + i.1) % 64 ∧ (Y + i.1) % 64 < Y + h) ∧ X ≤ (X + i.2) % 64 ∧ (X + i.2) % 64 < X + w
    omega
  · have := (hp _ _).mp (Finset.mem_filter.mp hk).2
    simp only [Finset.mem_product, Finset.mem_range]
    omega
  · simp only [Finset.mem_product, Finset.mem_range] at hi
    refine Prod.ext ?_ ?_
    · show (Y + i.1) % 64 - Y = i.1
      omega
    · show (X + i.2) % 64 - X = i.2
      omega
  · have := (hp _ _).mp (Finset.mem_filter.mp hk).2
    have h1 := k.1.isLt
    have h2 := k.2.isLt
    refine Prod.ext (Fin.ext ?_) (Fin.ext ?_)
    · show (Y + (k.1.val - Y)) % 64 = k.1.val
      omega
    · show (X + (k.2.val - X)) % 64 = k.2.val
      omega
  · simp only [Finset.mem_product, Finset.mem_range] at hi
    exact hg _ hi.1 _ hi.2 _ _ (Nat.mod_eq_of_lt (by omega)) (Nat.mod_eq_of_lt (by omega))

theorem nat_of_int (v : BitVec 32) (h : 0 ≤ v.toInt) : (v.toNat : ℤ) = v.toInt := by
  have := BitVec.toInt_eq_toNat_cond v
  have := v.isLt
  omega

theorem sub_int (u v : BitVec 32) (h : 0 ≤ u.toInt) (h' : u.toInt ≤ 64) (k : 0 ≤ v.toInt) (k' : v.toInt ≤ 64) :
    (Scalar.subi u v).toInt = u.toInt - v.toInt := by
  have a := nat_of_int u h
  have b := nat_of_int v k
  have e : (Scalar.subi u v).toNat = (2 ^ 32 - v.toNat + u.toNat) % 2 ^ 32 := BitVec.toNat_sub u v
  rw [BitVec.toInt_eq_toNat_cond, e]
  omega

theorem div_zero_left (x : EReal) (hx : x ≠ 0) : Ideal.div 0 x = 0 := by
  unfold Ideal.div
  rw [if_neg hx, zero_mul]

variable (m : (ℓ : Loc nD τ sig) → Buf (Elt Ideal) ℓ) (d : Dev nD)
variable (V : Valuation Cert.ReferenceIdeal.τ Cert.ReferenceIdeal.sig (Elt Ideal))

/-- Where the boxes are in range and the arguments agree, the kernel's entry is the reference's. -/
theorem row_eq (e0 : R0 V = A0 m d) (e1 : R1 V = A1 m d) (e2 : R2 V = A2 m d) (r : Fin 1000) (c : Fin 96) (z z' : Fin 1)
    (h : RowOK (F := Ideal) (R1 V) r) : (result m d r c : EReal) = refOut V (ix4 r c z z') := by
  unfold result
  rw [← e1]
  have hc := h
  obtain ⟨-, b0, b1, x10, x11, y10, y11, x20, x21, y20, y21, w16, h16⟩ := h
  have nb := nat_of_int _ b0
  have nx := nat_of_int _ x10
  have ny := nat_of_int _ y10
  have eW := sub_int _ _ x20 x21 x10 x11
  have eH := sub_int _ _ y20 y21 y10 y11
  have hW : (Scalar.subi (roi (F := Ideal) (R1 V) r 3) (roi (F := Ideal) (R1 V) r 1)).toInt ≤ 16 := w16
  have hH : (Scalar.subi (roi (F := Ideal) (R1 V) r 4) (roi (F := Ideal) (R1 V) r 2)).toInt ≤ 16 := h16
  have hB : (roi (F := Ideal) (R1 V) r 0).toNat < 4 := by omega
  have hb : (roi (F := Ideal) (R1 V) r 0).toInt = ((⟨_, hB⟩ : Fin 4).val : ℤ) := nb.symm
  rw [refOut_at V r ⟨_, hB⟩ c hc hb, rowVal_eq _ _ hW]
  have inb (y x : Fin 64) : inBox V r y x ↔ ((roi (F := Ideal) (R1 V) r 2).toInt ≤ y.val ∧ (y.val : ℤ) < (roi (F := Ideal) (R1 V) r 4).toInt)
    ∧ (roi (F := Ideal) (R1 V) r 1).toInt ≤ x.val ∧ (x.val : ℤ) < (roi (F := Ideal) (R1 V) r 3).toInt := Iff.rfl
  have key (j l : ℕ) (hj : (j : ℤ) < (Scalar.subi (roi (F := Ideal) (R1 V) r 4) (roi (F := Ideal) (R1 V) r 2)).toInt)
      (hl : (l : ℤ) < (Scalar.subi (roi (F := Ideal) (R1 V) r 3) (roi (F := Ideal) (R1 V) r 1)).toInt) (y x : Fin 64)
      (hy : y.val = (roi (F := Ideal) (R1 V) r 2).toNat + j) (hx : x.val = (roi (F := Ideal) (R1 V) r 1).toNat + l) :
      (patchOf (F := Ideal) (V1 m d mp' : S16384x128.Idx → EReal) (roi (F := Ideal) (R1 V) r 0) (roi (F := Ideal) (R1 V) r 1) (roi (F := Ideal) (R1 V) r 2) j l 96 : EReal) = R2 V (ix4 ⟨_, hB⟩ 0 y x)
      ∧ (patchOf (F := Ideal) (V1 m d mp' : S16384x128.Idx → EReal) (roi (F := Ideal) (R1 V) r 0) (roi (F := Ideal) (R1 V) r 1) (roi (F := Ideal) (R1 V) r 2) j l c.val : EReal) = R0 V (ix4 ⟨_, hB⟩ c y x) := by
    have hyl := y.isLt
    have hxl := x.isLt
    have hr : rowAt (roi (F := Ideal) (R1 V) r 0) (roi (F := Ideal) (R1 V) r 1) (roi (F := Ideal) (R1 V) r 2) j l
        = (roi (F := Ideal) (R1 V) r 0).toNat * 4096 + y.val * 64 + x.val := by
      rw [hy, hx]
      exact rowAt_eq _ _ _ _ _ _ j l rfl rfl rfl hB (by omega) (by omega) (by omega)
    have hcl := c.isLt
    rw [e0, e2]
    exact ⟨map_score m d ⟨_, hB⟩ y x _ hr _ rfl, map_inp m d ⟨_, hB⟩ y x _ hr c _ (Nat.mod_eq_of_lt (by omega))⟩
  generalize (patchOf (F := Ideal) (V1 m d mp' : S16384x128.Idx → EReal) (roi (F := Ideal) (R1 V) r 0) (roi (F := Ideal) (R1 V) r 1) (roi (F := Ideal) (R1 V) r 2) : Patch Ideal) = P at key ⊢
  generalize Scalar.subi (roi (F := Ideal) (R1 V) r 3) (roi (F := Ideal) (R1 V) r 1) = W at eW hW key ⊢
  generalize Scalar.subi (roi (F := Ideal) (R1 V) r 4) (roi (F := Ideal) (R1 V) r 2) = H at eH hH key ⊢
  by_cases hv : (roi (F := Ideal) (R1 V) r 1).toInt < (roi (F := Ideal) (R1 V) r 3).toInt ∧ (roi (F := Ideal) (R1 V) r 2).toInt < (roi (F := Ideal) (R1 V) r 4).toInt
  swap
  · rw [if_neg hv, if_neg (by rintro ⟨h1, h2, -⟩; omega), mul_zero]
  rw [if_pos hv]
  have hbox (y x : Fin 64) : inBox V r y x ↔ ((roi (F := Ideal) (R1 V) r 2).toNat ≤ y.val ∧ y.val < (roi (F := Ideal) (R1 V) r 2).toNat + H.toInt.toNat)
      ∧ (roi (F := Ideal) (R1 V) r 1).toNat ≤ x.val ∧ x.val < (roi (F := Ideal) (R1 V) r 1).toNat + W.toInt.toNat := by
    rw [inb]; omega
  have hY : (roi (F := Ideal) (R1 V) r 2).toNat + H.toInt.toNat ≤ 64 := by omega
  have hX : (roi (F := Ideal) (R1 V) r 1).toNat + W.toInt.toNat ≤ 64 := by omega
  have hs : ∀ i ∈ box W H, (P i.1 i.2 96 : EReal) ≤ boxMax (inside W) P H.toInt.toNat := fun i hi => by
    simp only [Finset.mem_product, Finset.mem_range] at hi
    exact (boxMax_le P W hW _ _).mp le_rfl i.1 hi.1 i.2 hi.2
  have h1 : (boxMax (inside W) P H.toInt.toNat : EReal) ≤ top V r := by
    refine (boxMax_le P W hW _ _).mpr fun j hj l hl => ?_
    have := (top_le V r ⟨_, hB⟩ _ hc hb).mp le_rfl ⟨(roi (F := Ideal) (R1 V) r 2).toNat + j, by omega⟩ ⟨(roi (F := Ideal) (R1 V) r 1).toNat + l, by omega⟩
    rw [if_pos ((hbox _ _).mpr (by dsimp only; omega))] at this
    rwa [(key j l (by omega) (by omega) ⟨(roi (F := Ideal) (R1 V) r 2).toNat + j, by omega⟩ ⟨(roi (F := Ideal) (R1 V) r 1).toNat + l, by omega⟩ rfl rfl).1]
  obtain ⟨t, ht⟩ := low_real
  have h2 : top V r ≤ max (boxMax (inside W) P H.toInt.toNat : EReal) (t : EReal) := by
    refine (top_le V r ⟨_, hB⟩ _ hc hb).mpr fun y x => ?_
    by_cases hi : inBox V r y x
    · rw [if_pos hi]
      have hi := (hbox _ _).mp hi
      rw [← (key (y.val - (roi (F := Ideal) (R1 V) r 2).toNat) (x.val - (roi (F := Ideal) (R1 V) r 1).toNat) (by omega) (by omega) y x (by omega) (by omega)).1]
      exact le_max_of_le_left ((boxMax_le P W hW _ _).mp le_rfl _ (by omega) _ (by omega))
    · rw [if_neg hi, ht]
      exact le_max_right _ _
  have hD : ∑ i ∈ box W H, Ideal.exp (min ((P i.1 i.2 96 : EReal) - top V r) 0) = W87 V (ix1 r) := by
    rw [v87_at]
    refine (sum_box _ _ _ _ hY hX (inBox V r) hbox (fun j l => Ideal.exp (min ((P j l 96 : EReal) - top V r) 0))
      (fun y x => Ideal.exp (min (R2 V (ix4 ⟨_, hB⟩ 0 y x) - top V r) 0)) (fun j hj l hl y x hy hx => ?_)).trans
      (Finset.sum_congr rfl fun k _ => (v86_at V r ⟨_, hB⟩ hc hb k.1 k.2).symm)
    rw [(key j l (by omega) (by omega) y x hy hx).1]
  have hif : ∀ D : EReal, (if 0 < W.toInt ∧ 0 < H.toInt ∧ 0 < D then Ideal.div 1 D else 0) = if 0 < D then Ideal.div 1 D else 0 := fun D =>
    if_congr ⟨fun h => h.2.2, fun h => ⟨by omega, by omega, h⟩⟩ rfl rfl
  rw [hif, pooled (box W H) (fun i => (P i.1 i.2 96 : EReal)) (fun i => (P i.1 i.2 c.val : EReal)) _ (top V r) t hs h1 h2, hD]
  have hD0 : (if 0 < W87 V (ix1 r) then W87 V (ix1 r) else 1) ≠ 0 := by
    split_ifs with hp
    · exact hp.ne'
    · exact one_ne_zero
  generalize (if 0 < W87 V (ix1 r) then W87 V (ix1 r) else 1) = D at hD0 ⊢
  refine (sum_box _ _ _ _ hY hX (inBox V r) hbox (fun j l => (P j l c.val : EReal) * Ideal.div (Ideal.exp (min ((P j l 96 : EReal) - top V r) 0)) D)
    (fun y x => R0 V (ix4 ⟨_, hB⟩ c y x) * Ideal.div (Ideal.exp (min (R2 V (ix4 ⟨_, hB⟩ 0 y x) - top V r) 0)) D) (fun j hj l hl y x hy hx => ?_)).trans
    (Finset.sum_congr rfl fun k _ => ?_)
  · rw [(key j l (by omega) (by omega) y x hy hx).1, (key j l (by omega) (by omega) y x hy hx).2]
  · rw [v86_at V r ⟨_, hB⟩ hc hb]
    split_ifs
    · rfl
    · rw [div_zero_left _ hD0, mul_zero]

end Cert.Tile
-- ==== Proof.Alg.lean ====
/-
  The kernel over real arithmetic computes the reference.
-/
module

public import proofs.«01_k».proof.Proof.Frames
public import proofs.«01_k».proof.Proof.Join

@[expose] public section

set_option maxRecDepth 100000
set_option maxHeartbeats 0

noncomputable section

namespace Cert.Tile

open Cert.KernelIdeal Cert.KernelIdeal.Gen
open Idealize.ShloMosaic Idealize.SL.Sem

/-- The reference keeps its arguments where the boxes are in range too. -/
theorem frame_reference_pre : Cert.quiescent_ReferenceIdeal_pre_rois_in_range := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel's result array is the reference's. -/
theorem out_eq (m : (ℓ : Loc nD τ sig) → Buf (Elt Ideal) ℓ) (d : Dev nD)
    (V : Valuation Cert.ReferenceIdeal.τ Cert.ReferenceIdeal.sig (Elt Ideal))
    (e0 : R0 V = A0 m d) (e1 : R1 V = A1 m d) (e2 : R2 V = A2 m d) (h : ∀ r, RowOK (A1 m d) r) :
    refOut V = (V3 m d (Proc.devRef .tc main_v22) : S1000x96x1x1.Idx → EReal) := by
  funext i
  rw [← ix4_eta i]
  exact ((V3_at m d (i 0) (i 1) (i 2) (i 3)).trans (row_eq m d V e0 e1 e2 (i 0) (i 1) (i 2) (i 3) (e1 ▸ h (i 0)))).symm

/-- Where the boxes are in range, kernel and reference end with the same result and keep their arguments. -/
theorem algebraic : Cert.algebraic_KernelIdeal_ReferenceIdeal := fun m g m' g' hp hm => by
  have h : ∀ d r, RowOK (A1 m d) r := fun d r => rowOK _ _ _ (hp d) r
  refine ⟨fun c => V3 m c (Proc.devRef .tc main_v22), ?_, ?_⟩
  · exact (θ_run _ _ _).mono (fun r hr c =>
      ⟨hr.1 c (Proc.devRef .tc main_v22) (by decide),
        (hr.1 c (Proc.devRef .tc main_arg0) (by decide)).trans (V3_kept m c main_arg0 (by decide) (by decide) (by decide)),
        (hr.1 c (Proc.devRef .tc main_arg1) (by decide)).trans (V3_kept m c main_arg1 (by decide) (by decide) (by decide)),
        (hr.1 c (Proc.devRef .tc main_arg2) (by decide)).trans (V3_kept m c main_arg2 (by decide) (by decide) (by decide))⟩)
      (run_main m g (short m h))
  · refine (θ_run _ _ _).mono (fun r hr c => ⟨(hr c).1.trans ?_, (hr c).2⟩) (Cert.ReferenceIdeal.Value.run (F := Ideal) m' g')
    exact out_eq m c _ (hm c).1 (hm c).2.1 (hm c).2.2 (h c)

end Cert.Tile
-- ==== Proof.lean ====
/-
  The proof of `Cert.Claim`: the frames of the kernel as printed, of the kernel over real arithmetic and of
  the reference, the named constant, and that kernel and reference compute the same result.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_rois_in_range
public import proofs.«01_k».proof.Proof.Alg

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts, Cert.Pre_rois_in_range.Gen.facts,
  Cert.Tile.frame_kernel, Cert.Tile.frame_ideal, Cert.Tile.frame_reference, Cert.Tile.frame_reference_pre,
  Cert.Tile.named_mask, Cert.Tile.algebraic⟩

end Cert.Proof

end
